-- ==== Defs.lean ====
def Pre_GluBwd (m : (ℓ : Loc Cert.GluBwd.nD Cert.GluBwd.τ Cert.GluBwd.sig) → Buf (Elt Bits) ℓ) : Prop :=
  True

def Pre_GluBwdIdeal (m : (ℓ : Loc Cert.GluBwdIdeal.nD Cert.GluBwdIdeal.τ Cert.GluBwdIdeal.sig) → Buf (Elt Ideal) ℓ) : Prop :=
  True

def Pre_GluBwdRefIdeal (m : (ℓ : Loc Cert.GluBwdRefIdeal.nD Cert.GluBwdRefIdeal.τ Cert.GluBwdRefIdeal.sig) → Buf (Elt Ideal) ℓ) : Prop :=
  True

def Pre_Ff2Dgrad (m : (ℓ : Loc Cert.Ff2Dgrad.nD Cert.Ff2Dgrad.τ Cert.Ff2Dgrad.sig) → Buf (Elt Bits) ℓ) : Prop :=
  True

def Pre_Ff2DgradIdeal (m : (ℓ : Loc Cert.Ff2DgradIdeal.nD Cert.Ff2DgradIdeal.τ Cert.Ff2DgradIdeal.sig) → Buf (Elt Ideal) ℓ) : Prop :=
  True

def Pre_Ff2DgradRefIdeal (m : (ℓ : Loc Cert.Ff2DgradRefIdeal.nD Cert.Ff2DgradRefIdeal.τ Cert.Ff2DgradRefIdeal.sig) → Buf (Elt Ideal) ℓ) : Prop :=
  True

def Pre_AttnDelta (m : (ℓ : Loc Cert.AttnDelta.nD Cert.AttnDelta.τ Cert.AttnDelta.sig) → Buf (Elt Bits) ℓ) : Prop :=
  True

def Pre_AttnDeltaIdeal (m : (ℓ : Loc Cert.AttnDeltaIdeal.nD Cert.AttnDeltaIdeal.τ Cert.AttnDeltaIdeal.sig) → Buf (Elt Ideal) ℓ) : Prop :=
  True

def Pre_AttnDeltaRefIdeal (m : (ℓ : Loc Cert.AttnDeltaRefIdeal.nD Cert.AttnDeltaRefIdeal.τ Cert.AttnDeltaRefIdeal.sig) → Buf (Elt Ideal) ℓ) : Prop :=
  True

def Pre_DqUnrope (m : (ℓ : Loc Cert.DqUnrope.nD Cert.DqUnrope.τ Cert.DqUnrope.sig) → Buf (Elt Bits) ℓ) : Prop :=
  True

def Pre_DqUnropeIdeal (m : (ℓ : Loc Cert.DqUnropeIdeal.nD Cert.DqUnropeIdeal.τ Cert.DqUnropeIdeal.sig) → Buf (Elt Ideal) ℓ) : Prop :=
  True

def Pre_DqUnropeRefIdeal (m : (ℓ : Loc Cert.DqUnropeRefIdeal.nD Cert.DqUnropeRefIdeal.τ Cert.DqUnropeRefIdeal.sig) → Buf (Elt Ideal) ℓ) : Prop :=
  True

def Pre_DkUnrope (m : (ℓ : Loc Cert.DkUnrope.nD Cert.DkUnrope.τ Cert.DkUnrope.sig) → Buf (Elt Bits) ℓ) : Prop :=
  True

def Pre_DkUnropeIdeal (m : (ℓ : Loc Cert.DkUnropeIdeal.nD Cert.DkUnropeIdeal.τ Cert.DkUnropeIdeal.sig) → Buf (Elt Ideal) ℓ) : Prop :=
  True

def Pre_DkUnropeRefIdeal (m : (ℓ : Loc Cert.DkUnropeRefIdeal.nD Cert.DkUnropeRefIdeal.τ Cert.DkUnropeRefIdeal.sig) → Buf (Elt Ideal) ℓ) : Prop :=
  True

def Pre_FlashBwd (m : (ℓ : Loc Cert.FlashBwd.nD Cert.FlashBwd.τ Cert.FlashBwd.sig) → Buf (Elt Bits) ℓ) : Prop :=
  True

def Pre_FlashBwdIdeal (m : (ℓ : Loc Cert.FlashBwdIdeal.nD Cert.FlashBwdIdeal.τ Cert.FlashBwdIdeal.sig) → Buf (Elt Ideal) ℓ) : Prop :=
  True

def Pre_FlashBwdIdeal_finite_flash_bwd [hPre_finite_flash_bwd : Cert.Pre_finite_flash_bwd.Facts] (m : (ℓ : Loc Cert.FlashBwdIdeal.nD Cert.FlashBwdIdeal.τ Cert.FlashBwdIdeal.sig) → Buf (Elt Ideal) ℓ) : Prop :=
  ∀ c : Dev Cert.FlashBwdIdeal.nD,
    (Cert.Pre_finite_flash_bwd.fn (F := Ideal) (m ((c.tc : Thread Cert.FlashBwdIdeal.nD Cert.FlashBwdIdeal.τ).loc Cert.FlashBwdIdeal.main_arg0)) (m ((c.tc : Thread Cert.FlashBwdIdeal.nD Cert.FlashBwdIdeal.τ).loc Cert.FlashBwdIdeal.main_arg1)) (m ((c.tc : Thread Cert.FlashBwdIdeal.nD Cert.FlashBwdIdeal.τ).loc Cert.FlashBwdIdeal.main_arg2)) (m ((c.tc : Thread Cert.FlashBwdIdeal.nD Cert.FlashBwdIdeal.τ).loc Cert.FlashBwdIdeal.main_arg3)) (m ((c.tc : Thread Cert.FlashBwdIdeal.nD Cert.FlashBwdIdeal.τ).loc Cert.FlashBwdIdeal.main_arg4)) (m ((c.tc : Thread Cert.FlashBwdIdeal.nD Cert.FlashBwdIdeal.τ).loc Cert.FlashBwdIdeal.main_arg5))) = (fun _ => 1#1)

def Pre_FlashBwdRefIdeal (m : (ℓ : Loc Cert.FlashBwdRefIdeal.nD Cert.FlashBwdRefIdeal.τ Cert.FlashBwdRefIdeal.sig) → Buf (Elt Ideal) ℓ) : Prop :=
  True

def Pre_FlashBwdRefIdeal_finite_flash_bwd [hPre_finite_flash_bwd : Cert.Pre_finite_flash_bwd.Facts] (m : (ℓ : Loc Cert.FlashBwdRefIdeal.nD Cert.FlashBwdRefIdeal.τ Cert.FlashBwdRefIdeal.sig) → Buf (Elt Ideal) ℓ) : Prop :=
  ∀ c : Dev Cert.FlashBwdRefIdeal.nD,
    (Cert.Pre_finite_flash_bwd.fn (F := Ideal) (m ((c.tc : Thread Cert.FlashBwdRefIdeal.nD Cert.FlashBwdRefIdeal.τ).loc Cert.FlashBwdRefIdeal.main_arg0)) (m ((c.tc : Thread Cert.FlashBwdRefIdeal.nD Cert.FlashBwdRefIdeal.τ).loc Cert.FlashBwdRefIdeal.main_arg1)) (m ((c.tc : Thread Cert.FlashBwdRefIdeal.nD Cert.FlashBwdRefIdeal.τ).loc Cert.FlashBwdRefIdeal.main_arg2)) (m ((c.tc : Thread Cert.FlashBwdRefIdeal.nD Cert.FlashBwdRefIdeal.τ).loc Cert.FlashBwdRefIdeal.main_arg3)) (m ((c.tc : Thread Cert.FlashBwdRefIdeal.nD Cert.FlashBwdRefIdeal.τ).loc Cert.FlashBwdRefIdeal.main_arg4)) (m ((c.tc : Thread Cert.FlashBwdRefIdeal.nD Cert.FlashBwdRefIdeal.τ).loc Cert.FlashBwdRefIdeal.main_arg5))) = (fun _ => 1#1)

def Pre_FlashFwd (m : (ℓ : Loc Cert.FlashFwd.nD Cert.FlashFwd.τ Cert.FlashFwd.sig) → Buf (Elt Bits) ℓ) : Prop :=
  True

def Pre_FlashFwdIdeal (m : (ℓ : Loc Cert.FlashFwdIdeal.nD Cert.FlashFwdIdeal.τ Cert.FlashFwdIdeal.sig) → Buf (Elt Ideal) ℓ) : Prop :=
  True

def Pre_FlashFwdIdeal_finite_flash_fwd [hPre_finite_flash_fwd : Cert.Pre_finite_flash_fwd.Facts] (m : (ℓ : Loc Cert.FlashFwdIdeal.nD Cert.FlashFwdIdeal.τ Cert.FlashFwdIdeal.sig) → Buf (Elt Ideal) ℓ) : Prop :=
  ∀ c : Dev Cert.FlashFwdIdeal.nD,
    (Cert.Pre_finite_flash_fwd.fn (F := Ideal) (m ((c.tc : Thread Cert.FlashFwdIdeal.nD Cert.FlashFwdIdeal.τ).loc Cert.FlashFwdIdeal.main_arg0)) (m ((c.tc : Thread Cert.FlashFwdIdeal.nD Cert.FlashFwdIdeal.τ).loc Cert.FlashFwdIdeal.main_arg1)) (m ((c.tc : Thread Cert.FlashFwdIdeal.nD Cert.FlashFwdIdeal.τ).loc Cert.FlashFwdIdeal.main_arg2)) (m ((c.tc : Thread Cert.FlashFwdIdeal.nD Cert.FlashFwdIdeal.τ).loc Cert.FlashFwdIdeal.main_arg3)) (m ((c.tc : Thread Cert.FlashFwdIdeal.nD Cert.FlashFwdIdeal.τ).loc Cert.FlashFwdIdeal.main_arg4))) = (fun _ => 1#1)

def Pre_FlashFwdRefIdeal (m : (ℓ : Loc Cert.FlashFwdRefIdeal.nD Cert.FlashFwdRefIdeal.τ Cert.FlashFwdRefIdeal.sig) → Buf (Elt Ideal) ℓ) : Prop :=
  True

def Pre_FlashFwdRefIdeal_finite_flash_fwd [hPre_finite_flash_fwd : Cert.Pre_finite_flash_fwd.Facts] (m : (ℓ : Loc Cert.FlashFwdRefIdeal.nD Cert.FlashFwdRefIdeal.τ Cert.FlashFwdRefIdeal.sig) → Buf (Elt Ideal) ℓ) : Prop :=
  ∀ c : Dev Cert.FlashFwdRefIdeal.nD,
    (Cert.Pre_finite_flash_fwd.fn (F := Ideal) (m ((c.tc : Thread Cert.FlashFwdRefIdeal.nD Cert.FlashFwdRefIdeal.τ).loc Cert.FlashFwdRefIdeal.main_arg0)) (m ((c.tc : Thread Cert.FlashFwdRefIdeal.nD Cert.FlashFwdRefIdeal.τ).loc Cert.FlashFwdRefIdeal.main_arg1)) (m ((c.tc : Thread Cert.FlashFwdRefIdeal.nD Cert.FlashFwdRefIdeal.τ).loc Cert.FlashFwdRefIdeal.main_arg2)) (m ((c.tc : Thread Cert.FlashFwdRefIdeal.nD Cert.FlashFwdRefIdeal.τ).loc Cert.FlashFwdRefIdeal.main_arg3)) (m ((c.tc : Thread Cert.FlashFwdRefIdeal.nD Cert.FlashFwdRefIdeal.τ).loc Cert.FlashFwdRefIdeal.main_arg4))) = (fun _ => 1#1)

def Pre_ConvLnSiluBwd (m : (ℓ : Loc Cert.ConvLnSiluBwd.nD Cert.ConvLnSiluBwd.τ Cert.ConvLnSiluBwd.sig) → Buf (Elt Bits) ℓ) : Prop :=
  True

def Pre_ConvLnSiluBwdIdeal (m : (ℓ : Loc Cert.ConvLnSiluBwdIdeal.nD Cert.ConvLnSiluBwdIdeal.τ Cert.ConvLnSiluBwdIdeal.sig) → Buf (Elt Ideal) ℓ) : Prop :=
  True

def Pre_ConvLnSiluBwdIdeal_finite_conv_ln_silu_bwd [hPre_finite_conv_ln_silu_bwd : Cert.Pre_finite_conv_ln_silu_bwd.Facts] (m : (ℓ : Loc Cert.ConvLnSiluBwdIdeal.nD Cert.ConvLnSiluBwdIdeal.τ Cert.ConvLnSiluBwdIdeal.sig) → Buf (Elt Ideal) ℓ) : Prop :=
  ∀ c : Dev Cert.ConvLnSiluBwdIdeal.nD,
    (Cert.Pre_finite_conv_ln_silu_bwd.fn (F := Ideal) (m ((c.tc : Thread Cert.ConvLnSiluBwdIdeal.nD Cert.ConvLnSiluBwdIdeal.τ).loc Cert.ConvLnSiluBwdIdeal.main_arg0)) (m ((c.tc : Thread Cert.ConvLnSiluBwdIdeal.nD Cert.ConvLnSiluBwdIdeal.τ).loc Cert.ConvLnSiluBwdIdeal.main_arg1)) (m ((c.tc : Thread Cert.ConvLnSiluBwdIdeal.nD Cert.ConvLnSiluBwdIdeal.τ).loc Cert.ConvLnSiluBwdIdeal.main_arg2)) (m ((c.tc : Thread Cert.ConvLnSiluBwdIdeal.nD Cert.ConvLnSiluBwdIdeal.τ).loc Cert.ConvLnSiluBwdIdeal.main_arg3))) = (fun _ => 1#1)

def Pre_ConvLnSiluBwdRefIdeal (m : (ℓ : Loc Cert.ConvLnSiluBwdRefIdeal.nD Cert.ConvLnSiluBwdRefIdeal.τ Cert.ConvLnSiluBwdRefIdeal.sig) → Buf (Elt Ideal) ℓ) : Prop :=
  True

def Pre_ConvLnSiluBwdRefIdeal_finite_conv_ln_silu_bwd [hPre_finite_conv_ln_silu_bwd : Cert.Pre_finite_conv_ln_silu_bwd.Facts] (m : (ℓ : Loc Cert.ConvLnSiluBwdRefIdeal.nD Cert.ConvLnSiluBwdRefIdeal.τ Cert.ConvLnSiluBwdRefIdeal.sig) → Buf (Elt Ideal) ℓ) : Prop :=
  ∀ c : Dev Cert.ConvLnSiluBwdRefIdeal.nD,
    (Cert.Pre_finite_conv_ln_silu_bwd.fn (F := Ideal) (m ((c.tc : Thread Cert.ConvLnSiluBwdRefIdeal.nD Cert.ConvLnSiluBwdRefIdeal.τ).loc Cert.ConvLnSiluBwdRefIdeal.main_arg0)) (m ((c.tc : Thread Cert.ConvLnSiluBwdRefIdeal.nD Cert.ConvLnSiluBwdRefIdeal.τ).loc Cert.ConvLnSiluBwdRefIdeal.main_arg1)) (m ((c.tc : Thread Cert.ConvLnSiluBwdRefIdeal.nD Cert.ConvLnSiluBwdRefIdeal.τ).loc Cert.ConvLnSiluBwdRefIdeal.main_arg2)) (m ((c.tc : Thread Cert.ConvLnSiluBwdRefIdeal.nD Cert.ConvLnSiluBwdRefIdeal.τ).loc Cert.ConvLnSiluBwdRefIdeal.main_arg3))) = (fun _ => 1#1)

def Pre_QDgradRms (m : (ℓ : Loc Cert.QDgradRms.nD Cert.QDgradRms.τ Cert.QDgradRms.sig) → Buf (Elt Bits) ℓ) : Prop :=
  True

def Pre_QDgradRmsIdeal (m : (ℓ : Loc Cert.QDgradRmsIdeal.nD Cert.QDgradRmsIdeal.τ Cert.QDgradRmsIdeal.sig) → Buf (Elt Ideal) ℓ) : Prop :=
  True

def Pre_QDgradRmsIdeal_finite_q_dgrad_rms_bwd [hPre_finite_q_dgrad_rms_bwd : Cert.Pre_finite_q_dgrad_rms_bwd.Facts] (m : (ℓ : Loc Cert.QDgradRmsIdeal.nD Cert.QDgradRmsIdeal.τ Cert.QDgradRmsIdeal.sig) → Buf (Elt Ideal) ℓ) : Prop :=
  ∀ c : Dev Cert.QDgradRmsIdeal.nD,
    (Cert.Pre_finite_q_dgrad_rms_bwd.fn (F := Ideal) (m ((c.tc : Thread Cert.QDgradRmsIdeal.nD Cert.QDgradRmsIdeal.τ).loc Cert.QDgradRmsIdeal.main_arg0)) (m ((c.tc : Thread Cert.QDgradRmsIdeal.nD Cert.QDgradRmsIdeal.τ).loc Cert.QDgradRmsIdeal.main_arg1)) (m ((c.tc : Thread Cert.QDgradRmsIdeal.nD Cert.QDgradRmsIdeal.τ).loc Cert.QDgradRmsIdeal.main_arg2)) (m ((c.tc : Thread Cert.QDgradRmsIdeal.nD Cert.QDgradRmsIdeal.τ).loc Cert.QDgradRmsIdeal.main_arg3)) (m ((c.tc : Thread Cert.QDgradRmsIdeal.nD Cert.QDgradRmsIdeal.τ).loc Cert.QDgradRmsIdeal.main_arg4))) = (fun _ => 1#1)

def Pre_QDgradRmsRefIdeal (m : (ℓ : Loc Cert.QDgradRmsRefIdeal.nD Cert.QDgradRmsRefIdeal.τ Cert.QDgradRmsRefIdeal.sig) → Buf (Elt Ideal) ℓ) : Prop :=
  True

def Pre_QDgradRmsRefIdeal_finite_q_dgrad_rms_bwd [hPre_finite_q_dgrad_rms_bwd : Cert.Pre_finite_q_dgrad_rms_bwd.Facts] (m : (ℓ : Loc Cert.QDgradRmsRefIdeal.nD Cert.QDgradRmsRefIdeal.τ Cert.QDgradRmsRefIdeal.sig) → Buf (Elt Ideal) ℓ) : Prop :=
  ∀ c : Dev Cert.QDgradRmsRefIdeal.nD,
    (Cert.Pre_finite_q_dgrad_rms_bwd.fn (F := Ideal) (m ((c.tc : Thread Cert.QDgradRmsRefIdeal.nD Cert.QDgradRmsRefIdeal.τ).loc Cert.QDgradRmsRefIdeal.main_arg0)) (m ((c.tc : Thread Cert.QDgradRmsRefIdeal.nD Cert.QDgradRmsRefIdeal.τ).loc Cert.QDgradRmsRefIdeal.main_arg1)) (m ((c.tc : Thread Cert.QDgradRmsRefIdeal.nD Cert.QDgradRmsRefIdeal.τ).loc Cert.QDgradRmsRefIdeal.main_arg2)) (m ((c.tc : Thread Cert.QDgradRmsRefIdeal.nD Cert.QDgradRmsRefIdeal.τ).loc Cert.QDgradRmsRefIdeal.main_arg3)) (m ((c.tc : Thread Cert.QDgradRmsRefIdeal.nD Cert.QDgradRmsRefIdeal.τ).loc Cert.QDgradRmsRefIdeal.main_arg4))) = (fun _ => 1#1)

def Pre_KvDgradRms (m : (ℓ : Loc Cert.KvDgradRms.nD Cert.KvDgradRms.τ Cert.KvDgradRms.sig) → Buf (Elt Bits) ℓ) : Prop :=
  True

def Pre_KvDgradRmsIdeal (m : (ℓ : Loc Cert.KvDgradRmsIdeal.nD Cert.KvDgradRmsIdeal.τ Cert.KvDgradRmsIdeal.sig) → Buf (Elt Ideal) ℓ) : Prop :=
  True

def Pre_KvDgradRmsIdeal_finite_kv_dgrad_rms_bwd [hPre_finite_kv_dgrad_rms_bwd : Cert.Pre_finite_kv_dgrad_rms_bwd.Facts] (m : (ℓ : Loc Cert.KvDgradRmsIdeal.nD Cert.KvDgradRmsIdeal.τ Cert.KvDgradRmsIdeal.sig) → Buf (Elt Ideal) ℓ) : Prop :=
  ∀ c : Dev Cert.KvDgradRmsIdeal.nD,
    (Cert.Pre_finite_kv_dgrad_rms_bwd.fn (F := Ideal) (m ((c.tc : Thread Cert.KvDgradRmsIdeal.nD Cert.KvDgradRmsIdeal.τ).loc Cert.KvDgradRmsIdeal.main_arg0)) (m ((c.tc : Thread Cert.KvDgradRmsIdeal.nD Cert.KvDgradRmsIdeal.τ).loc Cert.KvDgradRmsIdeal.main_arg1)) (m ((c.tc : Thread Cert.KvDgradRmsIdeal.nD Cert.KvDgradRmsIdeal.τ).loc Cert.KvDgradRmsIdeal.main_arg2)) (m ((c.tc : Thread Cert.KvDgradRmsIdeal.nD Cert.KvDgradRmsIdeal.τ).loc Cert.KvDgradRmsIdeal.main_arg3)) (m ((c.tc : Thread Cert.KvDgradRmsIdeal.nD Cert.KvDgradRmsIdeal.τ).loc Cert.KvDgradRmsIdeal.main_arg4)) (m ((c.tc : Thread Cert.KvDgradRmsIdeal.nD Cert.KvDgradRmsIdeal.τ).loc Cert.KvDgradRmsIdeal.main_arg5)) (m ((c.tc : Thread Cert.KvDgradRmsIdeal.nD Cert.KvDgradRmsIdeal.τ).loc Cert.KvDgradRmsIdeal.main_arg6))) = (fun _ => 1#1)

def Pre_KvDgradRmsRefIdeal (m : (ℓ : Loc Cert.KvDgradRmsRefIdeal.nD Cert.KvDgradRmsRefIdeal.τ Cert.KvDgradRmsRefIdeal.sig) → Buf (Elt Ideal) ℓ) : Prop :=
  True

def Pre_KvDgradRmsRefIdeal_finite_kv_dgrad_rms_bwd [hPre_finite_kv_dgrad_rms_bwd : Cert.Pre_finite_kv_dgrad_rms_bwd.Facts] (m : (ℓ : Loc Cert.KvDgradRmsRefIdeal.nD Cert.KvDgradRmsRefIdeal.τ Cert.KvDgradRmsRefIdeal.sig) → Buf (Elt Ideal) ℓ) : Prop :=
  ∀ c : Dev Cert.KvDgradRmsRefIdeal.nD,
    (Cert.Pre_finite_kv_dgrad_rms_bwd.fn (F := Ideal) (m ((c.tc : Thread Cert.KvDgradRmsRefIdeal.nD Cert.KvDgradRmsRefIdeal.τ).loc Cert.KvDgradRmsRefIdeal.main_arg0)) (m ((c.tc : Thread Cert.KvDgradRmsRefIdeal.nD Cert.KvDgradRmsRefIdeal.τ).loc Cert.KvDgradRmsRefIdeal.main_arg1)) (m ((c.tc : Thread Cert.KvDgradRmsRefIdeal.nD Cert.KvDgradRmsRefIdeal.τ).loc Cert.KvDgradRmsRefIdeal.main_arg2)) (m ((c.tc : Thread Cert.KvDgradRmsRefIdeal.nD Cert.KvDgradRmsRefIdeal.τ).loc Cert.KvDgradRmsRefIdeal.main_arg3)) (m ((c.tc : Thread Cert.KvDgradRmsRefIdeal.nD Cert.KvDgradRmsRefIdeal.τ).loc Cert.KvDgradRmsRefIdeal.main_arg4)) (m ((c.tc : Thread Cert.KvDgradRmsRefIdeal.nD Cert.KvDgradRmsRefIdeal.τ).loc Cert.KvDgradRmsRefIdeal.main_arg5)) (m ((c.tc : Thread Cert.KvDgradRmsRefIdeal.nD Cert.KvDgradRmsRefIdeal.τ).loc Cert.KvDgradRmsRefIdeal.main_arg6))) = (fun _ => 1#1)

def Pre_Ff2Ln2Loss (m : (ℓ : Loc Cert.Ff2Ln2Loss.nD Cert.Ff2Ln2Loss.τ Cert.Ff2Ln2Loss.sig) → Buf (Elt Bits) ℓ) : Prop :=
  True

def Pre_Ff2Ln2LossIdeal (m : (ℓ : Loc Cert.Ff2Ln2LossIdeal.nD Cert.Ff2Ln2LossIdeal.τ Cert.Ff2Ln2LossIdeal.sig) → Buf (Elt Ideal) ℓ) : Prop :=
  True

def Pre_Ff2Ln2LossIdeal_finite_ff2_ln2_loss [hPre_finite_ff2_ln2_loss : Cert.Pre_finite_ff2_ln2_loss.Facts] (m : (ℓ : Loc Cert.Ff2Ln2LossIdeal.nD Cert.Ff2Ln2LossIdeal.τ Cert.Ff2Ln2LossIdeal.sig) → Buf (Elt Ideal) ℓ) : Prop :=
  ∀ c : Dev Cert.Ff2Ln2LossIdeal.nD,
    (Cert.Pre_finite_ff2_ln2_loss.fn (F := Ideal) (m ((c.tc : Thread Cert.Ff2Ln2LossIdeal.nD Cert.Ff2Ln2LossIdeal.τ).loc Cert.Ff2Ln2LossIdeal.main_arg0)) (m ((c.tc : Thread Cert.Ff2Ln2LossIdeal.nD Cert.Ff2Ln2LossIdeal.τ).loc Cert.Ff2Ln2LossIdeal.main_arg1)) (m ((c.tc : Thread Cert.Ff2Ln2LossIdeal.nD Cert.Ff2Ln2LossIdeal.τ).loc Cert.Ff2Ln2LossIdeal.main_arg2)) (m ((c.tc : Thread Cert.Ff2Ln2LossIdeal.nD Cert.Ff2Ln2LossIdeal.τ).loc Cert.Ff2Ln2LossIdeal.main_arg3)) (m ((c.tc : Thread Cert.Ff2Ln2LossIdeal.nD Cert.Ff2Ln2LossIdeal.τ).loc Cert.Ff2Ln2LossIdeal.main_arg4)) (m ((c.tc : Thread Cert.Ff2Ln2LossIdeal.nD Cert.Ff2Ln2LossIdeal.τ).loc Cert.Ff2Ln2LossIdeal.main_arg5))) = (fun _ => 1#1)

def Pre_Ff2Ln2LossRefIdeal (m : (ℓ : Loc Cert.Ff2Ln2LossRefIdeal.nD Cert.Ff2Ln2LossRefIdeal.τ Cert.Ff2Ln2LossRefIdeal.sig) → Buf (Elt Ideal) ℓ) : Prop :=
  True

def Pre_Ff2Ln2LossRefIdeal_finite_ff2_ln2_loss [hPre_finite_ff2_ln2_loss : Cert.Pre_finite_ff2_ln2_loss.Facts] (m : (ℓ : Loc Cert.Ff2Ln2LossRefIdeal.nD Cert.Ff2Ln2LossRefIdeal.τ Cert.Ff2Ln2LossRefIdeal.sig) → Buf (Elt Ideal) ℓ) : Prop :=
  ∀ c : Dev Cert.Ff2Ln2LossRefIdeal.nD,
    (Cert.Pre_finite_ff2_ln2_loss.fn (F := Ideal) (m ((c.tc : Thread Cert.Ff2Ln2LossRefIdeal.nD Cert.Ff2Ln2LossRefIdeal.τ).loc Cert.Ff2Ln2LossRefIdeal.main_arg0)) (m ((c.tc : Thread Cert.Ff2Ln2LossRefIdeal.nD Cert.Ff2Ln2LossRefIdeal.τ).loc Cert.Ff2Ln2LossRefIdeal.main_arg1)) (m ((c.tc : Thread Cert.Ff2Ln2LossRefIdeal.nD Cert.Ff2Ln2LossRefIdeal.τ).loc Cert.Ff2Ln2LossRefIdeal.main_arg2)) (m ((c.tc : Thread Cert.Ff2Ln2LossRefIdeal.nD Cert.Ff2Ln2LossRefIdeal.τ).loc Cert.Ff2Ln2LossRefIdeal.main_arg3)) (m ((c.tc : Thread Cert.Ff2Ln2LossRefIdeal.nD Cert.Ff2Ln2LossRefIdeal.τ).loc Cert.Ff2Ln2LossRefIdeal.main_arg4)) (m ((c.tc : Thread Cert.Ff2Ln2LossRefIdeal.nD Cert.Ff2Ln2LossRefIdeal.τ).loc Cert.Ff2Ln2LossRefIdeal.main_arg5))) = (fun _ => 1#1)

def Pre_Ff1Ln1Bwd (m : (ℓ : Loc Cert.Ff1Ln1Bwd.nD Cert.Ff1Ln1Bwd.τ Cert.Ff1Ln1Bwd.sig) → Buf (Elt Bits) ℓ) : Prop :=
  True

def Pre_Ff1Ln1BwdIdeal (m : (ℓ : Loc Cert.Ff1Ln1BwdIdeal.nD Cert.Ff1Ln1BwdIdeal.τ Cert.Ff1Ln1BwdIdeal.sig) → Buf (Elt Ideal) ℓ) : Prop :=
  True

def Pre_Ff1Ln1BwdIdeal_finite_ff1_dgrad_ln1_bwd [hPre_finite_ff1_dgrad_ln1_bwd : Cert.Pre_finite_ff1_dgrad_ln1_bwd.Facts] (m : (ℓ : Loc Cert.Ff1Ln1BwdIdeal.nD Cert.Ff1Ln1BwdIdeal.τ Cert.Ff1Ln1BwdIdeal.sig) → Buf (Elt Ideal) ℓ) : Prop :=
  ∀ c : Dev Cert.Ff1Ln1BwdIdeal.nD,
    (Cert.Pre_finite_ff1_dgrad_ln1_bwd.fn (F := Ideal) (m ((c.tc : Thread Cert.Ff1Ln1BwdIdeal.nD Cert.Ff1Ln1BwdIdeal.τ).loc Cert.Ff1Ln1BwdIdeal.main_arg0)) (m ((c.tc : Thread Cert.Ff1Ln1BwdIdeal.nD Cert.Ff1Ln1BwdIdeal.τ).loc Cert.Ff1Ln1BwdIdeal.main_arg1)) (m ((c.tc : Thread Cert.Ff1Ln1BwdIdeal.nD Cert.Ff1Ln1BwdIdeal.τ).loc Cert.Ff1Ln1BwdIdeal.main_arg2)) (m ((c.tc : Thread Cert.Ff1Ln1BwdIdeal.nD Cert.Ff1Ln1BwdIdeal.τ).loc Cert.Ff1Ln1BwdIdeal.main_arg3)) (m ((c.tc : Thread Cert.Ff1Ln1BwdIdeal.nD Cert.Ff1Ln1BwdIdeal.τ).loc Cert.Ff1Ln1BwdIdeal.main_arg4)) (m ((c.tc : Thread Cert.Ff1Ln1BwdIdeal.nD Cert.Ff1Ln1BwdIdeal.τ).loc Cert.Ff1Ln1BwdIdeal.main_arg5))) = (fun _ => 1#1)

def Pre_Ff1Ln1BwdRefIdeal (m : (ℓ : Loc Cert.Ff1Ln1BwdRefIdeal.nD Cert.Ff1Ln1BwdRefIdeal.τ Cert.Ff1Ln1BwdRefIdeal.sig) → Buf (Elt Ideal) ℓ) : Prop :=
  True

def Pre_Ff1Ln1BwdRefIdeal_finite_ff1_dgrad_ln1_bwd [hPre_finite_ff1_dgrad_ln1_bwd : Cert.Pre_finite_ff1_dgrad_ln1_bwd.Facts] (m : (ℓ : Loc Cert.Ff1Ln1BwdRefIdeal.nD Cert.Ff1Ln1BwdRefIdeal.τ Cert.Ff1Ln1BwdRefIdeal.sig) → Buf (Elt Ideal) ℓ) : Prop :=
  ∀ c : Dev Cert.Ff1Ln1BwdRefIdeal.nD,
    (Cert.Pre_finite_ff1_dgrad_ln1_bwd.fn (F := Ideal) (m ((c.tc : Thread Cert.Ff1Ln1BwdRefIdeal.nD Cert.Ff1Ln1BwdRefIdeal.τ).loc Cert.Ff1Ln1BwdRefIdeal.main_arg0)) (m ((c.tc : Thread Cert.Ff1Ln1BwdRefIdeal.nD Cert.Ff1Ln1BwdRefIdeal.τ).loc Cert.Ff1Ln1BwdRefIdeal.main_arg1)) (m ((c.tc : Thread Cert.Ff1Ln1BwdRefIdeal.nD Cert.Ff1Ln1BwdRefIdeal.τ).loc Cert.Ff1Ln1BwdRefIdeal.main_arg2)) (m ((c.tc : Thread Cert.Ff1Ln1BwdRefIdeal.nD Cert.Ff1Ln1BwdRefIdeal.τ).loc Cert.Ff1Ln1BwdRefIdeal.main_arg3)) (m ((c.tc : Thread Cert.Ff1Ln1BwdRefIdeal.nD Cert.Ff1Ln1BwdRefIdeal.τ).loc Cert.Ff1Ln1BwdRefIdeal.main_arg4)) (m ((c.tc : Thread Cert.Ff1Ln1BwdRefIdeal.nD Cert.Ff1Ln1BwdRefIdeal.τ).loc Cert.Ff1Ln1BwdRefIdeal.main_arg5))) = (fun _ => 1#1)

def Pre_InLnInBwd (m : (ℓ : Loc Cert.InLnInBwd.nD Cert.InLnInBwd.τ Cert.InLnInBwd.sig) → Buf (Elt Bits) ℓ) : Prop :=
  True

def Pre_InLnInBwdIdeal (m : (ℓ : Loc Cert.InLnInBwdIdeal.nD Cert.InLnInBwdIdeal.τ Cert.InLnInBwdIdeal.sig) → Buf (Elt Ideal) ℓ) : Prop :=
  True

def Pre_InLnInBwdIdeal_finite_in_dgrad_ln_in_bwd [hPre_finite_in_dgrad_ln_in_bwd : Cert.Pre_finite_in_dgrad_ln_in_bwd.Facts] (m : (ℓ : Loc Cert.InLnInBwdIdeal.nD Cert.InLnInBwdIdeal.τ Cert.InLnInBwdIdeal.sig) → Buf (Elt Ideal) ℓ) : Prop :=
  ∀ c : Dev Cert.InLnInBwdIdeal.nD,
    (Cert.Pre_finite_in_dgrad_ln_in_bwd.fn (F := Ideal) (m ((c.tc : Thread Cert.InLnInBwdIdeal.nD Cert.InLnInBwdIdeal.τ).loc Cert.InLnInBwdIdeal.main_arg0)) (m ((c.tc : Thread Cert.InLnInBwdIdeal.nD Cert.InLnInBwdIdeal.τ).loc Cert.InLnInBwdIdeal.main_arg1)) (m ((c.tc : Thread Cert.InLnInBwdIdeal.nD Cert.InLnInBwdIdeal.τ).loc Cert.InLnInBwdIdeal.main_arg2)) (m ((c.tc : Thread Cert.InLnInBwdIdeal.nD Cert.InLnInBwdIdeal.τ).loc Cert.InLnInBwdIdeal.main_arg3)) (m ((c.tc : Thread Cert.InLnInBwdIdeal.nD Cert.InLnInBwdIdeal.τ).loc Cert.InLnInBwdIdeal.main_arg4)) (m ((c.tc : Thread Cert.InLnInBwdIdeal.nD Cert.InLnInBwdIdeal.τ).loc Cert.InLnInBwdIdeal.main_arg5))) = (fun _ => 1#1)

def Pre_InLnInBwdRefIdeal (m : (ℓ : Loc Cert.InLnInBwdRefIdeal.nD Cert.InLnInBwdRefIdeal.τ Cert.InLnInBwdRefIdeal.sig) → Buf (Elt Ideal) ℓ) : Prop :=
  True

def Pre_InLnInBwdRefIdeal_finite_in_dgrad_ln_in_bwd [hPre_finite_in_dgrad_ln_in_bwd : Cert.Pre_finite_in_dgrad_ln_in_bwd.Facts] (m : (ℓ : Loc Cert.InLnInBwdRefIdeal.nD Cert.InLnInBwdRefIdeal.τ Cert.InLnInBwdRefIdeal.sig) → Buf (Elt Ideal) ℓ) : Prop :=
  ∀ c : Dev Cert.InLnInBwdRefIdeal.nD,
    (Cert.Pre_finite_in_dgrad_ln_in_bwd.fn (F := Ideal) (m ((c.tc : Thread Cert.InLnInBwdRefIdeal.nD Cert.InLnInBwdRefIdeal.τ).loc Cert.InLnInBwdRefIdeal.main_arg0)) (m ((c.tc : Thread Cert.InLnInBwdRefIdeal.nD Cert.InLnInBwdRefIdeal.τ).loc Cert.InLnInBwdRefIdeal.main_arg1)) (m ((c.tc : Thread Cert.InLnInBwdRefIdeal.nD Cert.InLnInBwdRefIdeal.τ).loc Cert.InLnInBwdRefIdeal.main_arg2)) (m ((c.tc : Thread Cert.InLnInBwdRefIdeal.nD Cert.InLnInBwdRefIdeal.τ).loc Cert.InLnInBwdRefIdeal.main_arg3)) (m ((c.tc : Thread Cert.InLnInBwdRefIdeal.nD Cert.InLnInBwdRefIdeal.τ).loc Cert.InLnInBwdRefIdeal.main_arg4)) (m ((c.tc : Thread Cert.InLnInBwdRefIdeal.nD Cert.InLnInBwdRefIdeal.τ).loc Cert.InLnInBwdRefIdeal.main_arg5))) = (fun _ => 1#1)

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdRefIdeal (m : (ℓ : Loc Cert.ConvBwdRefIdeal.nD Cert.ConvBwdRefIdeal.τ Cert.ConvBwdRefIdeal.sig) → Buf (Elt Ideal) ℓ) : Prop :=
  True

def Pre_LnInFwd (m : (ℓ : Loc Cert.LnInFwd.nD Cert.LnInFwd.τ Cert.LnInFwd.sig) → Buf (Elt Bits) ℓ) : Prop :=
  True

def Pre_LnInFwdIdeal (m : (ℓ : Loc Cert.LnInFwdIdeal.nD Cert.LnInFwdIdeal.τ Cert.LnInFwdIdeal.sig) → Buf (Elt Ideal) ℓ) : Prop :=
  True

def Pre_LnInFwdRefIdeal (m : (ℓ : Loc Cert.LnInFwdRefIdeal.nD Cert.LnInFwdRefIdeal.τ Cert.LnInFwdRefIdeal.sig) → Buf (Elt Ideal) ℓ) : Prop :=
  True

def Pre_Ff1Relu2 (m : (ℓ : Loc Cert.Ff1Relu2.nD Cert.Ff1Relu2.τ Cert.Ff1Relu2.sig) → Buf (Elt Bits) ℓ) : Prop :=
  True

def Pre_Ff1Relu2Ideal (m : (ℓ : Loc Cert.Ff1Relu2Ideal.nD Cert.Ff1Relu2Ideal.τ Cert.Ff1Relu2Ideal.sig) → Buf (Elt Ideal) ℓ) : Prop :=
  True

def Pre_Ff1Relu2RefIdeal (m : (ℓ : Loc Cert.Ff1Relu2RefIdeal.nD Cert.Ff1Relu2RefIdeal.τ Cert.Ff1Relu2RefIdeal.sig) → Buf (Elt Ideal) ℓ) : Prop :=
  True

def Pre_RopeTables (m : (ℓ : Loc Cert.RopeTables.nD Cert.RopeTables.τ Cert.RopeTables.sig) → Buf (Elt Bits) ℓ) : Prop :=
  True

def Pre_RopeTablesIdeal (m : (ℓ : Loc Cert.RopeTablesIdeal.nD Cert.RopeTablesIdeal.τ Cert.RopeTablesIdeal.sig) → Buf (Elt Ideal) ℓ) : Prop :=
  True

def Pre_RopeTablesRefIdeal (m : (ℓ : Loc Cert.RopeTablesRefIdeal.nD Cert.RopeTablesRefIdeal.τ Cert.RopeTablesRefIdeal.sig) → Buf (Elt Ideal) ℓ) : Prop :=
  True

def Pre_ConvLnSilu (m : (ℓ : Loc Cert.ConvLnSilu.nD Cert.ConvLnSilu.τ Cert.ConvLnSilu.sig) → Buf (Elt Bits) ℓ) : Prop :=
  True

def Pre_ConvLnSiluIdeal (m : (ℓ : Loc Cert.ConvLnSiluIdeal.nD Cert.ConvLnSiluIdeal.τ Cert.ConvLnSiluIdeal.sig) → Buf (Elt Ideal) ℓ) : Prop :=
  True

def Pre_ConvLnSiluRefIdeal (m : (ℓ : Loc Cert.ConvLnSiluRefIdeal.nD Cert.ConvLnSiluRefIdeal.τ Cert.ConvLnSiluRefIdeal.sig) → Buf (Elt Ideal) ℓ) : Prop :=
  True

def Pre_MixLn1 (m : (ℓ : Loc Cert.MixLn1.nD Cert.MixLn1.τ Cert.MixLn1.sig) → Buf (Elt Bits) ℓ) : Prop :=
  True

def Pre_MixLn1Ideal (m : (ℓ : Loc Cert.MixLn1Ideal.nD Cert.MixLn1Ideal.τ Cert.MixLn1Ideal.sig) → Buf (Elt Ideal) ℓ) : Prop :=
  True

def Pre_MixLn1RefIdeal (m : (ℓ : Loc Cert.MixLn1RefIdeal.nD Cert.MixLn1RefIdeal.τ Cert.MixLn1RefIdeal.sig) → Buf (Elt Ideal) ℓ) : Prop :=
  True

def quiescent_GluBwd [hGluBwd : Cert.GluBwd.Facts] : Prop :=
  ∀ (m : (ℓ : Loc Cert.GluBwd.nD Cert.GluBwd.τ Cert.GluBwd.sig) → Buf (Elt Bits) ℓ) (g : Dev Cert.GluBwd.nD → PrngReg), Pre_GluBwd m →
    θ_run (Cert.GluBwd.defs (F := Bits)) (onTc (τ := Cert.GluBwd.τ) (Cert.GluBwd.main (F := Bits))) ⟨m, fun _ => 0, g⟩ (fun r => (∀ c : Dev Cert.GluBwd.nD,
      r.2.mem ((c.tc : Thread Cert.GluBwd.nD Cert.GluBwd.τ).loc Cert.GluBwd.main_arg0) = m ((c.tc : Thread Cert.GluBwd.nD Cert.GluBwd.τ).loc Cert.GluBwd.main_arg0)
      ∧ r.2.mem ((c.tc : Thread Cert.GluBwd.nD Cert.GluBwd.τ).loc Cert.GluBwd.main_arg1) = m ((c.tc : Thread Cert.GluBwd.nD Cert.GluBwd.τ).loc Cert.GluBwd.main_arg1))
      ∧ r.2.sem = fun _ => 0)

def quiescent_GluBwdIdeal [hGluBwdIdeal : Cert.GluBwdIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg), Pre_GluBwdIdeal m →
    θ_run (Cert.GluBwdIdeal.defs (F := Ideal)) (onTc (τ := Cert.GluBwdIdeal.τ) (Cert.GluBwdIdeal.main (F := Ideal))) ⟨m, fun _ => 0, g⟩ (fun r => (∀ c : Dev Cert.GluBwdIdeal.nD,
      r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
      ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1))
      ∧ r.2.sem = fun _ => 0)

def quiescent_GluBwdRefIdeal [hGluBwdRefIdeal : Cert.GluBwdRefIdeal.Facts] : Prop :=
  ∀ (m : (ℓ : Loc Cert.GluBwdRefIdeal.nD Cert.GluBwdRefIdeal.τ Cert.GluBwdRefIdeal.sig) → Buf (Elt Ideal) ℓ) (g : Dev Cert.GluBwdRefIdeal.nD → PrngReg), Pre_GluBwdRefIdeal m →
    θ_run (Cert.GluBwdRefIdeal.defs (F := Ideal)) (onTc (τ := Cert.GluBwdRefIdeal.τ) (Cert.GluBwdRefIdeal.main (F := Ideal))) ⟨m, fun _ => 0, g⟩ (fun r => (∀ c : Dev Cert.GluBwdRefIdeal.nD,
      r.2.mem ((c.tc : Thread Cert.GluBwdRefIdeal.nD Cert.GluBwdRefIdeal.τ).loc Cert.GluBwdRefIdeal.main_arg0) = m ((c.tc : Thread Cert.GluBwdRefIdeal.nD Cert.GluBwdRefIdeal.τ).loc Cert.GluBwdRefIdeal.main_arg0)
      ∧ r.2.mem ((c.tc : Thread Cert.GluBwdRefIdeal.nD Cert.GluBwdRefIdeal.τ).loc Cert.GluBwdRefIdeal.main_arg1) = m ((c.tc : Thread Cert.GluBwdRefIdeal.nD Cert.GluBwdRefIdeal.τ).loc Cert.GluBwdRefIdeal.main_arg1))
      ∧ r.2.sem = fun _ => 0)

def quiescent_Ff2Dgrad [hFf2Dgrad : Cert.Ff2Dgrad.Facts] : Prop :=
  ∀ (m : (ℓ : Loc Cert.Ff2Dgrad.nD Cert.Ff2Dgrad.τ Cert.Ff2Dgrad.sig) → Buf (Elt Bits) ℓ) (g : Dev Cert.Ff2Dgrad.nD → PrngReg), Pre_Ff2Dgrad m →
    θ_run (Cert.Ff2Dgrad.defs (F := Bits)) (onTc (τ := Cert.Ff2Dgrad.τ) (Cert.Ff2Dgrad.main (F := Bits))) ⟨m, fun _ => 0, g⟩ (fun r => (∀ c : Dev Cert.Ff2Dgrad.nD,
      r.2.mem ((c.tc : Thread Cert.Ff2Dgrad.nD Cert.Ff2Dgrad.τ).loc Cert.Ff2Dgrad.main_arg0) = m ((c.tc : Thread Cert.Ff2Dgrad.nD Cert.Ff2Dgrad.τ).loc Cert.Ff2Dgrad.main_arg0)
      ∧ r.2.mem ((c.tc : Thread Cert.Ff2Dgrad.nD Cert.Ff2Dgrad.τ).loc Cert.Ff2Dgrad.main_arg1) = m ((c.tc : Thread Cert.Ff2Dgrad.nD Cert.Ff2Dgrad.τ).loc Cert.Ff2Dgrad.main_arg1)
      ∧ r.2.mem ((c.tc : Thread Cert.Ff2Dgrad.nD Cert.Ff2Dgrad.τ).loc Cert.Ff2Dgrad.main_arg2) = m ((c.tc : Thread Cert.Ff2Dgrad.nD Cert.Ff2Dgrad.τ).loc Cert.Ff2Dgrad.main_arg2))
      ∧ r.2.sem = fun _ => 0)

def quiescent_Ff2DgradIdeal [hFf2DgradIdeal : Cert.Ff2DgradIdeal.Facts] : Prop :=
  ∀ (m : (ℓ : Loc Cert.Ff2DgradIdeal.nD Cert.Ff2DgradIdeal.τ Cert.Ff2DgradIdeal.sig) → Buf (Elt Ideal) ℓ) (g : Dev Cert.Ff2DgradIdeal.nD → PrngReg), Pre_Ff2DgradIdeal m →
    θ_run (Cert.Ff2DgradIdeal.defs (F := Ideal)) (onTc (τ := Cert.Ff2DgradIdeal.τ) (Cert.Ff2DgradIdeal.main (F := Ideal))) ⟨m, fun _ => 0, g⟩ (fun r => (∀ c : Dev Cert.Ff2DgradIdeal.nD,
      r.2.mem ((c.tc : Thread Cert.Ff2DgradIdeal.nD Cert.Ff2DgradIdeal.τ).loc Cert.Ff2DgradIdeal.main_arg0) = m ((c.tc : Thread Cert.Ff2DgradIdeal.nD Cert.Ff2DgradIdeal.τ).loc Cert.Ff2DgradIdeal.main_arg0)
      ∧ r.2.mem ((c.tc : Thread Cert.Ff2DgradIdeal.nD Cert.Ff2DgradIdeal.τ).loc Cert.Ff2DgradIdeal.main_arg1) = m ((c.tc : Thread Cert.Ff2DgradIdeal.nD Cert.Ff2DgradIdeal.τ).loc Cert.Ff2DgradIdeal.main_arg1)
      ∧ r.2.mem ((c.tc : Thread Cert.Ff2DgradIdeal.nD Cert.Ff2DgradIdeal.τ).loc Cert.Ff2DgradIdeal.main_arg2) = m ((c.tc : Thread Cert.Ff2DgradIdeal.nD Cert.Ff2DgradIdeal.τ).loc Cert.Ff2DgradIdeal.main_arg2))
      ∧ r.2.sem = fun _ => 0)

def quiescent_Ff2DgradRefIdeal [hFf2DgradRefIdeal : Cert.Ff2DgradRefIdeal.Facts] : Prop :=
  ∀ (m : (ℓ : Loc Cert.Ff2DgradRefIdeal.nD Cert.Ff2DgradRefIdeal.τ Cert.Ff2DgradRefIdeal.sig) → Buf (Elt Ideal) ℓ) (g : Dev Cert.Ff2DgradRefIdeal.nD → PrngReg), Pre_Ff2DgradRefIdeal m →
    θ_run (Cert.Ff2DgradRefIdeal.defs (F := Ideal)) (onTc (τ := Cert.Ff2DgradRefIdeal.τ) (Cert.Ff2DgradRefIdeal.main (F := Ideal))) ⟨m, fun _ => 0, g⟩ (fun r => (∀ c : Dev Cert.Ff2DgradRefIdeal.nD,
      r.2.mem ((c.tc : Thread Cert.Ff2DgradRefIdeal.nD Cert.Ff2DgradRefIdeal.τ).loc Cert.Ff2DgradRefIdeal.main_arg0) = m ((c.tc : Thread Cert.Ff2DgradRefIdeal.nD Cert.Ff2DgradRefIdeal.τ).loc Cert.Ff2DgradRefIdeal.main_arg0)
      ∧ r.2.mem ((c.tc : Thread Cert.Ff2DgradRefIdeal.nD Cert.Ff2DgradRefIdeal.τ).loc Cert.Ff2DgradRefIdeal.main_arg1) = m ((c.tc : Thread Cert.Ff2DgradRefIdeal.nD Cert.Ff2DgradRefIdeal.τ).loc Cert.Ff2DgradRefIdeal.main_arg1)
      ∧ r.2.mem ((c.tc : Thread Cert.Ff2DgradRefIdeal.nD Cert.Ff2DgradRefIdeal.τ).loc Cert.Ff2DgradRefIdeal.main_arg2) = m ((c.tc : Thread Cert.Ff2DgradRefIdeal.nD Cert.Ff2DgradRefIdeal.τ).loc Cert.Ff2DgradRefIdeal.main_arg2))
      ∧ r.2.sem = fun _ => 0)

def quiescent_AttnDelta [hAttnDelta : Cert.AttnDelta.Facts] : Prop :=
  ∀ (m : (ℓ : Loc Cert.AttnDelta.nD Cert.AttnDelta.τ Cert.AttnDelta.sig) → Buf (Elt Bits) ℓ) (g : Dev Cert.AttnDelta.nD → PrngReg), Pre_AttnDelta m →
    θ_run (Cert.AttnDelta.defs (F := Bits)) (onTc (τ := Cert.AttnDelta.τ) (Cert.AttnDelta.main (F := Bits))) ⟨m, fun _ => 0, g⟩ (fun r => (∀ c : Dev Cert.AttnDelta.nD,
      r.2.mem ((c.tc : Thread Cert.AttnDelta.nD Cert.AttnDelta.τ).loc Cert.AttnDelta.main_arg0) = m ((c.tc : Thread Cert.AttnDelta.nD Cert.AttnDelta.τ).loc Cert.AttnDelta.main_arg0)
      ∧ r.2.mem ((c.tc : Thread Cert.AttnDelta.nD Cert.AttnDelta.τ).loc Cert.AttnDelta.main_arg1) = m ((c.tc : Thread Cert.AttnDelta.nD Cert.AttnDelta.τ).loc Cert.AttnDelta.main_arg1))
      ∧ r.2.sem = fun _ => 0)

def quiescent_AttnDeltaIdeal [hAttnDeltaIdeal : Cert.AttnDeltaIdeal.Facts] : Prop :=
  ∀ (m : (ℓ : Loc Cert.AttnDeltaIdeal.nD Cert.AttnDeltaIdeal.τ Cert.AttnDeltaIdeal.sig) → Buf (Elt Ideal) ℓ) (g : Dev Cert.AttnDeltaIdeal.nD → PrngReg), Pre_AttnDeltaIdeal m →
    θ_run (Cert.AttnDeltaIdeal.defs (F := Ideal)) (onTc (τ := Cert.AttnDeltaIdeal.τ) (Cert.AttnDeltaIdeal.main (F := Ideal))) ⟨m, fun _ => 0, g⟩ (fun r => (∀ c : Dev Cert.AttnDeltaIdeal.nD,
      r.2.mem ((c.tc : Thread Cert.AttnDeltaIdeal.nD Cert.AttnDeltaIdeal.τ).loc Cert.AttnDeltaIdeal.main_arg0) = m ((c.tc : Thread Cert.AttnDeltaIdeal.nD Cert.AttnDeltaIdeal.τ).loc Cert.AttnDeltaIdeal.main_arg0)
      ∧ r.2.mem ((c.tc : Thread Cert.AttnDeltaIdeal.nD Cert.AttnDeltaIdeal.τ).loc Cert.AttnDeltaIdeal.main_arg1) = m ((c.tc : Thread Cert.AttnDeltaIdeal.nD Cert.AttnDeltaIdeal.τ).loc Cert.AttnDeltaIdeal.main_arg1))
      ∧ r.2.sem = fun _ => 0)

def quiescent_AttnDeltaRefIdeal [hAttnDeltaRefIdeal : Cert.AttnDeltaRefIdeal.Facts] : Prop :=
  ∀ (m : (ℓ : Loc Cert.AttnDeltaRefIdeal.nD Cert.AttnDeltaRefIdeal.τ Cert.AttnDeltaRefIdeal.sig) → Buf (Elt Ideal) ℓ) (g : Dev Cert.AttnDeltaRefIdeal.nD → PrngReg), Pre_AttnDeltaRefIdeal m →
    θ_run (Cert.AttnDeltaRefIdeal.defs (F := Ideal)) (onTc (τ := Cert.AttnDeltaRefIdeal.τ) (Cert.AttnDeltaRefIdeal.main (F := Ideal))) ⟨m, fun _ => 0, g⟩ (fun r => (∀ c : Dev Cert.AttnDeltaRefIdeal.nD,
      r.2.mem ((c.tc : Thread Cert.AttnDeltaRefIdeal.nD Cert.AttnDeltaRefIdeal.τ).loc Cert.AttnDeltaRefIdeal.main_arg0) = m ((c.tc : Thread Cert.AttnDeltaRefIdeal.nD Cert.AttnDeltaRefIdeal.τ).loc Cert.AttnDeltaRefIdeal.main_arg0)
      ∧ r.2.mem ((c.tc : Thread Cert.AttnDeltaRefIdeal.nD Cert.AttnDeltaRefIdeal.τ).loc Cert.AttnDeltaRefIdeal.main_arg1) = m ((c.tc : Thread Cert.AttnDeltaRefIdeal.nD Cert.AttnDeltaRefIdeal.τ).loc Cert.AttnDeltaRefIdeal.main_arg1))
      ∧ r.2.sem = fun _ => 0)

def quiescent_DqUnrope [hDqUnrope : Cert.DqUnrope.Facts] : Prop :=
  ∀ (m : (ℓ : Loc Cert.DqUnrope.nD Cert.DqUnrope.τ Cert.DqUnrope.sig) → Buf (Elt Bits) ℓ) (g : Dev Cert.DqUnrope.nD → PrngReg), Pre_DqUnrope m →
    θ_run (Cert.DqUnrope.defs (F := Bits)) (onTc (τ := Cert.DqUnrope.τ) (Cert.DqUnrope.main (F := Bits))) ⟨m, fun _ => 0, g⟩ (fun r => (∀ c : Dev Cert.DqUnrope.nD,
      r.2.mem ((c.tc : Thread Cert.DqUnrope.nD Cert.DqUnrope.τ).loc Cert.DqUnrope.main_arg0) = m ((c.tc : Thread Cert.DqUnrope.nD Cert.DqUnrope.τ).loc Cert.DqUnrope.main_arg0)
      ∧ r.2.mem ((c.tc : Thread Cert.DqUnrope.nD Cert.DqUnrope.τ).loc Cert.DqUnrope.main_arg1) = m ((c.tc : Thread Cert.DqUnrope.nD Cert.DqUnrope.τ).loc Cert.DqUnrope.main_arg1)
      ∧ r.2.mem ((c.tc : Thread Cert.DqUnrope.nD Cert.DqUnrope.τ).loc Cert.DqUnrope.main_arg2) = m ((c.tc : Thread Cert.DqUnrope.nD Cert.DqUnrope.τ).loc Cert.DqUnrope.main_arg2))
      ∧ r.2.sem = fun _ => 0)

def quiescent_DqUnropeIdeal [hDqUnropeIdeal : Cert.DqUnropeIdeal.Facts] : Prop :=
  ∀ (m : (ℓ : Loc Cert.DqUnropeIdeal.nD Cert.DqUnropeIdeal.τ Cert.DqUnropeIdeal.sig) → Buf (Elt Ideal) ℓ) (g : Dev Cert.DqUnropeIdeal.nD → PrngReg), Pre_DqUnropeIdeal m →
    θ_run (Cert.DqUnropeIdeal.defs (F := Ideal)) (onTc (τ := Cert.DqUnropeIdeal.τ) (Cert.DqUnropeIdeal.main (F := Ideal))) ⟨m, fun _ => 0, g⟩ (fun r => (∀ c : Dev Cert.DqUnropeIdeal.nD,
      r.2.mem ((c.tc : Thread Cert.DqUnropeIdeal.nD Cert.DqUnropeIdeal.τ).loc Cert.DqUnropeIdeal.main_arg0) = m ((c.tc : Thread Cert.DqUnropeIdeal.nD Cert.DqUnropeIdeal.τ).loc Cert.DqUnropeIdeal.main_arg0)
      ∧ r.2.mem ((c.tc : Thread Cert.DqUnropeIdeal.nD Cert.DqUnropeIdeal.τ).loc Cert.DqUnropeIdeal.main_arg1) = m ((c.tc : Thread Cert.DqUnropeIdeal.nD Cert.DqUnropeIdeal.τ).loc Cert.DqUnropeIdeal.main_arg1)
      ∧ r.2.mem ((c.tc : Thread Cert.DqUnropeIdeal.nD Cert.DqUnropeIdeal.τ).loc Cert.DqUnropeIdeal.main_arg2) = m ((c.tc : Thread Cert.DqUnropeIdeal.nD Cert.DqUnropeIdeal.τ).loc Cert.DqUnropeIdeal.main_arg2))
      ∧ r.2.sem = fun _ => 0)

def quiescent_DqUnropeRefIdeal [hDqUnropeRefIdeal : Cert.DqUnropeRefIdeal.Facts] : Prop :=
  ∀ (m : (ℓ : Loc Cert.DqUnropeRefIdeal.nD Cert.DqUnropeRefIdeal.τ Cert.DqUnropeRefIdeal.sig) → Buf (Elt Ideal) ℓ) (g : Dev Cert.DqUnropeRefIdeal.nD → PrngReg), Pre_DqUnropeRefIdeal m →
    θ_run (Cert.DqUnropeRefIdeal.defs (F := Ideal)) (onTc (τ := Cert.DqUnropeRefIdeal.τ) (Cert.DqUnropeRefIdeal.main (F := Ideal))) ⟨m, fun _ => 0, g⟩ (fun r => (∀ c : Dev Cert.DqUnropeRefIdeal.nD,
      r.2.mem ((c.tc : Thread Cert.DqUnropeRefIdeal.nD Cert.DqUnropeRefIdeal.τ).loc Cert.DqUnropeRefIdeal.main_arg0) = m ((c.tc : Thread Cert.DqUnropeRefIdeal.nD Cert.DqUnropeRefIdeal.τ).loc Cert.DqUnropeRefIdeal.main_arg0)
      ∧ r.2.mem ((c.tc : Thread Cert.DqUnropeRefIdeal.nD Cert.DqUnropeRefIdeal.τ).loc Cert.DqUnropeRefIdeal.main_arg1) = m ((c.tc : Thread Cert.DqUnropeRefIdeal.nD Cert.DqUnropeRefIdeal.τ).loc Cert.DqUnropeRefIdeal.main_arg1)
      ∧ r.2.mem ((c.tc : Thread Cert.DqUnropeRefIdeal.nD Cert.DqUnropeRefIdeal.τ).loc Cert.DqUnropeRefIdeal.main_arg2) = m ((c.tc : Thread Cert.DqUnropeRefIdeal.nD Cert.DqUnropeRefIdeal.τ).loc Cert.DqUnropeRefIdeal.main_arg2))
      ∧ r.2.sem = fun _ => 0)

def quiescent_DkUnrope [hDkUnrope : Cert.DkUnrope.Facts] : Prop :=
  ∀ (m : (ℓ : Loc Cert.DkUnrope.nD Cert.DkUnrope.τ Cert.DkUnrope.sig) → Buf (Elt Bits) ℓ) (g : Dev Cert.DkUnrope.nD → PrngReg), Pre_DkUnrope m →
    θ_run (Cert.DkUnrope.defs (F := Bits)) (onTc (τ := Cert.DkUnrope.τ) (Cert.DkUnrope.main (F := Bits))) ⟨m, fun _ => 0, g⟩ (fun r => (∀ c : Dev Cert.DkUnrope.nD,
      r.2.mem ((c.tc : Thread Cert.DkUnrope.nD Cert.DkUnrope.τ).loc Cert.DkUnrope.main_arg0) = m ((c.tc : Thread Cert.DkUnrope.nD Cert.DkUnrope.τ).loc Cert.DkUnrope.main_arg0)
      ∧ r.2.mem ((c.tc : Thread Cert.DkUnrope.nD Cert.DkUnrope.τ).loc Cert.DkUnrope.main_arg1) = m ((c.tc : Thread Cert.DkUnrope.nD Cert.DkUnrope.τ).loc Cert.DkUnrope.main_arg1)
      ∧ r.2.mem ((c.tc : Thread Cert.DkUnrope.nD Cert.DkUnrope.τ).loc Cert.DkUnrope.main_arg2) = m ((c.tc : Thread Cert.DkUnrope.nD Cert.DkUnrope.τ).loc Cert.DkUnrope.main_arg2)
      ∧ r.2.mem ((c.tc : Thread Cert.DkUnrope.nD Cert.DkUnrope.τ).loc Cert.DkUnrope.main_arg3) = m ((c.tc : Thread Cert.DkUnrope.nD Cert.DkUnrope.τ).loc Cert.DkUnrope.main_arg3)
      ∧ r.2.mem ((c.tc : Thread Cert.DkUnrope.nD Cert.DkUnrope.τ).loc Cert.DkUnrope.main_arg4) = m ((c.tc : Thread Cert.DkUnrope.nD Cert.DkUnrope.τ).loc Cert.DkUnrope.main_arg4))
      ∧ r.2.sem = fun _ => 0)

def quiescent_DkUnropeIdeal [hDkUnropeIdeal : Cert.DkUnropeIdeal.Facts] : Prop :=
  ∀ (m : (ℓ : Loc Cert.DkUnropeIdeal.nD Cert.DkUnropeIdeal.τ Cert.DkUnropeIdeal.sig) → Buf (Elt Ideal) ℓ) (g : Dev Cert.DkUnropeIdeal.nD → PrngReg), Pre_DkUnropeIdeal m →
    θ_run (Cert.DkUnropeIdeal.defs (F := Ideal)) (onTc (τ := Cert.DkUnropeIdeal.τ) (Cert.DkUnropeIdeal.main (F := Ideal))) ⟨m, fun _ => 0, g⟩ (fun r => (∀ c : Dev Cert.DkUnropeIdeal.nD,
      r.2.mem ((c.tc : Thread Cert.DkUnropeIdeal.nD Cert.DkUnropeIdeal.τ).loc Cert.DkUnropeIdeal.main_arg0) = m ((c.tc : Thread Cert.DkUnropeIdeal.nD Cert.DkUnropeIdeal.τ).loc Cert.DkUnropeIdeal.main_arg0)
      ∧ r.2.mem ((c.tc : Thread Cert.DkUnropeIdeal.nD Cert.DkUnropeIdeal.τ).loc Cert.DkUnropeIdeal.main_arg1) = m ((c.tc : Thread Cert.DkUnropeIdeal.nD Cert.DkUnropeIdeal.τ).loc Cert.DkUnropeIdeal.main_arg1)
      ∧ r.2.mem ((c.tc : Thread Cert.DkUnropeIdeal.nD Cert.DkUnropeIdeal.τ).loc Cert.DkUnropeIdeal.main_arg2) = m ((c.tc : Thread Cert.DkUnropeIdeal.nD Cert.DkUnropeIdeal.τ).loc Cert.DkUnropeIdeal.main_arg2)
      ∧ r.2.mem ((c.tc : Thread Cert.DkUnropeIdeal.nD Cert.DkUnropeIdeal.τ).loc Cert.DkUnropeIdeal.main_arg3) = m ((c.tc : Thread Cert.DkUnropeIdeal.nD Cert.DkUnropeIdeal.τ).loc Cert.DkUnropeIdeal.main_arg3)
      ∧ r.2.mem ((c.tc : Thread Cert.DkUnropeIdeal.nD Cert.DkUnropeIdeal.τ).loc Cert.DkUnropeIdeal.main_arg4) = m ((c.tc : Thread Cert.DkUnropeIdeal.nD Cert.DkUnropeIdeal.τ).loc Cert.DkUnropeIdeal.main_arg4))
      ∧ r.2.sem = fun _ => 0)

def quiescent_DkUnropeRefIdeal [hDkUnropeRefIdeal : Cert.DkUnropeRefIdeal.Facts] : Prop :=
  ∀ (m : (ℓ : Loc Cert.DkUnropeRefIdeal.nD Cert.DkUnropeRefIdeal.τ Cert.DkUnropeRefIdeal.sig) → Buf (Elt Ideal) ℓ) (g : Dev Cert.DkUnropeRefIdeal.nD → PrngReg), Pre_DkUnropeRefIdeal m →
    θ_run (Cert.DkUnropeRefIdeal.defs (F := Ideal)) (onTc (τ := Cert.DkUnropeRefIdeal.τ) (Cert.DkUnropeRefIdeal.main (F := Ideal))) ⟨m, fun _ => 0, g⟩ (fun r => (∀ c : Dev Cert.DkUnropeRefIdeal.nD,
      r.2.mem ((c.tc : Thread Cert.DkUnropeRefIdeal.nD Cert.DkUnropeRefIdeal.τ).loc Cert.DkUnropeRefIdeal.main_arg0) = m ((c.tc : Thread Cert.DkUnropeRefIdeal.nD Cert.DkUnropeRefIdeal.τ).loc Cert.DkUnropeRefIdeal.main_arg0)
      ∧ r.2.mem ((c.tc : Thread Cert.DkUnropeRefIdeal.nD Cert.DkUnropeRefIdeal.τ).loc Cert.DkUnropeRefIdeal.main_arg1) = m ((c.tc : Thread Cert.DkUnropeRefIdeal.nD Cert.DkUnropeRefIdeal.τ).loc Cert.DkUnropeRefIdeal.main_arg1)
      ∧ r.2.mem ((c.tc : Thread Cert.DkUnropeRefIdeal.nD Cert.DkUnropeRefIdeal.τ).loc Cert.DkUnropeRefIdeal.main_arg2) = m ((c.tc : Thread Cert.DkUnropeRefIdeal.nD Cert.DkUnropeRefIdeal.τ).loc Cert.DkUnropeRefIdeal.main_arg2)
      ∧ r.2.mem ((c.tc : Thread Cert.DkUnropeRefIdeal.nD Cert.DkUnropeRefIdeal.τ).loc Cert.DkUnropeRefIdeal.main_arg3) = m ((c.tc : Thread Cert.DkUnropeRefIdeal.nD Cert.DkUnropeRefIdeal.τ).loc Cert.DkUnropeRefIdeal.main_arg3)
      ∧ r.2.mem ((c.tc : Thread Cert.DkUnropeRefIdeal.nD Cert.DkUnropeRefIdeal.τ).loc Cert.DkUnropeRefIdeal.main_arg4) = m ((c.tc : Thread Cert.DkUnropeRefIdeal.nD Cert.DkUnropeRefIdeal.τ).loc Cert.DkUnropeRefIdeal.main_arg4))
      ∧ r.2.sem = fun _ => 0)

def quiescent_FlashBwd [hFlashBwd : Cert.FlashBwd.Facts] : Prop :=
  ∀ (m : (ℓ : Loc Cert.FlashBwd.nD Cert.FlashBwd.τ Cert.FlashBwd.sig) → Buf (Elt Bits) ℓ) (g : Dev Cert.FlashBwd.nD → PrngReg), Pre_FlashBwd m →
    θ_run (Cert.FlashBwd.defs (F := Bits)) (onTc (τ := Cert.FlashBwd.τ) (Cert.FlashBwd.main (F := Bits))) ⟨m, fun _ => 0, g⟩ (fun r => (∀ c : Dev Cert.FlashBwd.nD,
      r.2.mem ((c.tc : Thread Cert.FlashBwd.nD Cert.FlashBwd.τ).loc Cert.FlashBwd.main_arg0) = m ((c.tc : Thread Cert.FlashBwd.nD Cert.FlashBwd.τ).loc Cert.FlashBwd.main_arg0)
      ∧ r.2.mem ((c.tc : Thread Cert.FlashBwd.nD Cert.FlashBwd.τ).loc Cert.FlashBwd.main_arg1) = m ((c.tc : Thread Cert.FlashBwd.nD Cert.FlashBwd.τ).loc Cert.FlashBwd.main_arg1)
      ∧ r.2.mem ((c.tc : Thread Cert.FlashBwd.nD Cert.FlashBwd.τ).loc Cert.FlashBwd.main_arg2) = m ((c.tc : Thread Cert.FlashBwd.nD Cert.FlashBwd.τ).loc Cert.FlashBwd.main_arg2)
      ∧ r.2.mem ((c.tc : Thread Cert.FlashBwd.nD Cert.FlashBwd.τ).loc Cert.FlashBwd.main_arg3) = m ((c.tc : Thread Cert.FlashBwd.nD Cert.FlashBwd.τ).loc Cert.FlashBwd.main_arg3)
      ∧ r.2.mem ((c.tc : Thread Cert.FlashBwd.nD Cert.FlashBwd.τ).loc Cert.FlashBwd.main_arg4) = m ((c.tc : Thread Cert.FlashBwd.nD Cert.FlashBwd.τ).loc Cert.FlashBwd.main_arg4)
      ∧ r.2.mem ((c.tc : Thread Cert.FlashBwd.nD Cert.FlashBwd.τ).loc Cert.FlashBwd.main_arg5) = m ((c.tc : Thread Cert.FlashBwd.nD Cert.FlashBwd.τ).loc Cert.FlashBwd.main_arg5))
      ∧ r.2.sem = fun _ => 0)

def quiescent_FlashBwdIdeal [hFlashBwdIdeal : Cert.FlashBwdIdeal.Facts] : Prop :=
  ∀ (m : (ℓ : Loc Cert.FlashBwdIdeal.nD Cert.FlashBwdIdeal.τ Cert.FlashBwdIdeal.sig) → Buf (Elt Ideal) ℓ) (g : Dev Cert.FlashBwdIdeal.nD → PrngReg), Pre_FlashBwdIdeal m →
    θ_run (Cert.FlashBwdIdeal.defs (F := Ideal)) (onTc (τ := Cert.FlashBwdIdeal.τ) (Cert.FlashBwdIdeal.main (F := Ideal))) ⟨m, fun _ => 0, g⟩ (fun r => (∀ c : Dev Cert.FlashBwdIdeal.nD,
      r.2.mem ((c.tc : Thread Cert.FlashBwdIdeal.nD Cert.FlashBwdIdeal.τ).loc Cert.FlashBwdIdeal.main_arg0) = m ((c.tc : Thread Cert.FlashBwdIdeal.nD Cert.FlashBwdIdeal.τ).loc Cert.FlashBwdIdeal.main_arg0)
      ∧ r.2.mem ((c.tc : Thread Cert.FlashBwdIdeal.nD Cert.FlashBwdIdeal.τ).loc Cert.FlashBwdIdeal.main_arg1) = m ((c.tc : Thread Cert.FlashBwdIdeal.nD Cert.FlashBwdIdeal.τ).loc Cert.FlashBwdIdeal.main_arg1)
      ∧ r.2.mem ((c.tc : Thread Cert.FlashBwdIdeal.nD Cert.FlashBwdIdeal.τ).loc Cert.FlashBwdIdeal.main_arg2) = m ((c.tc : Thread Cert.FlashBwdIdeal.nD Cert.FlashBwdIdeal.τ).loc Cert.FlashBwdIdeal.main_arg2)
      ∧ r.2.mem ((c.tc : Thread Cert.FlashBwdIdeal.nD Cert.FlashBwdIdeal.τ).loc Cert.FlashBwdIdeal.main_arg3) = m ((c.tc : Thread Cert.FlashBwdIdeal.nD Cert.FlashBwdIdeal.τ).loc Cert.FlashBwdIdeal.main_arg3)
      ∧ r.2.mem ((c.tc : Thread Cert.FlashBwdIdeal.nD Cert.FlashBwdIdeal.τ).loc Cert.FlashBwdIdeal.main_arg4) = m ((c.tc : Thread Cert.FlashBwdIdeal.nD Cert.FlashBwdIdeal.τ).loc Cert.FlashBwdIdeal.main_arg4)
      ∧ r.2.mem ((c.tc : Thread Cert.FlashBwdIdeal.nD Cert.FlashBwdIdeal.τ).loc Cert.FlashBwdIdeal.main_arg5) = m ((c.tc : Thread Cert.FlashBwdIdeal.nD Cert.FlashBwdIdeal.τ).loc Cert.FlashBwdIdeal.main_arg5))
      ∧ r.2.sem = fun _ => 0)

def quiescent_FlashBwdIdeal_pre_finite_flash_bwd [hFlashBwdIdeal : Cert.FlashBwdIdeal.Facts] [hPre_finite_flash_bwd : Cert.Pre_finite_flash_bwd.Facts] : Prop :=
  ∀ (m : (ℓ : Loc Cert.FlashBwdIdeal.nD Cert.FlashBwdIdeal.τ Cert.FlashBwdIdeal.sig) → Buf (Elt Ideal) ℓ) (g : Dev Cert.FlashBwdIdeal.nD → PrngReg), Pre_FlashBwdIdeal_finite_flash_bwd m →
    θ_run (Cert.FlashBwdIdeal.defs (F := Ideal)) (onTc (τ := Cert.FlashBwdIdeal.τ) (Cert.FlashBwdIdeal.main (F := Ideal))) ⟨m, fun _ => 0, g⟩ (fun r => (∀ c : Dev Cert.FlashBwdIdeal.nD,
      r.2.mem ((c.tc : Thread Cert.FlashBwdIdeal.nD Cert.FlashBwdIdeal.τ).loc Cert.FlashBwdIdeal.main_arg0) = m ((c.tc : Thread Cert.FlashBwdIdeal.nD Cert.FlashBwdIdeal.τ).loc Cert.FlashBwdIdeal.main_arg0)
      ∧ r.2.mem ((c.tc : Thread Cert.FlashBwdIdeal.nD Cert.FlashBwdIdeal.τ).loc Cert.FlashBwdIdeal.main_arg1) = m ((c.tc : Thread Cert.FlashBwdIdeal.nD Cert.FlashBwdIdeal.τ).loc Cert.FlashBwdIdeal.main_arg1)
      ∧ r.2.mem ((c.tc : Thread Cert.FlashBwdIdeal.nD Cert.FlashBwdIdeal.τ).loc Cert.FlashBwdIdeal.main_arg2) = m ((c.tc : Thread Cert.FlashBwdIdeal.nD Cert.FlashBwdIdeal.τ).loc Cert.FlashBwdIdeal.main_arg2)
      ∧ r.2.mem ((c.tc : Thread Cert.FlashBwdIdeal.nD Cert.FlashBwdIdeal.τ).loc Cert.FlashBwdIdeal.main_arg3) = m ((c.tc : Thread Cert.FlashBwdIdeal.nD Cert.FlashBwdIdeal.τ).loc Cert.FlashBwdIdeal.main_arg3)
      ∧ r.2.mem ((c.tc : Thread Cert.FlashBwdIdeal.nD Cert.FlashBwdIdeal.τ).loc Cert.FlashBwdIdeal.main_arg4) = m ((c.tc : Thread Cert.FlashBwdIdeal.nD Cert.FlashBwdIdeal.τ).loc Cert.FlashBwdIdeal.main_arg4)
      ∧ r.2.mem ((c.tc : Thread Cert.FlashBwdIdeal.nD Cert.FlashBwdIdeal.τ).loc Cert.FlashBwdIdeal.main_arg5) = m ((c.tc : Thread Cert.FlashBwdIdeal.nD Cert.FlashBwdIdeal.τ).loc Cert.FlashBwdIdeal.main_arg5))
      ∧ r.2.sem = fun _ => 0)

def quiescent_FlashBwdRefIdeal [hFlashBwdRefIdeal : Cert.FlashBwdRefIdeal.Facts] : Prop :=
  ∀ (m : (ℓ : Loc Cert.FlashBwdRefIdeal.nD Cert.FlashBwdRefIdeal.τ Cert.FlashBwdRefIdeal.sig) → Buf (Elt Ideal) ℓ) (g : Dev Cert.FlashBwdRefIdeal.nD → PrngReg), Pre_FlashBwdRefIdeal m →
    θ_run (Cert.FlashBwdRefIdeal.defs (F := Ideal)) (onTc (τ := Cert.FlashBwdRefIdeal.τ) (Cert.FlashBwdRefIdeal.main (F := Ideal))) ⟨m, fun _ => 0, g⟩ (fun r => (∀ c : Dev Cert.FlashBwdRefIdeal.nD,
      r.2.mem ((c.tc : Thread Cert.FlashBwdRefIdeal.nD Cert.FlashBwdRefIdeal.τ).loc Cert.FlashBwdRefIdeal.main_arg0) = m ((c.tc : Thread Cert.FlashBwdRefIdeal.nD Cert.FlashBwdRefIdeal.τ).loc Cert.FlashBwdRefIdeal.main_arg0)
      ∧ r.2.mem ((c.tc : Thread Cert.FlashBwdRefIdeal.nD Cert.FlashBwdRefIdeal.τ).loc Cert.FlashBwdRefIdeal.main_arg1) = m ((c.tc : Thread Cert.FlashBwdRefIdeal.nD Cert.FlashBwdRefIdeal.τ).loc Cert.FlashBwdRefIdeal.main_arg1)
      ∧ r.2.mem ((c.tc : Thread Cert.FlashBwdRefIdeal.nD Cert.FlashBwdRefIdeal.τ).loc Cert.FlashBwdRefIdeal.main_arg2) = m ((c.tc : Thread Cert.FlashBwdRefIdeal.nD Cert.FlashBwdRefIdeal.τ).loc Cert.FlashBwdRefIdeal.main_arg2)
      ∧ r.2.mem ((c.tc : Thread Cert.FlashBwdRefIdeal.nD Cert.FlashBwdRefIdeal.τ).loc Cert.FlashBwdRefIdeal.main_arg3) = m ((c.tc : Thread Cert.FlashBwdRefIdeal.nD Cert.FlashBwdRefIdeal.τ).loc Cert.FlashBwdRefIdeal.main_arg3)
      ∧ r.2.mem ((c.tc : Thread Cert.FlashBwdRefIdeal.nD Cert.FlashBwdRefIdeal.τ).loc Cert.FlashBwdRefIdeal.main_arg4) = m ((c.tc : Thread Cert.FlashBwdRefIdeal.nD Cert.FlashBwdRefIdeal.τ).loc Cert.FlashBwdRefIdeal.main_arg4)
      ∧ r.2.mem ((c.tc : Thread Cert.FlashBwdRefIdeal.nD Cert.FlashBwdRefIdeal.τ).loc Cert.FlashBwdRefIdeal.main_arg5) = m ((c.tc : Thread Cert.FlashBwdRefIdeal.nD Cert.FlashBwdRefIdeal.τ).loc Cert.FlashBwdRefIdeal.main_arg5))
      ∧ r.2.sem = fun _ => 0)

def quiescent_FlashBwdRefIdeal_pre_finite_flash_bwd [hFlashBwdRefIdeal : Cert.FlashBwdRefIdeal.Facts] [hPre_finite_flash_bwd : Cert.Pre_finite_flash_bwd.Facts] : Prop :=
  ∀ (m : (ℓ : Loc Cert.FlashBwdRefIdeal.nD Cert.FlashBwdRefIdeal.τ Cert.FlashBwdRefIdeal.sig) → Buf (Elt Ideal) ℓ) (g : Dev Cert.FlashBwdRefIdeal.nD → PrngReg), Pre_FlashBwdRefIdeal_finite_flash_bwd m →
    θ_run (Cert.FlashBwdRefIdeal.defs (F := Ideal)) (onTc (τ := Cert.FlashBwdRefIdeal.τ) (Cert.FlashBwdRefIdeal.main (F := Ideal))) ⟨m, fun _ => 0, g⟩ (fun r => (∀ c : Dev Cert.FlashBwdRefIdeal.nD,
      r.2.mem ((c.tc : Thread Cert.FlashBwdRefIdeal.nD Cert.FlashBwdRefIdeal.τ).loc Cert.FlashBwdRefIdeal.main_arg0) = m ((c.tc : Thread Cert.FlashBwdRefIdeal.nD Cert.FlashBwdRefIdeal.τ).loc Cert.FlashBwdRefIdeal.main_arg0)
      ∧ r.2.mem ((c.tc : Thread Cert.FlashBwdRefIdeal.nD Cert.FlashBwdRefIdeal.τ).loc Cert.FlashBwdRefIdeal.main_arg1) = m ((c.tc : Thread Cert.FlashBwdRefIdeal.nD Cert.FlashBwdRefIdeal.τ).loc Cert.FlashBwdRefIdeal.main_arg1)
      ∧ r.2.mem ((c.tc : Thread Cert.FlashBwdRefIdeal.nD Cert.FlashBwdRefIdeal.τ).loc Cert.FlashBwdRefIdeal.main_arg2) = m ((c.tc : Thread Cert.FlashBwdRefIdeal.nD Cert.FlashBwdRefIdeal.τ).loc Cert.FlashBwdRefIdeal.main_arg2)
      ∧ r.2.mem ((c.tc : Thread Cert.FlashBwdRefIdeal.nD Cert.FlashBwdRefIdeal.τ).loc Cert.FlashBwdRefIdeal.main_arg3) = m ((c.tc : Thread Cert.FlashBwdRefIdeal.nD Cert.FlashBwdRefIdeal.τ).loc Cert.FlashBwdRefIdeal.main_arg3)
      ∧ r.2.mem ((c.tc : Thread Cert.FlashBwdRefIdeal.nD Cert.FlashBwdRefIdeal.τ).loc Cert.FlashBwdRefIdeal.main_arg4) = m ((c.tc : Thread Cert.FlashBwdRefIdeal.nD Cert.FlashBwdRefIdeal.τ).loc Cert.FlashBwdRefIdeal.main_arg4)
      ∧ r.2.mem ((c.tc : Thread Cert.FlashBwdRefIdeal.nD Cert.FlashBwdRefIdeal.τ).loc Cert.FlashBwdRefIdeal.main_arg5) = m ((c.tc : Thread Cert.FlashBwdRefIdeal.nD Cert.FlashBwdRefIdeal.τ).loc Cert.FlashBwdRefIdeal.main_arg5))
      ∧ r.2.sem = fun _ => 0)

def quiescent_FlashFwd [hFlashFwd : Cert.FlashFwd.Facts] : Prop :=
  ∀ (m : (ℓ : Loc Cert.FlashFwd.nD Cert.FlashFwd.τ Cert.FlashFwd.sig) → Buf (Elt Bits) ℓ) (g : Dev Cert.FlashFwd.nD → PrngReg), Pre_FlashFwd m →
    θ_run (Cert.FlashFwd.defs (F := Bits)) (onTc (τ := Cert.FlashFwd.τ) (Cert.FlashFwd.main (F := Bits))) ⟨m, fun _ => 0, g⟩ (fun r => (∀ c : Dev Cert.FlashFwd.nD,
      r.2.mem ((c.tc : Thread Cert.FlashFwd.nD Cert.FlashFwd.τ).loc Cert.FlashFwd.main_arg0) = m ((c.tc : Thread Cert.FlashFwd.nD Cert.FlashFwd.τ).loc Cert.FlashFwd.main_arg0)
      ∧ r.2.mem ((c.tc : Thread Cert.FlashFwd.nD Cert.FlashFwd.τ).loc Cert.FlashFwd.main_arg1) = m ((c.tc : Thread Cert.FlashFwd.nD Cert.FlashFwd.τ).loc Cert.FlashFwd.main_arg1)
      ∧ r.2.mem ((c.tc : Thread Cert.FlashFwd.nD Cert.FlashFwd.τ).loc Cert.FlashFwd.main_arg2) = m ((c.tc : Thread Cert.FlashFwd.nD Cert.FlashFwd.τ).loc Cert.FlashFwd.main_arg2)
      ∧ r.2.mem ((c.tc : Thread Cert.FlashFwd.nD Cert.FlashFwd.τ).loc Cert.FlashFwd.main_arg3) = m ((c.tc : Thread Cert.FlashFwd.nD Cert.FlashFwd.τ).loc Cert.FlashFwd.main_arg3)
      ∧ r.2.mem ((c.tc : Thread Cert.FlashFwd.nD Cert.FlashFwd.τ).loc Cert.FlashFwd.main_arg4) = m ((c.tc : Thread Cert.FlashFwd.nD Cert.FlashFwd.τ).loc Cert.FlashFwd.main_arg4))
      ∧ r.2.sem = fun _ => 0)

def quiescent_FlashFwdIdeal [hFlashFwdIdeal : Cert.FlashFwdIdeal.Facts] : Prop :=
  ∀ (m : (ℓ : Loc Cert.FlashFwdIdeal.nD Cert.FlashFwdIdeal.τ Cert.FlashFwdIdeal.sig) → Buf (Elt Ideal) ℓ) (g : Dev Cert.FlashFwdIdeal.nD → PrngReg), Pre_FlashFwdIdeal m →
    θ_run (Cert.FlashFwdIdeal.defs (F := Ideal)) (onTc (τ := Cert.FlashFwdIdeal.τ) (Cert.FlashFwdIdeal.main (F := Ideal))) ⟨m, fun _ => 0, g⟩ (fun r => (∀ c : Dev Cert.FlashFwdIdeal.nD,
      r.2.mem ((c.tc : Thread Cert.FlashFwdIdeal.nD Cert.FlashFwdIdeal.τ).loc Cert.FlashFwdIdeal.main_arg0) = m ((c.tc : Thread Cert.FlashFwdIdeal.nD Cert.FlashFwdIdeal.τ).loc Cert.FlashFwdIdeal.main_arg0)
      ∧ r.2.mem ((c.tc : Thread Cert.FlashFwdIdeal.nD Cert.FlashFwdIdeal.τ).loc Cert.FlashFwdIdeal.main_arg1) = m ((c.tc : Thread Cert.FlashFwdIdeal.nD Cert.FlashFwdIdeal.τ).loc Cert.FlashFwdIdeal.main_arg1)
      ∧ r.2.mem ((c.tc : Thread Cert.FlashFwdIdeal.nD Cert.FlashFwdIdeal.τ).loc Cert.FlashFwdIdeal.main_arg2) = m ((c.tc : Thread Cert.FlashFwdIdeal.nD Cert.FlashFwdIdeal.τ).loc Cert.FlashFwdIdeal.main_arg2)
      ∧ r.2.mem ((c.tc : Thread Cert.FlashFwdIdeal.nD Cert.FlashFwdIdeal.τ).loc Cert.FlashFwdIdeal.main_arg3) = m ((c.tc : Thread Cert.FlashFwdIdeal.nD Cert.FlashFwdIdeal.τ).loc Cert.FlashFwdIdeal.main_arg3)
      ∧ r.2.mem ((c.tc : Thread Cert.FlashFwdIdeal.nD Cert.FlashFwdIdeal.τ).loc Cert.FlashFwdIdeal.main_arg4) = m ((c.tc : Thread Cert.FlashFwdIdeal.nD Cert.FlashFwdIdeal.τ).loc Cert.FlashFwdIdeal.main_arg4))
      ∧ r.2.sem = fun _ => 0)

def quiescent_FlashFwdIdeal_pre_finite_flash_fwd [hFlashFwdIdeal : Cert.FlashFwdIdeal.Facts] [hPre_finite_flash_fwd : Cert.Pre_finite_flash_fwd.Facts] : Prop :=
  ∀ (m : (ℓ : Loc Cert.FlashFwdIdeal.nD Cert.FlashFwdIdeal.τ Cert.FlashFwdIdeal.sig) → Buf (Elt Ideal) ℓ) (g : Dev Cert.FlashFwdIdeal.nD → PrngReg), Pre_FlashFwdIdeal_finite_flash_fwd m →
    θ_run (Cert.FlashFwdIdeal.defs (F := Ideal)) (onTc (τ := Cert.FlashFwdIdeal.τ) (Cert.FlashFwdIdeal.main (F := Ideal))) ⟨m, fun _ => 0, g⟩ (fun r => (∀ c : Dev Cert.FlashFwdIdeal.nD,
      r.2.mem ((c.tc : Thread Cert.FlashFwdIdeal.nD Cert.FlashFwdIdeal.τ).loc Cert.FlashFwdIdeal.main_arg0) = m ((c.tc : Thread Cert.FlashFwdIdeal.nD Cert.FlashFwdIdeal.τ).loc Cert.FlashFwdIdeal.main_arg0)
      ∧ r.2.mem ((c.tc : Thread Cert.FlashFwdIdeal.nD Cert.FlashFwdIdeal.τ).loc Cert.FlashFwdIdeal.main_arg1) = m ((c.tc : Thread Cert.FlashFwdIdeal.nD Cert.FlashFwdIdeal.τ).loc Cert.FlashFwdIdeal.main_arg1)
      ∧ r.2.mem ((c.tc : Thread Cert.FlashFwdIdeal.nD Cert.FlashFwdIdeal.τ).loc Cert.FlashFwdIdeal.main_arg2) = m ((c.tc : Thread Cert.FlashFwdIdeal.nD Cert.FlashFwdIdeal.τ).loc Cert.FlashFwdIdeal.main_arg2)
      ∧ r.2.mem ((c.tc : Thread Cert.FlashFwdIdeal.nD Cert.FlashFwdIdeal.τ).loc Cert.FlashFwdIdeal.main_arg3) = m ((c.tc : Thread Cert.FlashFwdIdeal.nD Cert.FlashFwdIdeal.τ).loc Cert.FlashFwdIdeal.main_arg3)
      ∧ r.2.mem ((c.tc : Thread Cert.FlashFwdIdeal.nD Cert.FlashFwdIdeal.τ).loc Cert.FlashFwdIdeal.main_arg4) = m ((c.tc : Thread Cert.FlashFwdIdeal.nD Cert.FlashFwdIdeal.τ).loc Cert.FlashFwdIdeal.main_arg4))
      ∧ r.2.sem = fun _ => 0)

def quiescent_FlashFwdRefIdeal [hFlashFwdRefIdeal : Cert.FlashFwdRefIdeal.Facts] : Prop :=
  ∀ (m : (ℓ : Loc Cert.FlashFwdRefIdeal.nD Cert.FlashFwdRefIdeal.τ Cert.FlashFwdRefIdeal.sig) → Buf (Elt Ideal) ℓ) (g : Dev Cert.FlashFwdRefIdeal.nD → PrngReg), Pre_FlashFwdRefIdeal m →
    θ_run (Cert.FlashFwdRefIdeal.defs (F := Ideal)) (onTc (τ := Cert.FlashFwdRefIdeal.τ) (Cert.FlashFwdRefIdeal.main (F := Ideal))) ⟨m, fun _ => 0, g⟩ (fun r => (∀ c : Dev Cert.FlashFwdRefIdeal.nD,
      r.2.mem ((c.tc : Thread Cert.FlashFwdRefIdeal.nD Cert.FlashFwdRefIdeal.τ).loc Cert.FlashFwdRefIdeal.main_arg0) = m ((c.tc : Thread Cert.FlashFwdRefIdeal.nD Cert.FlashFwdRefIdeal.τ).loc Cert.FlashFwdRefIdeal.main_arg0)
      ∧ r.2.mem ((c.tc : Thread Cert.FlashFwdRefIdeal.nD Cert.FlashFwdRefIdeal.τ).loc Cert.FlashFwdRefIdeal.main_arg1) = m ((c.tc : Thread Cert.FlashFwdRefIdeal.nD Cert.FlashFwdRefIdeal.τ).loc Cert.FlashFwdRefIdeal.main_arg1)
      ∧ r.2.mem ((c.tc : Thread Cert.FlashFwdRefIdeal.nD Cert.FlashFwdRefIdeal.τ).loc Cert.FlashFwdRefIdeal.main_arg2) = m ((c.tc : Thread Cert.FlashFwdRefIdeal.nD Cert.FlashFwdRefIdeal.τ).loc Cert.FlashFwdRefIdeal.main_arg2)
      ∧ r.2.mem ((c.tc : Thread Cert.FlashFwdRefIdeal.nD Cert.FlashFwdRefIdeal.τ).loc Cert.FlashFwdRefIdeal.main_arg3) = m ((c.tc : Thread Cert.FlashFwdRefIdeal.nD Cert.FlashFwdRefIdeal.τ).loc Cert.FlashFwdRefIdeal.main_arg3)
      ∧ r.2.mem ((c.tc : Thread Cert.FlashFwdRefIdeal.nD Cert.FlashFwdRefIdeal.τ).loc Cert.FlashFwdRefIdeal.main_arg4) = m ((c.tc : Thread Cert.FlashFwdRefIdeal.nD Cert.FlashFwdRefIdeal.τ).loc Cert.FlashFwdRefIdeal.main_arg4))
      ∧ r.2.sem = fun _ => 0)

def quiescent_FlashFwdRefIdeal_pre_finite_flash_fwd [hFlashFwdRefIdeal : Cert.FlashFwdRefIdeal.Facts] [hPre_finite_flash_fwd : Cert.Pre_finite_flash_fwd.Facts] : Prop :=
  ∀ (m : (ℓ : Loc Cert.FlashFwdRefIdeal.nD Cert.FlashFwdRefIdeal.τ Cert.FlashFwdRefIdeal.sig) → Buf (Elt Ideal) ℓ) (g : Dev Cert.FlashFwdRefIdeal.nD → PrngReg), Pre_FlashFwdRefIdeal_finite_flash_fwd m →
    θ_run (Cert.FlashFwdRefIdeal.defs (F := Ideal)) (onTc (τ := Cert.FlashFwdRefIdeal.τ) (Cert.FlashFwdRefIdeal.main (F := Ideal))) ⟨m, fun _ => 0, g⟩ (fun r => (∀ c : Dev Cert.FlashFwdRefIdeal.nD,
      r.2.mem ((c.tc : Thread Cert.FlashFwdRefIdeal.nD Cert.FlashFwdRefIdeal.τ).loc Cert.FlashFwdRefIdeal.main_arg0) = m ((c.tc : Thread Cert.FlashFwdRefIdeal.nD Cert.FlashFwdRefIdeal.τ).loc Cert.FlashFwdRefIdeal.main_arg0)
      ∧ r.2.mem ((c.tc : Thread Cert.FlashFwdRefIdeal.nD Cert.FlashFwdRefIdeal.τ).loc Cert.FlashFwdRefIdeal.main_arg1) = m ((c.tc : Thread Cert.FlashFwdRefIdeal.nD Cert.FlashFwdRefIdeal.τ).loc Cert.FlashFwdRefIdeal.main_arg1)
      ∧ r.2.mem ((c.tc : Thread Cert.FlashFwdRefIdeal.nD Cert.FlashFwdRefIdeal.τ).loc Cert.FlashFwdRefIdeal.main_arg2) = m ((c.tc : Thread Cert.FlashFwdRefIdeal.nD Cert.FlashFwdRefIdeal.τ).loc Cert.FlashFwdRefIdeal.main_arg2)
      ∧ r.2.mem ((c.tc : Thread Cert.FlashFwdRefIdeal.nD Cert.FlashFwdRefIdeal.τ).loc Cert.FlashFwdRefIdeal.main_arg3) = m ((c.tc : Thread Cert.FlashFwdRefIdeal.nD Cert.FlashFwdRefIdeal.τ).loc Cert.FlashFwdRefIdeal.main_arg3)
      ∧ r.2.mem ((c.tc : Thread Cert.FlashFwdRefIdeal.nD Cert.FlashFwdRefIdeal.τ).loc Cert.FlashFwdRefIdeal.main_arg4) = m ((c.tc : Thread Cert.FlashFwdRefIdeal.nD Cert.FlashFwdRefIdeal.τ).loc Cert.FlashFwdRefIdeal.main_arg4))
      ∧ r.2.sem = fun _ => 0)

def quiescent_ConvLnSiluBwd [hConvLnSiluBwd : Cert.ConvLnSiluBwd.Facts] : Prop :=
  ∀ (m : (ℓ : Loc Cert.ConvLnSiluBwd.nD Cert.ConvLnSiluBwd.τ Cert.ConvLnSiluBwd.sig) → Buf (Elt Bits) ℓ) (g : Dev Cert.ConvLnSiluBwd.nD → PrngReg), Pre_ConvLnSiluBwd m →
    θ_run (Cert.ConvLnSiluBwd.defs (F := Bits)) (onTc (τ := Cert.ConvLnSiluBwd.τ) (Cert.ConvLnSiluBwd.main (F := Bits))) ⟨m, fun _ => 0, g⟩ (fun r => (∀ c : Dev Cert.ConvLnSiluBwd.nD,
      r.2.mem ((c.tc : Thread Cert.ConvLnSiluBwd.nD Cert.ConvLnSiluBwd.τ).loc Cert.ConvLnSiluBwd.main_arg0) = m ((c.tc : Thread Cert.ConvLnSiluBwd.nD Cert.ConvLnSiluBwd.τ).loc Cert.ConvLnSiluBwd.main_arg0)
      ∧ r.2.mem ((c.tc : Thread Cert.ConvLnSiluBwd.nD Cert.ConvLnSiluBwd.τ).loc Cert.ConvLnSiluBwd.main_arg1) = m ((c.tc : Thread Cert.ConvLnSiluBwd.nD Cert.ConvLnSiluBwd.τ).loc Cert.ConvLnSiluBwd.main_arg1)
      ∧ r.2.mem ((c.tc : Thread Cert.ConvLnSiluBwd.nD Cert.ConvLnSiluBwd.τ).loc Cert.ConvLnSiluBwd.main_arg2) = m ((c.tc : Thread Cert.ConvLnSiluBwd.nD Cert.ConvLnSiluBwd.τ).loc Cert.ConvLnSiluBwd.main_arg2)
      ∧ r.2.mem ((c.tc : Thread Cert.ConvLnSiluBwd.nD Cert.ConvLnSiluBwd.τ).loc Cert.ConvLnSiluBwd.main_arg3) = m ((c.tc : Thread Cert.ConvLnSiluBwd.nD Cert.ConvLnSiluBwd.τ).loc Cert.ConvLnSiluBwd.main_arg3))
      ∧ r.2.sem = fun _ => 0)

def quiescent_ConvLnSiluBwdIdeal [hConvLnSiluBwdIdeal : Cert.ConvLnSiluBwdIdeal.Facts] : Prop :=
  ∀ (m : (ℓ : Loc Cert.ConvLnSiluBwdIdeal.nD Cert.ConvLnSiluBwdIdeal.τ Cert.ConvLnSiluBwdIdeal.sig) → Buf (Elt Ideal) ℓ) (g : Dev Cert.ConvLnSiluBwdIdeal.nD → PrngReg), Pre_ConvLnSiluBwdIdeal m →
    θ_run (Cert.ConvLnSiluBwdIdeal.defs (F := Ideal)) (onTc (τ := Cert.ConvLnSiluBwdIdeal.τ) (Cert.ConvLnSiluBwdIdeal.main (F := Ideal))) ⟨m, fun _ => 0, g⟩ (fun r => (∀ c : Dev Cert.ConvLnSiluBwdIdeal.nD,
      r.2.mem ((c.tc : Thread Cert.ConvLnSiluBwdIdeal.nD Cert.ConvLnSiluBwdIdeal.τ).loc Cert.ConvLnSiluBwdIdeal.main_arg0) = m ((c.tc : Thread Cert.ConvLnSiluBwdIdeal.nD Cert.ConvLnSiluBwdIdeal.τ).loc Cert.ConvLnSiluBwdIdeal.main_arg0)
      ∧ r.2.mem ((c.tc : Thread Cert.ConvLnSiluBwdIdeal.nD Cert.ConvLnSiluBwdIdeal.τ).loc Cert.ConvLnSiluBwdIdeal.main_arg1) = m ((c.tc : Thread Cert.ConvLnSiluBwdIdeal.nD Cert.ConvLnSiluBwdIdeal.τ).loc Cert.ConvLnSiluBwdIdeal.main_arg1)
      ∧ r.2.mem ((c.tc : Thread Cert.ConvLnSiluBwdIdeal.nD Cert.ConvLnSiluBwdIdeal.τ).loc Cert.ConvLnSiluBwdIdeal.main_arg2) = m ((c.tc : Thread Cert.ConvLnSiluBwdIdeal.nD Cert.ConvLnSiluBwdIdeal.τ).loc Cert.ConvLnSiluBwdIdeal.main_arg2)
      ∧ r.2.mem ((c.tc : Thread Cert.ConvLnSiluBwdIdeal.nD Cert.ConvLnSiluBwdIdeal.τ).loc Cert.ConvLnSiluBwdIdeal.main_arg3) = m ((c.tc : Thread Cert.ConvLnSiluBwdIdeal.nD Cert.ConvLnSiluBwdIdeal.τ).loc Cert.ConvLnSiluBwdIdeal.main_arg3))
      ∧ r.2.sem = fun _ => 0)

def quiescent_ConvLnSiluBwdIdeal_pre_finite_conv_ln_silu_bwd [hConvLnSiluBwdIdeal : Cert.ConvLnSiluBwdIdeal.Facts] [hPre_finite_conv_ln_silu_bwd : Cert.Pre_finite_conv_ln_silu_bwd.Facts] : Prop :=
  ∀ (m : (ℓ : Loc Cert.ConvLnSiluBwdIdeal.nD Cert.ConvLnSiluBwdIdeal.τ Cert.ConvLnSiluBwdIdeal.sig) → Buf (Elt Ideal) ℓ) (g : Dev Cert.ConvLnSiluBwdIdeal.nD → PrngReg), Pre_ConvLnSiluBwdIdeal_finite_conv_ln_silu_bwd m →
    θ_run (Cert.ConvLnSiluBwdIdeal.defs (F := Ideal)) (onTc (τ := Cert.ConvLnSiluBwdIdeal.τ) (Cert.ConvLnSiluBwdIdeal.main (F := Ideal))) ⟨m, fun _ => 0, g⟩ (fun r => (∀ c : Dev Cert.ConvLnSiluBwdIdeal.nD,
      r.2.mem ((c.tc : Thread Cert.ConvLnSiluBwdIdeal.nD Cert.ConvLnSiluBwdIdeal.τ).loc Cert.ConvLnSiluBwdIdeal.main_arg0) = m ((c.tc : Thread Cert.ConvLnSiluBwdIdeal.nD Cert.ConvLnSiluBwdIdeal.τ).loc Cert.ConvLnSiluBwdIdeal.main_arg0)
      ∧ r.2.mem ((c.tc : Thread Cert.ConvLnSiluBwdIdeal.nD Cert.ConvLnSiluBwdIdeal.τ).loc Cert.ConvLnSiluBwdIdeal.main_arg1) = m ((c.tc : Thread Cert.ConvLnSiluBwdIdeal.nD Cert.ConvLnSiluBwdIdeal.τ).loc Cert.ConvLnSiluBwdIdeal.main_arg1)
      ∧ r.2.mem ((c.tc : Thread Cert.ConvLnSiluBwdIdeal.nD Cert.ConvLnSiluBwdIdeal.τ).loc Cert.ConvLnSiluBwdIdeal.main_arg2) = m ((c.tc : Thread Cert.ConvLnSiluBwdIdeal.nD Cert.ConvLnSiluBwdIdeal.τ).loc Cert.ConvLnSiluBwdIdeal.main_arg2)
      ∧ r.2.mem ((c.tc : Thread Cert.ConvLnSiluBwdIdeal.nD Cert.ConvLnSiluBwdIdeal.τ).loc Cert.ConvLnSiluBwdIdeal.main_arg3) = m ((c.tc : Thread Cert.ConvLnSiluBwdIdeal.nD Cert.ConvLnSiluBwdIdeal.τ).loc Cert.ConvLnSiluBwdIdeal.main_arg3))
      ∧ r.2.sem = fun _ => 0)

def quiescent_ConvLnSiluBwdRefIdeal [hConvLnSiluBwdRefIdeal : Cert.ConvLnSiluBwdRefIdeal.Facts] : Prop :=
  ∀ (m : (ℓ : Loc Cert.ConvLnSiluBwdRefIdeal.nD Cert.ConvLnSiluBwdRefIdeal.τ Cert.ConvLnSiluBwdRefIdeal.sig) → Buf (Elt Ideal) ℓ) (g : Dev Cert.ConvLnSiluBwdRefIdeal.nD → PrngReg), Pre_ConvLnSiluBwdRefIdeal m →
    θ_run (Cert.ConvLnSiluBwdRefIdeal.defs (F := Ideal)) (onTc (τ := Cert.ConvLnSiluBwdRefIdeal.τ) (Cert.ConvLnSiluBwdRefIdeal.main (F := Ideal))) ⟨m, fun _ => 0, g⟩ (fun r => (∀ c : Dev Cert.ConvLnSiluBwdRefIdeal.nD,
      r.2.mem ((c.tc : Thread Cert.ConvLnSiluBwdRefIdeal.nD Cert.ConvLnSiluBwdRefIdeal.τ).loc Cert.ConvLnSiluBwdRefIdeal.main_arg0) = m ((c.tc : Thread Cert.ConvLnSiluBwdRefIdeal.nD Cert.ConvLnSiluBwdRefIdeal.τ).loc Cert.ConvLnSiluBwdRefIdeal.main_arg0)
      ∧ r.2.mem ((c.tc : Thread Cert.ConvLnSiluBwdRefIdeal.nD Cert.ConvLnSiluBwdRefIdeal.τ).loc Cert.ConvLnSiluBwdRefIdeal.main_arg1) = m ((c.tc : Thread Cert.ConvLnSiluBwdRefIdeal.nD Cert.ConvLnSiluBwdRefIdeal.τ).loc Cert.ConvLnSiluBwdRefIdeal.main_arg1)
      ∧ r.2.mem ((c.tc : Thread Cert.ConvLnSiluBwdRefIdeal.nD Cert.ConvLnSiluBwdRefIdeal.τ).loc Cert.ConvLnSiluBwdRefIdeal.main_arg2) = m ((c.tc : Thread Cert.ConvLnSiluBwdRefIdeal.nD Cert.ConvLnSiluBwdRefIdeal.τ).loc Cert.ConvLnSiluBwdRefIdeal.main_arg2)
      ∧ r.2.mem ((c.tc : Thread Cert.ConvLnSiluBwdRefIdeal.nD Cert.ConvLnSiluBwdRefIdeal.τ).loc Cert.ConvLnSiluBwdRefIdeal.main_arg3) = m ((c.tc : Thread Cert.ConvLnSiluBwdRefIdeal.nD Cert.ConvLnSiluBwdRefIdeal.τ).loc Cert.ConvLnSiluBwdRefIdeal.main_arg3))
      ∧ r.2.sem = fun _ => 0)

def quiescent_ConvLnSiluBwdRefIdeal_pre_finite_conv_ln_silu_bwd [hConvLnSiluBwdRefIdeal : Cert.ConvLnSiluBwdRefIdeal.Facts] [hPre_finite_conv_ln_silu_bwd : Cert.Pre_finite_conv_ln_silu_bwd.Facts] : Prop :=
  ∀ (m : (ℓ : Loc Cert.ConvLnSiluBwdRefIdeal.nD Cert.ConvLnSiluBwdRefIdeal.τ Cert.ConvLnSiluBwdRefIdeal.sig) → Buf (Elt Ideal) ℓ) (g : Dev Cert.ConvLnSiluBwdRefIdeal.nD → PrngReg), Pre_ConvLnSiluBwdRefIdeal_finite_conv_ln_silu_bwd m →
    θ_run (Cert.ConvLnSiluBwdRefIdeal.defs (F := Ideal)) (onTc (τ := Cert.ConvLnSiluBwdRefIdeal.τ) (Cert.ConvLnSiluBwdRefIdeal.main (F := Ideal))) ⟨m, fun _ => 0, g⟩ (fun r => (∀ c : Dev Cert.ConvLnSiluBwdRefIdeal.nD,
      r.2.mem ((c.tc : Thread Cert.ConvLnSiluBwdRefIdeal.nD Cert.ConvLnSiluBwdRefIdeal.τ).loc Cert.ConvLnSiluBwdRefIdeal.main_arg0) = m ((c.tc : Thread Cert.ConvLnSiluBwdRefIdeal.nD Cert.ConvLnSiluBwdRefIdeal.τ).loc Cert.ConvLnSiluBwdRefIdeal.main_arg0)
      ∧ r.2.mem ((c.tc : Thread Cert.ConvLnSiluBwdRefIdeal.nD Cert.ConvLnSiluBwdRefIdeal.τ).loc Cert.ConvLnSiluBwdRefIdeal.main_arg1) = m ((c.tc : Thread Cert.ConvLnSiluBwdRefIdeal.nD Cert.ConvLnSiluBwdRefIdeal.τ).loc Cert.ConvLnSiluBwdRefIdeal.main_arg1)
      ∧ r.2.mem ((c.tc : Thread Cert.ConvLnSiluBwdRefIdeal.nD Cert.ConvLnSiluBwdRefIdeal.τ).loc Cert.ConvLnSiluBwdRefIdeal.main_arg2) = m ((c.tc : Thread Cert.ConvLnSiluBwdRefIdeal.nD Cert.ConvLnSiluBwdRefIdeal.τ).loc Cert.ConvLnSiluBwdRefIdeal.main_arg2)
      ∧ r.2.mem ((c.tc : Thread Cert.ConvLnSiluBwdRefIdeal.nD Cert.ConvLnSiluBwdRefIdeal.τ).loc Cert.ConvLnSiluBwdRefIdeal.main_arg3) = m ((c.tc : Thread Cert.ConvLnSiluBwdRefIdeal.nD Cert.ConvLnSiluBwdRefIdeal.τ).loc Cert.ConvLnSiluBwdRefIdeal.main_arg3))
      ∧ r.2.sem = fun _ => 0)

def quiescent_QDgradRms [hQDgradRms : Cert.QDgradRms.Facts] : Prop :=
  ∀ (m : (ℓ : Loc Cert.QDgradRms.nD Cert.QDgradRms.τ Cert.QDgradRms.sig) → Buf (Elt Bits) ℓ) (g : Dev Cert.QDgradRms.nD → PrngReg), Pre_QDgradRms m →
    θ_run (Cert.QDgradRms.defs (F := Bits)) (onTc (τ := Cert.QDgradRms.τ) (Cert.QDgradRms.main (F := Bits))) ⟨m, fun _ => 0, g⟩ (fun r => (∀ c : Dev Cert.QDgradRms.nD,
      r.2.mem ((c.tc : Thread Cert.QDgradRms.nD Cert.QDgradRms.τ).loc Cert.QDgradRms.main_arg0) = m ((c.tc : Thread Cert.QDgradRms.nD Cert.QDgradRms.τ).loc Cert.QDgradRms.main_arg0)
      ∧ r.2.mem ((c.tc : Thread Cert.QDgradRms.nD Cert.QDgradRms.τ).loc Cert.QDgradRms.main_arg1) = m ((c.tc : Thread Cert.QDgradRms.nD Cert.QDgradRms.τ).loc Cert.QDgradRms.main_arg1)
      ∧ r.2.mem ((c.tc : Thread Cert.QDgradRms.nD Cert.QDgradRms.τ).loc Cert.QDgradRms.main_arg2) = m ((c.tc : Thread Cert.QDgradRms.nD Cert.QDgradRms.τ).loc Cert.QDgradRms.main_arg2)
      ∧ r.2.mem ((c.tc : Thread Cert.QDgradRms.nD Cert.QDgradRms.τ).loc Cert.QDgradRms.main_arg3) = m ((c.tc : Thread Cert.QDgradRms.nD Cert.QDgradRms.τ).loc Cert.QDgradRms.main_arg3)
      ∧ r.2.mem ((c.tc : Thread Cert.QDgradRms.nD Cert.QDgradRms.τ).loc Cert.QDgradRms.main_arg4) = m ((c.tc : Thread Cert.QDgradRms.nD Cert.QDgradRms.τ).loc Cert.QDgradRms.main_arg4))
      ∧ r.2.sem = fun _ => 0)

def quiescent_QDgradRmsIdeal [hQDgradRmsIdeal : Cert.QDgradRmsIdeal.Facts] : Prop :=
  ∀ (m : (ℓ : Loc Cert.QDgradRmsIdeal.nD Cert.QDgradRmsIdeal.τ Cert.QDgradRmsIdeal.sig) → Buf (Elt Ideal) ℓ) (g : Dev Cert.QDgradRmsIdeal.nD → PrngReg), Pre_QDgradRmsIdeal m →
    θ_run (Cert.QDgradRmsIdeal.defs (F := Ideal)) (onTc (τ := Cert.QDgradRmsIdeal.τ) (Cert.QDgradRmsIdeal.main (F := Ideal))) ⟨m, fun _ => 0, g⟩ (fun r => (∀ c : Dev Cert.QDgradRmsIdeal.nD,
      r.2.mem ((c.tc : Thread Cert.QDgradRmsIdeal.nD Cert.QDgradRmsIdeal.τ).loc Cert.QDgradRmsIdeal.main_arg0) = m ((c.tc : Thread Cert.QDgradRmsIdeal.nD Cert.QDgradRmsIdeal.τ).loc Cert.QDgradRmsIdeal.main_arg0)
      ∧ r.2.mem ((c.tc : Thread Cert.QDgradRmsIdeal.nD Cert.QDgradRmsIdeal.τ).loc Cert.QDgradRmsIdeal.main_arg1) = m ((c.tc : Thread Cert.QDgradRmsIdeal.nD Cert.QDgradRmsIdeal.τ).loc Cert.QDgradRmsIdeal.main_arg1)
      ∧ r.2.mem ((c.tc : Thread Cert.QDgradRmsIdeal.nD Cert.QDgradRmsIdeal.τ).loc Cert.QDgradRmsIdeal.main_arg2) = m ((c.tc : Thread Cert.QDgradRmsIdeal.nD Cert.QDgradRmsIdeal.τ).loc Cert.QDgradRmsIdeal.main_arg2)
      ∧ r.2.mem ((c.tc : Thread Cert.QDgradRmsIdeal.nD Cert.QDgradRmsIdeal.τ).loc Cert.QDgradRmsIdeal.main_arg3) = m ((c.tc : Thread Cert.QDgradRmsIdeal.nD Cert.QDgradRmsIdeal.τ).loc Cert.QDgradRmsIdeal.main_arg3)
      ∧ r.2.mem ((c.tc : Thread Cert.QDgradRmsIdeal.nD Cert.QDgradRmsIdeal.τ).loc Cert.QDgradRmsIdeal.main_arg4) = m ((c.tc : Thread Cert.QDgradRmsIdeal.nD Cert.QDgradRmsIdeal.τ).loc Cert.QDgradRmsIdeal.main_arg4))
      ∧ r.2.sem = fun _ => 0)

def quiescent_QDgradRmsIdeal_pre_finite_q_dgrad_rms_bwd [hQDgradRmsIdeal : Cert.QDgradRmsIdeal.Facts] [hPre_finite_q_dgrad_rms_bwd : Cert.Pre_finite_q_dgrad_rms_bwd.Facts] : Prop :=
  ∀ (m : (ℓ : Loc Cert.QDgradRmsIdeal.nD Cert.QDgradRmsIdeal.τ Cert.QDgradRmsIdeal.sig) → Buf (Elt Ideal) ℓ) (g : Dev Cert.QDgradRmsIdeal.nD → PrngReg), Pre_QDgradRmsIdeal_finite_q_dgrad_rms_bwd m →
    θ_run (Cert.QDgradRmsIdeal.defs (F := Ideal)) (onTc (τ := Cert.QDgradRmsIdeal.τ) (Cert.QDgradRmsIdeal.main (F := Ideal))) ⟨m, fun _ => 0, g⟩ (fun r => (∀ c : Dev Cert.QDgradRmsIdeal.nD,
      r.2.mem ((c.tc : Thread Cert.QDgradRmsIdeal.nD Cert.QDgradRmsIdeal.τ).loc Cert.QDgradRmsIdeal.main_arg0) = m ((c.tc : Thread Cert.QDgradRmsIdeal.nD Cert.QDgradRmsIdeal.τ).loc Cert.QDgradRmsIdeal.main_arg0)
      ∧ r.2.mem ((c.tc : Thread Cert.QDgradRmsIdeal.nD Cert.QDgradRmsIdeal.τ).loc Cert.QDgradRmsIdeal.main_arg1) = m ((c.tc : Thread Cert.QDgradRmsIdeal.nD Cert.QDgradRmsIdeal.τ).loc Cert.QDgradRmsIdeal.main_arg1)
      ∧ r.2.mem ((c.tc : Thread Cert.QDgradRmsIdeal.nD Cert.QDgradRmsIdeal.τ).loc Cert.QDgradRmsIdeal.main_arg2) = m ((c.tc : Thread Cert.QDgradRmsIdeal.nD Cert.QDgradRmsIdeal.τ).loc Cert.QDgradRmsIdeal.main_arg2)
      ∧ r.2.mem ((c.tc : Thread Cert.QDgradRmsIdeal.nD Cert.QDgradRmsIdeal.τ).loc Cert.QDgradRmsIdeal.main_arg3) = m ((c.tc : Thread Cert.QDgradRmsIdeal.nD Cert.QDgradRmsIdeal.τ).loc Cert.QDgradRmsIdeal.main_arg3)
      ∧ r.2.mem ((c.tc : Thread Cert.QDgradRmsIdeal.nD Cert.QDgradRmsIdeal.τ).loc Cert.QDgradRmsIdeal.main_arg4) = m ((c.tc : Thread Cert.QDgradRmsIdeal.nD Cert.QDgradRmsIdeal.τ).loc Cert.QDgradRmsIdeal.main_arg4))
      ∧ r.2.sem = fun _ => 0)

def quiescent_QDgradRmsRefIdeal [hQDgradRmsRefIdeal : Cert.QDgradRmsRefIdeal.Facts] : Prop :=
  ∀ (m : (ℓ : Loc Cert.QDgradRmsRefIdeal.nD Cert.QDgradRmsRefIdeal.τ Cert.QDgradRmsRefIdeal.sig) → Buf (Elt Ideal) ℓ) (g : Dev Cert.QDgradRmsRefIdeal.nD → PrngReg), Pre_QDgradRmsRefIdeal m →
    θ_run (Cert.QDgradRmsRefIdeal.defs (F := Ideal)) (onTc (τ := Cert.QDgradRmsRefIdeal.τ) (Cert.QDgradRmsRefIdeal.main (F := Ideal))) ⟨m, fun _ => 0, g⟩ (fun r => (∀ c : Dev Cert.QDgradRmsRefIdeal.nD,
      r.2.mem ((c.tc : Thread Cert.QDgradRmsRefIdeal.nD Cert.QDgradRmsRefIdeal.τ).loc Cert.QDgradRmsRefIdeal.main_arg0) = m ((c.tc : Thread Cert.QDgradRmsRefIdeal.nD Cert.QDgradRmsRefIdeal.τ).loc Cert.QDgradRmsRefIdeal.main_arg0)
      ∧ r.2.mem ((c.tc : Thread Cert.QDgradRmsRefIdeal.nD Cert.QDgradRmsRefIdeal.τ).loc Cert.QDgradRmsRefIdeal.main_arg1) = m ((c.tc : Thread Cert.QDgradRmsRefIdeal.nD Cert.QDgradRmsRefIdeal.τ).loc Cert.QDgradRmsRefIdeal.main_arg1)
      ∧ r.2.mem ((c.tc : Thread Cert.QDgradRmsRefIdeal.nD Cert.QDgradRmsRefIdeal.τ).loc Cert.QDgradRmsRefIdeal.main_arg2) = m ((c.tc : Thread Cert.QDgradRmsRefIdeal.nD Cert.QDgradRmsRefIdeal.τ).loc Cert.QDgradRmsRefIdeal.main_arg2)
      ∧ r.2.mem ((c.tc : Thread Cert.QDgradRmsRefIdeal.nD Cert.QDgradRmsRefIdeal.τ).loc Cert.QDgradRmsRefIdeal.main_arg3) = m ((c.tc : Thread Cert.QDgradRmsRefIdeal.nD Cert.QDgradRmsRefIdeal.τ).loc Cert.QDgradRmsRefIdeal.main_arg3)
      ∧ r.2.mem ((c.tc : Thread Cert.QDgradRmsRefIdeal.nD Cert.QDgradRmsRefIdeal.τ).loc Cert.QDgradRmsRefIdeal.main_arg4) = m ((c.tc : Thread Cert.QDgradRmsRefIdeal.nD Cert.QDgradRmsRefIdeal.τ).loc Cert.QDgradRmsRefIdeal.main_arg4))
      ∧ r.2.sem = fun _ => 0)

def quiescent_QDgradRmsRefIdeal_pre_finite_q_dgrad_rms_bwd [hQDgradRmsRefIdeal : Cert.QDgradRmsRefIdeal.Facts] [hPre_finite_q_dgrad_rms_bwd : Cert.Pre_finite_q_dgrad_rms_bwd.Facts] : Prop :=
  ∀ (m : (ℓ : Loc Cert.QDgradRmsRefIdeal.nD Cert.QDgradRmsRefIdeal.τ Cert.QDgradRmsRefIdeal.sig) → Buf (Elt Ideal) ℓ) (g : Dev Cert.QDgradRmsRefIdeal.nD → PrngReg), Pre_QDgradRmsRefIdeal_finite_q_dgrad_rms_bwd m →
    θ_run (Cert.QDgradRmsRefIdeal.defs (F := Ideal)) (onTc (τ := Cert.QDgradRmsRefIdeal.τ) (Cert.QDgradRmsRefIdeal.main (F := Ideal))) ⟨m, fun _ => 0, g⟩ (fun r => (∀ c : Dev Cert.QDgradRmsRefIdeal.nD,
      r.2.mem ((c.tc : Thread Cert.QDgradRmsRefIdeal.nD Cert.QDgradRmsRefIdeal.τ).loc Cert.QDgradRmsRefIdeal.main_arg0) = m ((c.tc : Thread Cert.QDgradRmsRefIdeal.nD Cert.QDgradRmsRefIdeal.τ).loc Cert.QDgradRmsRefIdeal.main_arg0)
      ∧ r.2.mem ((c.tc : Thread Cert.QDgradRmsRefIdeal.nD Cert.QDgradRmsRefIdeal.τ).loc Cert.QDgradRmsRefIdeal.main_arg1) = m ((c.tc : Thread Cert.QDgradRmsRefIdeal.nD Cert.QDgradRmsRefIdeal.τ).loc Cert.QDgradRmsRefIdeal.main_arg1)
      ∧ r.2.mem ((c.tc : Thread Cert.QDgradRmsRefIdeal.nD Cert.QDgradRmsRefIdeal.τ).loc Cert.QDgradRmsRefIdeal.main_arg2) = m ((c.tc : Thread Cert.QDgradRmsRefIdeal.nD Cert.QDgradRmsRefIdeal.τ).loc Cert.QDgradRmsRefIdeal.main_arg2)
      ∧ r.2.mem ((c.tc : Thread Cert.QDgradRmsRefIdeal.nD Cert.QDgradRmsRefIdeal.τ).loc Cert.QDgradRmsRefIdeal.main_arg3) = m ((c.tc : Thread Cert.QDgradRmsRefIdeal.nD Cert.QDgradRmsRefIdeal.τ).loc Cert.QDgradRmsRefIdeal.main_arg3)
      ∧ r.2.mem ((c.tc : Thread Cert.QDgradRmsRefIdeal.nD Cert.QDgradRmsRefIdeal.τ).loc Cert.QDgradRmsRefIdeal.main_arg4) = m ((c.tc : Thread Cert.QDgradRmsRefIdeal.nD Cert.QDgradRmsRefIdeal.τ).loc Cert.QDgradRmsRefIdeal.main_arg4))
      ∧ r.2.sem = fun _ => 0)

def quiescent_KvDgradRms [hKvDgradRms : Cert.KvDgradRms.Facts] : Prop :=
  ∀ (m : (ℓ : Loc Cert.KvDgradRms.nD Cert.KvDgradRms.τ Cert.KvDgradRms.sig) → Buf (Elt Bits) ℓ) (g : Dev Cert.KvDgradRms.nD → PrngReg), Pre_KvDgradRms m →
    θ_run (Cert.KvDgradRms.defs (F := Bits)) (onTc (τ := Cert.KvDgradRms.τ) (Cert.KvDgradRms.main (F := Bits))) ⟨m, fun _ => 0, g⟩ (fun r => (∀ c : Dev Cert.KvDgradRms.nD,
      r.2.mem ((c.tc : Thread Cert.KvDgradRms.nD Cert.KvDgradRms.τ).loc Cert.KvDgradRms.main_arg0) = m ((c.tc : Thread Cert.KvDgradRms.nD Cert.KvDgradRms.τ).loc Cert.KvDgradRms.main_arg0)
      ∧ r.2.mem ((c.tc : Thread Cert.KvDgradRms.nD Cert.KvDgradRms.τ).loc Cert.KvDgradRms.main_arg1) = m ((c.tc : Thread Cert.KvDgradRms.nD Cert.KvDgradRms.τ).loc Cert.KvDgradRms.main_arg1)
      ∧ r.2.mem ((c.tc : Thread Cert.KvDgradRms.nD Cert.KvDgradRms.τ).loc Cert.KvDgradRms.main_arg2) = m ((c.tc : Thread Cert.KvDgradRms.nD Cert.KvDgradRms.τ).loc Cert.KvDgradRms.main_arg2)
      ∧ r.2.mem ((c.tc : Thread Cert.KvDgradRms.nD Cert.KvDgradRms.τ).loc Cert.KvDgradRms.main_arg3) = m ((c.tc : Thread Cert.KvDgradRms.nD Cert.KvDgradRms.τ).loc Cert.KvDgradRms.main_arg3)
      ∧ r.2.mem ((c.tc : Thread Cert.KvDgradRms.nD Cert.KvDgradRms.τ).loc Cert.KvDgradRms.main_arg4) = m ((c.tc : Thread Cert.KvDgradRms.nD Cert.KvDgradRms.τ).loc Cert.KvDgradRms.main_arg4)
      ∧ r.2.mem ((c.tc : Thread Cert.KvDgradRms.nD Cert.KvDgradRms.τ).loc Cert.KvDgradRms.main_arg5) = m ((c.tc : Thread Cert.KvDgradRms.nD Cert.KvDgradRms.τ).loc Cert.KvDgradRms.main_arg5)
      ∧ r.2.mem ((c.tc : Thread Cert.KvDgradRms.nD Cert.KvDgradRms.τ).loc Cert.KvDgradRms.main_arg6) = m ((c.tc : Thread Cert.KvDgradRms.nD Cert.KvDgradRms.τ).loc Cert.KvDgradRms.main_arg6))
      ∧ r.2.sem = fun _ => 0)

def quiescent_KvDgradRmsIdeal [hKvDgradRmsIdeal : Cert.KvDgradRmsIdeal.Facts] : Prop :=
  ∀ (m : (ℓ : Loc Cert.KvDgradRmsIdeal.nD Cert.KvDgradRmsIdeal.τ Cert.KvDgradRmsIdeal.sig) → Buf (Elt Ideal) ℓ) (g : Dev Cert.KvDgradRmsIdeal.nD → PrngReg), Pre_KvDgradRmsIdeal m →
    θ_run (Cert.KvDgradRmsIdeal.defs (F := Ideal)) (onTc (τ := Cert.KvDgradRmsIdeal.τ) (Cert.KvDgradRmsIdeal.main (F := Ideal))) ⟨m, fun _ => 0, g⟩ (fun r => (∀ c : Dev Cert.KvDgradRmsIdeal.nD,
      r.2.mem ((c.tc : Thread Cert.KvDgradRmsIdeal.nD Cert.KvDgradRmsIdeal.τ).loc Cert.KvDgradRmsIdeal.main_arg0) = m ((c.tc : Thread Cert.KvDgradRmsIdeal.nD Cert.KvDgradRmsIdeal.τ).loc Cert.KvDgradRmsIdeal.main_arg0)
      ∧ r.2.mem ((c.tc : Thread Cert.KvDgradRmsIdeal.nD Cert.KvDgradRmsIdeal.τ).loc Cert.KvDgradRmsIdeal.main_arg1) = m ((c.tc : Thread Cert.KvDgradRmsIdeal.nD Cert.KvDgradRmsIdeal.τ).loc Cert.KvDgradRmsIdeal.main_arg1)
      ∧ r.2.mem ((c.tc : Thread Cert.KvDgradRmsIdeal.nD Cert.KvDgradRmsIdeal.τ).loc Cert.KvDgradRmsIdeal.main_arg2) = m ((c.tc : Thread Cert.KvDgradRmsIdeal.nD Cert.KvDgradRmsIdeal.τ).loc Cert.KvDgradRmsIdeal.main_arg2)
      ∧ r.2.mem ((c.tc : Thread Cert.KvDgradRmsIdeal.nD Cert.KvDgradRmsIdeal.τ).loc Cert.KvDgradRmsIdeal.main_arg3) = m ((c.tc : Thread Cert.KvDgradRmsIdeal.nD Cert.KvDgradRmsIdeal.τ).loc Cert.KvDgradRmsIdeal.main_arg3)
      ∧ r.2.mem ((c.tc : Thread Cert.KvDgradRmsIdeal.nD Cert.KvDgradRmsIdeal.τ).loc Cert.KvDgradRmsIdeal.main_arg4) = m ((c.tc : Thread Cert.KvDgradRmsIdeal.nD Cert.KvDgradRmsIdeal.τ).loc Cert.KvDgradRmsIdeal.main_arg4)
      ∧ r.2.mem ((c.tc : Thread Cert.KvDgradRmsIdeal.nD Cert.KvDgradRmsIdeal.τ).loc Cert.KvDgradRmsIdeal.main_arg5) = m ((c.tc : Thread Cert.KvDgradRmsIdeal.nD Cert.KvDgradRmsIdeal.τ).loc Cert.KvDgradRmsIdeal.main_arg5)
      ∧ r.2.mem ((c.tc : Thread Cert.KvDgradRmsIdeal.nD Cert.KvDgradRmsIdeal.τ).loc Cert.KvDgradRmsIdeal.main_arg6) = m ((c.tc : Thread Cert.KvDgradRmsIdeal.nD Cert.KvDgradRmsIdeal.τ).loc Cert.KvDgradRmsIdeal.main_arg6))
      ∧ r.2.sem = fun _ => 0)

def quiescent_KvDgradRmsIdeal_pre_finite_kv_dgrad_rms_bwd [hKvDgradRmsIdeal : Cert.KvDgradRmsIdeal.Facts] [hPre_finite_kv_dgrad_rms_bwd : Cert.Pre_finite_kv_dgrad_rms_bwd.Facts] : Prop :=
  ∀ (m : (ℓ : Loc Cert.KvDgradRmsIdeal.nD Cert.KvDgradRmsIdeal.τ Cert.KvDgradRmsIdeal.sig) → Buf (Elt Ideal) ℓ) (g : Dev Cert.KvDgradRmsIdeal.nD → PrngReg), Pre_KvDgradRmsIdeal_finite_kv_dgrad_rms_bwd m →
    θ_run (Cert.KvDgradRmsIdeal.defs (F := Ideal)) (onTc (τ := Cert.KvDgradRmsIdeal.τ) (Cert.KvDgradRmsIdeal.main (F := Ideal))) ⟨m, fun _ => 0, g⟩ (fun r => (∀ c : Dev Cert.KvDgradRmsIdeal.nD,
      r.2.mem ((c.tc : Thread Cert.KvDgradRmsIdeal.nD Cert.KvDgradRmsIdeal.τ).loc Cert.KvDgradRmsIdeal.main_arg0) = m ((c.tc : Thread Cert.KvDgradRmsIdeal.nD Cert.KvDgradRmsIdeal.τ).loc Cert.KvDgradRmsIdeal.main_arg0)
      ∧ r.2.mem ((c.tc : Thread Cert.KvDgradRmsIdeal.nD Cert.KvDgradRmsIdeal.τ).loc Cert.KvDgradRmsIdeal.main_arg1) = m ((c.tc : Thread Cert.KvDgradRmsIdeal.nD Cert.KvDgradRmsIdeal.τ).loc Cert.KvDgradRmsIdeal.main_arg1)
      ∧ r.2.mem ((c.tc : Thread Cert.KvDgradRmsIdeal.nD Cert.KvDgradRmsIdeal.τ).loc Cert.KvDgradRmsIdeal.main_arg2) = m ((c.tc : Thread Cert.KvDgradRmsIdeal.nD Cert.KvDgradRmsIdeal.τ).loc Cert.KvDgradRmsIdeal.main_arg2)
      ∧ r.2.mem ((c.tc : Thread Cert.KvDgradRmsIdeal.nD Cert.KvDgradRmsIdeal.τ).loc Cert.KvDgradRmsIdeal.main_arg3) = m ((c.tc : Thread Cert.KvDgradRmsIdeal.nD Cert.KvDgradRmsIdeal.τ).loc Cert.KvDgradRmsIdeal.main_arg3)
      ∧ r.2.mem ((c.tc : Thread Cert.KvDgradRmsIdeal.nD Cert.KvDgradRmsIdeal.τ).loc Cert.KvDgradRmsIdeal.main_arg4) = m ((c.tc : Thread Cert.KvDgradRmsIdeal.nD Cert.KvDgradRmsIdeal.τ).loc Cert.KvDgradRmsIdeal.main_arg4)
      ∧ r.2.mem ((c.tc : Thread Cert.KvDgradRmsIdeal.nD Cert.KvDgradRmsIdeal.τ).loc Cert.KvDgradRmsIdeal.main_arg5) = m ((c.tc : Thread Cert.KvDgradRmsIdeal.nD Cert.KvDgradRmsIdeal.τ).loc Cert.KvDgradRmsIdeal.main_arg5)
      ∧ r.2.mem ((c.tc : Thread Cert.KvDgradRmsIdeal.nD Cert.KvDgradRmsIdeal.τ).loc Cert.KvDgradRmsIdeal.main_arg6) = m ((c.tc : Thread Cert.KvDgradRmsIdeal.nD Cert.KvDgradRmsIdeal.τ).loc Cert.KvDgradRmsIdeal.main_arg6))
      ∧ r.2.sem = fun _ => 0)

def quiescent_KvDgradRmsRefIdeal [hKvDgradRmsRefIdeal : Cert.KvDgradRmsRefIdeal.Facts] : Prop :=
  ∀ (m : (ℓ : Loc Cert.KvDgradRmsRefIdeal.nD Cert.KvDgradRmsRefIdeal.τ Cert.KvDgradRmsRefIdeal.sig) → Buf (Elt Ideal) ℓ) (g : Dev Cert.KvDgradRmsRefIdeal.nD → PrngReg), Pre_KvDgradRmsRefIdeal m →
    θ_run (Cert.KvDgradRmsRefIdeal.defs (F := Ideal)) (onTc (τ := Cert.KvDgradRmsRefIdeal.τ) (Cert.KvDgradRmsRefIdeal.main (F := Ideal))) ⟨m, fun _ => 0, g⟩ (fun r => (∀ c : Dev Cert.KvDgradRmsRefIdeal.nD,
      r.2.mem ((c.tc : Thread Cert.KvDgradRmsRefIdeal.nD Cert.KvDgradRmsRefIdeal.τ).loc Cert.KvDgradRmsRefIdeal.main_arg0) = m ((c.tc : Thread Cert.KvDgradRmsRefIdeal.nD Cert.KvDgradRmsRefIdeal.τ).loc Cert.KvDgradRmsRefIdeal.main_arg0)
      ∧ r.2.mem ((c.tc : Thread Cert.KvDgradRmsRefIdeal.nD Cert.KvDgradRmsRefIdeal.τ).loc Cert.KvDgradRmsRefIdeal.main_arg1) = m ((c.tc : Thread Cert.KvDgradRmsRefIdeal.nD Cert.KvDgradRmsRefIdeal.τ).loc Cert.KvDgradRmsRefIdeal.main_arg1)
      ∧ r.2.mem ((c.tc : Thread Cert.KvDgradRmsRefIdeal.nD Cert.KvDgradRmsRefIdeal.τ).loc Cert.KvDgradRmsRefIdeal.main_arg2) = m ((c.tc : Thread Cert.KvDgradRmsRefIdeal.nD Cert.KvDgradRmsRefIdeal.τ).loc Cert.KvDgradRmsRefIdeal.main_arg2)
      ∧ r.2.mem ((c.tc : Thread Cert.KvDgradRmsRefIdeal.nD Cert.KvDgradRmsRefIdeal.τ).loc Cert.KvDgradRmsRefIdeal.main_arg3) = m ((c.tc : Thread Cert.KvDgradRmsRefIdeal.nD Cert.KvDgradRmsRefIdeal.τ).loc Cert.KvDgradRmsRefIdeal.main_arg3)
      ∧ r.2.mem ((c.tc : Thread Cert.KvDgradRmsRefIdeal.nD Cert.KvDgradRmsRefIdeal.τ).loc Cert.KvDgradRmsRefIdeal.main_arg4) = m ((c.tc : Thread Cert.KvDgradRmsRefIdeal.nD Cert.KvDgradRmsRefIdeal.τ).loc Cert.KvDgradRmsRefIdeal.main_arg4)
      ∧ r.2.mem ((c.tc : Thread Cert.KvDgradRmsRefIdeal.nD Cert.KvDgradRmsRefIdeal.τ).loc Cert.KvDgradRmsRefIdeal.main_arg5) = m ((c.tc : Thread Cert.KvDgradRmsRefIdeal.nD Cert.KvDgradRmsRefIdeal.τ).loc Cert.KvDgradRmsRefIdeal.main_arg5)
      ∧ r.2.mem ((c.tc : Thread Cert.KvDgradRmsRefIdeal.nD Cert.KvDgradRmsRefIdeal.τ).loc Cert.KvDgradRmsRefIdeal.main_arg6) = m ((c.tc : Thread Cert.KvDgradRmsRefIdeal.nD Cert.KvDgradRmsRefIdeal.τ).loc Cert.KvDgradRmsRefIdeal.main_arg6))
      ∧ r.2.sem = fun _ => 0)

def quiescent_KvDgradRmsRefIdeal_pre_finite_kv_dgrad_rms_bwd [hKvDgradRmsRefIdeal : Cert.KvDgradRmsRefIdeal.Facts] [hPre_finite_kv_dgrad_rms_bwd : Cert.Pre_finite_kv_dgrad_rms_bwd.Facts] : Prop :=
  ∀ (m : (ℓ : Loc Cert.KvDgradRmsRefIdeal.nD Cert.KvDgradRmsRefIdeal.τ Cert.KvDgradRmsRefIdeal.sig) → Buf (Elt Ideal) ℓ) (g : Dev Cert.KvDgradRmsRefIdeal.nD → PrngReg), Pre_KvDgradRmsRefIdeal_finite_kv_dgrad_rms_bwd m →
    θ_run (Cert.KvDgradRmsRefIdeal.defs (F := Ideal)) (onTc (τ := Cert.KvDgradRmsRefIdeal.τ) (Cert.KvDgradRmsRefIdeal.main (F := Ideal))) ⟨m, fun _ => 0, g⟩ (fun r => (∀ c : Dev Cert.KvDgradRmsRefIdeal.nD,
      r.2.mem ((c.tc : Thread Cert.KvDgradRmsRefIdeal.nD Cert.KvDgradRmsRefIdeal.τ).loc Cert.KvDgradRmsRefIdeal.main_arg0) = m ((c.tc : Thread Cert.KvDgradRmsRefIdeal.nD Cert.KvDgradRmsRefIdeal.τ).loc Cert.KvDgradRmsRefIdeal.main_arg0)
      ∧ r.2.mem ((c.tc : Thread Cert.KvDgradRmsRefIdeal.nD Cert.KvDgradRmsRefIdeal.τ).loc Cert.KvDgradRmsRefIdeal.main_arg1) = m ((c.tc : Thread Cert.KvDgradRmsRefIdeal.nD Cert.KvDgradRmsRefIdeal.τ).loc Cert.KvDgradRmsRefIdeal.main_arg1)
      ∧ r.2.mem ((c.tc : Thread Cert.KvDgradRmsRefIdeal.nD Cert.KvDgradRmsRefIdeal.τ).loc Cert.KvDgradRmsRefIdeal.main_arg2) = m ((c.tc : Thread Cert.KvDgradRmsRefIdeal.nD Cert.KvDgradRmsRefIdeal.τ).loc Cert.KvDgradRmsRefIdeal.main_arg2)
      ∧ r.2.mem ((c.tc : Thread Cert.KvDgradRmsRefIdeal.nD Cert.KvDgradRmsRefIdeal.τ).loc Cert.KvDgradRmsRefIdeal.main_arg3) = m ((c.tc : Thread Cert.KvDgradRmsRefIdeal.nD Cert.KvDgradRmsRefIdeal.τ).loc Cert.KvDgradRmsRefIdeal.main_arg3)
      ∧ r.2.mem ((c.tc : Thread Cert.KvDgradRmsRefIdeal.nD Cert.KvDgradRmsRefIdeal.τ).loc Cert.KvDgradRmsRefIdeal.main_arg4) = m ((c.tc : Thread Cert.KvDgradRmsRefIdeal.nD Cert.KvDgradRmsRefIdeal.τ).loc Cert.KvDgradRmsRefIdeal.main_arg4)
      ∧ r.2.mem ((c.tc : Thread Cert.KvDgradRmsRefIdeal.nD Cert.KvDgradRmsRefIdeal.τ).loc Cert.KvDgradRmsRefIdeal.main_arg5) = m ((c.tc : Thread Cert.KvDgradRmsRefIdeal.nD Cert.KvDgradRmsRefIdeal.τ).loc Cert.KvDgradRmsRefIdeal.main_arg5)
      ∧ r.2.mem ((c.tc : Thread Cert.KvDgradRmsRefIdeal.nD Cert.KvDgradRmsRefIdeal.τ).loc Cert.KvDgradRmsRefIdeal.main_arg6) = m ((c.tc : Thread Cert.KvDgradRmsRefIdeal.nD Cert.KvDgradRmsRefIdeal.τ).loc Cert.KvDgradRmsRefIdeal.main_arg6))
      ∧ r.2.sem = fun _ => 0)

def quiescent_Ff2Ln2Loss [hFf2Ln2Loss : Cert.Ff2Ln2Loss.Facts] : Prop :=
  ∀ (m : (ℓ : Loc Cert.Ff2Ln2Loss.nD Cert.Ff2Ln2Loss.τ Cert.Ff2Ln2Loss.sig) → Buf (Elt Bits) ℓ) (g : Dev Cert.Ff2Ln2Loss.nD → PrngReg), Pre_Ff2Ln2Loss m →
    θ_run (Cert.Ff2Ln2Loss.defs (F := Bits)) (onTc (τ := Cert.Ff2Ln2Loss.τ) (Cert.Ff2Ln2Loss.main (F := Bits))) ⟨m, fun _ => 0, g⟩ (fun r => (∀ c : Dev Cert.Ff2Ln2Loss.nD,
      r.2.mem ((c.tc : Thread Cert.Ff2Ln2Loss.nD Cert.Ff2Ln2Loss.τ).loc Cert.Ff2Ln2Loss.main_arg0) = m ((c.tc : Thread Cert.Ff2Ln2Loss.nD Cert.Ff2Ln2Loss.τ).loc Cert.Ff2Ln2Loss.main_arg0)
      ∧ r.2.mem ((c.tc : Thread Cert.Ff2Ln2Loss.nD Cert.Ff2Ln2Loss.τ).loc Cert.Ff2Ln2Loss.main_arg1) = m ((c.tc : Thread Cert.Ff2Ln2Loss.nD Cert.Ff2Ln2Loss.τ).loc Cert.Ff2Ln2Loss.main_arg1)
      ∧ r.2.mem ((c.tc : Thread Cert.Ff2Ln2Loss.nD Cert.Ff2Ln2Loss.τ).loc Cert.Ff2Ln2Loss.main_arg2) = m ((c.tc : Thread Cert.Ff2Ln2Loss.nD Cert.Ff2Ln2Loss.τ).loc Cert.Ff2Ln2Loss.main_arg2)
      ∧ r.2.mem ((c.tc : Thread Cert.Ff2Ln2Loss.nD Cert.Ff2Ln2Loss.τ).loc Cert.Ff2Ln2Loss.main_arg3) = m ((c.tc : Thread Cert.Ff2Ln2Loss.nD Cert.Ff2Ln2Loss.τ).loc Cert.Ff2Ln2Loss.main_arg3)
      ∧ r.2.mem ((c.tc : Thread Cert.Ff2Ln2Loss.nD Cert.Ff2Ln2Loss.τ).loc Cert.Ff2Ln2Loss.main_arg4) = m ((c.tc : Thread Cert.Ff2Ln2Loss.nD Cert.Ff2Ln2Loss.τ).loc Cert.Ff2Ln2Loss.main_arg4)
      ∧ r.2.mem ((c.tc : Thread Cert.Ff2Ln2Loss.nD Cert.Ff2Ln2Loss.τ).loc Cert.Ff2Ln2Loss.main_arg5) = m ((c.tc : Thread Cert.Ff2Ln2Loss.nD Cert.Ff2Ln2Loss.τ).loc Cert.Ff2Ln2Loss.main_arg5))
      ∧ r.2.sem = fun _ => 0)

def quiescent_Ff2Ln2LossIdeal [hFf2Ln2LossIdeal : Cert.Ff2Ln2LossIdeal.Facts] : Prop :=
  ∀ (m : (ℓ : Loc Cert.Ff2Ln2LossIdeal.nD Cert.Ff2Ln2LossIdeal.τ Cert.Ff2Ln2LossIdeal.sig) → Buf (Elt Ideal) ℓ) (g : Dev Cert.Ff2Ln2LossIdeal.nD → PrngReg), Pre_Ff2Ln2LossIdeal m →
    θ_run (Cert.Ff2Ln2LossIdeal.defs (F := Ideal)) (onTc (τ := Cert.Ff2Ln2LossIdeal.τ) (Cert.Ff2Ln2LossIdeal.main (F := Ideal))) ⟨m, fun _ => 0, g⟩ (fun r => (∀ c : Dev Cert.Ff2Ln2LossIdeal.nD,
      r.2.mem ((c.tc : Thread Cert.Ff2Ln2LossIdeal.nD Cert.Ff2Ln2LossIdeal.τ).loc Cert.Ff2Ln2LossIdeal.main_arg0) = m ((c.tc : Thread Cert.Ff2Ln2LossIdeal.nD Cert.Ff2Ln2LossIdeal.τ).loc Cert.Ff2Ln2LossIdeal.main_arg0)
      ∧ r.2.mem ((c.tc : Thread Cert.Ff2Ln2LossIdeal.nD Cert.Ff2Ln2LossIdeal.τ).loc Cert.Ff2Ln2LossIdeal.main_arg1) = m ((c.tc : Thread Cert.Ff2Ln2LossIdeal.nD Cert.Ff2Ln2LossIdeal.τ).loc Cert.Ff2Ln2LossIdeal.main_arg1)
      ∧ r.2.mem ((c.tc : Thread Cert.Ff2Ln2LossIdeal.nD Cert.Ff2Ln2LossIdeal.τ).loc Cert.Ff2Ln2LossIdeal.main_arg2) = m ((c.tc : Thread Cert.Ff2Ln2LossIdeal.nD Cert.Ff2Ln2LossIdeal.τ).loc Cert.Ff2Ln2LossIdeal.main_arg2)
      ∧ r.2.mem ((c.tc : Thread Cert.Ff2Ln2LossIdeal.nD Cert.Ff2Ln2LossIdeal.τ).loc Cert.Ff2Ln2LossIdeal.main_arg3) = m ((c.tc : Thread Cert.Ff2Ln2LossIdeal.nD Cert.Ff2Ln2LossIdeal.τ).loc Cert.Ff2Ln2LossIdeal.main_arg3)
      ∧ r.2.mem ((c.tc : Thread Cert.Ff2Ln2LossIdeal.nD Cert.Ff2Ln2LossIdeal.τ).loc Cert.Ff2Ln2LossIdeal.main_arg4) = m ((c.tc : Thread Cert.Ff2Ln2LossIdeal.nD Cert.Ff2Ln2LossIdeal.τ).loc Cert.Ff2Ln2LossIdeal.main_arg4)
      ∧ r.2.mem ((c.tc : Thread Cert.Ff2Ln2LossIdeal.nD Cert.Ff2Ln2LossIdeal.τ).loc Cert.Ff2Ln2LossIdeal.main_arg5) = m ((c.tc : Thread Cert.Ff2Ln2LossIdeal.nD Cert.Ff2Ln2LossIdeal.τ).loc Cert.Ff2Ln2LossIdeal.main_arg5))
      ∧ r.2.sem = fun _ => 0)

def quiescent_Ff2Ln2LossIdeal_pre_finite_ff2_ln2_loss [hFf2Ln2LossIdeal : Cert.Ff2Ln2LossIdeal.Facts] [hPre_finite_ff2_ln2_loss : Cert.Pre_finite_ff2_ln2_loss.Facts] : Prop :=
  ∀ (m : (ℓ : Loc Cert.Ff2Ln2LossIdeal.nD Cert.Ff2Ln2LossIdeal.τ Cert.Ff2Ln2LossIdeal.sig) → Buf (Elt Ideal) ℓ) (g : Dev Cert.Ff2Ln2LossIdeal.nD → PrngReg), Pre_Ff2Ln2LossIdeal_finite_ff2_ln2_loss m →
    θ_run (Cert.Ff2Ln2LossIdeal.defs (F := Ideal)) (onTc (τ := Cert.Ff2Ln2LossIdeal.τ) (Cert.Ff2Ln2LossIdeal.main (F := Ideal))) ⟨m, fun _ => 0, g⟩ (fun r => (∀ c : Dev Cert.Ff2Ln2LossIdeal.nD,
      r.2.mem ((c.tc : Thread Cert.Ff2Ln2LossIdeal.nD Cert.Ff2Ln2LossIdeal.τ).loc Cert.Ff2Ln2LossIdeal.main_arg0) = m ((c.tc : Thread Cert.Ff2Ln2LossIdeal.nD Cert.Ff2Ln2LossIdeal.τ).loc Cert.Ff2Ln2LossIdeal.main_arg0)
      ∧ r.2.mem ((c.tc : Thread Cert.Ff2Ln2LossIdeal.nD Cert.Ff2Ln2LossIdeal.τ).loc Cert.Ff2Ln2LossIdeal.main_arg1) = m ((c.tc : Thread Cert.Ff2Ln2LossIdeal.nD Cert.Ff2Ln2LossIdeal.τ).loc Cert.Ff2Ln2LossIdeal.main_arg1)
      ∧ r.2.mem ((c.tc : Thread Cert.Ff2Ln2LossIdeal.nD Cert.Ff2Ln2LossIdeal.τ).loc Cert.Ff2Ln2LossIdeal.main_arg2) = m ((c.tc : Thread Cert.Ff2Ln2LossIdeal.nD Cert.Ff2Ln2LossIdeal.τ).loc Cert.Ff2Ln2LossIdeal.main_arg2)
      ∧ r.2.mem ((c.tc : Thread Cert.Ff2Ln2LossIdeal.nD Cert.Ff2Ln2LossIdeal.τ).loc Cert.Ff2Ln2LossIdeal.main_arg3) = m ((c.tc : Thread Cert.Ff2Ln2LossIdeal.nD Cert.Ff2Ln2LossIdeal.τ).loc Cert.Ff2Ln2LossIdeal.main_arg3)
      ∧ r.2.mem ((c.tc : Thread Cert.Ff2Ln2LossIdeal.nD Cert.Ff2Ln2LossIdeal.τ).loc Cert.Ff2Ln2LossIdeal.main_arg4) = m ((c.tc : Thread Cert.Ff2Ln2LossIdeal.nD Cert.Ff2Ln2LossIdeal.τ).loc Cert.Ff2Ln2LossIdeal.main_arg4)
      ∧ r.2.mem ((c.tc : Thread Cert.Ff2Ln2LossIdeal.nD Cert.Ff2Ln2LossIdeal.τ).loc Cert.Ff2Ln2LossIdeal.main_arg5) = m ((c.tc : Thread Cert.Ff2Ln2LossIdeal.nD Cert.Ff2Ln2LossIdeal.τ).loc Cert.Ff2Ln2LossIdeal.main_arg5))
      ∧ r.2.sem = fun _ => 0)

def quiescent_Ff2Ln2LossRefIdeal [hFf2Ln2LossRefIdeal : Cert.Ff2Ln2LossRefIdeal.Facts] : Prop :=
  ∀ (m : (ℓ : Loc Cert.Ff2Ln2LossRefIdeal.nD Cert.Ff2Ln2LossRefIdeal.τ Cert.Ff2Ln2LossRefIdeal.sig) → Buf (Elt Ideal) ℓ) (g : Dev Cert.Ff2Ln2LossRefIdeal.nD → PrngReg), Pre_Ff2Ln2LossRefIdeal m →
    θ_run (Cert.Ff2Ln2LossRefIdeal.defs (F := Ideal)) (onTc (τ := Cert.Ff2Ln2LossRefIdeal.τ) (Cert.Ff2Ln2LossRefIdeal.main (F := Ideal))) ⟨m, fun _ => 0, g⟩ (fun r => (∀ c : Dev Cert.Ff2Ln2LossRefIdeal.nD,
      r.2.mem ((c.tc : Thread Cert.Ff2Ln2LossRefIdeal.nD Cert.Ff2Ln2LossRefIdeal.τ).loc Cert.Ff2Ln2LossRefIdeal.main_arg0) = m ((c.tc : Thread Cert.Ff2Ln2LossRefIdeal.nD Cert.Ff2Ln2LossRefIdeal.τ).loc Cert.Ff2Ln2LossRefIdeal.main_arg0)
      ∧ r.2.mem ((c.tc : Thread Cert.Ff2Ln2LossRefIdeal.nD Cert.Ff2Ln2LossRefIdeal.τ).loc Cert.Ff2Ln2LossRefIdeal.main_arg1) = m ((c.tc : Thread Cert.Ff2Ln2LossRefIdeal.nD Cert.Ff2Ln2LossRefIdeal.τ).loc Cert.Ff2Ln2LossRefIdeal.main_arg1)
      ∧ r.2.mem ((c.tc : Thread Cert.Ff2Ln2LossRefIdeal.nD Cert.Ff2Ln2LossRefIdeal.τ).loc Cert.Ff2Ln2LossRefIdeal.main_arg2) = m ((c.tc : Thread Cert.Ff2Ln2LossRefIdeal.nD Cert.Ff2Ln2LossRefIdeal.τ).loc Cert.Ff2Ln2LossRefIdeal.main_arg2)
      ∧ r.2.mem ((c.tc : Thread Cert.Ff2Ln2LossRefIdeal.nD Cert.Ff2Ln2LossRefIdeal.τ).loc Cert.Ff2Ln2LossRefIdeal.main_arg3) = m ((c.tc : Thread Cert.Ff2Ln2LossRefIdeal.nD Cert.Ff2Ln2LossRefIdeal.τ).loc Cert.Ff2Ln2LossRefIdeal.main_arg3)
      ∧ r.2.mem ((c.tc : Thread Cert.Ff2Ln2LossRefIdeal.nD Cert.Ff2Ln2LossRefIdeal.τ).loc Cert.Ff2Ln2LossRefIdeal.main_arg4) = m ((c.tc : Thread Cert.Ff2Ln2LossRefIdeal.nD Cert.Ff2Ln2LossRefIdeal.τ).loc Cert.Ff2Ln2LossRefIdeal.main_arg4)
      ∧ r.2.mem ((c.tc : Thread Cert.Ff2Ln2LossRefIdeal.nD Cert.Ff2Ln2LossRefIdeal.τ).loc Cert.Ff2Ln2LossRefIdeal.main_arg5) = m ((c.tc : Thread Cert.Ff2Ln2LossRefIdeal.nD Cert.Ff2Ln2LossRefIdeal.τ).loc Cert.Ff2Ln2LossRefIdeal.main_arg5))
      ∧ r.2.sem = fun _ => 0)

def quiescent_Ff2Ln2LossRefIdeal_pre_finite_ff2_ln2_loss [hFf2Ln2LossRefIdeal : Cert.Ff2Ln2LossRefIdeal.Facts] [hPre_finite_ff2_ln2_loss : Cert.Pre_finite_ff2_ln2_loss.Facts] : Prop :=
  ∀ (m : (ℓ : Loc Cert.Ff2Ln2LossRefIdeal.nD Cert.Ff2Ln2LossRefIdeal.τ Cert.Ff2Ln2LossRefIdeal.sig) → Buf (Elt Ideal) ℓ) (g : Dev Cert.Ff2Ln2LossRefIdeal.nD → PrngReg), Pre_Ff2Ln2LossRefIdeal_finite_ff2_ln2_loss m →
    θ_run (Cert.Ff2Ln2LossRefIdeal.defs (F := Ideal)) (onTc (τ := Cert.Ff2Ln2LossRefIdeal.τ) (Cert.Ff2Ln2LossRefIdeal.main (F := Ideal))) ⟨m, fun _ => 0, g⟩ (fun r => (∀ c : Dev Cert.Ff2Ln2LossRefIdeal.nD,
      r.2.mem ((c.tc : Thread Cert.Ff2Ln2LossRefIdeal.nD Cert.Ff2Ln2LossRefIdeal.τ).loc Cert.Ff2Ln2LossRefIdeal.main_arg0) = m ((c.tc : Thread Cert.Ff2Ln2LossRefIdeal.nD Cert.Ff2Ln2LossRefIdeal.τ).loc Cert.Ff2Ln2LossRefIdeal.main_arg0)
      ∧ r.2.mem ((c.tc : Thread Cert.Ff2Ln2LossRefIdeal.nD Cert.Ff2Ln2LossRefIdeal.τ).loc Cert.Ff2Ln2LossRefIdeal.main_arg1) = m ((c.tc : Thread Cert.Ff2Ln2LossRefIdeal.nD Cert.Ff2Ln2LossRefIdeal.τ).loc Cert.Ff2Ln2LossRefIdeal.main_arg1)
      ∧ r.2.mem ((c.tc : Thread Cert.Ff2Ln2LossRefIdeal.nD Cert.Ff2Ln2LossRefIdeal.τ).loc Cert.Ff2Ln2LossRefIdeal.main_arg2) = m ((c.tc : Thread Cert.Ff2Ln2LossRefIdeal.nD Cert.Ff2Ln2LossRefIdeal.τ).loc Cert.Ff2Ln2LossRefIdeal.main_arg2)
      ∧ r.2.mem ((c.tc : Thread Cert.Ff2Ln2LossRefIdeal.nD Cert.Ff2Ln2LossRefIdeal.τ).loc Cert.Ff2Ln2LossRefIdeal.main_arg3) = m ((c.tc : Thread Cert.Ff2Ln2LossRefIdeal.nD Cert.Ff2Ln2LossRefIdeal.τ).loc Cert.Ff2Ln2LossRefIdeal.main_arg3)
      ∧ r.2.mem ((c.tc : Thread Cert.Ff2Ln2LossRefIdeal.nD Cert.Ff2Ln2LossRefIdeal.τ).loc Cert.Ff2Ln2LossRefIdeal.main_arg4) = m ((c.tc : Thread Cert.Ff2Ln2LossRefIdeal.nD Cert.Ff2Ln2LossRefIdeal.τ).loc Cert.Ff2Ln2LossRefIdeal.main_arg4)
      ∧ r.2.mem ((c.tc : Thread Cert.Ff2Ln2LossRefIdeal.nD Cert.Ff2Ln2LossRefIdeal.τ).loc Cert.Ff2Ln2LossRefIdeal.main_arg5) = m ((c.tc : Thread Cert.Ff2Ln2LossRefIdeal.nD Cert.Ff2Ln2LossRefIdeal.τ).loc Cert.Ff2Ln2LossRefIdeal.main_arg5))
      ∧ r.2.sem = fun _ => 0)

def quiescent_Ff1Ln1Bwd [hFf1Ln1Bwd : Cert.Ff1Ln1Bwd.Facts] : Prop :=
  ∀ (m : (ℓ : Loc Cert.Ff1Ln1Bwd.nD Cert.Ff1Ln1Bwd.τ Cert.Ff1Ln1Bwd.sig) → Buf (Elt Bits) ℓ) (g : Dev Cert.Ff1Ln1Bwd.nD → PrngReg), Pre_Ff1Ln1Bwd m →
    θ_run (Cert.Ff1Ln1Bwd.defs (F := Bits)) (onTc (τ := Cert.Ff1Ln1Bwd.τ) (Cert.Ff1Ln1Bwd.main (F := Bits))) ⟨m, fun _ => 0, g⟩ (fun r => (∀ c : Dev Cert.Ff1Ln1Bwd.nD,
      r.2.mem ((c.tc : Thread Cert.Ff1Ln1Bwd.nD Cert.Ff1Ln1Bwd.τ).loc Cert.Ff1Ln1Bwd.main_arg0) = m ((c.tc : Thread Cert.Ff1Ln1Bwd.nD Cert.Ff1Ln1Bwd.τ).loc Cert.Ff1Ln1Bwd.main_arg0)
      ∧ r.2.mem ((c.tc : Thread Cert.Ff1Ln1Bwd.nD Cert.Ff1Ln1Bwd.τ).loc Cert.Ff1Ln1Bwd.main_arg1) = m ((c.tc : Thread Cert.Ff1Ln1Bwd.nD Cert.Ff1Ln1Bwd.τ).loc Cert.Ff1Ln1Bwd.main_arg1)
      ∧ r.2.mem ((c.tc : Thread Cert.Ff1Ln1Bwd.nD Cert.Ff1Ln1Bwd.τ).loc Cert.Ff1Ln1Bwd.main_arg2) = m ((c.tc : Thread Cert.Ff1Ln1Bwd.nD Cert.Ff1Ln1Bwd.τ).loc Cert.Ff1Ln1Bwd.main_arg2)
      ∧ r.2.mem ((c.tc : Thread Cert.Ff1Ln1Bwd.nD Cert.Ff1Ln1Bwd.τ).loc Cert.Ff1Ln1Bwd.main_arg3) = m ((c.tc : Thread Cert.Ff1Ln1Bwd.nD Cert.Ff1Ln1Bwd.τ).loc Cert.Ff1Ln1Bwd.main_arg3)
      ∧ r.2.mem ((c.tc : Thread Cert.Ff1Ln1Bwd.nD Cert.Ff1Ln1Bwd.τ).loc Cert.Ff1Ln1Bwd.main_arg4) = m ((c.tc : Thread Cert.Ff1Ln1Bwd.nD Cert.Ff1Ln1Bwd.τ).loc Cert.Ff1Ln1Bwd.main_arg4)
      ∧ r.2.mem ((c.tc : Thread Cert.Ff1Ln1Bwd.nD Cert.Ff1Ln1Bwd.τ).loc Cert.Ff1Ln1Bwd.main_arg5) = m ((c.tc : Thread Cert.Ff1Ln1Bwd.nD Cert.Ff1Ln1Bwd.τ).loc Cert.Ff1Ln1Bwd.main_arg5))
      ∧ r.2.sem = fun _ => 0)

def quiescent_Ff1Ln1BwdIdeal [hFf1Ln1BwdIdeal : Cert.Ff1Ln1BwdIdeal.Facts] : Prop :=
  ∀ (m : (ℓ : Loc Cert.Ff1Ln1BwdIdeal.nD Cert.Ff1Ln1BwdIdeal.τ Cert.Ff1Ln1BwdIdeal.sig) → Buf (Elt Ideal) ℓ) (g : Dev Cert.Ff1Ln1BwdIdeal.nD → PrngReg), Pre_Ff1Ln1BwdIdeal m →
    θ_run (Cert.Ff1Ln1BwdIdeal.defs (F := Ideal)) (onTc (τ := Cert.Ff1Ln1BwdIdeal.τ) (Cert.Ff1Ln1BwdIdeal.main (F := Ideal))) ⟨m, fun _ => 0, g⟩ (fun r => (∀ c : Dev Cert.Ff1Ln1BwdIdeal.nD,
      r.2.mem ((c.tc : Thread Cert.Ff1Ln1BwdIdeal.nD Cert.Ff1Ln1BwdIdeal.τ).loc Cert.Ff1Ln1BwdIdeal.main_arg0) = m ((c.tc : Thread Cert.Ff1Ln1BwdIdeal.nD Cert.Ff1Ln1BwdIdeal.τ).loc Cert.Ff1Ln1BwdIdeal.main_arg0)
      ∧ r.2.mem ((c.tc : Thread Cert.Ff1Ln1BwdIdeal.nD Cert.Ff1Ln1BwdIdeal.τ).loc Cert.Ff1Ln1BwdIdeal.main_arg1) = m ((c.tc : Thread Cert.Ff1Ln1BwdIdeal.nD Cert.Ff1Ln1BwdIdeal.τ).loc Cert.Ff1Ln1BwdIdeal.main_arg1)
      ∧ r.2.mem ((c.tc : Thread Cert.Ff1Ln1BwdIdeal.nD Cert.Ff1Ln1BwdIdeal.τ).loc Cert.Ff1Ln1BwdIdeal.main_arg2) = m ((c.tc : Thread Cert.Ff1Ln1BwdIdeal.nD Cert.Ff1Ln1BwdIdeal.τ).loc Cert.Ff1Ln1BwdIdeal.main_arg2)
      ∧ r.2.mem ((c.tc : Thread Cert.Ff1Ln1BwdIdeal.nD Cert.Ff1Ln1BwdIdeal.τ).loc Cert.Ff1Ln1BwdIdeal.main_arg3) = m ((c.tc : Thread Cert.Ff1Ln1BwdIdeal.nD Cert.Ff1Ln1BwdIdeal.τ).loc Cert.Ff1Ln1BwdIdeal.main_arg3)
      ∧ r.2.mem ((c.tc : Thread Cert.Ff1Ln1BwdIdeal.nD Cert.Ff1Ln1BwdIdeal.τ).loc Cert.Ff1Ln1BwdIdeal.main_arg4) = m ((c.tc : Thread Cert.Ff1Ln1BwdIdeal.nD Cert.Ff1Ln1BwdIdeal.τ).loc Cert.Ff1Ln1BwdIdeal.main_arg4)
      ∧ r.2.mem ((c.tc : Thread Cert.Ff1Ln1BwdIdeal.nD Cert.Ff1Ln1BwdIdeal.τ).loc Cert.Ff1Ln1BwdIdeal.main_arg5) = m ((c.tc : Thread Cert.Ff1Ln1BwdIdeal.nD Cert.Ff1Ln1BwdIdeal.τ).loc Cert.Ff1Ln1BwdIdeal.main_arg5))
      ∧ r.2.sem = fun _ => 0)

def quiescent_Ff1Ln1BwdIdeal_pre_finite_ff1_dgrad_ln1_bwd [hFf1Ln1BwdIdeal : Cert.Ff1Ln1BwdIdeal.Facts] [hPre_finite_ff1_dgrad_ln1_bwd : Cert.Pre_finite_ff1_dgrad_ln1_bwd.Facts] : Prop :=
  ∀ (m : (ℓ : Loc Cert.Ff1Ln1BwdIdeal.nD Cert.Ff1Ln1BwdIdeal.τ Cert.Ff1Ln1BwdIdeal.sig) → Buf (Elt Ideal) ℓ) (g : Dev Cert.Ff1Ln1BwdIdeal.nD → PrngReg), Pre_Ff1Ln1BwdIdeal_finite_ff1_dgrad_ln1_bwd m →
    θ_run (Cert.Ff1Ln1BwdIdeal.defs (F := Ideal)) (onTc (τ := Cert.Ff1Ln1BwdIdeal.τ) (Cert.Ff1Ln1BwdIdeal.main (F := Ideal))) ⟨m, fun _ => 0, g⟩ (fun r => (∀ c : Dev Cert.Ff1Ln1BwdIdeal.nD,
      r.2.mem ((c.tc : Thread Cert.Ff1Ln1BwdIdeal.nD Cert.Ff1Ln1BwdIdeal.τ).loc Cert.Ff1Ln1BwdIdeal.main_arg0) = m ((c.tc : Thread Cert.Ff1Ln1BwdIdeal.nD Cert.Ff1Ln1BwdIdeal.τ).loc Cert.Ff1Ln1BwdIdeal.main_arg0)
      ∧ r.2.mem ((c.tc : Thread Cert.Ff1Ln1BwdIdeal.nD Cert.Ff1Ln1BwdIdeal.τ).loc Cert.Ff1Ln1BwdIdeal.main_arg1) = m ((c.tc : Thread Cert.Ff1Ln1BwdIdeal.nD Cert.Ff1Ln1BwdIdeal.τ).loc Cert.Ff1Ln1BwdIdeal.main_arg1)
      ∧ r.2.mem ((c.tc : Thread Cert.Ff1Ln1BwdIdeal.nD Cert.Ff1Ln1BwdIdeal.τ).loc Cert.Ff1Ln1BwdIdeal.main_arg2) = m ((c.tc : Thread Cert.Ff1Ln1BwdIdeal.nD Cert.Ff1Ln1BwdIdeal.τ).loc Cert.Ff1Ln1BwdIdeal.main_arg2)
      ∧ r.2.mem ((c.tc : Thread Cert.Ff1Ln1BwdIdeal.nD Cert.Ff1Ln1BwdIdeal.τ).loc Cert.Ff1Ln1BwdIdeal.main_arg3) = m ((c.tc : Thread Cert.Ff1Ln1BwdIdeal.nD Cert.Ff1Ln1BwdIdeal.τ).loc Cert.Ff1Ln1BwdIdeal.main_arg3)
      ∧ r.2.mem ((c.tc : Thread Cert.Ff1Ln1BwdIdeal.nD Cert.Ff1Ln1BwdIdeal.τ).loc Cert.Ff1Ln1BwdIdeal.main_arg4) = m ((c.tc : Thread Cert.Ff1Ln1BwdIdeal.nD Cert.Ff1Ln1BwdIdeal.τ).loc Cert.Ff1Ln1BwdIdeal.main_arg4)
      ∧ r.2.mem ((c.tc : Thread Cert.Ff1Ln1BwdIdeal.nD Cert.Ff1Ln1BwdIdeal.τ).loc Cert.Ff1Ln1BwdIdeal.main_arg5) = m ((c.tc : Thread Cert.Ff1Ln1BwdIdeal.nD Cert.Ff1Ln1BwdIdeal.τ).loc Cert.Ff1Ln1BwdIdeal.main_arg5))
      ∧ r.2.sem = fun _ => 0)

def quiescent_Ff1Ln1BwdRefIdeal [hFf1Ln1BwdRefIdeal : Cert.Ff1Ln1BwdRefIdeal.Facts] : Prop :=
  ∀ (m : (ℓ : Loc Cert.Ff1Ln1BwdRefIdeal.nD Cert.Ff1Ln1BwdRefIdeal.τ Cert.Ff1Ln1BwdRefIdeal.sig) → Buf (Elt Ideal) ℓ) (g : Dev Cert.Ff1Ln1BwdRefIdeal.nD → PrngReg), Pre_Ff1Ln1BwdRefIdeal m →
    θ_run (Cert.Ff1Ln1BwdRefIdeal.defs (F := Ideal)) (onTc (τ := Cert.Ff1Ln1BwdRefIdeal.τ) (Cert.Ff1Ln1BwdRefIdeal.main (F := Ideal))) ⟨m, fun _ => 0, g⟩ (fun r => (∀ c : Dev Cert.Ff1Ln1BwdRefIdeal.nD,
      r.2.mem ((c.tc : Thread Cert.Ff1Ln1BwdRefIdeal.nD Cert.Ff1Ln1BwdRefIdeal.τ).loc Cert.Ff1Ln1BwdRefIdeal.main_arg0) = m ((c.tc : Thread Cert.Ff1Ln1BwdRefIdeal.nD Cert.Ff1Ln1BwdRefIdeal.τ).loc Cert.Ff1Ln1BwdRefIdeal.main_arg0)
      ∧ r.2.mem ((c.tc : Thread Cert.Ff1Ln1BwdRefIdeal.nD Cert.Ff1Ln1BwdRefIdeal.τ).loc Cert.Ff1Ln1BwdRefIdeal.main_arg1) = m ((c.tc : Thread Cert.Ff1Ln1BwdRefIdeal.nD Cert.Ff1Ln1BwdRefIdeal.τ).loc Cert.Ff1Ln1BwdRefIdeal.main_arg1)
      ∧ r.2.mem ((c.tc : Thread Cert.Ff1Ln1BwdRefIdeal.nD Cert.Ff1Ln1BwdRefIdeal.τ).loc Cert.Ff1Ln1BwdRefIdeal.main_arg2) = m ((c.tc : Thread Cert.Ff1Ln1BwdRefIdeal.nD Cert.Ff1Ln1BwdRefIdeal.τ).loc Cert.Ff1Ln1BwdRefIdeal.main_arg2)
      ∧ r.2.mem ((c.tc : Thread Cert.Ff1Ln1BwdRefIdeal.nD Cert.Ff1Ln1BwdRefIdeal.τ).loc Cert.Ff1Ln1BwdRefIdeal.main_arg3) = m ((c.tc : Thread Cert.Ff1Ln1BwdRefIdeal.nD Cert.Ff1Ln1BwdRefIdeal.τ).loc Cert.Ff1Ln1BwdRefIdeal.main_arg3)
      ∧ r.2.mem ((c.tc : Thread Cert.Ff1Ln1BwdRefIdeal.nD Cert.Ff1Ln1BwdRefIdeal.τ).loc Cert.Ff1Ln1BwdRefIdeal.main_arg4) = m ((c.tc : Thread Cert.Ff1Ln1BwdRefIdeal.nD Cert.Ff1Ln1BwdRefIdeal.τ).loc Cert.Ff1Ln1BwdRefIdeal.main_arg4)
      ∧ r.2.mem ((c.tc : Thread Cert.Ff1Ln1BwdRefIdeal.nD Cert.Ff1Ln1BwdRefIdeal.τ).loc Cert.Ff1Ln1BwdRefIdeal.main_arg5) = m ((c.tc : Thread Cert.Ff1Ln1BwdRefIdeal.nD Cert.Ff1Ln1BwdRefIdeal.τ).loc Cert.Ff1Ln1BwdRefIdeal.main_arg5))
      ∧ r.2.sem = fun _ => 0)

def quiescent_Ff1Ln1BwdRefIdeal_pre_finite_ff1_dgrad_ln1_bwd [hFf1Ln1BwdRefIdeal : Cert.Ff1Ln1BwdRefIdeal.Facts] [hPre_finite_ff1_dgrad_ln1_bwd : Cert.Pre_finite_ff1_dgrad_ln1_bwd.Facts] : Prop :=
  ∀ (m : (ℓ : Loc Cert.Ff1Ln1BwdRefIdeal.nD Cert.Ff1Ln1BwdRefIdeal.τ Cert.Ff1Ln1BwdRefIdeal.sig) → Buf (Elt Ideal) ℓ) (g : Dev Cert.Ff1Ln1BwdRefIdeal.nD → PrngReg), Pre_Ff1Ln1BwdRefIdeal_finite_ff1_dgrad_ln1_bwd m →
    θ_run (Cert.Ff1Ln1BwdRefIdeal.defs (F := Ideal)) (onTc (τ := Cert.Ff1Ln1BwdRefIdeal.τ) (Cert.Ff1Ln1BwdRefIdeal.main (F := Ideal))) ⟨m, fun _ => 0, g⟩ (fun r => (∀ c : Dev Cert.Ff1Ln1BwdRefIdeal.nD,
      r.2.mem ((c.tc : Thread Cert.Ff1Ln1BwdRefIdeal.nD Cert.Ff1Ln1BwdRefIdeal.τ).loc Cert.Ff1Ln1BwdRefIdeal.main_arg0) = m ((c.tc : Thread Cert.Ff1Ln1BwdRefIdeal.nD Cert.Ff1Ln1BwdRefIdeal.τ).loc Cert.Ff1Ln1BwdRefIdeal.main_arg0)
      ∧ r.2.mem ((c.tc : Thread Cert.Ff1Ln1BwdRefIdeal.nD Cert.Ff1Ln1BwdRefIdeal.τ).loc Cert.Ff1Ln1BwdRefIdeal.main_arg1) = m ((c.tc : Thread Cert.Ff1Ln1BwdRefIdeal.nD Cert.Ff1Ln1BwdRefIdeal.τ).loc Cert.Ff1Ln1BwdRefIdeal.main_arg1)
      ∧ r.2.mem ((c.tc : Thread Cert.Ff1Ln1BwdRefIdeal.nD Cert.Ff1Ln1BwdRefIdeal.τ).loc Cert.Ff1Ln1BwdRefIdeal.main_arg2) = m ((c.tc : Thread Cert.Ff1Ln1BwdRefIdeal.nD Cert.Ff1Ln1BwdRefIdeal.τ).loc Cert.Ff1Ln1BwdRefIdeal.main_arg2)
      ∧ r.2.mem ((c.tc : Thread Cert.Ff1Ln1BwdRefIdeal.nD Cert.Ff1Ln1BwdRefIdeal.τ).loc Cert.Ff1Ln1BwdRefIdeal.main_arg3) = m ((c.tc : Thread Cert.Ff1Ln1BwdRefIdeal.nD Cert.Ff1Ln1BwdRefIdeal.τ).loc Cert.Ff1Ln1BwdRefIdeal.main_arg3)
      ∧ r.2.mem ((c.tc : Thread Cert.Ff1Ln1BwdRefIdeal.nD Cert.Ff1Ln1BwdRefIdeal.τ).loc Cert.Ff1Ln1BwdRefIdeal.main_arg4) = m ((c.tc : Thread Cert.Ff1Ln1BwdRefIdeal.nD Cert.Ff1Ln1BwdRefIdeal.τ).loc Cert.Ff1Ln1BwdRefIdeal.main_arg4)
      ∧ r.2.mem ((c.tc : Thread Cert.Ff1Ln1BwdRefIdeal.nD Cert.Ff1Ln1BwdRefIdeal.τ).loc Cert.Ff1Ln1BwdRefIdeal.main_arg5) = m ((c.tc : Thread Cert.Ff1Ln1BwdRefIdeal.nD Cert.Ff1Ln1BwdRefIdeal.τ).loc Cert.Ff1Ln1BwdRefIdeal.main_arg5))
      ∧ r.2.sem = fun _ => 0)

def quiescent_InLnInBwd [hInLnInBwd : Cert.InLnInBwd.Facts] : Prop :=
  ∀ (m : (ℓ : Loc Cert.InLnInBwd.nD Cert.InLnInBwd.τ Cert.InLnInBwd.sig) → Buf (Elt Bits) ℓ) (g : Dev Cert.InLnInBwd.nD → PrngReg), Pre_InLnInBwd m →
    θ_run (Cert.InLnInBwd.defs (F := Bits)) (onTc (τ := Cert.InLnInBwd.τ) (Cert.InLnInBwd.main (F := Bits))) ⟨m, fun _ => 0, g⟩ (fun r => (∀ c : Dev Cert.InLnInBwd.nD,
      r.2.mem ((c.tc : Thread Cert.InLnInBwd.nD Cert.InLnInBwd.τ).loc Cert.InLnInBwd.main_arg0) = m ((c.tc : Thread Cert.InLnInBwd.nD Cert.InLnInBwd.τ).loc Cert.InLnInBwd.main_arg0)
      ∧ r.2.mem ((c.tc : Thread Cert.InLnInBwd.nD Cert.InLnInBwd.τ).loc Cert.InLnInBwd.main_arg1) = m ((c.tc : Thread Cert.InLnInBwd.nD Cert.InLnInBwd.τ).loc Cert.InLnInBwd.main_arg1)
      ∧ r.2.mem ((c.tc : Thread Cert.InLnInBwd.nD Cert.InLnInBwd.τ).loc Cert.InLnInBwd.main_arg2) = m ((c.tc : Thread Cert.InLnInBwd.nD Cert.InLnInBwd.τ).loc Cert.InLnInBwd.main_arg2)
      ∧ r.2.mem ((c.tc : Thread Cert.InLnInBwd.nD Cert.InLnInBwd.τ).loc Cert.InLnInBwd.main_arg3) = m ((c.tc : Thread Cert.InLnInBwd.nD Cert.InLnInBwd.τ).loc Cert.InLnInBwd.main_arg3)
      ∧ r.2.mem ((c.tc : Thread Cert.InLnInBwd.nD Cert.InLnInBwd.τ).loc Cert.InLnInBwd.main_arg4) = m ((c.tc : Thread Cert.InLnInBwd.nD Cert.InLnInBwd.τ).loc Cert.InLnInBwd.main_arg4)
      ∧ r.2.mem ((c.tc : Thread Cert.InLnInBwd.nD Cert.InLnInBwd.τ).loc Cert.InLnInBwd.main_arg5) = m ((c.tc : Thread Cert.InLnInBwd.nD Cert.InLnInBwd.τ).loc Cert.InLnInBwd.main_arg5))
      ∧ r.2.sem = fun _ => 0)

def quiescent_InLnInBwdIdeal [hInLnInBwdIdeal : Cert.InLnInBwdIdeal.Facts] : Prop :=
  ∀ (m : (ℓ : Loc Cert.InLnInBwdIdeal.nD Cert.InLnInBwdIdeal.τ Cert.InLnInBwdIdeal.sig) → Buf (Elt Ideal) ℓ) (g : Dev Cert.InLnInBwdIdeal.nD → PrngReg), Pre_InLnInBwdIdeal m →
    θ_run (Cert.InLnInBwdIdeal.defs (F := Ideal)) (onTc (τ := Cert.InLnInBwdIdeal.τ) (Cert.InLnInBwdIdeal.main (F := Ideal))) ⟨m, fun _ => 0, g⟩ (fun r => (∀ c : Dev Cert.InLnInBwdIdeal.nD,
      r.2.mem ((c.tc : Thread Cert.InLnInBwdIdeal.nD Cert.InLnInBwdIdeal.τ).loc Cert.InLnInBwdIdeal.main_arg0) = m ((c.tc : Thread Cert.InLnInBwdIdeal.nD Cert.InLnInBwdIdeal.τ).loc Cert.InLnInBwdIdeal.main_arg0)
      ∧ r.2.mem ((c.tc : Thread Cert.InLnInBwdIdeal.nD Cert.InLnInBwdIdeal.τ).loc Cert.InLnInBwdIdeal.main_arg1) = m ((c.tc : Thread Cert.InLnInBwdIdeal.nD Cert.InLnInBwdIdeal.τ).loc Cert.InLnInBwdIdeal.main_arg1)
      ∧ r.2.mem ((c.tc : Thread Cert.InLnInBwdIdeal.nD Cert.InLnInBwdIdeal.τ).loc Cert.InLnInBwdIdeal.main_arg2) = m ((c.tc : Thread Cert.InLnInBwdIdeal.nD Cert.InLnInBwdIdeal.τ).loc Cert.InLnInBwdIdeal.main_arg2)
      ∧ r.2.mem ((c.tc : Thread Cert.InLnInBwdIdeal.nD Cert.InLnInBwdIdeal.τ).loc Cert.InLnInBwdIdeal.main_arg3) = m ((c.tc : Thread Cert.InLnInBwdIdeal.nD Cert.InLnInBwdIdeal.τ).loc Cert.InLnInBwdIdeal.main_arg3)
      ∧ r.2.mem ((c.tc : Thread Cert.InLnInBwdIdeal.nD Cert.InLnInBwdIdeal.τ).loc Cert.InLnInBwdIdeal.main_arg4) = m ((c.tc : Thread Cert.InLnInBwdIdeal.nD Cert.InLnInBwdIdeal.τ).loc Cert.InLnInBwdIdeal.main_arg4)
      ∧ r.2.mem ((c.tc : Thread Cert.InLnInBwdIdeal.nD Cert.InLnInBwdIdeal.τ).loc Cert.InLnInBwdIdeal.main_arg5) = m ((c.tc : Thread Cert.InLnInBwdIdeal.nD Cert.InLnInBwdIdeal.τ).loc Cert.InLnInBwdIdeal.main_arg5))
      ∧ r.2.sem = fun _ => 0)

def quiescent_InLnInBwdIdeal_pre_finite_in_dgrad_ln_in_bwd [hInLnInBwdIdeal : Cert.InLnInBwdIdeal.Facts] [hPre_finite_in_dgrad_ln_in_bwd : Cert.Pre_finite_in_dgrad_ln_in_bwd.Facts] : Prop :=
  ∀ (m : (ℓ : Loc Cert.InLnInBwdIdeal.nD Cert.InLnInBwdIdeal.τ Cert.InLnInBwdIdeal.sig) → Buf (Elt Ideal) ℓ) (g : Dev Cert.InLnInBwdIdeal.nD → PrngReg), Pre_InLnInBwdIdeal_finite_in_dgrad_ln_in_bwd m →
    θ_run (Cert.InLnInBwdIdeal.defs (F := Ideal)) (onTc (τ := Cert.InLnInBwdIdeal.τ) (Cert.InLnInBwdIdeal.main (F := Ideal))) ⟨m, fun _ => 0, g⟩ (fun r => (∀ c : Dev Cert.InLnInBwdIdeal.nD,
      r.2.mem ((c.tc : Thread Cert.InLnInBwdIdeal.nD Cert.InLnInBwdIdeal.τ).loc Cert.InLnInBwdIdeal.main_arg0) = m ((c.tc : Thread Cert.InLnInBwdIdeal.nD Cert.InLnInBwdIdeal.τ).loc Cert.InLnInBwdIdeal.main_arg0)
      ∧ r.2.mem ((c.tc : Thread Cert.InLnInBwdIdeal.nD Cert.InLnInBwdIdeal.τ).loc Cert.InLnInBwdIdeal.main_arg1) = m ((c.tc : Thread Cert.InLnInBwdIdeal.nD Cert.InLnInBwdIdeal.τ).loc Cert.InLnInBwdIdeal.main_arg1)
      ∧ r.2.mem ((c.tc : Thread Cert.InLnInBwdIdeal.nD Cert.InLnInBwdIdeal.τ).loc Cert.InLnInBwdIdeal.main_arg2) = m ((c.tc : Thread Cert.InLnInBwdIdeal.nD Cert.InLnInBwdIdeal.τ).loc Cert.InLnInBwdIdeal.main_arg2)
      ∧ r.2.mem ((c.tc : Thread Cert.InLnInBwdIdeal.nD Cert.InLnInBwdIdeal.τ).loc Cert.InLnInBwdIdeal.main_arg3) = m ((c.tc : Thread Cert.InLnInBwdIdeal.nD Cert.InLnInBwdIdeal.τ).loc Cert.InLnInBwdIdeal.main_arg3)
      ∧ r.2.mem ((c.tc : Thread Cert.InLnInBwdIdeal.nD Cert.InLnInBwdIdeal.τ).loc Cert.InLnInBwdIdeal.main_arg4) = m ((c.tc : Thread Cert.InLnInBwdIdeal.nD Cert.InLnInBwdIdeal.τ).loc Cert.InLnInBwdIdeal.main_arg4)
      ∧ r.2.mem ((c.tc : Thread Cert.InLnInBwdIdeal.nD Cert.InLnInBwdIdeal.τ).loc Cert.InLnInBwdIdeal.main_arg5) = m ((c.tc : Thread Cert.InLnInBwdIdeal.nD Cert.InLnInBwdIdeal.τ).loc Cert.InLnInBwdIdeal.main_arg5))
      ∧ r.2.sem = fun _ => 0)

def quiescent_InLnInBwdRefIdeal [hInLnInBwdRefIdeal : Cert.InLnInBwdRefIdeal.Facts] : Prop :=
  ∀ (m : (ℓ : Loc Cert.InLnInBwdRefIdeal.nD Cert.InLnInBwdRefIdeal.τ Cert.InLnInBwdRefIdeal.sig) → Buf (Elt Ideal) ℓ) (g : Dev Cert.InLnInBwdRefIdeal.nD → PrngReg), Pre_InLnInBwdRefIdeal m →
    θ_run (Cert.InLnInBwdRefIdeal.defs (F := Ideal)) (onTc (τ := Cert.InLnInBwdRefIdeal.τ) (Cert.InLnInBwdRefIdeal.main (F := Ideal))) ⟨m, fun _ => 0, g⟩ (fun r => (∀ c : Dev Cert.InLnInBwdRefIdeal.nD,
      r.2.mem ((c.tc : Thread Cert.InLnInBwdRefIdeal.nD Cert.InLnInBwdRefIdeal.τ).loc Cert.InLnInBwdRefIdeal.main_arg0) = m ((c.tc : Thread Cert.InLnInBwdRefIdeal.nD Cert.InLnInBwdRefIdeal.τ).loc Cert.InLnInBwdRefIdeal.main_arg0)
      ∧ r.2.mem ((c.tc : Thread Cert.InLnInBwdRefIdeal.nD Cert.InLnInBwdRefIdeal.τ).loc Cert.InLnInBwdRefIdeal.main_arg1) = m ((c.tc : Thread Cert.InLnInBwdRefIdeal.nD Cert.InLnInBwdRefIdeal.τ).loc Cert.InLnInBwdRefIdeal.main_arg1)
      ∧ r.2.mem ((c.tc : Thread Cert.InLnInBwdRefIdeal.nD Cert.InLnInBwdRefIdeal.τ).loc Cert.InLnInBwdRefIdeal.main_arg2) = m ((c.tc : Thread Cert.InLnInBwdRefIdeal.nD Cert.InLnInBwdRefIdeal.τ).loc Cert.InLnInBwdRefIdeal.main_arg2)
      ∧ r.2.mem ((c.tc : Thread Cert.InLnInBwdRefIdeal.nD Cert.InLnInBwdRefIdeal.τ).loc Cert.InLnInBwdRefIdeal.main_arg3) = m ((c.tc : Thread Cert.InLnInBwdRefIdeal.nD Cert.InLnInBwdRefIdeal.τ).loc Cert.InLnInBwdRefIdeal.main_arg3)
      ∧ r.2.mem ((c.tc : Thread Cert.InLnInBwdRefIdeal.nD Cert.InLnInBwdRefIdeal.τ).loc Cert.InLnInBwdRefIdeal.main_arg4) = m ((c.tc : Thread Cert.InLnInBwdRefIdeal.nD Cert.InLnInBwdRefIdeal.τ).loc Cert.InLnInBwdRefIdeal.main_arg4)
      ∧ r.2.mem ((c.tc : Thread Cert.InLnInBwdRefIdeal.nD Cert.InLnInBwdRefIdeal.τ).loc Cert.InLnInBwdRefIdeal.main_arg5) = m ((c.tc : Thread Cert.InLnInBwdRefIdeal.nD Cert.InLnInBwdRefIdeal.τ).loc Cert.InLnInBwdRefIdeal.main_arg5))
      ∧ r.2.sem = fun _ => 0)

def quiescent_InLnInBwdRefIdeal_pre_finite_in_dgrad_ln_in_bwd [hInLnInBwdRefIdeal : Cert.InLnInBwdRefIdeal.Facts] [hPre_finite_in_dgrad_ln_in_bwd : Cert.Pre_finite_in_dgrad_ln_in_bwd.Facts] : Prop :=
  ∀ (m : (ℓ : Loc Cert.InLnInBwdRefIdeal.nD Cert.InLnInBwdRefIdeal.τ Cert.InLnInBwdRefIdeal.sig) → Buf (Elt Ideal) ℓ) (g : Dev Cert.InLnInBwdRefIdeal.nD → PrngReg), Pre_InLnInBwdRefIdeal_finite_in_dgrad_ln_in_bwd m →
    θ_run (Cert.InLnInBwdRefIdeal.defs (F := Ideal)) (onTc (τ := Cert.InLnInBwdRefIdeal.τ) (Cert.InLnInBwdRefIdeal.main (F := Ideal))) ⟨m, fun _ => 0, g⟩ (fun r => (∀ c : Dev Cert.InLnInBwdRefIdeal.nD,
      r.2.mem ((c.tc : Thread Cert.InLnInBwdRefIdeal.nD Cert.InLnInBwdRefIdeal.τ).loc Cert.InLnInBwdRefIdeal.main_arg0) = m ((c.tc : Thread Cert.InLnInBwdRefIdeal.nD Cert.InLnInBwdRefIdeal.τ).loc Cert.InLnInBwdRefIdeal.main_arg0)
      ∧ r.2.mem ((c.tc : Thread Cert.InLnInBwdRefIdeal.nD Cert.InLnInBwdRefIdeal.τ).loc Cert.InLnInBwdRefIdeal.main_arg1) = m ((c.tc : Thread Cert.InLnInBwdRefIdeal.nD Cert.InLnInBwdRefIdeal.τ).loc Cert.InLnInBwdRefIdeal.main_arg1)
      ∧ r.2.mem ((c.tc : Thread Cert.InLnInBwdRefIdeal.nD Cert.InLnInBwdRefIdeal.τ).loc Cert.InLnInBwdRefIdeal.main_arg2) = m ((c.tc : Thread Cert.InLnInBwdRefIdeal.nD Cert.InLnInBwdRefIdeal.τ).loc Cert.InLnInBwdRefIdeal.main_arg2)
      ∧ r.2.mem ((c.tc : Thread Cert.InLnInBwdRefIdeal.nD Cert.InLnInBwdRefIdeal.τ).loc Cert.InLnInBwdRefIdeal.main_arg3) = m ((c.tc : Thread Cert.InLnInBwdRefIdeal.nD Cert.InLnInBwdRefIdeal.τ).loc Cert.InLnInBwdRefIdeal.main_arg3)
      ∧ r.2.mem ((c.tc : Thread Cert.InLnInBwdRefIdeal.nD Cert.InLnInBwdRefIdeal.τ).loc Cert.InLnInBwdRefIdeal.main_arg4) = m ((c.tc : Thread Cert.InLnInBwdRefIdeal.nD Cert.InLnInBwdRefIdeal.τ).loc Cert.InLnInBwdRefIdeal.main_arg4)
      ∧ r.2.mem ((c.tc : Thread Cert.InLnInBwdRefIdeal.nD Cert.InLnInBwdRefIdeal.τ).loc Cert.InLnInBwdRefIdeal.main_arg5) = m ((c.tc : Thread Cert.InLnInBwdRefIdeal.nD Cert.InLnInBwdRefIdeal.τ).loc Cert.InLnInBwdRefIdeal.main_arg5))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2))
      ∧ r.2.sem = fun _ => 0)

def quiescent_LnInFwd [hLnInFwd : Cert.LnInFwd.Facts] : Prop :=
  ∀ (m : (ℓ : Loc Cert.LnInFwd.nD Cert.LnInFwd.τ Cert.LnInFwd.sig) → Buf (Elt Bits) ℓ) (g : Dev Cert.LnInFwd.nD → PrngReg), Pre_LnInFwd m →
    θ_run (Cert.LnInFwd.defs (F := Bits)) (onTc (τ := Cert.LnInFwd.τ) (Cert.LnInFwd.main (F := Bits))) ⟨m, fun _ => 0, g⟩ (fun r => (∀ c : Dev Cert.LnInFwd.nD,
      r.2.mem ((c.tc : Thread Cert.LnInFwd.nD Cert.LnInFwd.τ).loc Cert.LnInFwd.main_arg0) = m ((c.tc : Thread Cert.LnInFwd.nD Cert.LnInFwd.τ).loc Cert.LnInFwd.main_arg0)
      ∧ r.2.mem ((c.tc : Thread Cert.LnInFwd.nD Cert.LnInFwd.τ).loc Cert.LnInFwd.main_arg1) = m ((c.tc : Thread Cert.LnInFwd.nD Cert.LnInFwd.τ).loc Cert.LnInFwd.main_arg1)
      ∧ r.2.mem ((c.tc : Thread Cert.LnInFwd.nD Cert.LnInFwd.τ).loc Cert.LnInFwd.main_arg2) = m ((c.tc : Thread Cert.LnInFwd.nD Cert.LnInFwd.τ).loc Cert.LnInFwd.main_arg2))
      ∧ r.2.sem = fun _ => 0)

def quiescent_LnInFwdIdeal [hLnInFwdIdeal : Cert.LnInFwdIdeal.Facts] : Prop :=
  ∀ (m : (ℓ : Loc Cert.LnInFwdIdeal.nD Cert.LnInFwdIdeal.τ Cert.LnInFwdIdeal.sig) → Buf (Elt Ideal) ℓ) (g : Dev Cert.LnInFwdIdeal.nD → PrngReg), Pre_LnInFwdIdeal m →
    θ_run (Cert.LnInFwdIdeal.defs (F := Ideal)) (onTc (τ := Cert.LnInFwdIdeal.τ) (Cert.LnInFwdIdeal.main (F := Ideal))) ⟨m, fun _ => 0, g⟩ (fun r => (∀ c : Dev Cert.LnInFwdIdeal.nD,
      r.2.mem ((c.tc : Thread Cert.LnInFwdIdeal.nD Cert.LnInFwdIdeal.τ).loc Cert.LnInFwdIdeal.main_arg0) = m ((c.tc : Thread Cert.LnInFwdIdeal.nD Cert.LnInFwdIdeal.τ).loc Cert.LnInFwdIdeal.main_arg0)
      ∧ r.2.mem ((c.tc : Thread Cert.LnInFwdIdeal.nD Cert.LnInFwdIdeal.τ).loc Cert.LnInFwdIdeal.main_arg1) = m ((c.tc : Thread Cert.LnInFwdIdeal.nD Cert.LnInFwdIdeal.τ).loc Cert.LnInFwdIdeal.main_arg1)
      ∧ r.2.mem ((c.tc : Thread Cert.LnInFwdIdeal.nD Cert.LnInFwdIdeal.τ).loc Cert.LnInFwdIdeal.main_arg2) = m ((c.tc : Thread Cert.LnInFwdIdeal.nD Cert.LnInFwdIdeal.τ).loc Cert.LnInFwdIdeal.main_arg2))
      ∧ r.2.sem = fun _ => 0)

def quiescent_LnInFwdRefIdeal [hLnInFwdRefIdeal : Cert.LnInFwdRefIdeal.Facts] : Prop :=
  ∀ (m : (ℓ : Loc Cert.LnInFwdRefIdeal.nD Cert.LnInFwdRefIdeal.τ Cert.LnInFwdRefIdeal.sig) → Buf (Elt Ideal) ℓ) (g : Dev Cert.LnInFwdRefIdeal.nD → PrngReg), Pre_LnInFwdRefIdeal m →
    θ_run (Cert.LnInFwdRefIdeal.defs (F := Ideal)) (onTc (τ := Cert.LnInFwdRefIdeal.τ) (Cert.LnInFwdRefIdeal.main (F := Ideal))) ⟨m, fun _ => 0, g⟩ (fun r => (∀ c : Dev Cert.LnInFwdRefIdeal.nD,
      r.2.mem ((c.tc : Thread Cert.LnInFwdRefIdeal.nD Cert.LnInFwdRefIdeal.τ).loc Cert.LnInFwdRefIdeal.main_arg0) = m ((c.tc : Thread Cert.LnInFwdRefIdeal.nD Cert.LnInFwdRefIdeal.τ).loc Cert.LnInFwdRefIdeal.main_arg0)
      ∧ r.2.mem ((c.tc : Thread Cert.LnInFwdRefIdeal.nD Cert.LnInFwdRefIdeal.τ).loc Cert.LnInFwdRefIdeal.main_arg1) = m ((c.tc : Thread Cert.LnInFwdRefIdeal.nD Cert.LnInFwdRefIdeal.τ).loc Cert.LnInFwdRefIdeal.main_arg1)
      ∧ r.2.mem ((c.tc : Thread Cert.LnInFwdRefIdeal.nD Cert.LnInFwdRefIdeal.τ).loc Cert.LnInFwdRefIdeal.main_arg2) = m ((c.tc : Thread Cert.LnInFwdRefIdeal.nD Cert.LnInFwdRefIdeal.τ).loc Cert.LnInFwdRefIdeal.main_arg2))
      ∧ r.2.sem = fun _ => 0)

def quiescent_Ff1Relu2 [hFf1Relu2 : Cert.Ff1Relu2.Facts] : Prop :=
  ∀ (m : (ℓ : Loc Cert.Ff1Relu2.nD Cert.Ff1Relu2.τ Cert.Ff1Relu2.sig) → Buf (Elt Bits) ℓ) (g : Dev Cert.Ff1Relu2.nD → PrngReg), Pre_Ff1Relu2 m →
    θ_run (Cert.Ff1Relu2.defs (F := Bits)) (onTc (τ := Cert.Ff1Relu2.τ) (Cert.Ff1Relu2.main (F := Bits))) ⟨m, fun _ => 0, g⟩ (fun r => (∀ c : Dev Cert.Ff1Relu2.nD,
      r.2.mem ((c.tc : Thread Cert.Ff1Relu2.nD Cert.Ff1Relu2.τ).loc Cert.Ff1Relu2.main_arg0) = m ((c.tc : Thread Cert.Ff1Relu2.nD Cert.Ff1Relu2.τ).loc Cert.Ff1Relu2.main_arg0)
      ∧ r.2.mem ((c.tc : Thread Cert.Ff1Relu2.nD Cert.Ff1Relu2.τ).loc Cert.Ff1Relu2.main_arg1) = m ((c.tc : Thread Cert.Ff1Relu2.nD Cert.Ff1Relu2.τ).loc Cert.Ff1Relu2.main_arg1))
      ∧ r.2.sem = fun _ => 0)

def quiescent_Ff1Relu2Ideal [hFf1Relu2Ideal : Cert.Ff1Relu2Ideal.Facts] : Prop :=
  ∀ (m : (ℓ : Loc Cert.Ff1Relu2Ideal.nD Cert.Ff1Relu2Ideal.τ Cert.Ff1Relu2Ideal.sig) → Buf (Elt Ideal) ℓ) (g : Dev Cert.Ff1Relu2Ideal.nD → PrngReg), Pre_Ff1Relu2Ideal m →
    θ_run (Cert.Ff1Relu2Ideal.defs (F := Ideal)) (onTc (τ := Cert.Ff1Relu2Ideal.τ) (Cert.Ff1Relu2Ideal.main (F := Ideal))) ⟨m, fun _ => 0, g⟩ (fun r => (∀ c : Dev Cert.Ff1Relu2Ideal.nD,
      r.2.mem ((c.tc : Thread Cert.Ff1Relu2Ideal.nD Cert.Ff1Relu2Ideal.τ).loc Cert.Ff1Relu2Ideal.main_arg0) = m ((c.tc : Thread Cert.Ff1Relu2Ideal.nD Cert.Ff1Relu2Ideal.τ).loc Cert.Ff1Relu2Ideal.main_arg0)
      ∧ r.2.mem ((c.tc : Thread Cert.Ff1Relu2Ideal.nD Cert.Ff1Relu2Ideal.τ).loc Cert.Ff1Relu2Ideal.main_arg1) = m ((c.tc : Thread Cert.Ff1Relu2Ideal.nD Cert.Ff1Relu2Ideal.τ).loc Cert.Ff1Relu2Ideal.main_arg1))
      ∧ r.2.sem = fun _ => 0)

def quiescent_Ff1Relu2RefIdeal [hFf1Relu2RefIdeal : Cert.Ff1Relu2RefIdeal.Facts] : Prop :=
  ∀ (m : (ℓ : Loc Cert.Ff1Relu2RefIdeal.nD Cert.Ff1Relu2RefIdeal.τ Cert.Ff1Relu2RefIdeal.sig) → Buf (Elt Ideal) ℓ) (g : Dev Cert.Ff1Relu2RefIdeal.nD → PrngReg), Pre_Ff1Relu2RefIdeal m →
    θ_run (Cert.Ff1Relu2RefIdeal.defs (F := Ideal)) (onTc (τ := Cert.Ff1Relu2RefIdeal.τ) (Cert.Ff1Relu2RefIdeal.main (F := Ideal))) ⟨m, fun _ => 0, g⟩ (fun r => (∀ c : Dev Cert.Ff1Relu2RefIdeal.nD,
      r.2.mem ((c.tc : Thread Cert.Ff1Relu2RefIdeal.nD Cert.Ff1Relu2RefIdeal.τ).loc Cert.Ff1Relu2RefIdeal.main_arg0) = m ((c.tc : Thread Cert.Ff1Relu2RefIdeal.nD Cert.Ff1Relu2RefIdeal.τ).loc Cert.Ff1Relu2RefIdeal.main_arg0)
      ∧ r.2.mem ((c.tc : Thread Cert.Ff1Relu2RefIdeal.nD Cert.Ff1Relu2RefIdeal.τ).loc Cert.Ff1Relu2RefIdeal.main_arg1) = m ((c.tc : Thread Cert.Ff1Relu2RefIdeal.nD Cert.Ff1Relu2RefIdeal.τ).loc Cert.Ff1Relu2RefIdeal.main_arg1))
      ∧ r.2.sem = fun _ => 0)

def quiescent_RopeTables [hRopeTables : Cert.RopeTables.Facts] : Prop :=
  ∀ (m : (ℓ : Loc Cert.RopeTables.nD Cert.RopeTables.τ Cert.RopeTables.sig) → Buf (Elt Bits) ℓ) (g : Dev Cert.RopeTables.nD → PrngReg), Pre_RopeTables m →
    θ_run (Cert.RopeTables.defs (F := Bits)) (onTc (τ := Cert.RopeTables.τ) (Cert.RopeTables.main (F := Bits))) ⟨m, fun _ => 0, g⟩ (fun r => (∀ c : Dev Cert.RopeTables.nD,
      r.2.mem ((c.tc : Thread Cert.RopeTables.nD Cert.RopeTables.τ).loc Cert.RopeTables.main_arg0) = m ((c.tc : Thread Cert.RopeTables.nD Cert.RopeTables.τ).loc Cert.RopeTables.main_arg0))
      ∧ r.2.sem = fun _ => 0)

def quiescent_RopeTablesIdeal [hRopeTablesIdeal : Cert.RopeTablesIdeal.Facts] : Prop :=
  ∀ (m : (ℓ : Loc Cert.RopeTablesIdeal.nD Cert.RopeTablesIdeal.τ Cert.RopeTablesIdeal.sig) → Buf (Elt Ideal) ℓ) (g : Dev Cert.RopeTablesIdeal.nD → PrngReg), Pre_RopeTablesIdeal m →
    θ_run (Cert.RopeTablesIdeal.defs (F := Ideal)) (onTc (τ := Cert.RopeTablesIdeal.τ) (Cert.RopeTablesIdeal.main (F := Ideal))) ⟨m, fun _ => 0, g⟩ (fun r => (∀ c : Dev Cert.RopeTablesIdeal.nD,
      r.2.mem ((c.tc : Thread Cert.RopeTablesIdeal.nD Cert.RopeTablesIdeal.τ).loc Cert.RopeTablesIdeal.main_arg0) = m ((c.tc : Thread Cert.RopeTablesIdeal.nD Cert.RopeTablesIdeal.τ).loc Cert.RopeTablesIdeal.main_arg0))
      ∧ r.2.sem = fun _ => 0)

def quiescent_RopeTablesRefIdeal [hRopeTablesRefIdeal : Cert.RopeTablesRefIdeal.Facts] : Prop :=
  ∀ (m : (ℓ : Loc Cert.RopeTablesRefIdeal.nD Cert.RopeTablesRefIdeal.τ Cert.RopeTablesRefIdeal.sig) → Buf (Elt Ideal) ℓ) (g : Dev Cert.RopeTablesRefIdeal.nD → PrngReg), Pre_RopeTablesRefIdeal m →
    θ_run (Cert.RopeTablesRefIdeal.defs (F := Ideal)) (onTc (τ := Cert.RopeTablesRefIdeal.τ) (Cert.RopeTablesRefIdeal.main (F := Ideal))) ⟨m, fun _ => 0, g⟩ (fun r => (∀ c : Dev Cert.RopeTablesRefIdeal.nD,
      r.2.mem ((c.tc : Thread Cert.RopeTablesRefIdeal.nD Cert.RopeTablesRefIdeal.τ).loc Cert.RopeTablesRefIdeal.main_arg0) = m ((c.tc : Thread Cert.RopeTablesRefIdeal.nD Cert.RopeTablesRefIdeal.τ).loc Cert.RopeTablesRefIdeal.main_arg0))
      ∧ r.2.sem = fun _ => 0)

def quiescent_ConvLnSilu [hConvLnSilu : Cert.ConvLnSilu.Facts] : Prop :=
  ∀ (m : (ℓ : Loc Cert.ConvLnSilu.nD Cert.ConvLnSilu.τ Cert.ConvLnSilu.sig) → Buf (Elt Bits) ℓ) (g : Dev Cert.ConvLnSilu.nD → PrngReg), Pre_ConvLnSilu m →
    θ_run (Cert.ConvLnSilu.defs (F := Bits)) (onTc (τ := Cert.ConvLnSilu.τ) (Cert.ConvLnSilu.main (F := Bits))) ⟨m, fun _ => 0, g⟩ (fun r => (∀ c : Dev Cert.ConvLnSilu.nD,
      r.2.mem ((c.tc : Thread Cert.ConvLnSilu.nD Cert.ConvLnSilu.τ).loc Cert.ConvLnSilu.main_arg0) = m ((c.tc : Thread Cert.ConvLnSilu.nD Cert.ConvLnSilu.τ).loc Cert.ConvLnSilu.main_arg0)
      ∧ r.2.mem ((c.tc : Thread Cert.ConvLnSilu.nD Cert.ConvLnSilu.τ).loc Cert.ConvLnSilu.main_arg1) = m ((c.tc : Thread Cert.ConvLnSilu.nD Cert.ConvLnSilu.τ).loc Cert.ConvLnSilu.main_arg1)
      ∧ r.2.mem ((c.tc : Thread Cert.ConvLnSilu.nD Cert.ConvLnSilu.τ).loc Cert.ConvLnSilu.main_arg2) = m ((c.tc : Thread Cert.ConvLnSilu.nD Cert.ConvLnSilu.τ).loc Cert.ConvLnSilu.main_arg2)
      ∧ r.2.mem ((c.tc : Thread Cert.ConvLnSilu.nD Cert.ConvLnSilu.τ).loc Cert.ConvLnSilu.main_arg3) = m ((c.tc : Thread Cert.ConvLnSilu.nD Cert.ConvLnSilu.τ).loc Cert.ConvLnSilu.main_arg3))
      ∧ r.2.sem = fun _ => 0)

def quiescent_ConvLnSiluIdeal [hConvLnSiluIdeal : Cert.ConvLnSiluIdeal.Facts] : Prop :=
  ∀ (m : (ℓ : Loc Cert.ConvLnSiluIdeal.nD Cert.ConvLnSiluIdeal.τ Cert.ConvLnSiluIdeal.sig) → Buf (Elt Ideal) ℓ) (g : Dev Cert.ConvLnSiluIdeal.nD → PrngReg), Pre_ConvLnSiluIdeal m →
    θ_run (Cert.ConvLnSiluIdeal.defs (F := Ideal)) (onTc (τ := Cert.ConvLnSiluIdeal.τ) (Cert.ConvLnSiluIdeal.main (F := Ideal))) ⟨m, fun _ => 0, g⟩ (fun r => (∀ c : Dev Cert.ConvLnSiluIdeal.nD,
      r.2.mem ((c.tc : Thread Cert.ConvLnSiluIdeal.nD Cert.ConvLnSiluIdeal.τ).loc Cert.ConvLnSiluIdeal.main_arg0) = m ((c.tc : Thread Cert.ConvLnSiluIdeal.nD Cert.ConvLnSiluIdeal.τ).loc Cert.ConvLnSiluIdeal.main_arg0)
      ∧ r.2.mem ((c.tc : Thread Cert.ConvLnSiluIdeal.nD Cert.ConvLnSiluIdeal.τ).loc Cert.ConvLnSiluIdeal.main_arg1) = m ((c.tc : Thread Cert.ConvLnSiluIdeal.nD Cert.ConvLnSiluIdeal.τ).loc Cert.ConvLnSiluIdeal.main_arg1)
      ∧ r.2.mem ((c.tc : Thread Cert.ConvLnSiluIdeal.nD Cert.ConvLnSiluIdeal.τ).loc Cert.ConvLnSiluIdeal.main_arg2) = m ((c.tc : Thread Cert.ConvLnSiluIdeal.nD Cert.ConvLnSiluIdeal.τ).loc Cert.ConvLnSiluIdeal.main_arg2)
      ∧ r.2.mem ((c.tc : Thread Cert.ConvLnSiluIdeal.nD Cert.ConvLnSiluIdeal.τ).loc Cert.ConvLnSiluIdeal.main_arg3) = m ((c.tc : Thread Cert.ConvLnSiluIdeal.nD Cert.ConvLnSiluIdeal.τ).loc Cert.ConvLnSiluIdeal.main_arg3))
      ∧ r.2.sem = fun _ => 0)

def quiescent_ConvLnSiluRefIdeal [hConvLnSiluRefIdeal : Cert.ConvLnSiluRefIdeal.Facts] : Prop :=
  ∀ (m : (ℓ : Loc Cert.ConvLnSiluRefIdeal.nD Cert.ConvLnSiluRefIdeal.τ Cert.ConvLnSiluRefIdeal.sig) → Buf (Elt Ideal) ℓ) (g : Dev Cert.ConvLnSiluRefIdeal.nD → PrngReg), Pre_ConvLnSiluRefIdeal m →
    θ_run (Cert.ConvLnSiluRefIdeal.defs (F := Ideal)) (onTc (τ := Cert.ConvLnSiluRefIdeal.τ) (Cert.ConvLnSiluRefIdeal.main (F := Ideal))) ⟨m, fun _ => 0, g⟩ (fun r => (∀ c : Dev Cert.ConvLnSiluRefIdeal.nD,
      r.2.mem ((c.tc : Thread Cert.ConvLnSiluRefIdeal.nD Cert.ConvLnSiluRefIdeal.τ).loc Cert.ConvLnSiluRefIdeal.main_arg0) = m ((c.tc : Thread Cert.ConvLnSiluRefIdeal.nD Cert.ConvLnSiluRefIdeal.τ).loc Cert.ConvLnSiluRefIdeal.main_arg0)
      ∧ r.2.mem ((c.tc : Thread Cert.ConvLnSiluRefIdeal.nD Cert.ConvLnSiluRefIdeal.τ).loc Cert.ConvLnSiluRefIdeal.main_arg1) = m ((c.tc : Thread Cert.ConvLnSiluRefIdeal.nD Cert.ConvLnSiluRefIdeal.τ).loc Cert.ConvLnSiluRefIdeal.main_arg1)
      ∧ r.2.mem ((c.tc : Thread Cert.ConvLnSiluRefIdeal.nD Cert.ConvLnSiluRefIdeal.τ).loc Cert.ConvLnSiluRefIdeal.main_arg2) = m ((c.tc : Thread Cert.ConvLnSiluRefIdeal.nD Cert.ConvLnSiluRefIdeal.τ).loc Cert.ConvLnSiluRefIdeal.main_arg2)
      ∧ r.2.mem ((c.tc : Thread Cert.ConvLnSiluRefIdeal.nD Cert.ConvLnSiluRefIdeal.τ).loc Cert.ConvLnSiluRefIdeal.main_arg3) = m ((c.tc : Thread Cert.ConvLnSiluRefIdeal.nD Cert.ConvLnSiluRefIdeal.τ).loc Cert.ConvLnSiluRefIdeal.main_arg3))
      ∧ r.2.sem = fun _ => 0)

def quiescent_MixLn1 [hMixLn1 : Cert.MixLn1.Facts] : Prop :=
  ∀ (m : (ℓ : Loc Cert.MixLn1.nD Cert.MixLn1.τ Cert.MixLn1.sig) → Buf (Elt Bits) ℓ) (g : Dev Cert.MixLn1.nD → PrngReg), Pre_MixLn1 m →
    θ_run (Cert.MixLn1.defs (F := Bits)) (onTc (τ := Cert.MixLn1.τ) (Cert.MixLn1.main (F := Bits))) ⟨m, fun _ => 0, g⟩ (fun r => (∀ c : Dev Cert.MixLn1.nD,
      r.2.mem ((c.tc : Thread Cert.MixLn1.nD Cert.MixLn1.τ).loc Cert.MixLn1.main_arg0) = m ((c.tc : Thread Cert.MixLn1.nD Cert.MixLn1.τ).loc Cert.MixLn1.main_arg0)
      ∧ r.2.mem ((c.tc : Thread Cert.MixLn1.nD Cert.MixLn1.τ).loc Cert.MixLn1.main_arg1) = m ((c.tc : Thread Cert.MixLn1.nD Cert.MixLn1.τ).loc Cert.MixLn1.main_arg1)
      ∧ r.2.mem ((c.tc : Thread Cert.MixLn1.nD Cert.MixLn1.τ).loc Cert.MixLn1.main_arg2) = m ((c.tc : Thread Cert.MixLn1.nD Cert.MixLn1.τ).loc Cert.MixLn1.main_arg2)
      ∧ r.2.mem ((c.tc : Thread Cert.MixLn1.nD Cert.MixLn1.τ).loc Cert.MixLn1.main_arg3) = m ((c.tc : Thread Cert.MixLn1.nD Cert.MixLn1.τ).loc Cert.MixLn1.main_arg3)
      ∧ r.2.mem ((c.tc : Thread Cert.MixLn1.nD Cert.MixLn1.τ).loc Cert.MixLn1.main_arg4) = m ((c.tc : Thread Cert.MixLn1.nD Cert.MixLn1.τ).loc Cert.MixLn1.main_arg4))
      ∧ r.2.sem = fun _ => 0)

def quiescent_MixLn1Ideal [hMixLn1Ideal : Cert.MixLn1Ideal.Facts] : Prop :=
  ∀ (m : (ℓ : Loc Cert.MixLn1Ideal.nD Cert.MixLn1Ideal.τ Cert.MixLn1Ideal.sig) → Buf (Elt Ideal) ℓ) (g : Dev Cert.MixLn1Ideal.nD → PrngReg), Pre_MixLn1Ideal m →
    θ_run (Cert.MixLn1Ideal.defs (F := Ideal)) (onTc (τ := Cert.MixLn1Ideal.τ) (Cert.MixLn1Ideal.main (F := Ideal))) ⟨m, fun _ => 0, g⟩ (fun r => (∀ c : Dev Cert.MixLn1Ideal.nD,
      r.2.mem ((c.tc : Thread Cert.MixLn1Ideal.nD Cert.MixLn1Ideal.τ).loc Cert.MixLn1Ideal.main_arg0) = m ((c.tc : Thread Cert.MixLn1Ideal.nD Cert.MixLn1Ideal.τ).loc Cert.MixLn1Ideal.main_arg0)
      ∧ r.2.mem ((c.tc : Thread Cert.MixLn1Ideal.nD Cert.MixLn1Ideal.τ).loc Cert.MixLn1Ideal.main_arg1) = m ((c.tc : Thread Cert.MixLn1Ideal.nD Cert.MixLn1Ideal.τ).loc Cert.MixLn1Ideal.main_arg1)
      ∧ r.2.mem ((c.tc : Thread Cert.MixLn1Ideal.nD Cert.MixLn1Ideal.τ).loc Cert.MixLn1Ideal.main_arg2) = m ((c.tc : Thread Cert.MixLn1Ideal.nD Cert.MixLn1Ideal.τ).loc Cert.MixLn1Ideal.main_arg2)
      ∧ r.2.mem ((c.tc : Thread Cert.MixLn1Ideal.nD Cert.MixLn1Ideal.τ).loc Cert.MixLn1Ideal.main_arg3) = m ((c.tc : Thread Cert.MixLn1Ideal.nD Cert.MixLn1Ideal.τ).loc Cert.MixLn1Ideal.main_arg3)
      ∧ r.2.mem ((c.tc : Thread Cert.MixLn1Ideal.nD Cert.MixLn1Ideal.τ).loc Cert.MixLn1Ideal.main_arg4) = m ((c.tc : Thread Cert.MixLn1Ideal.nD Cert.MixLn1Ideal.τ).loc Cert.MixLn1Ideal.main_arg4))
      ∧ r.2.sem = fun _ => 0)

def quiescent_MixLn1RefIdeal [hMixLn1RefIdeal : Cert.MixLn1RefIdeal.Facts] : Prop :=
  ∀ (m : (ℓ : Loc Cert.MixLn1RefIdeal.nD Cert.MixLn1RefIdeal.τ Cert.MixLn1RefIdeal.sig) → Buf (Elt Ideal) ℓ) (g : Dev Cert.MixLn1RefIdeal.nD → PrngReg), Pre_MixLn1RefIdeal m →
    θ_run (Cert.MixLn1RefIdeal.defs (F := Ideal)) (onTc (τ := Cert.MixLn1RefIdeal.τ) (Cert.MixLn1RefIdeal.main (F := Ideal))) ⟨m, fun _ => 0, g⟩ (fun r => (∀ c : Dev Cert.MixLn1RefIdeal.nD,
      r.2.mem ((c.tc : Thread Cert.MixLn1RefIdeal.nD Cert.MixLn1RefIdeal.τ).loc Cert.MixLn1RefIdeal.main_arg0) = m ((c.tc : Thread Cert.MixLn1RefIdeal.nD Cert.MixLn1RefIdeal.τ).loc Cert.MixLn1RefIdeal.main_arg0)
      ∧ r.2.mem ((c.tc : Thread Cert.MixLn1RefIdeal.nD Cert.MixLn1RefIdeal.τ).loc Cert.MixLn1RefIdeal.main_arg1) = m ((c.tc : Thread Cert.MixLn1RefIdeal.nD Cert.MixLn1RefIdeal.τ).loc Cert.MixLn1RefIdeal.main_arg1)
      ∧ r.2.mem ((c.tc : Thread Cert.MixLn1RefIdeal.nD Cert.MixLn1RefIdeal.τ).loc Cert.MixLn1RefIdeal.main_arg2) = m ((c.tc : Thread Cert.MixLn1RefIdeal.nD Cert.MixLn1RefIdeal.τ).loc Cert.MixLn1RefIdeal.main_arg2)
      ∧ r.2.mem ((c.tc : Thread Cert.MixLn1RefIdeal.nD Cert.MixLn1RefIdeal.τ).loc Cert.MixLn1RefIdeal.main_arg3) = m ((c.tc : Thread Cert.MixLn1RefIdeal.nD Cert.MixLn1RefIdeal.τ).loc Cert.MixLn1RefIdeal.main_arg3)
      ∧ r.2.mem ((c.tc : Thread Cert.MixLn1RefIdeal.nD Cert.MixLn1RefIdeal.τ).loc Cert.MixLn1RefIdeal.main_arg4) = m ((c.tc : Thread Cert.MixLn1RefIdeal.nD Cert.MixLn1RefIdeal.τ).loc Cert.MixLn1RefIdeal.main_arg4))
      ∧ r.2.sem = fun _ => 0)

def preserves_GluBwd_GluBwdIdeal : Prop :=
  True

def algebraic_GluBwdIdeal_GluBwdRefIdeal_on_conv_columns [hGluBwdIdeal : Cert.GluBwdIdeal.Facts] [hGluBwdRefIdeal : Cert.GluBwdRefIdeal.Facts] [hOn_conv_columns : Cert.On_conv_columns.Facts] : Prop :=
  ∀ (m : (ℓ : Loc Cert.GluBwdIdeal.nD Cert.GluBwdIdeal.τ Cert.GluBwdIdeal.sig) → Buf (Elt Ideal) ℓ) (g : Dev Cert.GluBwdIdeal.nD → PrngReg)
    (m' : (ℓ : Loc Cert.GluBwdRefIdeal.nD Cert.GluBwdRefIdeal.τ Cert.GluBwdRefIdeal.sig) → Buf (Elt Ideal) ℓ) (g' : Dev Cert.GluBwdRefIdeal.nD → PrngReg), Pre_GluBwdIdeal m →
    (∀ c : Dev Cert.GluBwdIdeal.nD,
      m' ((c.tc : Thread Cert.GluBwdRefIdeal.nD Cert.GluBwdRefIdeal.τ).loc Cert.GluBwdRefIdeal.main_arg0) = m ((c.tc : Thread Cert.GluBwdIdeal.nD Cert.GluBwdIdeal.τ).loc Cert.GluBwdIdeal.main_arg0)
      ∧ m' ((c.tc : Thread Cert.GluBwdRefIdeal.nD Cert.GluBwdRefIdeal.τ).loc Cert.GluBwdRefIdeal.main_arg1) = m ((c.tc : Thread Cert.GluBwdIdeal.nD Cert.GluBwdIdeal.τ).loc Cert.GluBwdIdeal.main_arg1)) →
    ∃ (v0 : (c : Dev Cert.GluBwdIdeal.nD) → Buf (Elt Ideal) ((c.tc : Thread Cert.GluBwdIdeal.nD Cert.GluBwdIdeal.τ).loc Cert.GluBwdIdeal.main_v7)),
      θ_run (Cert.GluBwdIdeal.defs (F := Ideal)) (onTc (τ := Cert.GluBwdIdeal.τ) (Cert.GluBwdIdeal.main (F := Ideal))) ⟨m, fun _ => 0, g⟩ (fun r => ∀ c : Dev Cert.GluBwdIdeal.nD,
          (∀ i : (⟨2, ![8192, 3200]⟩ : Shape).Idx, (Cert.On_conv_columns.fn (F := Ideal) (m ((c.tc : Thread Cert.GluBwdIdeal.nD Cert.GluBwdIdeal.τ).loc Cert.GluBwdIdeal.main_arg0)) (m ((c.tc : Thread Cert.GluBwdIdeal.nD Cert.GluBwdIdeal.τ).loc Cert.GluBwdIdeal.main_arg1))) i = 1#1 → r.2.mem ((c.tc : Thread Cert.GluBwdIdeal.nD Cert.GluBwdIdeal.τ).loc Cert.GluBwdIdeal.main_v7) i = v0 c i)
          ∧ r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
          ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1))
      ∧ θ_run (Cert.GluBwdRefIdeal.defs (F := Ideal)) (onTc (τ := Cert.GluBwdRefIdeal.τ) (Cert.GluBwdRefIdeal.main (F := Ideal))) ⟨m', fun _ => 0, g'⟩ (fun r => ∀ c : Dev Cert.GluBwdRefIdeal.nD,
          (∀ i : (⟨2, ![8192, 3200]⟩ : Shape).Idx, (Cert.On_conv_columns.fn (F := Ideal) (m ((c.tc : Thread Cert.GluBwdIdeal.nD Cert.GluBwdIdeal.τ).loc Cert.GluBwdIdeal.main_arg0)) (m ((c.tc : Thread Cert.GluBwdIdeal.nD Cert.GluBwdIdeal.τ).loc Cert.GluBwdIdeal.main_arg1))) i = 1#1 → r.2.mem ((c.tc : Thread Cert.GluBwdRefIdeal.nD Cert.GluBwdRefIdeal.τ).loc Cert.GluBwdRefIdeal.main_v19) i = v0 c i)
          ∧ r.2.mem ((c.tc : Thread Cert.GluBwdRefIdeal.nD Cert.GluBwdRefIdeal.τ).loc Cert.GluBwdRefIdeal.main_arg0) = m' ((c.tc : Thread Cert.GluBwdRefIdeal.nD Cert.GluBwdRefIdeal.τ).loc Cert.GluBwdRefIdeal.main_arg0)
          ∧ r.2.mem ((c.tc : Thread Cert.GluBwdRefIdeal.nD Cert.GluBwdRefIdeal.τ).loc Cert.GluBwdRefIdeal.main_arg1) = m' ((c.tc : Thread Cert.GluBwdRefIdeal.nD Cert.GluBwdRefIdeal.τ).loc Cert.GluBwdRefIdeal.main_arg1))

def preserves_Ff2Dgrad_Ff2DgradIdeal : Prop :=
  True

def algebraic_Ff2DgradIdeal_Ff2DgradRefIdeal [hFf2DgradIdeal : Cert.Ff2DgradIdeal.Facts] [hFf2DgradRefIdeal : Cert.Ff2DgradRefIdeal.Facts] : Prop :=
  ∀ (m : (ℓ : Loc Cert.Ff2DgradIdeal.nD Cert.Ff2DgradIdeal.τ Cert.Ff2DgradIdeal.sig) → Buf (Elt Ideal) ℓ) (g : Dev Cert.Ff2DgradIdeal.nD → PrngReg)
    (m' : (ℓ : Loc Cert.Ff2DgradRefIdeal.nD Cert.Ff2DgradRefIdeal.τ Cert.Ff2DgradRefIdeal.sig) → Buf (Elt Ideal) ℓ) (g' : Dev Cert.Ff2DgradRefIdeal.nD → PrngReg), Pre_Ff2DgradIdeal m →
    (∀ c : Dev Cert.Ff2DgradIdeal.nD,
      m' ((c.tc : Thread Cert.Ff2DgradRefIdeal.nD Cert.Ff2DgradRefIdeal.τ).loc Cert.Ff2DgradRefIdeal.main_arg0) = m ((c.tc : Thread Cert.Ff2DgradIdeal.nD Cert.Ff2DgradIdeal.τ).loc Cert.Ff2DgradIdeal.main_arg0)
      ∧ m' ((c.tc : Thread Cert.Ff2DgradRefIdeal.nD Cert.Ff2DgradRefIdeal.τ).loc Cert.Ff2DgradRefIdeal.main_arg1) = m ((c.tc : Thread Cert.Ff2DgradIdeal.nD Cert.Ff2DgradIdeal.τ).loc Cert.Ff2DgradIdeal.main_arg1)
      ∧ m' ((c.tc : Thread Cert.Ff2DgradRefIdeal.nD Cert.Ff2DgradRefIdeal.τ).loc Cert.Ff2DgradRefIdeal.main_arg2) = m ((c.tc : Thread Cert.Ff2DgradIdeal.nD Cert.Ff2DgradIdeal.τ).loc Cert.Ff2DgradIdeal.main_arg2)) →
    ∃ (v0 : (c : Dev Cert.Ff2DgradIdeal.nD) → Buf (Elt Ideal) ((c.tc : Thread Cert.Ff2DgradIdeal.nD Cert.Ff2DgradIdeal.τ).loc Cert.Ff2DgradIdeal.main_v5)),
      θ_run (Cert.Ff2DgradIdeal.defs (F := Ideal)) (onTc (τ := Cert.Ff2DgradIdeal.τ) (Cert.Ff2DgradIdeal.main (F := Ideal))) ⟨m, fun _ => 0, g⟩ (fun r => ∀ c : Dev Cert.Ff2DgradIdeal.nD,
          r.2.mem ((c.tc : Thread Cert.Ff2DgradIdeal.nD Cert.Ff2DgradIdeal.τ).loc Cert.Ff2DgradIdeal.main_v5) = v0 c
          ∧ r.2.mem ((c.tc : Thread Cert.Ff2DgradIdeal.nD Cert.Ff2DgradIdeal.τ).loc Cert.Ff2DgradIdeal.main_arg0) = m ((c.tc : Thread Cert.Ff2DgradIdeal.nD Cert.Ff2DgradIdeal.τ).loc Cert.Ff2DgradIdeal.main_arg0)
          ∧ r.2.mem ((c.tc : Thread Cert.Ff2DgradIdeal.nD Cert.Ff2DgradIdeal.τ).loc Cert.Ff2DgradIdeal.main_arg1) = m ((c.tc : Thread Cert.Ff2DgradIdeal.nD Cert.Ff2DgradIdeal.τ).loc Cert.Ff2DgradIdeal.main_arg1)
          ∧ r.2.mem ((c.tc : Thread Cert.Ff2DgradIdeal.nD Cert.Ff2DgradIdeal.τ).loc Cert.Ff2DgradIdeal.main_arg2) = m ((c.tc : Thread Cert.Ff2DgradIdeal.nD Cert.Ff2DgradIdeal.τ).loc Cert.Ff2DgradIdeal.main_arg2))
      ∧ θ_run (Cert.Ff2DgradRefIdeal.defs (F := Ideal)) (onTc (τ := Cert.Ff2DgradRefIdeal.τ) (Cert.Ff2DgradRefIdeal.main (F := Ideal))) ⟨m', fun _ => 0, g'⟩ (fun r => ∀ c : Dev Cert.Ff2DgradRefIdeal.nD,
          r.2.mem ((c.tc : Thread Cert.Ff2DgradRefIdeal.nD Cert.Ff2DgradRefIdeal.τ).loc Cert.Ff2DgradRefIdeal.main_v12) = v0 c
          ∧ r.2.mem ((c.tc : Thread Cert.Ff2DgradRefIdeal.nD Cert.Ff2DgradRefIdeal.τ).loc Cert.Ff2DgradRefIdeal.main_arg0) = m' ((c.tc : Thread Cert.Ff2DgradRefIdeal.nD Cert.Ff2DgradRefIdeal.τ).loc Cert.Ff2DgradRefIdeal.main_arg0)
          ∧ r.2.mem ((c.tc : Thread Cert.Ff2DgradRefIdeal.nD Cert.Ff2DgradRefIdeal.τ).loc Cert.Ff2DgradRefIdeal.main_arg1) = m' ((c.tc : Thread Cert.Ff2DgradRefIdeal.nD Cert.Ff2DgradRefIdeal.τ).loc Cert.Ff2DgradRefIdeal.main_arg1)
          ∧ r.2.mem ((c.tc : Thread Cert.Ff2DgradRefIdeal.nD Cert.Ff2DgradRefIdeal.τ).loc Cert.Ff2DgradRefIdeal.main_arg2) = m' ((c.tc : Thread Cert.Ff2DgradRefIdeal.nD Cert.Ff2DgradRefIdeal.τ).loc Cert.Ff2DgradRefIdeal.main_arg2))

def preserves_AttnDelta_AttnDeltaIdeal : Prop :=
  True

def algebraic_AttnDeltaIdeal_AttnDeltaRefIdeal [hAttnDeltaIdeal : Cert.AttnDeltaIdeal.Facts] [hAttnDeltaRefIdeal : Cert.AttnDeltaRefIdeal.Facts] : Prop :=
  ∀ (m : (ℓ : Loc Cert.AttnDeltaIdeal.nD Cert.AttnDeltaIdeal.τ Cert.AttnDeltaIdeal.sig) → Buf (Elt Ideal) ℓ) (g : Dev Cert.AttnDeltaIdeal.nD → PrngReg)
    (m' : (ℓ : Loc Cert.AttnDeltaRefIdeal.nD Cert.AttnDeltaRefIdeal.τ Cert.AttnDeltaRefIdeal.sig) → Buf (Elt Ideal) ℓ) (g' : Dev Cert.AttnDeltaRefIdeal.nD → PrngReg), Pre_AttnDeltaIdeal m →
    (∀ c : Dev Cert.AttnDeltaIdeal.nD,
      m' ((c.tc : Thread Cert.AttnDeltaRefIdeal.nD Cert.AttnDeltaRefIdeal.τ).loc Cert.AttnDeltaRefIdeal.main_arg0) = m ((c.tc : Thread Cert.AttnDeltaIdeal.nD Cert.AttnDeltaIdeal.τ).loc Cert.AttnDeltaIdeal.main_arg0)
      ∧ m' ((c.tc : Thread Cert.AttnDeltaRefIdeal.nD Cert.AttnDeltaRefIdeal.τ).loc Cert.AttnDeltaRefIdeal.main_arg1) = m ((c.tc : Thread Cert.AttnDeltaIdeal.nD Cert.AttnDeltaIdeal.τ).loc Cert.AttnDeltaIdeal.main_arg1)) →
    ∃ (v0 : (c : Dev Cert.AttnDeltaIdeal.nD) → Buf (Elt Ideal) ((c.tc : Thread Cert.AttnDeltaIdeal.nD Cert.AttnDeltaIdeal.τ).loc Cert.AttnDeltaIdeal.main_v1_0)) (v1 : (c : Dev Cert.AttnDeltaIdeal.nD) → Buf (Elt Ideal) ((c.tc : Thread Cert.AttnDeltaIdeal.nD Cert.AttnDeltaIdeal.τ).loc Cert.AttnDeltaIdeal.main_v1_1)),
      θ_run (Cert.AttnDeltaIdeal.defs (F := Ideal)) (onTc (τ := Cert.AttnDeltaIdeal.τ) (Cert.AttnDeltaIdeal.main (F := Ideal))) ⟨m, fun _ => 0, g⟩ (fun r => ∀ c : Dev Cert.AttnDeltaIdeal.nD,
          r.2.mem ((c.tc : Thread Cert.AttnDeltaIdeal.nD Cert.AttnDeltaIdeal.τ).loc Cert.AttnDeltaIdeal.main_v1_0) = v0 c
          ∧ r.2.mem ((c.tc : Thread Cert.AttnDeltaIdeal.nD Cert.AttnDeltaIdeal.τ).loc Cert.AttnDeltaIdeal.main_v1_1) = v1 c
          ∧ r.2.mem ((c.tc : Thread Cert.AttnDeltaIdeal.nD Cert.AttnDeltaIdeal.τ).loc Cert.AttnDeltaIdeal.main_arg0) = m ((c.tc : Thread Cert.AttnDeltaIdeal.nD Cert.AttnDeltaIdeal.τ).loc Cert.AttnDeltaIdeal.main_arg0)
          ∧ r.2.mem ((c.tc : Thread Cert.AttnDeltaIdeal.nD Cert.AttnDeltaIdeal.τ).loc Cert.AttnDeltaIdeal.main_arg1) = m ((c.tc : Thread Cert.AttnDeltaIdeal.nD Cert.AttnDeltaIdeal.τ).loc Cert.AttnDeltaIdeal.main_arg1))
      ∧ θ_run (Cert.AttnDeltaRefIdeal.defs (F := Ideal)) (onTc (τ := Cert.AttnDeltaRefIdeal.τ) (Cert.AttnDeltaRefIdeal.main (F := Ideal))) ⟨m', fun _ => 0, g'⟩ (fun r => ∀ c : Dev Cert.AttnDeltaRefIdeal.nD,
          r.2.mem ((c.tc : Thread Cert.AttnDeltaRefIdeal.nD Cert.AttnDeltaRefIdeal.τ).loc Cert.AttnDeltaRefIdeal.main_v8) = v0 c
          ∧ r.2.mem ((c.tc : Thread Cert.AttnDeltaRefIdeal.nD Cert.AttnDeltaRefIdeal.τ).loc Cert.AttnDeltaRefIdeal.main_v10) = v1 c
          ∧ r.2.mem ((c.tc : Thread Cert.AttnDeltaRefIdeal.nD Cert.AttnDeltaRefIdeal.τ).loc Cert.AttnDeltaRefIdeal.main_arg0) = m' ((c.tc : Thread Cert.AttnDeltaRefIdeal.nD Cert.AttnDeltaRefIdeal.τ).loc Cert.AttnDeltaRefIdeal.main_arg0)
          ∧ r.2.mem ((c.tc : Thread Cert.AttnDeltaRefIdeal.nD Cert.AttnDeltaRefIdeal.τ).loc Cert.AttnDeltaRefIdeal.main_arg1) = m' ((c.tc : Thread Cert.AttnDeltaRefIdeal.nD Cert.AttnDeltaRefIdeal.τ).loc Cert.AttnDeltaRefIdeal.main_arg1))

def preserves_DqUnrope_DqUnropeIdeal : Prop :=
  True

def algebraic_DqUnropeIdeal_DqUnropeRefIdeal [hDqUnropeIdeal : Cert.DqUnropeIdeal.Facts] [hDqUnropeRefIdeal : Cert.DqUnropeRefIdeal.Facts] : Prop :=
  ∀ (m : (ℓ : Loc Cert.DqUnropeIdeal.nD Cert.DqUnropeIdeal.τ Cert.DqUnropeIdeal.sig) → Buf (Elt Ideal) ℓ) (g : Dev Cert.DqUnropeIdeal.nD → PrngReg)
    (m' : (ℓ : Loc Cert.DqUnropeRefIdeal.nD Cert.DqUnropeRefIdeal.τ Cert.DqUnropeRefIdeal.sig) → Buf (Elt Ideal) ℓ) (g' : Dev Cert.DqUnropeRefIdeal.nD → PrngReg), Pre_DqUnropeIdeal m →
    (∀ c : Dev Cert.DqUnropeIdeal.nD,
      m' ((c.tc : Thread Cert.DqUnropeRefIdeal.nD Cert.DqUnropeRefIdeal.τ).loc Cert.DqUnropeRefIdeal.main_arg0) = m ((c.tc : Thread Cert.DqUnropeIdeal.nD Cert.DqUnropeIdeal.τ).loc Cert.DqUnropeIdeal.main_arg0)
      ∧ m' ((c.tc : Thread Cert.DqUnropeRefIdeal.nD Cert.DqUnropeRefIdeal.τ).loc Cert.DqUnropeRefIdeal.main_arg1) = m ((c.tc : Thread Cert.DqUnropeIdeal.nD Cert.DqUnropeIdeal.τ).loc Cert.DqUnropeIdeal.main_arg1)
      ∧ m' ((c.tc : Thread Cert.DqUnropeRefIdeal.nD Cert.DqUnropeRefIdeal.τ).loc Cert.DqUnropeRefIdeal.main_arg2) = m ((c.tc : Thread Cert.DqUnropeIdeal.nD Cert.DqUnropeIdeal.τ).loc Cert.DqUnropeIdeal.main_arg2)) →
    ∃ (v0 : (c : Dev Cert.DqUnropeIdeal.nD) → Buf (Elt Ideal) ((c.tc : Thread Cert.DqUnropeIdeal.nD Cert.DqUnropeIdeal.τ).loc Cert.DqUnropeIdeal.main_v8)),
      θ_run (Cert.DqUnropeIdeal.defs (F := Ideal)) (onTc (τ := Cert.DqUnropeIdeal.τ) (Cert.DqUnropeIdeal.main (F := Ideal))) ⟨m, fun _ => 0, g⟩ (fun r => ∀ c : Dev Cert.DqUnropeIdeal.nD,
          r.2.mem ((c.tc : Thread Cert.DqUnropeIdeal.nD Cert.DqUnropeIdeal.τ).loc Cert.DqUnropeIdeal.main_v8) = v0 c
          ∧ r.2.mem ((c.tc : Thread Cert.DqUnropeIdeal.nD Cert.DqUnropeIdeal.τ).loc Cert.DqUnropeIdeal.main_arg0) = m ((c.tc : Thread Cert.DqUnropeIdeal.nD Cert.DqUnropeIdeal.τ).loc Cert.DqUnropeIdeal.main_arg0)
          ∧ r.2.mem ((c.tc : Thread Cert.DqUnropeIdeal.nD Cert.DqUnropeIdeal.τ).loc Cert.DqUnropeIdeal.main_arg1) = m ((c.tc : Thread Cert.DqUnropeIdeal.nD Cert.DqUnropeIdeal.τ).loc Cert.DqUnropeIdeal.main_arg1)
          ∧ r.2.mem ((c.tc : Thread Cert.DqUnropeIdeal.nD Cert.DqUnropeIdeal.τ).loc Cert.DqUnropeIdeal.main_arg2) = m ((c.tc : Thread Cert.DqUnropeIdeal.nD Cert.DqUnropeIdeal.τ).loc Cert.DqUnropeIdeal.main_arg2))
      ∧ θ_run (Cert.DqUnropeRefIdeal.defs (F := Ideal)) (onTc (τ := Cert.DqUnropeRefIdeal.τ) (Cert.DqUnropeRefIdeal.main (F := Ideal))) ⟨m', fun _ => 0, g'⟩ (fun r => ∀ c : Dev Cert.DqUnropeRefIdeal.nD,
          r.2.mem ((c.tc : Thread Cert.DqUnropeRefIdeal.nD Cert.DqUnropeRefIdeal.τ).loc Cert.DqUnropeRefIdeal.main_v42) = v0 c
          ∧ r.2.mem ((c.tc : Thread Cert.DqUnropeRefIdeal.nD Cert.DqUnropeRefIdeal.τ).loc Cert.DqUnropeRefIdeal.main_arg0) = m' ((c.tc : Thread Cert.DqUnropeRefIdeal.nD Cert.DqUnropeRefIdeal.τ).loc Cert.DqUnropeRefIdeal.main_arg0)
          ∧ r.2.mem ((c.tc : Thread Cert.DqUnropeRefIdeal.nD Cert.DqUnropeRefIdeal.τ).loc Cert.DqUnropeRefIdeal.main_arg1) = m' ((c.tc : Thread Cert.DqUnropeRefIdeal.nD Cert.DqUnropeRefIdeal.τ).loc Cert.DqUnropeRefIdeal.main_arg1)
          ∧ r.2.mem ((c.tc : Thread Cert.DqUnropeRefIdeal.nD Cert.DqUnropeRefIdeal.τ).loc Cert.DqUnropeRefIdeal.main_arg2) = m' ((c.tc : Thread Cert.DqUnropeRefIdeal.nD Cert.DqUnropeRefIdeal.τ).loc Cert.DqUnropeRefIdeal.main_arg2))

def preserves_DkUnrope_DkUnropeIdeal : Prop :=
  True

def algebraic_DkUnropeIdeal_DkUnropeRefIdeal [hDkUnropeIdeal : Cert.DkUnropeIdeal.Facts] [hDkUnropeRefIdeal : Cert.DkUnropeRefIdeal.Facts] : Prop :=
  ∀ (m : (ℓ : Loc Cert.DkUnropeIdeal.nD Cert.DkUnropeIdeal.τ Cert.DkUnropeIdeal.sig) → Buf (Elt Ideal) ℓ) (g : Dev Cert.DkUnropeIdeal.nD → PrngReg)
    (m' : (ℓ : Loc Cert.DkUnropeRefIdeal.nD Cert.DkUnropeRefIdeal.τ Cert.DkUnropeRefIdeal.sig) → Buf (Elt Ideal) ℓ) (g' : Dev Cert.DkUnropeRefIdeal.nD → PrngReg), Pre_DkUnropeIdeal m →
    (∀ c : Dev Cert.DkUnropeIdeal.nD,
      m' ((c.tc : Thread Cert.DkUnropeRefIdeal.nD Cert.DkUnropeRefIdeal.τ).loc Cert.DkUnropeRefIdeal.main_arg0) = m ((c.tc : Thread Cert.DkUnropeIdeal.nD Cert.DkUnropeIdeal.τ).loc Cert.DkUnropeIdeal.main_arg0)
      ∧ m' ((c.tc : Thread Cert.DkUnropeRefIdeal.nD Cert.DkUnropeRefIdeal.τ).loc Cert.DkUnropeRefIdeal.main_arg1) = m ((c.tc : Thread Cert.DkUnropeIdeal.nD Cert.DkUnropeIdeal.τ).loc Cert.DkUnropeIdeal.main_arg1)
      ∧ m' ((c.tc : Thread Cert.DkUnropeRefIdeal.nD Cert.DkUnropeRefIdeal.τ).loc Cert.DkUnropeRefIdeal.main_arg2) = m ((c.tc : Thread Cert.DkUnropeIdeal.nD Cert.DkUnropeIdeal.τ).loc Cert.DkUnropeIdeal.main_arg2)
      ∧ m' ((c.tc : Thread Cert.DkUnropeRefIdeal.nD Cert.DkUnropeRefIdeal.τ).loc Cert.DkUnropeRefIdeal.main_arg3) = m ((c.tc : Thread Cert.DkUnropeIdeal.nD Cert.DkUnropeIdeal.τ).loc Cert.DkUnropeIdeal.main_arg3)
      ∧ m' ((c.tc : Thread Cert.DkUnropeRefIdeal.nD Cert.DkUnropeRefIdeal.τ).loc Cert.DkUnropeRefIdeal.main_arg4) = m ((c.tc : Thread Cert.DkUnropeIdeal.nD Cert.DkUnropeIdeal.τ).loc Cert.DkUnropeIdeal.main_arg4)) →
    ∃ (v0 : (c : Dev Cert.DkUnropeIdeal.nD) → Buf (Elt Ideal) ((c.tc : Thread Cert.DkUnropeIdeal.nD Cert.DkUnropeIdeal.τ).loc Cert.DkUnropeIdeal.main_v17_0)) (v1 : (c : Dev Cert.DkUnropeIdeal.nD) → Buf (Elt Ideal) ((c.tc : Thread Cert.DkUnropeIdeal.nD Cert.DkUnropeIdeal.τ).loc Cert.DkUnropeIdeal.main_v17_1)),
      θ_run (Cert.DkUnropeIdeal.defs (F := Ideal)) (onTc (τ := Cert.DkUnropeIdeal.τ) (Cert.DkUnropeIdeal.main (F := Ideal))) ⟨m, fun _ => 0, g⟩ (fun r => ∀ c : Dev Cert.DkUnropeIdeal.nD,
          r.2.mem ((c.tc : Thread Cert.DkUnropeIdeal.nD Cert.DkUnropeIdeal.τ).loc Cert.DkUnropeIdeal.main_v17_0) = v0 c
          ∧ r.2.mem ((c.tc : Thread Cert.DkUnropeIdeal.nD Cert.DkUnropeIdeal.τ).loc Cert.DkUnropeIdeal.main_v17_1) = v1 c
          ∧ r.2.mem ((c.tc : Thread Cert.DkUnropeIdeal.nD Cert.DkUnropeIdeal.τ).loc Cert.DkUnropeIdeal.main_arg0) = m ((c.tc : Thread Cert.DkUnropeIdeal.nD Cert.DkUnropeIdeal.τ).loc Cert.DkUnropeIdeal.main_arg0)
          ∧ r.2.mem ((c.tc : Thread Cert.DkUnropeIdeal.nD Cert.DkUnropeIdeal.τ).loc Cert.DkUnropeIdeal.main_arg1) = m ((c.tc : Thread Cert.DkUnropeIdeal.nD Cert.DkUnropeIdeal.τ).loc Cert.DkUnropeIdeal.main_arg1)
          ∧ r.2.mem ((c.tc : Thread Cert.DkUnropeIdeal.nD Cert.DkUnropeIdeal.τ).loc Cert.DkUnropeIdeal.main_arg2) = m ((c.tc : Thread Cert.DkUnropeIdeal.nD Cert.DkUnropeIdeal.τ).loc Cert.DkUnropeIdeal.main_arg2)
          ∧ r.2.mem ((c.tc : Thread Cert.DkUnropeIdeal.nD Cert.DkUnropeIdeal.τ).loc Cert.DkUnropeIdeal.main_arg3) = m ((c.tc : Thread Cert.DkUnropeIdeal.nD Cert.DkUnropeIdeal.τ).loc Cert.DkUnropeIdeal.main_arg3)
          ∧ r.2.mem ((c.tc : Thread Cert.DkUnropeIdeal.nD Cert.DkUnropeIdeal.τ).loc Cert.DkUnropeIdeal.main_arg4) = m ((c.tc : Thread Cert.DkUnropeIdeal.nD Cert.DkUnropeIdeal.τ).loc Cert.DkUnropeIdeal.main_arg4))
      ∧ θ_run (Cert.DkUnropeRefIdeal.defs (F := Ideal)) (onTc (τ := Cert.DkUnropeRefIdeal.τ) (Cert.DkUnropeRefIdeal.main (F := Ideal))) ⟨m', fun _ => 0, g'⟩ (fun r => ∀ c : Dev Cert.DkUnropeRefIdeal.nD,
          r.2.mem ((c.tc : Thread Cert.DkUnropeRefIdeal.nD Cert.DkUnropeRefIdeal.τ).loc Cert.DkUnropeRefIdeal.main_v37) = v0 c
          ∧ r.2.mem ((c.tc : Thread Cert.DkUnropeRefIdeal.nD Cert.DkUnropeRefIdeal.τ).loc Cert.DkUnropeRefIdeal.main_v38) = v1 c
          ∧ r.2.mem ((c.tc : Thread Cert.DkUnropeRefIdeal.nD Cert.DkUnropeRefIdeal.τ).loc Cert.DkUnropeRefIdeal.main_arg0) = m' ((c.tc : Thread Cert.DkUnropeRefIdeal.nD Cert.DkUnropeRefIdeal.τ).loc Cert.DkUnropeRefIdeal.main_arg0)
          ∧ r.2.mem ((c.tc : Thread Cert.DkUnropeRefIdeal.nD Cert.DkUnropeRefIdeal.τ).loc Cert.DkUnropeRefIdeal.main_arg1) = m' ((c.tc : Thread Cert.DkUnropeRefIdeal.nD Cert.DkUnropeRefIdeal.τ).loc Cert.DkUnropeRefIdeal.main_arg1)
          ∧ r.2.mem ((c.tc : Thread Cert.DkUnropeRefIdeal.nD Cert.DkUnropeRefIdeal.τ).loc Cert.DkUnropeRefIdeal.main_arg2) = m' ((c.tc : Thread Cert.DkUnropeRefIdeal.nD Cert.DkUnropeRefIdeal.τ).loc Cert.DkUnropeRefIdeal.main_arg2)
          ∧ r.2.mem ((c.tc : Thread Cert.DkUnropeRefIdeal.nD Cert.DkUnropeRefIdeal.τ).loc Cert.DkUnropeRefIdeal.main_arg3) = m' ((c.tc : Thread Cert.DkUnropeRefIdeal.nD Cert.DkUnropeRefIdeal.τ).loc Cert.DkUnropeRefIdeal.main_arg3)
          ∧ r.2.mem ((c.tc : Thread Cert.DkUnropeRefIdeal.nD Cert.DkUnropeRefIdeal.τ).loc Cert.DkUnropeRefIdeal.main_arg4) = m' ((c.tc : Thread Cert.DkUnropeRefIdeal.nD Cert.DkUnropeRefIdeal.τ).loc Cert.DkUnropeRefIdeal.main_arg4))

def preserves_FlashBwd_FlashBwdIdeal : Prop :=
  True

def algebraic_FlashBwdIdeal_FlashBwdRefIdeal_pre_finite_flash_bwd [hFlashBwdIdeal : Cert.FlashBwdIdeal.Facts] [hFlashBwdRefIdeal : Cert.FlashBwdRefIdeal.Facts] [hPre_finite_flash_bwd : Cert.Pre_finite_flash_bwd.Facts] : Prop :=
  ∀ (m : (ℓ : Loc Cert.FlashBwdIdeal.nD Cert.FlashBwdIdeal.τ Cert.FlashBwdIdeal.sig) → Buf (Elt Ideal) ℓ) (g : Dev Cert.FlashBwdIdeal.nD → PrngReg)
    (m' : (ℓ : Loc Cert.FlashBwdRefIdeal.nD Cert.FlashBwdRefIdeal.τ Cert.FlashBwdRefIdeal.sig) → Buf (Elt Ideal) ℓ) (g' : Dev Cert.FlashBwdRefIdeal.nD → PrngReg), Pre_FlashBwdIdeal_finite_flash_bwd m →
    (∀ c : Dev Cert.FlashBwdIdeal.nD,
      m' ((c.tc : Thread Cert.FlashBwdRefIdeal.nD Cert.FlashBwdRefIdeal.τ).loc Cert.FlashBwdRefIdeal.main_arg0) = m ((c.tc : Thread Cert.FlashBwdIdeal.nD Cert.FlashBwdIdeal.τ).loc Cert.FlashBwdIdeal.main_arg0)
      ∧ m' ((c.tc : Thread Cert.FlashBwdRefIdeal.nD Cert.FlashBwdRefIdeal.τ).loc Cert.FlashBwdRefIdeal.main_arg1) = m ((c.tc : Thread Cert.FlashBwdIdeal.nD Cert.FlashBwdIdeal.τ).loc Cert.FlashBwdIdeal.main_arg1)
      ∧ m' ((c.tc : Thread Cert.FlashBwdRefIdeal.nD Cert.FlashBwdRefIdeal.τ).loc Cert.FlashBwdRefIdeal.main_arg2) = m ((c.tc : Thread Cert.FlashBwdIdeal.nD Cert.FlashBwdIdeal.τ).loc Cert.FlashBwdIdeal.main_arg2)
      ∧ m' ((c.tc : Thread Cert.FlashBwdRefIdeal.nD Cert.FlashBwdRefIdeal.τ).loc Cert.FlashBwdRefIdeal.main_arg3) = m ((c.tc : Thread Cert.FlashBwdIdeal.nD Cert.FlashBwdIdeal.τ).loc Cert.FlashBwdIdeal.main_arg3)
      ∧ m' ((c.tc : Thread Cert.FlashBwdRefIdeal.nD Cert.FlashBwdRefIdeal.τ).loc Cert.FlashBwdRefIdeal.main_arg4) = m ((c.tc : Thread Cert.FlashBwdIdeal.nD Cert.FlashBwdIdeal.τ).loc Cert.FlashBwdIdeal.main_arg4)
      ∧ m' ((c.tc : Thread Cert.FlashBwdRefIdeal.nD Cert.FlashBwdRefIdeal.τ).loc Cert.FlashBwdRefIdeal.main_arg5) = m ((c.tc : Thread Cert.FlashBwdIdeal.nD Cert.FlashBwdIdeal.τ).loc Cert.FlashBwdIdeal.main_arg5)) →
    ∃ (v0 : (c : Dev Cert.FlashBwdIdeal.nD) → Buf (Elt Ideal) ((c.tc : Thread Cert.FlashBwdIdeal.nD Cert.FlashBwdIdeal.τ).loc Cert.FlashBwdIdeal.main_v47_0)) (v1 : (c : Dev Cert.FlashBwdIdeal.nD) → Buf (Elt Ideal) ((c.tc : Thread Cert.FlashBwdIdeal.nD Cert.FlashBwdIdeal.τ).loc Cert.FlashBwdIdeal.main_v47_1)) (v2 : (c : Dev Cert.FlashBwdIdeal.nD) → Buf (Elt Ideal) ((c.tc : Thread Cert.FlashBwdIdeal.nD Cert.FlashBwdIdeal.τ).loc Cert.FlashBwdIdeal.main_v47_2)),
      θ_run (Cert.FlashBwdIdeal.defs (F := Ideal)) (onTc (τ := Cert.FlashBwdIdeal.τ) (Cert.FlashBwdIdeal.main (F := Ideal))) ⟨m, fun _ => 0, g⟩ (fun r => ∀ c : Dev Cert.FlashBwdIdeal.nD,
          r.2.mem ((c.tc : Thread Cert.FlashBwdIdeal.nD Cert.FlashBwdIdeal.τ).loc Cert.FlashBwdIdeal.main_v47_0) = v0 c
          ∧ r.2.mem ((c.tc : Thread Cert.FlashBwdIdeal.nD Cert.FlashBwdIdeal.τ).loc Cert.FlashBwdIdeal.main_v47_1) = v1 c
          ∧ r.2.mem ((c.tc : Thread Cert.FlashBwdIdeal.nD Cert.FlashBwdIdeal.τ).loc Cert.FlashBwdIdeal.main_v47_2) = v2 c
          ∧ r.2.mem ((c.tc : Thread Cert.FlashBwdIdeal.nD Cert.FlashBwdIdeal.τ).loc Cert.FlashBwdIdeal.main_arg0) = m ((c.tc : Thread Cert.FlashBwdIdeal.nD Cert.FlashBwdIdeal.τ).loc Cert.FlashBwdIdeal.main_arg0)
          ∧ r.2.mem ((c.tc : Thread Cert.FlashBwdIdeal.nD Cert.FlashBwdIdeal.τ).loc Cert.FlashBwdIdeal.main_arg1) = m ((c.tc : Thread Cert.FlashBwdIdeal.nD Cert.FlashBwdIdeal.τ).loc Cert.FlashBwdIdeal.main_arg1)
          ∧ r.2.mem ((c.tc : Thread Cert.FlashBwdIdeal.nD Cert.FlashBwdIdeal.τ).loc Cert.FlashBwdIdeal.main_arg2) = m ((c.tc : Thread Cert.FlashBwdIdeal.nD Cert.FlashBwdIdeal.τ).loc Cert.FlashBwdIdeal.main_arg2)
          ∧ r.2.mem ((c.tc : Thread Cert.FlashBwdIdeal.nD Cert.FlashBwdIdeal.τ).loc Cert.FlashBwdIdeal.main_arg3) = m ((c.tc : Thread Cert.FlashBwdIdeal.nD Cert.FlashBwdIdeal.τ).loc Cert.FlashBwdIdeal.main_arg3)
          ∧ r.2.mem ((c.tc : Thread Cert.FlashBwdIdeal.nD Cert.FlashBwdIdeal.τ).loc Cert.FlashBwdIdeal.main_arg4) = m ((c.tc : Thread Cert.FlashBwdIdeal.nD Cert.FlashBwdIdeal.τ).loc Cert.FlashBwdIdeal.main_arg4)
          ∧ r.2.mem ((c.tc : Thread Cert.FlashBwdIdeal.nD Cert.FlashBwdIdeal.τ).loc Cert.FlashBwdIdeal.main_arg5) = m ((c.tc : Thread Cert.FlashBwdIdeal.nD Cert.FlashBwdIdeal.τ).loc Cert.FlashBwdIdeal.main_arg5))
      ∧ θ_run (Cert.FlashBwdRefIdeal.defs (F := Ideal)) (onTc (τ := Cert.FlashBwdRefIdeal.τ) (Cert.FlashBwdRefIdeal.main (F := Ideal))) ⟨m', fun _ => 0, g'⟩ (fun r => ∀ c : Dev Cert.FlashBwdRefIdeal.nD,
          r.2.mem ((c.tc : Thread Cert.FlashBwdRefIdeal.nD Cert.FlashBwdRefIdeal.τ).loc Cert.FlashBwdRefIdeal.main_v68) = v0 c
          ∧ r.2.mem ((c.tc : Thread Cert.FlashBwdRefIdeal.nD Cert.FlashBwdRefIdeal.τ).loc Cert.FlashBwdRefIdeal.main_v72) = v1 c
          ∧ r.2.mem ((c.tc : Thread Cert.FlashBwdRefIdeal.nD Cert.FlashBwdRefIdeal.τ).loc Cert.FlashBwdRefIdeal.main_v73) = v2 c
          ∧ r.2.mem ((c.tc : Thread Cert.FlashBwdRefIdeal.nD Cert.FlashBwdRefIdeal.τ).loc Cert.FlashBwdRefIdeal.main_arg0) = m' ((c.tc : Thread Cert.FlashBwdRefIdeal.nD Cert.FlashBwdRefIdeal.τ).loc Cert.FlashBwdRefIdeal.main_arg0)
          ∧ r.2.mem ((c.tc : Thread Cert.FlashBwdRefIdeal.nD Cert.FlashBwdRefIdeal.τ).loc Cert.FlashBwdRefIdeal.main_arg1) = m' ((c.tc : Thread Cert.FlashBwdRefIdeal.nD Cert.FlashBwdRefIdeal.τ).loc Cert.FlashBwdRefIdeal.main_arg1)
          ∧ r.2.mem ((c.tc : Thread Cert.FlashBwdRefIdeal.nD Cert.FlashBwdRefIdeal.τ).loc Cert.FlashBwdRefIdeal.main_arg2) = m' ((c.tc : Thread Cert.FlashBwdRefIdeal.nD Cert.FlashBwdRefIdeal.τ).loc Cert.FlashBwdRefIdeal.main_arg2)
          ∧ r.2.mem ((c.tc : Thread Cert.FlashBwdRefIdeal.nD Cert.FlashBwdRefIdeal.τ).loc Cert.FlashBwdRefIdeal.main_arg3) = m' ((c.tc : Thread Cert.FlashBwdRefIdeal.nD Cert.FlashBwdRefIdeal.τ).loc Cert.FlashBwdRefIdeal.main_arg3)
          ∧ r.2.mem ((c.tc : Thread Cert.FlashBwdRefIdeal.nD Cert.FlashBwdRefIdeal.τ).loc Cert.FlashBwdRefIdeal.main_arg4) = m' ((c.tc : Thread Cert.FlashBwdRefIdeal.nD Cert.FlashBwdRefIdeal.τ).loc Cert.FlashBwdRefIdeal.main_arg4)
          ∧ r.2.mem ((c.tc : Thread Cert.FlashBwdRefIdeal.nD Cert.FlashBwdRefIdeal.τ).loc Cert.FlashBwdRefIdeal.main_arg5) = m' ((c.tc : Thread Cert.FlashBwdRefIdeal.nD Cert.FlashBwdRefIdeal.τ).loc Cert.FlashBwdRefIdeal.main_arg5))

def preserves_FlashFwd_FlashFwdIdeal : Prop :=
  IdealRules.named_const.Statement Cert.FlashFwdIdeal.κ "log2e" .f32 0x3FB8AA3B#32 (((Real.log 2)⁻¹ : ℝ) : EReal)

def algebraic_FlashFwdIdeal_FlashFwdRefIdeal_on_attention_columns_pre_finite_flash_fwd [hFlashFwdIdeal : Cert.FlashFwdIdeal.Facts] [hFlashFwdRefIdeal : Cert.FlashFwdRefIdeal.Facts] [hPre_finite_flash_fwd : Cert.Pre_finite_flash_fwd.Facts] [hOn_attention_columns : Cert.On_attention_columns.Facts] : Prop :=
  ∀ (m : (ℓ : Loc Cert.FlashFwdIdeal.nD Cert.FlashFwdIdeal.τ Cert.FlashFwdIdeal.sig) → Buf (Elt Ideal) ℓ) (g : Dev Cert.FlashFwdIdeal.nD → PrngReg)
    (m' : (ℓ : Loc Cert.FlashFwdRefIdeal.nD Cert.FlashFwdRefIdeal.τ Cert.FlashFwdRefIdeal.sig) → Buf (Elt Ideal) ℓ) (g' : Dev Cert.FlashFwdRefIdeal.nD → PrngReg), Pre_FlashFwdIdeal_finite_flash_fwd m →
    (∀ c : Dev Cert.FlashFwdIdeal.nD,
      m' ((c.tc : Thread Cert.FlashFwdRefIdeal.nD Cert.FlashFwdRefIdeal.τ).loc Cert.FlashFwdRefIdeal.main_arg0) = m ((c.tc : Thread Cert.FlashFwdIdeal.nD Cert.FlashFwdIdeal.τ).loc Cert.FlashFwdIdeal.main_arg0)
      ∧ m' ((c.tc : Thread Cert.FlashFwdRefIdeal.nD Cert.FlashFwdRefIdeal.τ).loc Cert.FlashFwdRefIdeal.main_arg1) = m ((c.tc : Thread Cert.FlashFwdIdeal.nD Cert.FlashFwdIdeal.τ).loc Cert.FlashFwdIdeal.main_arg1)
      ∧ m' ((c.tc : Thread Cert.FlashFwdRefIdeal.nD Cert.FlashFwdRefIdeal.τ).loc Cert.FlashFwdRefIdeal.main_arg2) = m ((c.tc : Thread Cert.FlashFwdIdeal.nD Cert.FlashFwdIdeal.τ).loc Cert.FlashFwdIdeal.main_arg2)
      ∧ m' ((c.tc : Thread Cert.FlashFwdRefIdeal.nD Cert.FlashFwdRefIdeal.τ).loc Cert.FlashFwdRefIdeal.main_arg3) = m ((c.tc : Thread Cert.FlashFwdIdeal.nD Cert.FlashFwdIdeal.τ).loc Cert.FlashFwdIdeal.main_arg3)
      ∧ m' ((c.tc : Thread Cert.FlashFwdRefIdeal.nD Cert.FlashFwdRefIdeal.τ).loc Cert.FlashFwdRefIdeal.main_arg4) = m ((c.tc : Thread Cert.FlashFwdIdeal.nD Cert.FlashFwdIdeal.τ).loc Cert.FlashFwdIdeal.main_arg4)) →
    ∃ (v0 : (c : Dev Cert.FlashFwdIdeal.nD) → Buf (Elt Ideal) ((c.tc : Thread Cert.FlashFwdIdeal.nD Cert.FlashFwdIdeal.τ).loc Cert.FlashFwdIdeal.main_v18_0)) (v1 : (c : Dev Cert.FlashFwdIdeal.nD) → Buf (Elt Ideal) ((c.tc : Thread Cert.FlashFwdIdeal.nD Cert.FlashFwdIdeal.τ).loc Cert.FlashFwdIdeal.main_v18_1)),
      θ_run (Cert.FlashFwdIdeal.defs (F := Ideal)) (onTc (τ := Cert.FlashFwdIdeal.τ) (Cert.FlashFwdIdeal.main (F := Ideal))) ⟨m, fun _ => 0, g⟩ (fun r => ∀ c : Dev Cert.FlashFwdIdeal.nD,
          (∀ i : (⟨2, ![8192, 2048]⟩ : Shape).Idx, (Cert.On_attention_columns.fn (F := Ideal) (m ((c.tc : Thread Cert.FlashFwdIdeal.nD Cert.FlashFwdIdeal.τ).loc Cert.FlashFwdIdeal.main_arg0)) (m ((c.tc : Thread Cert.FlashFwdIdeal.nD Cert.FlashFwdIdeal.τ).loc Cert.FlashFwdIdeal.main_arg1)) (m ((c.tc : Thread Cert.FlashFwdIdeal.nD Cert.FlashFwdIdeal.τ).loc Cert.FlashFwdIdeal.main_arg2)) (m ((c.tc : Thread Cert.FlashFwdIdeal.nD Cert.FlashFwdIdeal.τ).loc Cert.FlashFwdIdeal.main_arg3)) (m ((c.tc : Thread Cert.FlashFwdIdeal.nD Cert.FlashFwdIdeal.τ).loc Cert.FlashFwdIdeal.main_arg4))).1 i = 1#1 → r.2.mem ((c.tc : Thread Cert.FlashFwdIdeal.nD Cert.FlashFwdIdeal.τ).loc Cert.FlashFwdIdeal.main_v18_0) i = v0 c i)
          ∧ (∀ i : (⟨3, ![8, 8192, 128]⟩ : Shape).Idx, (Cert.On_attention_columns.fn (F := Ideal) (m ((c.tc : Thread Cert.FlashFwdIdeal.nD Cert.FlashFwdIdeal.τ).loc Cert.FlashFwdIdeal.main_arg0)) (m ((c.tc : Thread Cert.FlashFwdIdeal.nD Cert.FlashFwdIdeal.τ).loc Cert.FlashFwdIdeal.main_arg1)) (m ((c.tc : Thread Cert.FlashFwdIdeal.nD Cert.FlashFwdIdeal.τ).loc Cert.FlashFwdIdeal.main_arg2)) (m ((c.tc : Thread Cert.FlashFwdIdeal.nD Cert.FlashFwdIdeal.τ).loc Cert.FlashFwdIdeal.main_arg3)) (m ((c.tc : Thread Cert.FlashFwdIdeal.nD Cert.FlashFwdIdeal.τ).loc Cert.FlashFwdIdeal.main_arg4))).2 i = 1#1 → r.2.mem ((c.tc : Thread Cert.FlashFwdIdeal.nD Cert.FlashFwdIdeal.τ).loc Cert.FlashFwdIdeal.main_v18_1) i = v1 c i)
          ∧ r.2.mem ((c.tc : Thread Cert.FlashFwdIdeal.nD Cert.FlashFwdIdeal.τ).loc Cert.FlashFwdIdeal.main_arg0) = m ((c.tc : Thread Cert.FlashFwdIdeal.nD Cert.FlashFwdIdeal.τ).loc Cert.FlashFwdIdeal.main_arg0)
          ∧ r.2.mem ((c.tc : Thread Cert.FlashFwdIdeal.nD Cert.FlashFwdIdeal.τ).loc Cert.FlashFwdIdeal.main_arg1) = m ((c.tc : Thread Cert.FlashFwdIdeal.nD Cert.FlashFwdIdeal.τ).loc Cert.FlashFwdIdeal.main_arg1)
          ∧ r.2.mem ((c.tc : Thread Cert.FlashFwdIdeal.nD Cert.FlashFwdIdeal.τ).loc Cert.FlashFwdIdeal.main_arg2) = m ((c.tc : Thread Cert.FlashFwdIdeal.nD Cert.FlashFwdIdeal.τ).loc Cert.FlashFwdIdeal.main_arg2)
          ∧ r.2.mem ((c.tc : Thread Cert.FlashFwdIdeal.nD Cert.FlashFwdIdeal.τ).loc Cert.FlashFwdIdeal.main_arg3) = m ((c.tc : Thread Cert.FlashFwdIdeal.nD Cert.FlashFwdIdeal.τ).loc Cert.FlashFwdIdeal.main_arg3)
          ∧ r.2.mem ((c.tc : Thread Cert.FlashFwdIdeal.nD Cert.FlashFwdIdeal.τ).loc Cert.FlashFwdIdeal.main_arg4) = m ((c.tc : Thread Cert.FlashFwdIdeal.nD Cert.FlashFwdIdeal.τ).loc Cert.FlashFwdIdeal.main_arg4))
      ∧ θ_run (Cert.FlashFwdRefIdeal.defs (F := Ideal)) (onTc (τ := Cert.FlashFwdRefIdeal.τ) (Cert.FlashFwdRefIdeal.main (F := Ideal))) ⟨m', fun _ => 0, g'⟩ (fun r => ∀ c : Dev Cert.FlashFwdRefIdeal.nD,
          (∀ i : (⟨2, ![8192, 2048]⟩ : Shape).Idx, (Cert.On_attention_columns.fn (F := Ideal) (m ((c.tc : Thread Cert.FlashFwdIdeal.nD Cert.FlashFwdIdeal.τ).loc Cert.FlashFwdIdeal.main_arg0)) (m ((c.tc : Thread Cert.FlashFwdIdeal.nD Cert.FlashFwdIdeal.τ).loc Cert.FlashFwdIdeal.main_arg1)) (m ((c.tc : Thread Cert.FlashFwdIdeal.nD Cert.FlashFwdIdeal.τ).loc Cert.FlashFwdIdeal.main_arg2)) (m ((c.tc : Thread Cert.FlashFwdIdeal.nD Cert.FlashFwdIdeal.τ).loc Cert.FlashFwdIdeal.main_arg3)) (m ((c.tc : Thread Cert.FlashFwdIdeal.nD Cert.FlashFwdIdeal.τ).loc Cert.FlashFwdIdeal.main_arg4))).1 i = 1#1 → r.2.mem ((c.tc : Thread Cert.FlashFwdRefIdeal.nD Cert.FlashFwdRefIdeal.τ).loc Cert.FlashFwdRefIdeal.main_v29) i = v0 c i)
          ∧ (∀ i : (⟨3, ![8, 8192, 128]⟩ : Shape).Idx, (Cert.On_attention_columns.fn (F := Ideal) (m ((c.tc : Thread Cert.FlashFwdIdeal.nD Cert.FlashFwdIdeal.τ).loc Cert.FlashFwdIdeal.main_arg0)) (m ((c.tc : Thread Cert.FlashFwdIdeal.nD Cert.FlashFwdIdeal.τ).loc Cert.FlashFwdIdeal.main_arg1)) (m ((c.tc : Thread Cert.FlashFwdIdeal.nD Cert.FlashFwdIdeal.τ).loc Cert.FlashFwdIdeal.main_arg2)) (m ((c.tc : Thread Cert.FlashFwdIdeal.nD Cert.FlashFwdIdeal.τ).loc Cert.FlashFwdIdeal.main_arg3)) (m ((c.tc : Thread Cert.FlashFwdIdeal.nD Cert.FlashFwdIdeal.τ).loc Cert.FlashFwdIdeal.main_arg4))).2 i = 1#1 → r.2.mem ((c.tc : Thread Cert.FlashFwdRefIdeal.nD Cert.FlashFwdRefIdeal.τ).loc Cert.FlashFwdRefIdeal.main_v30) i = v1 c i)
          ∧ r.2.mem ((c.tc : Thread Cert.FlashFwdRefIdeal.nD Cert.FlashFwdRefIdeal.τ).loc Cert.FlashFwdRefIdeal.main_arg0) = m' ((c.tc : Thread Cert.FlashFwdRefIdeal.nD Cert.FlashFwdRefIdeal.τ).loc Cert.FlashFwdRefIdeal.main_arg0)
          ∧ r.2.mem ((c.tc : Thread Cert.FlashFwdRefIdeal.nD Cert.FlashFwdRefIdeal.τ).loc Cert.FlashFwdRefIdeal.main_arg1) = m' ((c.tc : Thread Cert.FlashFwdRefIdeal.nD Cert.FlashFwdRefIdeal.τ).loc Cert.FlashFwdRefIdeal.main_arg1)
          ∧ r.2.mem ((c.tc : Thread Cert.FlashFwdRefIdeal.nD Cert.FlashFwdRefIdeal.τ).loc Cert.FlashFwdRefIdeal.main_arg2) = m' ((c.tc : Thread Cert.FlashFwdRefIdeal.nD Cert.FlashFwdRefIdeal.τ).loc Cert.FlashFwdRefIdeal.main_arg2)
          ∧ r.2.mem ((c.tc : Thread Cert.FlashFwdRefIdeal.nD Cert.FlashFwdRefIdeal.τ).loc Cert.FlashFwdRefIdeal.main_arg3) = m' ((c.tc : Thread Cert.FlashFwdRefIdeal.nD Cert.FlashFwdRefIdeal.τ).loc Cert.FlashFwdRefIdeal.main_arg3)
          ∧ r.2.mem ((c.tc : Thread Cert.FlashFwdRefIdeal.nD Cert.FlashFwdRefIdeal.τ).loc Cert.FlashFwdRefIdeal.main_arg4) = m' ((c.tc : Thread Cert.FlashFwdRefIdeal.nD Cert.FlashFwdRefIdeal.τ).loc Cert.FlashFwdRefIdeal.main_arg4))

def preserves_ConvLnSiluBwd_ConvLnSiluBwdIdeal : Prop :=
  True

def algebraic_ConvLnSiluBwdIdeal_ConvLnSiluBwdRefIdeal_pre_finite_conv_ln_silu_bwd [hConvLnSiluBwdIdeal : Cert.ConvLnSiluBwdIdeal.Facts] [hConvLnSiluBwdRefIdeal : Cert.ConvLnSiluBwdRefIdeal.Facts] [hPre_finite_conv_ln_silu_bwd : Cert.Pre_finite_conv_ln_silu_bwd.Facts] : Prop :=
  ∀ (m : (ℓ : Loc Cert.ConvLnSiluBwdIdeal.nD Cert.ConvLnSiluBwdIdeal.τ Cert.ConvLnSiluBwdIdeal.sig) → Buf (Elt Ideal) ℓ) (g : Dev Cert.ConvLnSiluBwdIdeal.nD → PrngReg)
    (m' : (ℓ : Loc Cert.ConvLnSiluBwdRefIdeal.nD Cert.ConvLnSiluBwdRefIdeal.τ Cert.ConvLnSiluBwdRefIdeal.sig) → Buf (Elt Ideal) ℓ) (g' : Dev Cert.ConvLnSiluBwdRefIdeal.nD → PrngReg), Pre_ConvLnSiluBwdIdeal_finite_conv_ln_silu_bwd m →
    (∀ c : Dev Cert.ConvLnSiluBwdIdeal.nD,
      m' ((c.tc : Thread Cert.ConvLnSiluBwdRefIdeal.nD Cert.ConvLnSiluBwdRefIdeal.τ).loc Cert.ConvLnSiluBwdRefIdeal.main_arg0) = m ((c.tc : Thread Cert.ConvLnSiluBwdIdeal.nD Cert.ConvLnSiluBwdIdeal.τ).loc Cert.ConvLnSiluBwdIdeal.main_arg0)
      ∧ m' ((c.tc : Thread Cert.ConvLnSiluBwdRefIdeal.nD Cert.ConvLnSiluBwdRefIdeal.τ).loc Cert.ConvLnSiluBwdRefIdeal.main_arg1) = m ((c.tc : Thread Cert.ConvLnSiluBwdIdeal.nD Cert.ConvLnSiluBwdIdeal.τ).loc Cert.ConvLnSiluBwdIdeal.main_arg1)
      ∧ m' ((c.tc : Thread Cert.ConvLnSiluBwdRefIdeal.nD Cert.ConvLnSiluBwdRefIdeal.τ).loc Cert.ConvLnSiluBwdRefIdeal.main_arg2) = m ((c.tc : Thread Cert.ConvLnSiluBwdIdeal.nD Cert.ConvLnSiluBwdIdeal.τ).loc Cert.ConvLnSiluBwdIdeal.main_arg2)
      ∧ m' ((c.tc : Thread Cert.ConvLnSiluBwdRefIdeal.nD Cert.ConvLnSiluBwdRefIdeal.τ).loc Cert.ConvLnSiluBwdRefIdeal.main_arg3) = m ((c.tc : Thread Cert.ConvLnSiluBwdIdeal.nD Cert.ConvLnSiluBwdIdeal.τ).loc Cert.ConvLnSiluBwdIdeal.main_arg3)) →
    ∃ (v0 : (c : Dev Cert.ConvLnSiluBwdIdeal.nD) → Buf (Elt Ideal) ((c.tc : Thread Cert.ConvLnSiluBwdIdeal.nD Cert.ConvLnSiluBwdIdeal.τ).loc Cert.ConvLnSiluBwdIdeal.main_v0_0)) (v1 : (c : Dev Cert.ConvLnSiluBwdIdeal.nD) → Buf (Elt Ideal) ((c.tc : Thread Cert.ConvLnSiluBwdIdeal.nD Cert.ConvLnSiluBwdIdeal.τ).loc Cert.ConvLnSiluBwdIdeal.main_v0_1)) (v2 : (c : Dev Cert.ConvLnSiluBwdIdeal.nD) → Buf (Elt Ideal) ((c.tc : Thread Cert.ConvLnSiluBwdIdeal.nD Cert.ConvLnSiluBwdIdeal.τ).loc Cert.ConvLnSiluBwdIdeal.main_v0_2)),
      θ_run (Cert.ConvLnSiluBwdIdeal.defs (F := Ideal)) (onTc (τ := Cert.ConvLnSiluBwdIdeal.τ) (Cert.ConvLnSiluBwdIdeal.main (F := Ideal))) ⟨m, fun _ => 0, g⟩ (fun r => ∀ c : Dev Cert.ConvLnSiluBwdIdeal.nD,
          r.2.mem ((c.tc : Thread Cert.ConvLnSiluBwdIdeal.nD Cert.ConvLnSiluBwdIdeal.τ).loc Cert.ConvLnSiluBwdIdeal.main_v0_0) = v0 c
          ∧ r.2.mem ((c.tc : Thread Cert.ConvLnSiluBwdIdeal.nD Cert.ConvLnSiluBwdIdeal.τ).loc Cert.ConvLnSiluBwdIdeal.main_v0_1) = v1 c
          ∧ r.2.mem ((c.tc : Thread Cert.ConvLnSiluBwdIdeal.nD Cert.ConvLnSiluBwdIdeal.τ).loc Cert.ConvLnSiluBwdIdeal.main_v0_2) = v2 c
          ∧ r.2.mem ((c.tc : Thread Cert.ConvLnSiluBwdIdeal.nD Cert.ConvLnSiluBwdIdeal.τ).loc Cert.ConvLnSiluBwdIdeal.main_arg0) = m ((c.tc : Thread Cert.ConvLnSiluBwdIdeal.nD Cert.ConvLnSiluBwdIdeal.τ).loc Cert.ConvLnSiluBwdIdeal.main_arg0)
          ∧ r.2.mem ((c.tc : Thread Cert.ConvLnSiluBwdIdeal.nD Cert.ConvLnSiluBwdIdeal.τ).loc Cert.ConvLnSiluBwdIdeal.main_arg1) = m ((c.tc : Thread Cert.ConvLnSiluBwdIdeal.nD Cert.ConvLnSiluBwdIdeal.τ).loc Cert.ConvLnSiluBwdIdeal.main_arg1)
          ∧ r.2.mem ((c.tc : Thread Cert.ConvLnSiluBwdIdeal.nD Cert.ConvLnSiluBwdIdeal.τ).loc Cert.ConvLnSiluBwdIdeal.main_arg2) = m ((c.tc : Thread Cert.ConvLnSiluBwdIdeal.nD Cert.ConvLnSiluBwdIdeal.τ).loc Cert.ConvLnSiluBwdIdeal.main_arg2)
          ∧ r.2.mem ((c.tc : Thread Cert.ConvLnSiluBwdIdeal.nD Cert.ConvLnSiluBwdIdeal.τ).loc Cert.ConvLnSiluBwdIdeal.main_arg3) = m ((c.tc : Thread Cert.ConvLnSiluBwdIdeal.nD Cert.ConvLnSiluBwdIdeal.τ).loc Cert.ConvLnSiluBwdIdeal.main_arg3))
      ∧ θ_run (Cert.ConvLnSiluBwdRefIdeal.defs (F := Ideal)) (onTc (τ := Cert.ConvLnSiluBwdRefIdeal.τ) (Cert.ConvLnSiluBwdRefIdeal.main (F := Ideal))) ⟨m', fun _ => 0, g'⟩ (fun r => ∀ c : Dev Cert.ConvLnSiluBwdRefIdeal.nD,
          r.2.mem ((c.tc : Thread Cert.ConvLnSiluBwdRefIdeal.nD Cert.ConvLnSiluBwdRefIdeal.τ).loc Cert.ConvLnSiluBwdRefIdeal.main_v54) = v0 c
          ∧ r.2.mem ((c.tc : Thread Cert.ConvLnSiluBwdRefIdeal.nD Cert.ConvLnSiluBwdRefIdeal.τ).loc Cert.ConvLnSiluBwdRefIdeal.main_v32) = v1 c
          ∧ r.2.mem ((c.tc : Thread Cert.ConvLnSiluBwdRefIdeal.nD Cert.ConvLnSiluBwdRefIdeal.τ).loc Cert.ConvLnSiluBwdRefIdeal.main_v29) = v2 c
          ∧ r.2.mem ((c.tc : Thread Cert.ConvLnSiluBwdRefIdeal.nD Cert.ConvLnSiluBwdRefIdeal.τ).loc Cert.ConvLnSiluBwdRefIdeal.main_arg0) = m' ((c.tc : Thread Cert.ConvLnSiluBwdRefIdeal.nD Cert.ConvLnSiluBwdRefIdeal.τ).loc Cert.ConvLnSiluBwdRefIdeal.main_arg0)
          ∧ r.2.mem ((c.tc : Thread Cert.ConvLnSiluBwdRefIdeal.nD Cert.ConvLnSiluBwdRefIdeal.τ).loc Cert.ConvLnSiluBwdRefIdeal.main_arg1) = m' ((c.tc : Thread Cert.ConvLnSiluBwdRefIdeal.nD Cert.ConvLnSiluBwdRefIdeal.τ).loc Cert.ConvLnSiluBwdRefIdeal.main_arg1)
          ∧ r.2.mem ((c.tc : Thread Cert.ConvLnSiluBwdRefIdeal.nD Cert.ConvLnSiluBwdRefIdeal.τ).loc Cert.ConvLnSiluBwdRefIdeal.main_arg2) = m' ((c.tc : Thread Cert.ConvLnSiluBwdRefIdeal.nD Cert.ConvLnSiluBwdRefIdeal.τ).loc Cert.ConvLnSiluBwdRefIdeal.main_arg2)
          ∧ r.2.mem ((c.tc : Thread Cert.ConvLnSiluBwdRefIdeal.nD Cert.ConvLnSiluBwdRefIdeal.τ).loc Cert.ConvLnSiluBwdRefIdeal.main_arg3) = m' ((c.tc : Thread Cert.ConvLnSiluBwdRefIdeal.nD Cert.ConvLnSiluBwdRefIdeal.τ).loc Cert.ConvLnSiluBwdRefIdeal.main_arg3))

def preserves_QDgradRms_QDgradRmsIdeal : Prop :=
  True

def algebraic_QDgradRmsIdeal_QDgradRmsRefIdeal_pre_finite_q_dgrad_rms_bwd [hQDgradRmsIdeal : Cert.QDgradRmsIdeal.Facts] [hQDgradRmsRefIdeal : Cert.QDgradRmsRefIdeal.Facts] [hPre_finite_q_dgrad_rms_bwd : Cert.Pre_finite_q_dgrad_rms_bwd.Facts] : Prop :=
  ∀ (m : (ℓ : Loc Cert.QDgradRmsIdeal.nD Cert.QDgradRmsIdeal.τ Cert.QDgradRmsIdeal.sig) → Buf (Elt Ideal) ℓ) (g : Dev Cert.QDgradRmsIdeal.nD → PrngReg)
    (m' : (ℓ : Loc Cert.QDgradRmsRefIdeal.nD Cert.QDgradRmsRefIdeal.τ Cert.QDgradRmsRefIdeal.sig) → Buf (Elt Ideal) ℓ) (g' : Dev Cert.QDgradRmsRefIdeal.nD → PrngReg), Pre_QDgradRmsIdeal_finite_q_dgrad_rms_bwd m →
    (∀ c : Dev Cert.QDgradRmsIdeal.nD,
      m' ((c.tc : Thread Cert.QDgradRmsRefIdeal.nD Cert.QDgradRmsRefIdeal.τ).loc Cert.QDgradRmsRefIdeal.main_arg0) = m ((c.tc : Thread Cert.QDgradRmsIdeal.nD Cert.QDgradRmsIdeal.τ).loc Cert.QDgradRmsIdeal.main_arg0)
      ∧ m' ((c.tc : Thread Cert.QDgradRmsRefIdeal.nD Cert.QDgradRmsRefIdeal.τ).loc Cert.QDgradRmsRefIdeal.main_arg1) = m ((c.tc : Thread Cert.QDgradRmsIdeal.nD Cert.QDgradRmsIdeal.τ).loc Cert.QDgradRmsIdeal.main_arg1)
      ∧ m' ((c.tc : Thread Cert.QDgradRmsRefIdeal.nD Cert.QDgradRmsRefIdeal.τ).loc Cert.QDgradRmsRefIdeal.main_arg2) = m ((c.tc : Thread Cert.QDgradRmsIdeal.nD Cert.QDgradRmsIdeal.τ).loc Cert.QDgradRmsIdeal.main_arg2)
      ∧ m' ((c.tc : Thread Cert.QDgradRmsRefIdeal.nD Cert.QDgradRmsRefIdeal.τ).loc Cert.QDgradRmsRefIdeal.main_arg3) = m ((c.tc : Thread Cert.QDgradRmsIdeal.nD Cert.QDgradRmsIdeal.τ).loc Cert.QDgradRmsIdeal.main_arg3)
      ∧ m' ((c.tc : Thread Cert.QDgradRmsRefIdeal.nD Cert.QDgradRmsRefIdeal.τ).loc Cert.QDgradRmsRefIdeal.main_arg4) = m ((c.tc : Thread Cert.QDgradRmsIdeal.nD Cert.QDgradRmsIdeal.τ).loc Cert.QDgradRmsIdeal.main_arg4)) →
    ∃ (v0 : (c : Dev Cert.QDgradRmsIdeal.nD) → Buf (Elt Ideal) ((c.tc : Thread Cert.QDgradRmsIdeal.nD Cert.QDgradRmsIdeal.τ).loc Cert.QDgradRmsIdeal.main_v24_0)) (v1 : (c : Dev Cert.QDgradRmsIdeal.nD) → Buf (Elt Ideal) ((c.tc : Thread Cert.QDgradRmsIdeal.nD Cert.QDgradRmsIdeal.τ).loc Cert.QDgradRmsIdeal.main_v24_1)),
      θ_run (Cert.QDgradRmsIdeal.defs (F := Ideal)) (onTc (τ := Cert.QDgradRmsIdeal.τ) (Cert.QDgradRmsIdeal.main (F := Ideal))) ⟨m, fun _ => 0, g⟩ (fun r => ∀ c : Dev Cert.QDgradRmsIdeal.nD,
          r.2.mem ((c.tc : Thread Cert.QDgradRmsIdeal.nD Cert.QDgradRmsIdeal.τ).loc Cert.QDgradRmsIdeal.main_v24_0) = v0 c
          ∧ r.2.mem ((c.tc : Thread Cert.QDgradRmsIdeal.nD Cert.QDgradRmsIdeal.τ).loc Cert.QDgradRmsIdeal.main_v24_1) = v1 c
          ∧ r.2.mem ((c.tc : Thread Cert.QDgradRmsIdeal.nD Cert.QDgradRmsIdeal.τ).loc Cert.QDgradRmsIdeal.main_arg0) = m ((c.tc : Thread Cert.QDgradRmsIdeal.nD Cert.QDgradRmsIdeal.τ).loc Cert.QDgradRmsIdeal.main_arg0)
          ∧ r.2.mem ((c.tc : Thread Cert.QDgradRmsIdeal.nD Cert.QDgradRmsIdeal.τ).loc Cert.QDgradRmsIdeal.main_arg1) = m ((c.tc : Thread Cert.QDgradRmsIdeal.nD Cert.QDgradRmsIdeal.τ).loc Cert.QDgradRmsIdeal.main_arg1)
          ∧ r.2.mem ((c.tc : Thread Cert.QDgradRmsIdeal.nD Cert.QDgradRmsIdeal.τ).loc Cert.QDgradRmsIdeal.main_arg2) = m ((c.tc : Thread Cert.QDgradRmsIdeal.nD Cert.QDgradRmsIdeal.τ).loc Cert.QDgradRmsIdeal.main_arg2)
          ∧ r.2.mem ((c.tc : Thread Cert.QDgradRmsIdeal.nD Cert.QDgradRmsIdeal.τ).loc Cert.QDgradRmsIdeal.main_arg3) = m ((c.tc : Thread Cert.QDgradRmsIdeal.nD Cert.QDgradRmsIdeal.τ).loc Cert.QDgradRmsIdeal.main_arg3)
          ∧ r.2.mem ((c.tc : Thread Cert.QDgradRmsIdeal.nD Cert.QDgradRmsIdeal.τ).loc Cert.QDgradRmsIdeal.main_arg4) = m ((c.tc : Thread Cert.QDgradRmsIdeal.nD Cert.QDgradRmsIdeal.τ).loc Cert.QDgradRmsIdeal.main_arg4))
      ∧ θ_run (Cert.QDgradRmsRefIdeal.defs (F := Ideal)) (onTc (τ := Cert.QDgradRmsRefIdeal.τ) (Cert.QDgradRmsRefIdeal.main (F := Ideal))) ⟨m', fun _ => 0, g'⟩ (fun r => ∀ c : Dev Cert.QDgradRmsRefIdeal.nD,
          r.2.mem ((c.tc : Thread Cert.QDgradRmsRefIdeal.nD Cert.QDgradRmsRefIdeal.τ).loc Cert.QDgradRmsRefIdeal.main_v43) = v0 c
          ∧ r.2.mem ((c.tc : Thread Cert.QDgradRmsRefIdeal.nD Cert.QDgradRmsRefIdeal.τ).loc Cert.QDgradRmsRefIdeal.main_v24) = v1 c
          ∧ r.2.mem ((c.tc : Thread Cert.QDgradRmsRefIdeal.nD Cert.QDgradRmsRefIdeal.τ).loc Cert.QDgradRmsRefIdeal.main_arg0) = m' ((c.tc : Thread Cert.QDgradRmsRefIdeal.nD Cert.QDgradRmsRefIdeal.τ).loc Cert.QDgradRmsRefIdeal.main_arg0)
          ∧ r.2.mem ((c.tc : Thread Cert.QDgradRmsRefIdeal.nD Cert.QDgradRmsRefIdeal.τ).loc Cert.QDgradRmsRefIdeal.main_arg1) = m' ((c.tc : Thread Cert.QDgradRmsRefIdeal.nD Cert.QDgradRmsRefIdeal.τ).loc Cert.QDgradRmsRefIdeal.main_arg1)
          ∧ r.2.mem ((c.tc : Thread Cert.QDgradRmsRefIdeal.nD Cert.QDgradRmsRefIdeal.τ).loc Cert.QDgradRmsRefIdeal.main_arg2) = m' ((c.tc : Thread Cert.QDgradRmsRefIdeal.nD Cert.QDgradRmsRefIdeal.τ).loc Cert.QDgradRmsRefIdeal.main_arg2)
          ∧ r.2.mem ((c.tc : Thread Cert.QDgradRmsRefIdeal.nD Cert.QDgradRmsRefIdeal.τ).loc Cert.QDgradRmsRefIdeal.main_arg3) = m' ((c.tc : Thread Cert.QDgradRmsRefIdeal.nD Cert.QDgradRmsRefIdeal.τ).loc Cert.QDgradRmsRefIdeal.main_arg3)
          ∧ r.2.mem ((c.tc : Thread Cert.QDgradRmsRefIdeal.nD Cert.QDgradRmsRefIdeal.τ).loc Cert.QDgradRmsRefIdeal.main_arg4) = m' ((c.tc : Thread Cert.QDgradRmsRefIdeal.nD Cert.QDgradRmsRefIdeal.τ).loc Cert.QDgradRmsRefIdeal.main_arg4))

def preserves_KvDgradRms_KvDgradRmsIdeal : Prop :=
  True

def algebraic_KvDgradRmsIdeal_KvDgradRmsRefIdeal_pre_finite_kv_dgrad_rms_bwd [hKvDgradRmsIdeal : Cert.KvDgradRmsIdeal.Facts] [hKvDgradRmsRefIdeal : Cert.KvDgradRmsRefIdeal.Facts] [hPre_finite_kv_dgrad_rms_bwd : Cert.Pre_finite_kv_dgrad_rms_bwd.Facts] : Prop :=
  ∀ (m : (ℓ : Loc Cert.KvDgradRmsIdeal.nD Cert.KvDgradRmsIdeal.τ Cert.KvDgradRmsIdeal.sig) → Buf (Elt Ideal) ℓ) (g : Dev Cert.KvDgradRmsIdeal.nD → PrngReg)
    (m' : (ℓ : Loc Cert.KvDgradRmsRefIdeal.nD Cert.KvDgradRmsRefIdeal.τ Cert.KvDgradRmsRefIdeal.sig) → Buf (Elt Ideal) ℓ) (g' : Dev Cert.KvDgradRmsRefIdeal.nD → PrngReg), Pre_KvDgradRmsIdeal_finite_kv_dgrad_rms_bwd m →
    (∀ c : Dev Cert.KvDgradRmsIdeal.nD,
      m' ((c.tc : Thread Cert.KvDgradRmsRefIdeal.nD Cert.KvDgradRmsRefIdeal.τ).loc Cert.KvDgradRmsRefIdeal.main_arg0) = m ((c.tc : Thread Cert.KvDgradRmsIdeal.nD Cert.KvDgradRmsIdeal.τ).loc Cert.KvDgradRmsIdeal.main_arg0)
      ∧ m' ((c.tc : Thread Cert.KvDgradRmsRefIdeal.nD Cert.KvDgradRmsRefIdeal.τ).loc Cert.KvDgradRmsRefIdeal.main_arg1) = m ((c.tc : Thread Cert.KvDgradRmsIdeal.nD Cert.KvDgradRmsIdeal.τ).loc Cert.KvDgradRmsIdeal.main_arg1)
      ∧ m' ((c.tc : Thread Cert.KvDgradRmsRefIdeal.nD Cert.KvDgradRmsRefIdeal.τ).loc Cert.KvDgradRmsRefIdeal.main_arg2) = m ((c.tc : Thread Cert.KvDgradRmsIdeal.nD Cert.KvDgradRmsIdeal.τ).loc Cert.KvDgradRmsIdeal.main_arg2)
      ∧ m' ((c.tc : Thread Cert.KvDgradRmsRefIdeal.nD Cert.KvDgradRmsRefIdeal.τ).loc Cert.KvDgradRmsRefIdeal.main_arg3) = m ((c.tc : Thread Cert.KvDgradRmsIdeal.nD Cert.KvDgradRmsIdeal.τ).loc Cert.KvDgradRmsIdeal.main_arg3)
      ∧ m' ((c.tc : Thread Cert.KvDgradRmsRefIdeal.nD Cert.KvDgradRmsRefIdeal.τ).loc Cert.KvDgradRmsRefIdeal.main_arg4) = m ((c.tc : Thread Cert.KvDgradRmsIdeal.nD Cert.KvDgradRmsIdeal.τ).loc Cert.KvDgradRmsIdeal.main_arg4)
      ∧ m' ((c.tc : Thread Cert.KvDgradRmsRefIdeal.nD Cert.KvDgradRmsRefIdeal.τ).loc Cert.KvDgradRmsRefIdeal.main_arg5) = m ((c.tc : Thread Cert.KvDgradRmsIdeal.nD Cert.KvDgradRmsIdeal.τ).loc Cert.KvDgradRmsIdeal.main_arg5)
      ∧ m' ((c.tc : Thread Cert.KvDgradRmsRefIdeal.nD Cert.KvDgradRmsRefIdeal.τ).loc Cert.KvDgradRmsRefIdeal.main_arg6) = m ((c.tc : Thread Cert.KvDgradRmsIdeal.nD Cert.KvDgradRmsIdeal.τ).loc Cert.KvDgradRmsIdeal.main_arg6)) →
    ∃ (v0 : (c : Dev Cert.KvDgradRmsIdeal.nD) → Buf (Elt Ideal) ((c.tc : Thread Cert.KvDgradRmsIdeal.nD Cert.KvDgradRmsIdeal.τ).loc Cert.KvDgradRmsIdeal.main_v26_0)) (v1 : (c : Dev Cert.KvDgradRmsIdeal.nD) → Buf (Elt Ideal) ((c.tc : Thread Cert.KvDgradRmsIdeal.nD Cert.KvDgradRmsIdeal.τ).loc Cert.KvDgradRmsIdeal.main_v26_1)),
      θ_run (Cert.KvDgradRmsIdeal.defs (F := Ideal)) (onTc (τ := Cert.KvDgradRmsIdeal.τ) (Cert.KvDgradRmsIdeal.main (F := Ideal))) ⟨m, fun _ => 0, g⟩ (fun r => ∀ c : Dev Cert.KvDgradRmsIdeal.nD,
          r.2.mem ((c.tc : Thread Cert.KvDgradRmsIdeal.nD Cert.KvDgradRmsIdeal.τ).loc Cert.KvDgradRmsIdeal.main_v26_0) = v0 c
          ∧ r.2.mem ((c.tc : Thread Cert.KvDgradRmsIdeal.nD Cert.KvDgradRmsIdeal.τ).loc Cert.KvDgradRmsIdeal.main_v26_1) = v1 c
          ∧ r.2.mem ((c.tc : Thread Cert.KvDgradRmsIdeal.nD Cert.KvDgradRmsIdeal.τ).loc Cert.KvDgradRmsIdeal.main_arg0) = m ((c.tc : Thread Cert.KvDgradRmsIdeal.nD Cert.KvDgradRmsIdeal.τ).loc Cert.KvDgradRmsIdeal.main_arg0)
          ∧ r.2.mem ((c.tc : Thread Cert.KvDgradRmsIdeal.nD Cert.KvDgradRmsIdeal.τ).loc Cert.KvDgradRmsIdeal.main_arg1) = m ((c.tc : Thread Cert.KvDgradRmsIdeal.nD Cert.KvDgradRmsIdeal.τ).loc Cert.KvDgradRmsIdeal.main_arg1)
          ∧ r.2.mem ((c.tc : Thread Cert.KvDgradRmsIdeal.nD Cert.KvDgradRmsIdeal.τ).loc Cert.KvDgradRmsIdeal.main_arg2) = m ((c.tc : Thread Cert.KvDgradRmsIdeal.nD Cert.KvDgradRmsIdeal.τ).loc Cert.KvDgradRmsIdeal.main_arg2)
          ∧ r.2.mem ((c.tc : Thread Cert.KvDgradRmsIdeal.nD Cert.KvDgradRmsIdeal.τ).loc Cert.KvDgradRmsIdeal.main_arg3) = m ((c.tc : Thread Cert.KvDgradRmsIdeal.nD Cert.KvDgradRmsIdeal.τ).loc Cert.KvDgradRmsIdeal.main_arg3)
          ∧ r.2.mem ((c.tc : Thread Cert.KvDgradRmsIdeal.nD Cert.KvDgradRmsIdeal.τ).loc Cert.KvDgradRmsIdeal.main_arg4) = m ((c.tc : Thread Cert.KvDgradRmsIdeal.nD Cert.KvDgradRmsIdeal.τ).loc Cert.KvDgradRmsIdeal.main_arg4)
          ∧ r.2.mem ((c.tc : Thread Cert.KvDgradRmsIdeal.nD Cert.KvDgradRmsIdeal.τ).loc Cert.KvDgradRmsIdeal.main_arg5) = m ((c.tc : Thread Cert.KvDgradRmsIdeal.nD Cert.KvDgradRmsIdeal.τ).loc Cert.KvDgradRmsIdeal.main_arg5)
          ∧ r.2.mem ((c.tc : Thread Cert.KvDgradRmsIdeal.nD Cert.KvDgradRmsIdeal.τ).loc Cert.KvDgradRmsIdeal.main_arg6) = m ((c.tc : Thread Cert.KvDgradRmsIdeal.nD Cert.KvDgradRmsIdeal.τ).loc Cert.KvDgradRmsIdeal.main_arg6))
      ∧ θ_run (Cert.KvDgradRmsRefIdeal.defs (F := Ideal)) (onTc (τ := Cert.KvDgradRmsRefIdeal.τ) (Cert.KvDgradRmsRefIdeal.main (F := Ideal))) ⟨m', fun _ => 0, g'⟩ (fun r => ∀ c : Dev Cert.KvDgradRmsRefIdeal.nD,
          r.2.mem ((c.tc : Thread Cert.KvDgradRmsRefIdeal.nD Cert.KvDgradRmsRefIdeal.τ).loc Cert.KvDgradRmsRefIdeal.main_v49) = v0 c
          ∧ r.2.mem ((c.tc : Thread Cert.KvDgradRmsRefIdeal.nD Cert.KvDgradRmsRefIdeal.τ).loc Cert.KvDgradRmsRefIdeal.main_v29) = v1 c
          ∧ r.2.mem ((c.tc : Thread Cert.KvDgradRmsRefIdeal.nD Cert.KvDgradRmsRefIdeal.τ).loc Cert.KvDgradRmsRefIdeal.main_arg0) = m' ((c.tc : Thread Cert.KvDgradRmsRefIdeal.nD Cert.KvDgradRmsRefIdeal.τ).loc Cert.KvDgradRmsRefIdeal.main_arg0)
          ∧ r.2.mem ((c.tc : Thread Cert.KvDgradRmsRefIdeal.nD Cert.KvDgradRmsRefIdeal.τ).loc Cert.KvDgradRmsRefIdeal.main_arg1) = m' ((c.tc : Thread Cert.KvDgradRmsRefIdeal.nD Cert.KvDgradRmsRefIdeal.τ).loc Cert.KvDgradRmsRefIdeal.main_arg1)
          ∧ r.2.mem ((c.tc : Thread Cert.KvDgradRmsRefIdeal.nD Cert.KvDgradRmsRefIdeal.τ).loc Cert.KvDgradRmsRefIdeal.main_arg2) = m' ((c.tc : Thread Cert.KvDgradRmsRefIdeal.nD Cert.KvDgradRmsRefIdeal.τ).loc Cert.KvDgradRmsRefIdeal.main_arg2)
          ∧ r.2.mem ((c.tc : Thread Cert.KvDgradRmsRefIdeal.nD Cert.KvDgradRmsRefIdeal.τ).loc Cert.KvDgradRmsRefIdeal.main_arg3) = m' ((c.tc : Thread Cert.KvDgradRmsRefIdeal.nD Cert.KvDgradRmsRefIdeal.τ).loc Cert.KvDgradRmsRefIdeal.main_arg3)
          ∧ r.2.mem ((c.tc : Thread Cert.KvDgradRmsRefIdeal.nD Cert.KvDgradRmsRefIdeal.τ).loc Cert.KvDgradRmsRefIdeal.main_arg4) = m' ((c.tc : Thread Cert.KvDgradRmsRefIdeal.nD Cert.KvDgradRmsRefIdeal.τ).loc Cert.KvDgradRmsRefIdeal.main_arg4)
          ∧ r.2.mem ((c.tc : Thread Cert.KvDgradRmsRefIdeal.nD Cert.KvDgradRmsRefIdeal.τ).loc Cert.KvDgradRmsRefIdeal.main_arg5) = m' ((c.tc : Thread Cert.KvDgradRmsRefIdeal.nD Cert.KvDgradRmsRefIdeal.τ).loc Cert.KvDgradRmsRefIdeal.main_arg5)
          ∧ r.2.mem ((c.tc : Thread Cert.KvDgradRmsRefIdeal.nD Cert.KvDgradRmsRefIdeal.τ).loc Cert.KvDgradRmsRefIdeal.main_arg6) = m' ((c.tc : Thread Cert.KvDgradRmsRefIdeal.nD Cert.KvDgradRmsRefIdeal.τ).loc Cert.KvDgradRmsRefIdeal.main_arg6))

def preserves_Ff2Ln2Loss_Ff2Ln2LossIdeal : Prop :=
  True

def algebraic_Ff2Ln2LossIdeal_Ff2Ln2LossRefIdeal_pre_finite_ff2_ln2_loss [hFf2Ln2LossIdeal : Cert.Ff2Ln2LossIdeal.Facts] [hFf2Ln2LossRefIdeal : Cert.Ff2Ln2LossRefIdeal.Facts] [hPre_finite_ff2_ln2_loss : Cert.Pre_finite_ff2_ln2_loss.Facts] : Prop :=
  ∀ (m : (ℓ : Loc Cert.Ff2Ln2LossIdeal.nD Cert.Ff2Ln2LossIdeal.τ Cert.Ff2Ln2LossIdeal.sig) → Buf (Elt Ideal) ℓ) (g : Dev Cert.Ff2Ln2LossIdeal.nD → PrngReg)
    (m' : (ℓ : Loc Cert.Ff2Ln2LossRefIdeal.nD Cert.Ff2Ln2LossRefIdeal.τ Cert.Ff2Ln2LossRefIdeal.sig) → Buf (Elt Ideal) ℓ) (g' : Dev Cert.Ff2Ln2LossRefIdeal.nD → PrngReg), Pre_Ff2Ln2LossIdeal_finite_ff2_ln2_loss m →
    (∀ c : Dev Cert.Ff2Ln2LossIdeal.nD,
      m' ((c.tc : Thread Cert.Ff2Ln2LossRefIdeal.nD Cert.Ff2Ln2LossRefIdeal.τ).loc Cert.Ff2Ln2LossRefIdeal.main_arg0) = m ((c.tc : Thread Cert.Ff2Ln2LossIdeal.nD Cert.Ff2Ln2LossIdeal.τ).loc Cert.Ff2Ln2LossIdeal.main_arg0)
      ∧ m' ((c.tc : Thread Cert.Ff2Ln2LossRefIdeal.nD Cert.Ff2Ln2LossRefIdeal.τ).loc Cert.Ff2Ln2LossRefIdeal.main_arg1) = m ((c.tc : Thread Cert.Ff2Ln2LossIdeal.nD Cert.Ff2Ln2LossIdeal.τ).loc Cert.Ff2Ln2LossIdeal.main_arg1)
      ∧ m' ((c.tc : Thread Cert.Ff2Ln2LossRefIdeal.nD Cert.Ff2Ln2LossRefIdeal.τ).loc Cert.Ff2Ln2LossRefIdeal.main_arg2) = m ((c.tc : Thread Cert.Ff2Ln2LossIdeal.nD Cert.Ff2Ln2LossIdeal.τ).loc Cert.Ff2Ln2LossIdeal.main_arg2)
      ∧ m' ((c.tc : Thread Cert.Ff2Ln2LossRefIdeal.nD Cert.Ff2Ln2LossRefIdeal.τ).loc Cert.Ff2Ln2LossRefIdeal.main_arg3) = m ((c.tc : Thread Cert.Ff2Ln2LossIdeal.nD Cert.Ff2Ln2LossIdeal.τ).loc Cert.Ff2Ln2LossIdeal.main_arg3)
      ∧ m' ((c.tc : Thread Cert.Ff2Ln2LossRefIdeal.nD Cert.Ff2Ln2LossRefIdeal.τ).loc Cert.Ff2Ln2LossRefIdeal.main_arg4) = m ((c.tc : Thread Cert.Ff2Ln2LossIdeal.nD Cert.Ff2Ln2LossIdeal.τ).loc Cert.Ff2Ln2LossIdeal.main_arg4)
      ∧ m' ((c.tc : Thread Cert.Ff2Ln2LossRefIdeal.nD Cert.Ff2Ln2LossRefIdeal.τ).loc Cert.Ff2Ln2LossRefIdeal.main_arg5) = m ((c.tc : Thread Cert.Ff2Ln2LossIdeal.nD Cert.Ff2Ln2LossIdeal.τ).loc Cert.Ff2Ln2LossIdeal.main_arg5)) →
    ∃ (v0 : (c : Dev Cert.Ff2Ln2LossIdeal.nD) → Buf (Elt Ideal) ((c.tc : Thread Cert.Ff2Ln2LossIdeal.nD Cert.Ff2Ln2LossIdeal.τ).loc Cert.Ff2Ln2LossIdeal.main_v2_0)) (v1 : (c : Dev Cert.Ff2Ln2LossIdeal.nD) → Buf (Elt Ideal) ((c.tc : Thread Cert.Ff2Ln2LossIdeal.nD Cert.Ff2Ln2LossIdeal.τ).loc Cert.Ff2Ln2LossIdeal.main_v2_1)) (v2 : (c : Dev Cert.Ff2Ln2LossIdeal.nD) → Buf (Elt Ideal) ((c.tc : Thread Cert.Ff2Ln2LossIdeal.nD Cert.Ff2Ln2LossIdeal.τ).loc Cert.Ff2Ln2LossIdeal.main_v2_2)) (v3 : (c : Dev Cert.Ff2Ln2LossIdeal.nD) → Buf (Elt Ideal) ((c.tc : Thread Cert.Ff2Ln2LossIdeal.nD Cert.Ff2Ln2LossIdeal.τ).loc Cert.Ff2Ln2LossIdeal.main_v2_3)) (v4 : (c : Dev Cert.Ff2Ln2LossIdeal.nD) → Buf (Elt Ideal) ((c.tc : Thread Cert.Ff2Ln2LossIdeal.nD Cert.Ff2Ln2LossIdeal.τ).loc Cert.Ff2Ln2LossIdeal.main_v2_4)),
      θ_run (Cert.Ff2Ln2LossIdeal.defs (F := Ideal)) (onTc (τ := Cert.Ff2Ln2LossIdeal.τ) (Cert.Ff2Ln2LossIdeal.main (F := Ideal))) ⟨m, fun _ => 0, g⟩ (fun r => ∀ c : Dev Cert.Ff2Ln2LossIdeal.nD,
          r.2.mem ((c.tc : Thread Cert.Ff2Ln2LossIdeal.nD Cert.Ff2Ln2LossIdeal.τ).loc Cert.Ff2Ln2LossIdeal.main_v2_0) = v0 c
          ∧ r.2.mem ((c.tc : Thread Cert.Ff2Ln2LossIdeal.nD Cert.Ff2Ln2LossIdeal.τ).loc Cert.Ff2Ln2LossIdeal.main_v2_1) = v1 c
          ∧ r.2.mem ((c.tc : Thread Cert.Ff2Ln2LossIdeal.nD Cert.Ff2Ln2LossIdeal.τ).loc Cert.Ff2Ln2LossIdeal.main_v2_2) = v2 c
          ∧ r.2.mem ((c.tc : Thread Cert.Ff2Ln2LossIdeal.nD Cert.Ff2Ln2LossIdeal.τ).loc Cert.Ff2Ln2LossIdeal.main_v2_3) = v3 c
          ∧ r.2.mem ((c.tc : Thread Cert.Ff2Ln2LossIdeal.nD Cert.Ff2Ln2LossIdeal.τ).loc Cert.Ff2Ln2LossIdeal.main_v2_4) = v4 c
          ∧ r.2.mem ((c.tc : Thread Cert.Ff2Ln2LossIdeal.nD Cert.Ff2Ln2LossIdeal.τ).loc Cert.Ff2Ln2LossIdeal.main_arg0) = m ((c.tc : Thread Cert.Ff2Ln2LossIdeal.nD Cert.Ff2Ln2LossIdeal.τ).loc Cert.Ff2Ln2LossIdeal.main_arg0)
          ∧ r.2.mem ((c.tc : Thread Cert.Ff2Ln2LossIdeal.nD Cert.Ff2Ln2LossIdeal.τ).loc Cert.Ff2Ln2LossIdeal.main_arg1) = m ((c.tc : Thread Cert.Ff2Ln2LossIdeal.nD Cert.Ff2Ln2LossIdeal.τ).loc Cert.Ff2Ln2LossIdeal.main_arg1)
          ∧ r.2.mem ((c.tc : Thread Cert.Ff2Ln2LossIdeal.nD Cert.Ff2Ln2LossIdeal.τ).loc Cert.Ff2Ln2LossIdeal.main_arg2) = m ((c.tc : Thread Cert.Ff2Ln2LossIdeal.nD Cert.Ff2Ln2LossIdeal.τ).loc Cert.Ff2Ln2LossIdeal.main_arg2)
          ∧ r.2.mem ((c.tc : Thread Cert.Ff2Ln2LossIdeal.nD Cert.Ff2Ln2LossIdeal.τ).loc Cert.Ff2Ln2LossIdeal.main_arg3) = m ((c.tc : Thread Cert.Ff2Ln2LossIdeal.nD Cert.Ff2Ln2LossIdeal.τ).loc Cert.Ff2Ln2LossIdeal.main_arg3)
          ∧ r.2.mem ((c.tc : Thread Cert.Ff2Ln2LossIdeal.nD Cert.Ff2Ln2LossIdeal.τ).loc Cert.Ff2Ln2LossIdeal.main_arg4) = m ((c.tc : Thread Cert.Ff2Ln2LossIdeal.nD Cert.Ff2Ln2LossIdeal.τ).loc Cert.Ff2Ln2LossIdeal.main_arg4)
          ∧ r.2.mem ((c.tc : Thread Cert.Ff2Ln2LossIdeal.nD Cert.Ff2Ln2LossIdeal.τ).loc Cert.Ff2Ln2LossIdeal.main_arg5) = m ((c.tc : Thread Cert.Ff2Ln2LossIdeal.nD Cert.Ff2Ln2LossIdeal.τ).loc Cert.Ff2Ln2LossIdeal.main_arg5))
      ∧ θ_run (Cert.Ff2Ln2LossRefIdeal.defs (F := Ideal)) (onTc (τ := Cert.Ff2Ln2LossRefIdeal.τ) (Cert.Ff2Ln2LossRefIdeal.main (F := Ideal))) ⟨m', fun _ => 0, g'⟩ (fun r => ∀ c : Dev Cert.Ff2Ln2LossRefIdeal.nD,
          r.2.mem ((c.tc : Thread Cert.Ff2Ln2LossRefIdeal.nD Cert.Ff2Ln2LossRefIdeal.τ).loc Cert.Ff2Ln2LossRefIdeal.main_v70) = v0 c
          ∧ r.2.mem ((c.tc : Thread Cert.Ff2Ln2LossRefIdeal.nD Cert.Ff2Ln2LossRefIdeal.τ).loc Cert.Ff2Ln2LossRefIdeal.main_v71) = v1 c
          ∧ r.2.mem ((c.tc : Thread Cert.Ff2Ln2LossRefIdeal.nD Cert.Ff2Ln2LossRefIdeal.τ).loc Cert.Ff2Ln2LossRefIdeal.main_v72) = v2 c
          ∧ r.2.mem ((c.tc : Thread Cert.Ff2Ln2LossRefIdeal.nD Cert.Ff2Ln2LossRefIdeal.τ).loc Cert.Ff2Ln2LossRefIdeal.main_v48) = v3 c
          ∧ r.2.mem ((c.tc : Thread Cert.Ff2Ln2LossRefIdeal.nD Cert.Ff2Ln2LossRefIdeal.τ).loc Cert.Ff2Ln2LossRefIdeal.main_v45) = v4 c
          ∧ r.2.mem ((c.tc : Thread Cert.Ff2Ln2LossRefIdeal.nD Cert.Ff2Ln2LossRefIdeal.τ).loc Cert.Ff2Ln2LossRefIdeal.main_arg0) = m' ((c.tc : Thread Cert.Ff2Ln2LossRefIdeal.nD Cert.Ff2Ln2LossRefIdeal.τ).loc Cert.Ff2Ln2LossRefIdeal.main_arg0)
          ∧ r.2.mem ((c.tc : Thread Cert.Ff2Ln2LossRefIdeal.nD Cert.Ff2Ln2LossRefIdeal.τ).loc Cert.Ff2Ln2LossRefIdeal.main_arg1) = m' ((c.tc : Thread Cert.Ff2Ln2LossRefIdeal.nD Cert.Ff2Ln2LossRefIdeal.τ).loc Cert.Ff2Ln2LossRefIdeal.main_arg1)
          ∧ r.2.mem ((c.tc : Thread Cert.Ff2Ln2LossRefIdeal.nD Cert.Ff2Ln2LossRefIdeal.τ).loc Cert.Ff2Ln2LossRefIdeal.main_arg2) = m' ((c.tc : Thread Cert.Ff2Ln2LossRefIdeal.nD Cert.Ff2Ln2LossRefIdeal.τ).loc Cert.Ff2Ln2LossRefIdeal.main_arg2)
          ∧ r.2.mem ((c.tc : Thread Cert.Ff2Ln2LossRefIdeal.nD Cert.Ff2Ln2LossRefIdeal.τ).loc Cert.Ff2Ln2LossRefIdeal.main_arg3) = m' ((c.tc : Thread Cert.Ff2Ln2LossRefIdeal.nD Cert.Ff2Ln2LossRefIdeal.τ).loc Cert.Ff2Ln2LossRefIdeal.main_arg3)
          ∧ r.2.mem ((c.tc : Thread Cert.Ff2Ln2LossRefIdeal.nD Cert.Ff2Ln2LossRefIdeal.τ).loc Cert.Ff2Ln2LossRefIdeal.main_arg4) = m' ((c.tc : Thread Cert.Ff2Ln2LossRefIdeal.nD Cert.Ff2Ln2LossRefIdeal.τ).loc Cert.Ff2Ln2LossRefIdeal.main_arg4)
          ∧ r.2.mem ((c.tc : Thread Cert.Ff2Ln2LossRefIdeal.nD Cert.Ff2Ln2LossRefIdeal.τ).loc Cert.Ff2Ln2LossRefIdeal.main_arg5) = m' ((c.tc : Thread Cert.Ff2Ln2LossRefIdeal.nD Cert.Ff2Ln2LossRefIdeal.τ).loc Cert.Ff2Ln2LossRefIdeal.main_arg5))

def preserves_Ff1Ln1Bwd_Ff1Ln1BwdIdeal : Prop :=
  True

def algebraic_Ff1Ln1BwdIdeal_Ff1Ln1BwdRefIdeal_pre_finite_ff1_dgrad_ln1_bwd [hFf1Ln1BwdIdeal : Cert.Ff1Ln1BwdIdeal.Facts] [hFf1Ln1BwdRefIdeal : Cert.Ff1Ln1BwdRefIdeal.Facts] [hPre_finite_ff1_dgrad_ln1_bwd : Cert.Pre_finite_ff1_dgrad_ln1_bwd.Facts] : Prop :=
  ∀ (m : (ℓ : Loc Cert.Ff1Ln1BwdIdeal.nD Cert.Ff1Ln1BwdIdeal.τ Cert.Ff1Ln1BwdIdeal.sig) → Buf (Elt Ideal) ℓ) (g : Dev Cert.Ff1Ln1BwdIdeal.nD → PrngReg)
    (m' : (ℓ : Loc Cert.Ff1Ln1BwdRefIdeal.nD Cert.Ff1Ln1BwdRefIdeal.τ Cert.Ff1Ln1BwdRefIdeal.sig) → Buf (Elt Ideal) ℓ) (g' : Dev Cert.Ff1Ln1BwdRefIdeal.nD → PrngReg), Pre_Ff1Ln1BwdIdeal_finite_ff1_dgrad_ln1_bwd m →
    (∀ c : Dev Cert.Ff1Ln1BwdIdeal.nD,
      m' ((c.tc : Thread Cert.Ff1Ln1BwdRefIdeal.nD Cert.Ff1Ln1BwdRefIdeal.τ).loc Cert.Ff1Ln1BwdRefIdeal.main_arg0) = m ((c.tc : Thread Cert.Ff1Ln1BwdIdeal.nD Cert.Ff1Ln1BwdIdeal.τ).loc Cert.Ff1Ln1BwdIdeal.main_arg0)
      ∧ m' ((c.tc : Thread Cert.Ff1Ln1BwdRefIdeal.nD Cert.Ff1Ln1BwdRefIdeal.τ).loc Cert.Ff1Ln1BwdRefIdeal.main_arg1) = m ((c.tc : Thread Cert.Ff1Ln1BwdIdeal.nD Cert.Ff1Ln1BwdIdeal.τ).loc Cert.Ff1Ln1BwdIdeal.main_arg1)
      ∧ m' ((c.tc : Thread Cert.Ff1Ln1BwdRefIdeal.nD Cert.Ff1Ln1BwdRefIdeal.τ).loc Cert.Ff1Ln1BwdRefIdeal.main_arg2) = m ((c.tc : Thread Cert.Ff1Ln1BwdIdeal.nD Cert.Ff1Ln1BwdIdeal.τ).loc Cert.Ff1Ln1BwdIdeal.main_arg2)
      ∧ m' ((c.tc : Thread Cert.Ff1Ln1BwdRefIdeal.nD Cert.Ff1Ln1BwdRefIdeal.τ).loc Cert.Ff1Ln1BwdRefIdeal.main_arg3) = m ((c.tc : Thread Cert.Ff1Ln1BwdIdeal.nD Cert.Ff1Ln1BwdIdeal.τ).loc Cert.Ff1Ln1BwdIdeal.main_arg3)
      ∧ m' ((c.tc : Thread Cert.Ff1Ln1BwdRefIdeal.nD Cert.Ff1Ln1BwdRefIdeal.τ).loc Cert.Ff1Ln1BwdRefIdeal.main_arg4) = m ((c.tc : Thread Cert.Ff1Ln1BwdIdeal.nD Cert.Ff1Ln1BwdIdeal.τ).loc Cert.Ff1Ln1BwdIdeal.main_arg4)
      ∧ m' ((c.tc : Thread Cert.Ff1Ln1BwdRefIdeal.nD Cert.Ff1Ln1BwdRefIdeal.τ).loc Cert.Ff1Ln1BwdRefIdeal.main_arg5) = m ((c.tc : Thread Cert.Ff1Ln1BwdIdeal.nD Cert.Ff1Ln1BwdIdeal.τ).loc Cert.Ff1Ln1BwdIdeal.main_arg5)) →
    ∃ (v0 : (c : Dev Cert.Ff1Ln1BwdIdeal.nD) → Buf (Elt Ideal) ((c.tc : Thread Cert.Ff1Ln1BwdIdeal.nD Cert.Ff1Ln1BwdIdeal.τ).loc Cert.Ff1Ln1BwdIdeal.main_v4_0)) (v1 : (c : Dev Cert.Ff1Ln1BwdIdeal.nD) → Buf (Elt Ideal) ((c.tc : Thread Cert.Ff1Ln1BwdIdeal.nD Cert.Ff1Ln1BwdIdeal.τ).loc Cert.Ff1Ln1BwdIdeal.main_v4_1)) (v2 : (c : Dev Cert.Ff1Ln1BwdIdeal.nD) → Buf (Elt Ideal) ((c.tc : Thread Cert.Ff1Ln1BwdIdeal.nD Cert.Ff1Ln1BwdIdeal.τ).loc Cert.Ff1Ln1BwdIdeal.main_v4_2)) (v3 : (c : Dev Cert.Ff1Ln1BwdIdeal.nD) → Buf (Elt Ideal) ((c.tc : Thread Cert.Ff1Ln1BwdIdeal.nD Cert.Ff1Ln1BwdIdeal.τ).loc Cert.Ff1Ln1BwdIdeal.main_v4_3)),
      θ_run (Cert.Ff1Ln1BwdIdeal.defs (F := Ideal)) (onTc (τ := Cert.Ff1Ln1BwdIdeal.τ) (Cert.Ff1Ln1BwdIdeal.main (F := Ideal))) ⟨m, fun _ => 0, g⟩ (fun r => ∀ c : Dev Cert.Ff1Ln1BwdIdeal.nD,
          r.2.mem ((c.tc : Thread Cert.Ff1Ln1BwdIdeal.nD Cert.Ff1Ln1BwdIdeal.τ).loc Cert.Ff1Ln1BwdIdeal.main_v4_0) = v0 c
          ∧ r.2.mem ((c.tc : Thread Cert.Ff1Ln1BwdIdeal.nD Cert.Ff1Ln1BwdIdeal.τ).loc Cert.Ff1Ln1BwdIdeal.main_v4_1) = v1 c
          ∧ r.2.mem ((c.tc : Thread Cert.Ff1Ln1BwdIdeal.nD Cert.Ff1Ln1BwdIdeal.τ).loc Cert.Ff1Ln1BwdIdeal.main_v4_2) = v2 c
          ∧ r.2.mem ((c.tc : Thread Cert.Ff1Ln1BwdIdeal.nD Cert.Ff1Ln1BwdIdeal.τ).loc Cert.Ff1Ln1BwdIdeal.main_v4_3) = v3 c
          ∧ r.2.mem ((c.tc : Thread Cert.Ff1Ln1BwdIdeal.nD Cert.Ff1Ln1BwdIdeal.τ).loc Cert.Ff1Ln1BwdIdeal.main_arg0) = m ((c.tc : Thread Cert.Ff1Ln1BwdIdeal.nD Cert.Ff1Ln1BwdIdeal.τ).loc Cert.Ff1Ln1BwdIdeal.main_arg0)
          ∧ r.2.mem ((c.tc : Thread Cert.Ff1Ln1BwdIdeal.nD Cert.Ff1Ln1BwdIdeal.τ).loc Cert.Ff1Ln1BwdIdeal.main_arg1) = m ((c.tc : Thread Cert.Ff1Ln1BwdIdeal.nD Cert.Ff1Ln1BwdIdeal.τ).loc Cert.Ff1Ln1BwdIdeal.main_arg1)
          ∧ r.2.mem ((c.tc : Thread Cert.Ff1Ln1BwdIdeal.nD Cert.Ff1Ln1BwdIdeal.τ).loc Cert.Ff1Ln1BwdIdeal.main_arg2) = m ((c.tc : Thread Cert.Ff1Ln1BwdIdeal.nD Cert.Ff1Ln1BwdIdeal.τ).loc Cert.Ff1Ln1BwdIdeal.main_arg2)
          ∧ r.2.mem ((c.tc : Thread Cert.Ff1Ln1BwdIdeal.nD Cert.Ff1Ln1BwdIdeal.τ).loc Cert.Ff1Ln1BwdIdeal.main_arg3) = m ((c.tc : Thread Cert.Ff1Ln1BwdIdeal.nD Cert.Ff1Ln1BwdIdeal.τ).loc Cert.Ff1Ln1BwdIdeal.main_arg3)
          ∧ r.2.mem ((c.tc : Thread Cert.Ff1Ln1BwdIdeal.nD Cert.Ff1Ln1BwdIdeal.τ).loc Cert.Ff1Ln1BwdIdeal.main_arg4) = m ((c.tc : Thread Cert.Ff1Ln1BwdIdeal.nD Cert.Ff1Ln1BwdIdeal.τ).loc Cert.Ff1Ln1BwdIdeal.main_arg4)
          ∧ r.2.mem ((c.tc : Thread Cert.Ff1Ln1BwdIdeal.nD Cert.Ff1Ln1BwdIdeal.τ).loc Cert.Ff1Ln1BwdIdeal.main_arg5) = m ((c.tc : Thread Cert.Ff1Ln1BwdIdeal.nD Cert.Ff1Ln1BwdIdeal.τ).loc Cert.Ff1Ln1BwdIdeal.main_arg5))
      ∧ θ_run (Cert.Ff1Ln1BwdRefIdeal.defs (F := Ideal)) (onTc (τ := Cert.Ff1Ln1BwdRefIdeal.τ) (Cert.Ff1Ln1BwdRefIdeal.main (F := Ideal))) ⟨m', fun _ => 0, g'⟩ (fun r => ∀ c : Dev Cert.Ff1Ln1BwdRefIdeal.nD,
          r.2.mem ((c.tc : Thread Cert.Ff1Ln1BwdRefIdeal.nD Cert.Ff1Ln1BwdRefIdeal.τ).loc Cert.Ff1Ln1BwdRefIdeal.main_v58) = v0 c
          ∧ r.2.mem ((c.tc : Thread Cert.Ff1Ln1BwdRefIdeal.nD Cert.Ff1Ln1BwdRefIdeal.τ).loc Cert.Ff1Ln1BwdRefIdeal.main_v59) = v1 c
          ∧ r.2.mem ((c.tc : Thread Cert.Ff1Ln1BwdRefIdeal.nD Cert.Ff1Ln1BwdRefIdeal.τ).loc Cert.Ff1Ln1BwdRefIdeal.main_v36) = v2 c
          ∧ r.2.mem ((c.tc : Thread Cert.Ff1Ln1BwdRefIdeal.nD Cert.Ff1Ln1BwdRefIdeal.τ).loc Cert.Ff1Ln1BwdRefIdeal.main_v33) = v3 c
          ∧ r.2.mem ((c.tc : Thread Cert.Ff1Ln1BwdRefIdeal.nD Cert.Ff1Ln1BwdRefIdeal.τ).loc Cert.Ff1Ln1BwdRefIdeal.main_arg0) = m' ((c.tc : Thread Cert.Ff1Ln1BwdRefIdeal.nD Cert.Ff1Ln1BwdRefIdeal.τ).loc Cert.Ff1Ln1BwdRefIdeal.main_arg0)
          ∧ r.2.mem ((c.tc : Thread Cert.Ff1Ln1BwdRefIdeal.nD Cert.Ff1Ln1BwdRefIdeal.τ).loc Cert.Ff1Ln1BwdRefIdeal.main_arg1) = m' ((c.tc : Thread Cert.Ff1Ln1BwdRefIdeal.nD Cert.Ff1Ln1BwdRefIdeal.τ).loc Cert.Ff1Ln1BwdRefIdeal.main_arg1)
          ∧ r.2.mem ((c.tc : Thread Cert.Ff1Ln1BwdRefIdeal.nD Cert.Ff1Ln1BwdRefIdeal.τ).loc Cert.Ff1Ln1BwdRefIdeal.main_arg2) = m' ((c.tc : Thread Cert.Ff1Ln1BwdRefIdeal.nD Cert.Ff1Ln1BwdRefIdeal.τ).loc Cert.Ff1Ln1BwdRefIdeal.main_arg2)
          ∧ r.2.mem ((c.tc : Thread Cert.Ff1Ln1BwdRefIdeal.nD Cert.Ff1Ln1BwdRefIdeal.τ).loc Cert.Ff1Ln1BwdRefIdeal.main_arg3) = m' ((c.tc : Thread Cert.Ff1Ln1BwdRefIdeal.nD Cert.Ff1Ln1BwdRefIdeal.τ).loc Cert.Ff1Ln1BwdRefIdeal.main_arg3)
          ∧ r.2.mem ((c.tc : Thread Cert.Ff1Ln1BwdRefIdeal.nD Cert.Ff1Ln1BwdRefIdeal.τ).loc Cert.Ff1Ln1BwdRefIdeal.main_arg4) = m' ((c.tc : Thread Cert.Ff1Ln1BwdRefIdeal.nD Cert.Ff1Ln1BwdRefIdeal.τ).loc Cert.Ff1Ln1BwdRefIdeal.main_arg4)
          ∧ r.2.mem ((c.tc : Thread Cert.Ff1Ln1BwdRefIdeal.nD Cert.Ff1Ln1BwdRefIdeal.τ).loc Cert.Ff1Ln1BwdRefIdeal.main_arg5) = m' ((c.tc : Thread Cert.Ff1Ln1BwdRefIdeal.nD Cert.Ff1Ln1BwdRefIdeal.τ).loc Cert.Ff1Ln1BwdRefIdeal.main_arg5))

def preserves_InLnInBwd_InLnInBwdIdeal : Prop :=
  True

def algebraic_InLnInBwdIdeal_InLnInBwdRefIdeal_pre_finite_in_dgrad_ln_in_bwd [hInLnInBwdIdeal : Cert.InLnInBwdIdeal.Facts] [hInLnInBwdRefIdeal : Cert.InLnInBwdRefIdeal.Facts] [hPre_finite_in_dgrad_ln_in_bwd : Cert.Pre_finite_in_dgrad_ln_in_bwd.Facts] : Prop :=
  ∀ (m : (ℓ : Loc Cert.InLnInBwdIdeal.nD Cert.InLnInBwdIdeal.τ Cert.InLnInBwdIdeal.sig) → Buf (Elt Ideal) ℓ) (g : Dev Cert.InLnInBwdIdeal.nD → PrngReg)
    (m' : (ℓ : Loc Cert.InLnInBwdRefIdeal.nD Cert.InLnInBwdRefIdeal.τ Cert.InLnInBwdRefIdeal.sig) → Buf (Elt Ideal) ℓ) (g' : Dev Cert.InLnInBwdRefIdeal.nD → PrngReg), Pre_InLnInBwdIdeal_finite_in_dgrad_ln_in_bwd m →
    (∀ c : Dev Cert.InLnInBwdIdeal.nD,
      m' ((c.tc : Thread Cert.InLnInBwdRefIdeal.nD Cert.InLnInBwdRefIdeal.τ).loc Cert.InLnInBwdRefIdeal.main_arg0) = m ((c.tc : Thread Cert.InLnInBwdIdeal.nD Cert.InLnInBwdIdeal.τ).loc Cert.InLnInBwdIdeal.main_arg0)
      ∧ m' ((c.tc : Thread Cert.InLnInBwdRefIdeal.nD Cert.InLnInBwdRefIdeal.τ).loc Cert.InLnInBwdRefIdeal.main_arg1) = m ((c.tc : Thread Cert.InLnInBwdIdeal.nD Cert.InLnInBwdIdeal.τ).loc Cert.InLnInBwdIdeal.main_arg1)
      ∧ m' ((c.tc : Thread Cert.InLnInBwdRefIdeal.nD Cert.InLnInBwdRefIdeal.τ).loc Cert.InLnInBwdRefIdeal.main_arg2) = m ((c.tc : Thread Cert.InLnInBwdIdeal.nD Cert.InLnInBwdIdeal.τ).loc Cert.InLnInBwdIdeal.main_arg2)
      ∧ m' ((c.tc : Thread Cert.InLnInBwdRefIdeal.nD Cert.InLnInBwdRefIdeal.τ).loc Cert.InLnInBwdRefIdeal.main_arg3) = m ((c.tc : Thread Cert.InLnInBwdIdeal.nD Cert.InLnInBwdIdeal.τ).loc Cert.InLnInBwdIdeal.main_arg3)
      ∧ m' ((c.tc : Thread Cert.InLnInBwdRefIdeal.nD Cert.InLnInBwdRefIdeal.τ).loc Cert.InLnInBwdRefIdeal.main_arg4) = m ((c.tc : Thread Cert.InLnInBwdIdeal.nD Cert.InLnInBwdIdeal.τ).loc Cert.InLnInBwdIdeal.main_arg4)
      ∧ m' ((c.tc : Thread Cert.InLnInBwdRefIdeal.nD Cert.InLnInBwdRefIdeal.τ).loc Cert.InLnInBwdRefIdeal.main_arg5) = m ((c.tc : Thread Cert.InLnInBwdIdeal.nD Cert.InLnInBwdIdeal.τ).loc Cert.InLnInBwdIdeal.main_arg5)) →
    ∃ (v0 : (c : Dev Cert.InLnInBwdIdeal.nD) → Buf (Elt Ideal) ((c.tc : Thread Cert.InLnInBwdIdeal.nD Cert.InLnInBwdIdeal.τ).loc Cert.InLnInBwdIdeal.main_v16_0)) (v1 : (c : Dev Cert.InLnInBwdIdeal.nD) → Buf (Elt Ideal) ((c.tc : Thread Cert.InLnInBwdIdeal.nD Cert.InLnInBwdIdeal.τ).loc Cert.InLnInBwdIdeal.main_v16_1)) (v2 : (c : Dev Cert.InLnInBwdIdeal.nD) → Buf (Elt Ideal) ((c.tc : Thread Cert.InLnInBwdIdeal.nD Cert.InLnInBwdIdeal.τ).loc Cert.InLnInBwdIdeal.main_v16_2)),
      θ_run (Cert.InLnInBwdIdeal.defs (F := Ideal)) (onTc (τ := Cert.InLnInBwdIdeal.τ) (Cert.InLnInBwdIdeal.main (F := Ideal))) ⟨m, fun _ => 0, g⟩ (fun r => ∀ c : Dev Cert.InLnInBwdIdeal.nD,
          r.2.mem ((c.tc : Thread Cert.InLnInBwdIdeal.nD Cert.InLnInBwdIdeal.τ).loc Cert.InLnInBwdIdeal.main_v16_0) = v0 c
          ∧ r.2.mem ((c.tc : Thread Cert.InLnInBwdIdeal.nD Cert.InLnInBwdIdeal.τ).loc Cert.InLnInBwdIdeal.main_v16_1) = v1 c
          ∧ r.2.mem ((c.tc : Thread Cert.InLnInBwdIdeal.nD Cert.InLnInBwdIdeal.τ).loc Cert.InLnInBwdIdeal.main_v16_2) = v2 c
          ∧ r.2.mem ((c.tc : Thread Cert.InLnInBwdIdeal.nD Cert.InLnInBwdIdeal.τ).loc Cert.InLnInBwdIdeal.main_arg0) = m ((c.tc : Thread Cert.InLnInBwdIdeal.nD Cert.InLnInBwdIdeal.τ).loc Cert.InLnInBwdIdeal.main_arg0)
          ∧ r.2.mem ((c.tc : Thread Cert.InLnInBwdIdeal.nD Cert.InLnInBwdIdeal.τ).loc Cert.InLnInBwdIdeal.main_arg1) = m ((c.tc : Thread Cert.InLnInBwdIdeal.nD Cert.InLnInBwdIdeal.τ).loc Cert.InLnInBwdIdeal.main_arg1)
          ∧ r.2.mem ((c.tc : Thread Cert.InLnInBwdIdeal.nD Cert.InLnInBwdIdeal.τ).loc Cert.InLnInBwdIdeal.main_arg2) = m ((c.tc : Thread Cert.InLnInBwdIdeal.nD Cert.InLnInBwdIdeal.τ).loc Cert.InLnInBwdIdeal.main_arg2)
          ∧ r.2.mem ((c.tc : Thread Cert.InLnInBwdIdeal.nD Cert.InLnInBwdIdeal.τ).loc Cert.InLnInBwdIdeal.main_arg3) = m ((c.tc : Thread Cert.InLnInBwdIdeal.nD Cert.InLnInBwdIdeal.τ).loc Cert.InLnInBwdIdeal.main_arg3)
          ∧ r.2.mem ((c.tc : Thread Cert.InLnInBwdIdeal.nD Cert.InLnInBwdIdeal.τ).loc Cert.InLnInBwdIdeal.main_arg4) = m ((c.tc : Thread Cert.InLnInBwdIdeal.nD Cert.InLnInBwdIdeal.τ).loc Cert.InLnInBwdIdeal.main_arg4)
          ∧ r.2.mem ((c.tc : Thread Cert.InLnInBwdIdeal.nD Cert.InLnInBwdIdeal.τ).loc Cert.InLnInBwdIdeal.main_arg5) = m ((c.tc : Thread Cert.InLnInBwdIdeal.nD Cert.InLnInBwdIdeal.τ).loc Cert.InLnInBwdIdeal.main_arg5))
      ∧ θ_run (Cert.InLnInBwdRefIdeal.defs (F := Ideal)) (onTc (τ := Cert.InLnInBwdRefIdeal.τ) (Cert.InLnInBwdRefIdeal.main (F := Ideal))) ⟨m', fun _ => 0, g'⟩ (fun r => ∀ c : Dev Cert.InLnInBwdRefIdeal.nD,
          r.2.mem ((c.tc : Thread Cert.InLnInBwdRefIdeal.nD Cert.InLnInBwdRefIdeal.τ).loc Cert.InLnInBwdRefIdeal.main_v58) = v0 c
          ∧ r.2.mem ((c.tc : Thread Cert.InLnInBwdRefIdeal.nD Cert.InLnInBwdRefIdeal.τ).loc Cert.InLnInBwdRefIdeal.main_v36) = v1 c
          ∧ r.2.mem ((c.tc : Thread Cert.InLnInBwdRefIdeal.nD Cert.InLnInBwdRefIdeal.τ).loc Cert.InLnInBwdRefIdeal.main_v33) = v2 c
          ∧ r.2.mem ((c.tc : Thread Cert.InLnInBwdRefIdeal.nD Cert.InLnInBwdRefIdeal.τ).loc Cert.InLnInBwdRefIdeal.main_arg0) = m' ((c.tc : Thread Cert.InLnInBwdRefIdeal.nD Cert.InLnInBwdRefIdeal.τ).loc Cert.InLnInBwdRefIdeal.main_arg0)
          ∧ r.2.mem ((c.tc : Thread Cert.InLnInBwdRefIdeal.nD Cert.InLnInBwdRefIdeal.τ).loc Cert.InLnInBwdRefIdeal.main_arg1) = m' ((c.tc : Thread Cert.InLnInBwdRefIdeal.nD Cert.InLnInBwdRefIdeal.τ).loc Cert.InLnInBwdRefIdeal.main_arg1)
          ∧ r.2.mem ((c.tc : Thread Cert.InLnInBwdRefIdeal.nD Cert.InLnInBwdRefIdeal.τ).loc Cert.InLnInBwdRefIdeal.main_arg2) = m' ((c.tc : Thread Cert.InLnInBwdRefIdeal.nD Cert.InLnInBwdRefIdeal.τ).loc Cert.InLnInBwdRefIdeal.main_arg2)
          ∧ r.2.mem ((c.tc : Thread Cert.InLnInBwdRefIdeal.nD Cert.InLnInBwdRefIdeal.τ).loc Cert.InLnInBwdRefIdeal.main_arg3) = m' ((c.tc : Thread Cert.InLnInBwdRefIdeal.nD Cert.InLnInBwdRefIdeal.τ).loc Cert.InLnInBwdRefIdeal.main_arg3)
          ∧ r.2.mem ((c.tc : Thread Cert.InLnInBwdRefIdeal.nD Cert.InLnInBwdRefIdeal.τ).loc Cert.InLnInBwdRefIdeal.main_arg4) = m' ((c.tc : Thread Cert.InLnInBwdRefIdeal.nD Cert.InLnInBwdRefIdeal.τ).loc Cert.InLnInBwdRefIdeal.main_arg4)
          ∧ r.2.mem ((c.tc : Thread Cert.InLnInBwdRefIdeal.nD Cert.InLnInBwdRefIdeal.τ).loc Cert.InLnInBwdRefIdeal.main_arg5) = m' ((c.tc : Thread Cert.InLnInBwdRefIdeal.nD Cert.InLnInBwdRefIdeal.τ).loc Cert.InLnInBwdRefIdeal.main_arg5))

def preserves_ConvBwd_ConvBwdIdeal : Prop :=
  True

def algebraic_ConvBwdIdeal_ConvBwdRefIdeal [hConvBwdIdeal : Cert.ConvBwdIdeal.Facts] [hConvBwdRefIdeal : Cert.ConvBwdRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)) →
    ∃ (v0 : (c : Dev Cert.ConvBwdIdeal.nD) → Buf (Elt Ideal) ((c.tc : Thread Cert.ConvBwdIdeal.nD Cert.ConvBwdIdeal.τ).loc Cert.ConvBwdIdeal.main_v1_0)) (v1 : (c : Dev Cert.ConvBwdIdeal.nD) → Buf (Elt Ideal) ((c.tc : Thread Cert.ConvBwdIdeal.nD Cert.ConvBwdIdeal.τ).loc Cert.ConvBwdIdeal.main_v1_1)) (v2 : (c : Dev Cert.ConvBwdIdeal.nD) → Buf (Elt Ideal) ((c.tc : Thread Cert.ConvBwdIdeal.nD Cert.ConvBwdIdeal.τ).loc Cert.ConvBwdIdeal.main_v1_2)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v1_0) = v0 c
          ∧ r.2.mem ((c.tc : Thread Cert.ConvBwdIdeal.nD Cert.ConvBwdIdeal.τ).loc Cert.ConvBwdIdeal.main_v1_1) = v1 c
          ∧ r.2.mem ((c.tc : Thread Cert.ConvBwdIdeal.nD Cert.ConvBwdIdeal.τ).loc Cert.ConvBwdIdeal.main_v1_2) = v2 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v568) = v0 c
          ∧ r.2.mem ((c.tc : Thread Cert.ConvBwdRefIdeal.nD Cert.ConvBwdRefIdeal.τ).loc Cert.ConvBwdRefIdeal.main_v571) = v1 c
          ∧ r.2.mem ((c.tc : Thread Cert.ConvBwdRefIdeal.nD Cert.ConvBwdRefIdeal.τ).loc Cert.ConvBwdRefIdeal.main_v227) = v2 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2))

def preserves_LnInFwd_LnInFwdIdeal : Prop :=
  True

def algebraic_LnInFwdIdeal_LnInFwdRefIdeal [hLnInFwdIdeal : Cert.LnInFwdIdeal.Facts] [hLnInFwdRefIdeal : Cert.LnInFwdRefIdeal.Facts] : Prop :=
  ∀ (m : (ℓ : Loc Cert.LnInFwdIdeal.nD Cert.LnInFwdIdeal.τ Cert.LnInFwdIdeal.sig) → Buf (Elt Ideal) ℓ) (g : Dev Cert.LnInFwdIdeal.nD → PrngReg)
    (m' : (ℓ : Loc Cert.LnInFwdRefIdeal.nD Cert.LnInFwdRefIdeal.τ Cert.LnInFwdRefIdeal.sig) → Buf (Elt Ideal) ℓ) (g' : Dev Cert.LnInFwdRefIdeal.nD → PrngReg), Pre_LnInFwdIdeal m →
    (∀ c : Dev Cert.LnInFwdIdeal.nD,
      m' ((c.tc : Thread Cert.LnInFwdRefIdeal.nD Cert.LnInFwdRefIdeal.τ).loc Cert.LnInFwdRefIdeal.main_arg0) = m ((c.tc : Thread Cert.LnInFwdIdeal.nD Cert.LnInFwdIdeal.τ).loc Cert.LnInFwdIdeal.main_arg0)
      ∧ m' ((c.tc : Thread Cert.LnInFwdRefIdeal.nD Cert.LnInFwdRefIdeal.τ).loc Cert.LnInFwdRefIdeal.main_arg1) = m ((c.tc : Thread Cert.LnInFwdIdeal.nD Cert.LnInFwdIdeal.τ).loc Cert.LnInFwdIdeal.main_arg1)
      ∧ m' ((c.tc : Thread Cert.LnInFwdRefIdeal.nD Cert.LnInFwdRefIdeal.τ).loc Cert.LnInFwdRefIdeal.main_arg2) = m ((c.tc : Thread Cert.LnInFwdIdeal.nD Cert.LnInFwdIdeal.τ).loc Cert.LnInFwdIdeal.main_arg2)) →
    ∃ (v0 : (c : Dev Cert.LnInFwdIdeal.nD) → Buf (Elt Ideal) ((c.tc : Thread Cert.LnInFwdIdeal.nD Cert.LnInFwdIdeal.τ).loc Cert.LnInFwdIdeal.main_v0_0)) (v1 : (c : Dev Cert.LnInFwdIdeal.nD) → Buf (Elt Ideal) ((c.tc : Thread Cert.LnInFwdIdeal.nD Cert.LnInFwdIdeal.τ).loc Cert.LnInFwdIdeal.main_v0_1)),
      θ_run (Cert.LnInFwdIdeal.defs (F := Ideal)) (onTc (τ := Cert.LnInFwdIdeal.τ) (Cert.LnInFwdIdeal.main (F := Ideal))) ⟨m, fun _ => 0, g⟩ (fun r => ∀ c : Dev Cert.LnInFwdIdeal.nD,
          r.2.mem ((c.tc : Thread Cert.LnInFwdIdeal.nD Cert.LnInFwdIdeal.τ).loc Cert.LnInFwdIdeal.main_v0_0) = v0 c
          ∧ r.2.mem ((c.tc : Thread Cert.LnInFwdIdeal.nD Cert.LnInFwdIdeal.τ).loc Cert.LnInFwdIdeal.main_v0_1) = v1 c
          ∧ r.2.mem ((c.tc : Thread Cert.LnInFwdIdeal.nD Cert.LnInFwdIdeal.τ).loc Cert.LnInFwdIdeal.main_arg0) = m ((c.tc : Thread Cert.LnInFwdIdeal.nD Cert.LnInFwdIdeal.τ).loc Cert.LnInFwdIdeal.main_arg0)
          ∧ r.2.mem ((c.tc : Thread Cert.LnInFwdIdeal.nD Cert.LnInFwdIdeal.τ).loc Cert.LnInFwdIdeal.main_arg1) = m ((c.tc : Thread Cert.LnInFwdIdeal.nD Cert.LnInFwdIdeal.τ).loc Cert.LnInFwdIdeal.main_arg1)
          ∧ r.2.mem ((c.tc : Thread Cert.LnInFwdIdeal.nD Cert.LnInFwdIdeal.τ).loc Cert.LnInFwdIdeal.main_arg2) = m ((c.tc : Thread Cert.LnInFwdIdeal.nD Cert.LnInFwdIdeal.τ).loc Cert.LnInFwdIdeal.main_arg2))
      ∧ θ_run (Cert.LnInFwdRefIdeal.defs (F := Ideal)) (onTc (τ := Cert.LnInFwdRefIdeal.τ) (Cert.LnInFwdRefIdeal.main (F := Ideal))) ⟨m', fun _ => 0, g'⟩ (fun r => ∀ c : Dev Cert.LnInFwdRefIdeal.nD,
          r.2.mem ((c.tc : Thread Cert.LnInFwdRefIdeal.nD Cert.LnInFwdRefIdeal.τ).loc Cert.LnInFwdRefIdeal.main_v19) = v0 c
          ∧ r.2.mem ((c.tc : Thread Cert.LnInFwdRefIdeal.nD Cert.LnInFwdRefIdeal.τ).loc Cert.LnInFwdRefIdeal.main_v20) = v1 c
          ∧ r.2.mem ((c.tc : Thread Cert.LnInFwdRefIdeal.nD Cert.LnInFwdRefIdeal.τ).loc Cert.LnInFwdRefIdeal.main_arg0) = m' ((c.tc : Thread Cert.LnInFwdRefIdeal.nD Cert.LnInFwdRefIdeal.τ).loc Cert.LnInFwdRefIdeal.main_arg0)
          ∧ r.2.mem ((c.tc : Thread Cert.LnInFwdRefIdeal.nD Cert.LnInFwdRefIdeal.τ).loc Cert.LnInFwdRefIdeal.main_arg1) = m' ((c.tc : Thread Cert.LnInFwdRefIdeal.nD Cert.LnInFwdRefIdeal.τ).loc Cert.LnInFwdRefIdeal.main_arg1)
          ∧ r.2.mem ((c.tc : Thread Cert.LnInFwdRefIdeal.nD Cert.LnInFwdRefIdeal.τ).loc Cert.LnInFwdRefIdeal.main_arg2) = m' ((c.tc : Thread Cert.LnInFwdRefIdeal.nD Cert.LnInFwdRefIdeal.τ).loc Cert.LnInFwdRefIdeal.main_arg2))

def preserves_Ff1Relu2_Ff1Relu2Ideal : Prop :=
  True

def algebraic_Ff1Relu2Ideal_Ff1Relu2RefIdeal [hFf1Relu2Ideal : Cert.Ff1Relu2Ideal.Facts] [hFf1Relu2RefIdeal : Cert.Ff1Relu2RefIdeal.Facts] : Prop :=
  ∀ (m : (ℓ : Loc Cert.Ff1Relu2Ideal.nD Cert.Ff1Relu2Ideal.τ Cert.Ff1Relu2Ideal.sig) → Buf (Elt Ideal) ℓ) (g : Dev Cert.Ff1Relu2Ideal.nD → PrngReg)
    (m' : (ℓ : Loc Cert.Ff1Relu2RefIdeal.nD Cert.Ff1Relu2RefIdeal.τ Cert.Ff1Relu2RefIdeal.sig) → Buf (Elt Ideal) ℓ) (g' : Dev Cert.Ff1Relu2RefIdeal.nD → PrngReg), Pre_Ff1Relu2Ideal m →
    (∀ c : Dev Cert.Ff1Relu2Ideal.nD,
      m' ((c.tc : Thread Cert.Ff1Relu2RefIdeal.nD Cert.Ff1Relu2RefIdeal.τ).loc Cert.Ff1Relu2RefIdeal.main_arg0) = m ((c.tc : Thread Cert.Ff1Relu2Ideal.nD Cert.Ff1Relu2Ideal.τ).loc Cert.Ff1Relu2Ideal.main_arg0)
      ∧ m' ((c.tc : Thread Cert.Ff1Relu2RefIdeal.nD Cert.Ff1Relu2RefIdeal.τ).loc Cert.Ff1Relu2RefIdeal.main_arg1) = m ((c.tc : Thread Cert.Ff1Relu2Ideal.nD Cert.Ff1Relu2Ideal.τ).loc Cert.Ff1Relu2Ideal.main_arg1)) →
    ∃ (v0 : (c : Dev Cert.Ff1Relu2Ideal.nD) → Buf (Elt Ideal) ((c.tc : Thread Cert.Ff1Relu2Ideal.nD Cert.Ff1Relu2Ideal.τ).loc Cert.Ff1Relu2Ideal.main_v4_0)) (v1 : (c : Dev Cert.Ff1Relu2Ideal.nD) → Buf (Elt Ideal) ((c.tc : Thread Cert.Ff1Relu2Ideal.nD Cert.Ff1Relu2Ideal.τ).loc Cert.Ff1Relu2Ideal.main_v4_1)),
      θ_run (Cert.Ff1Relu2Ideal.defs (F := Ideal)) (onTc (τ := Cert.Ff1Relu2Ideal.τ) (Cert.Ff1Relu2Ideal.main (F := Ideal))) ⟨m, fun _ => 0, g⟩ (fun r => ∀ c : Dev Cert.Ff1Relu2Ideal.nD,
          r.2.mem ((c.tc : Thread Cert.Ff1Relu2Ideal.nD Cert.Ff1Relu2Ideal.τ).loc Cert.Ff1Relu2Ideal.main_v4_0) = v0 c
          ∧ r.2.mem ((c.tc : Thread Cert.Ff1Relu2Ideal.nD Cert.Ff1Relu2Ideal.τ).loc Cert.Ff1Relu2Ideal.main_v4_1) = v1 c
          ∧ r.2.mem ((c.tc : Thread Cert.Ff1Relu2Ideal.nD Cert.Ff1Relu2Ideal.τ).loc Cert.Ff1Relu2Ideal.main_arg0) = m ((c.tc : Thread Cert.Ff1Relu2Ideal.nD Cert.Ff1Relu2Ideal.τ).loc Cert.Ff1Relu2Ideal.main_arg0)
          ∧ r.2.mem ((c.tc : Thread Cert.Ff1Relu2Ideal.nD Cert.Ff1Relu2Ideal.τ).loc Cert.Ff1Relu2Ideal.main_arg1) = m ((c.tc : Thread Cert.Ff1Relu2Ideal.nD Cert.Ff1Relu2Ideal.τ).loc Cert.Ff1Relu2Ideal.main_arg1))
      ∧ θ_run (Cert.Ff1Relu2RefIdeal.defs (F := Ideal)) (onTc (τ := Cert.Ff1Relu2RefIdeal.τ) (Cert.Ff1Relu2RefIdeal.main (F := Ideal))) ⟨m', fun _ => 0, g'⟩ (fun r => ∀ c : Dev Cert.Ff1Relu2RefIdeal.nD,
          r.2.mem ((c.tc : Thread Cert.Ff1Relu2RefIdeal.nD Cert.Ff1Relu2RefIdeal.τ).loc Cert.Ff1Relu2RefIdeal.main_v3) = v0 c
          ∧ r.2.mem ((c.tc : Thread Cert.Ff1Relu2RefIdeal.nD Cert.Ff1Relu2RefIdeal.τ).loc Cert.Ff1Relu2RefIdeal.main_v4) = v1 c
          ∧ r.2.mem ((c.tc : Thread Cert.Ff1Relu2RefIdeal.nD Cert.Ff1Relu2RefIdeal.τ).loc Cert.Ff1Relu2RefIdeal.main_arg0) = m' ((c.tc : Thread Cert.Ff1Relu2RefIdeal.nD Cert.Ff1Relu2RefIdeal.τ).loc Cert.Ff1Relu2RefIdeal.main_arg0)
          ∧ r.2.mem ((c.tc : Thread Cert.Ff1Relu2RefIdeal.nD Cert.Ff1Relu2RefIdeal.τ).loc Cert.Ff1Relu2RefIdeal.main_arg1) = m' ((c.tc : Thread Cert.Ff1Relu2RefIdeal.nD Cert.Ff1Relu2RefIdeal.τ).loc Cert.Ff1Relu2RefIdeal.main_arg1))

def preserves_RopeTables_RopeTablesIdeal : Prop :=
  True

def algebraic_RopeTablesIdeal_RopeTablesRefIdeal [hRopeTablesIdeal : Cert.RopeTablesIdeal.Facts] [hRopeTablesRefIdeal : Cert.RopeTablesRefIdeal.Facts] : Prop :=
  ∀ (m : (ℓ : Loc Cert.RopeTablesIdeal.nD Cert.RopeTablesIdeal.τ Cert.RopeTablesIdeal.sig) → Buf (Elt Ideal) ℓ) (g : Dev Cert.RopeTablesIdeal.nD → PrngReg)
    (m' : (ℓ : Loc Cert.RopeTablesRefIdeal.nD Cert.RopeTablesRefIdeal.τ Cert.RopeTablesRefIdeal.sig) → Buf (Elt Ideal) ℓ) (g' : Dev Cert.RopeTablesRefIdeal.nD → PrngReg), Pre_RopeTablesIdeal m →
    (∀ c : Dev Cert.RopeTablesIdeal.nD,
      m' ((c.tc : Thread Cert.RopeTablesRefIdeal.nD Cert.RopeTablesRefIdeal.τ).loc Cert.RopeTablesRefIdeal.main_arg0) = m ((c.tc : Thread Cert.RopeTablesIdeal.nD Cert.RopeTablesIdeal.τ).loc Cert.RopeTablesIdeal.main_arg0)) →
    ∃ (v0 : (c : Dev Cert.RopeTablesIdeal.nD) → Buf (Elt Ideal) ((c.tc : Thread Cert.RopeTablesIdeal.nD Cert.RopeTablesIdeal.τ).loc Cert.RopeTablesIdeal.main_v11_0)) (v1 : (c : Dev Cert.RopeTablesIdeal.nD) → Buf (Elt Ideal) ((c.tc : Thread Cert.RopeTablesIdeal.nD Cert.RopeTablesIdeal.τ).loc Cert.RopeTablesIdeal.main_v11_1)) (v2 : (c : Dev Cert.RopeTablesIdeal.nD) → Buf (Elt Ideal) ((c.tc : Thread Cert.RopeTablesIdeal.nD Cert.RopeTablesIdeal.τ).loc Cert.RopeTablesIdeal.main_v11_2)),
      θ_run (Cert.RopeTablesIdeal.defs (F := Ideal)) (onTc (τ := Cert.RopeTablesIdeal.τ) (Cert.RopeTablesIdeal.main (F := Ideal))) ⟨m, fun _ => 0, g⟩ (fun r => ∀ c : Dev Cert.RopeTablesIdeal.nD,
          r.2.mem ((c.tc : Thread Cert.RopeTablesIdeal.nD Cert.RopeTablesIdeal.τ).loc Cert.RopeTablesIdeal.main_v11_0) = v0 c
          ∧ r.2.mem ((c.tc : Thread Cert.RopeTablesIdeal.nD Cert.RopeTablesIdeal.τ).loc Cert.RopeTablesIdeal.main_v11_1) = v1 c
          ∧ r.2.mem ((c.tc : Thread Cert.RopeTablesIdeal.nD Cert.RopeTablesIdeal.τ).loc Cert.RopeTablesIdeal.main_v11_2) = v2 c
          ∧ r.2.mem ((c.tc : Thread Cert.RopeTablesIdeal.nD Cert.RopeTablesIdeal.τ).loc Cert.RopeTablesIdeal.main_arg0) = m ((c.tc : Thread Cert.RopeTablesIdeal.nD Cert.RopeTablesIdeal.τ).loc Cert.RopeTablesIdeal.main_arg0))
      ∧ θ_run (Cert.RopeTablesRefIdeal.defs (F := Ideal)) (onTc (τ := Cert.RopeTablesRefIdeal.τ) (Cert.RopeTablesRefIdeal.main (F := Ideal))) ⟨m', fun _ => 0, g'⟩ (fun r => ∀ c : Dev Cert.RopeTablesRefIdeal.nD,
          r.2.mem ((c.tc : Thread Cert.RopeTablesRefIdeal.nD Cert.RopeTablesRefIdeal.τ).loc Cert.RopeTablesRefIdeal.main_v15) = v0 c
          ∧ r.2.mem ((c.tc : Thread Cert.RopeTablesRefIdeal.nD Cert.RopeTablesRefIdeal.τ).loc Cert.RopeTablesRefIdeal.main_v17) = v1 c
          ∧ r.2.mem ((c.tc : Thread Cert.RopeTablesRefIdeal.nD Cert.RopeTablesRefIdeal.τ).loc Cert.RopeTablesRefIdeal.main_v18) = v2 c
          ∧ r.2.mem ((c.tc : Thread Cert.RopeTablesRefIdeal.nD Cert.RopeTablesRefIdeal.τ).loc Cert.RopeTablesRefIdeal.main_arg0) = m' ((c.tc : Thread Cert.RopeTablesRefIdeal.nD Cert.RopeTablesRefIdeal.τ).loc Cert.RopeTablesRefIdeal.main_arg0))

def preserves_ConvLnSilu_ConvLnSiluIdeal : Prop :=
  True

def algebraic_ConvLnSiluIdeal_ConvLnSiluRefIdeal [hConvLnSiluIdeal : Cert.ConvLnSiluIdeal.Facts] [hConvLnSiluRefIdeal : Cert.ConvLnSiluRefIdeal.Facts] : Prop :=
  ∀ (m : (ℓ : Loc Cert.ConvLnSiluIdeal.nD Cert.ConvLnSiluIdeal.τ Cert.ConvLnSiluIdeal.sig) → Buf (Elt Ideal) ℓ) (g : Dev Cert.ConvLnSiluIdeal.nD → PrngReg)
    (m' : (ℓ : Loc Cert.ConvLnSiluRefIdeal.nD Cert.ConvLnSiluRefIdeal.τ Cert.ConvLnSiluRefIdeal.sig) → Buf (Elt Ideal) ℓ) (g' : Dev Cert.ConvLnSiluRefIdeal.nD → PrngReg), Pre_ConvLnSiluIdeal m →
    (∀ c : Dev Cert.ConvLnSiluIdeal.nD,
      m' ((c.tc : Thread Cert.ConvLnSiluRefIdeal.nD Cert.ConvLnSiluRefIdeal.τ).loc Cert.ConvLnSiluRefIdeal.main_arg0) = m ((c.tc : Thread Cert.ConvLnSiluIdeal.nD Cert.ConvLnSiluIdeal.τ).loc Cert.ConvLnSiluIdeal.main_arg0)
      ∧ m' ((c.tc : Thread Cert.ConvLnSiluRefIdeal.nD Cert.ConvLnSiluRefIdeal.τ).loc Cert.ConvLnSiluRefIdeal.main_arg1) = m ((c.tc : Thread Cert.ConvLnSiluIdeal.nD Cert.ConvLnSiluIdeal.τ).loc Cert.ConvLnSiluIdeal.main_arg1)
      ∧ m' ((c.tc : Thread Cert.ConvLnSiluRefIdeal.nD Cert.ConvLnSiluRefIdeal.τ).loc Cert.ConvLnSiluRefIdeal.main_arg2) = m ((c.tc : Thread Cert.ConvLnSiluIdeal.nD Cert.ConvLnSiluIdeal.τ).loc Cert.ConvLnSiluIdeal.main_arg2)
      ∧ m' ((c.tc : Thread Cert.ConvLnSiluRefIdeal.nD Cert.ConvLnSiluRefIdeal.τ).loc Cert.ConvLnSiluRefIdeal.main_arg3) = m ((c.tc : Thread Cert.ConvLnSiluIdeal.nD Cert.ConvLnSiluIdeal.τ).loc Cert.ConvLnSiluIdeal.main_arg3)) →
    ∃ (v0 : (c : Dev Cert.ConvLnSiluIdeal.nD) → Buf (Elt Ideal) ((c.tc : Thread Cert.ConvLnSiluIdeal.nD Cert.ConvLnSiluIdeal.τ).loc Cert.ConvLnSiluIdeal.main_v0)),
      θ_run (Cert.ConvLnSiluIdeal.defs (F := Ideal)) (onTc (τ := Cert.ConvLnSiluIdeal.τ) (Cert.ConvLnSiluIdeal.main (F := Ideal))) ⟨m, fun _ => 0, g⟩ (fun r => ∀ c : Dev Cert.ConvLnSiluIdeal.nD,
          r.2.mem ((c.tc : Thread Cert.ConvLnSiluIdeal.nD Cert.ConvLnSiluIdeal.τ).loc Cert.ConvLnSiluIdeal.main_v0) = v0 c
          ∧ r.2.mem ((c.tc : Thread Cert.ConvLnSiluIdeal.nD Cert.ConvLnSiluIdeal.τ).loc Cert.ConvLnSiluIdeal.main_arg0) = m ((c.tc : Thread Cert.ConvLnSiluIdeal.nD Cert.ConvLnSiluIdeal.τ).loc Cert.ConvLnSiluIdeal.main_arg0)
          ∧ r.2.mem ((c.tc : Thread Cert.ConvLnSiluIdeal.nD Cert.ConvLnSiluIdeal.τ).loc Cert.ConvLnSiluIdeal.main_arg1) = m ((c.tc : Thread Cert.ConvLnSiluIdeal.nD Cert.ConvLnSiluIdeal.τ).loc Cert.ConvLnSiluIdeal.main_arg1)
          ∧ r.2.mem ((c.tc : Thread Cert.ConvLnSiluIdeal.nD Cert.ConvLnSiluIdeal.τ).loc Cert.ConvLnSiluIdeal.main_arg2) = m ((c.tc : Thread Cert.ConvLnSiluIdeal.nD Cert.ConvLnSiluIdeal.τ).loc Cert.ConvLnSiluIdeal.main_arg2)
          ∧ r.2.mem ((c.tc : Thread Cert.ConvLnSiluIdeal.nD Cert.ConvLnSiluIdeal.τ).loc Cert.ConvLnSiluIdeal.main_arg3) = m ((c.tc : Thread Cert.ConvLnSiluIdeal.nD Cert.ConvLnSiluIdeal.τ).loc Cert.ConvLnSiluIdeal.main_arg3))
      ∧ θ_run (Cert.ConvLnSiluRefIdeal.defs (F := Ideal)) (onTc (τ := Cert.ConvLnSiluRefIdeal.τ) (Cert.ConvLnSiluRefIdeal.main (F := Ideal))) ⟨m', fun _ => 0, g'⟩ (fun r => ∀ c : Dev Cert.ConvLnSiluRefIdeal.nD,
          r.2.mem ((c.tc : Thread Cert.ConvLnSiluRefIdeal.nD Cert.ConvLnSiluRefIdeal.τ).loc Cert.ConvLnSiluRefIdeal.main_v23) = v0 c
          ∧ r.2.mem ((c.tc : Thread Cert.ConvLnSiluRefIdeal.nD Cert.ConvLnSiluRefIdeal.τ).loc Cert.ConvLnSiluRefIdeal.main_arg0) = m' ((c.tc : Thread Cert.ConvLnSiluRefIdeal.nD Cert.ConvLnSiluRefIdeal.τ).loc Cert.ConvLnSiluRefIdeal.main_arg0)
          ∧ r.2.mem ((c.tc : Thread Cert.ConvLnSiluRefIdeal.nD Cert.ConvLnSiluRefIdeal.τ).loc Cert.ConvLnSiluRefIdeal.main_arg1) = m' ((c.tc : Thread Cert.ConvLnSiluRefIdeal.nD Cert.ConvLnSiluRefIdeal.τ).loc Cert.ConvLnSiluRefIdeal.main_arg1)
          ∧ r.2.mem ((c.tc : Thread Cert.ConvLnSiluRefIdeal.nD Cert.ConvLnSiluRefIdeal.τ).loc Cert.ConvLnSiluRefIdeal.main_arg2) = m' ((c.tc : Thread Cert.ConvLnSiluRefIdeal.nD Cert.ConvLnSiluRefIdeal.τ).loc Cert.ConvLnSiluRefIdeal.main_arg2)
          ∧ r.2.mem ((c.tc : Thread Cert.ConvLnSiluRefIdeal.nD Cert.ConvLnSiluRefIdeal.τ).loc Cert.ConvLnSiluRefIdeal.main_arg3) = m' ((c.tc : Thread Cert.ConvLnSiluRefIdeal.nD Cert.ConvLnSiluRefIdeal.τ).loc Cert.ConvLnSiluRefIdeal.main_arg3))

def preserves_MixLn1_MixLn1Ideal : Prop :=
  True

def algebraic_MixLn1Ideal_MixLn1RefIdeal [hMixLn1Ideal : Cert.MixLn1Ideal.Facts] [hMixLn1RefIdeal : Cert.MixLn1RefIdeal.Facts] : Prop :=
  ∀ (m : (ℓ : Loc Cert.MixLn1Ideal.nD Cert.MixLn1Ideal.τ Cert.MixLn1Ideal.sig) → Buf (Elt Ideal) ℓ) (g : Dev Cert.MixLn1Ideal.nD → PrngReg)
    (m' : (ℓ : Loc Cert.MixLn1RefIdeal.nD Cert.MixLn1RefIdeal.τ Cert.MixLn1RefIdeal.sig) → Buf (Elt Ideal) ℓ) (g' : Dev Cert.MixLn1RefIdeal.nD → PrngReg), Pre_MixLn1Ideal m →
    (∀ c : Dev Cert.MixLn1Ideal.nD,
      m' ((c.tc : Thread Cert.MixLn1RefIdeal.nD Cert.MixLn1RefIdeal.τ).loc Cert.MixLn1RefIdeal.main_arg0) = m ((c.tc : Thread Cert.MixLn1Ideal.nD Cert.MixLn1Ideal.τ).loc Cert.MixLn1Ideal.main_arg0)
      ∧ m' ((c.tc : Thread Cert.MixLn1RefIdeal.nD Cert.MixLn1RefIdeal.τ).loc Cert.MixLn1RefIdeal.main_arg1) = m ((c.tc : Thread Cert.MixLn1Ideal.nD Cert.MixLn1Ideal.τ).loc Cert.MixLn1Ideal.main_arg1)
      ∧ m' ((c.tc : Thread Cert.MixLn1RefIdeal.nD Cert.MixLn1RefIdeal.τ).loc Cert.MixLn1RefIdeal.main_arg2) = m ((c.tc : Thread Cert.MixLn1Ideal.nD Cert.MixLn1Ideal.τ).loc Cert.MixLn1Ideal.main_arg2)
      ∧ m' ((c.tc : Thread Cert.MixLn1RefIdeal.nD Cert.MixLn1RefIdeal.τ).loc Cert.MixLn1RefIdeal.main_arg3) = m ((c.tc : Thread Cert.MixLn1Ideal.nD Cert.MixLn1Ideal.τ).loc Cert.MixLn1Ideal.main_arg3)
      ∧ m' ((c.tc : Thread Cert.MixLn1RefIdeal.nD Cert.MixLn1RefIdeal.τ).loc Cert.MixLn1RefIdeal.main_arg4) = m ((c.tc : Thread Cert.MixLn1Ideal.nD Cert.MixLn1Ideal.τ).loc Cert.MixLn1Ideal.main_arg4)) →
    ∃ (v0 : (c : Dev Cert.MixLn1Ideal.nD) → Buf (Elt Ideal) ((c.tc : Thread Cert.MixLn1Ideal.nD Cert.MixLn1Ideal.τ).loc Cert.MixLn1Ideal.main_v1_0)) (v1 : (c : Dev Cert.MixLn1Ideal.nD) → Buf (Elt Ideal) ((c.tc : Thread Cert.MixLn1Ideal.nD Cert.MixLn1Ideal.τ).loc Cert.MixLn1Ideal.main_v1_1)) (v2 : (c : Dev Cert.MixLn1Ideal.nD) → Buf (Elt Ideal) ((c.tc : Thread Cert.MixLn1Ideal.nD Cert.MixLn1Ideal.τ).loc Cert.MixLn1Ideal.main_v1_2)),
      θ_run (Cert.MixLn1Ideal.defs (F := Ideal)) (onTc (τ := Cert.MixLn1Ideal.τ) (Cert.MixLn1Ideal.main (F := Ideal))) ⟨m, fun _ => 0, g⟩ (fun r => ∀ c : Dev Cert.MixLn1Ideal.nD,
          r.2.mem ((c.tc : Thread Cert.MixLn1Ideal.nD Cert.MixLn1Ideal.τ).loc Cert.MixLn1Ideal.main_v1_0) = v0 c
          ∧ r.2.mem ((c.tc : Thread Cert.MixLn1Ideal.nD Cert.MixLn1Ideal.τ).loc Cert.MixLn1Ideal.main_v1_1) = v1 c
          ∧ r.2.mem ((c.tc : Thread Cert.MixLn1Ideal.nD Cert.MixLn1Ideal.τ).loc Cert.MixLn1Ideal.main_v1_2) = v2 c
          ∧ r.2.mem ((c.tc : Thread Cert.MixLn1Ideal.nD Cert.MixLn1Ideal.τ).loc Cert.MixLn1Ideal.main_arg0) = m ((c.tc : Thread Cert.MixLn1Ideal.nD Cert.MixLn1Ideal.τ).loc Cert.MixLn1Ideal.main_arg0)
          ∧ r.2.mem ((c.tc : Thread Cert.MixLn1Ideal.nD Cert.MixLn1Ideal.τ).loc Cert.MixLn1Ideal.main_arg1) = m ((c.tc : Thread Cert.MixLn1Ideal.nD Cert.MixLn1Ideal.τ).loc Cert.MixLn1Ideal.main_arg1)
          ∧ r.2.mem ((c.tc : Thread Cert.MixLn1Ideal.nD Cert.MixLn1Ideal.τ).loc Cert.MixLn1Ideal.main_arg2) = m ((c.tc : Thread Cert.MixLn1Ideal.nD Cert.MixLn1Ideal.τ).loc Cert.MixLn1Ideal.main_arg2)
          ∧ r.2.mem ((c.tc : Thread Cert.MixLn1Ideal.nD Cert.MixLn1Ideal.τ).loc Cert.MixLn1Ideal.main_arg3) = m ((c.tc : Thread Cert.MixLn1Ideal.nD Cert.MixLn1Ideal.τ).loc Cert.MixLn1Ideal.main_arg3)
          ∧ r.2.mem ((c.tc : Thread Cert.MixLn1Ideal.nD Cert.MixLn1Ideal.τ).loc Cert.MixLn1Ideal.main_arg4) = m ((c.tc : Thread Cert.MixLn1Ideal.nD Cert.MixLn1Ideal.τ).loc Cert.MixLn1Ideal.main_arg4))
      ∧ θ_run (Cert.MixLn1RefIdeal.defs (F := Ideal)) (onTc (τ := Cert.MixLn1RefIdeal.τ) (Cert.MixLn1RefIdeal.main (F := Ideal))) ⟨m', fun _ => 0, g'⟩ (fun r => ∀ c : Dev Cert.MixLn1RefIdeal.nD,
          r.2.mem ((c.tc : Thread Cert.MixLn1RefIdeal.nD Cert.MixLn1RefIdeal.τ).loc Cert.MixLn1RefIdeal.main_v4) = v0 c
          ∧ r.2.mem ((c.tc : Thread Cert.MixLn1RefIdeal.nD Cert.MixLn1RefIdeal.τ).loc Cert.MixLn1RefIdeal.main_v24) = v1 c
          ∧ r.2.mem ((c.tc : Thread Cert.MixLn1RefIdeal.nD Cert.MixLn1RefIdeal.τ).loc Cert.MixLn1RefIdeal.main_v25) = v2 c
          ∧ r.2.mem ((c.tc : Thread Cert.MixLn1RefIdeal.nD Cert.MixLn1RefIdeal.τ).loc Cert.MixLn1RefIdeal.main_arg0) = m' ((c.tc : Thread Cert.MixLn1RefIdeal.nD Cert.MixLn1RefIdeal.τ).loc Cert.MixLn1RefIdeal.main_arg0)
          ∧ r.2.mem ((c.tc : Thread Cert.MixLn1RefIdeal.nD Cert.MixLn1RefIdeal.τ).loc Cert.MixLn1RefIdeal.main_arg1) = m' ((c.tc : Thread Cert.MixLn1RefIdeal.nD Cert.MixLn1RefIdeal.τ).loc Cert.MixLn1RefIdeal.main_arg1)
          ∧ r.2.mem ((c.tc : Thread Cert.MixLn1RefIdeal.nD Cert.MixLn1RefIdeal.τ).loc Cert.MixLn1RefIdeal.main_arg2) = m' ((c.tc : Thread Cert.MixLn1RefIdeal.nD Cert.MixLn1RefIdeal.τ).loc Cert.MixLn1RefIdeal.main_arg2)
          ∧ r.2.mem ((c.tc : Thread Cert.MixLn1RefIdeal.nD Cert.MixLn1RefIdeal.τ).loc Cert.MixLn1RefIdeal.main_arg3) = m' ((c.tc : Thread Cert.MixLn1RefIdeal.nD Cert.MixLn1RefIdeal.τ).loc Cert.MixLn1RefIdeal.main_arg3)
          ∧ r.2.mem ((c.tc : Thread Cert.MixLn1RefIdeal.nD Cert.MixLn1RefIdeal.τ).loc Cert.MixLn1RefIdeal.main_arg4) = m' ((c.tc : Thread Cert.MixLn1RefIdeal.nD Cert.MixLn1RefIdeal.τ).loc Cert.MixLn1RefIdeal.main_arg4))

def Claim : Prop :=
  ∃ (hGluBwd : Cert.GluBwd.Facts) (hGluBwdIdeal : Cert.GluBwdIdeal.Facts) (hGluBwdRefIdeal : Cert.GluBwdRefIdeal.Facts) (hFf2Dgrad : Cert.Ff2Dgrad.Facts) (hFf2DgradIdeal : Cert.Ff2DgradIdeal.Facts) (hFf2DgradRefIdeal : Cert.Ff2DgradRefIdeal.Facts) (hAttnDelta : Cert.AttnDelta.Facts) (hAttnDeltaIdeal : Cert.AttnDeltaIdeal.Facts) (hAttnDeltaRefIdeal : Cert.AttnDeltaRefIdeal.Facts) (hDqUnrope : Cert.DqUnrope.Facts) (hDqUnropeIdeal : Cert.DqUnropeIdeal.Facts) (hDqUnropeRefIdeal : Cert.DqUnropeRefIdeal.Facts) (hDkUnrope : Cert.DkUnrope.Facts) (hDkUnropeIdeal : Cert.DkUnropeIdeal.Facts) (hDkUnropeRefIdeal : Cert.DkUnropeRefIdeal.Facts) (hFlashBwd : Cert.FlashBwd.Facts) (hFlashBwdIdeal : Cert.FlashBwdIdeal.Facts) (hFlashBwdRefIdeal : Cert.FlashBwdRefIdeal.Facts) (hFlashFwd : Cert.FlashFwd.Facts) (hFlashFwdIdeal : Cert.FlashFwdIdeal.Facts) (hFlashFwdRefIdeal : Cert.FlashFwdRefIdeal.Facts) (hConvLnSiluBwd : Cert.ConvLnSiluBwd.Facts) (hConvLnSiluBwdIdeal : Cert.ConvLnSiluBwdIdeal.Facts) (hConvLnSiluBwdRefIdeal : Cert.ConvLnSiluBwdRefIdeal.Facts) (hQDgradRms : Cert.QDgradRms.Facts) (hQDgradRmsIdeal : Cert.QDgradRmsIdeal.Facts) (hQDgradRmsRefIdeal : Cert.QDgradRmsRefIdeal.Facts) (hKvDgradRms : Cert.KvDgradRms.Facts) (hKvDgradRmsIdeal : Cert.KvDgradRmsIdeal.Facts) (hKvDgradRmsRefIdeal : Cert.KvDgradRmsRefIdeal.Facts) (hFf2Ln2Loss : Cert.Ff2Ln2Loss.Facts) (hFf2Ln2LossIdeal : Cert.Ff2Ln2LossIdeal.Facts) (hFf2Ln2LossRefIdeal : Cert.Ff2Ln2LossRefIdeal.Facts) (hFf1Ln1Bwd : Cert.Ff1Ln1Bwd.Facts) (hFf1Ln1BwdIdeal : Cert.Ff1Ln1BwdIdeal.Facts) (hFf1Ln1BwdRefIdeal : Cert.Ff1Ln1BwdRefIdeal.Facts) (hInLnInBwd : Cert.InLnInBwd.Facts) (hInLnInBwdIdeal : Cert.InLnInBwdIdeal.Facts) (hInLnInBwdRefIdeal : Cert.InLnInBwdRefIdeal.Facts) (hConvBwd : Cert.ConvBwd.Facts) (hConvBwdIdeal : Cert.ConvBwdIdeal.Facts) (hConvBwdRefIdeal : Cert.ConvBwdRefIdeal.Facts) (hLnInFwd : Cert.LnInFwd.Facts) (hLnInFwdIdeal : Cert.LnInFwdIdeal.Facts) (hLnInFwdRefIdeal : Cert.LnInFwdRefIdeal.Facts) (hFf1Relu2 : Cert.Ff1Relu2.Facts) (hFf1Relu2Ideal : Cert.Ff1Relu2Ideal.Facts) (hFf1Relu2RefIdeal : Cert.Ff1Relu2RefIdeal.Facts) (hRopeTables : Cert.RopeTables.Facts) (hRopeTablesIdeal : Cert.RopeTablesIdeal.Facts) (hRopeTablesRefIdeal : Cert.RopeTablesRefIdeal.Facts) (hConvLnSilu : Cert.ConvLnSilu.Facts) (hConvLnSiluIdeal : Cert.ConvLnSiluIdeal.Facts) (hConvLnSiluRefIdeal : Cert.ConvLnSiluRefIdeal.Facts) (hMixLn1 : Cert.MixLn1.Facts) (hMixLn1Ideal : Cert.MixLn1Ideal.Facts) (hMixLn1RefIdeal : Cert.MixLn1RefIdeal.Facts) (hPre_finite_flash_bwd : Cert.Pre_finite_flash_bwd.Facts) (hPre_finite_flash_fwd : Cert.Pre_finite_flash_fwd.Facts) (hPre_finite_conv_ln_silu_bwd : Cert.Pre_finite_conv_ln_silu_bwd.Facts) (hPre_finite_q_dgrad_rms_bwd : Cert.Pre_finite_q_dgrad_rms_bwd.Facts) (hPre_finite_kv_dgrad_rms_bwd : Cert.Pre_finite_kv_dgrad_rms_bwd.Facts) (hPre_finite_ff2_ln2_loss : Cert.Pre_finite_ff2_ln2_loss.Facts) (hPre_finite_ff1_dgrad_ln1_bwd : Cert.Pre_finite_ff1_dgrad_ln1_bwd.Facts) (hPre_finite_in_dgrad_ln_in_bwd : Cert.Pre_finite_in_dgrad_ln_in_bwd.Facts) (hOn_conv_columns : Cert.On_conv_columns.Facts) (hOn_attention_columns : Cert.On_attention_columns.Facts),
    quiescent_GluBwd (hGluBwd := hGluBwd)
    ∧ quiescent_GluBwdIdeal (hGluBwdIdeal := hGluBwdIdeal)
    ∧ quiescent_GluBwdRefIdeal (hGluBwdRefIdeal := hGluBwdRefIdeal)
    ∧ quiescent_Ff2Dgrad (hFf2Dgrad := hFf2Dgrad)
    ∧ quiescent_Ff2DgradIdeal (hFf2DgradIdeal := hFf2DgradIdeal)
    ∧ quiescent_Ff2DgradRefIdeal (hFf2DgradRefIdeal := hFf2DgradRefIdeal)
    ∧ quiescent_AttnDelta (hAttnDelta := hAttnDelta)
    ∧ quiescent_AttnDeltaIdeal (hAttnDeltaIdeal := hAttnDeltaIdeal)
    ∧ quiescent_AttnDeltaRefIdeal (hAttnDeltaRefIdeal := hAttnDeltaRefIdeal)
    ∧ quiescent_DqUnrope (hDqUnrope := hDqUnrope)
    ∧ quiescent_DqUnropeIdeal (hDqUnropeIdeal := hDqUnropeIdeal)
    ∧ quiescent_DqUnropeRefIdeal (hDqUnropeRefIdeal := hDqUnropeRefIdeal)
    ∧ quiescent_DkUnrope (hDkUnrope := hDkUnrope)
    ∧ quiescent_DkUnropeIdeal (hDkUnropeIdeal := hDkUnropeIdeal)
    ∧ quiescent_DkUnropeRefIdeal (hDkUnropeRefIdeal := hDkUnropeRefIdeal)
    ∧ quiescent_FlashBwd (hFlashBwd := hFlashBwd)
    ∧ quiescent_FlashBwdIdeal (hFlashBwdIdeal := hFlashBwdIdeal)
    ∧ quiescent_FlashBwdIdeal_pre_finite_flash_bwd (hFlashBwdIdeal := hFlashBwdIdeal) (hPre_finite_flash_bwd := hPre_finite_flash_bwd)
    ∧ quiescent_FlashBwdRefIdeal (hFlashBwdRefIdeal := hFlashBwdRefIdeal)
    ∧ quiescent_FlashBwdRefIdeal_pre_finite_flash_bwd (hFlashBwdRefIdeal := hFlashBwdRefIdeal) (hPre_finite_flash_bwd := hPre_finite_flash_bwd)
    ∧ quiescent_FlashFwd (hFlashFwd := hFlashFwd)
    ∧ quiescent_FlashFwdIdeal (hFlashFwdIdeal := hFlashFwdIdeal)
    ∧ quiescent_FlashFwdIdeal_pre_finite_flash_fwd (hFlashFwdIdeal := hFlashFwdIdeal) (hPre_finite_flash_fwd := hPre_finite_flash_fwd)
    ∧ quiescent_FlashFwdRefIdeal (hFlashFwdRefIdeal := hFlashFwdRefIdeal)
    ∧ quiescent_FlashFwdRefIdeal_pre_finite_flash_fwd (hFlashFwdRefIdeal := hFlashFwdRefIdeal) (hPre_finite_flash_fwd := hPre_finite_flash_fwd)
    ∧ quiescent_ConvLnSiluBwd (hConvLnSiluBwd := hConvLnSiluBwd)
    ∧ quiescent_ConvLnSiluBwdIdeal (hConvLnSiluBwdIdeal := hConvLnSiluBwdIdeal)
    ∧ quiescent_ConvLnSiluBwdIdeal_pre_finite_conv_ln_silu_bwd (hConvLnSiluBwdIdeal := hConvLnSiluBwdIdeal) (hPre_finite_conv_ln_silu_bwd := hPre_finite_conv_ln_silu_bwd)
    ∧ quiescent_ConvLnSiluBwdRefIdeal (hConvLnSiluBwdRefIdeal := hConvLnSiluBwdRefIdeal)
    ∧ quiescent_ConvLnSiluBwdRefIdeal_pre_finite_conv_ln_silu_bwd (hConvLnSiluBwdRefIdeal := hConvLnSiluBwdRefIdeal) (hPre_finite_conv_ln_silu_bwd := hPre_finite_conv_ln_silu_bwd)
    ∧ quiescent_QDgradRms (hQDgradRms := hQDgradRms)
    ∧ quiescent_QDgradRmsIdeal (hQDgradRmsIdeal := hQDgradRmsIdeal)
    ∧ quiescent_QDgradRmsIdeal_pre_finite_q_dgrad_rms_bwd (hQDgradRmsIdeal := hQDgradRmsIdeal) (hPre_finite_q_dgrad_rms_bwd := hPre_finite_q_dgrad_rms_bwd)
    ∧ quiescent_QDgradRmsRefIdeal (hQDgradRmsRefIdeal := hQDgradRmsRefIdeal)
    ∧ quiescent_QDgradRmsRefIdeal_pre_finite_q_dgrad_rms_bwd (hQDgradRmsRefIdeal := hQDgradRmsRefIdeal) (hPre_finite_q_dgrad_rms_bwd := hPre_finite_q_dgrad_rms_bwd)
    ∧ quiescent_KvDgradRms (hKvDgradRms := hKvDgradRms)
    ∧ quiescent_KvDgradRmsIdeal (hKvDgradRmsIdeal := hKvDgradRmsIdeal)
    ∧ quiescent_KvDgradRmsIdeal_pre_finite_kv_dgrad_rms_bwd (hKvDgradRmsIdeal := hKvDgradRmsIdeal) (hPre_finite_kv_dgrad_rms_bwd := hPre_finite_kv_dgrad_rms_bwd)
    ∧ quiescent_KvDgradRmsRefIdeal (hKvDgradRmsRefIdeal := hKvDgradRmsRefIdeal)
    ∧ quiescent_KvDgradRmsRefIdeal_pre_finite_kv_dgrad_rms_bwd (hKvDgradRmsRefIdeal := hKvDgradRmsRefIdeal) (hPre_finite_kv_dgrad_rms_bwd := hPre_finite_kv_dgrad_rms_bwd)
    ∧ quiescent_Ff2Ln2Loss (hFf2Ln2Loss := hFf2Ln2Loss)
    ∧ quiescent_Ff2Ln2LossIdeal (hFf2Ln2LossIdeal := hFf2Ln2LossIdeal)
    ∧ quiescent_Ff2Ln2LossIdeal_pre_finite_ff2_ln2_loss (hFf2Ln2LossIdeal := hFf2Ln2LossIdeal) (hPre_finite_ff2_ln2_loss := hPre_finite_ff2_ln2_loss)
    ∧ quiescent_Ff2Ln2LossRefIdeal (hFf2Ln2LossRefIdeal := hFf2Ln2LossRefIdeal)
    ∧ quiescent_Ff2Ln2LossRefIdeal_pre_finite_ff2_ln2_loss (hFf2Ln2LossRefIdeal := hFf2Ln2LossRefIdeal) (hPre_finite_ff2_ln2_loss := hPre_finite_ff2_ln2_loss)
    ∧ quiescent_Ff1Ln1Bwd (hFf1Ln1Bwd := hFf1Ln1Bwd)
    ∧ quiescent_Ff1Ln1BwdIdeal (hFf1Ln1BwdIdeal := hFf1Ln1BwdIdeal)
    ∧ quiescent_Ff1Ln1BwdIdeal_pre_finite_ff1_dgrad_ln1_bwd (hFf1Ln1BwdIdeal := hFf1Ln1BwdIdeal) (hPre_finite_ff1_dgrad_ln1_bwd := hPre_finite_ff1_dgrad_ln1_bwd)
    ∧ quiescent_Ff1Ln1BwdRefIdeal (hFf1Ln1BwdRefIdeal := hFf1Ln1BwdRefIdeal)
    ∧ quiescent_Ff1Ln1BwdRefIdeal_pre_finite_ff1_dgrad_ln1_bwd (hFf1Ln1BwdRefIdeal := hFf1Ln1BwdRefIdeal) (hPre_finite_ff1_dgrad_ln1_bwd := hPre_finite_ff1_dgrad_ln1_bwd)
    ∧ quiescent_InLnInBwd (hInLnInBwd := hInLnInBwd)
    ∧ quiescent_InLnInBwdIdeal (hInLnInBwdIdeal := hInLnInBwdIdeal)
    ∧ quiescent_InLnInBwdIdeal_pre_finite_in_dgrad_ln_in_bwd (hInLnInBwdIdeal := hInLnInBwdIdeal) (hPre_finite_in_dgrad_ln_in_bwd := hPre_finite_in_dgrad_ln_in_bwd)
    ∧ quiescent_InLnInBwdRefIdeal (hInLnInBwdRefIdeal := hInLnInBwdRefIdeal)
    ∧ quiescent_InLnInBwdRefIdeal_pre_finite_in_dgrad_ln_in_bwd (hInLnInBwdRefIdeal := hInLnInBwdRefIdeal) (hPre_finite_in_dgrad_ln_in_bwd := hPre_finite_in_dgrad_ln_in_bwd)
    ∧ quiescent_ConvBwd (hConvBwd := hConvBwd)
    ∧ quiescent_ConvBwdIdeal (hConvBwdIdeal := hConvBwdIdeal)
    ∧ quiescent_ConvBwdRefIdeal (hConvBwdRefIdeal := hConvBwdRefIdeal)
    ∧ quiescent_LnInFwd (hLnInFwd := hLnInFwd)
    ∧ quiescent_LnInFwdIdeal (hLnInFwdIdeal := hLnInFwdIdeal)
    ∧ quiescent_LnInFwdRefIdeal (hLnInFwdRefIdeal := hLnInFwdRefIdeal)
    ∧ quiescent_Ff1Relu2 (hFf1Relu2 := hFf1Relu2)
    ∧ quiescent_Ff1Relu2Ideal (hFf1Relu2Ideal := hFf1Relu2Ideal)
    ∧ quiescent_Ff1Relu2RefIdeal (hFf1Relu2RefIdeal := hFf1Relu2RefIdeal)
    ∧ quiescent_RopeTables (hRopeTables := hRopeTables)
    ∧ quiescent_RopeTablesIdeal (hRopeTablesIdeal := hRopeTablesIdeal)
    ∧ quiescent_RopeTablesRefIdeal (hRopeTablesRefIdeal := hRopeTablesRefIdeal)
    ∧ quiescent_ConvLnSilu (hConvLnSilu := hConvLnSilu)
    ∧ quiescent_ConvLnSiluIdeal (hConvLnSiluIdeal := hConvLnSiluIdeal)
    ∧ quiescent_ConvLnSiluRefIdeal (hConvLnSiluRefIdeal := hConvLnSiluRefIdeal)
    ∧ quiescent_MixLn1 (hMixLn1 := hMixLn1)
    ∧ quiescent_MixLn1Ideal (hMixLn1Ideal := hMixLn1Ideal)
    ∧ quiescent_MixLn1RefIdeal (hMixLn1RefIdeal := hMixLn1RefIdeal)
    ∧ preserves_GluBwd_GluBwdIdeal
    ∧ algebraic_GluBwdIdeal_GluBwdRefIdeal_on_conv_columns (hGluBwdIdeal := hGluBwdIdeal) (hGluBwdRefIdeal := hGluBwdRefIdeal) (hOn_conv_columns := hOn_conv_columns)
    ∧ preserves_Ff2Dgrad_Ff2DgradIdeal
    ∧ algebraic_Ff2DgradIdeal_Ff2DgradRefIdeal (hFf2DgradIdeal := hFf2DgradIdeal) (hFf2DgradRefIdeal := hFf2DgradRefIdeal)
    ∧ preserves_AttnDelta_AttnDeltaIdeal
    ∧ algebraic_AttnDeltaIdeal_AttnDeltaRefIdeal (hAttnDeltaIdeal := hAttnDeltaIdeal) (hAttnDeltaRefIdeal := hAttnDeltaRefIdeal)
    ∧ preserves_DqUnrope_DqUnropeIdeal
    ∧ algebraic_DqUnropeIdeal_DqUnropeRefIdeal (hDqUnropeIdeal := hDqUnropeIdeal) (hDqUnropeRefIdeal := hDqUnropeRefIdeal)
    ∧ preserves_DkUnrope_DkUnropeIdeal
    ∧ algebraic_DkUnropeIdeal_DkUnropeRefIdeal (hDkUnropeIdeal := hDkUnropeIdeal) (hDkUnropeRefIdeal := hDkUnropeRefIdeal)
    ∧ preserves_FlashBwd_FlashBwdIdeal
    ∧ algebraic_FlashBwdIdeal_FlashBwdRefIdeal_pre_finite_flash_bwd (hFlashBwdIdeal := hFlashBwdIdeal) (hFlashBwdRefIdeal := hFlashBwdRefIdeal) (hPre_finite_flash_bwd := hPre_finite_flash_bwd)
    ∧ preserves_FlashFwd_FlashFwdIdeal
    ∧ algebraic_FlashFwdIdeal_FlashFwdRefIdeal_on_attention_columns_pre_finite_flash_fwd (hFlashFwdIdeal := hFlashFwdIdeal) (hFlashFwdRefIdeal := hFlashFwdRefIdeal) (hPre_finite_flash_fwd := hPre_finite_flash_fwd) (hOn_attention_columns := hOn_attention_columns)
    ∧ preserves_ConvLnSiluBwd_ConvLnSiluBwdIdeal
    ∧ algebraic_ConvLnSiluBwdIdeal_ConvLnSiluBwdRefIdeal_pre_finite_conv_ln_silu_bwd (hConvLnSiluBwdIdeal := hConvLnSiluBwdIdeal) (hConvLnSiluBwdRefIdeal := hConvLnSiluBwdRefIdeal) (hPre_finite_conv_ln_silu_bwd := hPre_finite_conv_ln_silu_bwd)
    ∧ preserves_QDgradRms_QDgradRmsIdeal
    ∧ algebraic_QDgradRmsIdeal_QDgradRmsRefIdeal_pre_finite_q_dgrad_rms_bwd (hQDgradRmsIdeal := hQDgradRmsIdeal) (hQDgradRmsRefIdeal := hQDgradRmsRefIdeal) (hPre_finite_q_dgrad_rms_bwd := hPre_finite_q_dgrad_rms_bwd)
    ∧ preserves_KvDgradRms_KvDgradRmsIdeal
    ∧ algebraic_KvDgradRmsIdeal_KvDgradRmsRefIdeal_pre_finite_kv_dgrad_rms_bwd (hKvDgradRmsIdeal := hKvDgradRmsIdeal) (hKvDgradRmsRefIdeal := hKvDgradRmsRefIdeal) (hPre_finite_kv_dgrad_rms_bwd := hPre_finite_kv_dgrad_rms_bwd)
    ∧ preserves_Ff2Ln2Loss_Ff2Ln2LossIdeal
    ∧ algebraic_Ff2Ln2LossIdeal_Ff2Ln2LossRefIdeal_pre_finite_ff2_ln2_loss (hFf2Ln2LossIdeal := hFf2Ln2LossIdeal) (hFf2Ln2LossRefIdeal := hFf2Ln2LossRefIdeal) (hPre_finite_ff2_ln2_loss := hPre_finite_ff2_ln2_loss)
    ∧ preserves_Ff1Ln1Bwd_Ff1Ln1BwdIdeal
    ∧ algebraic_Ff1Ln1BwdIdeal_Ff1Ln1BwdRefIdeal_pre_finite_ff1_dgrad_ln1_bwd (hFf1Ln1BwdIdeal := hFf1Ln1BwdIdeal) (hFf1Ln1BwdRefIdeal := hFf1Ln1BwdRefIdeal) (hPre_finite_ff1_dgrad_ln1_bwd := hPre_finite_ff1_dgrad_ln1_bwd)
    ∧ preserves_InLnInBwd_InLnInBwdIdeal
    ∧ algebraic_InLnInBwdIdeal_InLnInBwdRefIdeal_pre_finite_in_dgrad_ln_in_bwd (hInLnInBwdIdeal := hInLnInBwdIdeal) (hInLnInBwdRefIdeal := hInLnInBwdRefIdeal) (hPre_finite_in_dgrad_ln_in_bwd := hPre_finite_in_dgrad_ln_in_bwd)
    ∧ preserves_ConvBwd_ConvBwdIdeal
    ∧ algebraic_ConvBwdIdeal_ConvBwdRefIdeal (hConvBwdIdeal := hConvBwdIdeal) (hConvBwdRefIdeal := hConvBwdRefIdeal)
    ∧ preserves_LnInFwd_LnInFwdIdeal
    ∧ algebraic_LnInFwdIdeal_LnInFwdRefIdeal (hLnInFwdIdeal := hLnInFwdIdeal) (hLnInFwdRefIdeal := hLnInFwdRefIdeal)
    ∧ preserves_Ff1Relu2_Ff1Relu2Ideal
    ∧ algebraic_Ff1Relu2Ideal_Ff1Relu2RefIdeal (hFf1Relu2Ideal := hFf1Relu2Ideal) (hFf1Relu2RefIdeal := hFf1Relu2RefIdeal)
    ∧ preserves_RopeTables_RopeTablesIdeal
    ∧ algebraic_RopeTablesIdeal_RopeTablesRefIdeal (hRopeTablesIdeal := hRopeTablesIdeal) (hRopeTablesRefIdeal := hRopeTablesRefIdeal)
    ∧ preserves_ConvLnSilu_ConvLnSiluIdeal
    ∧ algebraic_ConvLnSiluIdeal_ConvLnSiluRefIdeal (hConvLnSiluIdeal := hConvLnSiluIdeal) (hConvLnSiluRefIdeal := hConvLnSiluRefIdeal)
    ∧ preserves_MixLn1_MixLn1Ideal
    ∧ algebraic_MixLn1Ideal_MixLn1RefIdeal (hMixLn1Ideal := hMixLn1Ideal) (hMixLn1RefIdeal := hMixLn1RefIdeal)
-- ==== On_attention_columns.lean ====
abbrev S8192x8x128 : Shape := ⟨3, ![8192, 8, 128]⟩
abbrev S8192x8x64 : Shape := ⟨3, ![8192, 8, 64]⟩
abbrev S8192x64 : Shape := ⟨2, ![8192, 64]⟩
abbrev S8192x2048 : Shape := ⟨2, ![8192, 2048]⟩
abbrev S_ : Shape := ⟨0, ![]⟩
abbrev S8x8192x128 : Shape := ⟨3, ![8, 8192, 128]⟩

class Facts : Prop where
  bcast_S_S8192x2048 : S_.BroadcastsInDim S8192x2048 (![] : Fin 0 → Fin S8192x2048.rank)
  bcast_S_S8x8192x128 : S_.BroadcastsInDim S8x8192x128 (![] : Fin 0 → Fin S8x8192x128.rank)

variable [Facts]

def fn {F : FTy → Type} [FloatOps F] (main_arg0 : FVec F S8192x8x128 .f32) (main_arg1 : FVec F S8192x8x64 .f32) (main_arg2 : FVec F S8192x8x128 .f32) (main_arg3 : FVec F S8192x64 .f32) (main_arg4 : FVec F S8192x8x128 .f32) : IVec S8192x2048 1 × IVec S8x8192x128 1 :=
  let main_v0 : IVec S8192x2048 32 := iotaInDim S8192x2048 32 1
  let main_c : IVec S_ 32 := constantI S_ 32 1024#32
  let main_v1 : IVec S8192x2048 32 := broadcastInDim S8192x2048 ![] bcast_S_S8192x2048 main_c
  let main_v2 : IVec S8192x2048 1 := cmpi .slt main_v0 main_v1
  let main_c_0 : IVec S_ 1 := constantI S_ 1 1#1
  let main_v3 : IVec S8x8192x128 1 := broadcastInDim S8x8192x128 ![] bcast_S_S8x8192x128 main_c_0
  (main_v2, main_v3)
-- ==== On_conv_columns.lean ====
abbrev S8192x1024 : Shape := ⟨2, ![8192, 1024]⟩
abbrev S8192x3136 : Shape := ⟨2, ![8192, 3136]⟩
abbrev S8192x3200 : Shape := ⟨2, ![8192, 3200]⟩
abbrev S_ : Shape := ⟨0, ![]⟩

class Facts : Prop where
  bcast_S_S8192x3200 : S_.BroadcastsInDim S8192x3200 (![] : Fin 0 → Fin S8192x3200.rank)

variable [Facts]

def fn {F : FTy → Type} [FloatOps F] (main_arg0 : FVec F S8192x1024 .f32) (main_arg1 : FVec F S8192x3136 .f32) : IVec S8192x3200 1 :=
  let main_v0 : IVec S8192x3200 32 := iotaInDim S8192x3200 32 1
  let main_c : IVec S_ 32 := constantI S_ 32 2048#32
  let main_v1 : IVec S8192x3200 32 := broadcastInDim S8192x3200 ![] bcast_S_S8192x3200 main_c
  let main_v2 : IVec S8192x3200 1 := cmpi .slt main_v0 main_v1
  main_v2
-- ==== Pre_finite_conv_ln_silu_bwd.lean ====
abbrev S8192x2048 : Shape := ⟨2, ![8192, 2048]⟩
abbrev S8192x1024 : Shape := ⟨2, ![8192, 1024]⟩
abbrev S1x1024 : Shape := ⟨2, ![1, 1024]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v14 : IVec S_ 1) (main_v15 : FVec F S1x1024 .f32) (main_cst_5 : FVec F S_ .f32) : IVec S_ 1 :=
  let main_v16 : FVec F S1x1024 .f32 := broadcastInDim S1x1024 ![] bcast_S_S1x1024 main_cst_5
  let main_v17 : IVec S1x1024 1 := cmpf .olt main_v15 main_v16
  let main_c_6 : IVec S_ 1 := constantI S_ 1 1#1
  let main_v18 : IVec S_ 1 := (fun x v => Host.reduce IntOp.andi x v reducesTo_S1x1024_S_d0_1 h_S_) main_v17 main_c_6
  let main_v19 : IVec S_ 1 := andi main_v14 main_v18
  main_v19

def fn {F : FTy → Type} [FloatOps F] (main_arg0 : FVec F S8192x2048 .f32) (main_arg1 : FVec F S8192x1024 .f32) (main_arg2 : FVec F S1x1024 .f32) (main_arg3 : FVec F S1x1024 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_c_0 : IVec S_ 1 := constantI S_ 1 1#1
  let main_v4 : IVec S_ 1 := andi main_c_0 main_v3
  let main_v5 : FVec F S8192x1024 .f32 := Host.absf main_arg1
  let main_cst_1 : FVec F S_ .f32 := constant S_ .f32 0x7F800000#32
  let main_v6 : FVec F S8192x1024 .f32 := broadcastInDim S8192x1024 ![] bcast_S_S8192x1024 main_cst_1
  let main_v7 : IVec S8192x1024 1 := cmpf .olt main_v5 main_v6
  let main_c_2 : IVec S_ 1 := constantI S_ 1 1#1
  let main_v8 : IVec S_ 1 := (fun x v => Host.reduce IntOp.andi x v reducesTo_S8192x1024_S_d0_1 h_S_) main_v7 main_c_2
  let main_v9 : IVec S_ 1 := andi main_v4 main_v8
  let main_v10 : FVec F S1x1024 .f32 := Host.absf main_arg2
  let main_cst_3 : FVec F S_ .f32 := constant S_ .f32 0x7F800000#32
  let main_v11 : FVec F S1x1024 .f32 := broadcastInDim S1x1024 ![] bcast_S_S1x1024 main_cst_3
  let main_v12 : IVec S1x1024 1 := cmpf .olt main_v10 main_v11
  let main_c_4 : IVec S_ 1 := constantI S_ 1 1#1
  let main_v13 : IVec S_ 1 := (fun x v => Host.reduce IntOp.andi x v reducesTo_S1x1024_S_d0_1 h_S_) main_v12 main_c_4
  let main_v14 : IVec S_ 1 := andi main_v9 main_v13
  let main_v15 : FVec F S1x1024 .f32 := Host.absf main_arg3
  let main_cst_5 : FVec F S_ .f32 := constant S_ .f32 0x7F800000#32
  fn_part1 (F := F) main_v14 main_v15 main_cst_5
-- ==== Pre_finite_ff1_dgrad_ln1_bwd.lean ====
abbrev S8192x2048 : Shape := ⟨2, ![8192, 2048]⟩
abbrev S8192x8192 : Shape := ⟨2, ![8192, 8192]⟩
abbrev S2048x8192 : Shape := ⟨2, ![2048, 8192]⟩
abbrev S1x2048 : Shape := ⟨2, ![1, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S2048x8192 : S_.BroadcastsInDim S2048x8192 (![] : Fin 0 → Fin S2048x8192.rank)
  reducesTo_S2048x8192_S_d0_1 : S2048x8192.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg4 : FVec F S1x2048 .f32) (main_v14 : IVec S_ 1) (main_v15 : FVec F S2048x8192 .f32) (main_cst_5 : FVec F S_ .f32) : IVec S_ 1 :=
  let main_v16 : FVec F S2048x8192 .f32 := broadcastInDim S2048x8192 ![] bcast_S_S2048x8192 main_cst_5
  let main_v17 : IVec S2048x8192 1 := cmpf .olt main_v15 main_v16
  let main_c_6 : IVec S_ 1 := constantI S_ 1 1#1
  let main_v18 : IVec S_ 1 := (fun x v => Host.reduce IntOp.andi x v reducesTo_S2048x8192_S_d0_1 h_S_) main_v17 main_c_6
  let main_v19 : IVec S_ 1 := andi main_v14 main_v18
  let main_v20 : FVec F S1x2048 .f32 := Host.absf main_arg4
  let main_cst_7 : FVec F S_ .f32 := constant S_ .f32 0x7F800000#32
  let main_v21 : FVec F S1x2048 .f32 := broadcastInDim S1x2048 ![] bcast_S_S1x2048 main_cst_7
  let main_v22 : IVec S1x2048 1 := cmpf .olt main_v20 main_v21
  let main_c_8 : IVec S_ 1 := constantI S_ 1 1#1
  let main_v23 : IVec S_ 1 := (fun x v => Host.reduce IntOp.andi x v reducesTo_S1x2048_S_d0_1 h_S_) main_v22 main_c_8
  let main_v24 : IVec S_ 1 := andi main_v19 main_v23
  main_v24

def fn {F : FTy → Type} [FloatOps F] (main_arg0 : FVec F S8192x2048 .f32) (main_arg1 : FVec F S8192x8192 .f32) (main_arg2 : FVec F S8192x2048 .f32) (main_arg3 : FVec F S2048x8192 .f32) (main_arg4 : FVec F S1x2048 .f32) (main_arg5 : FVec F S1x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_c_0 : IVec S_ 1 := constantI S_ 1 1#1
  let main_v4 : IVec S_ 1 := andi main_c_0 main_v3
  let main_v5 : FVec F S8192x8192 .f32 := Host.absf main_arg1
  let main_cst_1 : FVec F S_ .f32 := constant S_ .f32 0x7F800000#32
  let main_v6 : FVec F S8192x8192 .f32 := broadcastInDim S8192x8192 ![] bcast_S_S8192x8192 main_cst_1
  let main_v7 : IVec S8192x8192 1 := cmpf .olt main_v5 main_v6
  let main_c_2 : IVec S_ 1 := constantI S_ 1 1#1
  let main_v8 : IVec S_ 1 := (fun x v => Host.reduce IntOp.andi x v reducesTo_S8192x8192_S_d0_1 h_S_) main_v7 main_c_2
  let main_v9 : IVec S_ 1 := andi main_v4 main_v8
  let main_v10 : FVec F S8192x2048 .f32 := Host.absf main_arg2
  let main_cst_3 : FVec F S_ .f32 := constant S_ .f32 0x7F800000#32
  let main_v11 : FVec F S8192x2048 .f32 := broadcastInDim S8192x2048 ![] bcast_S_S8192x2048 main_cst_3
  let main_v12 : IVec S8192x2048 1 := cmpf .olt main_v10 main_v11
  let main_c_4 : IVec S_ 1 := constantI S_ 1 1#1
  let main_v13 : IVec S_ 1 := (fun x v => Host.reduce IntOp.andi x v reducesTo_S8192x2048_S_d0_1 h_S_) main_v12 main_c_4
  let main_v14 : IVec S_ 1 := andi main_v9 main_v13
  let main_v15 : FVec F S2048x8192 .f32 := Host.absf main_arg3
  let main_cst_5 : FVec F S_ .f32 := constant S_ .f32 0x7F800000#32
  fn_part1 (F := F) main_arg4 main_v14 main_v15 main_cst_5
-- ==== Pre_finite_ff2_ln2_loss.lean ====
abbrev S8192x2048 : Shape := ⟨2, ![8192, 2048]⟩
abbrev S8192x8192 : Shape := ⟨2, ![8192, 8192]⟩
abbrev S1x2048 : Shape := ⟨2, ![1, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg4 : FVec F S1x2048 .f32) (main_arg5 : FVec F S1x2048 .f32) (main_v14 : IVec S_ 1) (main_v15 : FVec F S8192x2048 .f32) (main_cst_5 : FVec F S_ .f32) : IVec S_ 1 :=
  let main_v16 : FVec F S8192x2048 .f32 := broadcastInDim S8192x2048 ![] bcast_S_S8192x2048 main_cst_5
  let main_v17 : IVec S8192x2048 1 := cmpf .olt main_v15 main_v16
  let main_c_6 : IVec S_ 1 := constantI S_ 1 1#1
  let main_v18 : IVec S_ 1 := (fun x v => Host.reduce IntOp.andi x v reducesTo_S8192x2048_S_d0_1 h_S_) main_v17 main_c_6
  let main_v19 : IVec S_ 1 := andi main_v14 main_v18
  let main_v20 : FVec F S1x2048 .f32 := Host.absf main_arg4
  let main_cst_7 : FVec F S_ .f32 := constant S_ .f32 0x7F800000#32
  let main_v21 : FVec F S1x2048 .f32 := broadcastInDim S1x2048 ![] bcast_S_S1x2048 main_cst_7
  let main_v22 : IVec S1x2048 1 := cmpf .olt main_v20 main_v21
  let main_c_8 : IVec S_ 1 := constantI S_ 1 1#1
  let main_v23 : IVec S_ 1 := (fun x v => Host.reduce IntOp.andi x v reducesTo_S1x2048_S_d0_1 h_S_) main_v22 main_c_8
  let main_v24 : IVec S_ 1 := andi main_v19 main_v23
  let main_v25 : FVec F S1x2048 .f32 := Host.absf main_arg5
  let main_cst_9 : FVec F S_ .f32 := constant S_ .f32 0x7F800000#32
  let main_v26 : FVec F S1x2048 .f32 := broadcastInDim S1x2048 ![] bcast_S_S1x2048 main_cst_9
  let main_v27 : IVec S1x2048 1 := cmpf .olt main_v25 main_v26
  let main_c_10 : IVec S_ 1 := constantI S_ 1 1#1
  let main_v28 : IVec S_ 1 := (fun x v => Host.reduce IntOp.andi x v reducesTo_S1x2048_S_d0_1 h_S_) main_v27 main_c_10
  let main_v29 : IVec S_ 1 := andi main_v24 main_v28
  main_v29

def fn {F : FTy → Type} [FloatOps F] (main_arg0 : FVec F S8192x2048 .f32) (main_arg1 : FVec F S8192x8192 .f32) (main_arg2 : FVec F S8192x2048 .f32) (main_arg3 : FVec F S8192x2048 .f32) (main_arg4 : FVec F S1x2048 .f32) (main_arg5 : FVec F S1x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_c_0 : IVec S_ 1 := constantI S_ 1 1#1
  let main_v4 : IVec S_ 1 := andi main_c_0 main_v3
  let main_v5 : FVec F S8192x8192 .f32 := Host.absf main_arg1
  let main_cst_1 : FVec F S_ .f32 := constant S_ .f32 0x7F800000#32
  let main_v6 : FVec F S8192x8192 .f32 := broadcastInDim S8192x8192 ![] bcast_S_S8192x8192 main_cst_1
  let main_v7 : IVec S8192x8192 1 := cmpf .olt main_v5 main_v6
  let main_c_2 : IVec S_ 1 := constantI S_ 1 1#1
  let main_v8 : IVec S_ 1 := (fun x v => Host.reduce IntOp.andi x v reducesTo_S8192x8192_S_d0_1 h_S_) main_v7 main_c_2
  let main_v9 : IVec S_ 1 := andi main_v4 main_v8
  let main_v10 : FVec F S8192x2048 .f32 := Host.absf main_arg2
  let main_cst_3 : FVec F S_ .f32 := constant S_ .f32 0x7F800000#32
  let main_v11 : FVec F S8192x2048 .f32 := broadcastInDim S8192x2048 ![] bcast_S_S8192x2048 main_cst_3
  let main_v12 : IVec S8192x2048 1 := cmpf .olt main_v10 main_v11
  let main_c_4 : IVec S_ 1 := constantI S_ 1 1#1
  let main_v13 : IVec S_ 1 := (fun x v => Host.reduce IntOp.andi x v reducesTo_S8192x2048_S_d0_1 h_S_) main_v12 main_c_4
  let main_v14 : IVec S_ 1 := andi main_v9 main_v13
  let main_v15 : FVec F S8192x2048 .f32 := Host.absf main_arg3
  let main_cst_5 : FVec F S_ .f32 := constant S_ .f32 0x7F800000#32
  fn_part1 (F := F) main_arg4 main_arg5 main_v14 main_v15 main_cst_5
-- ==== Pre_finite_flash_bwd.lean ====
abbrev S8192x8x128 : Shape := ⟨3, ![8192, 8, 128]⟩
abbrev S8192x8x64 : Shape := ⟨3, ![8192, 8, 64]⟩
abbrev S8192x64 : Shape := ⟨2, ![8192, 64]⟩
abbrev S8192x1024 : Shape := ⟨2, ![8192, 1024]⟩
abbrev S_ : Shape := ⟨0, ![]⟩

class Facts : Prop where
  bcast_S_S8192x8x128 : S_.BroadcastsInDim S8192x8x128 (![] : Fin 0 → Fin S8192x8x128.rank)
  reducesTo_S8192x8x128_S_d0_1_2 : S8192x8x128.ReducesTo [0, 1, 2] S_
  h_S_ : 0 < S_.numel
  bcast_S_S8192x8x64 : S_.BroadcastsInDim S8192x8x64 (![] : Fin 0 → Fin S8192x8x64.rank)
  reducesTo_S8192x8x64_S_d0_1_2 : S8192x8x64.ReducesTo [0, 1, 2] S_
  bcast_S_S8192x64 : S_.BroadcastsInDim S8192x64 (![] : Fin 0 → Fin S8192x64.rank)
  reducesTo_S8192x64_S_d0_1 : S8192x64.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg4 : FVec F S8192x8x128 .f32) (main_arg5 : FVec F S8192x1024 .f32) (main_v14 : IVec S_ 1) (main_v15 : FVec F S8192x64 .f32) (main_cst_5 : FVec F S_ .f32) : IVec S_ 1 :=
  let main_v16 : FVec F S8192x64 .f32 := broadcastInDim S8192x64 ![] bcast_S_S8192x64 main_cst_5
  let main_v17 : IVec S8192x64 1 := cmpf .olt main_v15 main_v16
  let main_c_6 : IVec S_ 1 := constantI S_ 1 1#1
  let main_v18 : IVec S_ 1 := (fun x v => Host.reduce IntOp.andi x v reducesTo_S8192x64_S_d0_1 h_S_) main_v17 main_c_6
  let main_v19 : IVec S_ 1 := andi main_v14 main_v18
  let main_v20 : FVec F S8192x8x128 .f32 := Host.absf main_arg4
  let main_cst_7 : FVec F S_ .f32 := constant S_ .f32 0x7F800000#32
  let main_v21 : FVec F S8192x8x128 .f32 := broadcastInDim S8192x8x128 ![] bcast_S_S8192x8x128 main_cst_7
  let main_v22 : IVec S8192x8x128 1 := cmpf .olt main_v20 main_v21
  let main_c_8 : IVec S_ 1 := constantI S_ 1 1#1
  let main_v23 : IVec S_ 1 := (fun x v => Host.reduce IntOp.andi x v reducesTo_S8192x8x128_S_d0_1_2 h_S_) main_v22 main_c_8
  let main_v24 : IVec S_ 1 := andi main_v19 main_v23
  let main_v25 : FVec F S8192x1024 .f32 := Host.absf main_arg5
  let main_cst_9 : FVec F S_ .f32 := constant S_ .f32 0x7F800000#32
  let main_v26 : FVec F S8192x1024 .f32 := broadcastInDim S8192x1024 ![] bcast_S_S8192x1024 main_cst_9
  let main_v27 : IVec S8192x1024 1 := cmpf .olt main_v25 main_v26
  let main_c_10 : IVec S_ 1 := constantI S_ 1 1#1
  let main_v28 : IVec S_ 1 := (fun x v => Host.reduce IntOp.andi x v reducesTo_S8192x1024_S_d0_1 h_S_) main_v27 main_c_10
  let main_v29 : IVec S_ 1 := andi main_v24 main_v28
  main_v29

def fn {F : FTy → Type} [FloatOps F] (main_arg0 : FVec F S8192x8x128 .f32) (main_arg1 : FVec F S8192x8x64 .f32) (main_arg2 : FVec F S8192x8x128 .f32) (main_arg3 : FVec F S8192x64 .f32) (main_arg4 : FVec F S8192x8x128 .f32) (main_arg5 : FVec F S8192x1024 .f32) : IVec S_ 1 :=
  let main_v0 : FVec F S8192x8x128 .f32 := Host.absf main_arg0
  let main_cst : FVec F S_ .f32 := constant S_ .f32 0x7F800000#32
  let main_v1 : FVec F S8192x8x128 .f32 := broadcastInDim S8192x8x128 ![] bcast_S_S8192x8x128 main_cst
  let main_v2 : IVec S8192x8x128 1 := cmpf .olt main_v0 main_v1
  let main_c : IVec S_ 1 := constantI S_ 1 1#1
  let main_v3 : IVec S_ 1 := (fun x v => Host.reduce IntOp.andi x v reducesTo_S8192x8x128_S_d0_1_2 h_S_) main_v2 main_c
  let main_c_0 : IVec S_ 1 := constantI S_ 1 1#1
  let main_v4 : IVec S_ 1 := andi main_c_0 main_v3
  let main_v5 : FVec F S8192x8x64 .f32 := Host.absf main_arg1
  let main_cst_1 : FVec F S_ .f32 := constant S_ .f32 0x7F800000#32
  let main_v6 : FVec F S8192x8x64 .f32 := broadcastInDim S8192x8x64 ![] bcast_S_S8192x8x64 main_cst_1
  let main_v7 : IVec S8192x8x64 1 := cmpf .olt main_v5 main_v6
  let main_c_2 : IVec S_ 1 := constantI S_ 1 1#1
  let main_v8 : IVec S_ 1 := (fun x v => Host.reduce IntOp.andi x v reducesTo_S8192x8x64_S_d0_1_2 h_S_) main_v7 main_c_2
  let main_v9 : IVec S_ 1 := andi main_v4 main_v8
  let main_v10 : FVec F S8192x8x128 .f32 := Host.absf main_arg2
  let main_cst_3 : FVec F S_ .f32 := constant S_ .f32 0x7F800000#32
  let main_v11 : FVec F S8192x8x128 .f32 := broadcastInDim S8192x8x128 ![] bcast_S_S8192x8x128 main_cst_3
  let main_v12 : IVec S8192x8x128 1 := cmpf .olt main_v10 main_v11
  let main_c_4 : IVec S_ 1 := constantI S_ 1 1#1
  let main_v13 : IVec S_ 1 := (fun x v => Host.reduce IntOp.andi x v reducesTo_S8192x8x128_S_d0_1_2 h_S_) main_v12 main_c_4
  let main_v14 : IVec S_ 1 := andi main_v9 main_v13
  let main_v15 : FVec F S8192x64 .f32 := Host.absf main_arg3
  let main_cst_5 : FVec F S_ .f32 := constant S_ .f32 0x7F800000#32
  fn_part1 (F := F) main_arg4 main_arg5 main_v14 main_v15 main_cst_5
-- ==== Pre_finite_flash_fwd.lean ====
abbrev S8192x8x128 : Shape := ⟨3, ![8192, 8, 128]⟩
abbrev S8192x8x64 : Shape := ⟨3, ![8192, 8, 64]⟩
abbrev S8192x64 : Shape := ⟨2, ![8192, 64]⟩
abbrev S_ : Shape := ⟨0, ![]⟩

class Facts : Prop where
  bcast_S_S8192x8x128 : S_.BroadcastsInDim S8192x8x128 (![] : Fin 0 → Fin S8192x8x128.rank)
  reducesTo_S8192x8x128_S_d0_1_2 : S8192x8x128.ReducesTo [0, 1, 2] S_
  h_S_ : 0 < S_.numel
  bcast_S_S8192x8x64 : S_.BroadcastsInDim S8192x8x64 (![] : Fin 0 → Fin S8192x8x64.rank)
  reducesTo_S8192x8x64_S_d0_1_2 : S8192x8x64.ReducesTo [0, 1, 2] S_
  bcast_S_S8192x64 : S_.BroadcastsInDim S8192x64 (![] : Fin 0 → Fin S8192x64.rank)
  reducesTo_S8192x64_S_d0_1 : S8192x64.ReducesTo [0, 1] S_

variable [Facts]

def fn_part1 {F : FTy → Type} [FloatOps F] (main_arg4 : FVec F S8192x8x128 .f32) (main_v14 : IVec S_ 1) (main_v15 : FVec F S8192x64 .f32) (main_cst_5 : FVec F S_ .f32) : IVec S_ 1 :=
  let main_v16 : FVec F S8192x64 .f32 := broadcastInDim S8192x64 ![] bcast_S_S8192x64 main_cst_5
  let main_v17 : IVec S8192x64 1 := cmpf .olt main_v15 main_v16
  let main_c_6 : IVec S_ 1 := constantI S_ 1 1#1
  let main_v18 : IVec S_ 1 := (fun x v => Host.reduce IntOp.andi x v reducesTo_S8192x64_S_d0_1 h_S_) main_v17 main_c_6
  let main_v19 : IVec S_ 1 := andi main_v14 main_v18
  let main_v20 : FVec F S8192x8x128 .f32 := Host.absf main_arg4
  let main_cst_7 : FVec F S_ .f32 := constant S_ .f32 0x7F800000#32
  let main_v21 : FVec F S8192x8x128 .f32 := broadcastInDim S8192x8x128 ![] bcast_S_S8192x8x128 main_cst_7
  let main_v22 : IVec S8192x8x128 1 := cmpf .olt main_v20 main_v21
  let main_c_8 : IVec S_ 1 := constantI S_ 1 1#1
  let main_v23 : IVec S_ 1 := (fun x v => Host.reduce IntOp.andi x v reducesTo_S8192x8x128_S_d0_1_2 h_S_) main_v22 main_c_8
  let main_v24 : IVec S_ 1 := andi main_v19 main_v23
  main_v24

def fn {F : FTy → Type} [FloatOps F] (main_arg0 : FVec F S8192x8x128 .f32) (main_arg1 : FVec F S8192x8x64 .f32) (main_arg2 : FVec F S8192x8x128 .f32) (main_arg3 : FVec F S8192x64 .f32) (main_arg4 : FVec F S8192x8x128 .f32) : IVec S_ 1 :=
  let main_v0 : FVec F S8192x8x128 .f32 := Host.absf main_arg0
  let main_cst : FVec F S_ .f32 := constant S_ .f32 0x7F800000#32
  let main_v1 : FVec F S8192x8x128 .f32 := broadcastInDim S8192x8x128 ![] bcast_S_S8192x8x128 main_cst
  let main_v2 : IVec S8192x8x128 1 := cmpf .olt main_v0 main_v1
  let main_c : IVec S_ 1 := constantI S_ 1 1#1
  let main_v3 : IVec S_ 1 := (fun x v => Host.reduce IntOp.andi x v reducesTo_S8192x8x128_S_d0_1_2 h_S_) main_v2 main_c
  let main_c_0 : IVec S_ 1 := constantI S_ 1 1#1
  let main_v4 : IVec S_ 1 := andi main_c_0 main_v3
  let main_v5 : FVec F S8192x8x64 .f32 := Host.absf main_arg1
  let main_cst_1 : FVec F S_ .f32 := constant S_ .f32 0x7F800000#32
  let main_v6 : FVec F S8192x8x64 .f32 := broadcastInDim S8192x8x64 ![] bcast_S_S8192x8x64 main_cst_1
  let main_v7 : IVec S8192x8x64 1 := cmpf .olt main_v5 main_v6
  let main_c_2 : IVec S_ 1 := constantI S_ 1 1#1
  let main_v8 : IVec S_ 1 := (fun x v => Host.reduce IntOp.andi x v reducesTo_S8192x8x64_S_d0_1_2 h_S_) main_v7 main_c_2
  let main_v9 : IVec S_ 1 := andi main_v4 main_v8
  let main_v10 : FVec F S8192x8x128 .f32 := Host.absf main_arg2
  let main_cst_3 : FVec F S_ .f32 := constant S_ .f32 0x7F800000#32
  let main_v11 : FVec F S8192x8x128 .f32 := broadcastInDim S8192x8x128 ![] bcast_S_S8192x8x128 main_cst_3
  let main_v12 : IVec S8192x8x128 1 := cmpf .olt main_v10 main_v11
  let main_c_4 : IVec S_ 1 := constantI S_ 1 1#1
  let main_v13 : IVec S_ 1 := (fun x v => Host.reduce IntOp.andi x v reducesTo_S8192x8x128_S_d0_1_2 h_S_) main_v12 main_c_4
  let main_v14 : IVec S_ 1 := andi main_v9 main_v13
  let main_v15 : FVec F S8192x64 .f32 := Host.absf main_arg3
  let main_cst_5 : FVec F S_ .f32 := constant S_ .f32 0x7F800000#32
  fn_part1 (F := F) main_arg4 main_v14 main_v15 main_cst_5
-- ==== Pre_finite_in_dgrad_ln_in_bwd.lean ====
abbrev S8192x2048 : Shape := ⟨2, ![8192, 2048]⟩
abbrev S8192x3136 : Shape := ⟨2, ![8192, 3136]⟩
abbrev S2048x3136 : Shape := ⟨2, ![2048, 3136]⟩
abbrev S1x2048 : Shape := ⟨2, ![1, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x3136 : S_.BroadcastsInDim S8192x3136 (![] : Fin 0 → Fin S8192x3136.rank)
  reducesTo_S8192x3136_S_d0_1 : S8192x3136.ReducesTo [0, 1] S_
  bcast_S_S2048x3136 : S_.BroadcastsInDim S2048x3136 (![] : Fin 0 → Fin S2048x3136.rank)
  reducesTo_S2048x3136_S_d0_1 : S2048x3136.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg4 : FVec F S1x2048 .f32) (main_v14 : IVec S_ 1) (main_v15 : FVec F S2048x3136 .f32) (main_cst_5 : FVec F S_ .f32) : IVec S_ 1 :=
  let main_v16 : FVec F S2048x3136 .f32 := broadcastInDim S2048x3136 ![] bcast_S_S2048x3136 main_cst_5
  let main_v17 : IVec S2048x3136 1 := cmpf .olt main_v15 main_v16
  let main_c_6 : IVec S_ 1 := constantI S_ 1 1#1
  let main_v18 : IVec S_ 1 := (fun x v => Host.reduce IntOp.andi x v reducesTo_S2048x3136_S_d0_1 h_S_) main_v17 main_c_6
  let main_v19 : IVec S_ 1 := andi main_v14 main_v18
  let main_v20 : FVec F S1x2048 .f32 := Host.absf main_arg4
  let main_cst_7 : FVec F S_ .f32 := constant S_ .f32 0x7F800000#32
  let main_v21 : FVec F S1x2048 .f32 := broadcastInDim S1x2048 ![] bcast_S_S1x2048 main_cst_7
  let main_v22 : IVec S1x2048 1 := cmpf .olt main_v20 main_v21
  let main_c_8 : IVec S_ 1 := constantI S_ 1 1#1
  let main_v23 : IVec S_ 1 := (fun x v => Host.reduce IntOp.andi x v reducesTo_S1x2048_S_d0_1 h_S_) main_v22 main_c_8
  let main_v24 : IVec S_ 1 := andi main_v19 main_v23
  main_v24

def fn {F : FTy → Type} [FloatOps F] (main_arg0 : FVec F S8192x2048 .f32) (main_arg1 : FVec F S8192x3136 .f32) (main_arg2 : FVec F S8192x2048 .f32) (main_arg3 : FVec F S2048x3136 .f32) (main_arg4 : FVec F S1x2048 .f32) (main_arg5 : FVec F S1x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_c_0 : IVec S_ 1 := constantI S_ 1 1#1
  let main_v4 : IVec S_ 1 := andi main_c_0 main_v3
  let main_v5 : FVec F S8192x3136 .f32 := Host.absf main_arg1
  let main_cst_1 : FVec F S_ .f32 := constant S_ .f32 0x7F800000#32
  let main_v6 : FVec F S8192x3136 .f32 := broadcastInDim S8192x3136 ![] bcast_S_S8192x3136 main_cst_1
  let main_v7 : IVec S8192x3136 1 := cmpf .olt main_v5 main_v6
  let main_c_2 : IVec S_ 1 := constantI S_ 1 1#1
  let main_v8 : IVec S_ 1 := (fun x v => Host.reduce IntOp.andi x v reducesTo_S8192x3136_S_d0_1 h_S_) main_v7 main_c_2
  let main_v9 : IVec S_ 1 := andi main_v4 main_v8
  let main_v10 : FVec F S8192x2048 .f32 := Host.absf main_arg2
  let main_cst_3 : FVec F S_ .f32 := constant S_ .f32 0x7F800000#32
  let main_v11 : FVec F S8192x2048 .f32 := broadcastInDim S8192x2048 ![] bcast_S_S8192x2048 main_cst_3
  let main_v12 : IVec S8192x2048 1 := cmpf .olt main_v10 main_v11
  let main_c_4 : IVec S_ 1 := constantI S_ 1 1#1
  let main_v13 : IVec S_ 1 := (fun x v => Host.reduce IntOp.andi x v reducesTo_S8192x2048_S_d0_1 h_S_) main_v12 main_c_4
  let main_v14 : IVec S_ 1 := andi main_v9 main_v13
  let main_v15 : FVec F S2048x3136 .f32 := Host.absf main_arg3
  let main_cst_5 : FVec F S_ .f32 := constant S_ .f32 0x7F800000#32
  fn_part1 (F := F) main_arg4 main_v14 main_v15 main_cst_5
-- ==== Pre_finite_kv_dgrad_rms_bwd.lean ====
abbrev S8192x8x128 : Shape := ⟨3, ![8192, 8, 128]⟩
abbrev S512x1024 : Shape := ⟨2, ![512, 1024]⟩
abbrev S8192x3136 : Shape := ⟨2, ![8192, 3136]⟩
abbrev S1x512 : Shape := ⟨2, ![1, 512]⟩
abbrev S_ : Shape := ⟨0, ![]⟩

class Facts : Prop where
  bcast_S_S8192x8x128 : S_.BroadcastsInDim S8192x8x128 (![] : Fin 0 → Fin S8192x8x128.rank)
  reducesTo_S8192x8x128_S_d0_1_2 : S8192x8x128.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S8192x3136 : S_.BroadcastsInDim S8192x3136 (![] : Fin 0 → Fin S8192x3136.rank)
  reducesTo_S8192x3136_S_d0_1 : S8192x3136.ReducesTo [0, 1] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_arg4 : FVec F S8192x3136 .f32) (main_arg5 : FVec F S1x512 .f32) (main_v14 : IVec S_ 1) (main_v15 : FVec F S512x1024 .f32) (main_cst_5 : FVec F S_ .f32) : IVec S_ 1 :=
  let main_v16 : FVec F S512x1024 .f32 := broadcastInDim S512x1024 ![] bcast_S_S512x1024 main_cst_5
  let main_v17 : IVec S512x1024 1 := cmpf .olt main_v15 main_v16
  let main_c_6 : IVec S_ 1 := constantI S_ 1 1#1
  let main_v18 : IVec S_ 1 := (fun x v => Host.reduce IntOp.andi x v reducesTo_S512x1024_S_d0_1 h_S_) main_v17 main_c_6
  let main_v19 : IVec S_ 1 := andi main_v14 main_v18
  let main_v20 : FVec F S8192x3136 .f32 := Host.absf main_arg4
  let main_cst_7 : FVec F S_ .f32 := constant S_ .f32 0x7F800000#32
  let main_v21 : FVec F S8192x3136 .f32 := broadcastInDim S8192x3136 ![] bcast_S_S8192x3136 main_cst_7
  let main_v22 : IVec S8192x3136 1 := cmpf .olt main_v20 main_v21
  let main_c_8 : IVec S_ 1 := constantI S_ 1 1#1
  let main_v23 : IVec S_ 1 := (fun x v => Host.reduce IntOp.andi x v reducesTo_S8192x3136_S_d0_1 h_S_) main_v22 main_c_8
  let main_v24 : IVec S_ 1 := andi main_v19 main_v23
  let main_v25 : FVec F S1x512 .f32 := Host.absf main_arg5
  let main_cst_9 : FVec F S_ .f32 := constant S_ .f32 0x7F800000#32
  let main_v26 : FVec F S1x512 .f32 := broadcastInDim S1x512 ![] bcast_S_S1x512 main_cst_9
  let main_v27 : IVec S1x512 1 := cmpf .olt main_v25 main_v26
  let main_c_10 : IVec S_ 1 := constantI S_ 1 1#1
  let main_v28 : IVec S_ 1 := (fun x v => Host.reduce IntOp.andi x v reducesTo_S1x512_S_d0_1 h_S_) main_v27 main_c_10
  let main_v29 : IVec S_ 1 := andi main_v24 main_v28
  main_v29

def fn {F : FTy → Type} [FloatOps F] (main_arg0 : FVec F S8192x8x128 .f32) (main_arg1 : FVec F S8192x8x128 .f32) (main_arg2 : FVec F S512x1024 .f32) (main_arg3 : FVec F S512x1024 .f32) (main_arg4 : FVec F S8192x3136 .f32) (main_arg5 : FVec F S1x512 .f32) (main_arg6 : FVec F S8192x3136 .f32) : IVec S_ 1 :=
  let main_v0 : FVec F S8192x8x128 .f32 := Host.absf main_arg0
  let main_cst : FVec F S_ .f32 := constant S_ .f32 0x7F800000#32
  let main_v1 : FVec F S8192x8x128 .f32 := broadcastInDim S8192x8x128 ![] bcast_S_S8192x8x128 main_cst
  let main_v2 : IVec S8192x8x128 1 := cmpf .olt main_v0 main_v1
  let main_c : IVec S_ 1 := constantI S_ 1 1#1
  let main_v3 : IVec S_ 1 := (fun x v => Host.reduce IntOp.andi x v reducesTo_S8192x8x128_S_d0_1_2 h_S_) main_v2 main_c
  let main_c_0 : IVec S_ 1 := constantI S_ 1 1#1
  let main_v4 : IVec S_ 1 := andi main_c_0 main_v3
  let main_v5 : FVec F S8192x8x128 .f32 := Host.absf main_arg1
  let main_cst_1 : FVec F S_ .f32 := constant S_ .f32 0x7F800000#32
  let main_v6 : FVec F S8192x8x128 .f32 := broadcastInDim S8192x8x128 ![] bcast_S_S8192x8x128 main_cst_1
  let main_v7 : IVec S8192x8x128 1 := cmpf .olt main_v5 main_v6
  let main_c_2 : IVec S_ 1 := constantI S_ 1 1#1
  let main_v8 : IVec S_ 1 := (fun x v => Host.reduce IntOp.andi x v reducesTo_S8192x8x128_S_d0_1_2 h_S_) main_v7 main_c_2
  let main_v9 : IVec S_ 1 := andi main_v4 main_v8
  let main_v10 : FVec F S512x1024 .f32 := Host.absf main_arg2
  let main_cst_3 : FVec F S_ .f32 := constant S_ .f32 0x7F800000#32
  let main_v11 : FVec F S512x1024 .f32 := broadcastInDim S512x1024 ![] bcast_S_S512x1024 main_cst_3
  let main_v12 : IVec S512x1024 1 := cmpf .olt main_v10 main_v11
  let main_c_4 : IVec S_ 1 := constantI S_ 1 1#1
  let main_v13 : IVec S_ 1 := (fun x v => Host.reduce IntOp.andi x v reducesTo_S512x1024_S_d0_1 h_S_) main_v12 main_c_4
  let main_v14 : IVec S_ 1 := andi main_v9 main_v13
  let main_v15 : FVec F S512x1024 .f32 := Host.absf main_arg3
  let main_cst_5 : FVec F S_ .f32 := constant S_ .f32 0x7F800000#32
  fn_part1 (F := F) main_arg4 main_arg5 main_v14 main_v15 main_cst_5
-- ==== Pre_finite_q_dgrad_rms_bwd.lean ====
abbrev S8192x8x192 : Shape := ⟨3, ![8192, 8, 192]⟩
abbrev S512x1536 : Shape := ⟨2, ![512, 1536]⟩
abbrev S8192x3136 : Shape := ⟨2, ![8192, 3136]⟩
abbrev S1x512 : Shape := ⟨2, ![1, 512]⟩
abbrev S_ : Shape := ⟨0, ![]⟩

class Facts : Prop where
  bcast_S_S8192x8x192 : S_.BroadcastsInDim S8192x8x192 (![] : Fin 0 → Fin S8192x8x192.rank)
  reducesTo_S8192x8x192_S_d0_1_2 : S8192x8x192.ReducesTo [0, 1, 2] S_
  h_S_ : 0 < S_.numel
  bcast_S_S512x1536 : S_.BroadcastsInDim S512x1536 (![] : Fin 0 → Fin S512x1536.rank)
  reducesTo_S512x1536_S_d0_1 : S512x1536.ReducesTo [0, 1] S_
  bcast_S_S8192x3136 : S_.BroadcastsInDim S8192x3136 (![] : Fin 0 → Fin S8192x3136.rank)
  reducesTo_S8192x3136_S_d0_1 : S8192x3136.ReducesTo [0, 1] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_v14 : IVec S_ 1) (main_v15 : FVec F S1x512 .f32) (main_cst_5 : FVec F S_ .f32) : IVec S_ 1 :=
  let main_v16 : FVec F S1x512 .f32 := broadcastInDim S1x512 ![] bcast_S_S1x512 main_cst_5
  let main_v17 : IVec S1x512 1 := cmpf .olt main_v15 main_v16
  let main_c_6 : IVec S_ 1 := constantI S_ 1 1#1
  let main_v18 : IVec S_ 1 := (fun x v => Host.reduce IntOp.andi x v reducesTo_S1x512_S_d0_1 h_S_) main_v17 main_c_6
  let main_v19 : IVec S_ 1 := andi main_v14 main_v18
  main_v19

def fn {F : FTy → Type} [FloatOps F] (main_arg0 : FVec F S8192x8x192 .f32) (main_arg1 : FVec F S512x1536 .f32) (main_arg2 : FVec F S8192x3136 .f32) (main_arg3 : FVec F S1x512 .f32) (main_arg4 : FVec F S8192x3136 .f32) : IVec S_ 1 :=
  let main_v0 : FVec F S8192x8x192 .f32 := Host.absf main_arg0
  let main_cst : FVec F S_ .f32 := constant S_ .f32 0x7F800000#32
  let main_v1 : FVec F S8192x8x192 .f32 := broadcastInDim S8192x8x192 ![] bcast_S_S8192x8x192 main_cst
  let main_v2 : IVec S8192x8x192 1 := cmpf .olt main_v0 main_v1
  let main_c : IVec S_ 1 := constantI S_ 1 1#1
  let main_v3 : IVec S_ 1 := (fun x v => Host.reduce IntOp.andi x v reducesTo_S8192x8x192_S_d0_1_2 h_S_) main_v2 main_c
  let main_c_0 : IVec S_ 1 := constantI S_ 1 1#1
  let main_v4 : IVec S_ 1 := andi main_c_0 main_v3
  let main_v5 : FVec F S512x1536 .f32 := Host.absf main_arg1
  let main_cst_1 : FVec F S_ .f32 := constant S_ .f32 0x7F800000#32
  let main_v6 : FVec F S512x1536 .f32 := broadcastInDim S512x1536 ![] bcast_S_S512x1536 main_cst_1
  let main_v7 : IVec S512x1536 1 := cmpf .olt main_v5 main_v6
  let main_c_2 : IVec S_ 1 := constantI S_ 1 1#1
  let main_v8 : IVec S_ 1 := (fun x v => Host.reduce IntOp.andi x v reducesTo_S512x1536_S_d0_1 h_S_) main_v7 main_c_2
  let main_v9 : IVec S_ 1 := andi main_v4 main_v8
  let main_v10 : FVec F S8192x3136 .f32 := Host.absf main_arg2
  let main_cst_3 : FVec F S_ .f32 := constant S_ .f32 0x7F800000#32
  let main_v11 : FVec F S8192x3136 .f32 := broadcastInDim S8192x3136 ![] bcast_S_S8192x3136 main_cst_3
  let main_v12 : IVec S8192x3136 1 := cmpf .olt main_v10 main_v11
  let main_c_4 : IVec S_ 1 := constantI S_ 1 1#1
  let main_v13 : IVec S_ 1 := (fun x v => Host.reduce IntOp.andi x v reducesTo_S8192x3136_S_d0_1 h_S_) main_v12 main_c_4
  let main_v14 : IVec S_ 1 := andi main_v9 main_v13
  let main_v15 : FVec F S1x512 .f32 := Host.absf main_arg3
  let main_cst_5 : FVec F S_ .f32 := constant S_ .f32 0x7F800000#32
  fn_part1 (F := F) main_v14 main_v15 main_cst_5
-- ==== GluBwd.lean ====
abbrev S8192x1024 : Shape := ⟨2, ![8192, 1024]⟩
abbrev S8192x3136 : Shape := ⟨2, ![8192, 3136]⟩
abbrev S8192x512 : Shape := ⟨2, ![8192, 512]⟩
abbrev S8192x64 : Shape := ⟨2, ![8192, 64]⟩
abbrev S_ : Shape := ⟨0, ![]⟩
abbrev S8192x3200 : Shape := ⟨2, ![8192, 3200]⟩
abbrev S512x1024 : Shape := ⟨2, ![512, 1024]⟩
abbrev S512x2048 : Shape := ⟨2, ![512, 2048]⟩

abbrev nBuf : Space → Nat
  | .hbm => 11
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x3136, .f32⟩
  | .hbm, ⟨2, _⟩ => ⟨S8192x1024, .f32⟩
  | .hbm, ⟨3, _⟩ => ⟨S8192x1024, .f32⟩
  | .hbm, ⟨4, _⟩ => ⟨S8192x512, .f32⟩
  | .hbm, ⟨5, _⟩ => ⟨S8192x512, .f32⟩
  | .hbm, ⟨6, _⟩ => ⟨S8192x64, .f32⟩
  | .hbm, ⟨7, _⟩ => ⟨S_, .f32⟩
  | .hbm, ⟨8, _⟩ => ⟨S8192x64, .f32⟩
  | .hbm, ⟨9, _⟩ => ⟨S8192x3200, .f32⟩
  | .hbm, ⟨10, _⟩ => ⟨S8192x3200, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x2048, .bf16⟩
  | .local _ .vmem, ⟨7, _⟩ => ⟨S512x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GluBwdRefIdeal.lean ====
abbrev S8192x1024 : Shape := ⟨2, ![8192, 1024]⟩
abbrev S8192x3136 : Shape := ⟨2, ![8192, 3136]⟩
abbrev S8192x2048 : Shape := ⟨2, ![8192, 2048]⟩
abbrev S_ : Shape := ⟨0, ![]⟩
abbrev S8192x1152 : Shape := ⟨2, ![8192, 1152]⟩
abbrev S8192x3200 : Shape := ⟨2, ![8192, 3200]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3136, .f32⟩
  | .hbm, ⟨2, _⟩ => ⟨S8192x2048, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x2048, .f32⟩
  | .hbm, ⟨22, _⟩ => ⟨S_, .f32⟩
  | .hbm, ⟨23, _⟩ => ⟨S8192x1152, .f32⟩
  | .hbm, ⟨24, _⟩ => ⟨S8192x3200, .f32⟩
  | .hbm, ⟨25, _⟩ => ⟨S8192x3200, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Ff2Dgrad.lean ====
abbrev S8192x8192 : Shape := ⟨2, ![8192, 8192]⟩
abbrev S8192x2048 : Shape := ⟨2, ![8192, 2048]⟩
abbrev S_ : Shape := ⟨0, ![]⟩
abbrev S1024x2048 : Shape := ⟨2, ![1024, 2048]⟩
abbrev S1024x1024 : Shape := ⟨2, ![1024, 1024]⟩

abbrev nBuf : Space → Nat
  | .hbm => 10
  | .vmem => 8
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S8192x2048, .bf16⟩
  | .hbm, ⟨4, _⟩ => ⟨S8192x2048, .bf16⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S8192x8192, .bf16⟩
  | .hbm, ⟨9, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Ff2DgradRefIdeal.lean ====
abbrev S8192x8192 : Shape := ⟨2, ![8192, 8192]⟩
abbrev S8192x2048 : Shape := ⟨2, ![8192, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .i1⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x2048, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== AttnDelta.lean ====
abbrev S8192x2048 : Shape := ⟨2, ![8192, 2048]⟩
abbrev S8x8192x128 : Shape := ⟨3, ![8, 8192, 128]⟩
abbrev S2048x128 : Shape := ⟨2, ![2048, 128]⟩
abbrev S1x2048x128 : Shape := ⟨3, ![1, 2048, 128]⟩
abbrev S2048 : Shape := ⟨1, ![2048]⟩
abbrev S2048x1 : Shape := ⟨2, ![2048, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .bf16⟩
  | .hbm, ⟨3, _⟩ => ⟨S8x8192x128, .f32⟩
  | .hbm, ⟨4, _⟩ => ⟨S8x8192x128, .bf16⟩
  | .local _ .vmem, ⟨0, _⟩ => ⟨S2048x128, .f32⟩
  | .local _ .vmem, ⟨1, _⟩ => ⟨S2048x128, .f32⟩
  | .local _ .vmem, ⟨2, _⟩ => ⟨S2048x128, .bf16⟩
  | .local _ .vmem, ⟨3, _⟩ => ⟨S2048x128, .bf16⟩
  | .local _ .vmem, ⟨4, _⟩ => ⟨S1x2048x128, .f32⟩
  | .local _ .vmem, ⟨5, _⟩ => ⟨S1x2048x128, .f32⟩
  | .local _ .vmem, ⟨6, _⟩ => ⟨S1x2048x128, .bf16⟩
  | .local _ .vmem, ⟨7, _⟩ => ⟨S1x2048x128, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttnDeltaRefIdeal.lean ====
abbrev S8192x2048 : Shape := ⟨2, ![8192, 2048]⟩
abbrev S8192x1024 : Shape := ⟨2, ![8192, 1024]⟩
abbrev S8192x8x128 : Shape := ⟨3, ![8192, 8, 128]⟩
abbrev S_ : Shape := ⟨0, ![]⟩
abbrev S8192x8 : Shape := ⟨2, ![8192, 8]⟩
abbrev S8x8192 : Shape := ⟨2, ![8, 8192]⟩
abbrev S8x8192x1 : Shape := ⟨3, ![8, 8192, 1]⟩
abbrev S8x8192x128 : Shape := ⟨3, ![8, 8192, 128]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x1024, .f32⟩
  | .hbm, ⟨3, _⟩ => ⟨S8192x8x128, .f32⟩
  | .hbm, ⟨4, _⟩ => ⟨S8192x1024, .f32⟩
  | .hbm, ⟨5, _⟩ => ⟨S8192x8x128, .f32⟩
  | .hbm, ⟨6, _⟩ => ⟨S8192x8x128, .f32⟩
  | .hbm, ⟨7, _⟩ => ⟨S_, .f32⟩
  | .hbm, ⟨8, _⟩ => ⟨S8192x8, .f32⟩
  | .hbm, ⟨9, _⟩ => ⟨S8x8192, .f32⟩
  | .hbm, ⟨10, _⟩ => ⟨S8x8192x1, .f32⟩
  | .hbm, ⟨11, _⟩ => ⟨S8x8192x128, .f32⟩
  | .hbm, ⟨12, _⟩ => ⟨S8x8192x128, .f32⟩
  | .hbm, ⟨13, _⟩ => ⟨S8x8192x128, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== DqUnrope.lean ====
abbrev S8192x8x192 : Shape := ⟨3, ![8192, 8, 192]⟩
abbrev S8192x32 : Shape := ⟨2, ![8192, 32]⟩
abbrev S8x8192x192 : Shape := ⟨3, ![8, 8192, 192]⟩
abbrev S_ : Shape := ⟨0, ![]⟩
abbrev S8x8192x256 : Shape := ⟨3, ![8, 8192, 256]⟩
abbrev S8192x64 : Shape := ⟨2, ![8192, 64]⟩
abbrev S8192x128 : Shape := ⟨2, ![8192, 128]⟩
abbrev S8192x2048 : Shape := ⟨2, ![8192, 2048]⟩
abbrev S1x2048x256 : Shape := ⟨3, ![1, 2048, 256]⟩
abbrev S2048x128 : Shape := ⟨2, ![2048, 128]⟩
abbrev S2048x256 : Shape := ⟨2, ![2048, 256]⟩

abbrev nBuf : Space → Nat
  | .hbm => 16
  | .vmem => 10
  | .smem => 0
  | _ => 0

abbrev bufTy : (tb : Table) → Fin (tcTables nBuf tb) → BufTy
  | .hbm, ⟨0, _⟩ => ⟨S8192x8x192, .f32⟩
  | .hbm, ⟨1, _⟩ => ⟨S8192x32, .f32⟩
  | .hbm, ⟨2, _⟩ => ⟨S8192x32, .f32⟩
  | .hbm, ⟨3, _⟩ => ⟨S8x8192x192, .f32⟩
  | .hbm, ⟨4, _⟩ => ⟨S_, .i32⟩
  | .hbm, ⟨5, _⟩ => ⟨S_, .f32⟩
  | .hbm, ⟨6, _⟩ => ⟨S8x8192x256, .f32⟩
  | .hbm, ⟨7, _⟩ => ⟨S_, .f32⟩
  | .hbm, ⟨8, _⟩ => ⟨S8192x32, .f32⟩
  | .hbm, ⟨9, _⟩ => ⟨S_, .f32⟩
  | .hbm, ⟨10, _⟩ => ⟨S8192x64, .f32⟩
  | .hbm, ⟨11, _⟩ => ⟨S8192x128, .f32⟩
  | .hbm, ⟨12, _⟩ => ⟨S8192x32, .f32⟩
  | .hbm, ⟨13, _⟩ => ⟨S8192x128, .f32⟩
  | .hbm, ⟨14, _⟩ => ⟨S8192x128, .f32⟩
  | .hbm, ⟨15, _⟩ => ⟨S8192x2048, .bf16⟩
  | .local _ .vmem, ⟨0, _⟩ => ⟨S1x2048x256, .f32⟩
  | .local _ .vmem, ⟨1, _⟩ => ⟨S1x2048x256, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x256, .bf16⟩
  | .local _ .vmem, ⟨9, _⟩ => ⟨S2048x256, .bf16⟩
  | _, _ => ⟨S8192x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DqUnropeRefIdeal.lean ====
abbrev S8192x8x192 : Shape := ⟨3, ![8192, 8, 192]⟩
abbrev S8192x32 : Shape := ⟨2, ![8192, 32]⟩
abbrev S_ : Shape := ⟨0, ![]⟩
abbrev S8192x8x128 : Shape := ⟨3, ![8192, 8, 128]⟩
abbrev S8192x8x64 : Shape := ⟨3, ![8192, 8, 64]⟩
abbrev S8192x1x32 : Shape := ⟨3, ![8192, 1, 32]⟩
abbrev S8192x8x32 : Shape := ⟨3, ![8192, 8, 32]⟩
abbrev S8192x8x256 : Shape := ⟨3, ![8192, 8, 256]⟩
abbrev S8192x2048 : Shape := ⟨2, ![8192, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8192x8x192, .f32⟩
  | .hbm, ⟨1, _⟩ => ⟨S8192x32, .f32⟩
  | .hbm, ⟨2, _⟩ => ⟨S8192x32, .f32⟩
  | .hbm, ⟨3, _⟩ => ⟨S_, .f32⟩
  | .hbm, ⟨4, _⟩ => ⟨S8192x8x192, .f32⟩
  | .hbm, ⟨5, _⟩ => ⟨S8192x8x128, .f32⟩
  | .hbm, ⟨6, _⟩ => ⟨S8192x8x64, .f32⟩
  | .hbm, ⟨7, _⟩ => ⟨S8192x1x32, .f32⟩
  | .hbm, ⟨8, _⟩ => ⟨S8192x1x32, .f32⟩
  | .hbm, ⟨9, _⟩ => ⟨S8192x8x32, .f32⟩
  | .hbm, ⟨10, _⟩ => ⟨S8192x8x32, .f32⟩
  | .hbm, ⟨11, _⟩ => ⟨S8192x8x32, .f32⟩
  | .hbm, ⟨12, _⟩ => ⟨S8192x8x32, .f32⟩
  | .hbm, ⟨13, _⟩ => ⟨S8192x8x32, .f32⟩
  | .hbm, ⟨14, _⟩ => ⟨S8192x8x32, .f32⟩
  | .hbm, ⟨15, _⟩ => ⟨S8192x8x32, .f32⟩
  | .hbm, ⟨16, _⟩ => ⟨S8192x8x32, .f32⟩
  | .hbm, ⟨17, _⟩ => ⟨S8192x8x32, .f32⟩
  | .hbm, ⟨18, _⟩ => ⟨S8192x8x32, .f32⟩
  | .hbm, ⟨19, _⟩ => ⟨S8192x8x32, .f32⟩
  | .hbm, ⟨20, _⟩ => ⟨S8192x8x32, .f32⟩
  | .hbm, ⟨21, _⟩ => ⟨S8192x8x64, .f32⟩
  | .hbm, ⟨22, _⟩ => ⟨S8192x8x192, .f32⟩
  | .hbm, ⟨23, _⟩ => ⟨S_, .f32⟩
  | .hbm, ⟨24, _⟩ => ⟨S8192x8x192, .f32⟩
  | .hbm, ⟨25, _⟩ => ⟨S8192x8x192, .f32⟩
  | .hbm, ⟨26, _⟩ => ⟨S_, .f32⟩
  | .hbm, ⟨27, _⟩ => ⟨S8192x8x192, .f32⟩
  | .hbm, ⟨28, _⟩ => ⟨S8192x8x192, .f32⟩
  | .hbm, ⟨29, _⟩ => ⟨S8192x8x128, .f32⟩
  | .hbm, ⟨30, _⟩ => ⟨S8192x8x64, .f32⟩
  | .hbm, ⟨31, _⟩ => ⟨S8192x8x32, .f32⟩
  | .hbm, ⟨32, _⟩ => ⟨S8192x8x32, .f32⟩
  | .hbm, ⟨33, _⟩ => ⟨S8192x8x32, .f32⟩
  | .hbm, ⟨34, _⟩ => ⟨S8192x8x32, .f32⟩
  | .hbm, ⟨35, _⟩ => ⟨S8192x8x32, .f32⟩
  | .hbm, ⟨36, _⟩ => ⟨S8192x8x32, .f32⟩
  | .hbm, ⟨37, _⟩ => ⟨S8192x8x32, .f32⟩
  | .hbm, ⟨38, _⟩ => ⟨S8192x8x32, .f32⟩
  | .hbm, ⟨39, _⟩ => ⟨S8192x8x32, .f32⟩
  | .hbm, ⟨40, _⟩ => ⟨S8192x8x32, .f32⟩
  | .hbm, ⟨41, _⟩ => ⟨S8192x8x32, .f32⟩
  | .hbm, ⟨42, _⟩ => ⟨S8192x8x32, .f32⟩
  | .hbm, ⟨43, _⟩ => ⟨S8192x8x32, .f32⟩
  | .hbm, ⟨44, _⟩ => ⟨S8192x8x64, .f32⟩
  | .hbm, ⟨45, _⟩ => ⟨S8192x8x192, .f32⟩
  | .hbm, ⟨46, _⟩ => ⟨S_, .i32⟩
  | .hbm, ⟨47, _⟩ => ⟨S_, .f32⟩
  | .hbm, ⟨48, _⟩ => ⟨S8192x8x256, .f32⟩
  | .hbm, ⟨49, _⟩ => ⟨S8192x2048, .f32⟩
  | .hbm, ⟨50, _⟩ => ⟨S8192x2048, .bf16⟩
  | _, _ => ⟨S8192x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_c : Ref sig .tc := ⟨.hbm, 46, rfl⟩
abbrev main_call0_v0 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩

abbrev nD : Nat := 1
abbrev τ : Topo := Topo.v7x

variable {F : FTy → Type} [FloatOps F]
-- ==== DkUnrope.lean ====
abbrev S8192x8x192 : Shape := ⟨3, ![8192, 8, 192]⟩
abbrev S8192x8x128 : Shape := ⟨3, ![8192, 8, 128]⟩
abbrev S8192x32 : Shape := ⟨2, ![8192, 32]⟩
abbrev S8192x3136 : Shape := ⟨2, ![8192, 3136]⟩
abbrev S8x8192x192 : Shape := ⟨3, ![8, 8192, 192]⟩
abbrev S_ : Shape := ⟨0, ![]⟩
abbrev S8x8192x256 : Shape := ⟨3, ![8, 8192, 256]⟩
abbrev S8x8192x128 : Shape := ⟨3, ![8, 8192, 128]⟩
abbrev S8192x64 : Shape := ⟨2, ![8192, 64]⟩
abbrev S8192x128 : Shape := ⟨2, ![8192, 128]⟩
abbrev S8192x1024 : Shape := ⟨2, ![8192, 1024]⟩
abbrev S8192x512 : Shape := ⟨2, ![8192, 512]⟩
abbrev S8192x3200 : Shape := ⟨2, ![8192, 3200]⟩
abbrev S8192x2048 : Shape := ⟨2, ![8192, 2048]⟩
abbrev S1x1024x256 : Shape := ⟨3, ![1, 1024, 256]⟩
abbrev S1x1024x128 : Shape := ⟨3, ![1, 1024, 128]⟩
abbrev S1024x128 : Shape := ⟨2, ![1024, 128]⟩
abbrev S1024x256 : Shape := ⟨2, ![1024, 256]⟩

abbrev nBuf : Space → Nat
  | .hbm => 29
  | .vmem => 15
  | .smem => 0
  | _ => 0

abbrev bufTy : (tb : Table) → Fin (tcTables nBuf tb) → BufTy
  | .hbm, ⟨0, _⟩ => ⟨S8192x8x192, .f32⟩
  | .hbm, ⟨1, _⟩ => ⟨S8192x8x128, .f32⟩
  | .hbm, ⟨2, _⟩ => ⟨S8192x32, .f32⟩
  | .hbm, ⟨3, _⟩ => ⟨S8192x32, .f32⟩
  | .hbm, ⟨4, _⟩ => ⟨S8192x3136, .f32⟩
  | .hbm, ⟨5, _⟩ => ⟨S8x8192x192, .f32⟩
  | .hbm, ⟨6, _⟩ => ⟨S_, .i32⟩
  | .hbm, ⟨7, _⟩ => ⟨S_, .f32⟩
  | .hbm, ⟨8, _⟩ => ⟨S8x8192x256, .f32⟩
  | .hbm, ⟨9, _⟩ => ⟨S8x8192x128, .f32⟩
  | .hbm, ⟨10, _⟩ => ⟨S_, .f32⟩
  | .hbm, ⟨11, _⟩ => ⟨S8192x32, .f32⟩
  | .hbm, ⟨12, _⟩ => ⟨S_, .f32⟩
  | .hbm, ⟨13, _⟩ => ⟨S8192x64, .f32⟩
  | .hbm, ⟨14, _⟩ => ⟨S8192x128, .f32⟩
  | .hbm, ⟨15, _⟩ => ⟨S8192x32, .f32⟩
  | .hbm, ⟨16, _⟩ => ⟨S8192x128, .f32⟩
  | .hbm, ⟨17, _⟩ => ⟨S8192x128, .f32⟩
  | .hbm, ⟨18, _⟩ => ⟨S8192x1024, .f32⟩
  | .hbm, ⟨19, _⟩ => ⟨S8192x1024, .f32⟩
  | .hbm, ⟨20, _⟩ => ⟨S8192x512, .f32⟩
  | .hbm, ⟨21, _⟩ => ⟨S8192x512, .f32⟩
  | .hbm, ⟨22, _⟩ => ⟨S8192x64, .f32⟩
  | .hbm, ⟨23, _⟩ => ⟨S_, .f32⟩
  | .hbm, ⟨24, _⟩ => ⟨S8192x64, .f32⟩
  | .hbm, ⟨25, _⟩ => ⟨S8192x3200, .f32⟩
  | .hbm, ⟨26, _⟩ => ⟨S8192x3200, .bf16⟩
  | .hbm, ⟨27, _⟩ => ⟨S8192x2048, .bf16⟩
  | .hbm, ⟨28, _⟩ => ⟨S8192x3200, .bf16⟩
  | .local _ .vmem, ⟨0, _⟩ => ⟨S1x1024x256, .f32⟩
  | .local _ .vmem, ⟨1, _⟩ => ⟨S1x1024x256, .f32⟩
  | .local _ .vmem, ⟨2, _⟩ => ⟨S1x1024x128, .f32⟩
  | .local _ .vmem, ⟨3, _⟩ => ⟨S1x1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x256, .bf16⟩
  | .local _ .vmem, ⟨11, _⟩ => ⟨S1024x256, .bf16⟩
  | .local _ .vmem, ⟨12, _⟩ => ⟨S1024x128, .bf16⟩
  | .local _ .vmem, ⟨13, _⟩ => ⟨S1024x128, .bf16⟩
  | .local _ .vmem, ⟨14, _⟩ => ⟨S1024x128, .f32⟩
  | _, _ => ⟨S8192x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_11 : BitVec 32 := 0#32
  let v19 : BitVec 1 := Scalar.cmpi .ne v18 c0_i32_11
  v19

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c24_i32 : BitVec 32 := 24#32
  let c0_i32 : BitVec 32 := 0#32
  ![arg0.toNat, c24_i32.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== DkUnropeRefIdeal.lean ====
abbrev S8192x8x192 : Shape := ⟨3, ![8192, 8, 192]⟩
abbrev S8192x8x128 : Shape := ⟨3, ![8192, 8, 128]⟩
abbrev S8192x32 : Shape := ⟨2, ![8192, 32]⟩
abbrev S8192x3136 : Shape := ⟨2, ![8192, 3136]⟩
abbrev S_ : Shape := ⟨0, ![]⟩
abbrev S8192x64 : Shape := ⟨2, ![8192, 64]⟩
abbrev S8192x1x64 : Shape := ⟨3, ![8192, 1, 64]⟩
abbrev S8192x8x64 : Shape := ⟨3, ![8192, 8, 64]⟩
abbrev S8192x8x256 : Shape := ⟨3, ![8192, 8, 256]⟩
abbrev S8192x2048 : Shape := ⟨2, ![8192, 2048]⟩
abbrev S8192x1024 : Shape := ⟨2, ![8192, 1024]⟩
abbrev S8192x3200 : Shape := ⟨2, ![8192, 3200]⟩

abbrev nBuf : Space → Nat
  | .hbm => 50
  | .vmem => 0
  | .smem => 0
  | _ => 0

abbrev bufTy : (tb : Table) → Fin (tcTables nBuf tb) → BufTy
  | .hbm, ⟨0, _⟩ => ⟨S8192x8x192, .f32⟩
  | .hbm, ⟨1, _⟩ => ⟨S8192x8x128, .f32⟩
  | .hbm, ⟨2, _⟩ => ⟨S8192x32, .f32⟩
  | .hbm, ⟨3, _⟩ => ⟨S8192x32, .f32⟩
  | .hbm, ⟨4, _⟩ => ⟨S8192x3136, .f32⟩
  | .hbm, ⟨5, _⟩ => ⟨S_, .f32⟩
  | .hbm, ⟨6, _⟩ => ⟨S8192x8x128, .f32⟩
  | .hbm, ⟨7, _⟩ => ⟨S_, .f32⟩
  | .hbm, ⟨8, _⟩ => ⟨S8192x64, .f32⟩
  | .hbm, ⟨9, _⟩ => ⟨S8192x32, .f32⟩
  | .hbm, ⟨10, _⟩ => ⟨S8192x32, .f32⟩
  | .hbm, ⟨11, _⟩ => ⟨S8192x32, .f32⟩
  | .hbm, ⟨12, _⟩ => ⟨S8192x32, .f32⟩
  | .hbm, ⟨13, _⟩ => ⟨S8192x32, .f32⟩
  | .hbm, ⟨14, _⟩ => ⟨S8192x32, .f32⟩
  | .hbm, ⟨15, _⟩ => ⟨S8192x32, .f32⟩
  | .hbm, ⟨16, _⟩ => ⟨S8192x32, .f32⟩
  | .hbm, ⟨17, _⟩ => ⟨S8192x64, .f32⟩
  | .hbm, ⟨18, _⟩ => ⟨S8192x1x64, .f32⟩
  | .hbm, ⟨19, _⟩ => ⟨S8192x8x64, .f32⟩
  | .hbm, ⟨20, _⟩ => ⟨S8192x8x192, .f32⟩
  | .hbm, ⟨21, _⟩ => ⟨S_, .f32⟩
  | .hbm, ⟨22, _⟩ => ⟨S8192x8x192, .f32⟩
  | .hbm, ⟨23, _⟩ => ⟨S8192x8x192, .f32⟩
  | .hbm, ⟨24, _⟩ => ⟨S8192x8x128, .f32⟩
  | .hbm, ⟨25, _⟩ => ⟨S8192x8x64, .f32⟩
  | .hbm, ⟨26, _⟩ => ⟨S_, .f32⟩
  | .hbm, ⟨27, _⟩ => ⟨S8192x64, .f32⟩
  | .hbm, ⟨28, _⟩ => ⟨S8192x1x64, .f32⟩
  | .hbm, ⟨29, _⟩ => ⟨S_, .f32⟩
  | .hbm, ⟨30, _⟩ => ⟨S8192x64, .f32⟩
  | .hbm, ⟨31, _⟩ => ⟨S8192x32, .f32⟩
  | .hbm, ⟨32, _⟩ => ⟨S8192x32, .f32⟩
  | .hbm, ⟨33, _⟩ => ⟨S8192x32, .f32⟩
  | .hbm, ⟨34, _⟩ => ⟨S8192x32, .f32⟩
  | .hbm, ⟨35, _⟩ => ⟨S8192x32, .f32⟩
  | .hbm, ⟨36, _⟩ => ⟨S8192x32, .f32⟩
  | .hbm, ⟨37, _⟩ => ⟨S8192x32, .f32⟩
  | .hbm, ⟨38, _⟩ => ⟨S8192x32, .f32⟩
  | .hbm, ⟨39, _⟩ => ⟨S8192x32, .f32⟩
  | .hbm, ⟨40, _⟩ => ⟨S8192x64, .f32⟩
  | .hbm, ⟨41, _⟩ => ⟨S8192x8x256, .f32⟩
  | .hbm, ⟨42, _⟩ => ⟨S8192x2048, .f32⟩
  | .hbm, ⟨43, _⟩ => ⟨S8192x2048, .f32⟩
  | .hbm, ⟨44, _⟩ => ⟨S8192x1024, .f32⟩
  | .hbm, ⟨45, _⟩ => ⟨S_, .f32⟩
  | .hbm, ⟨46, _⟩ => ⟨S8192x64, .f32⟩
  | .hbm, ⟨47, _⟩ => ⟨S8192x3200, .f32⟩
  | .hbm, ⟨48, _⟩ => ⟨S8192x2048, .bf16⟩
  | .hbm, ⟨49, _⟩ => ⟨S8192x3200, .bf16⟩
  | _, _ => ⟨S8192x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== FlashBwd.lean ====
abbrev S8192x8x128 : Shape := ⟨3, ![8192, 8, 128]⟩
abbrev S8192x8x64 : Shape := ⟨3, ![8192, 8, 64]⟩
abbrev S8192x64 : Shape := ⟨2, ![8192, 64]⟩
abbrev S8192x1024 : Shape := ⟨2, ![8192, 1024]⟩
abbrev S_ : Shape := ⟨0, ![]⟩
abbrev S8x8192x64 : Shape := ⟨3, ![8, 8192, 64]⟩
abbrev S1x8192x64 : Shape := ⟨3, ![1, 8192, 64]⟩
abbrev S8x8192x128 : Shape := ⟨3, ![8, 8192, 128]⟩
abbrev S8x8192x256 : Shape := ⟨3, ![8, 8192, 256]⟩
abbrev S8x8192x8192 : Shape := ⟨3, ![8, 8192, 8192]⟩
abbrev S8192x8192x8 : Shape := ⟨3, ![8192, 8192, 8]⟩
abbrev S8x8192 : Shape := ⟨2, ![8, 8192]⟩
abbrev S8x8192x1 : Shape := ⟨3, ![8, 8192, 1]⟩
abbrev S1x1024x256 : Shape := ⟨3, ![1, 1024, 256]⟩
abbrev S1x1024x128 : Shape := ⟨3, ![1, 1024, 128]⟩
abbrev S1x8192x256 : Shape := ⟨3, ![1, 8192, 256]⟩
abbrev S1x8192x128 : Shape := ⟨3, ![1, 8192, 128]⟩
abbrev S1024x256 : Shape := ⟨2, ![1024, 256]⟩
abbrev S8192x256 : Shape := ⟨2, ![8192, 256]⟩
abbrev S8192x128 : Shape := ⟨2, ![8192, 128]⟩
abbrev S1024x128 : Shape := ⟨2, ![1024, 128]⟩
abbrev S1024x512 : Shape := ⟨2, ![1024, 512]⟩
abbrev S1x512x256 : Shape := ⟨3, ![1, 512, 256]⟩
abbrev S512x256 : Shape := ⟨2, ![512, 256]⟩
abbrev S1x512x128 : Shape := ⟨3, ![1, 512, 128]⟩
abbrev S512x128 : Shape := ⟨2, ![512, 128]⟩

abbrev nBuf : Space → Nat
  | .hbm => 65
  | .vmem => 19
  | .smem => 0
  | _ => 0

abbrev bufTy : (tb : Table) → Fin (tcTables nBuf tb) → BufTy
  | .hbm, ⟨0, _⟩ => ⟨S8192x8x128, .f32⟩
  | .hbm, ⟨1, _⟩ => ⟨S8192x8x64, .f32⟩
  | .hbm, ⟨2, _⟩ => ⟨S8192x8x128, .f32⟩
  | .hbm, ⟨3, _⟩ => ⟨S8192x64, .f32⟩
  | .hbm, ⟨4, _⟩ => ⟨S8192x8x128, .f32⟩
  | .hbm, ⟨5, _⟩ => ⟨S8192x1024, .f32⟩
  | .hbm, ⟨6, _⟩ => ⟨S_, .f32⟩
  | .hbm, ⟨7, _⟩ => ⟨S8x8192x64, .f32⟩
  | .hbm, ⟨8, _⟩ => ⟨S1x8192x64, .f32⟩
  | .hbm, ⟨9, _⟩ => ⟨S8x8192x64, .f32⟩
  | .hbm, ⟨10, _⟩ => ⟨S8x8192x128, .f32⟩
  | .hbm, ⟨11, _⟩ => ⟨S8x8192x64, .f32⟩
  | .hbm, ⟨12, _⟩ => ⟨S8x8192x256, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S8x8192x256, .f32⟩
  | .hbm, ⟨18, _⟩ => ⟨S8x8192x256, .f32⟩
  | .hbm, ⟨19, _⟩ => ⟨S8x8192x128, .f32⟩
  | .hbm, ⟨20, _⟩ => ⟨S8x8192x256, .f32⟩
  | .hbm, ⟨21, _⟩ => ⟨S8x8192x128, .f32⟩
  | .hbm, ⟨22, _⟩ => ⟨S_, .f32⟩
  | .hbm, ⟨23, _⟩ => ⟨S8x8192x128, .f32⟩
  | .hbm, ⟨24, _⟩ => ⟨S8x8192x256, .f32⟩
  | .hbm, ⟨25, _⟩ => ⟨S8x8192x256, .bf16⟩
  | .hbm, ⟨26, _⟩ => ⟨S8x8192x256, .bf16⟩
  | .hbm, ⟨27, _⟩ => ⟨S8x8192x256, .bf16⟩
  | .hbm, ⟨28, _⟩ => ⟨S8x8192x8192, .f32⟩
  | .hbm, ⟨29, _⟩ => ⟨S8192x8192x8, .f32⟩
  | .hbm, ⟨30, _⟩ => ⟨S8x8192x8192, .f32⟩
  | .hbm, ⟨31, _⟩ => ⟨S8x8192x8192, .f32⟩
  | .hbm, ⟨32, _⟩ => ⟨S_, .f32⟩
  | .hbm, ⟨33, _⟩ => ⟨S8x8192x8192, .f32⟩
  | .hbm, ⟨34, _⟩ => ⟨S8x8192x8192, .f32⟩
  | .hbm, ⟨35, _⟩ => ⟨S_, .f32⟩
  | .hbm, ⟨36, _⟩ => ⟨S8x8192, .f32⟩
  | .hbm, ⟨37, _⟩ => ⟨S8x8192x1, .f32⟩
  | .hbm, ⟨38, _⟩ => ⟨S8x8192x8192, .f32⟩
  | .hbm, ⟨39, _⟩ => ⟨S8x8192x8192, .f32⟩
  | .hbm, ⟨40, _⟩ => ⟨S8x8192x8192, .f32⟩
  | .hbm, ⟨41, _⟩ => ⟨S_, .f32⟩
  | .hbm, ⟨42, _⟩ => ⟨S8x8192, .f32⟩
  | .hbm, ⟨43, _⟩ => ⟨S8x8192x1, .f32⟩
  | .hbm, ⟨44, _⟩ => ⟨S8x8192x8192, .f32⟩
  | .hbm, ⟨45, _⟩ => ⟨S8x8192x8192, .f32⟩
  | .hbm, ⟨46, _⟩ => ⟨S8x8192x128, .f32⟩
  | .hbm, ⟨47, _⟩ => ⟨S8192x8x128, .f32⟩
  | .hbm, ⟨48, _⟩ => ⟨S8x8192x128, .f32⟩
  | .hbm, ⟨49, _⟩ => ⟨S8x8192x1, .f32⟩
  | .hbm, ⟨50, _⟩ => ⟨S8x8192x1, .f32⟩
  | .hbm, ⟨51, _⟩ => ⟨S_, .f32⟩
  | .hbm, ⟨52, _⟩ => ⟨S_, .f32⟩
  | .hbm, ⟨53, _⟩ => ⟨S8x8192x1, .f32⟩
  | .hbm, ⟨54, _⟩ => ⟨S8x8192x1, .f32⟩
  | .hbm, ⟨55, _⟩ => ⟨S8x8192x128, .f32⟩
  | .hbm, ⟨56, _⟩ => ⟨S8x8192x128, .f32⟩
  | .hbm, ⟨57, _⟩ => ⟨S_, .f32⟩
  | .hbm, ⟨58, _⟩ => ⟨S8x8192, .f32⟩
  | .hbm, ⟨59, _⟩ => ⟨S8x8192x1, .f32⟩
  | .hbm, ⟨60, _⟩ => ⟨S8x8192x128, .f32⟩
  | .hbm, ⟨61, _⟩ => ⟨S8x8192x128, .bf16⟩
  | .hbm, ⟨62, _⟩ => ⟨S8x8192x256, .f32⟩
  | .hbm, ⟨63, _⟩ => ⟨S8x8192x256, .f32⟩
  | .hbm, ⟨64, _⟩ => ⟨S8x8192x128, .f32⟩
  | .local _ .vmem, ⟨0, _⟩ => ⟨S1x1024x256, .bf16⟩
  | .local _ .vmem, ⟨1, _⟩ => ⟨S1x1024x256, .bf16⟩
  | .local _ .vmem, ⟨2, _⟩ => ⟨S1x1024x128, .bf16⟩
  | .local _ .vmem, ⟨3, _⟩ => ⟨S1x1024x128, .bf16⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | .local _ .vmem, ⟨8, _⟩ => ⟨S1x8192x256, .bf16⟩
  | .local _ .vmem, ⟨9, _⟩ => ⟨S1x8192x256, .bf16⟩
  | .local _ .vmem, ⟨10, _⟩ => ⟨S1x8192x256, .bf16⟩
  | .local _ .vmem, ⟨11, _⟩ => ⟨S1x8192x256, .bf16⟩
  | .local _ .vmem, ⟨12, _⟩ => ⟨S1x1024x256, .f32⟩
  | .local _ .vmem, ⟨13, _⟩ => ⟨S1x1024x256, .f32⟩
  | .local _ .vmem, ⟨14, _⟩ => ⟨S1x8192x256, .f32⟩
  | .local _ .vmem, ⟨15, _⟩ => ⟨S1x8192x256, .f32⟩
  | .local _ .vmem, ⟨16, _⟩ => ⟨S1x8192x128, .f32⟩
  | .local _ .vmem, ⟨17, _⟩ => ⟨S1x8192x128, .f32⟩
  | .local _ .vmem, ⟨18, _⟩ => ⟨S1024x256, .f32⟩
  | _, _ => ⟨S8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47_0 : Ref sig .tc := ⟨.hbm, 62, rfl⟩
abbrev main_v47_1 : Ref sig .tc := ⟨.hbm, 63, rfl⟩
abbrev main_v47_2 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def k0_mult1 : BitVec 32 :=
  let c0_i32_14 : BitVec 32 := 0#32
  let c512_i32 : BitVec 32 := 512#32
  let v17 : BitVec 32 := Scalar.muli c0_i32_14 c512_i32
  v17
def k0_off1 (c0_i32_14 : BitVec 32) : Fin 3 → Nat :=
  let c0_15 : Index := 0#32
  let c512_i32 : BitVec 32 := 512#32
  let v17 : BitVec 32 := Scalar.muli c0_i32_14 c512_i32
  let v18 : BitVec 32 := v17
  let v19 : Index := Scalar.indexCast v18
  let c0_16 : Index := 0#32
  ![0, v19.toNat, 0]
def k0_mult2 : BitVec 32 :=
  let c0_i32_14 : BitVec 32 := 0#32
  let c512_i32_18 : BitVec 32 := 512#32
  let v23 : BitVec 32 := Scalar.muli c0_i32_14 c512_i32_18
  v23
def k0_off2 (c0_i32_14 : BitVec 32) : Fin 3 → Nat :=
  let c0_19 : Index := 0#32
  let c512_i32_18 : BitVec 32 := 512#32
  let v23 : BitVec 32 := Scalar.muli c0_i32_14 c512_i32_18
  let v24 : BitVec 32 := v23
  let v25 : Index := Scalar.indexCast v24
  let c0_20 : Index := 0#32
  ![0, v25.toNat, 0]
def k0_mult3 : BitVec 32 :=
  let c0_i32_14 : BitVec 32 := 0#32
  let c512_i32_22 : BitVec 32 := 512#32
  let v34 : BitVec 32 := Scalar.muli c0_i32_14 c512_i32_22
  v34
def k0_off3 (c0_i32_14 : BitVec 32) : Fin 3 → Nat :=
  let c0_23 : Index := 0#32
  let c512_i32_22 : BitVec 32 := 512#32
  let v34 : BitVec 32 := Scalar.muli c0_i32_14 c512_i32_22
  let v35 : BitVec 32 := v34
  let v36 : Index := Scalar.indexCast v35
  let c0_24 : Index := 0#32
  ![0, v36.toNat, 0]
def k0_mult4 : BitVec 32 :=
  let c0_i32_14 : BitVec 32 := 0#32
  let c512_i32_28 : BitVec 32 := 512#32
  let v46 : BitVec 32 := Scalar.muli c0_i32_14 c512_i32_28
  v46
def k0_mult5 : BitVec 32 :=
  let c0_i32_14 : BitVec 32 := 0#32
  let c512_i32_36 : BitVec 32 := 512#32
  let v58 : BitVec 32 := Scalar.muli c0_i32_14 c512_i32_36
  v58
def k0_mult6 : BitVec 32 :=
  let c1_i32 : BitVec 32 := 1#32
  let c512_i32_42 : BitVec 32 := 512#32
  let v68 : BitVec 32 := Scalar.muli c1_i32 c512_i32_42
  v68
def k0_mult7 : BitVec 32 :=
  let c1_i32 : BitVec 32 := 1#32
  let c512_i32_46 : BitVec 32 := 512#32
  let v74 : BitVec 32 := Scalar.muli c1_i32 c512_i32_46
  v74
def k0_mult8 : BitVec 32 :=
  let c1_i32 : BitVec 32 := 1#32
  let c512_i32_50 : BitVec 32 := 512#32
  let v85 : BitVec 32 := Scalar.muli c1_i32 c512_i32_50
  v85
def k0_mult9 : BitVec 32 :=
  let c1_i32 : BitVec 32 := 1#32
  let c512_i32_56 : BitVec 32 := 512#32
  let v97 : BitVec 32 := Scalar.muli c1_i32 c512_i32_56
  v97
def k0_mult10 : BitVec 32 :=
  let c1_i32 : BitVec 32 := 1#32
  let c512_i32_64 : BitVec 32 := 512#32
  let v109 : BitVec 32 := Scalar.muli c1_i32 c512_i32_64
  v109
def k0_mult11 : BitVec 32 :=
  let c2_i32 : BitVec 32 := 2#32
  let c512_i32_70 : BitVec 32 := 512#32
  let v119 : BitVec 32 := Scalar.muli c2_i32 c512_i32_70
  v119
def k0_mult12 : BitVec 32 :=
  let c2_i32 : BitVec 32 := 2#32
  let c512_i32_74 : BitVec 32 := 512#32
  let v125 : BitVec 32 := Scalar.muli c2_i32 c512_i32_74
  v125
def k0_mult13 : BitVec 32 :=
  let c2_i32 : BitVec 32 := 2#32
  let c512_i32_78 : BitVec 32 := 512#32
  let v136 : BitVec 32 := Scalar.muli c2_i32 c512_i32_78
  v136
def k0_mult14 : BitVec 32 :=
  let c2_i32 : BitVec 32 := 2#32
  let c512_i32_84 : BitVec 32 := 512#32
  let v148 : BitVec 32 := Scalar.muli c2_i32 c512_i32_84
  v148
def k0_mult15 : BitVec 32 :=
  let c2_i32 : BitVec 32 := 2#32
  let c512_i32_92 : BitVec 32 := 512#32
  let v160 : BitVec 32 := Scalar.muli c2_i32 c512_i32_92
  v160
def k0_mult16 : BitVec 32 :=
  let c3_i32 : BitVec 32 := 3#32
  let c512_i32_98 : BitVec 32 := 512#32
  let v170 : BitVec 32 := Scalar.muli c3_i32 c512_i32_98
  v170
def k0_mult17 : BitVec 32 :=
  let c3_i32 : BitVec 32 := 3#32
  let c512_i32_102 : BitVec 32 := 512#32
  let v176 : BitVec 32 := Scalar.muli c3_i32 c512_i32_102
  v176
def k0_mult18 : BitVec 32 :=
  let c3_i32 : BitVec 32 := 3#32
  let c512_i32_106 : BitVec 32 := 512#32
  let v187 : BitVec 32 := Scalar.muli c3_i32 c512_i32_106
  v187
def k0_mult19 : BitVec 32 :=
  let c3_i32 : BitVec 32 := 3#32
  let c512_i32_112 : BitVec 32 := 512#32
  let v199 : BitVec 32 := Scalar.muli c3_i32 c512_i32_112
  v199
def k0_mult20 : BitVec 32 :=
  let c3_i32 : BitVec 32 := 3#32
  let c512_i32_120 : BitVec 32 := 512#32
  let v211 : BitVec 32 := Scalar.muli c3_i32 c512_i32_120
  v211
def k0_mult21 : BitVec 32 :=
  let c4_i32 : BitVec 32 := 4#32
  let c512_i32_126 : BitVec 32 := 512#32
  let v221 : BitVec 32 := Scalar.muli c4_i32 c512_i32_126
  v221
def k0_mult22 : BitVec 32 :=
  let c4_i32 : BitVec 32 := 4#32
  let c512_i32_130 : BitVec 32 := 512#32
  let v227 : BitVec 32 := Scalar.muli c4_i32 c512_i32_130
  v227
def k0_mult23 : BitVec 32 :=
  let c4_i32 : BitVec 32 := 4#32
  let c512_i32_134 : BitVec 32 := 512#32
  let v238 : BitVec 32 := Scalar.muli c4_i32 c512_i32_134
  v238
def k0_mult24 : BitVec 32 :=
  let c4_i32 : BitVec 32 := 4#32
  let c512_i32_140 : BitVec 32 := 512#32
  let v250 : BitVec 32 := Scalar.muli c4_i32 c512_i32_140
  v250
def k0_mult25 : BitVec 32 :=
  let c4_i32 : BitVec 32 := 4#32
  let c512_i32_148 : BitVec 32 := 512#32
  let v262 : BitVec 32 := Scalar.muli c4_i32 c512_i32_148
  v262
def k0_mult26 : BitVec 32 :=
  let c5_i32 : BitVec 32 := 5#32
  let c512_i32_154 : BitVec 32 := 512#32
  let v272 : BitVec 32 := Scalar.muli c5_i32 c512_i32_154
  v272
def k0_mult27 : BitVec 32 :=
  let c5_i32 : BitVec 32 := 5#32
  let c512_i32_158 : BitVec 32 := 512#32
  let v278 : BitVec 32 := Scalar.muli c5_i32 c512_i32_158
  v278
def k0_mult28 : BitVec 32 :=
  let c5_i32 : BitVec 32 := 5#32
  let c512_i32_162 : BitVec 32 := 512#32
  let v289 : BitVec 32 := Scalar.muli c5_i32 c512_i32_162
  v289
def k0_mult29 : BitVec 32 :=
  let c5_i32 : BitVec 32 := 5#32
  let c512_i32_168 : BitVec 32 := 512#32
  let v301 : BitVec 32 := Scalar.muli c5_i32 c512_i32_168
  v301
def k0_mult30 : BitVec 32 :=
  let c5_i32 : BitVec 32 := 5#32
  let c512_i32_176 : BitVec 32 := 512#32
  let v313 : BitVec 32 := Scalar.muli c5_i32 c512_i32_176
  v313
def k0_mult31 : BitVec 32 :=
  let c6_i32 : BitVec 32 := 6#32
  let c512_i32_182 : BitVec 32 := 512#32
  let v323 : BitVec 32 := Scalar.muli c6_i32 c512_i32_182
  v323
def k0_mult32 : BitVec 32 :=
  let c6_i32 : BitVec 32 := 6#32
  let c512_i32_186 : BitVec 32 := 512#32
  let v329 : BitVec 32 := Scalar.muli c6_i32 c512_i32_186
  v329
def k0_mult33 : BitVec 32 :=
  let c6_i32 : BitVec 32 := 6#32
  let c512_i32_190 : BitVec 32 := 512#32
  let v340 : BitVec 32 := Scalar.muli c6_i32 c512_i32_190
  v340
def k0_mult34 : BitVec 32 :=
  let c6_i32 : BitVec 32 := 6#32
  let c512_i32_196 : BitVec 32 := 512#32
  let v352 : BitVec 32 := Scalar.muli c6_i32 c512_i32_196
  v352
def k0_mult35 : BitVec 32 :=
  let c6_i32 : BitVec 32 := 6#32
  let c512_i32_204 : BitVec 32 := 512#32
  let v364 : BitVec 32 := Scalar.muli c6_i32 c512_i32_204
  v364
def k0_mult36 : BitVec 32 :=
  let c7_i32 : BitVec 32 := 7#32
  let c512_i32_210 : BitVec 32 := 512#32
  let v374 : BitVec 32 := Scalar.muli c7_i32 c512_i32_210
  v374
def k0_mult37 : BitVec 32 :=
  let c7_i32 : BitVec 32 := 7#32
  let c512_i32_214 : BitVec 32 := 512#32
  let v380 : BitVec 32 := Scalar.muli c7_i32 c512_i32_214
  v380
def k0_mult38 : BitVec 32 :=
  let c7_i32 : BitVec 32 := 7#32
  let c512_i32_218 : BitVec 32 := 512#32
  let v391 : BitVec 32 := Scalar.muli c7_i32 c512_i32_218
  v391
def k0_mult39 : BitVec 32 :=
  let c7_i32 : BitVec 32 := 7#32
  let c512_i32_224 : BitVec 32 := 512#32
  let v403 : BitVec 32 := Scalar.muli c7_i32 c512_i32_224
  v403
def k0_mult40 : BitVec 32 :=
  let c7_i32 : BitVec 32 := 7#32
  let c512_i32_232 : BitVec 32 := 512#32
  let v415 : BitVec 32 := Scalar.muli c7_i32 c512_i32_232
  v415
def k0_mult41 : BitVec 32 :=
  let c8_i32 : BitVec 32 := 8#32
  let c512_i32_238 : BitVec 32 := 512#32
  let v425 : BitVec 32 := Scalar.muli c8_i32 c512_i32_238
  v425
def k0_mult42 : BitVec 32 :=
  let c8_i32 : BitVec 32 := 8#32
  let c512_i32_242 : BitVec 32 := 512#32
  let v431 : BitVec 32 := Scalar.muli c8_i32 c512_i32_242
  v431
def k0_mult43 : BitVec 32 :=
  let c8_i32 : BitVec 32 := 8#32
  let c512_i32_246 : BitVec 32 := 512#32
  let v442 : BitVec 32 := Scalar.muli c8_i32 c512_i32_246
  v442
def k0_mult44 : BitVec 32 :=
  let c8_i32 : BitVec 32 := 8#32
  let c512_i32_252 : BitVec 32 := 512#32
  let v454 : BitVec 32 := Scalar.muli c8_i32 c512_i32_252
  v454
def k0_mult45 : BitVec 32 :=
  let c8_i32 : BitVec 32 := 8#32
  let c512_i32_260 : BitVec 32 := 512#32
  let v466 : BitVec 32 := Scalar.muli c8_i32 c512_i32_260
  v466
def k0_mult46 : BitVec 32 :=
  let c9_i32 : BitVec 32 := 9#32
  let c512_i32_266 : BitVec 32 := 512#32
  let v476 : BitVec 32 := Scalar.muli c9_i32 c512_i32_266
  v476
def k0_mult47 : BitVec 32 :=
  let c9_i32 : BitVec 32 := 9#32
  let c512_i32_270 : BitVec 32 := 512#32
  let v482 : BitVec 32 := Scalar.muli c9_i32 c512_i32_270
  v482
def k0_mult48 : BitVec 32 :=
  let c9_i32 : BitVec 32 := 9#32
  let c512_i32_274 : BitVec 32 := 512#32
  let v493 : BitVec 32 := Scalar.muli c9_i32 c512_i32_274
  v493
def k0_mult49 : BitVec 32 :=
  let c9_i32 : BitVec 32 := 9#32
  let c512_i32_280 : BitVec 32 := 512#32
  let v505 : BitVec 32 := Scalar.muli c9_i32 c512_i32_280
  v505
def k0_mult50 : BitVec 32 :=
  let c9_i32 : BitVec 32 := 9#32
  let c512_i32_288 : BitVec 32 := 512#32
  let v517 : BitVec 32 := Scalar.muli c9_i32 c512_i32_288
  v517
def k0_mult51 : BitVec 32 :=
  let c10_i32 : BitVec 32 := 10#32
  let c512_i32_294 : BitVec 32 := 512#32
  let v527 : BitVec 32 := Scalar.muli c10_i32 c512_i32_294
  v527
def k0_mult52 : BitVec 32 :=
  let c10_i32 : BitVec 32 := 10#32
  let c512_i32_298 : BitVec 32 := 512#32
  let v533 : BitVec 32 := Scalar.muli c10_i32 c512_i32_298
  v533
def k0_mult53 : BitVec 32 :=
  let c10_i32 : BitVec 32 := 10#32
  let c512_i32_302 : BitVec 32 := 512#32
  let v544 : BitVec 32 := Scalar.muli c10_i32 c512_i32_302
  v544
def k0_mult54 : BitVec 32 :=
  let c10_i32 : BitVec 32 := 10#32
  let c512_i32_308 : BitVec 32 := 512#32
  let v556 : BitVec 32 := Scalar.muli c10_i32 c512_i32_308
  v556
def k0_mult55 : BitVec 32 :=
  let c10_i32 : BitVec 32 := 10#32
  let c512_i32_316 : BitVec 32 := 512#32
  let v568 : BitVec 32 := Scalar.muli c10_i32 c512_i32_316
  v568
def k0_mult56 : BitVec 32 :=
  let c11_i32 : BitVec 32 := 11#32
  let c512_i32_322 : BitVec 32 := 512#32
  let v578 : BitVec 32 := Scalar.muli c11_i32 c512_i32_322
  v578
def k0_mult57 : BitVec 32 :=
  let c11_i32 : BitVec 32 := 11#32
  let c512_i32_326 : BitVec 32 := 512#32
  let v584 : BitVec 32 := Scalar.muli c11_i32 c512_i32_326
  v584
def k0_mult58 : BitVec 32 :=
  let c11_i32 : BitVec 32 := 11#32
  let c512_i32_330 : BitVec 32 := 512#32
  let v595 : BitVec 32 := Scalar.muli c11_i32 c512_i32_330
  v595
def k0_mult59 : BitVec 32 :=
  let c11_i32 : BitVec 32 := 11#32
  let c512_i32_336 : BitVec 32 := 512#32
  let v607 : BitVec 32 := Scalar.muli c11_i32 c512_i32_336
  v607
def k0_mult60 : BitVec 32 :=
  let c11_i32 : BitVec 32 := 11#32
  let c512_i32_344 : BitVec 32 := 512#32
  let v619 : BitVec 32 := Scalar.muli c11_i32 c512_i32_344
  v619
def k0_mult61 : BitVec 32 :=
  let c12_i32 : BitVec 32 := 12#32
  let c512_i32_350 : BitVec 32 := 512#32
  let v629 : BitVec 32 := Scalar.muli c12_i32 c512_i32_350
  v629
def k0_mult62 : BitVec 32 :=
  let c12_i32 : BitVec 32 := 12#32
  let c512_i32_354 : BitVec 32 := 512#32
  let v635 : BitVec 32 := Scalar.muli c12_i32 c512_i32_354
  v635
def k0_mult63 : BitVec 32 :=
  let c12_i32 : BitVec 32 := 12#32
  let c512_i32_358 : BitVec 32 := 512#32
  let v646 : BitVec 32 := Scalar.muli c12_i32 c512_i32_358
  v646
def k0_mult64 : BitVec 32 :=
  let c12_i32 : BitVec 32 := 12#32
  let c512_i32_364 : BitVec 32 := 512#32
  let v658 : BitVec 32 := Scalar.muli c12_i32 c512_i32_364
  v658
def k0_mult65 : BitVec 32 :=
  let c12_i32 : BitVec 32 := 12#32
  let c512_i32_372 : BitVec 32 := 512#32
  let v670 : BitVec 32 := Scalar.muli c12_i32 c512_i32_372
  v670
def k0_mult66 : BitVec 32 :=
  let c13_i32 : BitVec 32 := 13#32
  let c512_i32_378 : BitVec 32 := 512#32
  let v680 : BitVec 32 := Scalar.muli c13_i32 c512_i32_378
  v680
def k0_mult67 : BitVec 32 :=
  let c13_i32 : BitVec 32 := 13#32
  let c512_i32_382 : BitVec 32 := 512#32
  let v686 : BitVec 32 := Scalar.muli c13_i32 c512_i32_382
  v686
def k0_mult68 : BitVec 32 :=
  let c13_i32 : BitVec 32 := 13#32
  let c512_i32_386 : BitVec 32 := 512#32
  let v697 : BitVec 32 := Scalar.muli c13_i32 c512_i32_386
  v697
def k0_mult69 : BitVec 32 :=
  let c13_i32 : BitVec 32 := 13#32
  let c512_i32_392 : BitVec 32 := 512#32
  let v709 : BitVec 32 := Scalar.muli c13_i32 c512_i32_392
  v709
def k0_mult70 : BitVec 32 :=
  let c13_i32 : BitVec 32 := 13#32
  let c512_i32_400 : BitVec 32 := 512#32
  let v721 : BitVec 32 := Scalar.muli c13_i32 c512_i32_400
  v721
def k0_mult71 : BitVec 32 :=
  let c14_i32 : BitVec 32 := 14#32
  let c512_i32_406 : BitVec 32 := 512#32
  let v731 : BitVec 32 := Scalar.muli c14_i32 c512_i32_406
  v731
def k0_mult72 : BitVec 32 :=
  let c14_i32 : BitVec 32 := 14#32
  let c512_i32_410 : BitVec 32 := 512#32
  let v737 : BitVec 32 := Scalar.muli c14_i32 c512_i32_410
  v737
def k0_mult73 : BitVec 32 :=
  let c14_i32 : BitVec 32 := 14#32
  let c512_i32_414 : BitVec 32 := 512#32
  let v748 : BitVec 32 := Scalar.muli c14_i32 c512_i32_414
  v748
def k0_mult74 : BitVec 32 :=
  let c14_i32 : BitVec 32 := 14#32
  let c512_i32_420 : BitVec 32 := 512#32
  let v760 : BitVec 32 := Scalar.muli c14_i32 c512_i32_420
  v760
def k0_mult75 : BitVec 32 :=
  let c14_i32 : BitVec 32 := 14#32
  let c512_i32_428 : BitVec 32 := 512#32
  let v772 : BitVec 32 := Scalar.muli c14_i32 c512_i32_428
  v772
def k0_mult76 : BitVec 32 :=
  let c15_i32 : BitVec 32 := 15#32
  let c512_i32_434 : BitVec 32 := 512#32
  let v782 : BitVec 32 := Scalar.muli c15_i32 c512_i32_434
  v782
def k0_mult77 : BitVec 32 :=
  let c15_i32 : BitVec 32 := 15#32
  let c512_i32_438 : BitVec 32 := 512#32
  let v788 : BitVec 32 := Scalar.muli c15_i32 c512_i32_438
  v788
def k0_mult78 : BitVec 32 :=
  let c15_i32 : BitVec 32 := 15#32
  let c512_i32_442 : BitVec 32 := 512#32
  let v799 : BitVec 32 := Scalar.muli c15_i32 c512_i32_442
  v799
def k0_mult79 : BitVec 32 :=
  let c15_i32 : BitVec 32 := 15#32
  let c512_i32_448 : BitVec 32 := 512#32
  let v811 : BitVec 32 := Scalar.muli c15_i32 c512_i32_448
  v811
def k0_mult80 : BitVec 32 :=
  let c15_i32 : BitVec 32 := 15#32
  let c512_i32_456 : BitVec 32 := 512#32
  let v823 : BitVec 32 := Scalar.muli c15_i32 c512_i32_456
  v823
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8192x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8192x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8192x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FlashBwdRefIdeal.lean ====
abbrev S8192x8x128 : Shape := ⟨3, ![8192, 8, 128]⟩
abbrev S8192x8x64 : Shape := ⟨3, ![8192, 8, 64]⟩
abbrev S8192x64 : Shape := ⟨2, ![8192, 64]⟩
abbrev S8192x1024 : Shape := ⟨2, ![8192, 1024]⟩
abbrev S8192x1x64 : Shape := ⟨3, ![8192, 1, 64]⟩
abbrev S_ : Shape := ⟨0, ![]⟩
abbrev S8x8192x8192 : Shape := ⟨3, ![8, 8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8x8192x64 : Shape := ⟨3, ![8, 8192, 64]⟩
abbrev S8x8192x128 : Shape := ⟨3, ![8, 8192, 128]⟩
abbrev S8192x8x256 : Shape := ⟨3, ![8192, 8, 256]⟩
abbrev S8x8192x256 : Shape := ⟨3, ![8, 8192, 256]⟩

abbrev nBuf : Space → Nat
  | .hbm => 96
  | .vmem => 0
  | .smem => 0
  | _ => 0

abbrev bufTy : (tb : Table) → Fin (tcTables nBuf tb) → BufTy
  | .hbm, ⟨0, _⟩ => ⟨S8192x8x128, .f32⟩
  | .hbm, ⟨1, _⟩ => ⟨S8192x8x64, .f32⟩
  | .hbm, ⟨2, _⟩ => ⟨S8192x8x128, .f32⟩
  | .hbm, ⟨3, _⟩ => ⟨S8192x64, .f32⟩
  | .hbm, ⟨4, _⟩ => ⟨S8192x8x128, .f32⟩
  | .hbm, ⟨5, _⟩ => ⟨S8192x1024, .f32⟩
  | .hbm, ⟨6, _⟩ => ⟨S8192x1x64, .f32⟩
  | .hbm, ⟨7, _⟩ => ⟨S8192x8x64, .f32⟩
  | .hbm, ⟨8, _⟩ => ⟨S_, .f32⟩
  | .hbm, ⟨9, _⟩ => ⟨S8192x8x128, .f32⟩
  | .hbm, ⟨10, _⟩ => ⟨S8192x8x128, .f32⟩
  | .hbm, ⟨11, _⟩ => ⟨S_, .f32⟩
  | .hbm, ⟨12, _⟩ => ⟨S8192x8x64, .f32⟩
  | .hbm, ⟨13, _⟩ => ⟨S8192x8x64, .f32⟩
  | .hbm, ⟨14, _⟩ => ⟨S8x8192x8192, .f32⟩
  | .hbm, ⟨15, _⟩ => ⟨S8x8192x8192, .f32⟩
  | .hbm, ⟨16, _⟩ => ⟨S8x8192x8192, .f32⟩
  | .hbm, ⟨17, _⟩ => ⟨S_, .f32⟩
  | .hbm, ⟨18, _⟩ => ⟨S8x8192, .f32⟩
  | .hbm, ⟨19, _⟩ => ⟨S8x8192x1, .f32⟩
  | .hbm, ⟨20, _⟩ => ⟨S8x8192x8192, .f32⟩
  | .hbm, ⟨21, _⟩ => ⟨S8x8192x8192, .i1⟩
  | .hbm, ⟨22, _⟩ => ⟨S8x8192x8192, .f32⟩
  | .hbm, ⟨23, _⟩ => ⟨S_, .f32⟩
  | .hbm, ⟨24, _⟩ => ⟨S8x8192, .f32⟩
  | .hbm, ⟨25, _⟩ => ⟨S_, .f32⟩
  | .hbm, ⟨26, _⟩ => ⟨S8x8192, .f32⟩
  | .hbm, ⟨27, _⟩ => ⟨S8x8192, .f32⟩
  | .hbm, ⟨28, _⟩ => ⟨S_, .f32⟩
  | .hbm, ⟨29, _⟩ => ⟨S8x8192, .f32⟩
  | .hbm, ⟨30, _⟩ => ⟨S8x8192, .i1⟩
  | .hbm, ⟨31, _⟩ => ⟨S_, .f32⟩
  | .hbm, ⟨32, _⟩ => ⟨S8x8192, .f32⟩
  | .hbm, ⟨33, _⟩ => ⟨S8x8192, .i1⟩
  | .hbm, ⟨34, _⟩ => ⟨S_, .f32⟩
  | .hbm, ⟨35, _⟩ => ⟨S8x8192, .f32⟩
  | .hbm, ⟨36, _⟩ => ⟨S_, .f32⟩
  | .hbm, ⟨37, _⟩ => ⟨S8x8192, .f32⟩
  | .hbm, ⟨38, _⟩ => ⟨S_, .f32⟩
  | .hbm, ⟨39, _⟩ => ⟨S8x8192, .f32⟩
  | .hbm, ⟨40, _⟩ => ⟨S8x8192, .f32⟩
  | .hbm, ⟨41, _⟩ => ⟨S8x8192, .f32⟩
  | .hbm, ⟨42, _⟩ => ⟨S8x8192x1, .f32⟩
  | .hbm, ⟨43, _⟩ => ⟨S8x8192x8192, .f32⟩
  | .hbm, ⟨44, _⟩ => ⟨S8x8192x8192, .f32⟩
  | .hbm, ⟨45, _⟩ => ⟨S8x8192x8192, .f32⟩
  | .hbm, ⟨46, _⟩ => ⟨S_, .f32⟩
  | .hbm, ⟨47, _⟩ => ⟨S8x8192, .f32⟩
  | .hbm, ⟨48, _⟩ => ⟨S8x8192x1, .f32⟩
  | .hbm, ⟨49, _⟩ => ⟨S8x8192x8192, .f32⟩
  | .hbm, ⟨50, _⟩ => ⟨S8x8192x8192, .f32⟩
  | .hbm, ⟨51, _⟩ => ⟨S8x8192x1, .f32⟩
  | .hbm, ⟨52, _⟩ => ⟨S_, .f32⟩
  | .hbm, ⟨53, _⟩ => ⟨S8x8192x1, .f32⟩
  | .hbm, ⟨54, _⟩ => ⟨S8x8192x1, .f32⟩
  | .hbm, ⟨55, _⟩ => ⟨S8x128x8192, .f32⟩
  | .hbm, ⟨56, _⟩ => ⟨S8192x8x128, .f32⟩
  | .hbm, ⟨57, _⟩ => ⟨S8192x1024, .f32⟩
  | .hbm, ⟨58, _⟩ => ⟨S8192x8x128, .f32⟩
  | .hbm, ⟨59, _⟩ => ⟨S8x128x8192, .f32⟩
  | .hbm, ⟨60, _⟩ => ⟨S8x8192x8192, .f32⟩
  | .hbm, ⟨61, _⟩ => ⟨S8x128x8192, .f32⟩
  | .hbm, ⟨62, _⟩ => ⟨S8192x8x128, .f32⟩
  | .hbm, ⟨63, _⟩ => ⟨S8x8192x8192, .f32⟩
  | .hbm, ⟨64, _⟩ => ⟨S8x8192x8192, .f32⟩
  | .hbm, ⟨65, _⟩ => ⟨S8x8192x8192, .f32⟩
  | .hbm, ⟨66, _⟩ => ⟨S_, .f32⟩
  | .hbm, ⟨67, _⟩ => ⟨S8x8192, .f32⟩
  | .hbm, ⟨68, _⟩ => ⟨S8x8192x1, .f32⟩
  | .hbm, ⟨69, _⟩ => ⟨S8x8192x1, .f32⟩
  | .hbm, ⟨70, _⟩ => ⟨S8x8192x8192, .f32⟩
  | .hbm, ⟨71, _⟩ => ⟨S8x8192x8192, .f32⟩
  | .hbm, ⟨72, _⟩ => ⟨S_, .f32⟩
  | .hbm, ⟨73, _⟩ => ⟨S8x8192, .f32⟩
  | .hbm, ⟨74, _⟩ => ⟨S8x8192x8192, .f32⟩
  | .hbm, ⟨75, _⟩ => ⟨S8x8192x8192, .f32⟩
  | .hbm, ⟨76, _⟩ => ⟨S8x8192x8192, .f32⟩
  | .hbm, ⟨77, _⟩ => ⟨S8x8192x64, .f32⟩
  | .hbm, ⟨78, _⟩ => ⟨S8192x8x64, .f32⟩
  | .hbm, ⟨79, _⟩ => ⟨S8x8192x64, .f32⟩
  | .hbm, ⟨80, _⟩ => ⟨S8192x8x64, .f32⟩
  | .hbm, ⟨81, _⟩ => ⟨S8x8192x128, .f32⟩
  | .hbm, ⟨82, _⟩ => ⟨S8192x8x128, .f32⟩
  | .hbm, ⟨83, _⟩ => ⟨S8x8192x128, .f32⟩
  | .hbm, ⟨84, _⟩ => ⟨S8192x8x128, .f32⟩
  | .hbm, ⟨85, _⟩ => ⟨S_, .f32⟩
  | .hbm, ⟨86, _⟩ => ⟨S8192x8x64, .f32⟩
  | .hbm, ⟨87, _⟩ => ⟨S8192x8x256, .f32⟩
  | .hbm, ⟨88, _⟩ => ⟨S8192x8x256, .f32⟩
  | .hbm, ⟨89, _⟩ => ⟨S8x8192x256, .f32⟩
  | .hbm, ⟨90, _⟩ => ⟨S_, .f32⟩
  | .hbm, ⟨91, _⟩ => ⟨S_, .f32⟩
  | .hbm, ⟨92, _⟩ => ⟨S8192x8x256, .f32⟩
  | .hbm, ⟨93, _⟩ => ⟨S8192x8x256, .f32⟩
  | .hbm, ⟨94, _⟩ => ⟨S8x8192x256, .f32⟩
  | .hbm, ⟨95, _⟩ => ⟨S8x8192x128, .f32⟩
  | _, _ => ⟨S8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩
abbrev main_cst_8 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_9 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_12 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_13 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_14 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩

abbrev nD : Nat := 1
abbrev τ : Topo := Topo.v7x

variable {F : FTy → Type} [FloatOps F]
-- ==== FlashFwd.lean ====
abbrev S8192x8x128 : Shape := ⟨3, ![8192, 8, 128]⟩
abbrev S8192x8x64 : Shape := ⟨3, ![8192, 8, 64]⟩
abbrev S8192x64 : Shape := ⟨2, ![8192, 64]⟩
abbrev S_ : Shape := ⟨0, ![]⟩
abbrev S8x8192x64 : Shape := ⟨3, ![8, 8192, 64]⟩
abbrev S1x8192x64 : Shape := ⟨3, ![1, 8192, 64]⟩
abbrev S8x8192x128 : Shape := ⟨3, ![8, 8192, 128]⟩
abbrev S8x8192x256 : Shape := ⟨3, ![8, 8192, 256]⟩
abbrev S8192x2048 : Shape := ⟨2, ![8192, 2048]⟩
abbrev S1x1024x256 : Shape := ⟨3, ![1, 1024, 256]⟩
abbrev S1x8192x256 : Shape := ⟨3, ![1, 8192, 256]⟩
abbrev S1024x128 : Shape := ⟨2, ![1024, 128]⟩
abbrev S1x1024x128 : Shape := ⟨3, ![1, 1024, 128]⟩
abbrev S1024x256 : Shape := ⟨2, ![1024, 256]⟩
abbrev S1x512x256 : Shape := ⟨3, ![1, 512, 256]⟩
abbrev S512x256 : Shape := ⟨2, ![512, 256]⟩
abbrev S1024x512 : Shape := ⟨2, ![1024, 512]⟩
abbrev S1024 : Shape := ⟨1, ![1024]⟩
abbrev S1024x1 : Shape := ⟨2, ![1024, 1]⟩

abbrev nBuf : Space → Nat
  | .hbm => 29
  | .vmem => 12
  | .smem => 0
  | _ => 0

abbrev bufTy : (tb : Table) → Fin (tcTables nBuf tb) → BufTy
  | .hbm, ⟨0, _⟩ => ⟨S8192x8x128, .f32⟩
  | .hbm, ⟨1, _⟩ => ⟨S8192x8x64, .f32⟩
  | .hbm, ⟨2, _⟩ => ⟨S8192x8x128, .f32⟩
  | .hbm, ⟨3, _⟩ => ⟨S8192x64, .f32⟩
  | .hbm, ⟨4, _⟩ => ⟨S8192x8x128, .f32⟩
  | .hbm, ⟨5, _⟩ => ⟨S_, .f32⟩
  | .hbm, ⟨6, _⟩ => ⟨S8x8192x64, .f32⟩
  | .hbm, ⟨7, _⟩ => ⟨S1x8192x64, .f32⟩
  | .hbm, ⟨8, _⟩ => ⟨S8x8192x64, .f32⟩
  | .hbm, ⟨9, _⟩ => ⟨S8x8192x128, .f32⟩
  | .hbm, ⟨10, _⟩ => ⟨S8x8192x64, .f32⟩
  | .hbm, ⟨11, _⟩ => ⟨S8x8192x256, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8x8192x256, .f32⟩
  | .hbm, ⟨17, _⟩ => ⟨S8x8192x256, .f32⟩
  | .hbm, ⟨18, _⟩ => ⟨S8x8192x128, .f32⟩
  | .hbm, ⟨19, _⟩ => ⟨S8x8192x256, .f32⟩
  | .hbm, ⟨20, _⟩ => ⟨S8x8192x128, .f32⟩
  | .hbm, ⟨21, _⟩ => ⟨S_, .f32⟩
  | .hbm, ⟨22, _⟩ => ⟨S8x8192x128, .f32⟩
  | .hbm, ⟨23, _⟩ => ⟨S8x8192x256, .f32⟩
  | .hbm, ⟨24, _⟩ => ⟨S8x8192x256, .bf16⟩
  | .hbm, ⟨25, _⟩ => ⟨S8x8192x256, .bf16⟩
  | .hbm, ⟨26, _⟩ => ⟨S8x8192x256, .bf16⟩
  | .hbm, ⟨27, _⟩ => ⟨S8192x2048, .bf16⟩
  | .hbm, ⟨28, _⟩ => ⟨S8x8192x128, .f32⟩
  | .local _ .vmem, ⟨0, _⟩ => ⟨S1x1024x256, .bf16⟩
  | .local _ .vmem, ⟨1, _⟩ => ⟨S1x1024x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x8192x256, .bf16⟩
  | .local _ .vmem, ⟨5, _⟩ => ⟨S1x8192x256, .bf16⟩
  | .local _ .vmem, ⟨6, _⟩ => ⟨S1024x128, .bf16⟩
  | .local _ .vmem, ⟨7, _⟩ => ⟨S1024x128, .bf16⟩
  | .local _ .vmem, ⟨8, _⟩ => ⟨S1x1024x128, .f32⟩
  | .local _ .vmem, ⟨9, _⟩ => ⟨S1x1024x128, .f32⟩
  | .local _ .vmem, ⟨10, _⟩ => ⟨S1024x128, .f32⟩
  | .local _ .vmem, ⟨11, _⟩ => ⟨S1024x256, .f32⟩
  | _, _ => ⟨S8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_mult1 : BitVec 32 :=
  let c0_i32 : BitVec 32 := 0#32
  let c512_i32 : BitVec 32 := 512#32
  let v10 : BitVec 32 := Scalar.muli c0_i32 c512_i32
  v10
def k0_off1 (c0_i32 : BitVec 32) : Fin 3 → Nat :=
  let c0_7 : Index := 0#32
  let c512_i32 : BitVec 32 := 512#32
  let v10 : BitVec 32 := Scalar.muli c0_i32 c512_i32
  let v11 : BitVec 32 := v10
  let v12 : Index := Scalar.indexCast v11
  let c0_8 : Index := 0#32
  ![0, v12.toNat, 0]
def k0_mult2 : BitVec 32 :=
  let c0_i32 : BitVec 32 := 0#32
  let c512_i32_13 : BitVec 32 := 512#32
  let v27 : BitVec 32 := Scalar.muli c0_i32 c512_i32_13
  v27
def k0_mult3 : BitVec 32 :=
  let c1_i32 : BitVec 32 := 1#32
  let c512_i32_23 : BitVec 32 := 512#32
  let v43 : BitVec 32 := Scalar.muli c1_i32 c512_i32_23
  v43
def k0_mult4 : BitVec 32 :=
  let c1_i32 : BitVec 32 := 1#32
  let c512_i32_30 : BitVec 32 := 512#32
  let v60 : BitVec 32 := Scalar.muli c1_i32 c512_i32_30
  v60
def k0_mult5 : BitVec 32 :=
  let c2_i32 : BitVec 32 := 2#32
  let c512_i32_40 : BitVec 32 := 512#32
  let v76 : BitVec 32 := Scalar.muli c2_i32 c512_i32_40
  v76
def k0_mult6 : BitVec 32 :=
  let c2_i32 : BitVec 32 := 2#32
  let c512_i32_47 : BitVec 32 := 512#32
  let v93 : BitVec 32 := Scalar.muli c2_i32 c512_i32_47
  v93
def k0_mult7 : BitVec 32 :=
  let c3_i32 : BitVec 32 := 3#32
  let c512_i32_57 : BitVec 32 := 512#32
  let v109 : BitVec 32 := Scalar.muli c3_i32 c512_i32_57
  v109
def k0_mult8 : BitVec 32 :=
  let c3_i32 : BitVec 32 := 3#32
  let c512_i32_64 : BitVec 32 := 512#32
  let v126 : BitVec 32 := Scalar.muli c3_i32 c512_i32_64
  v126
def k0_mult9 : BitVec 32 :=
  let c4_i32 : BitVec 32 := 4#32
  let c512_i32_74 : BitVec 32 := 512#32
  let v142 : BitVec 32 := Scalar.muli c4_i32 c512_i32_74
  v142
def k0_mult10 : BitVec 32 :=
  let c4_i32 : BitVec 32 := 4#32
  let c512_i32_81 : BitVec 32 := 512#32
  let v159 : BitVec 32 := Scalar.muli c4_i32 c512_i32_81
  v159
def k0_mult11 : BitVec 32 :=
  let c5_i32 : BitVec 32 := 5#32
  let c512_i32_91 : BitVec 32 := 512#32
  let v175 : BitVec 32 := Scalar.muli c5_i32 c512_i32_91
  v175
def k0_mult12 : BitVec 32 :=
  let c5_i32 : BitVec 32 := 5#32
  let c512_i32_98 : BitVec 32 := 512#32
  let v192 : BitVec 32 := Scalar.muli c5_i32 c512_i32_98
  v192
def k0_mult13 : BitVec 32 :=
  let c6_i32 : BitVec 32 := 6#32
  let c512_i32_108 : BitVec 32 := 512#32
  let v208 : BitVec 32 := Scalar.muli c6_i32 c512_i32_108
  v208
def k0_mult14 : BitVec 32 :=
  let c6_i32 : BitVec 32 := 6#32
  let c512_i32_115 : BitVec 32 := 512#32
  let v225 : BitVec 32 := Scalar.muli c6_i32 c512_i32_115
  v225
def k0_mult15 : BitVec 32 :=
  let c7_i32 : BitVec 32 := 7#32
  let c512_i32_125 : BitVec 32 := 512#32
  let v241 : BitVec 32 := Scalar.muli c7_i32 c512_i32_125
  v241
def k0_mult16 : BitVec 32 :=
  let c7_i32 : BitVec 32 := 7#32
  let c512_i32_132 : BitVec 32 := 512#32
  let v258 : BitVec 32 := Scalar.muli c7_i32 c512_i32_132
  v258
def k0_mult17 : BitVec 32 :=
  let c8_i32 : BitVec 32 := 8#32
  let c512_i32_142 : BitVec 32 := 512#32
  let v274 : BitVec 32 := Scalar.muli c8_i32 c512_i32_142
  v274
def k0_mult18 : BitVec 32 :=
  let c8_i32 : BitVec 32 := 8#32
  let c512_i32_149 : BitVec 32 := 512#32
  let v291 : BitVec 32 := Scalar.muli c8_i32 c512_i32_149
  v291
def k0_mult19 : BitVec 32 :=
  let c9_i32 : BitVec 32 := 9#32
  let c512_i32_159 : BitVec 32 := 512#32
  let v307 : BitVec 32 := Scalar.muli c9_i32 c512_i32_159
  v307
def k0_mult20 : BitVec 32 :=
  let c9_i32 : BitVec 32 := 9#32
  let c512_i32_166 : BitVec 32 := 512#32
  let v324 : BitVec 32 := Scalar.muli c9_i32 c512_i32_166
  v324
def k0_mult21 : BitVec 32 :=
  let c10_i32 : BitVec 32 := 10#32
  let c512_i32_176 : BitVec 32 := 512#32
  let v340 : BitVec 32 := Scalar.muli c10_i32 c512_i32_176
  v340
def k0_mult22 : BitVec 32 :=
  let c10_i32 : BitVec 32 := 10#32
  let c512_i32_183 : BitVec 32 := 512#32
  let v357 : BitVec 32 := Scalar.muli c10_i32 c512_i32_183
  v357
def k0_mult23 : BitVec 32 :=
  let c11_i32 : BitVec 32 := 11#32
  let c512_i32_193 : BitVec 32 := 512#32
  let v373 : BitVec 32 := Scalar.muli c11_i32 c512_i32_193
  v373
def k0_mult24 : BitVec 32 :=
  let c11_i32 : BitVec 32 := 11#32
  let c512_i32_200 : BitVec 32 := 512#32
  let v390 : BitVec 32 := Scalar.muli c11_i32 c512_i32_200
  v390
def k0_mult25 : BitVec 32 :=
  let c12_i32 : BitVec 32 := 12#32
  let c512_i32_210 : BitVec 32 := 512#32
  let v406 : BitVec 32 := Scalar.muli c12_i32 c512_i32_210
  v406
def k0_mult26 : BitVec 32 :=
  let c12_i32 : BitVec 32 := 12#32
  let c512_i32_217 : BitVec 32 := 512#32
  let v423 : BitVec 32 := Scalar.muli c12_i32 c512_i32_217
  v423
def k0_mult27 : BitVec 32 :=
  let c13_i32 : BitVec 32 := 13#32
  let c512_i32_227 : BitVec 32 := 512#32
  let v439 : BitVec 32 := Scalar.muli c13_i32 c512_i32_227
  v439
def k0_mult28 : BitVec 32 :=
  let c13_i32 : BitVec 32 := 13#32
  let c512_i32_234 : BitVec 32 := 512#32
  let v456 : BitVec 32 := Scalar.muli c13_i32 c512_i32_234
  v456
def k0_mult29 : BitVec 32 :=
  let c14_i32 : BitVec 32 := 14#32
  let c512_i32_244 : BitVec 32 := 512#32
  let v472 : BitVec 32 := Scalar.muli c14_i32 c512_i32_244
  v472
def k0_mult30 : BitVec 32 :=
  let c14_i32 : BitVec 32 := 14#32
  let c512_i32_251 : BitVec 32 := 512#32
  let v489 : BitVec 32 := Scalar.muli c14_i32 c512_i32_251
  v489
def k0_mult31 : BitVec 32 :=
  let c15_i32 : BitVec 32 := 15#32
  let c512_i32_261 : BitVec 32 := 512#32
  let v505 : BitVec 32 := Scalar.muli c15_i32 c512_i32_261
  v505
def k0_mult32 : BitVec 32 :=
  let c15_i32 : BitVec 32 := 15#32
  let c512_i32_268 : BitVec 32 := 512#32
  let v522 : BitVec 32 := Scalar.muli c15_i32 c512_i32_268
  v522
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FlashFwdIdeal.lean ====
variable {F : FTy → Type} [FloatOps F] [Named F]
def κ : String → Option EReal := fun
  | "log2e" => some (((Real.log 2)⁻¹ : ℝ) : EReal)
  | _ => none
-- ==== FlashFwdRefIdeal.lean ====
abbrev S8192x8x128 : Shape := ⟨3, ![8192, 8, 128]⟩
abbrev S8192x8x64 : Shape := ⟨3, ![8192, 8, 64]⟩
abbrev S8192x64 : Shape := ⟨2, ![8192, 64]⟩
abbrev S8x8192x8192 : Shape := ⟨3, ![8, 8192, 8192]⟩
abbrev S8192x8192x8 : Shape := ⟨3, ![8192, 8192, 8]⟩
abbrev S_ : Shape := ⟨0, ![]⟩
abbrev S8x8192 : Shape := ⟨2, ![8, 8192]⟩
abbrev S8x8192x1 : Shape := ⟨3, ![8, 8192, 1]⟩
abbrev S8x128x8192 : Shape := ⟨3, ![8, 128, 8192]⟩
abbrev S8192x1024 : Shape := ⟨2, ![8192, 1024]⟩
abbrev S8192x2048 : Shape := ⟨2, ![8192, 2048]⟩
abbrev S8x8192x128 : Shape := ⟨3, ![8, 8192, 128]⟩

abbrev nBuf : Space → Nat
  | .hbm => 43
  | .vmem => 0
  | .smem => 0
  | _ => 0

abbrev bufTy : (tb : Table) → Fin (tcTables nBuf tb) → BufTy
  | .hbm, ⟨0, _⟩ => ⟨S8192x8x128, .f32⟩
  | .hbm, ⟨1, _⟩ => ⟨S8192x8x64, .f32⟩
  | .hbm, ⟨2, _⟩ => ⟨S8192x8x128, .f32⟩
  | .hbm, ⟨3, _⟩ => ⟨S8192x64, .f32⟩
  | .hbm, ⟨4, _⟩ => ⟨S8192x8x128, .f32⟩
  | .hbm, ⟨5, _⟩ => ⟨S8x8192x8192, .f32⟩
  | .hbm, ⟨6, _⟩ => ⟨S8192x8192x8, .f32⟩
  | .hbm, ⟨7, _⟩ => ⟨S8x8192x8192, .f32⟩
  | .hbm, ⟨8, _⟩ => ⟨S8x8192x8192, .f32⟩
  | .hbm, ⟨9, _⟩ => ⟨S_, .f32⟩
  | .hbm, ⟨10, _⟩ => ⟨S8x8192x8192, .f32⟩
  | .hbm, ⟨11, _⟩ => ⟨S8x8192x8192, .f32⟩
  | .hbm, ⟨12, _⟩ => ⟨S_, .f32⟩
  | .hbm, ⟨13, _⟩ => ⟨S8x8192, .f32⟩
  | .hbm, ⟨14, _⟩ => ⟨S_, .f32⟩
  | .hbm, ⟨15, _⟩ => ⟨S8x8192, .f32⟩
  | .hbm, ⟨16, _⟩ => ⟨S8x8192, .f32⟩
  | .hbm, ⟨17, _⟩ => ⟨S8x8192x1, .f32⟩
  | .hbm, ⟨18, _⟩ => ⟨S8x8192x8192, .f32⟩
  | .hbm, ⟨19, _⟩ => ⟨S8x8192x8192, .f32⟩
  | .hbm, ⟨20, _⟩ => ⟨S8x8192x8192, .f32⟩
  | .hbm, ⟨21, _⟩ => ⟨S_, .f32⟩
  | .hbm, ⟨22, _⟩ => ⟨S8x8192, .f32⟩
  | .hbm, ⟨23, _⟩ => ⟨S8x8192x1, .f32⟩
  | .hbm, ⟨24, _⟩ => ⟨S8x8192x8192, .f32⟩
  | .hbm, ⟨25, _⟩ => ⟨S8x8192x8192, .f32⟩
  | .hbm, ⟨26, _⟩ => ⟨S8x128x8192, .f32⟩
  | .hbm, ⟨27, _⟩ => ⟨S8192x8x128, .f32⟩
  | .hbm, ⟨28, _⟩ => ⟨S8192x1024, .f32⟩
  | .hbm, ⟨29, _⟩ => ⟨S8x8192x8192, .f32⟩
  | .hbm, ⟨30, _⟩ => ⟨S_, .f32⟩
  | .hbm, ⟨31, _⟩ => ⟨S8x8192, .f32⟩
  | .hbm, ⟨32, _⟩ => ⟨S8x8192x1, .f32⟩
  | .hbm, ⟨33, _⟩ => ⟨S8x8192x1, .f32⟩
  | .hbm, ⟨34, _⟩ => ⟨S_, .f32⟩
  | .hbm, ⟨35, _⟩ => ⟨S_, .f32⟩
  | .hbm, ⟨36, _⟩ => ⟨S8x8192x1, .f32⟩
  | .hbm, ⟨37, _⟩ => ⟨S8x8192x1, .f32⟩
  | .hbm, ⟨38, _⟩ => ⟨S_, .f32⟩
  | .hbm, ⟨39, _⟩ => ⟨S8192x1024, .f32⟩
  | .hbm, ⟨40, _⟩ => ⟨S8192x2048, .f32⟩
  | .hbm, ⟨41, _⟩ => ⟨S8192x2048, .bf16⟩
  | .hbm, ⟨42, _⟩ => ⟨S8x8192x128, .f32⟩
  | _, _ => ⟨S8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== ConvLnSiluBwd.lean ====
abbrev S8192x2048 : Shape := ⟨2, ![8192, 2048]⟩
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S1x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v42 : BitVec 32 := Scalar.extui v0
  let c0_i32_17 : BitVec 32 := 0#32
  let v43 : BitVec 1 := Scalar.cmpi .ne v42 c0_i32_17
  v43

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v44 : BitVec 1 := Scalar.xori v0 v_true
  let v45 : BitVec 32 := Scalar.extui v44
  let c0_i32_18 : BitVec 32 := 0#32
  let v46 : BitVec 1 := Scalar.cmpi .ne v45 c0_i32_18
  v46

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v49 : BitVec 32 := Scalar.extui v0
  let c0_i32_20 : BitVec 32 := 0#32
  let v50 : BitVec 1 := Scalar.cmpi .ne v49 c0_i32_20
  v50

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_21 : BitVec 1 := 1#1
  let v51 : BitVec 1 := Scalar.xori v0 true_21
  let v52 : BitVec 32 := Scalar.extui v51
  let c0_i32_22 : BitVec 32 := 0#32
  let v53 : BitVec 1 := Scalar.cmpi .ne v52 c0_i32_22
  v53

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ConvLnSiluBwdRefIdeal.lean ====
abbrev S8192x2048 : Shape := ⟨2, ![8192, 2048]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 89
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S_, .f32⟩
  | .hbm, ⟨74, _⟩ => ⟨S8192, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S_, .f32⟩
  | .hbm, ⟨80, _⟩ => ⟨S8192, .f32⟩
  | .hbm, ⟨81, _⟩ => ⟨S8192x1, .f32⟩
  | .hbm, ⟨82, _⟩ => ⟨S_, .f32⟩
  | .hbm, ⟨83, _⟩ => ⟨S8192x1, .f32⟩
  | .hbm, ⟨84, _⟩ => ⟨S8192x1, .f32⟩
  | .hbm, ⟨85, _⟩ => ⟨S_, .f32⟩
  | .hbm, ⟨86, _⟩ => ⟨S8192, .f32⟩
  | .hbm, ⟨87, _⟩ => ⟨S8192x1024, .f32⟩
  | .hbm, ⟨88, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v25_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v25_1 : Ref sig .tc := ⟨.hbm, 47, rfl⟩
abbrev main_v25_0 : Ref sig .tc := ⟨.hbm, 48, rfl⟩
abbrev main_v26 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v27 : Ref sig .tc := ⟨.hbm, 53, rfl⟩
abbrev main_cst_6 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_7 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_8 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_9 : Ref sig .tc := ⟨.hbm, 70, rfl⟩
abbrev main_v41 : Ref sig .tc := ⟨.hbm, 71, rfl⟩
abbrev main_v42 : Ref sig .tc := ⟨.hbm, 72, rfl⟩
abbrev main_cst_10 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_11 : Ref sig .tc := ⟨.hbm, 79, rfl⟩
abbrev main_v48 : Ref sig .tc := ⟨.hbm, 80, rfl⟩
abbrev main_v49 : Ref sig .tc := ⟨.hbm, 81, rfl⟩
abbrev main_cst_12 : Ref sig .tc := ⟨.hbm, 82, rfl⟩
abbrev main_v50 : Ref sig .tc := ⟨.hbm, 83, rfl⟩
abbrev main_v51 : Ref sig .tc := ⟨.hbm, 84, rfl⟩
abbrev main_cst_13 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩

abbrev nD : Nat := 1
abbrev τ : Topo := Topo.v7x

variable {F : FTy → Type} [FloatOps F]
-- ==== QDgradRms.lean ====
abbrev S8192x8x192 : Shape := ⟨3, ![8192, 8, 192]⟩
abbrev S512x1536 : Shape := ⟨2, ![512, 1536]⟩
abbrev S8192x3136 : Shape := ⟨2, ![8192, 3136]⟩
abbrev S1x512 : Shape := ⟨2, ![1, 512]⟩
abbrev S512x8x192 : Shape := ⟨3, ![512, 8, 192]⟩
abbrev S8x512x192 : Shape := ⟨3, ![8, 512, 192]⟩
abbrev S_ : Shape := ⟨0, ![]⟩
abbrev S8x512x256 : Shape := ⟨3, ![8, 512, 256]⟩
abbrev S8192x8x256 : Shape := ⟨3, ![8192, 8, 256]⟩
abbrev S8192x2048 : Shape := ⟨2, ![8192, 2048]⟩
abbrev S512x8x256 : Shape := ⟨3, ![512, 8, 256]⟩
abbrev S512x2048 : Shape := ⟨2, ![512, 2048]⟩
abbrev S8192x1024 : Shape := ⟨2, ![8192, 1024]⟩
abbrev S8192x512 : Shape := ⟨2, ![8192, 512]⟩
abbrev S8192x64 : Shape := ⟨2, ![8192, 64]⟩
abbrev S8192x3200 : Shape := ⟨2, ![8192, 3200]⟩
abbrev S1024x2048 : Shape := ⟨2, ![1024, 2048]⟩
abbrev S1024x512 : Shape := ⟨2, ![1024, 512]⟩
abbrev S1024 : Shape := ⟨1, ![1024]⟩
abbrev S1024x1 : Shape := ⟨2, ![1024, 1]⟩
abbrev S512 : Shape := ⟨1, ![512]⟩

abbrev nBuf : Space → Nat
  | .hbm => 37
  | .vmem => 9
  | .smem => 0
  | _ => 0

abbrev bufTy : (tb : Table) → Fin (tcTables nBuf tb) → BufTy
  | .hbm, ⟨0, _⟩ => ⟨S8192x8x192, .f32⟩
  | .hbm, ⟨1, _⟩ => ⟨S512x1536, .f32⟩
  | .hbm, ⟨2, _⟩ => ⟨S8192x3136, .f32⟩
  | .hbm, ⟨3, _⟩ => ⟨S1x512, .f32⟩
  | .hbm, ⟨4, _⟩ => ⟨S8192x3136, .f32⟩
  | .hbm, ⟨5, _⟩ => ⟨S512x8x192, .f32⟩
  | .hbm, ⟨6, _⟩ => ⟨S8x512x192, .f32⟩
  | .hbm, ⟨7, _⟩ => ⟨S8x512x192, .bf16⟩
  | .hbm, ⟨8, _⟩ => ⟨S_, .i32⟩
  | .hbm, ⟨9, _⟩ => ⟨S_, .bf16⟩
  | .hbm, ⟨10, _⟩ => ⟨S8x512x256, .bf16⟩
  | .hbm, ⟨11, _⟩ => ⟨S_, .i32⟩
  | .hbm, ⟨12, _⟩ => ⟨S_, .f32⟩
  | .hbm, ⟨13, _⟩ => ⟨S8192x8x256, .f32⟩
  | .hbm, ⟨14, _⟩ => ⟨S8192x2048, .f32⟩
  | .hbm, ⟨15, _⟩ => ⟨S8192x2048, .bf16⟩
  | .hbm, ⟨16, _⟩ => ⟨S512x8x256, .bf16⟩
  | .hbm, ⟨17, _⟩ => ⟨S512x2048, .bf16⟩
  | .hbm, ⟨18, _⟩ => ⟨S8192x1024, .f32⟩
  | .hbm, ⟨19, _⟩ => ⟨S8192x1024, .f32⟩
  | .hbm, ⟨20, _⟩ => ⟨S8192x512, .f32⟩
  | .hbm, ⟨21, _⟩ => ⟨S8192x512, .f32⟩
  | .hbm, ⟨22, _⟩ => ⟨S8192x64, .f32⟩
  | .hbm, ⟨23, _⟩ => ⟨S_, .f32⟩
  | .hbm, ⟨24, _⟩ => ⟨S8192x64, .f32⟩
  | .hbm, ⟨25, _⟩ => ⟨S8192x3200, .f32⟩
  | .hbm, ⟨26, _⟩ => ⟨S8192x1024, .f32⟩
  | .hbm, ⟨27, _⟩ => ⟨S8192x1024, .f32⟩
  | .hbm, ⟨28, _⟩ => ⟨S8192x512, .f32⟩
  | .hbm, ⟨29, _⟩ => ⟨S8192x512, .f32⟩
  | .hbm, ⟨30, _⟩ => ⟨S8192x64, .f32⟩
  | .hbm, ⟨31, _⟩ => ⟨S_, .f32⟩
  | .hbm, ⟨32, _⟩ => ⟨S8192x64, .f32⟩
  | .hbm, ⟨33, _⟩ => ⟨S8192x3200, .f32⟩
  | .hbm, ⟨34, _⟩ => ⟨S8192x3200, .bf16⟩
  | .hbm, ⟨35, _⟩ => ⟨S8192x3200, .bf16⟩
  | .hbm, ⟨36, _⟩ => ⟨S1x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | .local _ .vmem, ⟨8, _⟩ => ⟨S1x512, .f32⟩
  | _, _ => ⟨S8192x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24_0 : Ref sig .tc := ⟨.hbm, 35, rfl⟩
abbrev main_v24_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v40 : BitVec 32 := Scalar.extui v5
  let c0_i32_15 : BitVec 32 := 0#32
  let v41 : BitVec 1 := Scalar.cmpi .ne v40 c0_i32_15
  v41

def k0_cond2 (i : grid0.Coords) : BitVec 1 :=
  let arg0 : BitVec 32 := BitVec.ofNat 32 (i 0).val
  let c0_i32 : BitVec 32 := 0#32
  let v5 : BitVec 1 := Scalar.cmpi .eq arg0 c0_i32
  let v_true : BitVec 1 := 1#1
  let v42 : BitVec 1 := Scalar.xori v5 v_true
  let v43 : BitVec 32 := Scalar.extui v42
  let c0_i32_16 : BitVec 32 := 0#32
  let v44 : BitVec 1 := Scalar.cmpi .ne v43 c0_i32_16
  v44

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]
-- ==== QDgradRmsRefIdeal.lean ====
abbrev S8192x8x192 : Shape := ⟨3, ![8192, 8, 192]⟩
abbrev S512x1536 : Shape := ⟨2, ![512, 1536]⟩
abbrev S8192x3136 : Shape := ⟨2, ![8192, 3136]⟩
abbrev S1x512 : Shape := ⟨2, ![1, 512]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S8192x1536 : Shape := ⟨2, ![8192, 1536]⟩
abbrev S512 : Shape := ⟨1, ![512]⟩
abbrev S8192x2048 : Shape := ⟨2, ![8192, 2048]⟩
abbrev S8192x576 : Shape := ⟨2, ![8192, 576]⟩
abbrev S8192x64 : Shape := ⟨2, ![8192, 64]⟩
abbrev S8192x3200 : Shape := ⟨2, ![8192, 3200]⟩

abbrev nBuf : Space → Nat
  | .hbm => 59
  | .vmem => 0
  | .smem => 0
  | _ => 0

abbrev bufTy : (tb : Table) → Fin (tcTables nBuf tb) → BufTy
  | .hbm, ⟨0, _⟩ => ⟨S8192x8x192, .f32⟩
  | .hbm, ⟨1, _⟩ => ⟨S512x1536, .f32⟩
  | .hbm, ⟨2, _⟩ => ⟨S8192x3136, .f32⟩
  | .hbm, ⟨3, _⟩ => ⟨S1x512, .f32⟩
  | .hbm, ⟨4, _⟩ => ⟨S8192x3136, .f32⟩
  | .hbm, ⟨5, _⟩ => ⟨S8192x512, .f32⟩
  | .hbm, ⟨6, _⟩ => ⟨S8192x512, .f32⟩
  | .hbm, ⟨7, _⟩ => ⟨S_, .f32⟩
  | .hbm, ⟨8, _⟩ => ⟨S8192x512, .f32⟩
  | .hbm, ⟨9, _⟩ => ⟨S8192x512, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S8192x1536, .f32⟩
  | .hbm, ⟨29, _⟩ => ⟨S8192x8x192, .f32⟩
  | .hbm, ⟨30, _⟩ => ⟨S8192x1536, .f32⟩
  | .hbm, ⟨31, _⟩ => ⟨S8192x512, .f32⟩
  | .hbm, ⟨32, _⟩ => ⟨S8192x512, .f32⟩
  | .hbm, ⟨33, _⟩ => ⟨S_, .f32⟩
  | .hbm, ⟨34, _⟩ => ⟨S512, .f32⟩
  | .hbm, ⟨35, _⟩ => ⟨S1x512, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x512, .f32⟩
  | .hbm, ⟨43, _⟩ => ⟨S8192x512, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S8192x2048, .f32⟩
  | .hbm, ⟨54, _⟩ => ⟨S8192x576, .f32⟩
  | .hbm, ⟨55, _⟩ => ⟨S_, .f32⟩
  | .hbm, ⟨56, _⟩ => ⟨S8192x64, .f32⟩
  | .hbm, ⟨57, _⟩ => ⟨S8192x3200, .f32⟩
  | .hbm, ⟨58, _⟩ => ⟨S8192x3200, .bf16⟩
  | _, _ => ⟨S8192x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== KvDgradRms.lean ====
abbrev S8192x8x128 : Shape := ⟨3, ![8192, 8, 128]⟩
abbrev S512x1024 : Shape := ⟨2, ![512, 1024]⟩
abbrev S8192x3136 : Shape := ⟨2, ![8192, 3136]⟩
abbrev S1x512 : Shape := ⟨2, ![1, 512]⟩
abbrev S512x8x128 : Shape := ⟨3, ![512, 8, 128]⟩
abbrev S8x512x128 : Shape := ⟨3, ![8, 512, 128]⟩
abbrev S8x512x256 : Shape := ⟨3, ![8, 512, 256]⟩
abbrev S8192x8x256 : Shape := ⟨3, ![8192, 8, 256]⟩
abbrev S8192x2048 : Shape := ⟨2, ![8192, 2048]⟩
abbrev S512x8x256 : Shape := ⟨3, ![512, 8, 256]⟩
abbrev S512x2048 : Shape := ⟨2, ![512, 2048]⟩
abbrev S8192x1024 : Shape := ⟨2, ![8192, 1024]⟩
abbrev S8192x512 : Shape := ⟨2, ![8192, 512]⟩
abbrev S8192x64 : Shape := ⟨2, ![8192, 64]⟩
abbrev S_ : Shape := ⟨0, ![]⟩
abbrev S8192x3200 : Shape := ⟨2, ![8192, 3200]⟩
abbrev S1024x2048 : Shape := ⟨2, ![1024, 2048]⟩
abbrev S1024x512 : Shape := ⟨2, ![1024, 512]⟩
abbrev S1024 : Shape := ⟨1, ![1024]⟩
abbrev S1024x1 : Shape := ⟨2, ![1024, 1]⟩
abbrev S512 : Shape := ⟨1, ![512]⟩

abbrev nBuf : Space → Nat
  | .hbm => 37
  | .vmem => 9
  | .smem => 0
  | _ => 0

abbrev bufTy : (tb : Table) → Fin (tcTables nBuf tb) → BufTy
  | .hbm, ⟨0, _⟩ => ⟨S8192x8x128, .f32⟩
  | .hbm, ⟨1, _⟩ => ⟨S8192x8x128, .f32⟩
  | .hbm, ⟨2, _⟩ => ⟨S512x1024, .f32⟩
  | .hbm, ⟨3, _⟩ => ⟨S512x1024, .f32⟩
  | .hbm, ⟨4, _⟩ => ⟨S8192x3136, .f32⟩
  | .hbm, ⟨5, _⟩ => ⟨S1x512, .f32⟩
  | .hbm, ⟨6, _⟩ => ⟨S8192x3136, .f32⟩
  | .hbm, ⟨7, _⟩ => ⟨S512x8x128, .f32⟩
  | .hbm, ⟨8, _⟩ => ⟨S8x512x128, .f32⟩
  | .hbm, ⟨9, _⟩ => ⟨S512x8x128, .f32⟩
  | .hbm, ⟨10, _⟩ => ⟨S8x512x128, .f32⟩
  | .hbm, ⟨11, _⟩ => ⟨S8x512x256, .f32⟩
  | .hbm, ⟨12, _⟩ => ⟨S8x512x256, .bf16⟩
  | .hbm, ⟨13, _⟩ => ⟨S8192x8x256, .f32⟩
  | .hbm, ⟨14, _⟩ => ⟨S8192x2048, .f32⟩
  | .hbm, ⟨15, _⟩ => ⟨S8192x2048, .bf16⟩
  | .hbm, ⟨16, _⟩ => ⟨S512x8x256, .bf16⟩
  | .hbm, ⟨17, _⟩ => ⟨S512x2048, .bf16⟩
  | .hbm, ⟨18, _⟩ => ⟨S8192x1024, .f32⟩
  | .hbm, ⟨19, _⟩ => ⟨S8192x1024, .f32⟩
  | .hbm, ⟨20, _⟩ => ⟨S8192x512, .f32⟩
  | .hbm, ⟨21, _⟩ => ⟨S8192x512, .f32⟩
  | .hbm, ⟨22, _⟩ => ⟨S8192x64, .f32⟩
  | .hbm, ⟨23, _⟩ => ⟨S_, .f32⟩
  | .hbm, ⟨24, _⟩ => ⟨S8192x64, .f32⟩
  | .hbm, ⟨25, _⟩ => ⟨S8192x3200, .f32⟩
  | .hbm, ⟨26, _⟩ => ⟨S8192x1024, .f32⟩
  | .hbm, ⟨27, _⟩ => ⟨S8192x1024, .f32⟩
  | .hbm, ⟨28, _⟩ => ⟨S8192x512, .f32⟩
  | .hbm, ⟨29, _⟩ => ⟨S8192x512, .f32⟩
  | .hbm, ⟨30, _⟩ => ⟨S8192x64, .f32⟩
  | .hbm, ⟨31, _⟩ => ⟨S_, .f32⟩
  | .hbm, ⟨32, _⟩ => ⟨S8192x64, .f32⟩
  | .hbm, ⟨33, _⟩ => ⟨S8192x3200, .f32⟩
  | .hbm, ⟨34, _⟩ => ⟨S8192x3200, .bf16⟩
  | .hbm, ⟨35, _⟩ => ⟨S8192x3200, .bf16⟩
  | .hbm, ⟨36, _⟩ => ⟨S1x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | .local _ .vmem, ⟨8, _⟩ => ⟨S1x512, .f32⟩
  | _, _ => ⟨S8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26_0 : Ref sig .tc := ⟨.hbm, 35, rfl⟩
abbrev main_v26_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v40 : BitVec 32 := Scalar.extui v5
  let c0_i32_15 : BitVec 32 := 0#32
  let v41 : BitVec 1 := Scalar.cmpi .ne v40 c0_i32_15
  v41

def k0_cond2 (i : grid0.Coords) : BitVec 1 :=
  let arg0 : BitVec 32 := BitVec.ofNat 32 (i 0).val
  let c0_i32 : BitVec 32 := 0#32
  let v5 : BitVec 1 := Scalar.cmpi .eq arg0 c0_i32
  let v_true : BitVec 1 := 1#1
  let v42 : BitVec 1 := Scalar.xori v5 v_true
  let v43 : BitVec 32 := Scalar.extui v42
  let c0_i32_16 : BitVec 32 := 0#32
  let v44 : BitVec 1 := Scalar.cmpi .ne v43 c0_i32_16
  v44

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]
-- ==== KvDgradRmsRefIdeal.lean ====
abbrev S8192x8x128 : Shape := ⟨3, ![8192, 8, 128]⟩
abbrev S512x1024 : Shape := ⟨2, ![512, 1024]⟩
abbrev S8192x3136 : Shape := ⟨2, ![8192, 3136]⟩
abbrev S1x512 : Shape := ⟨2, ![1, 512]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S8192x1024 : Shape := ⟨2, ![8192, 1024]⟩
abbrev S512 : Shape := ⟨1, ![512]⟩
abbrev S8192x2048 : Shape := ⟨2, ![8192, 2048]⟩
abbrev S8192x64 : Shape := ⟨2, ![8192, 64]⟩
abbrev S8192x3200 : Shape := ⟨2, ![8192, 3200]⟩

abbrev nBuf : Space → Nat
  | .hbm => 67
  | .vmem => 0
  | .smem => 0
  | _ => 0

abbrev bufTy : (tb : Table) → Fin (tcTables nBuf tb) → BufTy
  | .hbm, ⟨0, _⟩ => ⟨S8192x8x128, .f32⟩
  | .hbm, ⟨1, _⟩ => ⟨S8192x8x128, .f32⟩
  | .hbm, ⟨2, _⟩ => ⟨S512x1024, .f32⟩
  | .hbm, ⟨3, _⟩ => ⟨S512x1024, .f32⟩
  | .hbm, ⟨4, _⟩ => ⟨S8192x3136, .f32⟩
  | .hbm, ⟨5, _⟩ => ⟨S1x512, .f32⟩
  | .hbm, ⟨6, _⟩ => ⟨S8192x3136, .f32⟩
  | .hbm, ⟨7, _⟩ => ⟨S8192x512, .f32⟩
  | .hbm, ⟨8, _⟩ => ⟨S8192x512, .f32⟩
  | .hbm, ⟨9, _⟩ => ⟨S_, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x1024, .f32⟩
  | .hbm, ⟨31, _⟩ => ⟨S8192x8x128, .f32⟩
  | .hbm, ⟨32, _⟩ => ⟨S8192x1024, .f32⟩
  | .hbm, ⟨33, _⟩ => ⟨S8192x8x128, .f32⟩
  | .hbm, ⟨34, _⟩ => ⟨S8192x1024, .f32⟩
  | .hbm, ⟨35, _⟩ => ⟨S8192x512, .f32⟩
  | .hbm, ⟨36, _⟩ => ⟨S8192x1024, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S_, .f32⟩
  | .hbm, ⟨41, _⟩ => ⟨S512, .f32⟩
  | .hbm, ⟨42, _⟩ => ⟨S1x512, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S8192x512, .f32⟩
  | .hbm, ⟨50, _⟩ => ⟨S8192x512, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192, .f32⟩
  | .hbm, ⟨57, _⟩ => ⟨S8192x512, .f32⟩
  | .hbm, ⟨58, _⟩ => ⟨S8192x512, .f32⟩
  | .hbm, ⟨59, _⟩ => ⟨S8192x512, .f32⟩
  | .hbm, ⟨60, _⟩ => ⟨S8192x2048, .f32⟩
  | .hbm, ⟨61, _⟩ => ⟨S8192x512, .f32⟩
  | .hbm, ⟨62, _⟩ => ⟨S8192x64, .f32⟩
  | .hbm, ⟨63, _⟩ => ⟨S_, .f32⟩
  | .hbm, ⟨64, _⟩ => ⟨S8192x64, .f32⟩
  | .hbm, ⟨65, _⟩ => ⟨S8192x3200, .f32⟩
  | .hbm, ⟨66, _⟩ => ⟨S8192x3200, .bf16⟩
  | _, _ => ⟨S8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Ff2Ln2Loss.lean ====
abbrev S8192x2048 : Shape := ⟨2, ![8192, 2048]⟩
abbrev S8192x8192 : Shape := ⟨2, ![8192, 8192]⟩
abbrev S1x2048 : Shape := ⟨2, ![1, 2048]⟩
abbrev S8x128 : Shape := ⟨2, ![8, 128]⟩
abbrev S512x1024 : Shape := ⟨2, ![512, 1024]⟩
abbrev S1024x2048 : Shape := ⟨2, ![1024, 2048]⟩
abbrev S512x2048 : Shape := ⟨2, ![512, 2048]⟩
abbrev S128x2048 : Shape := ⟨2, ![128, 2048]⟩
abbrev S128 : Shape := ⟨1, ![128]⟩
abbrev S128x1 : Shape := ⟨2, ![128, 1]⟩
abbrev S1x128x1 : Shape := ⟨3, ![1, 128, 1]⟩
abbrev S1 : Shape := ⟨1, ![1]⟩
abbrev S1x1x1 : Shape := ⟨3, ![1, 1, 1]⟩
abbrev S2048 : Shape := ⟨1, ![2048]⟩

abbrev nBuf : Space → Nat
  | .hbm => 13
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S8192x8192, .f32⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S1x2048, .f32⟩
  | .hbm, ⟨6, _⟩ => ⟨S8192x8192, .bf16⟩
  | .hbm, ⟨7, _⟩ => ⟨S8192x2048, .bf16⟩
  | .hbm, ⟨8, _⟩ => ⟨S8192x2048, .f32⟩
  | .hbm, ⟨9, _⟩ => ⟨S8192x2048, .bf16⟩
  | .hbm, ⟨10, _⟩ => ⟨S8x128, .f32⟩
  | .hbm, ⟨11, _⟩ => ⟨S1x2048, .f32⟩
  | .hbm, ⟨12, _⟩ => ⟨S1x2048, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S8x128, .f32⟩
  | .local _ .vmem, ⟨15, _⟩ => ⟨S1x2048, .f32⟩
  | .local _ .vmem, ⟨16, _⟩ => ⟨S1x2048, .f32⟩
  | .local _ .vmem, ⟨17, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨3, ![16, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def k0_cond3 (i : grid0.Coords) : BitVec 1 :=
  let arg0 : BitVec 32 := BitVec.ofNat 32 (i 0).val
  let c0_i32_9 : BitVec 32 := 0#32
  let v16 : BitVec 1 := Scalar.cmpi .eq arg0 c0_i32_9
  let v59 : BitVec 32 := Scalar.extui v16
  let c0_i32_31 : BitVec 32 := 0#32
  let v60 : BitVec 1 := Scalar.cmpi .ne v59 c0_i32_31
  v60

def k0_cond4 (i : grid0.Coords) : BitVec 1 :=
  let arg0 : BitVec 32 := BitVec.ofNat 32 (i 0).val
  let c0_i32_9 : BitVec 32 := 0#32
  let v16 : BitVec 1 := Scalar.cmpi .eq arg0 c0_i32_9
  let v_true : BitVec 1 := 1#1
  let v61 : BitVec 1 := Scalar.xori v16 v_true
  let v62 : BitVec 32 := Scalar.extui v61
  let c0_i32_32 : BitVec 32 := 0#32
  let v63 : BitVec 1 := Scalar.cmpi .ne v62 c0_i32_32
  v63

def k0_cond5 (i : grid0.Coords) : BitVec 1 :=
  let arg0 : BitVec 32 := BitVec.ofNat 32 (i 0).val
  let c0_i32_9 : BitVec 32 := 0#32
  let v16 : BitVec 1 := Scalar.cmpi .eq arg0 c0_i32_9
  let v69 : BitVec 32 := Scalar.extui v16
  let c0_i32_35 : BitVec 32 := 0#32
  let v70 : BitVec 1 := Scalar.cmpi .ne v69 c0_i32_35
  v70

def k0_cond6 (i : grid0.Coords) : BitVec 1 :=
  let arg0 : BitVec 32 := BitVec.ofNat 32 (i 0).val
  let c0_i32_9 : BitVec 32 := 0#32
  let v16 : BitVec 1 := Scalar.cmpi .eq arg0 c0_i32_9
  let true_36 : BitVec 1 := 1#1
  let v71 : BitVec 1 := Scalar.xori v16 true_36
  let v72 : BitVec 32 := Scalar.extui v71
  let c0_i32_37 : BitVec 32 := 0#32
  let v73 : BitVec 1 := Scalar.cmpi .ne v72 c0_i32_37
  v73

def k0_cond7 (i : grid0.Coords) : BitVec 1 :=
  let arg0 : BitVec 32 := BitVec.ofNat 32 (i 0).val
  let c0_i32_9 : BitVec 32 := 0#32
  let v16 : BitVec 1 := Scalar.cmpi .eq arg0 c0_i32_9
  let v76 : BitVec 32 := Scalar.extui v16
  let c0_i32_39 : BitVec 32 := 0#32
  let v77 : BitVec 1 := Scalar.cmpi .ne v76 c0_i32_39
  v77

def k0_cond8 (i : grid0.Coords) : BitVec 1 :=
  let arg0 : BitVec 32 := BitVec.ofNat 32 (i 0).val
  let c0_i32_9 : BitVec 32 := 0#32
  let v16 : BitVec 1 := Scalar.cmpi .eq arg0 c0_i32_9
  let true_40 : BitVec 1 := 1#1
  let v78 : BitVec 1 := Scalar.xori v16 true_40
  let v79 : BitVec 32 := Scalar.extui v78
  let c0_i32_41 : BitVec 32 := 0#32
  let v80 : BitVec 1 := Scalar.cmpi .ne v79 c0_i32_41
  v80

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]
-- ==== Ff2Ln2LossRefIdeal.lean ====
abbrev S8192x2048 : Shape := ⟨2, ![8192, 2048]⟩
abbrev S8192x8192 : Shape := ⟨2, ![8192, 8192]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S8x128 : Shape := ⟨2, ![8, 128]⟩

abbrev nBuf : Space → Nat
  | .hbm => 103
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x8192, .f32⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S1x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S8192, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S8192, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S8192x2048, .f32⟩
  | .hbm, ⟨65, _⟩ => ⟨S8192x2048, .f32⟩
  | .hbm, ⟨66, _⟩ => ⟨S_, .f32⟩
  | .hbm, ⟨67, _⟩ => ⟨S2048, .f32⟩
  | .hbm, ⟨68, _⟩ => ⟨S1x2048, .f32⟩
  | .hbm, ⟨69, _⟩ => ⟨S8192x2048, .f32⟩
  | .hbm, ⟨70, _⟩ => ⟨S_, .f32⟩
  | .hbm, ⟨71, _⟩ => ⟨S2048, .f32⟩
  | .hbm, ⟨72, _⟩ => ⟨S1x2048, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S8192x2048, .f32⟩
  | .hbm, ⟨80, _⟩ => ⟨S8192x2048, .f32⟩
  | .hbm, ⟨81, _⟩ => ⟨S8192x1, .f32⟩
  | .hbm, ⟨82, _⟩ => ⟨S_, .f32⟩
  | .hbm, ⟨83, _⟩ => ⟨S8192x1, .f32⟩
  | .hbm, ⟨84, _⟩ => ⟨S8192x1, .f32⟩
  | .hbm, ⟨85, _⟩ => ⟨S_, .f32⟩
  | .hbm, ⟨86, _⟩ => ⟨S8192, .f32⟩
  | .hbm, ⟨87, _⟩ => ⟨S8192x2048, .f32⟩
  | .hbm, ⟨88, _⟩ => ⟨S8192x2048, .f32⟩
  | .hbm, ⟨89, _⟩ => ⟨S8192x2048, .f32⟩
  | .hbm, ⟨90, _⟩ => ⟨S8192x2048, .f32⟩
  | .hbm, ⟨91, _⟩ => ⟨S_, .f32⟩
  | .hbm, ⟨92, _⟩ => ⟨S8192, .f32⟩
  | .hbm, ⟨93, _⟩ => ⟨S8192x1, .f32⟩
  | .hbm, ⟨94, _⟩ => ⟨S_, .f32⟩
  | .hbm, ⟨95, _⟩ => ⟨S8192x1, .f32⟩
  | .hbm, ⟨96, _⟩ => ⟨S8192x1, .f32⟩
  | .hbm, ⟨97, _⟩ => ⟨S_, .f32⟩
  | .hbm, ⟨98, _⟩ => ⟨S8192, .f32⟩
  | .hbm, ⟨99, _⟩ => ⟨S8192x2048, .f32⟩
  | .hbm, ⟨100, _⟩ => ⟨S8192x2048, .f32⟩
  | .hbm, ⟨101, _⟩ => ⟨S8192x2048, .bf16⟩
  | .hbm, ⟨102, _⟩ => ⟨S8x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_cst_9 : Ref sig .tc := ⟨.hbm, 50, rfl⟩
abbrev main_v34 : Ref sig .tc := ⟨.hbm, 51, rfl⟩
abbrev main_v35 : Ref sig .tc := ⟨.hbm, 52, rfl⟩
abbrev main_cst_10 : Ref sig .tc := ⟨.hbm, 53, rfl⟩
abbrev main_v36 : Ref sig .tc := ⟨.hbm, 54, rfl⟩
abbrev main_cst_11 : Ref sig .tc := ⟨.hbm, 55, rfl⟩
abbrev main_v37 : Ref sig .tc := ⟨.hbm, 56, rfl⟩
abbrev main_cst_12 : Ref sig .tc := ⟨.hbm, 57, rfl⟩
abbrev main_cst_13 : Ref sig .tc := ⟨.hbm, 58, rfl⟩
abbrev main_v38 : Ref sig .tc := ⟨.hbm, 59, rfl⟩
abbrev main_v39 : Ref sig .tc := ⟨.hbm, 60, rfl⟩
abbrev main_cst_14 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_15 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_16 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_17 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_18 : Ref sig .tc := ⟨.hbm, 82, rfl⟩
abbrev main_v57 : Ref sig .tc := ⟨.hbm, 83, rfl⟩
abbrev main_v58 : Ref sig .tc := ⟨.hbm, 84, rfl⟩
abbrev main_cst_19 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_20 : Ref sig .tc := ⟨.hbm, 91, rfl⟩
abbrev main_v64 : Ref sig .tc := ⟨.hbm, 92, rfl⟩
abbrev main_v65 : Ref sig .tc := ⟨.hbm, 93, rfl⟩
abbrev main_cst_21 : Ref sig .tc := ⟨.hbm, 94, rfl⟩
abbrev main_v66 : Ref sig .tc := ⟨.hbm, 95, rfl⟩
abbrev main_v67 : Ref sig .tc := ⟨.hbm, 96, rfl⟩
abbrev main_cst_22 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩

abbrev nD : Nat := 1
abbrev τ : Topo := Topo.v7x

variable {F : FTy → Type} [FloatOps F]
-- ==== Ff1Ln1Bwd.lean ====
abbrev S8192x2048 : Shape := ⟨2, ![8192, 2048]⟩
abbrev S8192x8192 : Shape := ⟨2, ![8192, 8192]⟩
abbrev S2048x8192 : Shape := ⟨2, ![2048, 8192]⟩
abbrev S1x2048 : Shape := ⟨2, ![1, 2048]⟩
abbrev S2048x8x1024 : Shape := ⟨3, ![2048, 8, 1024]⟩
abbrev S8x2048x1024 : Shape := ⟨3, ![8, 2048, 1024]⟩
abbrev S512x1024 : Shape := ⟨2, ![512, 1024]⟩
abbrev S1x2048x1024 : Shape := ⟨3, ![1, 2048, 1024]⟩
abbrev S512x2048 : Shape := ⟨2, ![512, 2048]⟩
abbrev S2048x1024 : Shape := ⟨2, ![2048, 1024]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 14
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S8192x8192, .f32⟩
  | .hbm, ⟨2, _⟩ => ⟨S8192x2048, .f32⟩
  | .hbm, ⟨3, _⟩ => ⟨S2048x8192, .f32⟩
  | .hbm, ⟨4, _⟩ => ⟨S1x2048, .f32⟩
  | .hbm, ⟨5, _⟩ => ⟨S1x2048, .f32⟩
  | .hbm, ⟨6, _⟩ => ⟨S2048x8x1024, .f32⟩
  | .hbm, ⟨7, _⟩ => ⟨S8x2048x1024, .f32⟩
  | .hbm, ⟨8, _⟩ => ⟨S8x2048x1024, .bf16⟩
  | .hbm, ⟨9, _⟩ => ⟨S8192x8192, .bf16⟩
  | .hbm, ⟨10, _⟩ => ⟨S8192x2048, .f32⟩
  | .hbm, ⟨11, _⟩ => ⟨S8192x2048, .bf16⟩
  | .hbm, ⟨12, _⟩ => ⟨S1x2048, .f32⟩
  | .hbm, ⟨13, _⟩ => ⟨S1x2048, .f32⟩
  | .local _ .vmem, ⟨0, _⟩ => ⟨S512x1024, .bf16⟩
  | .local _ .vmem, ⟨1, _⟩ => ⟨S512x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S1x2048, .f32⟩
  | .local _ .vmem, ⟨14, _⟩ => ⟨S1x2048, .f32⟩
  | .local _ .vmem, ⟨15, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨3, ![16, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_9 : BitVec 32 := 0#32
  let v15 : BitVec 1 := Scalar.cmpi .ne v14 c0_i32_9
  v15

def k0_cond3 (i : grid0.Coords) : BitVec 1 :=
  let arg0 : BitVec 32 := BitVec.ofNat 32 (i 0).val
  let c0_i32_10 : BitVec 32 := 0#32
  let v16 : BitVec 1 := Scalar.cmpi .eq arg0 c0_i32_10
  let v42 : BitVec 32 := Scalar.extui v16
  let c0_i32_24 : BitVec 32 := 0#32
  let v43 : BitVec 1 := Scalar.cmpi .ne v42 c0_i32_24
  v43

def k0_cond4 (i : grid0.Coords) : BitVec 1 :=
  let arg0 : BitVec 32 := BitVec.ofNat 32 (i 0).val
  let c0_i32_10 : BitVec 32 := 0#32
  let v16 : BitVec 1 := Scalar.cmpi .eq arg0 c0_i32_10
  let v_true : BitVec 1 := 1#1
  let v44 : BitVec 1 := Scalar.xori v16 v_true
  let v45 : BitVec 32 := Scalar.extui v44
  let c0_i32_25 : BitVec 32 := 0#32
  let v46 : BitVec 1 := Scalar.cmpi .ne v45 c0_i32_25
  v46

def k0_cond5 (i : grid0.Coords) : BitVec 1 :=
  let arg0 : BitVec 32 := BitVec.ofNat 32 (i 0).val
  let c0_i32_10 : BitVec 32 := 0#32
  let v16 : BitVec 1 := Scalar.cmpi .eq arg0 c0_i32_10
  let v49 : BitVec 32 := Scalar.extui v16
  let c0_i32_27 : BitVec 32 := 0#32
  let v50 : BitVec 1 := Scalar.cmpi .ne v49 c0_i32_27
  v50

def k0_cond6 (i : grid0.Coords) : BitVec 1 :=
  let arg0 : BitVec 32 := BitVec.ofNat 32 (i 0).val
  let c0_i32_10 : BitVec 32 := 0#32
  let v16 : BitVec 1 := Scalar.cmpi .eq arg0 c0_i32_10
  let true_28 : BitVec 1 := 1#1
  let v51 : BitVec 1 := Scalar.xori v16 true_28
  let v52 : BitVec 32 := Scalar.extui v51
  let c0_i32_29 : BitVec 32 := 0#32
  let v53 : BitVec 1 := Scalar.cmpi .ne v52 c0_i32_29
  v53

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== Ff1Ln1BwdRefIdeal.lean ====
abbrev S8192x2048 : Shape := ⟨2, ![8192, 2048]⟩
abbrev S8192x8192 : Shape := ⟨2, ![8192, 8192]⟩
abbrev S2048x8192 : Shape := ⟨2, ![2048, 8192]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 83
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x8192, .f32⟩
  | .hbm, ⟨2, _⟩ => ⟨S8192x2048, .f32⟩
  | .hbm, ⟨3, _⟩ => ⟨S2048x8192, .f32⟩
  | .hbm, ⟨4, _⟩ => ⟨S1x2048, .f32⟩
  | .hbm, ⟨5, _⟩ => ⟨S1x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S8192x8192, .f32⟩
  | .hbm, ⟨42, _⟩ => ⟨S8192x2048, .f32⟩
  | .hbm, ⟨43, _⟩ => ⟨S_, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S8192x2048, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S8192x2048, .f32⟩
  | .hbm, ⟨61, _⟩ => ⟨S8192x2048, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S_, .f32⟩
  | .hbm, ⟨76, _⟩ => ⟨S8192x1, .f32⟩
  | .hbm, ⟨77, _⟩ => ⟨S8192x1, .f32⟩
  | .hbm, ⟨78, _⟩ => ⟨S_, .f32⟩
  | .hbm, ⟨79, _⟩ => ⟨S8192, .f32⟩
  | .hbm, ⟨80, _⟩ => ⟨S8192x2048, .f32⟩
  | .hbm, ⟨81, _⟩ => ⟨S8192x2048, .f32⟩
  | .hbm, ⟨82, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_11 : Ref sig .tc := ⟨.hbm, 63, rfl⟩
abbrev main_v45 : Ref sig .tc := ⟨.hbm, 64, rfl⟩
abbrev main_v46 : Ref sig .tc := ⟨.hbm, 65, rfl⟩
abbrev main_cst_12 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_13 : Ref sig .tc := ⟨.hbm, 72, rfl⟩
abbrev main_v52 : Ref sig .tc := ⟨.hbm, 73, rfl⟩
abbrev main_v53 : Ref sig .tc := ⟨.hbm, 74, rfl⟩
abbrev main_cst_14 : Ref sig .tc := ⟨.hbm, 75, rfl⟩
abbrev main_v54 : Ref sig .tc := ⟨.hbm, 76, rfl⟩
abbrev main_v55 : Ref sig .tc := ⟨.hbm, 77, rfl⟩
abbrev main_cst_15 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]
-- ==== InLnInBwd.lean ====
abbrev S8192x2048 : Shape := ⟨2, ![8192, 2048]⟩
abbrev S8192x3136 : Shape := ⟨2, ![8192, 3136]⟩
abbrev S2048x3136 : Shape := ⟨2, ![2048, 3136]⟩
abbrev S1x2048 : Shape := ⟨2, ![1, 2048]⟩
abbrev S2048x1024 : Shape := ⟨2, ![2048, 1024]⟩
abbrev S2048x512 : Shape := ⟨2, ![2048, 512]⟩
abbrev S2048x64 : Shape := ⟨2, ![2048, 64]⟩
abbrev S_ : Shape := ⟨0, ![]⟩
abbrev S2048x3200 : Shape := ⟨2, ![2048, 3200]⟩
abbrev S8192x1024 : Shape := ⟨2, ![8192, 1024]⟩
abbrev S8192x512 : Shape := ⟨2, ![8192, 512]⟩
abbrev S8192x64 : Shape := ⟨2, ![8192, 64]⟩
abbrev S8192x3200 : Shape := ⟨2, ![8192, 3200]⟩
abbrev S512x640 : Shape := ⟨2, ![512, 640]⟩
abbrev S2048x640 : Shape := ⟨2, ![2048, 640]⟩
abbrev S512x2048 : Shape := ⟨2, ![512, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 27
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x3136, .f32⟩
  | .hbm, ⟨2, _⟩ => ⟨S8192x2048, .f32⟩
  | .hbm, ⟨3, _⟩ => ⟨S2048x3136, .f32⟩
  | .hbm, ⟨4, _⟩ => ⟨S1x2048, .f32⟩
  | .hbm, ⟨5, _⟩ => ⟨S1x2048, .f32⟩
  | .hbm, ⟨6, _⟩ => ⟨S2048x1024, .f32⟩
  | .hbm, ⟨7, _⟩ => ⟨S2048x1024, .f32⟩
  | .hbm, ⟨8, _⟩ => ⟨S2048x512, .f32⟩
  | .hbm, ⟨9, _⟩ => ⟨S2048x512, .f32⟩
  | .hbm, ⟨10, _⟩ => ⟨S2048x64, .f32⟩
  | .hbm, ⟨11, _⟩ => ⟨S_, .f32⟩
  | .hbm, ⟨12, _⟩ => ⟨S2048x64, .f32⟩
  | .hbm, ⟨13, _⟩ => ⟨S2048x3200, .f32⟩
  | .hbm, ⟨14, _⟩ => ⟨S2048x3200, .bf16⟩
  | .hbm, ⟨15, _⟩ => ⟨S8192x1024, .f32⟩
  | .hbm, ⟨16, _⟩ => ⟨S8192x1024, .f32⟩
  | .hbm, ⟨17, _⟩ => ⟨S8192x512, .f32⟩
  | .hbm, ⟨18, _⟩ => ⟨S8192x512, .f32⟩
  | .hbm, ⟨19, _⟩ => ⟨S8192x64, .f32⟩
  | .hbm, ⟨20, _⟩ => ⟨S_, .f32⟩
  | .hbm, ⟨21, _⟩ => ⟨S8192x64, .f32⟩
  | .hbm, ⟨22, _⟩ => ⟨S8192x3200, .f32⟩
  | .hbm, ⟨23, _⟩ => ⟨S8192x3200, .bf16⟩
  | .hbm, ⟨24, _⟩ => ⟨S8192x2048, .f32⟩
  | .hbm, ⟨25, _⟩ => ⟨S1x2048, .f32⟩
  | .hbm, ⟨26, _⟩ => ⟨S1x2048, .f32⟩
  | .local _ .vmem, ⟨0, _⟩ => ⟨S512x640, .bf16⟩
  | .local _ .vmem, ⟨1, _⟩ => ⟨S512x640, .bf16⟩
  | .local _ .vmem, ⟨2, _⟩ => ⟨S2048x640, .bf16⟩
  | .local _ .vmem, ⟨3, _⟩ => ⟨S2048x640, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S1x2048, .f32⟩
  | .local _ .vmem, ⟨13, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨3, ![16, 1, 5], ![false, false, false]⟩

def k0_cond2 (i : grid0.Coords) : BitVec 1 :=
  let arg2 : BitVec 32 := BitVec.ofNat 32 (i 2).val
  let c4_i32 : BitVec 32 := 4#32
  let v13 : BitVec 1 := Scalar.cmpi .eq arg2 c4_i32
  let v14 : BitVec 32 := Scalar.extui v13
  let c0_i32_8 : BitVec 32 := 0#32
  let v15 : BitVec 1 := Scalar.cmpi .ne v14 c0_i32_8
  v15

def k0_cond3 (i : grid0.Coords) : BitVec 1 :=
  let arg0 : BitVec 32 := BitVec.ofNat 32 (i 0).val
  let c0_i32_9 : BitVec 32 := 0#32
  let v16 : BitVec 1 := Scalar.cmpi .eq arg0 c0_i32_9
  let v42 : BitVec 32 := Scalar.extui v16
  let c0_i32_23 : BitVec 32 := 0#32
  let v43 : BitVec 1 := Scalar.cmpi .ne v42 c0_i32_23
  v43

def k0_cond4 (i : grid0.Coords) : BitVec 1 :=
  let arg0 : BitVec 32 := BitVec.ofNat 32 (i 0).val
  let c0_i32_9 : BitVec 32 := 0#32
  let v16 : BitVec 1 := Scalar.cmpi .eq arg0 c0_i32_9
  let v_true : BitVec 1 := 1#1
  let v44 : BitVec 1 := Scalar.xori v16 v_true
  let v45 : BitVec 32 := Scalar.extui v44
  let c0_i32_24 : BitVec 32 := 0#32
  let v46 : BitVec 1 := Scalar.cmpi .ne v45 c0_i32_24
  v46

def k0_cond5 (i : grid0.Coords) : BitVec 1 :=
  let arg0 : BitVec 32 := BitVec.ofNat 32 (i 0).val
  let c0_i32_9 : BitVec 32 := 0#32
  let v16 : BitVec 1 := Scalar.cmpi .eq arg0 c0_i32_9
  let v49 : BitVec 32 := Scalar.extui v16
  let c0_i32_26 : BitVec 32 := 0#32
  let v50 : BitVec 1 := Scalar.cmpi .ne v49 c0_i32_26
  v50

def k0_cond6 (i : grid0.Coords) : BitVec 1 :=
  let arg0 : BitVec 32 := BitVec.ofNat 32 (i 0).val
  let c0_i32_9 : BitVec 32 := 0#32
  let v16 : BitVec 1 := Scalar.cmpi .eq arg0 c0_i32_9
  let true_27 : BitVec 1 := 1#1
  let v51 : BitVec 1 := Scalar.xori v16 true_27
  let v52 : BitVec 32 := Scalar.extui v51
  let c0_i32_28 : BitVec 32 := 0#32
  let v53 : BitVec 1 := Scalar.cmpi .ne v52 c0_i32_28
  v53

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== InLnInBwdRefIdeal.lean ====
abbrev S8192x2048 : Shape := ⟨2, ![8192, 2048]⟩
abbrev S8192x3136 : Shape := ⟨2, ![8192, 3136]⟩
abbrev S2048x3136 : Shape := ⟨2, ![2048, 3136]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 82
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x3136, .f32⟩
  | .hbm, ⟨2, _⟩ => ⟨S8192x2048, .f32⟩
  | .hbm, ⟨3, _⟩ => ⟨S2048x3136, .f32⟩
  | .hbm, ⟨4, _⟩ => ⟨S1x2048, .f32⟩
  | .hbm, ⟨5, _⟩ => ⟨S1x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S8192x3136, .f32⟩
  | .hbm, ⟨42, _⟩ => ⟨S8192x2048, .f32⟩
  | .hbm, ⟨43, _⟩ => ⟨S_, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S8192x2048, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S8192x2048, .f32⟩
  | .hbm, ⟨61, _⟩ => ⟨S8192x2048, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S_, .f32⟩
  | .hbm, ⟨76, _⟩ => ⟨S8192x1, .f32⟩
  | .hbm, ⟨77, _⟩ => ⟨S8192x1, .f32⟩
  | .hbm, ⟨78, _⟩ => ⟨S_, .f32⟩
  | .hbm, ⟨79, _⟩ => ⟨S8192, .f32⟩
  | .hbm, ⟨80, _⟩ => ⟨S8192x2048, .f32⟩
  | .hbm, ⟨81, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_11 : Ref sig .tc := ⟨.hbm, 63, rfl⟩
abbrev main_v45 : Ref sig .tc := ⟨.hbm, 64, rfl⟩
abbrev main_v46 : Ref sig .tc := ⟨.hbm, 65, rfl⟩
abbrev main_cst_12 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_13 : Ref sig .tc := ⟨.hbm, 72, rfl⟩
abbrev main_v52 : Ref sig .tc := ⟨.hbm, 73, rfl⟩
abbrev main_v53 : Ref sig .tc := ⟨.hbm, 74, rfl⟩
abbrev main_cst_14 : Ref sig .tc := ⟨.hbm, 75, rfl⟩
abbrev main_v54 : Ref sig .tc := ⟨.hbm, 76, rfl⟩
abbrev main_v55 : Ref sig .tc := ⟨.hbm, 77, rfl⟩
abbrev main_cst_15 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩

abbrev nD : Nat := 1
abbrev τ : Topo := Topo.v7x

variable {F : FTy → Type} [FloatOps F]
-- ==== ConvBwd.lean ====
abbrev S8192x1024 : Shape := ⟨2, ![8192, 1024]⟩
abbrev S31x1024 : Shape := ⟨2, ![31, 1024]⟩
abbrev S_ : Shape := ⟨0, ![]⟩
abbrev S32x1024 : Shape := ⟨2, ![32, 1024]⟩
abbrev S1x1024 : Shape := ⟨2, ![1, 1024]⟩
abbrev S16x256 : Shape := ⟨2, ![16, 256]⟩
abbrev S256x256 : Shape := ⟨2, ![256, 256]⟩
abbrev S32x256 : Shape := ⟨2, ![32, 256]⟩
abbrev S1x256 : Shape := ⟨2, ![1, 256]⟩
abbrev S288x256 : Shape := ⟨2, ![288, 256]⟩
abbrev S8x280x256 : Shape := ⟨3, ![8, 280, 256]⟩
abbrev S32x8x256 : Shape := ⟨3, ![32, 8, 256]⟩
abbrev S280x256 : Shape := ⟨2, ![280, 256]⟩
abbrev S1x280x256 : Shape := ⟨3, ![1, 280, 256]⟩
abbrev S64x256 : Shape := ⟨2, ![64, 256]⟩
abbrev S1x64x256 : Shape := ⟨3, ![1, 64, 256]⟩
abbrev S1x8x256 : Shape := ⟨3, ![1, 8, 256]⟩
abbrev S8x256 : Shape := ⟨2, ![8, 256]⟩
abbrev S8x8x256 : Shape := ⟨3, ![8, 8, 256]⟩
abbrev S256 : Shape := ⟨1, ![256]⟩

abbrev nBuf : Space → Nat
  | .hbm => 9
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S31x1024, .f32⟩
  | .hbm, ⟨3, _⟩ => ⟨S_, .i32⟩
  | .hbm, ⟨4, _⟩ => ⟨S_, .f32⟩
  | .hbm, ⟨5, _⟩ => ⟨S32x1024, .f32⟩
  | .hbm, ⟨6, _⟩ => ⟨S8192x1024, .f32⟩
  | .hbm, ⟨7, _⟩ => ⟨S32x1024, .f32⟩
  | .hbm, ⟨8, _⟩ => ⟨S1x1024, .f32⟩
  | .local _ .vmem, ⟨0, _⟩ => ⟨S16x256, .f32⟩
  | .local _ .vmem, ⟨1, _⟩ => ⟨S16x256, .f32⟩
  | .local _ .vmem, ⟨2, _⟩ => ⟨S256x256, .f32⟩
  | .local _ .vmem, ⟨3, _⟩ => ⟨S256x256, .f32⟩
  | .local _ .vmem, ⟨4, _⟩ => ⟨S16x256, .f32⟩
  | .local _ .vmem, ⟨5, _⟩ => ⟨S16x256, .f32⟩
  | .local _ .vmem, ⟨6, _⟩ => ⟨S256x256, .f32⟩
  | .local _ .vmem, ⟨7, _⟩ => ⟨S256x256, .f32⟩
  | .local _ .vmem, ⟨8, _⟩ => ⟨S32x256, .f32⟩
  | .local _ .vmem, ⟨9, _⟩ => ⟨S32x256, .f32⟩
  | .local _ .vmem, ⟨10, _⟩ => ⟨S256x256, .f32⟩
  | .local _ .vmem, ⟨11, _⟩ => ⟨S256x256, .f32⟩
  | .local _ .vmem, ⟨12, _⟩ => ⟨S32x256, .f32⟩
  | .local _ .vmem, ⟨13, _⟩ => ⟨S32x256, .f32⟩
  | .local _ .vmem, ⟨14, _⟩ => ⟨S1x256, .f32⟩
  | .local _ .vmem, ⟨15, _⟩ => ⟨S1x256, .f32⟩
  | .local _ .vmem, ⟨16, _⟩ => ⟨S288x256, .f32⟩
  | .local _ .vmem, ⟨17, _⟩ => ⟨S8x280x256, .f32⟩
  | .local _ .vmem, ⟨18, _⟩ => ⟨S32x8x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32_1510 : BitVec 32 := 31#32
  let v2042 : BitVec 1 := Scalar.cmpi .eq arg1 c31_i32_1510
  let v2043 : BitVec 32 := Scalar.extui v2042
  let c0_i32_1511 : BitVec 32 := 0#32
  let v2044 : BitVec 1 := Scalar.cmpi .ne v2043 c0_i32_1511
  v2044

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ConvBwdRefIdeal.lean ====
abbrev S8192x1024 : Shape := ⟨2, ![8192, 1024]⟩
abbrev S31x1024 : Shape := ⟨2, ![31, 1024]⟩
abbrev S_ : Shape := ⟨0, ![]⟩
abbrev S1x1024 : Shape := ⟨2, ![1, 1024]⟩
abbrev S15x1024 : Shape := ⟨2, ![15, 1024]⟩
abbrev S8222x1024 : Shape := ⟨2, ![8222, 1024]⟩
abbrev S1024 : Shape := ⟨1, ![1024]⟩
abbrev S32x1024 : Shape := ⟨2, ![32, 1024]⟩

abbrev nBuf : Space → Nat
  | .hbm => 706
  | .vmem => 0
  | .smem => 0
  | _ => 0

abbrev hbmTy0_0 (i : Nat) : BufTy := match i % 128 with
  | 0 => ⟨S8192x1024, .f32⟩
  | 1 => ⟨S8192x1024, .f32⟩
  | 2 => ⟨S31x1024, .f32⟩
  | 3 => ⟨S_, .f32⟩
  | 4 => ⟨S1x1024, .f32⟩
  | 5 => ⟨S_, .f32⟩
  | 6 => ⟨S15x1024, .f32⟩
  | 7 => ⟨S8222x1024, .f32⟩
  | 8 => ⟨S_, .f32⟩
  | 9 => ⟨S15x1024, .f32⟩
  | 10 => ⟨S_, .f32⟩
  | 11 => ⟨S15x1024, .f32⟩
  | 12 => ⟨S8192x1024, .f32⟩
  | 13 => ⟨S1x1024, .f32⟩
  | 14 => ⟨S1024, .f32⟩
  | 15 => ⟨S1x1024, .f32⟩
  | 16 => ⟨S8192x1024, .f32⟩
  | 17 => ⟨S8192x1024, .f32⟩
  | 18 => ⟨S_, .f32⟩
  | 19 => ⟨S8192x1024, .f32⟩
  | 20 => ⟨S8192x1024, .f32⟩
  | 21 => ⟨S8192x1024, .f32⟩
  | 22 => ⟨S1x1024, .f32⟩
  | 23 => ⟨S1024, .f32⟩
  | 24 => ⟨S1x1024, .f32⟩
  | 25 => ⟨S8192x1024, .f32⟩
  | 26 => ⟨S8192x1024, .f32⟩
  | 27 => ⟨S8192x1024, .f32⟩
  | 28 => ⟨S8192x1024, .f32⟩
  | 29 => ⟨S1x1024, .f32⟩
  | 30 => ⟨S1024, .f32⟩
  | 31 => ⟨S1x1024, .f32⟩
  | 32 => ⟨S8192x1024, .f32⟩
  | 33 => ⟨S8192x1024, .f32⟩
  | 34 => ⟨S8192x1024, .f32⟩
  | 35 => ⟨S8192x1024, .f32⟩
  | 36 => ⟨S1x1024, .f32⟩
  | 37 => ⟨S1024, .f32⟩
  | 38 => ⟨S1x1024, .f32⟩
  | 39 => ⟨S8192x1024, .f32⟩
  | 40 => ⟨S8192x1024, .f32⟩
  | 41 => ⟨S8192x1024, .f32⟩
  | 42 => ⟨S8192x1024, .f32⟩
  | 43 => ⟨S1x1024, .f32⟩
  | 44 => ⟨S1024, .f32⟩
  | 45 => ⟨S1x1024, .f32⟩
  | 46 => ⟨S8192x1024, .f32⟩
  | 47 => ⟨S8192x1024, .f32⟩
  | 48 => ⟨S8192x1024, .f32⟩
  | 49 => ⟨S8192x1024, .f32⟩
  | 50 => ⟨S1x1024, .f32⟩
  | 51 => ⟨S1024, .f32⟩
  | 52 => ⟨S1x1024, .f32⟩
  | 53 => ⟨S8192x1024, .f32⟩
  | 54 => ⟨S8192x1024, .f32⟩
  | 55 => ⟨S8192x1024, .f32⟩
  | 56 => ⟨S8192x1024, .f32⟩
  | 57 => ⟨S1x1024, .f32⟩
  | 58 => ⟨S1024, .f32⟩
  | 59 => ⟨S1x1024, .f32⟩
  | 60 => ⟨S8192x1024, .f32⟩
  | 61 => ⟨S8192x1024, .f32⟩
  | 62 => ⟨S8192x1024, .f32⟩
  | 63 => ⟨S8192x1024, .f32⟩
  | 64 => ⟨S1x1024, .f32⟩
  | 65 => ⟨S1024, .f32⟩
  | 66 => ⟨S1x1024, .f32⟩
  | 67 => ⟨S8192x1024, .f32⟩
  | 68 => ⟨S8192x1024, .f32⟩
  | 69 => ⟨S8192x1024, .f32⟩
  | 70 => ⟨S8192x1024, .f32⟩
  | 71 => ⟨S1x1024, .f32⟩
  | 72 => ⟨S1024, .f32⟩
  | 73 => ⟨S1x1024, .f32⟩
  | 74 => ⟨S8192x1024, .f32⟩
  | 75 => ⟨S8192x1024, .f32⟩
  | 76 => ⟨S8192x1024, .f32⟩
  | 77 => ⟨S8192x1024, .f32⟩
  | 78 => ⟨S1x1024, .f32⟩
  | 79 => ⟨S1024, .f32⟩
  | 80 => ⟨S1x1024, .f32⟩
  | 81 => ⟨S8192x1024, .f32⟩
  | 82 => ⟨S8192x1024, .f32⟩
  | 83 => ⟨S8192x1024, .f32⟩
  | 84 => ⟨S8192x1024, .f32⟩
  | 85 => ⟨S1x1024, .f32⟩
  | 86 => ⟨S1024, .f32⟩
  | 87 => ⟨S1x1024, .f32⟩
  | 88 => ⟨S8192x1024, .f32⟩
  | 89 => ⟨S8192x1024, .f32⟩
  | 90 => ⟨S8192x1024, .f32⟩
  | 91 => ⟨S8192x1024, .f32⟩
  | 92 => ⟨S1x1024, .f32⟩
  | 93 => ⟨S1024, .f32⟩
  | 94 => ⟨S1x1024, .f32⟩
  | 95 => ⟨S8192x1024, .f32⟩
  | 96 => ⟨S8192x1024, .f32⟩
  | 97 => ⟨S8192x1024, .f32⟩
  | 98 => ⟨S8192x1024, .f32⟩
  | 99 => ⟨S1x1024, .f32⟩
  | 100 => ⟨S1024, .f32⟩
  | 101 => ⟨S1x1024, .f32⟩
  | 102 => ⟨S8192x1024, .f32⟩
  | 103 => ⟨S8192x1024, .f32⟩
  | 104 => ⟨S8192x1024, .f32⟩
  | 105 => ⟨S8192x1024, .f32⟩
  | 106 => ⟨S1x1024, .f32⟩
  | 107 => ⟨S1024, .f32⟩
  | 108 => ⟨S1x1024, .f32⟩
  | 109 => ⟨S8192x1024, .f32⟩
  | 110 => ⟨S8192x1024, .f32⟩
  | 111 => ⟨S8192x1024, .f32⟩
  | 112 => ⟨S8192x1024, .f32⟩
  | 113 => ⟨S1x1024, .f32⟩
  | 114 => ⟨S1024, .f32⟩
  | 115 => ⟨S1x1024, .f32⟩
  | 116 => ⟨S8192x1024, .f32⟩
  | 117 => ⟨S8192x1024, .f32⟩
  | 118 => ⟨S8192x1024, .f32⟩
  | 119 => ⟨S8192x1024, .f32⟩
  | 120 => ⟨S1x1024, .f32⟩
  | 121 => ⟨S1024, .f32⟩
  | 122 => ⟨S1x1024, .f32⟩
  | 123 => ⟨S8192x1024, .f32⟩
  | 124 => ⟨S8192x1024, .f32⟩
  | 125 => ⟨S8192x1024, .f32⟩
  | 126 => ⟨S8192x1024, .f32⟩
  | 127 => ⟨S1x1024, .f32⟩
  | _ => ⟨S8192x1024, .f32⟩

abbrev hbmTy0_1 (i : Nat) : BufTy := match i % 128 with
  | 0 => ⟨S1024, .f32⟩
  | 1 => ⟨S1x1024, .f32⟩
  | 2 => ⟨S8192x1024, .f32⟩
  | 3 => ⟨S8192x1024, .f32⟩
  | 4 => ⟨S8192x1024, .f32⟩
  | 5 => ⟨S8192x1024, .f32⟩
  | 6 => ⟨S1x1024, .f32⟩
  | 7 => ⟨S1024, .f32⟩
  | 8 => ⟨S1x1024, .f32⟩
  | 9 => ⟨S8192x1024, .f32⟩
  | 10 => ⟨S8192x1024, .f32⟩
  | 11 => ⟨S8192x1024, .f32⟩
  | 12 => ⟨S8192x1024, .f32⟩
  | 13 => ⟨S1x1024, .f32⟩
  | 14 => ⟨S1024, .f32⟩
  | 15 => ⟨S1x1024, .f32⟩
  | 16 => ⟨S8192x1024, .f32⟩
  | 17 => ⟨S8192x1024, .f32⟩
  | 18 => ⟨S8192x1024, .f32⟩
  | 19 => ⟨S8192x1024, .f32⟩
  | 20 => ⟨S1x1024, .f32⟩
  | 21 => ⟨S1024, .f32⟩
  | 22 => ⟨S1x1024, .f32⟩
  | 23 => ⟨S8192x1024, .f32⟩
  | 24 => ⟨S8192x1024, .f32⟩
  | 25 => ⟨S8192x1024, .f32⟩
  | 26 => ⟨S8192x1024, .f32⟩
  | 27 => ⟨S1x1024, .f32⟩
  | 28 => ⟨S1024, .f32⟩
  | 29 => ⟨S1x1024, .f32⟩
  | 30 => ⟨S8192x1024, .f32⟩
  | 31 => ⟨S8192x1024, .f32⟩
  | 32 => ⟨S8192x1024, .f32⟩
  | 33 => ⟨S8192x1024, .f32⟩
  | 34 => ⟨S1x1024, .f32⟩
  | 35 => ⟨S1024, .f32⟩
  | 36 => ⟨S1x1024, .f32⟩
  | 37 => ⟨S8192x1024, .f32⟩
  | 38 => ⟨S8192x1024, .f32⟩
  | 39 => ⟨S8192x1024, .f32⟩
  | 40 => ⟨S8192x1024, .f32⟩
  | 41 => ⟨S1x1024, .f32⟩
  | 42 => ⟨S1024, .f32⟩
  | 43 => ⟨S1x1024, .f32⟩
  | 44 => ⟨S8192x1024, .f32⟩
  | 45 => ⟨S8192x1024, .f32⟩
  | 46 => ⟨S8192x1024, .f32⟩
  | 47 => ⟨S8192x1024, .f32⟩
  | 48 => ⟨S1x1024, .f32⟩
  | 49 => ⟨S1024, .f32⟩
  | 50 => ⟨S1x1024, .f32⟩
  | 51 => ⟨S8192x1024, .f32⟩
  | 52 => ⟨S8192x1024, .f32⟩
  | 53 => ⟨S8192x1024, .f32⟩
  | 54 => ⟨S8192x1024, .f32⟩
  | 55 => ⟨S1x1024, .f32⟩
  | 56 => ⟨S1024, .f32⟩
  | 57 => ⟨S1x1024, .f32⟩
  | 58 => ⟨S8192x1024, .f32⟩
  | 59 => ⟨S8192x1024, .f32⟩
  | 60 => ⟨S8192x1024, .f32⟩
  | 61 => ⟨S8192x1024, .f32⟩
  | 62 => ⟨S1x1024, .f32⟩
  | 63 => ⟨S1024, .f32⟩
  | 64 => ⟨S1x1024, .f32⟩
  | 65 => ⟨S8192x1024, .f32⟩
  | 66 => ⟨S8192x1024, .f32⟩
  | 67 => ⟨S8192x1024, .f32⟩
  | 68 => ⟨S8192x1024, .f32⟩
  | 69 => ⟨S1x1024, .f32⟩
  | 70 => ⟨S1024, .f32⟩
  | 71 => ⟨S1x1024, .f32⟩
  | 72 => ⟨S8192x1024, .f32⟩
  | 73 => ⟨S8192x1024, .f32⟩
  | 74 => ⟨S8192x1024, .f32⟩
  | 75 => ⟨S8192x1024, .f32⟩
  | 76 => ⟨S1x1024, .f32⟩
  | 77 => ⟨S1024, .f32⟩
  | 78 => ⟨S1x1024, .f32⟩
  | 79 => ⟨S8192x1024, .f32⟩
  | 80 => ⟨S8192x1024, .f32⟩
  | 81 => ⟨S8192x1024, .f32⟩
  | 82 => ⟨S8192x1024, .f32⟩
  | 83 => ⟨S1x1024, .f32⟩
  | 84 => ⟨S1024, .f32⟩
  | 85 => ⟨S1x1024, .f32⟩
  | 86 => ⟨S8192x1024, .f32⟩
  | 87 => ⟨S8192x1024, .f32⟩
  | 88 => ⟨S8192x1024, .f32⟩
  | 89 => ⟨S8192x1024, .f32⟩
  | 90 => ⟨S1x1024, .f32⟩
  | 91 => ⟨S1024, .f32⟩
  | 92 => ⟨S1x1024, .f32⟩
  | 93 => ⟨S8192x1024, .f32⟩
  | 94 => ⟨S8192x1024, .f32⟩
  | 95 => ⟨S8192x1024, .f32⟩
  | 96 => ⟨S8192x1024, .f32⟩
  | 97 => ⟨S1x1024, .f32⟩
  | 98 => ⟨S1024, .f32⟩
  | 99 => ⟨S1x1024, .f32⟩
  | 100 => ⟨S8192x1024, .f32⟩
  | 101 => ⟨S8192x1024, .f32⟩
  | 102 => ⟨S8192x1024, .f32⟩
  | 103 => ⟨S8192x1024, .f32⟩
  | 104 => ⟨S8192x1024, .f32⟩
  | 105 => ⟨S8192x1024, .f32⟩
  | 106 => ⟨S_, .f32⟩
  | 107 => ⟨S1024, .f32⟩
  | 108 => ⟨S1x1024, .f32⟩
  | 109 => ⟨S8192x1024, .f32⟩
  | 110 => ⟨S_, .f32⟩
  | 111 => ⟨S1024, .f32⟩
  | 112 => ⟨S1x1024, .f32⟩
  | 113 => ⟨S8192x1024, .f32⟩
  | 114 => ⟨S8192x1024, .f32⟩
  | 115 => ⟨S_, .f32⟩
  | 116 => ⟨S1024, .f32⟩
  | 117 => ⟨S1x1024, .f32⟩
  | 118 => ⟨S_, .f32⟩
  | 119 => ⟨S31x1024, .f32⟩
  | 120 => ⟨S_, .f32⟩
  | 121 => ⟨S8222x1024, .f32⟩
  | 122 => ⟨S8192x1024, .f32⟩
  | 123 => ⟨S_, .f32⟩
  | 124 => ⟨S1024, .f32⟩
  | 125 => ⟨S1x1024, .f32⟩
  | 126 => ⟨S8192x1024, .f32⟩
  | 127 => ⟨S8192x1024, .f32⟩
  | _ => ⟨S8192x1024, .f32⟩

abbrev hbmTy0_2 (i : Nat) : BufTy := match i % 128 with
  | 0 => ⟨S_, .f32⟩
  | 1 => ⟨S1024, .f32⟩
  | 2 => ⟨S1x1024, .f32⟩
  | 3 => ⟨S_, .f32⟩
  | 4 => ⟨S31x1024, .f32⟩
  | 5 => ⟨S31x1024, .f32⟩
  | 6 => ⟨S_, .f32⟩
  | 7 => ⟨S8222x1024, .f32⟩
  | 8 => ⟨S8222x1024, .f32⟩
  | 9 => ⟨S8192x1024, .f32⟩
  | 10 => ⟨S_, .f32⟩
  | 11 => ⟨S1024, .f32⟩
  | 12 => ⟨S1x1024, .f32⟩
  | 13 => ⟨S8192x1024, .f32⟩
  | 14 => ⟨S8192x1024, .f32⟩
  | 15 => ⟨S_, .f32⟩
  | 16 => ⟨S1024, .f32⟩
  | 17 => ⟨S1x1024, .f32⟩
  | 18 => ⟨S_, .f32⟩
  | 19 => ⟨S31x1024, .f32⟩
  | 20 => ⟨S31x1024, .f32⟩
  | 21 => ⟨S_, .f32⟩
  | 22 => ⟨S8222x1024, .f32⟩
  | 23 => ⟨S8222x1024, .f32⟩
  | 24 => ⟨S8192x1024, .f32⟩
  | 25 => ⟨S_, .f32⟩
  | 26 => ⟨S1024, .f32⟩
  | 27 => ⟨S1x1024, .f32⟩
  | 28 => ⟨S8192x1024, .f32⟩
  | 29 => ⟨S8192x1024, .f32⟩
  | 30 => ⟨S_, .f32⟩
  | 31 => ⟨S1024, .f32⟩
  | 32 => ⟨S1x1024, .f32⟩
  | 33 => ⟨S_, .f32⟩
  | 34 => ⟨S31x1024, .f32⟩
  | 35 => ⟨S31x1024, .f32⟩
  | 36 => ⟨S_, .f32⟩
  | 37 => ⟨S8222x1024, .f32⟩
  | 38 => ⟨S8222x1024, .f32⟩
  | 39 => ⟨S8192x1024, .f32⟩
  | 40 => ⟨S_, .f32⟩
  | 41 => ⟨S1024, .f32⟩
  | 42 => ⟨S1x1024, .f32⟩
  | 43 => ⟨S8192x1024, .f32⟩
  | 44 => ⟨S8192x1024, .f32⟩
  | 45 => ⟨S_, .f32⟩
  | 46 => ⟨S1024, .f32⟩
  | 47 => ⟨S1x1024, .f32⟩
  | 48 => ⟨S_, .f32⟩
  | 49 => ⟨S31x1024, .f32⟩
  | 50 => ⟨S31x1024, .f32⟩
  | 51 => ⟨S_, .f32⟩
  | 52 => ⟨S8222x1024, .f32⟩
  | 53 => ⟨S8222x1024, .f32⟩
  | 54 => ⟨S8192x1024, .f32⟩
  | 55 => ⟨S_, .f32⟩
  | 56 => ⟨S1024, .f32⟩
  | 57 => ⟨S1x1024, .f32⟩
  | 58 => ⟨S8192x1024, .f32⟩
  | 59 => ⟨S8192x1024, .f32⟩
  | 60 => ⟨S_, .f32⟩
  | 61 => ⟨S1024, .f32⟩
  | 62 => ⟨S1x1024, .f32⟩
  | 63 => ⟨S_, .f32⟩
  | 64 => ⟨S31x1024, .f32⟩
  | 65 => ⟨S31x1024, .f32⟩
  | 66 => ⟨S_, .f32⟩
  | 67 => ⟨S8222x1024, .f32⟩
  | 68 => ⟨S8222x1024, .f32⟩
  | 69 => ⟨S8192x1024, .f32⟩
  | 70 => ⟨S_, .f32⟩
  | 71 => ⟨S1024, .f32⟩
  | 72 => ⟨S1x1024, .f32⟩
  | 73 => ⟨S8192x1024, .f32⟩
  | 74 => ⟨S8192x1024, .f32⟩
  | 75 => ⟨S_, .f32⟩
  | 76 => ⟨S1024, .f32⟩
  | 77 => ⟨S1x1024, .f32⟩
  | 78 => ⟨S_, .f32⟩
  | 79 => ⟨S31x1024, .f32⟩
  | 80 => ⟨S31x1024, .f32⟩
  | 81 => ⟨S_, .f32⟩
  | 82 => ⟨S8222x1024, .f32⟩
  | 83 => ⟨S8222x1024, .f32⟩
  | 84 => ⟨S8192x1024, .f32⟩
  | 85 => ⟨S_, .f32⟩
  | 86 => ⟨S1024, .f32⟩
  | 87 => ⟨S1x1024, .f32⟩
  | 88 => ⟨S8192x1024, .f32⟩
  | 89 => ⟨S8192x1024, .f32⟩
  | 90 => ⟨S_, .f32⟩
  | 91 => ⟨S1024, .f32⟩
  | 92 => ⟨S1x1024, .f32⟩
  | 93 => ⟨S_, .f32⟩
  | 94 => ⟨S31x1024, .f32⟩
  | 95 => ⟨S31x1024, .f32⟩
  | 96 => ⟨S_, .f32⟩
  | 97 => ⟨S8222x1024, .f32⟩
  | 98 => ⟨S8222x1024, .f32⟩
  | 99 => ⟨S8192x1024, .f32⟩
  | 100 => ⟨S_, .f32⟩
  | 101 => ⟨S1024, .f32⟩
  | 102 => ⟨S1x1024, .f32⟩
  | 103 => ⟨S8192x1024, .f32⟩
  | 104 => ⟨S8192x1024, .f32⟩
  | 105 => ⟨S_, .f32⟩
  | 106 => ⟨S1024, .f32⟩
  | 107 => ⟨S1x1024, .f32⟩
  | 108 => ⟨S_, .f32⟩
  | 109 => ⟨S31x1024, .f32⟩
  | 110 => ⟨S31x1024, .f32⟩
  | 111 => ⟨S_, .f32⟩
  | 112 => ⟨S8222x1024, .f32⟩
  | 113 => ⟨S8222x1024, .f32⟩
  | 114 => ⟨S8192x1024, .f32⟩
  | 115 => ⟨S_, .f32⟩
  | 116 => ⟨S1024, .f32⟩
  | 117 => ⟨S1x1024, .f32⟩
  | 118 => ⟨S8192x1024, .f32⟩
  | 119 => ⟨S8192x1024, .f32⟩
  | 120 => ⟨S_, .f32⟩
  | 121 => ⟨S1024, .f32⟩
  | 122 => ⟨S1x1024, .f32⟩
  | 123 => ⟨S_, .f32⟩
  | 124 => ⟨S31x1024, .f32⟩
  | 125 => ⟨S31x1024, .f32⟩
  | 126 => ⟨S_, .f32⟩
  | 127 => ⟨S8222x1024, .f32⟩
  | _ => ⟨S8192x1024, .f32⟩

abbrev hbmTy0_3 (i : Nat) : BufTy := match i % 128 with
  | 0 => ⟨S8222x1024, .f32⟩
  | 1 => ⟨S8192x1024, .f32⟩
  | 2 => ⟨S_, .f32⟩
  | 3 => ⟨S1024, .f32⟩
  | 4 => ⟨S1x1024, .f32⟩
  | 5 => ⟨S8192x1024, .f32⟩
  | 6 => ⟨S8192x1024, .f32⟩
  | 7 => ⟨S_, .f32⟩
  | 8 => ⟨S1024, .f32⟩
  | 9 => ⟨S1x1024, .f32⟩
  | 10 => ⟨S_, .f32⟩
  | 11 => ⟨S31x1024, .f32⟩
  | 12 => ⟨S31x1024, .f32⟩
  | 13 => ⟨S_, .f32⟩
  | 14 => ⟨S8222x1024, .f32⟩
  | 15 => ⟨S8222x1024, .f32⟩
  | 16 => ⟨S8192x1024, .f32⟩
  | 17 => ⟨S_, .f32⟩
  | 18 => ⟨S1024, .f32⟩
  | 19 => ⟨S1x1024, .f32⟩
  | 20 => ⟨S8192x1024, .f32⟩
  | 21 => ⟨S8192x1024, .f32⟩
  | 22 => ⟨S_, .f32⟩
  | 23 => ⟨S1024, .f32⟩
  | 24 => ⟨S1x1024, .f32⟩
  | 25 => ⟨S_, .f32⟩
  | 26 => ⟨S31x1024, .f32⟩
  | 27 => ⟨S31x1024, .f32⟩
  | 28 => ⟨S_, .f32⟩
  | 29 => ⟨S8222x1024, .f32⟩
  | 30 => ⟨S8222x1024, .f32⟩
  | 31 => ⟨S8192x1024, .f32⟩
  | 32 => ⟨S_, .f32⟩
  | 33 => ⟨S1024, .f32⟩
  | 34 => ⟨S1x1024, .f32⟩
  | 35 => ⟨S8192x1024, .f32⟩
  | 36 => ⟨S8192x1024, .f32⟩
  | 37 => ⟨S_, .f32⟩
  | 38 => ⟨S1024, .f32⟩
  | 39 => ⟨S1x1024, .f32⟩
  | 40 => ⟨S_, .f32⟩
  | 41 => ⟨S31x1024, .f32⟩
  | 42 => ⟨S31x1024, .f32⟩
  | 43 => ⟨S_, .f32⟩
  | 44 => ⟨S8222x1024, .f32⟩
  | 45 => ⟨S8222x1024, .f32⟩
  | 46 => ⟨S8192x1024, .f32⟩
  | 47 => ⟨S_, .f32⟩
  | 48 => ⟨S1024, .f32⟩
  | 49 => ⟨S1x1024, .f32⟩
  | 50 => ⟨S8192x1024, .f32⟩
  | 51 => ⟨S8192x1024, .f32⟩
  | 52 => ⟨S_, .f32⟩
  | 53 => ⟨S1024, .f32⟩
  | 54 => ⟨S1x1024, .f32⟩
  | 55 => ⟨S_, .f32⟩
  | 56 => ⟨S31x1024, .f32⟩
  | 57 => ⟨S31x1024, .f32⟩
  | 58 => ⟨S_, .f32⟩
  | 59 => ⟨S8222x1024, .f32⟩
  | 60 => ⟨S8222x1024, .f32⟩
  | 61 => ⟨S8192x1024, .f32⟩
  | 62 => ⟨S_, .f32⟩
  | 63 => ⟨S1024, .f32⟩
  | 64 => ⟨S1x1024, .f32⟩
  | 65 => ⟨S8192x1024, .f32⟩
  | 66 => ⟨S8192x1024, .f32⟩
  | 67 => ⟨S_, .f32⟩
  | 68 => ⟨S1024, .f32⟩
  | 69 => ⟨S1x1024, .f32⟩
  | 70 => ⟨S_, .f32⟩
  | 71 => ⟨S31x1024, .f32⟩
  | 72 => ⟨S31x1024, .f32⟩
  | 73 => ⟨S_, .f32⟩
  | 74 => ⟨S8222x1024, .f32⟩
  | 75 => ⟨S8222x1024, .f32⟩
  | 76 => ⟨S8192x1024, .f32⟩
  | 77 => ⟨S_, .f32⟩
  | 78 => ⟨S1024, .f32⟩
  | 79 => ⟨S1x1024, .f32⟩
  | 80 => ⟨S8192x1024, .f32⟩
  | 81 => ⟨S8192x1024, .f32⟩
  | 82 => ⟨S_, .f32⟩
  | 83 => ⟨S1024, .f32⟩
  | 84 => ⟨S1x1024, .f32⟩
  | 85 => ⟨S_, .f32⟩
  | 86 => ⟨S31x1024, .f32⟩
  | 87 => ⟨S31x1024, .f32⟩
  | 88 => ⟨S_, .f32⟩
  | 89 => ⟨S8222x1024, .f32⟩
  | 90 => ⟨S8222x1024, .f32⟩
  | 91 => ⟨S8192x1024, .f32⟩
  | 92 => ⟨S_, .f32⟩
  | 93 => ⟨S1024, .f32⟩
  | 94 => ⟨S1x1024, .f32⟩
  | 95 => ⟨S8192x1024, .f32⟩
  | 96 => ⟨S8192x1024, .f32⟩
  | 97 => ⟨S_, .f32⟩
  | 98 => ⟨S1024, .f32⟩
  | 99 => ⟨S1x1024, .f32⟩
  | 100 => ⟨S_, .f32⟩
  | 101 => ⟨S31x1024, .f32⟩
  | 102 => ⟨S31x1024, .f32⟩
  | 103 => ⟨S_, .f32⟩
  | 104 => ⟨S8222x1024, .f32⟩
  | 105 => ⟨S8222x1024, .f32⟩
  | 106 => ⟨S8192x1024, .f32⟩
  | 107 => ⟨S_, .f32⟩
  | 108 => ⟨S1024, .f32⟩
  | 109 => ⟨S1x1024, .f32⟩
  | 110 => ⟨S8192x1024, .f32⟩
  | 111 => ⟨S8192x1024, .f32⟩
  | 112 => ⟨S_, .f32⟩
  | 113 => ⟨S1024, .f32⟩
  | 114 => ⟨S1x1024, .f32⟩
  | 115 => ⟨S_, .f32⟩
  | 116 => ⟨S31x1024, .f32⟩
  | 117 => ⟨S31x1024, .f32⟩
  | 118 => ⟨S_, .f32⟩
  | 119 => ⟨S8222x1024, .f32⟩
  | 120 => ⟨S8222x1024, .f32⟩
  | 121 => ⟨S8192x1024, .f32⟩
  | 122 => ⟨S_, .f32⟩
  | 123 => ⟨S1024, .f32⟩
  | 124 => ⟨S1x1024, .f32⟩
  | 125 => ⟨S8192x1024, .f32⟩
  | 126 => ⟨S8192x1024, .f32⟩
  | 127 => ⟨S_, .f32⟩
  | _ => ⟨S8192x1024, .f32⟩

abbrev hbmTy0_4 (i : Nat) : BufTy := match i % 128 with
  | 0 => ⟨S1024, .f32⟩
  | 1 => ⟨S1x1024, .f32⟩
  | 2 => ⟨S_, .f32⟩
  | 3 => ⟨S31x1024, .f32⟩
  | 4 => ⟨S31x1024, .f32⟩
  | 5 => ⟨S_, .f32⟩
  | 6 => ⟨S8222x1024, .f32⟩
  | 7 => ⟨S8222x1024, .f32⟩
  | 8 => ⟨S8192x1024, .f32⟩
  | 9 => ⟨S_, .f32⟩
  | 10 => ⟨S1024, .f32⟩
  | 11 => ⟨S1x1024, .f32⟩
  | 12 => ⟨S8192x1024, .f32⟩
  | 13 => ⟨S8192x1024, .f32⟩
  | 14 => ⟨S_, .f32⟩
  | 15 => ⟨S1024, .f32⟩
  | 16 => ⟨S1x1024, .f32⟩
  | 17 => ⟨S_, .f32⟩
  | 18 => ⟨S31x1024, .f32⟩
  | 19 => ⟨S31x1024, .f32⟩
  | 20 => ⟨S_, .f32⟩
  | 21 => ⟨S8222x1024, .f32⟩
  | 22 => ⟨S8222x1024, .f32⟩
  | 23 => ⟨S8192x1024, .f32⟩
  | 24 => ⟨S_, .f32⟩
  | 25 => ⟨S1024, .f32⟩
  | 26 => ⟨S1x1024, .f32⟩
  | 27 => ⟨S8192x1024, .f32⟩
  | 28 => ⟨S8192x1024, .f32⟩
  | 29 => ⟨S_, .f32⟩
  | 30 => ⟨S1024, .f32⟩
  | 31 => ⟨S1x1024, .f32⟩
  | 32 => ⟨S_, .f32⟩
  | 33 => ⟨S31x1024, .f32⟩
  | 34 => ⟨S31x1024, .f32⟩
  | 35 => ⟨S_, .f32⟩
  | 36 => ⟨S8222x1024, .f32⟩
  | 37 => ⟨S8222x1024, .f32⟩
  | 38 => ⟨S8192x1024, .f32⟩
  | 39 => ⟨S_, .f32⟩
  | 40 => ⟨S1024, .f32⟩
  | 41 => ⟨S1x1024, .f32⟩
  | 42 => ⟨S8192x1024, .f32⟩
  | 43 => ⟨S8192x1024, .f32⟩
  | 44 => ⟨S_, .f32⟩
  | 45 => ⟨S1024, .f32⟩
  | 46 => ⟨S1x1024, .f32⟩
  | 47 => ⟨S_, .f32⟩
  | 48 => ⟨S31x1024, .f32⟩
  | 49 => ⟨S31x1024, .f32⟩
  | 50 => ⟨S_, .f32⟩
  | 51 => ⟨S8222x1024, .f32⟩
  | 52 => ⟨S8222x1024, .f32⟩
  | 53 => ⟨S8192x1024, .f32⟩
  | 54 => ⟨S_, .f32⟩
  | 55 => ⟨S1024, .f32⟩
  | 56 => ⟨S1x1024, .f32⟩
  | 57 => ⟨S8192x1024, .f32⟩
  | 58 => ⟨S8192x1024, .f32⟩
  | 59 => ⟨S_, .f32⟩
  | 60 => ⟨S1024, .f32⟩
  | 61 => ⟨S1x1024, .f32⟩
  | 62 => ⟨S_, .f32⟩
  | 63 => ⟨S31x1024, .f32⟩
  | 64 => ⟨S31x1024, .f32⟩
  | 65 => ⟨S_, .f32⟩
  | 66 => ⟨S8222x1024, .f32⟩
  | 67 => ⟨S8222x1024, .f32⟩
  | 68 => ⟨S8192x1024, .f32⟩
  | 69 => ⟨S_, .f32⟩
  | 70 => ⟨S1024, .f32⟩
  | 71 => ⟨S1x1024, .f32⟩
  | 72 => ⟨S8192x1024, .f32⟩
  | 73 => ⟨S8192x1024, .f32⟩
  | 74 => ⟨S_, .f32⟩
  | 75 => ⟨S1024, .f32⟩
  | 76 => ⟨S1x1024, .f32⟩
  | 77 => ⟨S_, .f32⟩
  | 78 => ⟨S31x1024, .f32⟩
  | 79 => ⟨S31x1024, .f32⟩
  | 80 => ⟨S_, .f32⟩
  | 81 => ⟨S8222x1024, .f32⟩
  | 82 => ⟨S8222x1024, .f32⟩
  | 83 => ⟨S8192x1024, .f32⟩
  | 84 => ⟨S_, .f32⟩
  | 85 => ⟨S1024, .f32⟩
  | 86 => ⟨S1x1024, .f32⟩
  | 87 => ⟨S8192x1024, .f32⟩
  | 88 => ⟨S8192x1024, .f32⟩
  | 89 => ⟨S_, .f32⟩
  | 90 => ⟨S1024, .f32⟩
  | 91 => ⟨S1x1024, .f32⟩
  | 92 => ⟨S_, .f32⟩
  | 93 => ⟨S31x1024, .f32⟩
  | 94 => ⟨S31x1024, .f32⟩
  | 95 => ⟨S_, .f32⟩
  | 96 => ⟨S8222x1024, .f32⟩
  | 97 => ⟨S8222x1024, .f32⟩
  | 98 => ⟨S8192x1024, .f32⟩
  | 99 => ⟨S_, .f32⟩
  | 100 => ⟨S1024, .f32⟩
  | 101 => ⟨S1x1024, .f32⟩
  | 102 => ⟨S8192x1024, .f32⟩
  | 103 => ⟨S8192x1024, .f32⟩
  | 104 => ⟨S_, .f32⟩
  | 105 => ⟨S1024, .f32⟩
  | 106 => ⟨S1x1024, .f32⟩
  | 107 => ⟨S_, .f32⟩
  | 108 => ⟨S31x1024, .f32⟩
  | 109 => ⟨S31x1024, .f32⟩
  | 110 => ⟨S_, .f32⟩
  | 111 => ⟨S8222x1024, .f32⟩
  | 112 => ⟨S8222x1024, .f32⟩
  | 113 => ⟨S8192x1024, .f32⟩
  | 114 => ⟨S_, .f32⟩
  | 115 => ⟨S1024, .f32⟩
  | 116 => ⟨S1x1024, .f32⟩
  | 117 => ⟨S8192x1024, .f32⟩
  | 118 => ⟨S8192x1024, .f32⟩
  | 119 => ⟨S_, .f32⟩
  | 120 => ⟨S1024, .f32⟩
  | 121 => ⟨S1x1024, .f32⟩
  | 122 => ⟨S_, .f32⟩
  | 123 => ⟨S31x1024, .f32⟩
  | 124 => ⟨S31x1024, .f32⟩
  | 125 => ⟨S_, .f32⟩
  | 126 => ⟨S8222x1024, .f32⟩
  | 127 => ⟨S8222x1024, .f32⟩
  | _ => ⟨S8192x1024, .f32⟩

abbrev hbmTy0_5 (i : Nat) : BufTy := match i % 128 with
  | 0 => ⟨S8192x1024, .f32⟩
  | 1 => ⟨S_, .f32⟩
  | 2 => ⟨S1024, .f32⟩
  | 3 => ⟨S1x1024, .f32⟩
  | 4 => ⟨S8192x1024, .f32⟩
  | 5 => ⟨S8192x1024, .f32⟩
  | 6 => ⟨S_, .f32⟩
  | 7 => ⟨S1024, .f32⟩
  | 8 => ⟨S1x1024, .f32⟩
  | 9 => ⟨S_, .f32⟩
  | 10 => ⟨S31x1024, .f32⟩
  | 11 => ⟨S31x1024, .f32⟩
  | 12 => ⟨S_, .f32⟩
  | 13 => ⟨S8222x1024, .f32⟩
  | 14 => ⟨S8222x1024, .f32⟩
  | 15 => ⟨S8192x1024, .f32⟩
  | 16 => ⟨S_, .f32⟩
  | 17 => ⟨S1024, .f32⟩
  | 18 => ⟨S1x1024, .f32⟩
  | 19 => ⟨S8192x1024, .f32⟩
  | 20 => ⟨S8192x1024, .f32⟩
  | 21 => ⟨S_, .f32⟩
  | 22 => ⟨S1024, .f32⟩
  | 23 => ⟨S1x1024, .f32⟩
  | 24 => ⟨S_, .f32⟩
  | 25 => ⟨S31x1024, .f32⟩
  | 26 => ⟨S31x1024, .f32⟩
  | 27 => ⟨S_, .f32⟩
  | 28 => ⟨S8222x1024, .f32⟩
  | 29 => ⟨S8222x1024, .f32⟩
  | 30 => ⟨S8192x1024, .f32⟩
  | 31 => ⟨S_, .f32⟩
  | 32 => ⟨S1024, .f32⟩
  | 33 => ⟨S1x1024, .f32⟩
  | 34 => ⟨S8192x1024, .f32⟩
  | 35 => ⟨S8192x1024, .f32⟩
  | 36 => ⟨S_, .f32⟩
  | 37 => ⟨S1024, .f32⟩
  | 38 => ⟨S1x1024, .f32⟩
  | 39 => ⟨S_, .f32⟩
  | 40 => ⟨S31x1024, .f32⟩
  | 41 => ⟨S31x1024, .f32⟩
  | 42 => ⟨S_, .f32⟩
  | 43 => ⟨S8222x1024, .f32⟩
  | 44 => ⟨S8222x1024, .f32⟩
  | 45 => ⟨S8192x1024, .f32⟩
  | 46 => ⟨S_, .f32⟩
  | 47 => ⟨S1024, .f32⟩
  | 48 => ⟨S1x1024, .f32⟩
  | 49 => ⟨S8192x1024, .f32⟩
  | 50 => ⟨S8192x1024, .f32⟩
  | 51 => ⟨S_, .f32⟩
  | 52 => ⟨S1024, .f32⟩
  | 53 => ⟨S1x1024, .f32⟩
  | 54 => ⟨S_, .f32⟩
  | 55 => ⟨S31x1024, .f32⟩
  | 56 => ⟨S31x1024, .f32⟩
  | 57 => ⟨S_, .f32⟩
  | 58 => ⟨S8222x1024, .f32⟩
  | 59 => ⟨S8222x1024, .f32⟩
  | 60 => ⟨S15x1024, .f32⟩
  | 61 => ⟨S8192x1024, .f32⟩
  | 62 => ⟨S15x1024, .f32⟩
  | 63 => ⟨S_, .f32⟩
  | 64 => ⟨S1x1024, .f32⟩
  | 65 => ⟨S32x1024, .f32⟩
  | _ => ⟨S8192x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_v223 : Ref sig .tc := ⟨.hbm, 231, rfl⟩
abbrev main_v224 : Ref sig .tc := ⟨.hbm, 232, rfl⟩
abbrev main_v225 : Ref sig .tc := ⟨.hbm, 233, rfl⟩
abbrev main_cst_4 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_cst_5 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_cst_6 : Ref sig .tc := ⟨.hbm, 243, rfl⟩
abbrev main_v233 : Ref sig .tc := ⟨.hbm, 244, rfl⟩
abbrev main_v234 : Ref sig .tc := ⟨.hbm, 245, rfl⟩
abbrev main_cst_7 : Ref sig .tc := ⟨.hbm, 246, rfl⟩
abbrev main_v235 : Ref sig .tc := ⟨.hbm, 247, rfl⟩
abbrev main_cst_8 : Ref sig .tc := ⟨.hbm, 248, rfl⟩
abbrev main_v236 : Ref sig .tc := ⟨.hbm, 249, rfl⟩
abbrev main_v237 : Ref sig .tc := ⟨.hbm, 250, rfl⟩
abbrev main_cst_9 : Ref sig .tc := ⟨.hbm, 251, rfl⟩
abbrev main_v238 : Ref sig .tc := ⟨.hbm, 252, rfl⟩
abbrev main_v239 : Ref sig .tc := ⟨.hbm, 253, rfl⟩
abbrev main_v240 : Ref sig .tc := ⟨.hbm, 254, rfl⟩
abbrev main_v241 : Ref sig .tc := ⟨.hbm, 255, rfl⟩
abbrev main_cst_10 : Ref sig .tc := ⟨.hbm, 256, rfl⟩
abbrev main_v242 : Ref sig .tc := ⟨.hbm, 257, rfl⟩
abbrev main_v243 : Ref sig .tc := ⟨.hbm, 258, rfl⟩
abbrev main_cst_11 : Ref sig .tc := ⟨.hbm, 259, rfl⟩
abbrev main_v244 : Ref sig .tc := ⟨.hbm, 260, rfl⟩
abbrev main_v245 : Ref sig .tc := ⟨.hbm, 261, rfl⟩
abbrev main_cst_12 : Ref sig .tc := ⟨.hbm, 262, rfl⟩
abbrev main_v246 : Ref sig .tc := ⟨.hbm, 263, rfl⟩
abbrev main_v247 : Ref sig .tc := ⟨.hbm, 264, rfl⟩
abbrev main_v248 : Ref sig .tc := ⟨.hbm, 265, rfl⟩
abbrev main_cst_13 : Ref sig .tc := ⟨.hbm, 266, rfl⟩
abbrev main_v249 : Ref sig .tc := ⟨.hbm, 267, rfl⟩
abbrev main_v250 : Ref sig .tc := ⟨.hbm, 268, rfl⟩
abbrev main_v251 : Ref sig .tc := ⟨.hbm, 269, rfl⟩
abbrev main_v252 : Ref sig .tc := ⟨.hbm, 270, rfl⟩
abbrev main_cst_14 : Ref sig .tc := ⟨.hbm, 271, rfl⟩
abbrev main_v253 : Ref sig .tc := ⟨.hbm, 272, rfl⟩
abbrev main_v254 : Ref sig .tc := ⟨.hbm, 273, rfl⟩
abbrev main_cst_15 : Ref sig .tc := ⟨.hbm, 274, rfl⟩
abbrev main_v255 : Ref sig .tc := ⟨.hbm, 275, rfl⟩
abbrev main_v256 : Ref sig .tc := ⟨.hbm, 276, rfl⟩
abbrev main_cst_16 : Ref sig .tc := ⟨.hbm, 277, rfl⟩
abbrev main_v257 : Ref sig .tc := ⟨.hbm, 278, rfl⟩
abbrev main_v258 : Ref sig .tc := ⟨.hbm, 279, rfl⟩
abbrev main_v259 : Ref sig .tc := ⟨.hbm, 280, rfl⟩
abbrev main_cst_17 : Ref sig .tc := ⟨.hbm, 281, rfl⟩
abbrev main_v260 : Ref sig .tc := ⟨.hbm, 282, rfl⟩
abbrev main_v261 : Ref sig .tc := ⟨.hbm, 283, rfl⟩
abbrev main_v262 : Ref sig .tc := ⟨.hbm, 284, rfl⟩
abbrev main_v263 : Ref sig .tc := ⟨.hbm, 285, rfl⟩
abbrev main_cst_18 : Ref sig .tc := ⟨.hbm, 286, rfl⟩
abbrev main_v264 : Ref sig .tc := ⟨.hbm, 287, rfl⟩
abbrev main_v265 : Ref sig .tc := ⟨.hbm, 288, rfl⟩
abbrev main_cst_19 : Ref sig .tc := ⟨.hbm, 289, rfl⟩
abbrev main_v266 : Ref sig .tc := ⟨.hbm, 290, rfl⟩
abbrev main_v267 : Ref sig .tc := ⟨.hbm, 291, rfl⟩
abbrev main_cst_20 : Ref sig .tc := ⟨.hbm, 292, rfl⟩
abbrev main_v268 : Ref sig .tc := ⟨.hbm, 293, rfl⟩
abbrev main_v269 : Ref sig .tc := ⟨.hbm, 294, rfl⟩
abbrev main_v270 : Ref sig .tc := ⟨.hbm, 295, rfl⟩
abbrev main_cst_21 : Ref sig .tc := ⟨.hbm, 296, rfl⟩
abbrev main_v271 : Ref sig .tc := ⟨.hbm, 297, rfl⟩
abbrev main_v272 : Ref sig .tc := ⟨.hbm, 298, rfl⟩
abbrev main_v273 : Ref sig .tc := ⟨.hbm, 299, rfl⟩
abbrev main_v274 : Ref sig .tc := ⟨.hbm, 300, rfl⟩
abbrev main_cst_22 : Ref sig .tc := ⟨.hbm, 301, rfl⟩
abbrev main_v275 : Ref sig .tc := ⟨.hbm, 302, rfl⟩
abbrev main_v276 : Ref sig .tc := ⟨.hbm, 303, rfl⟩
abbrev main_cst_23 : Ref sig .tc := ⟨.hbm, 304, rfl⟩
abbrev main_v277 : Ref sig .tc := ⟨.hbm, 305, rfl⟩
abbrev main_v278 : Ref sig .tc := ⟨.hbm, 306, rfl⟩
abbrev main_cst_24 : Ref sig .tc := ⟨.hbm, 307, rfl⟩
abbrev main_v279 : Ref sig .tc := ⟨.hbm, 308, rfl⟩
abbrev main_v280 : Ref sig .tc := ⟨.hbm, 309, rfl⟩
abbrev main_v281 : Ref sig .tc := ⟨.hbm, 310, rfl⟩
abbrev main_cst_25 : Ref sig .tc := ⟨.hbm, 311, rfl⟩
abbrev main_v282 : Ref sig .tc := ⟨.hbm, 312, rfl⟩
abbrev main_v283 : Ref sig .tc := ⟨.hbm, 313, rfl⟩
abbrev main_v284 : Ref sig .tc := ⟨.hbm, 314, rfl⟩
abbrev main_v285 : Ref sig .tc := ⟨.hbm, 315, rfl⟩
abbrev main_cst_26 : Ref sig .tc := ⟨.hbm, 316, rfl⟩
abbrev main_v286 : Ref sig .tc := ⟨.hbm, 317, rfl⟩
abbrev main_v287 : Ref sig .tc := ⟨.hbm, 318, rfl⟩
abbrev main_cst_27 : Ref sig .tc := ⟨.hbm, 319, rfl⟩
abbrev main_v288 : Ref sig .tc := ⟨.hbm, 320, rfl⟩
abbrev main_v289 : Ref sig .tc := ⟨.hbm, 321, rfl⟩
abbrev main_cst_28 : Ref sig .tc := ⟨.hbm, 322, rfl⟩
abbrev main_v290 : Ref sig .tc := ⟨.hbm, 323, rfl⟩
abbrev main_v291 : Ref sig .tc := ⟨.hbm, 324, rfl⟩
abbrev main_v292 : Ref sig .tc := ⟨.hbm, 325, rfl⟩
abbrev main_cst_29 : Ref sig .tc := ⟨.hbm, 326, rfl⟩
abbrev main_v293 : Ref sig .tc := ⟨.hbm, 327, rfl⟩
abbrev main_v294 : Ref sig .tc := ⟨.hbm, 328, rfl⟩
abbrev main_v295 : Ref sig .tc := ⟨.hbm, 329, rfl⟩
abbrev main_v296 : Ref sig .tc := ⟨.hbm, 330, rfl⟩
abbrev main_cst_30 : Ref sig .tc := ⟨.hbm, 331, rfl⟩
abbrev main_v297 : Ref sig .tc := ⟨.hbm, 332, rfl⟩
abbrev main_v298 : Ref sig .tc := ⟨.hbm, 333, rfl⟩
abbrev main_cst_31 : Ref sig .tc := ⟨.hbm, 334, rfl⟩
abbrev main_v299 : Ref sig .tc := ⟨.hbm, 335, rfl⟩
abbrev main_v300 : Ref sig .tc := ⟨.hbm, 336, rfl⟩
abbrev main_cst_32 : Ref sig .tc := ⟨.hbm, 337, rfl⟩
abbrev main_v301 : Ref sig .tc := ⟨.hbm, 338, rfl⟩
abbrev main_v302 : Ref sig .tc := ⟨.hbm, 339, rfl⟩
abbrev main_v303 : Ref sig .tc := ⟨.hbm, 340, rfl⟩
abbrev main_cst_33 : Ref sig .tc := ⟨.hbm, 341, rfl⟩
abbrev main_v304 : Ref sig .tc := ⟨.hbm, 342, rfl⟩
abbrev main_v305 : Ref sig .tc := ⟨.hbm, 343, rfl⟩
abbrev main_v306 : Ref sig .tc := ⟨.hbm, 344, rfl⟩
abbrev main_v307 : Ref sig .tc := ⟨.hbm, 345, rfl⟩
abbrev main_cst_34 : Ref sig .tc := ⟨.hbm, 346, rfl⟩
abbrev main_v308 : Ref sig .tc := ⟨.hbm, 347, rfl⟩
abbrev main_v309 : Ref sig .tc := ⟨.hbm, 348, rfl⟩
abbrev main_cst_35 : Ref sig .tc := ⟨.hbm, 349, rfl⟩
abbrev main_v310 : Ref sig .tc := ⟨.hbm, 350, rfl⟩
abbrev main_v311 : Ref sig .tc := ⟨.hbm, 351, rfl⟩
abbrev main_cst_36 : Ref sig .tc := ⟨.hbm, 352, rfl⟩
abbrev main_v312 : Ref sig .tc := ⟨.hbm, 353, rfl⟩
abbrev main_v313 : Ref sig .tc := ⟨.hbm, 354, rfl⟩
abbrev main_v314 : Ref sig .tc := ⟨.hbm, 355, rfl⟩
abbrev main_cst_37 : Ref sig .tc := ⟨.hbm, 356, rfl⟩
abbrev main_v315 : Ref sig .tc := ⟨.hbm, 357, rfl⟩
abbrev main_v316 : Ref sig .tc := ⟨.hbm, 358, rfl⟩
abbrev main_v317 : Ref sig .tc := ⟨.hbm, 359, rfl⟩
abbrev main_v318 : Ref sig .tc := ⟨.hbm, 360, rfl⟩
abbrev main_cst_38 : Ref sig .tc := ⟨.hbm, 361, rfl⟩
abbrev main_v319 : Ref sig .tc := ⟨.hbm, 362, rfl⟩
abbrev main_v320 : Ref sig .tc := ⟨.hbm, 363, rfl⟩
abbrev main_cst_39 : Ref sig .tc := ⟨.hbm, 364, rfl⟩
abbrev main_v321 : Ref sig .tc := ⟨.hbm, 365, rfl⟩
abbrev main_v322 : Ref sig .tc := ⟨.hbm, 366, rfl⟩
abbrev main_cst_40 : Ref sig .tc := ⟨.hbm, 367, rfl⟩
abbrev main_v323 : Ref sig .tc := ⟨.hbm, 368, rfl⟩
abbrev main_v324 : Ref sig .tc := ⟨.hbm, 369, rfl⟩
abbrev main_v325 : Ref sig .tc := ⟨.hbm, 370, rfl⟩
abbrev main_cst_41 : Ref sig .tc := ⟨.hbm, 371, rfl⟩
abbrev main_v326 : Ref sig .tc := ⟨.hbm, 372, rfl⟩
abbrev main_v327 : Ref sig .tc := ⟨.hbm, 373, rfl⟩
abbrev main_v328 : Ref sig .tc := ⟨.hbm, 374, rfl⟩
abbrev main_v329 : Ref sig .tc := ⟨.hbm, 375, rfl⟩
abbrev main_cst_42 : Ref sig .tc := ⟨.hbm, 376, rfl⟩
abbrev main_v330 : Ref sig .tc := ⟨.hbm, 377, rfl⟩
abbrev main_v331 : Ref sig .tc := ⟨.hbm, 378, rfl⟩
abbrev main_cst_43 : Ref sig .tc := ⟨.hbm, 379, rfl⟩
abbrev main_v332 : Ref sig .tc := ⟨.hbm, 380, rfl⟩
abbrev main_v333 : Ref sig .tc := ⟨.hbm, 381, rfl⟩
abbrev main_cst_44 : Ref sig .tc := ⟨.hbm, 382, rfl⟩
abbrev main_v334 : Ref sig .tc := ⟨.hbm, 383, rfl⟩
abbrev main_v335 : Ref sig .tc := ⟨.hbm, 384, rfl⟩
abbrev main_v336 : Ref sig .tc := ⟨.hbm, 385, rfl⟩
abbrev main_cst_45 : Ref sig .tc := ⟨.hbm, 386, rfl⟩
abbrev main_v337 : Ref sig .tc := ⟨.hbm, 387, rfl⟩
abbrev main_v338 : Ref sig .tc := ⟨.hbm, 388, rfl⟩
abbrev main_v339 : Ref sig .tc := ⟨.hbm, 389, rfl⟩
abbrev main_v340 : Ref sig .tc := ⟨.hbm, 390, rfl⟩
abbrev main_cst_46 : Ref sig .tc := ⟨.hbm, 391, rfl⟩
abbrev main_v341 : Ref sig .tc := ⟨.hbm, 392, rfl⟩
abbrev main_v342 : Ref sig .tc := ⟨.hbm, 393, rfl⟩
abbrev main_cst_47 : Ref sig .tc := ⟨.hbm, 394, rfl⟩
abbrev main_v343 : Ref sig .tc := ⟨.hbm, 395, rfl⟩
abbrev main_v344 : Ref sig .tc := ⟨.hbm, 396, rfl⟩
abbrev main_cst_48 : Ref sig .tc := ⟨.hbm, 397, rfl⟩
abbrev main_v345 : Ref sig .tc := ⟨.hbm, 398, rfl⟩
abbrev main_v346 : Ref sig .tc := ⟨.hbm, 399, rfl⟩
abbrev main_v347 : Ref sig .tc := ⟨.hbm, 400, rfl⟩
abbrev main_cst_49 : Ref sig .tc := ⟨.hbm, 401, rfl⟩
abbrev main_v348 : Ref sig .tc := ⟨.hbm, 402, rfl⟩
abbrev main_v349 : Ref sig .tc := ⟨.hbm, 403, rfl⟩
abbrev main_v350 : Ref sig .tc := ⟨.hbm, 404, rfl⟩
abbrev main_v351 : Ref sig .tc := ⟨.hbm, 405, rfl⟩
abbrev main_cst_50 : Ref sig .tc := ⟨.hbm, 406, rfl⟩
abbrev main_v352 : Ref sig .tc := ⟨.hbm, 407, rfl⟩
abbrev main_v353 : Ref sig .tc := ⟨.hbm, 408, rfl⟩
abbrev main_cst_51 : Ref sig .tc := ⟨.hbm, 409, rfl⟩
abbrev main_v354 : Ref sig .tc := ⟨.hbm, 410, rfl⟩
abbrev main_v355 : Ref sig .tc := ⟨.hbm, 411, rfl⟩
abbrev main_cst_52 : Ref sig .tc := ⟨.hbm, 412, rfl⟩
abbrev main_v356 : Ref sig .tc := ⟨.hbm, 413, rfl⟩
abbrev main_v357 : Ref sig .tc := ⟨.hbm, 414, rfl⟩
abbrev main_v358 : Ref sig .tc := ⟨.hbm, 415, rfl⟩
abbrev main_cst_53 : Ref sig .tc := ⟨.hbm, 416, rfl⟩
abbrev main_v359 : Ref sig .tc := ⟨.hbm, 417, rfl⟩
abbrev main_v360 : Ref sig .tc := ⟨.hbm, 418, rfl⟩
abbrev main_v361 : Ref sig .tc := ⟨.hbm, 419, rfl⟩
abbrev main_v362 : Ref sig .tc := ⟨.hbm, 420, rfl⟩
abbrev main_cst_54 : Ref sig .tc := ⟨.hbm, 421, rfl⟩
abbrev main_v363 : Ref sig .tc := ⟨.hbm, 422, rfl⟩
abbrev main_v364 : Ref sig .tc := ⟨.hbm, 423, rfl⟩
abbrev main_cst_55 : Ref sig .tc := ⟨.hbm, 424, rfl⟩
abbrev main_v365 : Ref sig .tc := ⟨.hbm, 425, rfl⟩
abbrev main_v366 : Ref sig .tc := ⟨.hbm, 426, rfl⟩
abbrev main_cst_56 : Ref sig .tc := ⟨.hbm, 427, rfl⟩
abbrev main_v367 : Ref sig .tc := ⟨.hbm, 428, rfl⟩
abbrev main_v368 : Ref sig .tc := ⟨.hbm, 429, rfl⟩
abbrev main_v369 : Ref sig .tc := ⟨.hbm, 430, rfl⟩
abbrev main_cst_57 : Ref sig .tc := ⟨.hbm, 431, rfl⟩
abbrev main_v370 : Ref sig .tc := ⟨.hbm, 432, rfl⟩
abbrev main_v371 : Ref sig .tc := ⟨.hbm, 433, rfl⟩
abbrev main_v372 : Ref sig .tc := ⟨.hbm, 434, rfl⟩
abbrev main_v373 : Ref sig .tc := ⟨.hbm, 435, rfl⟩
abbrev main_cst_58 : Ref sig .tc := ⟨.hbm, 436, rfl⟩
abbrev main_v374 : Ref sig .tc := ⟨.hbm, 437, rfl⟩
abbrev main_v375 : Ref sig .tc := ⟨.hbm, 438, rfl⟩
abbrev main_cst_59 : Ref sig .tc := ⟨.hbm, 439, rfl⟩
abbrev main_v376 : Ref sig .tc := ⟨.hbm, 440, rfl⟩
abbrev main_v377 : Ref sig .tc := ⟨.hbm, 441, rfl⟩
abbrev main_cst_60 : Ref sig .tc := ⟨.hbm, 442, rfl⟩
abbrev main_v378 : Ref sig .tc := ⟨.hbm, 443, rfl⟩
abbrev main_v379 : Ref sig .tc := ⟨.hbm, 444, rfl⟩
abbrev main_v380 : Ref sig .tc := ⟨.hbm, 445, rfl⟩
abbrev main_cst_61 : Ref sig .tc := ⟨.hbm, 446, rfl⟩
abbrev main_v381 : Ref sig .tc := ⟨.hbm, 447, rfl⟩
abbrev main_v382 : Ref sig .tc := ⟨.hbm, 448, rfl⟩
abbrev main_v383 : Ref sig .tc := ⟨.hbm, 449, rfl⟩
abbrev main_v384 : Ref sig .tc := ⟨.hbm, 450, rfl⟩
abbrev main_cst_62 : Ref sig .tc := ⟨.hbm, 451, rfl⟩
abbrev main_v385 : Ref sig .tc := ⟨.hbm, 452, rfl⟩
abbrev main_v386 : Ref sig .tc := ⟨.hbm, 453, rfl⟩
abbrev main_cst_63 : Ref sig .tc := ⟨.hbm, 454, rfl⟩
abbrev main_v387 : Ref sig .tc := ⟨.hbm, 455, rfl⟩
abbrev main_v388 : Ref sig .tc := ⟨.hbm, 456, rfl⟩
abbrev main_cst_64 : Ref sig .tc := ⟨.hbm, 457, rfl⟩
abbrev main_v389 : Ref sig .tc := ⟨.hbm, 458, rfl⟩
abbrev main_v390 : Ref sig .tc := ⟨.hbm, 459, rfl⟩
abbrev main_v391 : Ref sig .tc := ⟨.hbm, 460, rfl⟩
abbrev main_cst_65 : Ref sig .tc := ⟨.hbm, 461, rfl⟩
abbrev main_v392 : Ref sig .tc := ⟨.hbm, 462, rfl⟩
abbrev main_v393 : Ref sig .tc := ⟨.hbm, 463, rfl⟩
abbrev main_v394 : Ref sig .tc := ⟨.hbm, 464, rfl⟩
abbrev main_v395 : Ref sig .tc := ⟨.hbm, 465, rfl⟩
abbrev main_cst_66 : Ref sig .tc := ⟨.hbm, 466, rfl⟩
abbrev main_v396 : Ref sig .tc := ⟨.hbm, 467, rfl⟩
abbrev main_v397 : Ref sig .tc := ⟨.hbm, 468, rfl⟩
abbrev main_cst_67 : Ref sig .tc := ⟨.hbm, 469, rfl⟩
abbrev main_v398 : Ref sig .tc := ⟨.hbm, 470, rfl⟩
abbrev main_v399 : Ref sig .tc := ⟨.hbm, 471, rfl⟩
abbrev main_cst_68 : Ref sig .tc := ⟨.hbm, 472, rfl⟩
abbrev main_v400 : Ref sig .tc := ⟨.hbm, 473, rfl⟩
abbrev main_v401 : Ref sig .tc := ⟨.hbm, 474, rfl⟩
abbrev main_v402 : Ref sig .tc := ⟨.hbm, 475, rfl⟩
abbrev main_cst_69 : Ref sig .tc := ⟨.hbm, 476, rfl⟩
abbrev main_v403 : Ref sig .tc := ⟨.hbm, 477, rfl⟩
abbrev main_v404 : Ref sig .tc := ⟨.hbm, 478, rfl⟩
abbrev main_v405 : Ref sig .tc := ⟨.hbm, 479, rfl⟩
abbrev main_v406 : Ref sig .tc := ⟨.hbm, 480, rfl⟩
abbrev main_cst_70 : Ref sig .tc := ⟨.hbm, 481, rfl⟩
abbrev main_v407 : Ref sig .tc := ⟨.hbm, 482, rfl⟩
abbrev main_v408 : Ref sig .tc := ⟨.hbm, 483, rfl⟩
abbrev main_cst_71 : Ref sig .tc := ⟨.hbm, 484, rfl⟩
abbrev main_v409 : Ref sig .tc := ⟨.hbm, 485, rfl⟩
abbrev main_v410 : Ref sig .tc := ⟨.hbm, 486, rfl⟩
abbrev main_cst_72 : Ref sig .tc := ⟨.hbm, 487, rfl⟩
abbrev main_v411 : Ref sig .tc := ⟨.hbm, 488, rfl⟩
abbrev main_v412 : Ref sig .tc := ⟨.hbm, 489, rfl⟩
abbrev main_v413 : Ref sig .tc := ⟨.hbm, 490, rfl⟩
abbrev main_cst_73 : Ref sig .tc := ⟨.hbm, 491, rfl⟩
abbrev main_v414 : Ref sig .tc := ⟨.hbm, 492, rfl⟩
abbrev main_v415 : Ref sig .tc := ⟨.hbm, 493, rfl⟩
abbrev main_v416 : Ref sig .tc := ⟨.hbm, 494, rfl⟩
abbrev main_v417 : Ref sig .tc := ⟨.hbm, 495, rfl⟩
abbrev main_cst_74 : Ref sig .tc := ⟨.hbm, 496, rfl⟩
abbrev main_v418 : Ref sig .tc := ⟨.hbm, 497, rfl⟩
abbrev main_v419 : Ref sig .tc := ⟨.hbm, 498, rfl⟩
abbrev main_cst_75 : Ref sig .tc := ⟨.hbm, 499, rfl⟩
abbrev main_v420 : Ref sig .tc := ⟨.hbm, 500, rfl⟩
abbrev main_v421 : Ref sig .tc := ⟨.hbm, 501, rfl⟩
abbrev main_cst_76 : Ref sig .tc := ⟨.hbm, 502, rfl⟩
abbrev main_v422 : Ref sig .tc := ⟨.hbm, 503, rfl⟩
abbrev main_v423 : Ref sig .tc := ⟨.hbm, 504, rfl⟩
abbrev main_v424 : Ref sig .tc := ⟨.hbm, 505, rfl⟩
abbrev main_cst_77 : Ref sig .tc := ⟨.hbm, 506, rfl⟩
abbrev main_v425 : Ref sig .tc := ⟨.hbm, 507, rfl⟩
abbrev main_v426 : Ref sig .tc := ⟨.hbm, 508, rfl⟩
abbrev main_v427 : Ref sig .tc := ⟨.hbm, 509, rfl⟩
abbrev main_v428 : Ref sig .tc := ⟨.hbm, 510, rfl⟩
abbrev main_cst_78 : Ref sig .tc := ⟨.hbm, 511, rfl⟩
abbrev main_v429 : Ref sig .tc := ⟨.hbm, 512, rfl⟩
abbrev main_v430 : Ref sig .tc := ⟨.hbm, 513, rfl⟩
abbrev main_cst_79 : Ref sig .tc := ⟨.hbm, 514, rfl⟩
abbrev main_v431 : Ref sig .tc := ⟨.hbm, 515, rfl⟩
abbrev main_v432 : Ref sig .tc := ⟨.hbm, 516, rfl⟩
abbrev main_cst_80 : Ref sig .tc := ⟨.hbm, 517, rfl⟩
abbrev main_v433 : Ref sig .tc := ⟨.hbm, 518, rfl⟩
abbrev main_v434 : Ref sig .tc := ⟨.hbm, 519, rfl⟩
abbrev main_v435 : Ref sig .tc := ⟨.hbm, 520, rfl⟩
abbrev main_cst_81 : Ref sig .tc := ⟨.hbm, 521, rfl⟩
abbrev main_v436 : Ref sig .tc := ⟨.hbm, 522, rfl⟩
abbrev main_v437 : Ref sig .tc := ⟨.hbm, 523, rfl⟩
abbrev main_v438 : Ref sig .tc := ⟨.hbm, 524, rfl⟩
abbrev main_v439 : Ref sig .tc := ⟨.hbm, 525, rfl⟩
abbrev main_cst_82 : Ref sig .tc := ⟨.hbm, 526, rfl⟩
abbrev main_v440 : Ref sig .tc := ⟨.hbm, 527, rfl⟩
abbrev main_v441 : Ref sig .tc := ⟨.hbm, 528, rfl⟩
abbrev main_cst_83 : Ref sig .tc := ⟨.hbm, 529, rfl⟩
abbrev main_v442 : Ref sig .tc := ⟨.hbm, 530, rfl⟩
abbrev main_v443 : Ref sig .tc := ⟨.hbm, 531, rfl⟩
abbrev main_cst_84 : Ref sig .tc := ⟨.hbm, 532, rfl⟩
abbrev main_v444 : Ref sig .tc := ⟨.hbm, 533, rfl⟩
abbrev main_v445 : Ref sig .tc := ⟨.hbm, 534, rfl⟩
abbrev main_v446 : Ref sig .tc := ⟨.hbm, 535, rfl⟩
abbrev main_cst_85 : Ref sig .tc := ⟨.hbm, 536, rfl⟩
abbrev main_v447 : Ref sig .tc := ⟨.hbm, 537, rfl⟩
abbrev main_v448 : Ref sig .tc := ⟨.hbm, 538, rfl⟩
abbrev main_v449 : Ref sig .tc := ⟨.hbm, 539, rfl⟩
abbrev main_v450 : Ref sig .tc := ⟨.hbm, 540, rfl⟩
abbrev main_cst_86 : Ref sig .tc := ⟨.hbm, 541, rfl⟩
abbrev main_v451 : Ref sig .tc := ⟨.hbm, 542, rfl⟩
abbrev main_v452 : Ref sig .tc := ⟨.hbm, 543, rfl⟩
abbrev main_cst_87 : Ref sig .tc := ⟨.hbm, 544, rfl⟩
abbrev main_v453 : Ref sig .tc := ⟨.hbm, 545, rfl⟩
abbrev main_v454 : Ref sig .tc := ⟨.hbm, 546, rfl⟩
abbrev main_cst_88 : Ref sig .tc := ⟨.hbm, 547, rfl⟩
abbrev main_v455 : Ref sig .tc := ⟨.hbm, 548, rfl⟩
abbrev main_v456 : Ref sig .tc := ⟨.hbm, 549, rfl⟩
abbrev main_v457 : Ref sig .tc := ⟨.hbm, 550, rfl⟩
abbrev main_cst_89 : Ref sig .tc := ⟨.hbm, 551, rfl⟩
abbrev main_v458 : Ref sig .tc := ⟨.hbm, 552, rfl⟩
abbrev main_v459 : Ref sig .tc := ⟨.hbm, 553, rfl⟩
abbrev main_v460 : Ref sig .tc := ⟨.hbm, 554, rfl⟩
abbrev main_v461 : Ref sig .tc := ⟨.hbm, 555, rfl⟩
abbrev main_cst_90 : Ref sig .tc := ⟨.hbm, 556, rfl⟩
abbrev main_v462 : Ref sig .tc := ⟨.hbm, 557, rfl⟩
abbrev main_v463 : Ref sig .tc := ⟨.hbm, 558, rfl⟩
abbrev main_cst_91 : Ref sig .tc := ⟨.hbm, 559, rfl⟩
abbrev main_v464 : Ref sig .tc := ⟨.hbm, 560, rfl⟩
abbrev main_v465 : Ref sig .tc := ⟨.hbm, 561, rfl⟩
abbrev main_cst_92 : Ref sig .tc := ⟨.hbm, 562, rfl⟩
abbrev main_v466 : Ref sig .tc := ⟨.hbm, 563, rfl⟩
abbrev main_v467 : Ref sig .tc := ⟨.hbm, 564, rfl⟩
abbrev main_v468 : Ref sig .tc := ⟨.hbm, 565, rfl⟩
abbrev main_cst_93 : Ref sig .tc := ⟨.hbm, 566, rfl⟩
abbrev main_v469 : Ref sig .tc := ⟨.hbm, 567, rfl⟩
abbrev main_v470 : Ref sig .tc := ⟨.hbm, 568, rfl⟩
abbrev main_v471 : Ref sig .tc := ⟨.hbm, 569, rfl⟩
abbrev main_v472 : Ref sig .tc := ⟨.hbm, 570, rfl⟩
abbrev main_cst_94 : Ref sig .tc := ⟨.hbm, 571, rfl⟩
abbrev main_v473 : Ref sig .tc := ⟨.hbm, 572, rfl⟩
abbrev main_v474 : Ref sig .tc := ⟨.hbm, 573, rfl⟩
abbrev main_cst_95 : Ref sig .tc := ⟨.hbm, 574, rfl⟩
abbrev main_v475 : Ref sig .tc := ⟨.hbm, 575, rfl⟩
abbrev main_v476 : Ref sig .tc := ⟨.hbm, 576, rfl⟩
abbrev main_cst_96 : Ref sig .tc := ⟨.hbm, 577, rfl⟩
abbrev main_v477 : Ref sig .tc := ⟨.hbm, 578, rfl⟩
abbrev main_v478 : Ref sig .tc := ⟨.hbm, 579, rfl⟩
abbrev main_v479 : Ref sig .tc := ⟨.hbm, 580, rfl⟩
abbrev main_cst_97 : Ref sig .tc := ⟨.hbm, 581, rfl⟩
abbrev main_v480 : Ref sig .tc := ⟨.hbm, 582, rfl⟩
abbrev main_v481 : Ref sig .tc := ⟨.hbm, 583, rfl⟩
abbrev main_v482 : Ref sig .tc := ⟨.hbm, 584, rfl⟩
abbrev main_v483 : Ref sig .tc := ⟨.hbm, 585, rfl⟩
abbrev main_cst_98 : Ref sig .tc := ⟨.hbm, 586, rfl⟩
abbrev main_v484 : Ref sig .tc := ⟨.hbm, 587, rfl⟩
abbrev main_v485 : Ref sig .tc := ⟨.hbm, 588, rfl⟩
abbrev main_cst_99 : Ref sig .tc := ⟨.hbm, 589, rfl⟩
abbrev main_v486 : Ref sig .tc := ⟨.hbm, 590, rfl⟩
abbrev main_v487 : Ref sig .tc := ⟨.hbm, 591, rfl⟩
abbrev main_cst_100 : Ref sig .tc := ⟨.hbm, 592, rfl⟩
abbrev main_v488 : Ref sig .tc := ⟨.hbm, 593, rfl⟩
abbrev main_v489 : Ref sig .tc := ⟨.hbm, 594, rfl⟩
abbrev main_v490 : Ref sig .tc := ⟨.hbm, 595, rfl⟩
abbrev main_cst_101 : Ref sig .tc := ⟨.hbm, 596, rfl⟩
abbrev main_v491 : Ref sig .tc := ⟨.hbm, 597, rfl⟩
abbrev main_v492 : Ref sig .tc := ⟨.hbm, 598, rfl⟩
abbrev main_v493 : Ref sig .tc := ⟨.hbm, 599, rfl⟩
abbrev main_v494 : Ref sig .tc := ⟨.hbm, 600, rfl⟩
abbrev main_cst_102 : Ref sig .tc := ⟨.hbm, 601, rfl⟩
abbrev main_v495 : Ref sig .tc := ⟨.hbm, 602, rfl⟩
abbrev main_v496 : Ref sig .tc := ⟨.hbm, 603, rfl⟩
abbrev main_cst_103 : Ref sig .tc := ⟨.hbm, 604, rfl⟩
abbrev main_v497 : Ref sig .tc := ⟨.hbm, 605, rfl⟩
abbrev main_v498 : Ref sig .tc := ⟨.hbm, 606, rfl⟩
abbrev main_cst_104 : Ref sig .tc := ⟨.hbm, 607, rfl⟩
abbrev main_v499 : Ref sig .tc := ⟨.hbm, 608, rfl⟩
abbrev main_v500 : Ref sig .tc := ⟨.hbm, 609, rfl⟩
abbrev main_v501 : Ref sig .tc := ⟨.hbm, 610, rfl⟩
abbrev main_cst_105 : Ref sig .tc := ⟨.hbm, 611, rfl⟩
abbrev main_v502 : Ref sig .tc := ⟨.hbm, 612, rfl⟩
abbrev main_v503 : Ref sig .tc := ⟨.hbm, 613, rfl⟩
abbrev main_v504 : Ref sig .tc := ⟨.hbm, 614, rfl⟩
abbrev main_v505 : Ref sig .tc := ⟨.hbm, 615, rfl⟩
abbrev main_cst_106 : Ref sig .tc := ⟨.hbm, 616, rfl⟩
abbrev main_v506 : Ref sig .tc := ⟨.hbm, 617, rfl⟩
abbrev main_v507 : Ref sig .tc := ⟨.hbm, 618, rfl⟩
abbrev main_cst_107 : Ref sig .tc := ⟨.hbm, 619, rfl⟩
abbrev main_v508 : Ref sig .tc := ⟨.hbm, 620, rfl⟩
abbrev main_v509 : Ref sig .tc := ⟨.hbm, 621, rfl⟩
abbrev main_cst_108 : Ref sig .tc := ⟨.hbm, 622, rfl⟩
abbrev main_v510 : Ref sig .tc := ⟨.hbm, 623, rfl⟩
abbrev main_v511 : Ref sig .tc := ⟨.hbm, 624, rfl⟩
abbrev main_v512 : Ref sig .tc := ⟨.hbm, 625, rfl⟩
abbrev main_cst_109 : Ref sig .tc := ⟨.hbm, 626, rfl⟩
abbrev main_v513 : Ref sig .tc := ⟨.hbm, 627, rfl⟩
abbrev main_v514 : Ref sig .tc := ⟨.hbm, 628, rfl⟩
abbrev main_v515 : Ref sig .tc := ⟨.hbm, 629, rfl⟩
abbrev main_v516 : Ref sig .tc := ⟨.hbm, 630, rfl⟩
abbrev main_cst_110 : Ref sig .tc := ⟨.hbm, 631, rfl⟩
abbrev main_v517 : Ref sig .tc := ⟨.hbm, 632, rfl⟩
abbrev main_v518 : Ref sig .tc := ⟨.hbm, 633, rfl⟩
abbrev main_cst_111 : Ref sig .tc := ⟨.hbm, 634, rfl⟩
abbrev main_v519 : Ref sig .tc := ⟨.hbm, 635, rfl⟩
abbrev main_v520 : Ref sig .tc := ⟨.hbm, 636, rfl⟩
abbrev main_cst_112 : Ref sig .tc := ⟨.hbm, 637, rfl⟩
abbrev main_v521 : Ref sig .tc := ⟨.hbm, 638, rfl⟩
abbrev main_v522 : Ref sig .tc := ⟨.hbm, 639, rfl⟩
abbrev main_v523 : Ref sig .tc := ⟨.hbm, 640, rfl⟩
abbrev main_cst_113 : Ref sig .tc := ⟨.hbm, 641, rfl⟩
abbrev main_v524 : Ref sig .tc := ⟨.hbm, 642, rfl⟩
abbrev main_v525 : Ref sig .tc := ⟨.hbm, 643, rfl⟩
abbrev main_v526 : Ref sig .tc := ⟨.hbm, 644, rfl⟩
abbrev main_v527 : Ref sig .tc := ⟨.hbm, 645, rfl⟩
abbrev main_cst_114 : Ref sig .tc := ⟨.hbm, 646, rfl⟩
abbrev main_v528 : Ref sig .tc := ⟨.hbm, 647, rfl⟩
abbrev main_v529 : Ref sig .tc := ⟨.hbm, 648, rfl⟩
abbrev main_cst_115 : Ref sig .tc := ⟨.hbm, 649, rfl⟩
abbrev main_v530 : Ref sig .tc := ⟨.hbm, 650, rfl⟩
abbrev main_v531 : Ref sig .tc := ⟨.hbm, 651, rfl⟩
abbrev main_cst_116 : Ref sig .tc := ⟨.hbm, 652, rfl⟩
abbrev main_v532 : Ref sig .tc := ⟨.hbm, 653, rfl⟩
abbrev main_v533 : Ref sig .tc := ⟨.hbm, 654, rfl⟩
abbrev main_v534 : Ref sig .tc := ⟨.hbm, 655, rfl⟩
abbrev main_cst_117 : Ref sig .tc := ⟨.hbm, 656, rfl⟩
abbrev main_v535 : Ref sig .tc := ⟨.hbm, 657, rfl⟩
abbrev main_v536 : Ref sig .tc := ⟨.hbm, 658, rfl⟩
abbrev main_v537 : Ref sig .tc := ⟨.hbm, 659, rfl⟩
abbrev main_v538 : Ref sig .tc := ⟨.hbm, 660, rfl⟩
abbrev main_cst_118 : Ref sig .tc := ⟨.hbm, 661, rfl⟩
abbrev main_v539 : Ref sig .tc := ⟨.hbm, 662, rfl⟩
abbrev main_v540 : Ref sig .tc := ⟨.hbm, 663, rfl⟩
abbrev main_cst_119 : Ref sig .tc := ⟨.hbm, 664, rfl⟩
abbrev main_v541 : Ref sig .tc := ⟨.hbm, 665, rfl⟩
abbrev main_v542 : Ref sig .tc := ⟨.hbm, 666, rfl⟩
abbrev main_cst_120 : Ref sig .tc := ⟨.hbm, 667, rfl⟩
abbrev main_v543 : Ref sig .tc := ⟨.hbm, 668, rfl⟩
abbrev main_v544 : Ref sig .tc := ⟨.hbm, 669, rfl⟩
abbrev main_v545 : Ref sig .tc := ⟨.hbm, 670, rfl⟩
abbrev main_cst_121 : Ref sig .tc := ⟨.hbm, 671, rfl⟩
abbrev main_v546 : Ref sig .tc := ⟨.hbm, 672, rfl⟩
abbrev main_v547 : Ref sig .tc := ⟨.hbm, 673, rfl⟩
abbrev main_v548 : Ref sig .tc := ⟨.hbm, 674, rfl⟩
abbrev main_v549 : Ref sig .tc := ⟨.hbm, 675, rfl⟩
abbrev main_cst_122 : Ref sig .tc := ⟨.hbm, 676, rfl⟩
abbrev main_v550 : Ref sig .tc := ⟨.hbm, 677, rfl⟩
abbrev main_v551 : Ref sig .tc := ⟨.hbm, 678, rfl⟩
abbrev main_cst_123 : Ref sig .tc := ⟨.hbm, 679, rfl⟩
abbrev main_v552 : Ref sig .tc := ⟨.hbm, 680, rfl⟩
abbrev main_v553 : Ref sig .tc := ⟨.hbm, 681, rfl⟩
abbrev main_cst_124 : Ref sig .tc := ⟨.hbm, 682, rfl⟩
abbrev main_v554 : Ref sig .tc := ⟨.hbm, 683, rfl⟩
abbrev main_v555 : Ref sig .tc := ⟨.hbm, 684, rfl⟩
abbrev main_v556 : Ref sig .tc := ⟨.hbm, 685, rfl⟩
abbrev main_cst_125 : Ref sig .tc := ⟨.hbm, 686, rfl⟩
abbrev main_v557 : Ref sig .tc := ⟨.hbm, 687, rfl⟩
abbrev main_v558 : Ref sig .tc := ⟨.hbm, 688, rfl⟩
abbrev main_v559 : Ref sig .tc := ⟨.hbm, 689, rfl⟩
abbrev main_v560 : Ref sig .tc := ⟨.hbm, 690, rfl⟩
abbrev main_cst_126 : Ref sig .tc := ⟨.hbm, 691, rfl⟩
abbrev main_v561 : Ref sig .tc := ⟨.hbm, 692, rfl⟩
abbrev main_v562 : Ref sig .tc := ⟨.hbm, 693, rfl⟩
abbrev main_cst_127 : Ref sig .tc := ⟨.hbm, 694, rfl⟩
abbrev main_v563 : Ref sig .tc := ⟨.hbm, 695, rfl⟩
abbrev main_v564 : Ref sig .tc := ⟨.hbm, 696, rfl⟩
abbrev main_cst_128 : Ref sig .tc := ⟨.hbm, 697, rfl⟩
abbrev main_v565 : Ref sig .tc := ⟨.hbm, 698, rfl⟩
abbrev main_v566 : Ref sig .tc := ⟨.hbm, 699, rfl⟩
abbrev main_v567 : Ref sig .tc := ⟨.hbm, 700, rfl⟩
abbrev main_v568 : Ref sig .tc := ⟨.hbm, 701, rfl⟩
abbrev main_v569 : Ref sig .tc := ⟨.hbm, 702, rfl⟩
abbrev main_cst_129 : Ref sig .tc := ⟨.hbm, 703, rfl⟩
abbrev main_v570 : Ref sig .tc := ⟨.hbm, 704, rfl⟩
abbrev main_v571 : Ref sig .tc := ⟨.hbm, 705, rfl⟩

abbrev nD : Nat := 1
abbrev τ : Topo := Topo.v7x

variable {F : FTy → Type} [FloatOps F]
-- ==== LnInFwd.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S8192x2048, .f32⟩
  | .hbm, ⟨4, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | .local _ .vmem, ⟨7, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LnInFwdRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 29
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Ff1Relu2.lean ====
abbrev S8192x2048 : Shape := ⟨2, ![8192, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S8192x8192 : Shape := ⟨2, ![8192, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S2048x8x1024, .f32⟩
  | .hbm, ⟨3, _⟩ => ⟨S8x2048x1024, .f32⟩
  | .hbm, ⟨4, _⟩ => ⟨S8x2048x1024, .bf16⟩
  | .hbm, ⟨5, _⟩ => ⟨S8192x2048, .bf16⟩
  | .hbm, ⟨6, _⟩ => ⟨S8192x8192, .bf16⟩
  | .hbm, ⟨7, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Ff1Relu2RefIdeal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S8192x8192, .bf16⟩
  | .hbm, ⟨8, _⟩ => ⟨S8192x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== RopeTables.lean ====
abbrev S8192 : Shape := ⟨1, ![8192]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S8192x1 : Shape := ⟨2, ![8192, 1]⟩
abbrev S8192x128 : Shape := ⟨2, ![8192, 128]⟩
abbrev S1024x1 : Shape := ⟨2, ![1024, 1]⟩
abbrev S1024x128 : Shape := ⟨2, ![1024, 128]⟩

abbrev nBuf : Space → Nat
  | .hbm => 17
  | .vmem => 9
  | .smem => 0
  | _ => 0

abbrev bufTy : (tb : Table) → Fin (tcTables nBuf tb) → BufTy
  | .hbm, ⟨0, _⟩ => ⟨S8192, .i32⟩
  | .hbm, ⟨1, _⟩ => ⟨S32, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S1x32, .f32⟩
  | .hbm, ⟨10, _⟩ => ⟨S4x32, .f32⟩
  | .hbm, ⟨11, _⟩ => ⟨S128, .f32⟩
  | .hbm, ⟨12, _⟩ => ⟨S1x128, .f32⟩
  | .hbm, ⟨13, _⟩ => ⟨S8192x1, .i32⟩
  | .hbm, ⟨14, _⟩ => ⟨S8192x128, .f32⟩
  | .hbm, ⟨15, _⟩ => ⟨S8192x128, .f32⟩
  | .hbm, ⟨16, _⟩ => ⟨S8192x128, .f32⟩
  | .local _ .vmem, ⟨0, _⟩ => ⟨S1024x1, .i32⟩
  | .local _ .vmem, ⟨1, _⟩ => ⟨S1024x1, .i32⟩
  | .local _ .vmem, ⟨2, _⟩ => ⟨S1x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | _, _ => ⟨S8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11_0 : Ref sig .tc := ⟨.hbm, 14, rfl⟩
abbrev main_v11_1 : Ref sig .tc := ⟨.hbm, 15, rfl⟩
abbrev main_v11_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RopeTablesRefIdeal.lean ====
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩

abbrev nBuf : Space → Nat
  | .hbm => 23
  | .vmem => 0
  | .smem => 0
  | _ => 0

abbrev bufTy : (tb : Table) → Fin (tcTables nBuf tb) → BufTy
  | .hbm, ⟨0, _⟩ => ⟨S8192, .i32⟩
  | .hbm, ⟨1, _⟩ => ⟨S32, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S8192, .f32⟩
  | .hbm, ⟨10, _⟩ => ⟨S8192x1, .f32⟩
  | .hbm, ⟨11, _⟩ => ⟨S1x32, .f32⟩
  | .hbm, ⟨12, _⟩ => ⟨S8192x32, .f32⟩
  | .hbm, ⟨13, _⟩ => ⟨S8192x32, .f32⟩
  | .hbm, ⟨14, _⟩ => ⟨S8192x32, .f32⟩
  | .hbm, ⟨15, _⟩ => ⟨S8192x32, .f32⟩
  | .hbm, ⟨16, _⟩ => ⟨S8192x32, .f32⟩
  | .hbm, ⟨17, _⟩ => ⟨S_, .f32⟩
  | .hbm, ⟨18, _⟩ => ⟨S8192x32, .f32⟩
  | .hbm, ⟨19, _⟩ => ⟨S8192x128, .f32⟩
  | .hbm, ⟨20, _⟩ => ⟨S8192x32, .f32⟩
  | .hbm, ⟨21, _⟩ => ⟨S8192x128, .f32⟩
  | .hbm, ⟨22, _⟩ => ⟨S8192x128, .f32⟩
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]
-- ==== ConvLnSilu.lean ====
abbrev S8192x1024 : Shape := ⟨2, ![8192, 1024]⟩
abbrev S1x1024 : Shape := ⟨2, ![1, 1024]⟩
abbrev S8192x2048 : Shape := ⟨2, ![8192, 2048]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x2048, .bf16⟩
  | .hbm, ⟨4, _⟩ => ⟨S8192x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ConvLnSiluRefIdeal.lean ====
abbrev S8192x1024 : Shape := ⟨2, ![8192, 1024]⟩
abbrev S1x1024 : Shape := ⟨2, ![1, 1024]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x2048, .bf16⟩
  | .hbm, ⟨4, _⟩ => ⟨S8192x1024, .bf16⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | .hbm, ⟨40, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]
-- ==== MixLn1.lean ====
abbrev S8192x2048 : Shape := ⟨2, ![8192, 2048]⟩
abbrev S2048x2048 : Shape := ⟨2, ![2048, 2048]⟩
abbrev S1x2048 : Shape := ⟨2, ![1, 2048]⟩
abbrev S256x2048 : Shape := ⟨2, ![256, 2048]⟩
abbrev S128x2048 : Shape := ⟨2, ![128, 2048]⟩
abbrev S128 : Shape := ⟨1, ![128]⟩
abbrev S128x1 : Shape := ⟨2, ![128, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S2048x2048, .bf16⟩
  | .hbm, ⟨6, _⟩ => ⟨S8192x2048, .f32⟩
  | .hbm, ⟨7, _⟩ => ⟨S8192x2048, .f32⟩
  | .hbm, ⟨8, _⟩ => ⟨S8192x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== MixLn1RefIdeal.lean ====
abbrev S8192x2048 : Shape := ⟨2, ![8192, 2048]⟩
abbrev S2048x2048 : Shape := ⟨2, ![2048, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 37
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Proof.Common.lean ====
/- Hand-written, untrusted: arrays read at indices given by their coordinates. -/
module

public import Idealize.ShloMosaic.Lib.Pipeline.Value
public import Idealize.ShloMosaic.Lib.Pipeline.ReadBack
public import Idealize.ShloMosaic.Lib.Pipeline.ValueKit.Tiles
public import Idealize.ShloMosaic.Lib.Pointwise.Tactic
public import Idealize.ShloMosaic.Lib.Pointwise.IndexVar
public import Idealize.ShloMosaic.Lib.StableHlo.Run
public import proofs.«01_k».proof.Defs

@[expose] public section

namespace Cert.Common

open Idealize.ShloMosaic

/-- The two axes of a matrix. -/
abbrev ax0 : Fin 2 := 0
abbrev ax1 : Fin 2 := 1

/-- A buffer of a device. -/
abbrev lc {nD : ℕ} {τ : Topo} {sig : RefSig} (c : Dev nD) (r : Ref sig .tc) : Loc nD τ sig := Thread.loc c.tc r

/-- The join of a list of lists, unfolded. -/
theorem flat {α : Type*} : (∀ (l : List α) L, (l :: L).flatten = l ++ L.flatten) ∧ ([] : List (List α)).flatten = [] ∧ (∀ l : List α, l ++ [] = l)
    ∧ (∀ (a : α) l l', a :: l ++ l' = a :: (l ++ l')) ∧ ∀ l : List α, [] ++ l = l := by simp

/-- Zero offsets, as the printed vector and as the constant function. -/
theorem hz : (![0, 0] : Fin 2 → Nat) = fun _ => 0 := funext fun a => by fin_cases a <;> rfl

/-- A load of a whole buffer reads its contents. -/
theorem rd {sig : RefSig} {κ : Kind} {sp : Space} {s : Shape} {e : EltTy} {Val : EltTy → Type} {m : Memref sig κ sp s e} (h : m.IsWhole) (X : s.Idx → Val e) (r : Rect s) :
    m.view.readAt Val r.toLoadRect (h.unread X) = View.ld X r := by rw [View.readAt_eq_ld, h.read_unread]

/-- What covering writes leave. -/
theorem wr {sig : RefSig} {κ : Kind} {sp : Space} {s : Shape} {e : EltTy} {Val : EltTy → Type} [∀ e, Nonempty (Val e)] {v : View sig κ sp s e} {f : v.ty.Contents Val}
    {L : List (View.Piece Val s e)} (h : ∀ y, ∃ p ∈ L, y ∈ p.1.set) : v.read Val (v.writes Val f L) = View.canon L :=
  View.read_writes_eq_canon v f L h

/-- Two indices of a matrix with the same coordinates read the same element. -/
theorem read2 {A B : ℕ} {α : Type} (x : (⟨2, ![A, B]⟩ : Shape).Idx → α) (i j : (⟨2, ![A, B]⟩ : Shape).Idx)
    (h0 : (i 0).val = (j 0).val) (h1 : (i 1).val = (j 1).val) : x i = x j :=
  congrArg x (funext fun a => Fin.ext (match a with | ⟨0, _⟩ => h0 | ⟨1, _⟩ => h1))

/-- Two indices of a rank-three array with the same coordinates read the same element. -/
theorem read3 {A B C : ℕ} {α : Type} (x : (⟨3, ![A, B, C]⟩ : Shape).Idx → α) (i j : (⟨3, ![A, B, C]⟩ : Shape).Idx)
    (h0 : (i 0).val = (j 0).val) (h1 : (i 1).val = (j 1).val) (h2 : (i 2).val = (j 2).val) : x i = x j :=
  congrArg x (funext fun a => Fin.ext (match a with | ⟨0, _⟩ => h0 | ⟨1, _⟩ => h1 | ⟨2, _⟩ => h2))

open Idealize.ShloMosaic in
theorem two : Ideal.ofBits .f32 0x40000000#32 = 2 := by simp [Ideal.ofBits, Ideal.ieee, -EReal.coe_mul]; norm_num; rfl

theorem hz3 : (![0, 0, 0] : Fin 3 → Nat) = fun _ => 0 := by
  funext a; match a with | ⟨0, _⟩ => rfl | ⟨1, _⟩ => rfl | ⟨2, _⟩ => rfl

instance : Fact ((![0, 0] : Fin 2 → ℕ) = fun _ => 0) := ⟨hz⟩

instance : Fact ((![0, 0, 0] : Fin 3 → ℕ) = fun _ => 0) := ⟨hz3⟩

/-- A load through the whole of a shape reads the contents. -/
theorem ld0 (S : Shape) {Val : EltTy → Type} {e : EltTy} {off : Fin S.rank → ℕ} [h : Fact (off = fun _ => 0)] (inb : ∀ a, off a + S.size a ≤ S.size a) (X : S.Idx → Val e) :
    View.ld X (Rect.unit off S.size inb) = X := View.ld_unit_zero h.out inb X

/-- A last store through the whole of a shape leaves its payload. -/
theorem c0 (S : Shape) {Val : EltTy → Type} {e : EltTy} [∀ e, Nonempty (Val e)] {off : Fin S.rank → ℕ} [h : Fact (off = fun _ => 0)] (inb : ∀ a, off a + S.size a ≤ S.size a) (w : S.Idx → Val e)
    (L : List (View.Piece Val S e)) : View.canon ((⟨Rect.unit off S.size inb, w⟩ : View.Piece Val S e) :: L) = w := View.canon_cons_unit_zero h.out inb w L

end Cert.Common
-- ==== Proof.Attention.lean ====
module

public import proofs.«01_k».proof.Proof.Common

@[expose] public section

set_option maxRecDepth 16384

noncomputable section

namespace Cert.Attention

open Cert.Common Idealize.ShloMosaic TcCoe Idealize.SL.Sem

/-- The word of minus infinity is `⊥`. -/
theorem ofBits_neg_inf : Ideal.ofBits FTy.f32 0xFF800000#32 = ⊥ := by
  simp [Ideal.ofBits, Ideal.ieee]

theorem max_from (z : FVec Ideal ⟨3, ![8, 8192, 8192]⟩ .f32) (c : FVec Ideal ⟨0, ![]⟩ .f32) (hr : (⟨3, ![8, 8192, 8192]⟩ : Shape).ReducesTo [2] ⟨2, ![8, 8192]⟩) (hu : 0 < (⟨0, ![]⟩ : Shape).numel) (h : Fin 8) (q : Fin 8192) :
    ((Host.reduce FloatOps.maximumf z c hr hu : FVec Ideal ⟨2, ![8, 8192]⟩ .f32) (ix2 h q) : EReal) = Finset.univ.fold max (c (Shape.Idx.first hu) : EReal) fun κ : Fin 8192 => (z (ix3 h q κ) : EReal) := by
  simp only [pointwise]

/-- A row's maximum, taken from minus infinity. -/
theorem row_max (z : FVec Ideal ⟨3, ![8, 8192, 8192]⟩ .f32) (hr : (⟨3, ![8, 8192, 8192]⟩ : Shape).ReducesTo [2] ⟨2, ![8, 8192]⟩) (hu : 0 < (⟨0, ![]⟩ : Shape).numel) (h : Fin 8) (q : Fin 8192) :
    ((Host.reduce FloatOps.maximumf z (constant (F := Ideal) ⟨0, ![]⟩ .f32 0xFF800000#32) hr hu : FVec Ideal ⟨2, ![8, 8192]⟩ .f32) (ix2 h q) : EReal) = Finset.univ.fold max (⊥ : EReal) fun κ : Fin 8192 => (z (ix3 h q κ) : EReal) := by
  refine (max_from z _ hr hu h q).trans ?_
  exact congrArg (fun b : EReal => Finset.univ.fold max b fun κ : Fin 8192 => (z (ix3 h q κ) : EReal)) ofBits_neg_inf

/-- The larger of a constant minus infinity and an array is the array. -/
theorem max_with {S : Shape} {d : Fin (⟨0, ![]⟩ : Shape).rank → Fin S.rank} (h) (c : FVec Ideal ⟨0, ![]⟩ .f32) (w : FVec Ideal S .f32) (i : S.Idx) (hc : ∀ j, (c j : EReal) = ⊥) :
    (maximumf (broadcastInDim (α := Ideal .f32) S d h c) w i : EReal) = w i := by
  show max (c _ : EReal) (w i) = w i
  rw [hc]
  exact max_eq_right bot_le

/-- A finite sum of reals, read as an extended real. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The maximum of finitely many reals is a real. -/
theorem max_real {n : ℕ} (hn : 0 < n) (s : Fin n → ℝ) : ∃ M : ℝ, Finset.univ.fold max (⊥ : EReal) (fun k => ((s k : ℝ) : EReal)) = M := by
  have h1 : Finset.univ.fold max (⊥ : EReal) (fun k => ((s k : ℝ) : EReal)) < ⊤ :=
    (Finset.fold_max_lt _).mpr ⟨bot_lt_top, fun k _ => EReal.coe_lt_top _⟩
  have h2 : ⊥ < Finset.univ.fold max (⊥ : EReal) (fun k => ((s k : ℝ) : EReal)) :=
    (Finset.lt_fold_max _).mpr (.inr ⟨⟨0, hn⟩, Finset.mem_univ _, EReal.bot_lt_coe _⟩)
  exact ⟨_, (EReal.coe_toReal h1.ne h2.ne').symm⟩

/-- The softmax of a row of scores. -/
def soft {n : ℕ} (s : Fin n → ℝ) (κ : Fin n) : ℝ := Real.exp (s κ) / ∑ k, Real.exp (s k)

theorem sum_pos {n : ℕ} (hn : 0 < n) (s : Fin n → ℝ) : 0 < ∑ k, Real.exp (s k) :=
  Finset.sum_pos (fun k _ => Real.exp_pos _) ⟨⟨0, hn⟩, Finset.mem_univ _⟩

/-- The softmax does not change when the same number is taken from every score. -/
theorem soft_sub {n : ℕ} (s : Fin n → ℝ) (M : ℝ) (κ : Fin n) : soft (fun k => s k - M) κ = soft s κ := by
  unfold soft
  simp only [Real.exp_sub, ← Finset.sum_div]
  rw [div_div_div_cancel_right₀ (Real.exp_pos M).ne']

/-- The logarithm of a positive real. -/
theorem log_pos {r : ℝ} (h : 0 < r) : Ideal.log (r : EReal) = (Real.log r : ℝ) := by
  rw [Ideal.log_coe, if_neg (not_le.mpr h)]

/-- A quotient of reals. -/
theorem div_real {y : ℝ} (h : y ≠ 0) (x : ℝ) : Ideal.div (x : EReal) (y : EReal) = ((x / y : ℝ) : EReal) := by
  rw [Ideal.div_coe h, ← EReal.coe_mul, mul_one_div]

/-- The probability out of the saved log-sum, both in base 2. -/
theorem exp2_logsum {n : ℕ} (hn : 0 < n) (s : Fin n → ℝ) (M : ℝ) (κ : Fin n) :
    Ideal.exp2 (((s κ / Real.log 2 : ℝ) : EReal) - Ideal.div ((M : EReal) + Ideal.log (∑ k, Ideal.exp ((s k : EReal) - (M : EReal)))) (Real.log 2 : ℝ)) = (soft s κ : ℝ) := by
  have hl : Real.log 2 ≠ 0 := (Real.log_pos one_lt_two).ne'
  have hp := sum_pos hn fun k => s k - M
  simp only [← EReal.coe_sub, Ideal.exp_coe, coe_sum]
  rw [log_pos hp, ← EReal.coe_add, div_real hl, ← EReal.coe_sub, Ideal.exp2_coe]
  refine congrArg _ ?_
  rw [← soft_sub s M]
  unfold soft
  rw [show ∀ y, Real.rpow 2 y = Real.exp (Real.log 2 * y) from fun y => Real.rpow_def_of_pos two_pos y]
  dsimp only
  rw [show Real.log 2 * (s κ / Real.log 2 - (M + Real.log (∑ k, Real.exp (s k - M))) / Real.log 2) = (s κ - M) - Real.log (∑ k, Real.exp (s k - M)) by field_simp; ring]
  rw [Real.exp_sub _ (Real.log _), Real.exp_log hp]

/-- The probability as a quotient of exponentials. -/
theorem exp_div {n : ℕ} (hn : 0 < n) (s : Fin n → ℝ) (M : ℝ) (κ : Fin n) :
    Ideal.div (Ideal.exp ((s κ : EReal) - (M : EReal))) (∑ k, Ideal.exp ((s k : EReal) - (M : EReal))) = (soft s κ : ℝ) := by
  have hp := sum_pos hn fun k => s k - M
  simp only [← EReal.coe_sub, Ideal.exp_coe, coe_sum]
  rw [div_real hp.ne', ← soft_sub s M]
  rfl

/-- The gradient of a row's softmax, as differentiating the quotient of exponentials writes it. -/
theorem soft_grad {n : ℕ} (hn : 0 < n) (s G : Fin n → ℝ) (M : ℝ) (κ : Fin n) :
    (Ideal.div (G κ : EReal) (∑ k, Ideal.exp ((s k : EReal) - (M : EReal)))
        + ∑ _x : Fin 1, -∑ k, (G k : EReal) * Ideal.div 1 ((∑ k, Ideal.exp ((s k : EReal) - (M : EReal))) * ∑ k, Ideal.exp ((s k : EReal) - (M : EReal))) * Ideal.exp ((s k : EReal) - (M : EReal)))
      * Ideal.exp ((s κ : EReal) - (M : EReal)) = ((soft s κ * (G κ - ∑ k, soft s k * G k) : ℝ) : EReal) := by
  have hp := sum_pos hn fun k => s k - M
  simp only [← EReal.coe_sub, Ideal.exp_coe, coe_sum, ← EReal.coe_mul]
  rw [show (1 : EReal) = ((1 : ℝ) : EReal) from rfl, div_real hp.ne', div_real (mul_pos hp hp).ne']
  simp only [← EReal.coe_mul, coe_sum, ← EReal.coe_neg, ← EReal.coe_add]
  refine congrArg _ ?_
  rw [← soft_sub s M, show (fun k => soft s k * G k) = fun k => soft (fun k => s k - M) k * G k from funext fun k => by rw [soft_sub]]
  unfold soft
  simp only [Finset.univ_unique, Finset.sum_const, Finset.card_singleton, one_smul]
  generalize hZ : ∑ k, Real.exp (s k - M) = Z at hp ⊢
  have e : ∑ k, G k * (1 / (Z * Z)) * Real.exp (s k - M) = (∑ k, Real.exp (s k - M) / Z * G k) / Z := by
    rw [Finset.sum_div]
    exact Finset.sum_congr rfl fun k _ => by field_simp
  rw [e]
  ring

/-- The scale of the scores, as its word reads. -/
def scale : ℝ := 4843165 / 67108864

theorem ofBits_scale : Ideal.ofBits FTy.f32 0x3D93CD3A#32 = ((scale : ℝ) : EReal) := by
  unfold scale
  simp [Ideal.ofBits, Ideal.ieee, -EReal.coe_mul]
  norm_num

/-- The logarithm of the word of two. -/
theorem log_two_word : Ideal.log (Ideal.ofBits FTy.f32 0x40000000#32) = ((Real.log 2 : ℝ) : EReal) := by
  rw [show Ideal.ofBits FTy.f32 0x40000000#32 = ((2 : ℝ) : EReal) by simp [Ideal.ofBits, Ideal.ieee, -EReal.coe_mul]; norm_num]
  exact log_pos two_pos

variable (qn : Fin 8192 → Fin 8 → Fin 128 → ℝ) (qr : Fin 8192 → Fin 8 → Fin 64 → ℝ) (kn : Fin 8192 → Fin 8 → Fin 128 → ℝ) (kr : Fin 8192 → Fin 64 → ℝ)

/-- A head's query row with its rotary part and zeros behind it. -/
def qh (h : Fin 8) (q : Fin 8192) (a : Fin 256) : ℝ :=
  if ha : a.val < 128 then qn q h ⟨a.val, ha⟩ else if hb : a.val - 128 < 64 then qr q h ⟨a.val - 128, hb⟩ else 0

/-- A head's key row with the shared rotary part and zeros behind it. -/
def kh (h : Fin 8) (κ : Fin 8192) (a : Fin 256) : ℝ :=
  if ha : a.val < 128 then kn κ h ⟨a.val, ha⟩ else if hb : a.val - 128 < 64 then kr κ ⟨a.val - 128, hb⟩ else 0

theorem qh_coe (h : Fin 8) (q : Fin 8192) (a : Fin 256) :
    (if ha : a.val < 128 then ((qn q h ⟨a.val, ha⟩ : ℝ) : EReal) else if hb : a.val - 128 < 64 then ((qr q h ⟨a.val - 128, hb⟩ : ℝ) : EReal) else 0) = ((qh qn qr h q a : ℝ) : EReal) := by
  unfold qh
  split_ifs <;> rfl

theorem kh_coe (h : Fin 8) (κ : Fin 8192) (a : Fin 256) :
    (if ha : a.val < 128 then ((kn κ h ⟨a.val, ha⟩ : ℝ) : EReal) else if hb : a.val - 128 < 64 then ((kr κ ⟨a.val - 128, hb⟩ : ℝ) : EReal) else 0) = ((kh kn kr h κ a : ℝ) : EReal) := by
  unfold kh
  split_ifs <;> rfl

/-- The scaled score of a query and a key in one head. -/
def score (h : Fin 8) (q κ : Fin 8192) : ℝ :=
  (∑ a, qn q h a * kn κ h a + ∑ r, qr q h r * kr κ r) * scale

/-- The padded rows' product is the unpadded one. -/
theorem sum_pad (h : Fin 8) (q κ : Fin 8192) :
    ∑ a, qh qn qr h q a * kh kn kr h κ a = ∑ a, qn q h a * kn κ h a + ∑ r, qr q h r * kr κ r := by
  rw [show (∑ a : Fin 256, qh qn qr h q a * kh kn kr h κ a) = ∑ a : Fin (128 + (64 + 64)), qh qn qr h q a * kh kn kr h κ a from rfl,
    Fin.sum_univ_add, Fin.sum_univ_add]
  have e1 : ∀ a : Fin 128, qh qn qr h q (Fin.castAdd (64 + 64) a) * kh kn kr h κ (Fin.castAdd (64 + 64) a) = qn q h a * kn κ h a := fun a => by
    unfold qh kh
    rw [dif_pos (show (Fin.castAdd (64 + 64) a).val < 128 from a.isLt), dif_pos (show (Fin.castAdd (64 + 64) a).val < 128 from a.isLt)]
    rfl
  have e2 : ∀ r : Fin 64, qh qn qr h q (Fin.natAdd 128 (Fin.castAdd 64 r)) * kh kn kr h κ (Fin.natAdd 128 (Fin.castAdd 64 r)) = qr q h r * kr κ r := fun r => by
    have hv : (Fin.natAdd 128 (Fin.castAdd 64 r)).val = 128 + r.val := rfl
    have hr := r.isLt
    unfold qh kh
    rw [dif_neg (show ¬(Fin.natAdd 128 (Fin.castAdd 64 r)).val < 128 by omega), dif_neg (show ¬(Fin.natAdd 128 (Fin.castAdd 64 r)).val < 128 by omega),
      dif_pos (show (Fin.natAdd 128 (Fin.castAdd 64 r)).val - 128 < 64 by omega), dif_pos (show (Fin.natAdd 128 (Fin.castAdd 64 r)).val - 128 < 64 by omega)]
    have hf : (⟨(Fin.natAdd 128 (Fin.castAdd 64 r)).val - 128, by omega⟩ : Fin 64) = r := Fin.ext (by show 128 + r.val - 128 = r.val; omega)
    rw [hf]
  have e3 : ∀ r : Fin 64, qh qn qr h q (Fin.natAdd 128 (Fin.natAdd 64 r)) * kh kn kr h κ (Fin.natAdd 128 (Fin.natAdd 64 r)) = 0 := fun r => by
    have hv : (Fin.natAdd 128 (Fin.natAdd 64 r)).val = 128 + (64 + r.val) := rfl
    unfold qh
    rw [dif_neg (show ¬(Fin.natAdd 128 (Fin.natAdd 64 r)).val < 128 by omega), dif_neg (show ¬(Fin.natAdd 128 (Fin.natAdd 64 r)).val - 128 < 64 by omega), zero_mul]
  rw [Finset.sum_congr rfl fun a _ => e1 a, Finset.sum_congr rfl fun a _ => e2 a, Finset.sum_congr rfl fun a _ => e3 a, Finset.sum_const_zero, add_zero]

/-- The gradient of a score: the probability times what the value's gradient has there over its mean in the row. -/
def dS (v g : Fin 8192 → Fin 8 → Fin 128 → ℝ) (h : Fin 8) (q κ : Fin 8192) : ℝ :=
  soft (score qn qr kn kr h q) κ * ((∑ a, g q h a * v κ h a) - ∑ k, soft (score qn qr kn kr h q) k * ∑ a, g q h a * v k h a)

end Cert.Attention

end
-- ==== Proof.Norm.lean ====
/- Hand-written, untrusted: layer norm and its gradient over the reals. -/
module

public import proofs.«01_k».proof.Proof.Attention

@[expose] public section

set_option maxRecDepth 16384

noncomputable section

namespace Cert.Norm

open Idealize.ShloMosaic

/-- Two arrays of rank 2 that agree at every pair of coordinates are equal. -/
theorem ext2 {α : Type} {l n : ℕ} (f g : Shape.Idx ⟨2, ![l, n]⟩ → α) (h : ∀ a b, f (ix2 a b) = g (ix2 a b)) : f = g :=
  funext fun i => by rw [eq_ix2 i]; exact h _ _

variable {n : ℕ} (ε : ℝ) (z gd : Fin n → ℝ)

/-- The mean of a row. -/
def mean (z : Fin n → ℝ) : ℝ := (∑ k, z k) / n

/-- A row less its mean. -/
def cen (k : Fin n) : ℝ := z k - mean z

/-- The row's variance. -/
def var : ℝ := mean fun k => cen z k * cen z k

/-- The reciprocal of the row's deviation. -/
def rs : ℝ := (√(var z + ε))⁻¹

/-- The normed row. -/
def xh (k : Fin n) : ℝ := cen z k * rs ε z

/-- The gradient of the normed row with respect to the row. -/
def back (k : Fin n) : ℝ := rs ε z * (gd k - mean gd - xh ε z k * mean fun k => gd k * xh ε z k)

theorem var_nonneg : 0 ≤ var z := div_nonneg (Finset.sum_nonneg fun k _ => mul_self_nonneg _) (Nat.cast_nonneg _)

theorem sum_cen (hn : n ≠ 0) : ∑ k, cen z k = 0 := by
  have : (n : ℝ) ≠ 0 := Nat.cast_ne_zero.mpr hn
  unfold cen mean
  rw [Finset.sum_sub_distrib, Finset.sum_const, Finset.card_univ, Fintype.card_fin, nsmul_eq_mul]
  field_simp
  ring

/-- The two ways of writing the gradient agree. -/
theorem back_eq (hn : n ≠ 0) (hε : 0 < ε) (k : Fin n) :
    (gd k * rs ε z + (∑ j, cen z j * gd j) * (-(1 / 2) * (rs ε z / (var z + ε))) / n * (2 * cen z k))
      + (∑ j, -(gd j * rs ε z + (∑ j, cen z j * gd j) * (-(1 / 2) * (rs ε z / (var z + ε))) / n * (2 * cen z j))) / n = back ε z gd k := by
  have hn' : (n : ℝ) ≠ 0 := Nat.cast_ne_zero.mpr hn
  have hs : 0 < var z + ε := add_pos_of_nonneg_of_pos (var_nonneg z) hε
  have hr : rs ε z / (var z + ε) = rs ε z * rs ε z * rs ε z := by
    have : rs ε z * rs ε z = (var z + ε)⁻¹ := by
      unfold rs
      rw [← mul_inv, Real.mul_self_sqrt hs.le]
    rw [mul_assoc, this, div_eq_mul_inv]
  rw [Finset.sum_neg_distrib, Finset.sum_add_distrib, ← Finset.sum_mul, ← Finset.mul_sum, ← Finset.mul_sum, sum_cen z hn, hr]
  have hm : (mean fun k => gd k * xh ε z k) = (∑ j, cen z j * gd j) * rs ε z / n := by
    unfold mean xh
    rw [Finset.sum_mul]
    exact congrArg (· / (n : ℝ)) (Finset.sum_congr rfl fun j _ => by ring)
  unfold back
  rw [hm]
  unfold xh mean
  ring

theorem mean_coe (hn : n ≠ 0) (f : Fin n → EReal) (hf : ∀ k, f k = (z k : ℝ)) (N : EReal) (hN : N = ((n : ℝ) : EReal)) : Ideal.div (∑ k, f k) N = ((mean z : ℝ) : EReal) := by
  have hn' : (n : ℝ) ≠ 0 := Nat.cast_ne_zero.mpr hn
  rw [hN, Finset.sum_congr rfl fun k _ => hf k, Cert.Attention.coe_sum, Cert.Attention.div_real hn']
  rfl

theorem rs_coe (hn : n ≠ 0) (hε : 0 < ε) (f : Fin n → EReal) (hf : ∀ k, f k = (cen z k : ℝ)) (N E : EReal) (hN : N = ((n : ℝ) : EReal)) (hE : E = (ε : EReal)) :
    Ideal.rsqrt (Ideal.div (∑ k, f k * f k) N + E) = ((rs ε z : ℝ) : EReal) := by
  have h0 : 0 < var z + ε := add_pos_of_nonneg_of_pos (var_nonneg z) hε
  rw [mean_coe (fun k => cen z k * cen z k) hn _ (fun k => by rw [hf]; exact (EReal.coe_mul _ _).symm) N hN, hE, ← EReal.coe_add]
  change Ideal.rsqrt ((var z + ε : ℝ) : EReal) = _
  rw [Ideal.rsqrt_coe, if_neg (not_lt.mpr h0.le), if_neg h0.ne']
  rfl

/-- Layer norm's epsilon, as the programs write it. -/
def eps : ℝ := 10995116 / 1099511627776

theorem eps_pos : 0 < eps := by unfold eps; norm_num

theorem ofBits_eps : Ideal.ofBits .f32 0x3727C5AC#32 = ((eps : ℝ) : EReal) := by
  unfold eps
  simp [Ideal.ofBits, Ideal.ieee, -EReal.coe_mul]
  norm_num

theorem ofBits_1024 : Ideal.ofBits .f32 0x44800000#32 = (((1024 : ℕ) : ℝ) : EReal) := by
  simp [Ideal.ofBits, Ideal.ieee, -EReal.coe_mul]
  norm_num

theorem ofBits_2048 : Ideal.ofBits .f32 0x45000000#32 = (((2048 : ℕ) : ℝ) : EReal) := by
  simp [Ideal.ofBits, Ideal.ieee, -EReal.coe_mul]
  norm_num

theorem one_word : Ideal.ofBits .f32 0x3F800000#32 = ((1 : ℝ) : EReal) := by
  simp [Ideal.ofBits, Ideal.ieee, -EReal.coe_mul]
  norm_num

theorem back_coe (hn : n ≠ 0) (X : EReal) (hX : X = (rs ε z : ℝ)) (W V : Fin n → EReal) (hW : ∀ k, W k = (gd k : ℝ)) (hV : ∀ k, V k = (xh ε z k : ℝ)) (N : EReal) (hN : N = ((n : ℝ) : EReal)) (k : Fin n) :
    X * (W k - Ideal.div (∑ j, W j) N - V k * Ideal.div (∑ j, W j * V j) N) = ((back ε z gd k : ℝ) : EReal) := by
  rw [mean_coe gd hn W hW N hN, mean_coe (fun k => gd k * xh ε z k) hn _ (fun k => by rw [hW, hV]; exact (EReal.coe_mul _ _).symm) N hN, hX, hW, hV, ← EReal.coe_sub, ← EReal.coe_mul, ← EReal.coe_sub, ← EReal.coe_mul]
  rfl

theorem var_coe (hn : n ≠ 0) (f : Fin n → EReal) (hf : ∀ k, f k = (cen z k : ℝ)) (N E : EReal) (hN : N = ((n : ℝ) : EReal)) (hE : E = (ε : EReal)) :
    Ideal.div (∑ k, f k * f k) N + E = ((var z + ε : ℝ) : EReal) := by
  rw [mean_coe (fun k => cen z k * cen z k) hn _ (fun k => by rw [hf]; exact (EReal.coe_mul _ _).symm) N hN, hE, ← EReal.coe_add]
  rfl

theorem den_pos (hε : 0 < ε) : 0 < var z + ε := add_pos_of_nonneg_of_pos (var_nonneg z) hε

theorem rsqrt_den (hε : 0 < ε) (y : EReal) (hy : y = ((var z + ε : ℝ) : EReal)) : Ideal.rsqrt y = ((rs ε z : ℝ) : EReal) := by
  rw [hy, Ideal.rsqrt_coe, if_neg (not_lt.mpr (den_pos ε z hε).le), if_neg (den_pos ε z hε).ne']
  rfl

/-- Minus half the reciprocal of the deviation's cube. -/
def hs : ℝ := -(1 / 2) * (rs ε z / (var z + ε))

theorem hs_coe (hε : 0 < ε) (a r d : EReal) (ha : a = ((-(1 / 2) : ℝ) : EReal)) (hr : r = ((rs ε z : ℝ) : EReal)) (hd : d = ((var z + ε : ℝ) : EReal)) : a * Ideal.div r d = ((hs ε z : ℝ) : EReal) := by
  rw [ha, hr, hd, Cert.Attention.div_real (den_pos ε z hε).ne', ← EReal.coe_mul]
  rfl

/-- The gradient without its mean over the row. -/
def pre (k : Fin n) : ℝ := gd k * rs ε z + (∑ j, cen z j * gd j) * hs ε z / n * (2 * cen z k)

theorem pre_coe (hn : n ≠ 0) (W V : Fin n → EReal) (hW : ∀ k, W k = (gd k : ℝ)) (hV : ∀ k, V k = (cen z k : ℝ)) (R h N T : EReal) (hR : R = (rs ε z : ℝ)) (hh : h = (hs ε z : ℝ)) (hN : N = ((n : ℝ) : EReal)) (hT : T = ((2 : ℝ) : EReal)) (k : Fin n) :
    W k * R + Ideal.div ((∑ j, V j * W j) * h) N * (T * V k) = ((pre ε z gd k : ℝ) : EReal) := by
  have hn' : (n : ℝ) ≠ 0 := Nat.cast_ne_zero.mpr hn
  have hs' : ∑ j, V j * W j = ((∑ j, cen z j * gd j : ℝ) : EReal) := by
    rw [← Cert.Attention.coe_sum]
    exact Finset.sum_congr rfl fun j _ => by rw [hV, hW]; exact (EReal.coe_mul _ _).symm
  rw [hs', hW, hV, hR, hh, hN, hT, ← EReal.coe_mul, ← EReal.coe_mul, Cert.Attention.div_real hn', ← EReal.coe_mul, ← EReal.coe_mul, ← EReal.coe_add]
  rfl

theorem pre_back (hn : n ≠ 0) (hε : 0 < ε) (A : Fin n → EReal) (hA : ∀ k, A k = (pre ε z gd k : ℝ)) (N : EReal) (hN : N = ((n : ℝ) : EReal)) (k : Fin n) :
    A k + Ideal.div (∑ j, -A j) N = ((back ε z gd k : ℝ) : EReal) := by
  rw [mean_coe (fun k => -pre ε z gd k) hn _ (fun k => by rw [hA]; exact (EReal.coe_neg _).symm) N hN, hA, ← EReal.coe_add]
  exact congrArg Real.toEReal (back_eq ε z gd hn hε k)

theorem ofBits_two : Ideal.ofBits .f32 0x40000000#32 = ((2 : ℝ) : EReal) := by
  simp [Ideal.ofBits, Ideal.ieee, -EReal.coe_mul]
  norm_num

theorem ofBits_neg_half : Ideal.ofBits .f32 0xBF000000#32 = ((-(1 / 2) : ℝ) : EReal) := by
  simp [Ideal.ofBits, Ideal.ieee, -EReal.coe_mul]
  norm_num

/-- A family over the first `N` numbers, continued by zero. -/
def ext0 {N : ℕ} (f : Fin N → EReal) (i : ℕ) : EReal := if h : i < N then f ⟨i, h⟩ else 0

theorem ext0_of {N : ℕ} (f : Fin N → EReal) (i : ℕ) (h : i < N) : ext0 f i = f ⟨i, h⟩ := dif_pos h

theorem sum_range_blocks (a b : ℕ) (f : ℕ → EReal) : ∑ j ∈ Finset.range a, ∑ r ∈ Finset.range b, f (b * j + r) = ∑ i ∈ Finset.range (b * a), f i := by
  induction a with
  | zero => simp
  | succ a ih => rw [Finset.sum_range_succ, ih, Nat.mul_succ, Finset.sum_range_add]

/-- A sum over all rows, tile by tile. -/
theorem sum_blocks {N : ℕ} (a b : ℕ) (h : b * a = N) (f : Fin N → EReal) : ∑ j ∈ Finset.range a, ∑ r : Fin b, ext0 f (b * j + r.val) = ∑ i, f i := by
  subst h
  rw [Finset.sum_congr rfl fun j _ => Fin.sum_univ_eq_sum_range (fun r => ext0 f (b * j + r)) b, sum_range_blocks, ← Fin.sum_univ_eq_sum_range (fun i => ext0 f i)]
  exact Finset.sum_congr rfl fun i _ => ext0_of f i.val i.isLt

/-- What is set at the first point and added to at every later one is the sum over the points so far. -/
theorem fold {N : ℕ} (acc : ∀ t, t < N → EReal) (p : ℕ → EReal) (h0 : ∀ h, acc 0 h = p 0) (hs : ∀ t (h : t + 1 < N), acc (t + 1) h = acc t (Nat.lt_of_succ_lt h) + p (t + 1)) :
    ∀ t h, acc t h = ∑ j ∈ Finset.range (t + 1), p j := by
  intro t
  induction t with
  | zero => intro h; rw [h0, Finset.sum_range_one]
  | succ t ih => intro h; rw [hs, ih, Finset.sum_range_succ _ (t + 1)]

/-- The logistic function. -/
def sig (y : ℝ) : ℝ := 1 / (1 + Real.exp (-y))

theorem sig_den (y : ℝ) : 1 + Real.exp (-y) ≠ 0 := (add_pos one_pos (Real.exp_pos _)).ne'

/-- The gradient of `y * sig y`. -/
def dsilu (y d : ℝ) : ℝ := d * (sig y * (1 + y * (1 - sig y)))

theorem sig_coe (y : ℝ) : Ideal.div 1 (1 + Ideal.exp (-(y : EReal))) = ((sig y : ℝ) : EReal) := by
  have h1 : (1 : EReal) = ((1 : ℝ) : EReal) := rfl
  rw [← EReal.coe_neg, Ideal.exp_coe, h1, ← EReal.coe_add, Cert.Attention.div_real (sig_den y)]
  rfl

theorem dsilu_coe (y d : ℝ) : (d : EReal) * (Ideal.div 1 (1 + Ideal.exp (0 - (y : EReal))) * (1 + (y : EReal) * (1 - Ideal.div 1 (1 + Ideal.exp (0 - (y : EReal)))))) = ((dsilu y d : ℝ) : EReal) := by
  have h1 : (1 : EReal) = ((1 : ℝ) : EReal) := rfl
  rw [zero_sub, sig_coe, h1, ← EReal.coe_sub, ← EReal.coe_mul, ← EReal.coe_add, ← EReal.coe_mul, ← EReal.coe_mul]
  rfl

theorem silu_vjp (y d : ℝ) (s : EReal) (hs : s = ((sig y : ℝ) : EReal)) : (d : EReal) * s + (y : EReal) * (d : EReal) * (s * (1 - s)) = ((dsilu y d : ℝ) : EReal) := by
  have h1 : (1 : EReal) = ((1 : ℝ) : EReal) := rfl
  rw [hs, h1, ← EReal.coe_sub, ← EReal.coe_mul, ← EReal.coe_mul, ← EReal.coe_mul, ← EReal.coe_mul, ← EReal.coe_add]
  exact congrArg Real.toEReal (by unfold dsilu; ring)

end Cert.Norm

end
-- ==== Proof.Rms.lean ====
/- Hand-written, untrusted: rms norm and its gradient over the reals, and sums over heads side by side. -/
module

public import proofs.«01_k».proof.Proof.Norm

@[expose] public section

set_option maxRecDepth 16384

noncomputable section

namespace Cert.Rms

open Idealize.ShloMosaic Cert.Norm

variable {n : ℕ} (ε : ℝ) (x gd : Fin n → ℝ)

/-- The mean square of a row. -/
def ms : ℝ := mean fun k => x k * x k

/-- The reciprocal of the root of the mean square. -/
def rr : ℝ := (√(ms x + ε))⁻¹

/-- The gradient of the normed row with respect to the row. -/
def rback (k : Fin n) : ℝ := rr ε x * gd k - x k * (rr ε x * rr ε x * rr ε x) * mean fun k => gd k * x k

theorem den_pos (hε : 0 < ε) : 0 < ms x + ε := add_pos_of_nonneg_of_pos (div_nonneg (Finset.sum_nonneg fun k _ => mul_self_nonneg _) (Nat.cast_nonneg _)) hε

theorem den_coe (hn : n ≠ 0) (f : Fin n → EReal) (hf : ∀ k, f k = (x k : ℝ)) (N E : EReal) (hN : N = ((n : ℝ) : EReal)) (hE : E = (ε : EReal)) :
    Ideal.div (∑ k, f k * f k) N + E = ((ms x + ε : ℝ) : EReal) := by
  rw [mean_coe (fun k => x k * x k) hn _ (fun k => by rw [hf]; exact (EReal.coe_mul _ _).symm) N hN, hE, ← EReal.coe_add]
  rfl

theorem rr_coe (hε : 0 < ε) (y : EReal) (hy : y = ((ms x + ε : ℝ) : EReal)) : Ideal.rsqrt y = ((rr ε x : ℝ) : EReal) := by
  rw [hy, Ideal.rsqrt_coe, if_neg (not_lt.mpr (den_pos ε x hε).le), if_neg (den_pos ε x hε).ne']
  rfl

theorem kernel_coe (hn : n ≠ 0) (W X : Fin n → EReal) (hW : ∀ k, W k = (gd k : ℝ)) (hX : ∀ k, X k = (x k : ℝ)) (R N : EReal) (hR : R = (rr ε x : ℝ)) (hN : N = ((n : ℝ) : EReal)) (k : Fin n) :
    R * W k - X k * (R * R * R) * Ideal.div (∑ j, W j * X j) N = ((rback ε x gd k : ℝ) : EReal) := by
  rw [mean_coe (fun k => gd k * x k) hn _ (fun k => by rw [hW, hX]; exact (EReal.coe_mul _ _).symm) N hN, hW, hX, hR]
  simp only [← EReal.coe_mul, ← EReal.coe_sub]
  rfl

/-- Minus half the reciprocal of the root's cube. -/
def hr : ℝ := -(1 / 2) * (rr ε x / (ms x + ε))

theorem hr_coe (hε : 0 < ε) (a r d : EReal) (ha : a = ((-(1 / 2) : ℝ) : EReal)) (hr' : r = ((rr ε x : ℝ) : EReal)) (hd : d = ((ms x + ε : ℝ) : EReal)) : a * Ideal.div r d = ((hr ε x : ℝ) : EReal) := by
  rw [ha, hr', hd, Cert.Attention.div_real (den_pos ε x hε).ne', ← EReal.coe_mul]
  rfl

theorem vjp_eq (hn : n ≠ 0) (hε : 0 < ε) (k : Fin n) : gd k * rr ε x + (∑ j, x j * gd j) * hr ε x / n * (2 * x k) = rback ε x gd k := by
  have hs := den_pos ε x hε
  have h2 : rr ε x * rr ε x = (ms x + ε)⁻¹ := by
    unfold rr
    rw [← mul_inv, Real.mul_self_sqrt hs.le]
  have e : ∑ j, x j * gd j = ∑ j, gd j * x j := Finset.sum_congr rfl fun j _ => mul_comm _ _
  unfold rback hr mean
  rw [h2, e, div_eq_mul_inv (rr ε x) (ms x + ε)]
  ring

theorem vjp_coe (hn : n ≠ 0) (hε : 0 < ε) (W X : Fin n → EReal) (hW : ∀ k, W k = (gd k : ℝ)) (hX : ∀ k, X k = (x k : ℝ)) (R h N T : EReal) (hR : R = (rr ε x : ℝ)) (hh : h = (hr ε x : ℝ)) (hN : N = ((n : ℝ) : EReal)) (hT : T = ((2 : ℝ) : EReal)) (k : Fin n) :
    W k * R + Ideal.div ((∑ j, X j * W j) * h) N * (T * X k) = ((rback ε x gd k : ℝ) : EReal) := by
  have hn' : (n : ℝ) ≠ 0 := Nat.cast_ne_zero.mpr hn
  have hs' : ∑ j, X j * W j = ((∑ j, x j * gd j : ℝ) : EReal) := by
    rw [← Cert.Attention.coe_sum]
    exact Finset.sum_congr rfl fun j _ => by rw [hX, hW]; exact (EReal.coe_mul _ _).symm
  rw [hs', hW, hX, hR, hh, hN, hT, ← EReal.coe_mul, ← EReal.coe_mul, Cert.Attention.div_real hn', ← EReal.coe_mul, ← EReal.coe_mul, ← EReal.coe_add]
  exact congrArg Real.toEReal (vjp_eq ε x gd hn hε k)

/-- Rms norm's epsilon, as the programs write it. -/
def reps : ℝ := 8796093 / 8796093022208

theorem reps_pos : 0 < reps := by unfold reps; norm_num

theorem ofBits_reps : Ideal.ofBits .f32 0x358637BD#32 = ((reps : ℝ) : EReal) := by
  unfold reps
  simp [Ideal.ofBits, Ideal.ieee, -EReal.coe_mul]
  norm_num

theorem ofBits_512 : Ideal.ofBits .f32 0x44000000#32 = (((512 : ℕ) : ℝ) : EReal) := by
  simp [Ideal.ofBits, Ideal.ieee, -EReal.coe_mul]
  norm_num

/-- A sum over columns is one over heads and their columns. -/
theorem sum_heads {M : Type} [AddCommMonoid M] (a b : ℕ) (F : Fin (a * b) → M) :
    ∑ j, F j = ∑ h : Fin a, ∑ k : Fin b, F (finProdFinEquiv (h, k)) := by
  rw [← finProdFinEquiv.sum_comp, Fintype.sum_prod_type]

/-- A head's columns followed by zeros. -/
theorem sum_zeros {M : Type} [AddCommMonoid M] (b p : ℕ) (F : Fin (b + p) → M) (h : ∀ j : Fin p, F (Fin.natAdd b j) = 0) :
    ∑ j, F j = ∑ k : Fin b, F (Fin.castAdd p k) := by
  rw [Fin.sum_univ_add, Finset.sum_eq_zero (f := fun i => F (Fin.natAdd b i)) fun j _ => h j, add_zero]

/-- The products of real rows summed are the real sum. -/
theorem dot_coe {a : ℕ} (f g : Fin a → EReal) (f' g' : Fin a → ℝ) (hf : ∀ k, f k = (f' k : ℝ)) (hg : ∀ k, g k = (g' k : ℝ)) : ∑ k, f k * g k = ((∑ k, f' k * g' k : ℝ) : EReal) := by
  rw [← Cert.Attention.coe_sum]
  exact Finset.sum_congr rfl fun k _ => by rw [hf, hg]; exact (EReal.coe_mul _ _).symm

end Cert.Rms

end
-- ==== Proof.Finite.lean ====
/- Hand-written, untrusted: an array of which `finite` says yes holds reals. -/
module

public import proofs.«01_k».proof.Proof.Common
public import Idealize.ShloMosaic.Lib.ReduceAll

@[expose] public section

noncomputable section

namespace Cert.Finite

open Idealize.ShloMosaic TcCoe

theorem and_one {a b : BitVec 1} (h : IntOp.andi a b = 1#1) : a = 1#1 ∧ b = 1#1 := by
  revert a b
  decide

theorem inf_word : Ideal.ofBits FTy.f32 0x7F800000#32 = ⊤ := by
  simp [Ideal.ofBits, Ideal.ieee]

/-- Every absolute value under infinity: every element a real. -/
theorem all_real {S : Shape} {ds : List (Fin S.rank)} {d : Fin (⟨0, ![]⟩ : Shape).rank → Fin S.rank} (x : FVec Ideal S .f32) (hb) (hr : S.ReducesTo ds ⟨0, ![]⟩) (hu) (j)
    (h : (Host.reduce IntOp.andi (cmpf .olt (Host.absf x) (broadcastInDim (α := Ideal .f32) S d hb (constant (F := Ideal) ⟨0, ![]⟩ .f32 0x7F800000#32))) (constantI ⟨0, ![]⟩ 1 1#1) hr hu : IVec ⟨0, ![]⟩ 1) j = 1#1) (i : S.Idx) :
    ∃ r : ℝ, (x i : EReal) = r := by
  haveI : Subsingleton (⟨0, ![]⟩ : Shape).Idx := ⟨fun a b => funext fun k => k.elim0⟩
  have e := Host.reduce_andi_all _ _ hr hu j h i
  have e1 : BitVec.ofBool (decide (max (x i : EReal) (-(x i : EReal)) < Ideal.ofBits FTy.f32 0x7F800000#32)) = 1#1 := e
  rw [inf_word] at e1
  have e2 : max (x i : EReal) (-(x i : EReal)) < ⊤ := by
    by_contra hn
    rw [decide_eq_false hn] at e1
    exact absurd e1 (by decide)
  generalize (x i : EReal) = y at e2
  induction y using EReal.rec with
  | bot => simp at e2
  | top => simp at e2
  | coe r => exact ⟨r, rfl⟩

end Cert.Finite

end
-- ==== Proof.LnTail.lean ====
/- Hand-written, untrusted: the layer norm's gradient of a tile of 512 rows, taken in four chunks of 128 rows after a product accumulated over blocks of columns. -/
module

public import proofs.«01_k».proof.Proof.Rms
public import proofs.«01_k».proof.Proof.Finite
public import proofs.«01_k».proof.Proof.Gen.InLnInBwdIdeal.Value

@[expose] public section

set_option maxRecDepth 16384

noncomputable section

namespace Cert.LnTail

open Cert.Common Cert.Norm

/-- An accumulator started at the first of `n` blocks and added to at the others. -/
theorem fold_cols {N : ℕ} (n : ℕ) (hn : 0 < n) (acc : ∀ t, t < N → EReal) (p : ℕ → ℕ → EReal) (h0 : ∀ t h, t % n = 0 → acc t h = p (t / n) 0)
    (hs : ∀ t h, t % n ≠ 0 → acc t h = acc (t - 1) (Nat.lt_of_le_of_lt (Nat.sub_le _ _) h) + p (t / n) (t % n)) :
    ∀ t h, acc t h = ∑ j ∈ Finset.range (t % n + 1), p (t / n) j := by
  intro t
  induction t with
  | zero => intro h; rw [h0 0 h (Nat.zero_mod _), Nat.zero_mod]; simp
  | succ t ih =>
    intro h
    by_cases hm : (t + 1) % n = 0
    · rw [h0 _ h hm, hm]; simp
    · have hd : ¬ n ∣ t + 1 := fun d => hm (Nat.mod_eq_zero_of_dvd d)
      have e1 : (t + 1) / n = t / n := by rw [Nat.succ_div, if_neg hd, Nat.add_zero]
      have e2 : (t + 1) % n = t % n + 1 := by
        have a1 := Nat.div_add_mod (t + 1) n
        have a2 := Nat.div_add_mod t n
        rw [e1] at a1
        omega
      rw [hs _ h hm, e1, e2, Finset.sum_range_succ]
      exact congrArg₂ (fun x y : EReal => x + y) (ih (Nat.lt_of_succ_lt h)) rfl

/-- An accumulator set at the last block of the first row of tiles, added to at the last block of the others and kept between. -/
theorem fold_rows {N : ℕ} (n : ℕ) (hn : 1 < n) (acc : ∀ t, t < N → EReal) (p : ℕ → EReal) (h0 : ∀ h, acc (n - 1) h = p 0)
    (hs : ∀ t h, n ≤ t → t % n = n - 1 → acc t h = acc (t - 1) (Nat.lt_of_le_of_lt (Nat.sub_le _ _) h) + p (t / n))
    (hk : ∀ t h, n ≤ t → t % n ≠ n - 1 → acc t h = acc (t - 1) (Nat.lt_of_le_of_lt (Nat.sub_le _ _) h)) :
    ∀ t h, n ≤ t + 1 → acc t h = ∑ j ∈ Finset.range ((t + 1) / n), p j := by
  intro t
  induction t with
  | zero => intro h hl; omega
  | succ t ih =>
    intro h hl
    by_cases hf : t + 1 < n
    · obtain rfl : n = t + 2 := by omega
      have e : (t + 1 + 1) / (t + 2) = 1 := Nat.div_self (by omega)
      rw [e, Finset.sum_range_one]
      exact h0 h
    · have ih' := ih (Nat.lt_of_succ_lt h) (by omega)
      by_cases hm : (t + 1) % n = n - 1
      · have hd : n ∣ t + 2 := by
          refine ⟨(t + 1) / n + 1, ?_⟩
          have a1 := Nat.div_add_mod (t + 1) n
          rw [Nat.mul_succ]
          omega
        have e : (t + 1 + 1) / n = (t + 1) / n + 1 := Nat.succ_div_of_dvd hd
        rw [hs _ h (by omega) hm, e, Finset.sum_range_succ]
        exact congrArg₂ (fun x y : EReal => x + y) ih' rfl
      · have hd : ¬ n ∣ t + 2 := fun ⟨k, hk⟩ => hm (by
          cases k with
          | zero => omega
          | succ k =>
            have e : t + 1 = (n - 1) + n * k := by rw [Nat.mul_succ] at hk; omega
            rw [e, Nat.add_mul_mod_self_left, Nat.mod_eq_of_lt (by omega)])
        have e : (t + 1 + 1) / n = (t + 1) / n := Nat.succ_div_of_not_dvd hd
        rw [hk _ h (by omega) hm, e]
        exact ih'

/-- The residual's factor. -/
def alpha : ℝ := 9975792 / 8388608

theorem ofBits_alpha : Idealize.ShloMosaic.Ideal.ofBits .f32 0x3F9837F0#32 = ((alpha : ℝ) : EReal) := by
  unfold alpha
  simp [Idealize.ShloMosaic.Ideal.ofBits, Idealize.ShloMosaic.Ideal.ieee, -EReal.coe_mul]
  norm_num

section

open Cert.InLnInBwdIdeal Cert.InLnInBwdIdeal.Gen Idealize.ShloMosaic TcCoe Idealize.SL.Sem

/-- Row `r` of chunk `q` of a tile. -/
def sub (q : Fin 4) (r : Fin 128) : Fin 512 := ⟨128 * q.val + r.val, by omega⟩

/-- The rows of a tile are those of its four chunks. -/
theorem four (f : Fin 512 → EReal) : ∑ r, f (sub 0 r) + ∑ r, f (sub 1 r) + ∑ r, f (sub 2 r) + ∑ r, f (sub 3 r) = ∑ r, f r := by
  rw [← sum_blocks 4 128 rfl f, Finset.sum_range_succ, Finset.sum_range_succ, Finset.sum_range_succ, Finset.sum_range_one]
  refine congrArg₂ _ (congrArg₂ _ (congrArg₂ _ ?_ ?_) ?_) ?_ <;> exact Finset.sum_congr rfl fun r _ => (ext0_of f _ (sub _ r).isLt).symm

/-- Chunk `q` of a tile. -/
def ch (q : Fin 4) (X : Vec Ideal S512x2048 .f32) : Vec Ideal S128x2048 .f32 := fun x => X (ix2 (sub q (x 0)) (x 1))

theorem lch (q : Fin 4) (o : ℕ) (ho : o = 128 * q.val := by rfl) (inb : ∀ a, (![o, 0] : Fin 2 → ℕ) a + S128x2048.size a ≤ S512x2048.size a) (X : Vec Ideal S512x2048 .f32) :
    View.ld X (Rect.unit (s := S512x2048) ![o, 0] S128x2048.size inb) = ch q X := by
  funext x
  exact read2 X _ _ (by show o + 1 * (x 0).val = 128 * q.val + (x 0).val; omega) (by show 0 + 1 * (x 1).val = (x 1).val; omega)

/-- A load of a chunk of what a whole store left. -/
theorem rch (q : Fin 4) (o : ℕ) (ho : o = 128 * q.val := by rfl) {σ : RefSig} {κ : Kind} {sp : Space} (v : View σ κ sp S512x2048 .f32) (inb' : ∀ a, (![0, 0] : Fin 2 → ℕ) a + S512x2048.size a ≤ S512x2048.size a) (w : Vec Ideal S512x2048 .f32)
    (inb : ∀ a, (![o, 0] : Fin 2 → ℕ) a + S128x2048.size a ≤ S512x2048.size a) :
    v.readCov (Val := Elt Ideal) [(⟨Rect.unit (s := S512x2048) ![0, 0] S512x2048.size inb', w⟩ : View.Piece (Elt Ideal) S512x2048 .f32)] (Rect.unit (s := S512x2048) ![o, 0] S128x2048.size inb).toLoadRect = ch q w := by
  rw [View.readCov_eq_canon']
  funext x
  rw [c0 S512x2048]
  exact read2 w _ _ (by show o + 1 * (x 0).val = 128 * q.val + (x 0).val; omega) (by show 0 + 1 * (x 1).val = (x 1).val; omega)

variable (A z x d : Vec Ideal S128x2048 .f32) (g : Vec Ideal S1x2048 .f32) (dr xr : Fin 128 → Fin 2048 → ℝ) (gr : Fin 2048 → ℝ)
  (hd : ∀ r k, (d (ix2 r k) : EReal) = (dr r k : ℝ)) (hd' : ∀ r k, (k0_pay3 A z (ix2 r k) : EReal) = (dr r k : ℝ)) (hx : ∀ r k, (x (ix2 r k) : EReal) = (xr r k : ℝ)) (hg : ∀ k, (g (ix2 0 k) : EReal) = (gr k : ℝ))

theorem pay3 (r : Fin 128) (k : Fin 2048) : (k0_pay3 A z (ix2 r k) : EReal) = Ideal.ofBits .f32 0x3F9837F0#32 * (z (ix2 r k) : EReal) + (A (ix2 r k) : EReal) := by
  unfold k0_pay3
  pointwise

include hx in
theorem pay4 (r : Fin 128) (k : Fin 2048) : (k0_pay4 x (ix2 r k) : EReal) = (cen (xr r) k : ℝ) := by
  unfold k0_pay4
  pointwise
  rw [mean_coe (xr r) (by decide) _ (hx r) _ ofBits_2048, hx, ← EReal.coe_sub]
  rfl

include hx in
theorem pay5 (r : Fin 128) (j : Fin 1) : (k0_pay5 x (ix2 r j) : EReal) = (rs eps (xr r) : ℝ) := by
  have h4 := pay4 x xr hx r
  unfold k0_pay5
  generalize k0_pay4 x = v at h4 ⊢
  pointwise
  exact rs_coe eps (xr r) (by decide) eps_pos _ h4 _ _ ofBits_2048 ofBits_eps

include hx in
theorem pay6 (r : Fin 128) (k : Fin 2048) : (k0_pay6 x (ix2 r k) : EReal) = (xh eps (xr r) k : ℝ) := by
  have h4 := pay4 x xr hx r
  have h5 := pay5 x xr hx r
  unfold k0_pay6
  generalize k0_pay4 x = v at h4 ⊢
  generalize k0_pay5 x = w at h5 ⊢
  pointwise
  rw [h4, h5, ← EReal.coe_mul]
  rfl

include hd' hx in
theorem pay7 (k : Fin 2048) : (k0_pay7 A z x (ix2 0 k) : EReal) = ∑ r, ((dr r k * xh eps (xr r) k : ℝ) : EReal) := by
  have h6 := pay6 x xr hx
  unfold k0_pay7
  generalize k0_pay3 A z = v at hd' ⊢
  generalize k0_pay6 x = w at h6 ⊢
  generalize hs : ∑ r, ((dr r k * xh eps (xr r) k : ℝ) : EReal) = s
  pointwise
  rw [← hs]
  exact Finset.sum_congr rfl fun r _ => by rw [hd', h6, ← EReal.coe_mul]

theorem pay8 (u : Vec Ideal S1x2048 .f32) (k : Fin 2048) : (k0_pay8 A z x u (ix2 0 k) : EReal) = (u (ix2 0 k) : EReal) + (k0_pay7 A z x (ix2 0 k) : EReal) := by
  unfold k0_pay8
  generalize k0_pay7 A z x = v
  pointwise
  try simp only [shapeCast_self]

include hd' in
theorem pay9 (k : Fin 2048) : (k0_pay9 A z (ix2 0 k) : EReal) = ∑ r, ((dr r k : ℝ) : EReal) := by
  unfold k0_pay9
  generalize k0_pay3 A z = v at hd' ⊢
  generalize hs : ∑ r, ((dr r k : ℝ) : EReal) = s
  pointwise
  rw [← hs]
  exact Finset.sum_congr rfl fun r _ => hd' r k

theorem pay10 (v u : Vec Ideal S1x2048 .f32) (k : Fin 2048) : (k0_pay10 v u (ix2 0 k) : EReal) = (u (ix2 0 k) : EReal) + (v (ix2 0 k) : EReal) := by
  unfold k0_pay10
  pointwise
  try simp only [shapeCast_self]

include hd hx hg in
theorem pay11 (r : Fin 128) (k : Fin 2048) : (k0_pay11 d (k0_pay5 x) (k0_pay6 x) g (ix2 r k) : EReal) = (back eps (xr r) (fun k => dr r k * gr k) k : ℝ) := by
  have h5 := pay5 x xr hx r
  have h6 := pay6 x xr hx r
  unfold k0_pay11
  generalize k0_pay5 x = v at h5 ⊢
  generalize k0_pay6 x = w at h6 ⊢
  pointwise
  exact back_coe eps (xr r) (fun k => dr r k * gr k) (by decide) _ (h5 _) (fun k => (d (ix2 r k) : EReal) * (g (ix2 0 k) : EReal)) (fun k => w (ix2 r k)) (fun k => by rw [hd, hg]; exact (EReal.coe_mul _ _).symm) h6 _ ofBits_2048 k

end

section

open Cert.InLnInBwdIdeal Cert.InLnInBwdIdeal.Gen Idealize.ShloMosaic TcCoe Idealize.SL.Sem

/-- The scale's gradient of a tile, its chunks added one after the other to `u`. -/
def tileG (P z x : Vec Ideal S512x2048 .f32) (u : Vec Ideal S1x2048 .f32) : Vec Ideal S1x2048 .f32 :=
  k0_pay8 (ch 3 P) (ch 3 z) (ch 3 x) (k0_pay8 (ch 2 P) (ch 2 z) (ch 2 x) (k0_pay8 (ch 1 P) (ch 1 z) (ch 1 x) u))

/-- The offset's gradient of a tile, its chunks added one after the other to `u`. -/
def tileB (P z : Vec Ideal S512x2048 .f32) (u : Vec Ideal S1x2048 .f32) : Vec Ideal S1x2048 .f32 :=
  k0_pay10 (k0_pay9 (ch 3 P) (ch 3 z)) (k0_pay10 (k0_pay9 (ch 2 P) (ch 2 z)) (k0_pay10 (k0_pay9 (ch 1 P) (ch 1 z)) u))

/-- The rows' gradient of chunk `q`. -/
def tileX (P z x : Vec Ideal S512x2048 .f32) (g : Vec Ideal S1x2048 .f32) (q : Fin 4) : Vec Ideal S128x2048 .f32 :=
  k0_pay11 (k0_pay3 (ch q P) (ch q z)) (k0_pay5 (ch q x)) (k0_pay6 (ch q x)) g

variable (P z x : Vec Ideal S512x2048 .f32) (g : Vec Ideal S1x2048 .f32) (dr xr : Fin 512 → Fin 2048 → ℝ) (gr : Fin 2048 → ℝ)
  (hd : ∀ r k, Ideal.ofBits .f32 0x3F9837F0#32 * (z (ix2 r k) : EReal) + (P (ix2 r k) : EReal) = (dr r k : ℝ)) (hx : ∀ r k, (x (ix2 r k) : EReal) = (xr r k : ℝ)) (hg : ∀ k, (g (ix2 0 k) : EReal) = (gr k : ℝ))

include hd in
theorem chunk_d (q : Fin 4) (r : Fin 128) (k : Fin 2048) : (k0_pay3 (ch q P) (ch q z) (ix2 r k) : EReal) = (dr (sub q r) k : ℝ) :=
  (pay3 _ _ r k).trans (hd (sub q r) k)

include hd hx in
theorem chunk_g (q : Fin 4) (k : Fin 2048) : (k0_pay7 (ch q P) (ch q z) (ch q x) (ix2 0 k) : EReal) = ∑ r, ((dr (sub q r) k * xh eps (xr (sub q r)) k : ℝ) : EReal) :=
  pay7 _ _ _ (fun r => dr (sub q r)) (fun r => xr (sub q r)) (chunk_d P z dr hd q) (fun r => hx (sub q r)) k

include hd in
theorem chunk_b (q : Fin 4) (k : Fin 2048) : (k0_pay9 (ch q P) (ch q z) (ix2 0 k) : EReal) = ∑ r, ((dr (sub q r) k : ℝ) : EReal) :=
  pay9 _ _ (fun r => dr (sub q r)) (chunk_d P z dr hd q) k

include hd hx hg in
theorem chunk_x (q : Fin 4) (r : Fin 128) (k : Fin 2048) : (tileX P z x g q (ix2 r k) : EReal) = (back eps (xr (sub q r)) (fun k => dr (sub q r) k * gr k) k : ℝ) :=
  pay11 _ _ _ (fun r => dr (sub q r)) (fun r => xr (sub q r)) gr (chunk_d P z dr hd q) (fun r => hx (sub q r)) hg r k

include hd hx in
theorem tile_g0 (k : Fin 2048) : (tileG P z x (k0_pay7 (ch 0 P) (ch 0 z) (ch 0 x)) (ix2 0 k) : EReal) = ∑ r, ((dr r k * xh eps (xr r) k : ℝ) : EReal) := by
  unfold tileG
  rw [pay8, pay8, pay8, chunk_g P z x dr xr hd hx, chunk_g P z x dr xr hd hx, chunk_g P z x dr xr hd hx, chunk_g P z x dr xr hd hx]
  exact four fun r => ((dr r k * xh eps (xr r) k : ℝ) : EReal)

include hd hx in
theorem tile_g (u : Vec Ideal S1x2048 .f32) (k : Fin 2048) : (tileG P z x (k0_pay8 (ch 0 P) (ch 0 z) (ch 0 x) u) (ix2 0 k) : EReal) = (u (ix2 0 k) : EReal) + ∑ r, ((dr r k * xh eps (xr r) k : ℝ) : EReal) := by
  unfold tileG
  rw [pay8, pay8, pay8, pay8, chunk_g P z x dr xr hd hx, chunk_g P z x dr xr hd hx, chunk_g P z x dr xr hd hx, chunk_g P z x dr xr hd hx,
    ← four fun r => ((dr r k * xh eps (xr r) k : ℝ) : EReal)]
  simp only [add_assoc]

include hd in
theorem tile_b0 (k : Fin 2048) : (tileB P z (k0_pay9 (ch 0 P) (ch 0 z)) (ix2 0 k) : EReal) = ∑ r, ((dr r k : ℝ) : EReal) := by
  unfold tileB
  rw [pay10, pay10, pay10, chunk_b P z dr hd, chunk_b P z dr hd, chunk_b P z dr hd, chunk_b P z dr hd]
  exact four fun r => ((dr r k : ℝ) : EReal)

include hd in
theorem tile_b (u : Vec Ideal S1x2048 .f32) (k : Fin 2048) : (tileB P z (k0_pay10 (k0_pay9 (ch 0 P) (ch 0 z)) u) (ix2 0 k) : EReal) = (u (ix2 0 k) : EReal) + ∑ r, ((dr r k : ℝ) : EReal) := by
  unfold tileB
  rw [pay10, pay10, pay10, pay10, chunk_b P z dr hd, chunk_b P z dr hd, chunk_b P z dr hd, chunk_b P z dr hd, ← four fun r => ((dr r k : ℝ) : EReal)]
  simp only [add_assoc]

/-- A tile written chunk by chunk. -/
theorem canon4 {e : EltTy} (w : Fin 4 → S128x2048.Idx → Elt Ideal e) (f : Fin 512 → Fin 2048 → Elt Ideal e) (hw : ∀ q r k, w q (ix2 r k) = f (sub q r) k)
    (i3 : ∀ a, (![384, 0] : Fin 2 → ℕ) a + S128x2048.size a ≤ S512x2048.size a) (i2 : ∀ a, (![256, 0] : Fin 2 → ℕ) a + S128x2048.size a ≤ S512x2048.size a)
    (i1 : ∀ a, (![128, 0] : Fin 2 → ℕ) a + S128x2048.size a ≤ S512x2048.size a) (i0 : ∀ a, (![0, 0] : Fin 2 → ℕ) a + S128x2048.size a ≤ S512x2048.size a) (r : Fin 512) (k : Fin 2048) :
    View.canon (Val := Elt Ideal) (s := S512x2048) [(⟨Rect.unit (s := S512x2048) ![384, 0] S128x2048.size i3, w 3⟩ : View.Piece (Elt Ideal) S512x2048 e), ⟨Rect.unit (s := S512x2048) ![256, 0] S128x2048.size i2, w 2⟩,
      ⟨Rect.unit (s := S512x2048) ![128, 0] S128x2048.size i1, w 1⟩, ⟨Rect.unit (s := S512x2048) ![0, 0] S128x2048.size i0, w 0⟩] (ix2 r k) = f r k := by
  have tile : ∀ (q : Fin 4) (o : ℕ), o = 128 * q.val → View.TileAt (Val := Elt Ideal) (S := S512x2048) (ix2 r k) ![o, 0] S128x2048.size (w q) (f r k) := fun q o ho x hx => by
    have e0 : r.val = o + (x 0).val := hx 0
    have e1 : k.val = 0 + (x 1).val := hx 1
    refine Eq.trans (congrArg (w q) (eq_ix2 x)) ((hw q (x 0) (x 1)).trans (congrArg₂ f (Fin.ext ?_) (Fin.ext ?_)))
    · show 128 * q.val + (x 0).val = r.val; omega
    · omega
  have hk : k.val < 2048 := k.isLt
  have mem : ∀ (o : ℕ) (inb : ∀ a, (![o, 0] : Fin 2 → ℕ) a + S128x2048.size a ≤ S512x2048.size a), o ≤ r.val → r.val < o + 128 → (ix2 r k : S512x2048.Idx) ∈ (Rect.unit (s := S512x2048) ![o, 0] S128x2048.size inb).set := fun o inb h h' =>
    Rect.mem_set_unit.mpr fun a => match a with
      | ⟨0, _⟩ => ⟨h, h'⟩
      | ⟨1, _⟩ => ⟨Nat.zero_le _, by show k.val < 0 + 2048; omega⟩
  refine View.canon_eq_of_allAt _ _ _ ?_ ?_
  · by_cases h3 : 384 ≤ r.val
    · exact ⟨_, List.mem_cons_self, mem 384 i3 h3 (by omega)⟩
    by_cases h2 : 256 ≤ r.val
    · exact ⟨_, List.mem_cons_of_mem _ List.mem_cons_self, mem 256 i2 h2 (by omega)⟩
    by_cases h1 : 128 ≤ r.val
    · exact ⟨_, List.mem_cons_of_mem _ (List.mem_cons_of_mem _ List.mem_cons_self), mem 128 i1 h1 (by omega)⟩
    · exact ⟨_, List.mem_cons_of_mem _ (List.mem_cons_of_mem _ (List.mem_cons_of_mem _ List.mem_cons_self)), mem 0 i0 (by omega) (by omega)⟩
  exact View.allAt_cons_unit _ _ _ _ _ (tile 3 _ rfl) (View.allAt_cons_unit _ _ _ _ _ (tile 2 _ rfl) (View.allAt_cons_unit _ _ _ _ _ (tile 1 _ rfl) (View.allAt_cons_unit _ _ _ _ _ (tile 0 _ rfl) (View.allAt_nil _ _))))

/-- A tile written chunk by chunk, by its rows. -/
theorem canon_tile {e : EltTy} (w : Fin 4 → S128x2048.Idx → Elt Ideal e)
    (i3 : ∀ a, (![384, 0] : Fin 2 → ℕ) a + S128x2048.size a ≤ S512x2048.size a) (i2 : ∀ a, (![256, 0] : Fin 2 → ℕ) a + S128x2048.size a ≤ S512x2048.size a)
    (i1 : ∀ a, (![128, 0] : Fin 2 → ℕ) a + S128x2048.size a ≤ S512x2048.size a) (i0 : ∀ a, (![0, 0] : Fin 2 → ℕ) a + S128x2048.size a ≤ S512x2048.size a) (r : Fin 512) (k : Fin 2048) :
    View.canon (Val := Elt Ideal) (s := S512x2048) [(⟨Rect.unit (s := S512x2048) ![384, 0] S128x2048.size i3, w 3⟩ : View.Piece (Elt Ideal) S512x2048 e), ⟨Rect.unit (s := S512x2048) ![256, 0] S128x2048.size i2, w 2⟩,
      ⟨Rect.unit (s := S512x2048) ![128, 0] S128x2048.size i1, w 1⟩, ⟨Rect.unit (s := S512x2048) ![0, 0] S128x2048.size i0, w 0⟩] (ix2 r k) = w ⟨r.val / 128, by omega⟩ (ix2 ⟨r.val % 128, by omega⟩ k) := by
  refine canon4 w (fun r k => w ⟨r.val / 128, by omega⟩ (ix2 ⟨r.val % 128, by omega⟩ k)) (fun q r k => ?_) i3 i2 i1 i0 r k
  have e0 : (⟨(sub q r).val / 128, by omega⟩ : Fin 4) = q := Fin.ext (by show (128 * q.val + r.val) / 128 = q.val; omega)
  have e1 : (⟨(sub q r).val % 128, by omega⟩ : Fin 128) = r := Fin.ext (by show (128 * q.val + r.val) % 128 = r.val; omega)
  show _ = w ⟨(sub q r).val / 128, _⟩ (ix2 ⟨(sub q r).val % 128, _⟩ k)
  rw [e0, e1]

end

end Cert.LnTail

end
-- ==== Proof.ConvPoint.lean ====
/- Hand-written, untrusted: the depthwise convolution's backward call computes the gradients of a sum of shifted products, and of the weights and the offset. -/
module

public import proofs.«01_k».proof.Proof.LnTail
public import proofs.«01_k».proof.Proof.Gen.ConvBwdIdeal.Frame

@[expose] public section

set_option maxRecDepth 16384

noncomputable section

namespace Cert.ConvPoint

open Cert.Common Idealize.ShloMosaic TcCoe Idealize.SL.Sem
open Cert.ConvBwdIdeal Cert.ConvBwdIdeal.Gen

section Ops

variable (s : Fin 8) (a : Fin 256) (r : Fin 64)

theorem e_row (x : Vec Ideal S8x256 .f32) : (shapeCast S1x8x256 x shapeCasts_S8x256_S1x8x256 : FVec Ideal S1x8x256 .f32) (ix3 (0 : Fin 1) s a) = x (ix2 s a) := by
  pointwise

theorem e_unrow (x : Vec Ideal S1x8x256 .f32) : (shapeCast S8x256 x shapeCasts_S1x8x256_S8x256 : FVec Ideal S8x256 .f32) (ix2 s a) = x (ix3 (0 : Fin 1) s a) := by
  pointwise

theorem e_add {S : Shape} (x y : FVec Ideal S .f32) (j : S.Idx) : addf x y j = @HAdd.hAdd EReal EReal EReal _ (x j) (y j) := rfl

theorem e_mul {S : Shape} (x y : FVec Ideal S .f32) (j : S.Idx) : mulf x y j = @HMul.hMul EReal EReal EReal _ (x j) (y j) := rfl

/-- The sum of eight planes. -/
def sum8 (x : FVec Ideal S8x8x256 .f32) : FVec Ideal S8x256 .f32 := multiReduction .add [0] S8x256 x 0x00000000#32 reduces_S8x8x256_S8x256 (.inl rfl) rfl

theorem fold8 (x : FVec Ideal S8x8x256 .f32) : (multiReduction .add [0] S8x256 x 0x00000000#32 reduces_S8x8x256_S8x256 (.inl rfl) rfl : FVec Ideal S8x256 .f32) = sum8 x := rfl

theorem e_sum (x : FVec Ideal S8x8x256 .f32) : sum8 x (ix2 s a) = ∑ j : Fin 8, (x (ix3 j s a) : EReal) := by
  unfold sum8; pointwise

theorem e_split (x : FVec Ideal S64x256 .f32) (j : Fin 8) : (shapeCast S8x8x256 x shapeCasts_S64x256_S8x8x256 : FVec Ideal S8x8x256 .f32) (ix3 j s a) = x (ix2 (⟨j.val * 8 + s.val, by omega⟩ : Fin 64) a) := by
  pointwise

/-- The sum of thirty-two planes. -/
def sum32 (x : FVec Ideal S32x8x256 .f32) : FVec Ideal S8x256 .f32 := multiReduction .add [0] S8x256 x 0x00000000#32 reduces_S32x8x256_S8x256 (.inl rfl) rfl

theorem fold32 (x : FVec Ideal S32x8x256 .f32) : (multiReduction .add [0] S8x256 x 0x00000000#32 reduces_S32x8x256_S8x256 (.inl rfl) rfl : FVec Ideal S8x256 .f32) = sum32 x := rfl

theorem e_sum32 (x : FVec Ideal S32x8x256 .f32) : sum32 x (ix2 s a) = ∑ j : Fin 32, (x (ix3 j s a) : EReal) := by
  unfold sum32; pointwise

theorem e_split32 (x : FVec Ideal S256x256 .f32) (j : Fin 32) : (shapeCast S32x8x256 x shapeCasts_S256x256_S32x8x256 : FVec Ideal S32x8x256 .f32) (ix3 j s a) = x (ix2 (⟨j.val * 8 + s.val, by omega⟩ : Fin 256) a) := by
  pointwise

theorem e_tap (w : Vec Ideal S1x256 .f32) : (broadcastTo S64x256 (shapeCast S1x256 w shapeCasts_S1x256_S1x256 : FVec Ideal S1x256 .f32) broadcasts_S1x256_S64x256 : FVec Ideal S64x256 .f32) (ix2 r a) = w (ix2 (0 : Fin 1) a) := by
  pointwise

theorem e_zero : (broadcast S64x256 (Scalar.ofBits .f32 0x00000000#32) : FVec Ideal S64x256 .f32) (ix2 r a) = (0 : EReal) := by
  pointwise

theorem e_zeros (k : Fin 32) : (k0_pay15 : FVec Ideal S32x8x256 .f32) (ix3 k s a) = (0 : EReal) := by
  unfold k0_pay15; pointwise

end Ops

theorem hit (k : ℕ) (hk : k < 32) (inb) (p : Vec Ideal S1x8x256 .f32) (L : List (View.Piece (Elt Ideal) S32x8x256 .f32)) (s : Fin 8) (a : Fin 256) :
    View.canon (⟨Rect.unit (s := S32x8x256) ![k, 0, 0] ![1, 8, 256] inb, p⟩ :: L) (ix3 (⟨k, hk⟩ : Fin 32) s a) = p (ix3 (0 : Fin 1) s a) := by
  have e : (ix3 (⟨k, hk⟩ : Fin 32) s a : S32x8x256.Idx) = (Rect.unit (s := S32x8x256) ![k, 0, 0] ![1, 8, 256] inb).emb (ix3 (0 : Fin 1) s a) := by
    funext x; refine Fin.ext ?_; fin_cases x
    · show k = k + 1 * 0; omega
    · show s.val = 0 + 1 * s.val; omega
    · show a.val = 0 + 1 * a.val; omega
  rw [e]; exact View.canon_cons_emb (Rect.unit (s := S32x8x256) ![k, 0, 0] ![1, 8, 256] inb) p L _

theorem skip (j k : ℕ) (hk : k < 32) (h : j ≠ k) (inb) (p : Vec Ideal S1x8x256 .f32) (L : List (View.Piece (Elt Ideal) S32x8x256 .f32)) (s : Fin 8) (a : Fin 256) :
    View.canon (⟨Rect.unit (s := S32x8x256) ![j, 0, 0] ![1, 8, 256] inb, p⟩ :: L) (ix3 (⟨k, hk⟩ : Fin 32) s a) = View.canon L (ix3 (⟨k, hk⟩ : Fin 32) s a) := by
  refine View.canon_cons_of_not_mem _ L ?_
  intro hm
  obtain ⟨x, hx⟩ := LoadRect.exists_idx_of_mem _ hm
  have h0 := congrArg (fun i : S32x8x256.Idx => (i 0).val) hx
  have h1 : j + 1 * (x 0).val = k := h0
  have h2 : (x 0).val < 1 := (x 0).isLt
  omega

theorem load (v : View sig .tc .vmem S32x8x256 .f32) (k : ℕ) (hk : k < 32) (inb) (L : List (View.Piece (Elt Ideal) S32x8x256 .f32)) (s : Fin 8) (a : Fin 256) :
    v.readCov L (Rect.unit (s := S32x8x256) ![k, 0, 0] ![1, 8, 256] inb).toLoadRect (ix3 (0 : Fin 1) s a) = View.canon L (ix3 (⟨k, hk⟩ : Fin 32) s a) := by
  rw [View.readCov_eq_canon']
  refine congrArg (View.canon L) ?_
  funext x; refine Fin.ext ?_; fin_cases x
  · show k + 1 * 0 = k; omega
  · show 0 + 1 * s.val = s.val; omega
  · show 0 + 1 * a.val = a.val; omega

theorem load11 (v : View sig .tc .vmem S8x280x256 .f32) (p b : ℕ) (hp : p < 8) (hb : b ≤ 216) (inb) (L : List (View.Piece (Elt Ideal) S8x280x256 .f32)) (r : Fin 64) (a : Fin 256) :
    v.readCov L (Rect.unit (s := S8x280x256) ![p, b, 0] ![1, 64, 256] inb).toLoadRect (ix3 (0 : Fin 1) r a) = View.canon L (ix3 (⟨p, hp⟩ : Fin 8) (⟨b + r.val, by omega⟩ : Fin 280) a) := by
  rw [View.readCov_eq_canon']
  refine congrArg (View.canon L) ?_
  funext x; refine Fin.ext ?_; fin_cases x
  · show p + 1 * 0 = p; omega
  · show b + 1 * r.val = b + r.val; omega
  · show 0 + 1 * a.val = a.val; omega

theorem hit11 (p : ℕ) (hp : p < 8) (inb) (w : Vec Ideal S1x280x256 .f32) (L : List (View.Piece (Elt Ideal) S8x280x256 .f32)) (b : Fin 280) (a : Fin 256) :
    View.canon (⟨Rect.unit (s := S8x280x256) ![p, 0, 0] ![1, 280, 256] inb, w⟩ :: L) (ix3 (⟨p, hp⟩ : Fin 8) b a) = w (ix3 (0 : Fin 1) b a) := by
  have e : (ix3 (⟨p, hp⟩ : Fin 8) b a : S8x280x256.Idx) = (Rect.unit (s := S8x280x256) ![p, 0, 0] ![1, 280, 256] inb).emb (ix3 (0 : Fin 1) b a) := by
    funext x; refine Fin.ext ?_; fin_cases x
    · show p = p + 1 * 0; omega
    · show b.val = 0 + 1 * b.val; omega
    · show a.val = 0 + 1 * a.val; omega
  rw [e]; exact View.canon_cons_emb (Rect.unit (s := S8x280x256) ![p, 0, 0] ![1, 280, 256] inb) w L _

theorem skip11 (j p : ℕ) (hp : p < 8) (h : j ≠ p) (inb) (w : Vec Ideal S1x280x256 .f32) (L : List (View.Piece (Elt Ideal) S8x280x256 .f32)) (b : Fin 280) (a : Fin 256) :
    View.canon (⟨Rect.unit (s := S8x280x256) ![j, 0, 0] ![1, 280, 256] inb, w⟩ :: L) (ix3 (⟨p, hp⟩ : Fin 8) b a) = View.canon L (ix3 (⟨p, hp⟩ : Fin 8) b a) := by
  refine View.canon_cons_of_not_mem _ L ?_
  intro hm
  obtain ⟨x, hx⟩ := LoadRect.exists_idx_of_mem _ hm
  have h0 := congrArg (fun i : S8x280x256.Idx => (i 0).val) hx
  have h1 : j + 1 * (x 0).val = p := h0
  have h2 : (x 0).val < 1 := (x 0).isLt
  omega

theorem load10 (v : View sig .tc .vmem S288x256 .f32) (n b : ℕ) (hb : b + n ≤ 288) (inb) (L : List (View.Piece (Elt Ideal) S288x256 .f32)) (r : Fin n) (a : Fin 256) :
    v.readCov L (Rect.unit (s := S288x256) ![b, 0] ![n, 256] inb).toLoadRect (ix2 r a) = View.canon L (ix2 (⟨b + r.val, by omega⟩ : Fin 288) a) := by
  rw [View.readCov_eq_canon']
  refine congrArg (View.canon L) ?_
  funext x; refine Fin.ext ?_; fin_cases x
  · show b + 1 * r.val = b + r.val; omega
  · show 0 + 1 * a.val = a.val; omega

theorem cast64 (w : Vec Ideal S1x64x256 .f32) (r : Fin 64) (a : Fin 256) : (shapeCast S64x256 w shapeCasts_S1x64x256_S64x256 : FVec Ideal S64x256 .f32) (ix2 r a) = w (ix3 (0 : Fin 1) r a) := by
  pointwise

theorem cast280 (w : Vec Ideal S280x256 .f32) (r : Fin 280) (a : Fin 256) : (shapeCast S1x280x256 w shapeCasts_S280x256_S1x280x256 : FVec Ideal S1x280x256 .f32) (ix3 (0 : Fin 1) r a) = w (ix2 r a) := by
  pointwise

/-- The rows with their halo: sixteen rows before the tile and sixteen after it, zero outside the array. -/
def ext (i : grid0.Coords) (x0 : Vec Ideal S16x256 .f32) (x1 : Vec Ideal S256x256 .f32) (x2 : Vec Ideal S16x256 .f32) : Vec Ideal S288x256 .f32 :=
  View.canon [⟨Rect.unit (s := S288x256) ![272, 0] S16x256.size inb_S288x256_S16x256_272_0, k0_pay7 i x2⟩, ⟨Rect.unit (s := S288x256) ![16, 0] S256x256.size inb_S288x256_S256x256_16_0, k0_pay6 x1⟩, ⟨Rect.unit (s := S288x256) ![0, 0] S16x256.size inb_S288x256_S16x256_0_0, k0_pay5 i x0⟩]

/-- A row of it by its number. -/
def E (i : grid0.Coords) (x0 : Vec Ideal S16x256 .f32) (x1 : Vec Ideal S256x256 .f32) (x2 : Vec Ideal S16x256 .f32) (e : ℕ) (a : Fin 256) : EReal :=
  if h : e < 288 then ext i x0 x1 x2 (ix2 (⟨e, h⟩ : Fin 288) a) else 0

theorem foldE (i : grid0.Coords) (x0 : Vec Ideal S16x256 .f32) (x1 : Vec Ideal S256x256 .f32) (x2 : Vec Ideal S16x256 .f32) (e : ℕ) (h : e < 288) (a : Fin 256) :
    (View.canon (Val := Elt Ideal) (e := .f32) [⟨Rect.unit (s := S288x256) ![272, 0] ![16, 256] inb_S288x256_S16x256_272_0, k0_pay7 i x2⟩, ⟨Rect.unit (s := S288x256) ![16, 0] ![256, 256] inb_S288x256_S256x256_16_0, k0_pay6 x1⟩, ⟨Rect.unit (s := S288x256) ![0, 0] ![16, 256] inb_S288x256_S16x256_0_0, k0_pay5 i x0⟩] (ix2 (⟨e, h⟩ : Fin 288) a) : EReal) = E i x0 x1 x2 e a := by
  unfold E; rw [dif_pos h]; rfl

theorem ld_u (v : View sig .tc .vmem S256x256 .f32) (f) (b : ℕ) (hb : b ≤ 192) (inb) (r : Fin 64) (a : Fin 256) :
    v.readAt (Elt Ideal) (Rect.unit (s := S256x256) ![b, 0] ![64, 256] inb).toLoadRect f (ix2 r a) = v.read (Elt Ideal) f (ix2 (⟨b + r.val, by omega⟩ : Fin 256) a) :=
  read2 (v.read (Elt Ideal) f) _ _ (by show b + 1 * r.val = b + r.val; omega) (by show 0 + 1 * a.val = a.val; omega)

theorem ld_s (v : View sig .tc .vmem S32x8x256 .f32) (f) (k : ℕ) (hk : k < 32) (inb) (s : Fin 8) (a : Fin 256) :
    v.readAt (Elt Ideal) (Rect.unit (s := S32x8x256) ![k, 0, 0] ![1, 8, 256] inb).toLoadRect f (ix3 (0 : Fin 1) s a) = v.read (Elt Ideal) f (ix3 (⟨k, hk⟩ : Fin 32) s a) :=
  read3 (v.read (Elt Ideal) f) _ _ (by show k + 1 * 0 = k; omega) (by show 0 + 1 * s.val = s.val; omega) (by show 0 + 1 * a.val = a.val; omega)

theorem ld_w (v : View sig .tc .vmem S32x256 .f32) (f) (k : ℕ) (hk : k < 32) (inb) (a : Fin 256) :
    v.readAt (Elt Ideal) (Rect.unit (s := S32x256) ![k, 0] ![1, 256] inb).toLoadRect f (ix2 (0 : Fin 1) a) = v.read (Elt Ideal) f (ix2 (⟨k, hk⟩ : Fin 32) a) :=
  read2 (v.read (Elt Ideal) f) _ _ (by show k + 1 * 0 = k; omega) (by show 0 + 1 * a.val = a.val; omega)

/-- A load of one row from an array of zeros. -/
theorem zeros (k : Fin 32) (s : Fin 8) (a : Fin 256) (inb) : View.canon (Val := Elt Ideal) (e := .f32) [⟨Rect.unit (s := S32x8x256) ![0, 0, 0] ![32, 8, 256] inb, k0_pay15 (F := Ideal)⟩] (ix3 k s a) = (0 : EReal) := by
  refine (congrFun (View.canon_cons_unit_zero (Val := Elt Ideal) (e := .f32) (S := S32x8x256) hz3 inb (k0_pay15 (F := Ideal)) []) _).trans ?_; exact e_zeros s a k

theorem hitU (b : ℕ) (hb : b ≤ 192) (inb) (w : Vec Ideal S64x256 .f32) (L : List (View.Piece (Elt Ideal) S256x256 .f32)) (r : Fin 64) (a : Fin 256) :
    View.canon (⟨Rect.unit (s := S256x256) ![b, 0] ![64, 256] inb, w⟩ :: L) (ix2 (⟨b + r.val, by omega⟩ : Fin 256) a) = w (ix2 r a) := by
  have e : (ix2 (⟨b + r.val, by omega⟩ : Fin 256) a : S256x256.Idx) = (Rect.unit (s := S256x256) ![b, 0] ![64, 256] inb).emb (ix2 r a) := by
    funext x; refine Fin.ext ?_; fin_cases x
    · show b + r.val = b + 1 * r.val; omega
    · show a.val = 0 + 1 * a.val; omega
  rw [e]; exact View.canon_cons_emb (Rect.unit (s := S256x256) ![b, 0] ![64, 256] inb) w L _

theorem skipU (d b : ℕ) (hb : b ≤ 192) (h : d + 64 ≤ b ∨ b + 64 ≤ d) (inb) (w : Vec Ideal S64x256 .f32) (L : List (View.Piece (Elt Ideal) S256x256 .f32)) (r : Fin 64) (a : Fin 256) :
    View.canon (⟨Rect.unit (s := S256x256) ![d, 0] ![64, 256] inb, w⟩ :: L) (ix2 (⟨b + r.val, by omega⟩ : Fin 256) a) = View.canon L (ix2 (⟨b + r.val, by omega⟩ : Fin 256) a) := by
  refine View.canon_cons_of_not_mem (⟨Rect.unit (s := S256x256) ![d, 0] ![64, 256] inb, w⟩ : View.Piece (Elt Ideal) S256x256 .f32) _ fun hm => ?_
  obtain ⟨x, hx⟩ := LoadRect.exists_idx_of_mem _ hm
  have h1 : d + 1 * (x 0).val = b + r.val := congrArg (fun y : S256x256.Idx => (y 0).val) hx
  have h2 : (x 0).val < 64 := (x 0).isLt
  omega

/-- Row `n` of a block of 256 rows. -/
def U (x : Vec Ideal S256x256 .f32) (n : ℕ) (a : Fin 256) : EReal := if h : n < 256 then x (ix2 ⟨n, h⟩ a) else 0

theorem foldU (x : Vec Ideal S256x256 .f32) (n : ℕ) (h : n < 256) (a : Fin 256) : (x (ix2 (⟨n, h⟩ : Fin 256) a) : EReal) = U x n a := by
  unfold U; rw [dif_pos h]

/-- Row `k` of the weights. -/
def W (x : Vec Ideal S32x256 .f32) (k : ℕ) (a : Fin 256) : EReal := if h : k < 32 then x (ix2 ⟨k, h⟩ a) else 0

theorem foldW (x : Vec Ideal S32x256 .f32) (k : ℕ) (h : k < 32) (a : Fin 256) : (x (ix2 (⟨k, h⟩ : Fin 32) a) : EReal) = W x k a := by
  unfold W; rw [dif_pos h]

/-- The products of one tap over 64 rows from `b`, every eighth row from row `s`. -/
def T (i : grid0.Coords) (x0 : Vec Ideal S16x256 .f32) (x1 : Vec Ideal S256x256 .f32) (x2 : Vec Ideal S16x256 .f32) (x3 : Vec Ideal S256x256 .f32) (e b : ℕ) (s : Fin 8) (a : Fin 256) : EReal :=
  ∑ j : Fin 8, E i x0 x1 x2 (e + b + (j.val * 8 + s.val)) a * U x3 (b + (j.val * 8 + s.val)) a

/-- The accumulator's eight rows of a tap added. -/
theorem pay3_at (v : Vec Ideal S32x8x256 .f32) (k : Fin 32) (a : Fin 256) : (k0_pay3 v (ix2 k a) : EReal) = if k.val < 31 then ∑ s : Fin 8, (v (ix3 k s a) : EReal) else 0 := by
  have h : ∀ k : Fin 32, IntOp.cmpi .slt (BitVec.ofNat 32 k.val) 31#32 = if k.val < 31 then 1#1 else 0#1 := by decide +kernel
  unfold k0_pay3 k0_pay2
  pointwise
  rw [h]
  split_ifs <;> rfl

theorem pay4_at (v : Vec Ideal S32x8x256 .f32) (a : Fin 256) : (k0_pay4 v (ix2 (0 : Fin 1) a) : EReal) = ∑ s : Fin 8, (v (ix3 (31 : Fin 32) s a) : EReal) := by
  have h : ∀ k : Fin 32, IntOp.cmpi .eq (BitVec.ofNat 32 k.val) 31#32 = if k = 31 then 1#1 else 0#1 := by decide +kernel
  unfold k0_pay4 k0_pay2
  pointwise
  refine (Finset.sum_eq_single (31 : Fin 32) (fun k _ hk => ?_) (fun hk => absurd (Finset.mem_univ _) hk)).trans ?_
  · rw [h, if_neg hk]; rfl
  · rw [h, if_pos rfl]; rfl

theorem pay5_at (i : grid0.Coords) (x : Vec Ideal S16x256 .f32) (r : Fin 16) (a : Fin 256) : (k0_pay5 i x (ix2 r a) : EReal) = if (i 1).val = 0 then 0 else (x (ix2 r a) : EReal) := by
  have h : ∀ n : Fin 32, Scalar.cmpi .sgt (BitVec.ofNat 32 n.val) 0#32 = if n.val = 0 then 0#1 else 1#1 := by decide +kernel
  unfold k0_pay5
  pointwise
  rw [h (i 1)]
  split_ifs <;> rfl

theorem pay7_at (i : grid0.Coords) (x : Vec Ideal S16x256 .f32) (r : Fin 16) (a : Fin 256) : (k0_pay7 i x (ix2 r a) : EReal) = if (i 1).val < 31 then (x (ix2 r a) : EReal) else 0 := by
  have h : ∀ n : Fin 32, Scalar.cmpi .slt (BitVec.ofNat 32 n.val) 31#32 = if n.val < 31 then 1#1 else 0#1 := by decide +kernel
  unfold k0_pay7
  pointwise
  rw [h (i 1)]
  split_ifs <;> rfl

theorem pay6_at (x : Vec Ideal S256x256 .f32) (r : Fin 256) (a : Fin 256) : (k0_pay6 x (ix2 r a) : EReal) = x (ix2 r a) := by
  unfold k0_pay6
  pointwise

/-- A store of whole rows read at one of them. -/
theorem row_hit {n : ℕ} (b : ℕ) (inb : ∀ a, (![b, 0] : Fin 2 → ℕ) a + (![n, 256] : Fin 2 → ℕ) a ≤ S288x256.size a) (w : (⟨2, ![n, 256]⟩ : Shape).Idx → Elt Ideal .f32) (L : List (View.Piece (Elt Ideal) S288x256 .f32)) (r : Fin n) (h : b + r.val < 288) (a : Fin 256) :
    View.canon (⟨Rect.unit (s := S288x256) ![b, 0] ![n, 256] inb, w⟩ :: L) (ix2 (⟨b + r.val, h⟩ : Fin 288) a) = w (ix2 r a) := by
  have e : (ix2 (⟨b + r.val, h⟩ : Fin 288) a : S288x256.Idx) = (Rect.unit (s := S288x256) ![b, 0] ![n, 256] inb).emb (ix2 r a) := by
    funext x; refine Fin.ext ?_; fin_cases x
    · show b + r.val = b + 1 * r.val; omega
    · show a.val = 0 + 1 * a.val; omega
  rw [e]; exact View.canon_cons_emb (Rect.unit (s := S288x256) ![b, 0] ![n, 256] inb) w L _

theorem row_skip {n : ℕ} (b : ℕ) (inb : ∀ a, (![b, 0] : Fin 2 → ℕ) a + (![n, 256] : Fin 2 → ℕ) a ≤ S288x256.size a) (w : (⟨2, ![n, 256]⟩ : Shape).Idx → Elt Ideal .f32) (L : List (View.Piece (Elt Ideal) S288x256 .f32)) (e : Fin 288) (h : e.val < b) (a : Fin 256) :
    View.canon (⟨Rect.unit (s := S288x256) ![b, 0] ![n, 256] inb, w⟩ :: L) (ix2 e a) = View.canon L (ix2 e a) := by
  refine View.canon_cons_of_not_mem _ L fun hm => ?_
  obtain ⟨x, hx⟩ := LoadRect.exists_idx_of_mem _ hm
  have h1 : b + 1 * (x 0).val = e.val := congrArg (fun y : S288x256.Idx => (y 0).val) hx
  omega

/-- The block with its neighbours' rows, zero outside the array, read off one column `g` of the array under sixteen zeros. -/
theorem E_at (i : grid0.Coords) (x0 : Vec Ideal S16x256 .f32) (x1 : Vec Ideal S256x256 .f32) (x2 : Vec Ideal S16x256 .f32) (a : Fin 256) (g : ℕ → EReal) (n : ℕ) (hn : (i 1).val = n)
    (h0 : n ≠ 0 → ∀ r : Fin 16, (x0 (ix2 r a) : EReal) = g (256 * n + r.val)) (h0' : ∀ r < 16, g r = 0)
    (h1 : ∀ r : Fin 256, (x1 (ix2 r a) : EReal) = g (256 * n + (16 + r.val)))
    (h2 : n < 31 → ∀ r : Fin 16, (x2 (ix2 r a) : EReal) = g (256 * n + (272 + r.val))) (h2' : 31 ≤ n → ∀ r < 16, g (256 * n + (272 + r)) = 0)
    (e : ℕ) (he : e < 288) : E i x0 x1 x2 e a = g (256 * n + e) := by
  subst hn
  unfold E ext
  rw [dif_pos he]
  by_cases c1 : e < 272
  · refine (row_skip (n := 16) 272 _ _ _ ⟨e, he⟩ c1 a).trans ?_
    by_cases c0 : e < 16
    · refine (row_skip (n := 256) 16 _ _ _ ⟨e, he⟩ c0 a).trans ?_
      obtain ⟨r, rfl⟩ : ∃ r : Fin 16, e = 0 + r.val := ⟨⟨e, c0⟩, (Nat.zero_add _).symm⟩
      refine (row_hit (n := 16) 0 _ _ _ r he a).trans ((pay5_at _ _ _ _).trans ?_)
      by_cases hi : (i 1).val = 0
      · rw [if_pos hi, hi]
        exact (h0' _ (by omega)).symm
      · rw [if_neg hi, h0 hi, Nat.zero_add]
    · obtain ⟨r, rfl⟩ : ∃ r : Fin 256, e = 16 + r.val := ⟨⟨e - 16, by omega⟩, by show e = 16 + (e - 16); omega⟩
      exact (row_hit (n := 256) 16 _ _ _ r he a).trans ((pay6_at _ _ _).trans (h1 r))
  · obtain ⟨r, rfl⟩ : ∃ r : Fin 16, e = 272 + r.val := ⟨⟨e - 272, by omega⟩, by show e = 272 + (e - 272); omega⟩
    refine (row_hit (n := 16) 272 _ _ _ r he a).trans ((pay7_at _ _ _ _).trans ?_)
    by_cases hi : (i 1).val < 31
    · rw [if_pos hi, h2 hi]
    · rw [if_neg hi]
      exact (h2' (by omega) _ r.isLt).symm

section Points

variable {c : Dev nD} {i : grid0.Coords} {arg2 : Memref sig .tc .vmem S16x256 .f32} {hw2 : arg2.IsWhole} {arg3 : Memref sig .tc .vmem S256x256 .f32} {hw3 : arg3.IsWhole} {arg4 : Memref sig .tc .vmem S16x256 .f32} {hw4 : arg4.IsWhole} {arg5 : Memref sig .tc .vmem S256x256 .f32} {hw5 : arg5.IsWhole} {arg6 : Memref sig .tc .vmem S32x256 .f32} {hw6 : arg6.IsWhole} {arg7 : Memref sig .tc .vmem S256x256 .f32} {hw7 : arg7.IsWhole} {arg8 : Memref sig .tc .vmem S32x256 .f32} {hw8 : arg8.IsWhole} {arg9 : Memref sig .tc .vmem S1x256 .f32} {hw9 : arg9.IsWhole} {arg10 : Memref sig .tc .vmem S288x256 .f32} {hw10 : arg10.IsWhole} {arg11 : Memref sig .tc .vmem S8x280x256 .f32} {hw11 : arg11.IsWhole} {arg12 : Memref sig .tc .vmem S32x8x256 .f32} {hw12 : arg12.IsWhole}
variable (x0 : Vec Ideal S16x256 .f32) (x1 : Vec Ideal S256x256 .f32) (x2 : Vec Ideal S16x256 .f32) (x3 : Vec Ideal S256x256 .f32) (x4 : Vec Ideal S32x256 .f32) (xs2 : Vec Ideal S32x8x256 .f32)

set_option maxHeartbeats 12000000 in
/-- What a block leaves in the accumulator (rows of taps, the row of the offset) and in its block of `du`: the first block of a column, a block inside it, the last. -/
theorem points :
    (∀ (hc0 : cond0_0 i) (hc1 : ¬cond0_1 i),
    (∀ k : ℕ, ∀ hk : k < 31, ∀ (s : Fin 8) (a : Fin 256), (sout0_A_2 c i _ hw2 _ hw3 _ hw4 _ hw5 _ hw6 _ hw7 _ hw8 _ hw9 _ hw10 _ hw11 _ hw12 hc0 hc1 x0 x1 x2 x3 x4 (ix3 (⟨k, by omega⟩ : Fin 32) s a) : EReal) = @HAdd.hAdd EReal EReal EReal _ (@HAdd.hAdd EReal EReal EReal _ (@HAdd.hAdd EReal EReal EReal _ (@HAdd.hAdd EReal EReal EReal _ (0) (T i x0 x1 x2 x3 (31 - k) 0 s a)) (T i x0 x1 x2 x3 (31 - k) 64 s a)) (T i x0 x1 x2 x3 (31 - k) 128 s a)) (T i x0 x1 x2 x3 (31 - k) 192 s a)) ∧
    (∀ (s : Fin 8) (a : Fin 256), (sout0_A_2 c i _ hw2 _ hw3 _ hw4 _ hw5 _ hw6 _ hw7 _ hw8 _ hw9 _ hw10 _ hw11 _ hw12 hc0 hc1 x0 x1 x2 x3 x4 (ix3 (⟨31, by omega⟩ : Fin 32) s a) : EReal) = @HAdd.hAdd EReal EReal EReal _ (0) (∑ j : Fin 32, U x1 (j.val * 8 + s.val) a)) ∧
    (∀ q : ℕ, ∀ hq : q < 4, ∀ (r : Fin 64) (a : Fin 256), (out0_A_5 c i _ hw2 _ hw3 _ hw4 _ hw5 _ hw6 _ hw7 _ hw8 _ hw9 _ hw10 _ hw11 _ hw12 hc0 hc1 x0 x1 x2 x3 x4 (ix2 (⟨64 * q + r.val, by omega⟩ : Fin 256) a) : EReal) = ∑ k ∈ Finset.range 31, @HMul.hMul EReal EReal EReal _ (W x4 k a) (E i x0 x1 x2 (31 - k + 64 * q + r.val) a))) ∧
    (∀ (hc0 : ¬cond0_0 i) (hc1 : ¬cond0_1 i),
    (∀ k : ℕ, ∀ hk : k < 31, ∀ (s : Fin 8) (a : Fin 256), (sout0_B_2 c i _ hw2 _ hw3 _ hw4 _ hw5 _ hw6 _ hw7 _ hw8 _ hw9 _ hw10 _ hw11 _ hw12 hc0 hc1 x0 x1 x2 x3 x4 xs2 (ix3 (⟨k, by omega⟩ : Fin 32) s a) : EReal) = @HAdd.hAdd EReal EReal EReal _ (@HAdd.hAdd EReal EReal EReal _ (@HAdd.hAdd EReal EReal EReal _ (@HAdd.hAdd EReal EReal EReal _ (xs2 (ix3 (⟨k, by omega⟩ : Fin 32) s a)) (T i x0 x1 x2 x3 (31 - k) 0 s a)) (T i x0 x1 x2 x3 (31 - k) 64 s a)) (T i x0 x1 x2 x3 (31 - k) 128 s a)) (T i x0 x1 x2 x3 (31 - k) 192 s a)) ∧
    (∀ (s : Fin 8) (a : Fin 256), (sout0_B_2 c i _ hw2 _ hw3 _ hw4 _ hw5 _ hw6 _ hw7 _ hw8 _ hw9 _ hw10 _ hw11 _ hw12 hc0 hc1 x0 x1 x2 x3 x4 xs2 (ix3 (⟨31, by omega⟩ : Fin 32) s a) : EReal) = @HAdd.hAdd EReal EReal EReal _ (xs2 (ix3 (⟨31, by omega⟩ : Fin 32) s a)) (∑ j : Fin 32, U x1 (j.val * 8 + s.val) a)) ∧
    (∀ q : ℕ, ∀ hq : q < 4, ∀ (r : Fin 64) (a : Fin 256), (out0_B_5 c i _ hw2 _ hw3 _ hw4 _ hw5 _ hw6 _ hw7 _ hw8 _ hw9 _ hw10 _ hw11 _ hw12 hc0 hc1 x0 x1 x2 x3 x4 xs2 (ix2 (⟨64 * q + r.val, by omega⟩ : Fin 256) a) : EReal) = ∑ k ∈ Finset.range 31, @HMul.hMul EReal EReal EReal _ (W x4 k a) (E i x0 x1 x2 (31 - k + 64 * q + r.val) a))) ∧
    (∀ (hc0 : ¬cond0_0 i) (hc1 : cond0_1 i),
    (∀ k : ℕ, ∀ hk : k < 31, ∀ (s : Fin 8) (a : Fin 256), (sout0_C_2 c i _ hw2 _ hw3 _ hw4 _ hw5 _ hw6 _ hw7 _ hw8 _ hw9 _ hw10 _ hw11 _ hw12 hc0 hc1 x0 x1 x2 x3 x4 xs2 (ix3 (⟨k, by omega⟩ : Fin 32) s a) : EReal) = @HAdd.hAdd EReal EReal EReal _ (@HAdd.hAdd EReal EReal EReal _ (@HAdd.hAdd EReal EReal EReal _ (@HAdd.hAdd EReal EReal EReal _ (xs2 (ix3 (⟨k, by omega⟩ : Fin 32) s a)) (T i x0 x1 x2 x3 (31 - k) 0 s a)) (T i x0 x1 x2 x3 (31 - k) 64 s a)) (T i x0 x1 x2 x3 (31 - k) 128 s a)) (T i x0 x1 x2 x3 (31 - k) 192 s a)) ∧
    (∀ (s : Fin 8) (a : Fin 256), (sout0_C_2 c i _ hw2 _ hw3 _ hw4 _ hw5 _ hw6 _ hw7 _ hw8 _ hw9 _ hw10 _ hw11 _ hw12 hc0 hc1 x0 x1 x2 x3 x4 xs2 (ix3 (⟨31, by omega⟩ : Fin 32) s a) : EReal) = @HAdd.hAdd EReal EReal EReal _ (xs2 (ix3 (⟨31, by omega⟩ : Fin 32) s a)) (∑ j : Fin 32, U x1 (j.val * 8 + s.val) a)) ∧
    (∀ q : ℕ, ∀ hq : q < 4, ∀ (r : Fin 64) (a : Fin 256), (out0_C_5 c i _ hw2 _ hw3 _ hw4 _ hw5 _ hw6 _ hw7 _ hw8 _ hw9 _ hw10 _ hw11 _ hw12 hc0 hc1 x0 x1 x2 x3 x4 xs2 (ix2 (⟨64 * q + r.val, by omega⟩ : Fin 256) a) : EReal) = ∑ k ∈ Finset.range 31, @HMul.hMul EReal EReal EReal _ (W x4 k a) (E i x0 x1 x2 (31 - k + 64 * q + r.val) a))) := by
  refine ⟨fun hc0 hc1 => ?_, fun hc0 hc1 => ?_, fun hc0 hc1 => ?_⟩ <;> [unfold sout0_A_2 out0_A_5; unfold sout0_B_2 out0_B_5; unfold sout0_C_2 out0_C_5] <;>
  rw [View.read_writes_junk_eq_canon, View.read_writes_junk_eq_canon] <;> [unfold kernelRun0_A; unfold kernelRun0_B; unfold kernelRun0_C] <;>
  dsimp only <;> sl_unfold_words <;>
  (refine ⟨fun k hk s a => ?_, fun s a => ?_, fun q hq r a => ?_⟩ <;> [interval_cases k; skip; (interval_cases q <;> simp only [Nat.reduceMul])])
  all_goals
    simp (disch := decide) only [↓hit, ↓skip, ↓zeros, ↓hitU, ↓skipU, ne_eq, Nat.reduceEqDiff, not_false_eq_true, ↓e_row, ↓e_unrow, ↓e_add, ↓e_mul, ↓e_tap, ↓e_zero, ↓fold8, ↓fold32, ↓e_sum, ↓e_sum32, ↓e_split, ↓e_split32, ↓load, ↓load11, ↓hit11, ↓skip11, ↓load10 _ 64, ↓load10 _ 280, ↓cast64, ↓cast280, ↓ld_u, ↓ld_s, ↓ld_w, ↓k0_pay1, ↓k0_pay8, ↓k0_pay9, ↓k0_pay10, ↓k0_pay11, ↓k0_pay12, ↓k0_pay13, ↓k0_pay14, ↓k0_pay16, ↓k0_pay17, ↓k0_pay18, ↓k0_pay19, ↓k0_pay20, ↓k0_pay21, ↓k0_pay22, ↓k0_pay23, ↓k0_pay24, ↓k0_pay25, ↓k0_pay26, ↓k0_pay27, ↓k0_pay28, ↓k0_pay29, ↓k0_pay30, ↓k0_pay31, ↓k0_pay32, ↓k0_pay33, ↓k0_pay34, ↓k0_pay35, ↓k0_pay36, ↓k0_pay37, ↓k0_pay38, ↓k0_pay39, ↓k0_pay40, ↓k0_pay41, ↓k0_pay42, ↓k0_pay43, ↓k0_pay44, ↓k0_pay45, ↓k0_pay46, ↓k0_pay47, ↓k0_pay48, ↓k0_pay49, ↓k0_pay50, ↓k0_pay51, ↓k0_pay52, ↓k0_pay53, ↓k0_pay54, ↓k0_pay55, ↓k0_pay56, ↓k0_pay57, ↓k0_pay58, ↓k0_pay59, ↓k0_pay60, ↓k0_pay61, ↓k0_pay62, ↓k0_pay63, ↓k0_pay64, ↓k0_pay65, ↓k0_pay66, ↓k0_pay67, ↓k0_pay68, ↓k0_pay69, ↓k0_pay70, ↓k0_pay71, ↓k0_pay72, ↓k0_pay73, ↓k0_pay74, ↓k0_pay75, ↓k0_pay76, ↓k0_pay77, ↓k0_pay78, ↓k0_pay79, ↓k0_pay80, ↓k0_pay81, ↓k0_pay82, ↓k0_pay83, ↓k0_pay84, ↓k0_pay85, ↓k0_pay86, ↓k0_pay87, ↓k0_pay88, ↓k0_pay89, ↓k0_pay90, ↓k0_pay91, ↓k0_pay92, ↓k0_pay93, ↓k0_pay94, ↓k0_pay95, ↓k0_pay96, ↓k0_pay97, ↓k0_pay98, ↓k0_pay99, ↓k0_pay100, ↓k0_pay101, ↓k0_pay102, ↓k0_pay103, ↓k0_pay104, ↓k0_pay105, ↓k0_pay106, ↓k0_pay107, ↓k0_pay108, ↓k0_pay109, ↓k0_pay110, ↓k0_pay111, ↓k0_pay112, ↓k0_pay113, ↓k0_pay114, ↓k0_pay115, ↓k0_pay116, ↓k0_pay117, ↓k0_pay118, ↓k0_pay119, ↓k0_pay120, ↓k0_pay121, ↓k0_pay122, ↓k0_pay123, ↓k0_pay124, ↓k0_pay125, ↓k0_pay126, ↓k0_pay127, ↓k0_pay128, ↓k0_pay129, ↓k0_pay130, ↓k0_pay131, ↓k0_pay132, ↓k0_pay133, ↓k0_pay134, ↓k0_pay135, ↓k0_pay136, ↓k0_pay137, ↓k0_pay138, ↓k0_pay139, ↓k0_pay140, ↓k0_pay141, ↓k0_pay142, ↓k0_pay143, ↓k0_pay144, ↓k0_pay145, ↓k0_pay146, ↓k0_pay147, ↓k0_pay148, ↓k0_pay149, ↓k0_pay150, ↓k0_pay151, ↓k0_pay152, ↓k0_pay153, ↓k0_pay154, ↓k0_pay155, ↓k0_pay156, ↓k0_pay157, ↓k0_pay158, ↓k0_pay159, ↓k0_pay160, ↓k0_pay161, ↓k0_pay162, ↓k0_pay163, ↓k0_pay164, ↓k0_pay165, ↓k0_pay166, ↓k0_pay167, ↓k0_pay168, ↓k0_pay169, ↓k0_pay170, ↓k0_pay171, ↓k0_pay172, ↓k0_pay173, ↓k0_pay174, ↓k0_pay175, ↓k0_pay176, ↓k0_pay177, ↓k0_pay178, ↓k0_pay179, ↓k0_pay180, ↓k0_pay181, ↓k0_pay182, ↓k0_pay183, ↓k0_pay184, ↓k0_pay185, ↓k0_pay186, ↓k0_pay187, ↓k0_pay188, ↓k0_pay189, ↓k0_pay190, ↓k0_pay191, ↓k0_pay192, ↓k0_pay193, ↓k0_pay194, ↓k0_pay195, ↓k0_pay196, ↓k0_pay197, ↓k0_pay198, ↓k0_pay199, ↓k0_pay200, ↓k0_pay201, ↓k0_pay202, ↓k0_pay203, ↓k0_pay204, ↓k0_pay205, ↓k0_pay206, ↓k0_pay207, ↓k0_pay208, ↓k0_pay209, ↓k0_pay210, ↓k0_pay211, ↓k0_pay212, ↓k0_pay213, ↓k0_pay214, ↓k0_pay215, ↓k0_pay216, ↓k0_pay217, ↓k0_pay218, ↓k0_pay219, ↓k0_pay220, ↓k0_pay221, ↓k0_pay222, ↓k0_pay223, ↓k0_pay224, ↓k0_pay225, ↓k0_pay226, ↓k0_pay227, ↓k0_pay228, ↓k0_pay229, ↓k0_pay230, ↓k0_pay231, ↓k0_pay232, ↓k0_pay233, ↓k0_pay234, ↓k0_pay235, ↓k0_pay236, ↓k0_pay237, ↓k0_pay238, ↓k0_pay239, ↓k0_pay240, ↓k0_pay241, ↓k0_pay242, ↓k0_pay243, ↓k0_pay244, ↓k0_pay245, ↓k0_pay246, ↓k0_pay247, ↓k0_pay248, ↓k0_pay249, ↓k0_pay250, ↓k0_pay251, ↓k0_pay252, ↓k0_pay253, ↓k0_pay254, ↓k0_pay255, ↓k0_pay256, ↓k0_pay257, ↓k0_pay258, ↓k0_pay259, ↓k0_pay260, ↓k0_pay261, ↓k0_pay262, ↓k0_pay263, ↓k0_pay264, ↓k0_pay265, ↓k0_pay266, ↓k0_pay267, ↓k0_pay268, ↓k0_pay269, ↓k0_pay270, ↓k0_pay271, ↓k0_pay272, ↓k0_pay273, ↓k0_pay274, ↓k0_pay275, ↓k0_pay276, ↓k0_pay277, ↓k0_pay278, ↓k0_pay279, ↓k0_pay280, ↓k0_pay281, ↓k0_pay282, ↓k0_pay283, ↓k0_pay284, ↓k0_pay285, ↓k0_pay286, ↓k0_pay287, ↓k0_pay288, ↓k0_pay289, ↓k0_pay290, ↓k0_pay291, ↓k0_pay292, ↓k0_pay293, ↓k0_pay294, ↓k0_pay295, ↓k0_pay296, ↓k0_pay297, ↓k0_pay298, ↓k0_pay299, ↓k0_pay300, ↓k0_pay301, ↓k0_pay302, ↓k0_pay303, ↓k0_pay304, ↓k0_pay305, ↓k0_pay306, ↓k0_pay307, ↓k0_pay308, ↓k0_pay309, ↓k0_pay310, ↓k0_pay311, ↓k0_pay312, ↓k0_pay313, ↓k0_pay314, ↓k0_pay315, ↓k0_pay316, ↓k0_pay317, ↓k0_pay318, ↓k0_pay319, ↓k0_pay320, ↓k0_pay321, ↓k0_pay322, ↓k0_pay323, ↓k0_pay324, ↓k0_pay325, ↓k0_pay326, ↓k0_pay327, ↓k0_pay328, ↓k0_pay329, ↓k0_pay330, ↓k0_pay331, ↓k0_pay332, ↓k0_pay333, ↓k0_pay334, ↓k0_pay335, ↓k0_pay336, ↓k0_pay337, ↓k0_pay338, ↓k0_pay339, ↓k0_pay340, ↓k0_pay341, ↓k0_pay342, ↓k0_pay343]
    simp (disch := assumption) only [View.readAt_eq_ld, Memref.IsWhole.read_unread, ld0 S16x256, ld0 S256x256, foldE, foldU, foldW, T, Nat.reduceSub, ← Nat.add_assoc, Nat.reduceAdd, Nat.zero_add, zero_add, Finset.sum_range_succ, Finset.sum_range_zero]

end Points

section Last

variable {c : Dev nD} {i : grid0.Coords} {arg2 : Memref sig .tc .vmem S16x256 .f32} {hw2 : arg2.IsWhole} {arg3 : Memref sig .tc .vmem S256x256 .f32} {hw3 : arg3.IsWhole} {arg4 : Memref sig .tc .vmem S16x256 .f32} {hw4 : arg4.IsWhole} {arg5 : Memref sig .tc .vmem S256x256 .f32} {hw5 : arg5.IsWhole} {arg6 : Memref sig .tc .vmem S32x256 .f32} {hw6 : arg6.IsWhole} {arg7 : Memref sig .tc .vmem S256x256 .f32} {hw7 : arg7.IsWhole} {arg8 : Memref sig .tc .vmem S32x256 .f32} {hw8 : arg8.IsWhole} {arg9 : Memref sig .tc .vmem S1x256 .f32} {hw9 : arg9.IsWhole} {arg10 : Memref sig .tc .vmem S288x256 .f32} {hw10 : arg10.IsWhole} {arg11 : Memref sig .tc .vmem S8x280x256 .f32} {hw11 : arg11.IsWhole} {arg12 : Memref sig .tc .vmem S32x8x256 .f32} {hw12 : arg12.IsWhole}
variable (x0 : Vec Ideal S16x256 .f32) (x1 : Vec Ideal S256x256 .f32) (x2 : Vec Ideal S16x256 .f32) (x3 : Vec Ideal S256x256 .f32) (x4 : Vec Ideal S32x256 .f32) (xs2 : Vec Ideal S32x8x256 .f32)

theorem weights (hc0 : ¬cond0_0 i) (hc1 : cond0_1 i) : out0_C_6 c i _ hw2 _ hw3 _ hw4 _ hw5 _ hw6 _ hw7 _ hw8 _ hw9 _ hw10 _ hw11 _ hw12 hc0 hc1 x0 x1 x2 x3 x4 xs2 = k0_pay3 (sout0_C_2 c i _ hw2 _ hw3 _ hw4 _ hw5 _ hw6 _ hw7 _ hw8 _ hw9 _ hw10 _ hw11 _ hw12 hc0 hc1 x0 x1 x2 x3 x4 xs2) := by
  unfold out0_C_6 sout0_C_2
  rw [View.read_writes_junk_eq_canon, View.read_writes_junk_eq_canon]
  unfold kernelRun0_C
  dsimp only
  rw [c0 S32x256]
  refine congrArg k0_pay3 ?_
  unfold kernelRun0_C.sl.v2045
  funext j
  rw [View.readCov_eq_canon']
  exact congrArg (View.canon _) (funext fun x => Fin.ext (by fin_cases x <;> (show 0 + 1 * _ = _; omega)))

theorem offset (hc0 : ¬cond0_0 i) (hc1 : cond0_1 i) : out0_C_7 c i _ hw2 _ hw3 _ hw4 _ hw5 _ hw6 _ hw7 _ hw8 _ hw9 _ hw10 _ hw11 _ hw12 hc0 hc1 x0 x1 x2 x3 x4 xs2 = k0_pay4 (sout0_C_2 c i _ hw2 _ hw3 _ hw4 _ hw5 _ hw6 _ hw7 _ hw8 _ hw9 _ hw10 _ hw11 _ hw12 hc0 hc1 x0 x1 x2 x3 x4 xs2) := by
  unfold out0_C_7 sout0_C_2
  rw [View.read_writes_junk_eq_canon, View.read_writes_junk_eq_canon]
  unfold kernelRun0_C
  dsimp only
  rw [c0 S1x256]
  refine congrArg k0_pay4 ?_
  unfold kernelRun0_C.sl.v2045
  funext j
  rw [View.readCov_eq_canon']
  exact congrArg (View.canon _) (funext fun x => Fin.ext (by fin_cases x <;> (show 0 + 1 * _ = _; omega)))

end Last
-- ==== Proof.ConvRef.lean ====
/- Hand-written, untrusted: what `jax.vjp` computes for the sum of shifted products: each tap's gradients as a sum over the shifted cotangent. -/
module

public import proofs.«01_k».proof.Proof.Norm
public import proofs.«01_k».proof.Proof.Gen.ConvBwdRefIdeal.Read
public import Idealize.ShloMosaic.Lib.KernelVsHost

@[expose] public section

set_option maxRecDepth 16384

noncomputable section

namespace Cert.ConvRef

open Cert.Common Cert.Norm Idealize.ShloMosaic TcCoe Idealize.SL.Sem
open Cert.ConvBwdRefIdeal Cert.ConvBwdRefIdeal.Gen Cert.ConvBwdRefIdeal.Read

/-- `f` moved up by `k` places, zero below. -/
def sh (k : ℕ) (f : ℕ → EReal) (p : ℕ) : EReal := if k ≤ p then f (p - k) else 0

/-- A column of an array, zero past its end. -/
def col {N C : ℕ} (x : (⟨2, ![N, C]⟩ : Shape).Idx → EReal) (a : Fin C) : ℕ → EReal := ext0 fun n : Fin N => x (ix2 n a)

theorem sh_in (k : ℕ) (f : ℕ → EReal) (p q : ℕ) (h : p = k + q) : sh k f p = f q := by
  subst h; unfold sh; rw [if_pos (Nat.le_add_right _ _), Nat.add_sub_cancel_left]

theorem col_of {N C : ℕ} (x : (⟨2, ![N, C]⟩ : Shape).Idx → EReal) (a : Fin C) (n : ℕ) (h : n < N) : col x a n = x (ix2 ⟨n, h⟩ a) := ext0_of _ _ h

theorem col_out {N C : ℕ} (x : (⟨2, ![N, C]⟩ : Shape).Idx → EReal) (a : Fin C) (n : ℕ) (h : N ≤ n) : col x a n = 0 := dif_neg (Nat.not_lt.mpr h)

section

variable (dc u : FVec Ideal S8192x1024 .f32) (w : FVec Ideal S31x1024 .f32) (a : Fin 1024)

theorem c0 (i : S_.Idx) : ((constant S_ .f32 0x00000000#32 : FVec Ideal S_ .f32) i : EReal) = 0 := by
  pointwise

theorem t_w (k : ℕ) (h1 : S31x1024.Slices ![k, 0] S1x1024) (h2 : S1x1024.ShapeCasts S1024) (hb : S1024.BroadcastsInDim S1x1024 (![1] : Fin 1 → Fin S1x1024.rank)) :
    (broadcastInDim (α := Elt Ideal .f32) S1x1024 ![1] hb (shapeCast (α := Elt Ideal .f32) S1024 (extractStridedSlice (α := Elt Ideal .f32) S1x1024 ![k, 0] w h1) h2) (ix2 (0 : Fin 1) a) : EReal) = col w a k := by
  have hk : k < 31 := by have h := h1.2 0; exact h
  rw [col_of w a k hk]
  pointwise

theorem t_row (r : FVec Ideal S1x1024 .f32) (hb : S1x1024.BroadcastsInDim S8192x1024 (![0, 1] : Fin 2 → Fin S8192x1024.rank)) (t : Fin 8192) :
    (broadcastInDim (α := Elt Ideal .f32) S8192x1024 ![0, 1] hb r (ix2 t a) : EReal) = r (ix2 0 a) := by
  pointwise

theorem t_pad (k l : ℕ) (y : FVec Ideal S8192x1024 .f32) (hp : S8192x1024.Pads (![k, 0] : Fin 2 → Nat) ![l, 0] ![0, 0] S8222x1024) (h : 0 < S_.numel) (p : Fin 8222) :
    (pad (α := Elt Ideal .f32) S8222x1024 ![k, 0] ![l, 0] ![0, 0] y (constant S_ .f32 0x00000000#32 : FVec Ideal S_ .f32) hp h (ix2 p a) : EReal) = sh k (col y a) p.val := by
  unfold sh
  by_cases hk : k ≤ p.val
  · rw [if_pos hk]
    by_cases hl : p.val - k < 8192
    · rw [col_of y a _ hl]
      refine pad_apply_of_inside _ _ _ _ _ _ _ _ _ fun x => ?_
      fin_cases x
      · show p.val = k + (p.val - k) * (0 + 1); omega
      · show a.val = 0 + a.val * (0 + 1); omega
    · rw [col_out y a _ (by omega)]
      refine (pad_apply_of_not_inside _ _ _ _ _ _ _ _ 0 fun hc => ?_).trans (c0 _)
      have h3 : (p.val - k) / (0 + 1) < 8192 := hc.2.2
      omega
  · rw [if_neg hk]
    refine (pad_apply_of_not_inside _ _ _ _ _ _ _ _ 0 fun hc => ?_).trans (c0 _)
    exact hk hc.1

/-- A tap's gradient of the padded input: the cotangent moved up by the tap, times the tap's weight. -/
theorem t_du (k l : ℕ) (r : FVec Ideal S1x1024 .f32) (hp : S8192x1024.Pads (![k, 0] : Fin 2 → Nat) ![l, 0] ![0, 0] S8222x1024) (h : 0 < S_.numel)
    (hb : S1x1024.BroadcastsInDim S8192x1024 (![0, 1] : Fin 2 → Fin S8192x1024.rank)) (p : Fin 8222) :
    (pad (α := Elt Ideal .f32) S8222x1024 ![k, 0] ![l, 0] ![0, 0] (mulf dc (broadcastInDim (α := Elt Ideal .f32) S8192x1024 ![0, 1] hb r)) (constant S_ .f32 0x00000000#32 : FVec Ideal S_ .f32) hp h (ix2 p a) : EReal) = @HMul.hMul EReal EReal EReal _ (sh k (col dc a) p.val) (r (ix2 0 a)) := by
  rw [t_pad]
  unfold sh
  split_ifs
  · by_cases hl : p.val - k < 8192
    · rw [col_of _ a _ hl, col_of dc a _ hl]
      exact congrArg (fun z => @HMul.hMul EReal EReal EReal _ (dc (ix2 ⟨_, hl⟩ a)) z) (t_row a r hb _)
    · rw [col_out _ a _ (by omega), col_out dc a _ (by omega), zero_mul]
  · rw [zero_mul]

theorem t_pad1 (k l : ℕ) (y : FVec Ideal S1x1024 .f32) (hp : S1x1024.Pads (![k, 0] : Fin 2 → Nat) ![l, 0] ![0, 0] S31x1024) (h : 0 < S_.numel) (j : Fin 31) :
    (pad (α := Elt Ideal .f32) S31x1024 ![k, 0] ![l, 0] ![0, 0] y (constant S_ .f32 0x00000000#32 : FVec Ideal S_ .f32) hp h (ix2 j a) : EReal) = if j.val = k then (y (ix2 0 a) : EReal) else 0 := by
  by_cases hk : j.val = k
  · rw [if_pos hk]
    refine pad_apply_of_inside _ _ _ _ _ _ _ _ _ fun x => ?_
    fin_cases x
    · show j.val = k + 0 * (0 + 1); omega
    · show a.val = 0 + a.val * (0 + 1); omega
  · rw [if_neg hk]
    refine (pad_apply_of_not_inside _ _ _ _ _ _ _ _ 0 fun hc => ?_).trans (c0 _)
    have h1 : k ≤ j.val := hc.1
    have h3 : (j.val - k) / (0 + 1) < 1 := hc.2.2
    omega

/-- A column's sum taken in two steps, the second over one row. -/
theorem t_red (y : FVec Ideal S8192x1024 .f32) (h0 : S8192x1024.ReducesTo [0] S1024) (h1 : S1024.ShapeCasts S1x1024) (h2 : S1x1024.ReducesTo [0] S1024) (h h' : 0 < S_.numel) (hb : S1024.BroadcastsInDim S1x1024 (![1] : Fin 1 → Fin S1x1024.rank)) :
    (broadcastInDim (α := Elt Ideal .f32) S1x1024 ![1] hb (Host.reduceAdd (shapeCast (α := Elt Ideal .f32) S1x1024 (Host.reduceAdd y (constant S_ .f32 0x00000000#32 : FVec Ideal S_ .f32) h0 h) h1) (constant S_ .f32 0x00000000#32 : FVec Ideal S_ .f32) h2 h') (ix2 (0 : Fin 1) a) : EReal) = ∑ t : Fin 8192, (y (ix2 t a) : EReal) := by
  pointwise
  try rw [Fin.sum_univ_one]
  try simp only [zero_add]

theorem e_add {S : Shape} (x y : FVec Ideal S .f32) (j : S.Idx) : addf x y j = @HAdd.hAdd EReal EReal EReal _ (x j) (y j) := rfl

theorem e_mul {S : Shape} (x y : FVec Ideal S .f32) (j : S.Idx) : mulf x y j = @HMul.hMul EReal EReal EReal _ (x j) (y j) := rfl

theorem t_v225 : val_main_v225 (F := Ideal) dc = dc := by
  unfold val_main_v225
  exact shapeCast_self _ _

/-- The gradient of the padded input is the sum over the taps. -/
theorem r566 (p : Fin 8222) : (val_main_v566 (F := Ideal) dc w (ix2 p a) : EReal) = ∑ k ∈ Finset.range 31, sh k (col dc a) p.val * col w a k := by
  rw [← Finset.sum_range_reflect]
  simp only [val_main_v236, val_main_v232, val_main_v231, val_main_v246, val_main_v241, val_main_v240, val_main_v247, val_main_v257, val_main_v252, val_main_v251, val_main_v258, val_main_v268, val_main_v263, val_main_v262, val_main_v269, val_main_v279, val_main_v274, val_main_v273, val_main_v280, val_main_v290, val_main_v285, val_main_v284, val_main_v291, val_main_v301, val_main_v296, val_main_v295, val_main_v302, val_main_v312, val_main_v307, val_main_v306, val_main_v313, val_main_v323, val_main_v318, val_main_v317, val_main_v324, val_main_v334, val_main_v329, val_main_v328, val_main_v335, val_main_v345, val_main_v340, val_main_v339, val_main_v346, val_main_v356, val_main_v351, val_main_v350, val_main_v357, val_main_v367, val_main_v362, val_main_v361, val_main_v368, val_main_v378, val_main_v373, val_main_v372, val_main_v379, val_main_v389, val_main_v384, val_main_v383, val_main_v390, val_main_v400, val_main_v395, val_main_v394, val_main_v401, val_main_v411, val_main_v406, val_main_v405, val_main_v412, val_main_v422, val_main_v417, val_main_v416, val_main_v423, val_main_v433, val_main_v428, val_main_v427, val_main_v434, val_main_v444, val_main_v439, val_main_v438, val_main_v445, val_main_v455, val_main_v450, val_main_v449, val_main_v456, val_main_v466, val_main_v461, val_main_v460, val_main_v467, val_main_v477, val_main_v472, val_main_v471, val_main_v478, val_main_v488, val_main_v483, val_main_v482, val_main_v489, val_main_v499, val_main_v494, val_main_v493, val_main_v500, val_main_v510, val_main_v505, val_main_v504, val_main_v511, val_main_v521, val_main_v516, val_main_v515, val_main_v522, val_main_v532, val_main_v527, val_main_v526, val_main_v533, val_main_v543, val_main_v538, val_main_v537, val_main_v544, val_main_v554, val_main_v549, val_main_v548, val_main_v555, val_main_v565, val_main_v560, val_main_v559, val_main_v566, val_main_v6, val_main_v7, val_main_v8, val_main_v14, val_main_v15, val_main_v16, val_main_v21, val_main_v22, val_main_v23, val_main_v28, val_main_v29, val_main_v30, val_main_v35, val_main_v36, val_main_v37, val_main_v42, val_main_v43, val_main_v44, val_main_v49, val_main_v50, val_main_v51, val_main_v56, val_main_v57, val_main_v58, val_main_v63, val_main_v64, val_main_v65, val_main_v70, val_main_v71, val_main_v72, val_main_v77, val_main_v78, val_main_v79, val_main_v84, val_main_v85, val_main_v86, val_main_v91, val_main_v92, val_main_v93, val_main_v98, val_main_v99, val_main_v100, val_main_v105, val_main_v106, val_main_v107, val_main_v112, val_main_v113, val_main_v114, val_main_v119, val_main_v120, val_main_v121, val_main_v126, val_main_v127, val_main_v128, val_main_v133, val_main_v134, val_main_v135, val_main_v140, val_main_v141, val_main_v142, val_main_v147, val_main_v148, val_main_v149, val_main_v154, val_main_v155, val_main_v156, val_main_v161, val_main_v162, val_main_v163, val_main_v168, val_main_v169, val_main_v170, val_main_v175, val_main_v176, val_main_v177, val_main_v182, val_main_v183, val_main_v184, val_main_v189, val_main_v190, val_main_v191, val_main_v196, val_main_v197, val_main_v198, val_main_v203, val_main_v204, val_main_v205, val_main_v210, val_main_v211, val_main_v212, val_main_v217, val_main_v218, val_main_v219, val_main_cst_8, val_main_cst_12, val_main_cst_16, val_main_cst_20, val_main_cst_24, val_main_cst_28, val_main_cst_32, val_main_cst_36, val_main_cst_40, val_main_cst_44, val_main_cst_48, val_main_cst_52, val_main_cst_56, val_main_cst_60, val_main_cst_64, val_main_cst_68, val_main_cst_72, val_main_cst_76, val_main_cst_80, val_main_cst_84, val_main_cst_88, val_main_cst_92, val_main_cst_96, val_main_cst_100, val_main_cst_104, val_main_cst_108, val_main_cst_112, val_main_cst_116, val_main_cst_120, val_main_cst_124, val_main_cst_128, e_add, t_v225]
  iterate 31 rw [t_du, t_w]
  simp only [Finset.sum_range_succ, Finset.sum_range_zero, zero_add]

theorem r568 (t : Fin 8192) : (val_main_v568 (F := Ideal) dc w (ix2 t a) : EReal) = ∑ k ∈ Finset.range 31, sh k (col dc a) (15 + t.val) * col w a k := by
  refine Eq.trans ?_ (r566 dc w a ⟨15 + t.val, by omega⟩)
  unfold val_main_v568
  generalize val_main_v566 (F := Ideal) dc w = y
  pointwise

/-- The input under fifteen zero rows. -/
theorem r2 (p : Fin 8222) : (val_main_v2 (F := Ideal) u (ix2 p a) : EReal) = sh 15 (col u a) p.val := by
  unfold val_main_v2 val_main_v1 val_main_cst_0 sh
  pointwise
  by_cases h : p.val < 15
  · rw [dif_pos h, if_neg (by omega)]
  · rw [dif_neg h]
    exact (if_pos (Nat.not_lt.mp h)).symm

theorem t_slice (k : ℕ) (h1 : S8222x1024.Slices ![k, 0] S8192x1024) (t : Fin 8192) : (extractStridedSlice (α := Elt Ideal .f32) S8192x1024 ![k, 0] (val_main_v2 (F := Ideal) u) h1 (ix2 t a) : EReal) = sh 15 (col u a) (k + t.val) := by
  have hk : k + 8192 ≤ 8222 := by have h := h1.2 0; exact h
  refine Eq.trans ?_ (r2 u a ⟨k + t.val, by omega⟩)
  generalize val_main_v2 (F := Ideal) u = y
  pointwise

theorem t_dw (k : ℕ) (hs : S8222x1024.Slices ![k, 0] S8192x1024) (h0 : S8192x1024.ReducesTo [0] S1024) (h1 : S1024.ShapeCasts S1x1024) (h2 : S1x1024.ReducesTo [0] S1024) (h h' : 0 < S_.numel) (hb : S1024.BroadcastsInDim S1x1024 (![1] : Fin 1 → Fin S1x1024.rank)) :
    (broadcastInDim (α := Elt Ideal .f32) S1x1024 ![1] hb (Host.reduceAdd (shapeCast (α := Elt Ideal .f32) S1x1024 (Host.reduceAdd (mulf (extractStridedSlice (α := Elt Ideal .f32) S8192x1024 ![k, 0] (val_main_v2 (F := Ideal) u) hs) dc) (constant S_ .f32 0x00000000#32 : FVec Ideal S_ .f32) h0 h) h1) (constant S_ .f32 0x00000000#32 : FVec Ideal S_ .f32) h2 h') (ix2 (0 : Fin 1) a) : EReal) = ∑ t : Fin 8192, sh 15 (col u a) (k + t.val) * (dc (ix2 t a) : EReal) := by
  refine (t_red a _ h0 h1 h2 h h' hb).trans (Finset.sum_congr rfl fun t _ => ?_)
  exact congrArg (fun z => @HMul.hMul EReal EReal EReal _ z (dc (ix2 t a))) (t_slice u a k hs t)

theorem r564 (j : Fin 31) : (val_main_v564 (F := Ideal) dc u (ix2 j a) : EReal) = ∑ t : Fin 8192, sh 15 (col u a) (j.val + t.val) * (dc (ix2 t a) : EReal) := by
  have h : (val_main_v564 (F := Ideal) dc u (ix2 j a) : EReal) = ∑ k ∈ Finset.range 31, if j.val = k then ∑ t : Fin 8192, sh 15 (col u a) (k + t.val) * (dc (ix2 t a) : EReal) else 0 := by
    rw [← Finset.sum_range_reflect]
    simp only [val_main_v235, val_main_v234, val_main_v233, val_main_v230, val_main_v229, val_main_v228, val_main_v244, val_main_v243, val_main_v242, val_main_v239, val_main_v238, val_main_v237, val_main_v245, val_main_v255, val_main_v254, val_main_v253, val_main_v250, val_main_v249, val_main_v248, val_main_v256, val_main_v266, val_main_v265, val_main_v264, val_main_v261, val_main_v260, val_main_v259, val_main_v267, val_main_v277, val_main_v276, val_main_v275, val_main_v272, val_main_v271, val_main_v270, val_main_v278, val_main_v288, val_main_v287, val_main_v286, val_main_v283, val_main_v282, val_main_v281, val_main_v289, val_main_v299, val_main_v298, val_main_v297, val_main_v294, val_main_v293, val_main_v292, val_main_v300, val_main_v310, val_main_v309, val_main_v308, val_main_v305, val_main_v304, val_main_v303, val_main_v311, val_main_v321, val_main_v320, val_main_v319, val_main_v316, val_main_v315, val_main_v314, val_main_v322, val_main_v332, val_main_v331, val_main_v330, val_main_v327, val_main_v326, val_main_v325, val_main_v333, val_main_v343, val_main_v342, val_main_v341, val_main_v338, val_main_v337, val_main_v336, val_main_v344, val_main_v354, val_main_v353, val_main_v352, val_main_v349, val_main_v348, val_main_v347, val_main_v355, val_main_v365, val_main_v364, val_main_v363, val_main_v360, val_main_v359, val_main_v358, val_main_v366, val_main_v376, val_main_v375, val_main_v374, val_main_v371, val_main_v370, val_main_v369, val_main_v377, val_main_v387, val_main_v386, val_main_v385, val_main_v382, val_main_v381, val_main_v380, val_main_v388, val_main_v398, val_main_v397, val_main_v396, val_main_v393, val_main_v392, val_main_v391, val_main_v399, val_main_v409, val_main_v408, val_main_v407, val_main_v404, val_main_v403, val_main_v402, val_main_v410, val_main_v420, val_main_v419, val_main_v418, val_main_v415, val_main_v414, val_main_v413, val_main_v421, val_main_v431, val_main_v430, val_main_v429, val_main_v426, val_main_v425, val_main_v424, val_main_v432, val_main_v442, val_main_v441, val_main_v440, val_main_v437, val_main_v436, val_main_v435, val_main_v443, val_main_v453, val_main_v452, val_main_v451, val_main_v448, val_main_v447, val_main_v446, val_main_v454, val_main_v464, val_main_v463, val_main_v462, val_main_v459, val_main_v458, val_main_v457, val_main_v465, val_main_v475, val_main_v474, val_main_v473, val_main_v470, val_main_v469, val_main_v468, val_main_v476, val_main_v486, val_main_v485, val_main_v484, val_main_v481, val_main_v480, val_main_v479, val_main_v487, val_main_v497, val_main_v496, val_main_v495, val_main_v492, val_main_v491, val_main_v490, val_main_v498, val_main_v508, val_main_v507, val_main_v506, val_main_v503, val_main_v502, val_main_v501, val_main_v509, val_main_v519, val_main_v518, val_main_v517, val_main_v514, val_main_v513, val_main_v512, val_main_v520, val_main_v530, val_main_v529, val_main_v528, val_main_v525, val_main_v524, val_main_v523, val_main_v531, val_main_v541, val_main_v540, val_main_v539, val_main_v536, val_main_v535, val_main_v534, val_main_v542, val_main_v552, val_main_v551, val_main_v550, val_main_v547, val_main_v546, val_main_v545, val_main_v553, val_main_v563, val_main_v562, val_main_v561, val_main_v558, val_main_v557, val_main_v556, val_main_v564, val_main_v5, val_main_v13, val_main_v20, val_main_v27, val_main_v34, val_main_v41, val_main_v48, val_main_v55, val_main_v62, val_main_v69, val_main_v76, val_main_v83, val_main_v90, val_main_v97, val_main_v104, val_main_v111, val_main_v118, val_main_v125, val_main_v132, val_main_v139, val_main_v146, val_main_v153, val_main_v160, val_main_v167, val_main_v174, val_main_v181, val_main_v188, val_main_v195, val_main_v202, val_main_v209, val_main_v216, val_main_cst_5, val_main_cst_6, val_main_cst_7, val_main_cst_9, val_main_cst_10, val_main_cst_11, val_main_cst_13, val_main_cst_14, val_main_cst_15, val_main_cst_17, val_main_cst_18, val_main_cst_19, val_main_cst_21, val_main_cst_22, val_main_cst_23, val_main_cst_25, val_main_cst_26, val_main_cst_27, val_main_cst_29, val_main_cst_30, val_main_cst_31, val_main_cst_33, val_main_cst_34, val_main_cst_35, val_main_cst_37, val_main_cst_38, val_main_cst_39, val_main_cst_41, val_main_cst_42, val_main_cst_43, val_main_cst_45, val_main_cst_46, val_main_cst_47, val_main_cst_49, val_main_cst_50, val_main_cst_51, val_main_cst_53, val_main_cst_54, val_main_cst_55, val_main_cst_57, val_main_cst_58, val_main_cst_59, val_main_cst_61, val_main_cst_62, val_main_cst_63, val_main_cst_65, val_main_cst_66, val_main_cst_67, val_main_cst_69, val_main_cst_70, val_main_cst_71, val_main_cst_73, val_main_cst_74, val_main_cst_75, val_main_cst_77, val_main_cst_78, val_main_cst_79, val_main_cst_81, val_main_cst_82, val_main_cst_83, val_main_cst_85, val_main_cst_86, val_main_cst_87, val_main_cst_89, val_main_cst_90, val_main_cst_91, val_main_cst_93, val_main_cst_94, val_main_cst_95, val_main_cst_97, val_main_cst_98, val_main_cst_99, val_main_cst_101, val_main_cst_102, val_main_cst_103, val_main_cst_105, val_main_cst_106, val_main_cst_107, val_main_cst_109, val_main_cst_110, val_main_cst_111, val_main_cst_113, val_main_cst_114, val_main_cst_115, val_main_cst_117, val_main_cst_118, val_main_cst_119, val_main_cst_121, val_main_cst_122, val_main_cst_123, val_main_cst_125, val_main_cst_126, val_main_cst_127, e_add, t_v225]
    iterate 31 rw [t_pad1, t_dw]
    simp only [Finset.sum_range_succ, Finset.sum_range_zero, zero_add, Nat.reduceSub]
  rw [h, Finset.sum_ite_eq, if_pos (Finset.mem_range.mpr j.isLt)]

theorem r571 (j : Fin 32) : (val_main_v571 (F := Ideal) dc u (ix2 j a) : EReal) = if j.val < 31 then ∑ t : Fin 8192, sh 15 (col u a) (j.val + t.val) * (dc (ix2 t a) : EReal) else 0 := by
  unfold val_main_v571
  generalize hv : val_main_v564 (F := Ideal) dc u = y
  unfold val_main_v570 val_main_cst_129
  pointwise
  by_cases h : j.val < 31
  · rw [dif_pos h, if_pos h, ← r564 dc u a ⟨j.val, h⟩, hv]
  · rw [dif_neg h, if_neg h]

theorem r227 : (val_main_v227 (F := Ideal) dc (ix2 (0 : Fin 1) a) : EReal) = ∑ t : Fin 8192, (dc (ix2 t a) : EReal) := by
  unfold val_main_v227 val_main_v226 val_main_cst_4
  pointwise
  try simp only [zero_add]

end

end Cert.ConvRef

end
-- ==== Proof.Conv.lean ====
/- Hand-written, untrusted: the depthwise convolution's backward call computes `jax.vjp`'s gradients of the sum of shifted products. -/
module

public import proofs.«01_k».proof.Proof.ConvPoint
public import proofs.«01_k».proof.Proof.ConvRef

@[expose] public section

set_option maxRecDepth 16384

noncomputable section

namespace Cert.Conv

open Cert.Common Cert.Norm Cert.LnTail Cert.ConvPoint Cert.ConvRef

section Sums

/-- A sum over whole blocks is the sum over the blocks. -/
theorem blocks (A B : ℕ) (f : ℕ → EReal) : ∑ n ∈ Finset.range (A * B), f n = ∑ i ∈ Finset.range A, ∑ r ∈ Finset.range B, f (B * i + r) := by
  induction A with
  | zero => simp
  | succ A ih => rw [Nat.succ_mul, Finset.sum_range_add, ih, Finset.sum_range_succ, Nat.mul_comm A B]

/-- The window of a function that vanishes outside it. -/
theorem window (k : ℕ) (hk : k ≤ 30) (F : ℕ → EReal) (lo : ∀ p < k, F p = 0) (hi : ∀ p, k + 8192 ≤ p → F p = 0) : ∑ n ∈ Finset.range 8192, F (k + n) = ∑ p ∈ Finset.range 8222, F p := by
  obtain ⟨l, hl⟩ : ∃ l, 8222 = (k + 8192) + l := ⟨30 - k, by omega⟩
  rw [hl, Finset.sum_range_add, Finset.sum_range_add, Finset.sum_eq_zero (s := Finset.range k) (fun p hp => lo p (Finset.mem_range.mp hp)), Finset.sum_eq_zero (s := Finset.range l) (fun p hp => hi _ (by omega)), zero_add, add_zero]

theorem sixtyfour (f : ℕ → EReal) : ∑ r ∈ Finset.range 64, f r = ∑ s : Fin 8, ∑ j : Fin 8, f (j.val * 8 + s.val) := by
  rw [show 64 = 8 * 8 from rfl, blocks, Finset.sum_comm, ← Fin.sum_univ_eq_sum_range (fun s => ∑ j ∈ Finset.range 8, f (8 * j + s))]
  refine Finset.sum_congr rfl fun s _ => ?_
  rw [← Fin.sum_univ_eq_sum_range (fun j => f (8 * j + s.val))]
  exact Finset.sum_congr rfl fun j _ => by rw [Nat.mul_comm]

theorem four (g : ℕ → EReal) : ∑ i ∈ Finset.range 4, g i = g 0 + g 1 + g 2 + g 3 := by
  rw [Finset.sum_range_succ, Finset.sum_range_succ, Finset.sum_range_succ, Finset.sum_range_one]

/-- The eight rows' sums over all blocks, each in four quarters of eight. -/
theorem total (h : ℕ → EReal) : ∑ s : Fin 8, ∑ i ∈ Finset.range 32, (((∑ j : Fin 8, h (256 * i + (0 + (j.val * 8 + s.val))) + ∑ j : Fin 8, h (256 * i + (64 + (j.val * 8 + s.val)))) + ∑ j : Fin 8, h (256 * i + (128 + (j.val * 8 + s.val)))) + ∑ j : Fin 8, h (256 * i + (192 + (j.val * 8 + s.val)))) = ∑ n ∈ Finset.range 8192, h n := by
  rw [Finset.sum_comm, show 8192 = 32 * 256 from rfl, blocks]
  refine Finset.sum_congr rfl fun i _ => ?_
  rw [show 256 = 4 * 64 from rfl, blocks 4 64 (fun r => h (4 * 64 * i + r)), four]
  simp only [sixtyfour, Finset.sum_add_distrib]

theorem total' (h : ℕ → EReal) : ∑ s : Fin 8, ∑ i ∈ Finset.range 32, ∑ j : Fin 32, h (256 * i + (j.val * 8 + s.val)) = ∑ n ∈ Finset.range 8192, h n := by
  rw [Finset.sum_comm, show 8192 = 32 * 256 from rfl, blocks]
  refine Finset.sum_congr rfl fun i _ => ?_
  rw [show 256 = 32 * 8 from rfl, blocks 32 8 (fun r => h (32 * 8 * i + r)), Finset.sum_comm, ← Fin.sum_univ_eq_sum_range (fun j => ∑ s ∈ Finset.range 8, h (32 * 8 * i + (8 * j + s)))]
  refine Finset.sum_congr rfl fun j _ => ?_
  rw [← Fin.sum_univ_eq_sum_range (fun s => h (32 * 8 * i + (8 * j.val + s)))]
  exact Finset.sum_congr rfl fun s _ => by rw [Nat.mul_comm 8 j.val]

theorem sh_shift (k : ℕ) (hk : k < 31) (f : ℕ → EReal) (x : ℕ) : sh 16 f (31 - k + x) = sh k f (15 + x) := by
  unfold sh
  by_cases h : k ≤ 15 + x
  · rw [if_pos h, if_pos (by omega)]
    exact congrArg f (by omega)
  · rw [if_neg h, if_neg (by omega)]

/-- The weights' gradient, over the outputs and over the inputs. -/
theorem taps (k : ℕ) (hk : k < 31) (f g : ℕ → EReal) (hf : ∀ n, 8192 ≤ n → f n = 0) (hg : ∀ n, 8192 ≤ n → g n = 0) :
    ∑ n ∈ Finset.range 8192, sh k f (15 + n) * g n = ∑ n ∈ Finset.range 8192, sh 15 g (k + n) * f n := by
  have lo : ∀ l (u : ℕ → EReal), ∀ p < l, sh l u p = 0 := fun l u p hp => if_neg (Nat.not_le.mpr hp)
  have hi : ∀ l (u : ℕ → EReal), (∀ n, 8192 ≤ n → u n = 0) → ∀ p, l + 8192 ≤ p → sh l u p = 0 := fun l u hu p hp => (if_pos (by omega)).trans (hu _ (by omega))
  have e1 := window 15 (by omega) (fun p => sh k f p * sh 15 g p) (fun p hp => by show sh k f p * sh 15 g p = 0; rw [lo 15 g p hp, mul_zero]) (fun p hp => by show sh k f p * sh 15 g p = 0; rw [hi 15 g hg p hp, mul_zero])
  have e2 := window k (by omega) (fun p => sh k f p * sh 15 g p) (fun p hp => by show sh k f p * sh 15 g p = 0; rw [lo k f p hp, zero_mul]) (fun p hp => by show sh k f p * sh 15 g p = 0; rw [hi k f hf p hp, zero_mul])
  refine Eq.trans (Finset.sum_congr rfl fun n _ => ?_) (e1.trans (e2.symm.trans (Finset.sum_congr rfl fun n _ => ?_)))
  · show _ = sh k f (15 + n) * sh 15 g (15 + n)
    rw [sh_in 15 g (15 + n) n rfl]
  · show sh k f (k + n) * sh 15 g (k + n) = _
    rw [sh_in k f (k + n) n rfl, mul_comm]

/-- A column by its number. -/
def cn {N : ℕ} (x : (Idealize.ShloMosaic.Shape.mk 2 ![N, 1024]).Idx → EReal) (b : ℕ) : ℕ → EReal := if h : b < 1024 then col x ⟨b, h⟩ else fun _ => 0

theorem cn_of {N : ℕ} (x : (Idealize.ShloMosaic.Shape.mk 2 ![N, 1024]).Idx → EReal) (b : Fin 1024) : cn x b.val = col x b := dif_pos b.isLt

end Sums

section

open Cert.ConvBwdIdeal Cert.ConvBwdIdeal.Gen Idealize.ShloMosaic TcCoe Idealize.SL.Sem

theorem co : ∀ t : Fin grid0.N, ((grid0.coords t) 1).val = t.val % 32 := by decide +kernel

theorem idx_facts : ∀ t : Fin grid0.N, (win0_0.index t ax0 = 16 * (t.val % 32) - 1 ∧ win0_0.index t ax1 = t.val / 32) ∧ (win0_1.index t ax0 = t.val % 32 ∧ win0_1.index t ax1 = t.val / 32)
    ∧ (win0_2.index t ax0 = min (16 * (t.val % 32 + 1)) 511 ∧ win0_2.index t ax1 = t.val / 32) ∧ (win0_3.index t ax0 = t.val % 32 ∧ win0_3.index t ax1 = t.val / 32) ∧ (win0_4.index t ax0 = 0 ∧ win0_4.index t ax1 = t.val / 32)
    ∧ (win0_5.index t ax0 = t.val % 32 ∧ win0_5.index t ax1 = t.val / 32) ∧ (win0_6.index t ax0 = 0 ∧ win0_6.index t ax1 = t.val / 32) ∧ (win0_7.index t ax0 = 0 ∧ win0_7.index t ax1 = t.val / 32) := by
  decide +kernel

variable {m : (ℓ : Loc nD τ sig) → Buf (Elt Ideal) ℓ} {c : Dev nD}

/-- The cotangent, the input and the weights. -/
def D (m : (ℓ : Loc nD τ sig) → Buf (Elt Ideal) ℓ) (c : Dev nD) : S8192x1024.Idx → EReal := m (lc c main_arg0)
def X (m : (ℓ : Loc nD τ sig) → Buf (Elt Ideal) ℓ) (c : Dev nD) : S8192x1024.Idx → EReal := m (lc c main_arg1)
def Wt (m : (ℓ : Loc nD τ sig) → Buf (Elt Ideal) ℓ) (c : Dev nD) : S31x1024.Idx → EReal := m (lc c main_arg2)

theorem V_w (k : Fin 32) (hk : k.val < 31) (b : Fin 1024) : (V m c main_v0 (ix2 k b) : EReal) = col (Wt m c) b k.val := by
  have hv : V m c main_v0 = pad S32x1024 ![0, 0] ![1, 0] ![0, 0] (m (lc c main_arg2)) (sitofp (F := Ideal) .f32 (constantI S_ 32 0#32)) pads_S31x1024_S32x1024_010_000 h_S_ := by
    show StableHlo.after _ (fun b => m (c, b)) main_v0 = _
    simp only [flat]
    after_results
    rfl
  rw [hv, col_of _ b k.val hk]
  refine pad_apply_of_inside _ _ _ _ _ _ _ _ _ fun x => ?_
  fin_cases x
  · show k.val = 0 + k.val * (0 + 1); omega
  · show b.val = 0 + b.val * (0 + 1); omega

variable (t : Fin cfg0.N)

/-- Column `a` of the block of point `t`. -/
def cl (t : Fin cfg0.N) (a : Fin 256) : Fin 1024 := ⟨256 * (t.val / 32) + a.val, by have h : t.val < 128 := t.isLt; omega⟩

theorem blk0 (h : t.val % 32 ≠ 0) (r : Fin 16) (a : Fin 256) : (iblk m c 0 t (ix2 r a) : EReal) = sh 16 (col (D m c) (cl t a)) (256 * (t.val % 32) + r.val) := by
  obtain ⟨⟨e0, e1⟩, -⟩ := idx_facts t
  rw [sh_in 16 _ _ (256 * (t.val % 32) + r.val - 16) (by omega), col_of _ _ _ (by omega)]
  refine Eq.trans ?_ (congrFun (V_main_arg0 m c) (ix2 (⟨256 * (t.val % 32) + r.val - 16, by omega⟩ : Fin 8192) (cl t a)))
  exact read2 (V m c main_arg0) _ _ (by show win0_0.index t ax0 * 16 + 1 * r.val = 256 * (t.val % 32) + r.val - 16; omega) (by show win0_0.index t ax1 * 256 + 1 * a.val = 256 * (t.val / 32) + a.val; omega)

theorem blk1 (r : Fin 256) (a : Fin 256) : (iblk m c 1 t (ix2 r a) : EReal) = col (D m c) (cl t a) (256 * (t.val % 32) + r.val) := by
  obtain ⟨-, ⟨e0, e1⟩, -⟩ := idx_facts t
  rw [col_of _ _ _ (by omega)]
  refine Eq.trans ?_ (congrFun (V_main_arg0 m c) (ix2 (⟨256 * (t.val % 32) + r.val, by omega⟩ : Fin 8192) (cl t a)))
  exact read2 (V m c main_arg0) _ _ (by show win0_1.index t ax0 * 256 + 1 * r.val = 256 * (t.val % 32) + r.val; omega) (by show win0_1.index t ax1 * 256 + 1 * a.val = 256 * (t.val / 32) + a.val; omega)

theorem blk2 (h : t.val % 32 < 31) (r : Fin 16) (a : Fin 256) : (iblk m c 2 t (ix2 r a) : EReal) = sh 16 (col (D m c) (cl t a)) (256 * (t.val % 32) + (272 + r.val)) := by
  obtain ⟨-, -, ⟨e0, e1⟩, -⟩ := idx_facts t
  rw [sh_in 16 _ _ (256 * (t.val % 32) + 256 + r.val) (by omega), col_of _ _ _ (by omega)]
  refine Eq.trans ?_ (congrFun (V_main_arg0 m c) (ix2 (⟨256 * (t.val % 32) + 256 + r.val, by omega⟩ : Fin 8192) (cl t a)))
  exact read2 (V m c main_arg0) _ _ (by show win0_2.index t ax0 * 16 + 1 * r.val = 256 * (t.val % 32) + 256 + r.val; omega) (by show win0_2.index t ax1 * 256 + 1 * a.val = 256 * (t.val / 32) + a.val; omega)

theorem blk3 (r : Fin 256) (a : Fin 256) : (iblk m c 3 t (ix2 r a) : EReal) = col (X m c) (cl t a) (256 * (t.val % 32) + r.val) := by
  obtain ⟨-, -, -, ⟨e0, e1⟩, -⟩ := idx_facts t
  rw [col_of _ _ _ (by omega)]
  refine Eq.trans ?_ (congrFun (V_main_arg1 m c) (ix2 (⟨256 * (t.val % 32) + r.val, by omega⟩ : Fin 8192) (cl t a)))
  exact read2 (V m c main_arg1) _ _ (by show win0_3.index t ax0 * 256 + 1 * r.val = 256 * (t.val % 32) + r.val; omega) (by show win0_3.index t ax1 * 256 + 1 * a.val = 256 * (t.val / 32) + a.val; omega)

/-- The rows around a block, of the cotangent under sixteen zero rows. -/
theorem E_val (e : ℕ) (he : e < 288) (a : Fin 256) : E (grid0.coords t) (iblk m c 0 t) (iblk m c 1 t) (iblk m c 2 t) e a = sh 16 (col (D m c) (cl t a)) (256 * (t.val % 32) + e) := by
  refine E_at _ _ _ _ a (sh 16 (col (D m c) (cl t a))) (t.val % 32) (co t) (fun h r => blk0 t h r a) (fun r hr => if_neg (by omega)) (fun r => (blk1 t r a).trans (sh_in 16 _ _ _ (by omega)).symm) (fun h r => blk2 t h r a) (fun h r hr => ?_) e he
  rw [sh_in 16 _ _ (256 * (t.val % 32) + (256 + r)) (by omega)]
  exact col_out _ _ _ (by omega)

theorem U_val (n : ℕ) (hn : n < 256) (a : Fin 256) : U (iblk m c 3 t) n a = col (X m c) (cl t a) (256 * (t.val % 32) + n) := (dif_pos hn).trans (blk3 t ⟨n, hn⟩ a)

theorem U_ct (n : ℕ) (hn : n < 256) (a : Fin 256) : U (iblk m c 1 t) n a = col (D m c) (cl t a) (256 * (t.val % 32) + n) := (dif_pos hn).trans (blk1 t ⟨n, hn⟩ a)

theorem W_val (k : ℕ) (hk : k < 31) (a : Fin 256) : W (iblk m c 4 t) k a = col (Wt m c) (cl t a) k := by
  obtain ⟨-, -, -, -, ⟨e0, e1⟩, -⟩ := idx_facts t
  refine (dif_pos (show k < 32 by omega)).trans (Eq.trans ?_ (V_w (⟨k, by omega⟩ : Fin 32) hk (cl t a)))
  exact read2 (V m c main_v0) _ _ (by show win0_4.index t ax0 * 32 + 1 * k = k; omega) (by show win0_4.index t ax1 * 256 + 1 * a.val = 256 * (t.val / 32) + a.val; omega)

/-- A row's term of a tap's gradient of the weights. -/
def H (m : (ℓ : Loc nD τ sig) → Buf (Elt Ideal) ℓ) (c : Dev nD) (b k n : ℕ) : EReal := sh k (cn (D m c) b) (15 + n) * cn (X m c) b n

theorem T_val (k : ℕ) (hk : k < 31) (b : ℕ) (hb : b ≤ 192) (s : Fin 8) (a : Fin 256) : ConvPoint.T (grid0.coords t) (iblk m c 0 t) (iblk m c 1 t) (iblk m c 2 t) (iblk m c 3 t) (31 - k) b s a = ∑ j : Fin 8, H m c (256 * (t.val / 32) + a.val) k (256 * (t.val % 32) + (b + (j.val * 8 + s.val))) := by
  unfold ConvPoint.T
  refine Finset.sum_congr rfl fun j _ => ?_
  show _ = sh k (cn (D m c) (cl t a).val) _ * cn (X m c) (cl t a).val _
  rw [cn_of, cn_of, E_val t _ (by omega), U_val t _ (by omega), ← sh_shift k hk]
  exact congrArg (fun z => sh 16 (col (D m c) (cl t a)) z * _) (by omega)

/-- A quarter-by-quarter contribution of a block of rows to a tap. -/
def part (m : (ℓ : Loc nD τ sig) → Buf (Elt Ideal) ℓ) (c : Dev nD) (k : ℕ) (s : Fin 8) (a : Fin 256) (J i : ℕ) : EReal :=
  ((∑ j : Fin 8, H m c (256 * J + a.val) k (256 * i + (0 + (j.val * 8 + s.val))) + ∑ j : Fin 8, H m c (256 * J + a.val) k (256 * i + (64 + (j.val * 8 + s.val)))) + ∑ j : Fin 8, H m c (256 * J + a.val) k (256 * i + (128 + (j.val * 8 + s.val)))) + ∑ j : Fin 8, H m c (256 * J + a.val) k (256 * i + (192 + (j.val * 8 + s.val)))

/-- What the point before left in the accumulator, zero at the first row block. -/
def pv (m : (ℓ : Loc nD τ sig) → Buf (Elt Ideal) ℓ) (c : Dev nD) (t : Fin cfg0.N) (j : S32x8x256.Idx) : EReal :=
  if t.val % 32 = 0 then 0 else (outsAt0 m c (t.val - 1) (Nat.lt_of_le_of_lt (Nat.sub_le _ _) t.isLt)).2.2.2 j

set_option maxHeartbeats 4000000 in
/-- What a point leaves, in every case. -/
theorem point : (∀ k : ℕ, ∀ hk : k < 31, ∀ (s : Fin 8) (a : Fin 256), ((outsAt0 m c t.val t.isLt).2.2.2 (ix3 (⟨k, by omega⟩ : Fin 32) s a) : EReal) = pv m c t (ix3 (⟨k, by omega⟩ : Fin 32) s a) + part m c k s a (t.val / 32) (t.val % 32))
    ∧ (∀ (s : Fin 8) (a : Fin 256), ((outsAt0 m c t.val t.isLt).2.2.2 (ix3 (⟨31, by omega⟩ : Fin 32) s a) : EReal) = pv m c t (ix3 (⟨31, by omega⟩ : Fin 32) s a) + ∑ j : Fin 32, cn (D m c) (256 * (t.val / 32) + a.val) (256 * (t.val % 32) + (j.val * 8 + s.val)))
    ∧ (∀ q : ℕ, ∀ hq : q < 4, ∀ (r : Fin 64) (a : Fin 256), ((outsAt0 m c t.val t.isLt).1 (ix2 (⟨64 * q + r.val, by omega⟩ : Fin 256) a) : EReal) = ∑ k ∈ Finset.range 31, sh k (col (D m c) (cl t a)) (15 + (256 * (t.val % 32) + (64 * q + r.val))) * col (Wt m c) (cl t a) k) := by
  have g1 : ∀ k : ℕ, ∀ hk : k < 31, ∀ (s : Fin 8) (a : Fin 256) (z : EReal), @HAdd.hAdd EReal EReal EReal _ (@HAdd.hAdd EReal EReal EReal _ (@HAdd.hAdd EReal EReal EReal _ (@HAdd.hAdd EReal EReal EReal _ z (ConvPoint.T (grid0.coords t) (iblk m c 0 t) (iblk m c 1 t) (iblk m c 2 t) (iblk m c 3 t) (31 - k) 0 s a)) (ConvPoint.T (grid0.coords t) (iblk m c 0 t) (iblk m c 1 t) (iblk m c 2 t) (iblk m c 3 t) (31 - k) 64 s a)) (ConvPoint.T (grid0.coords t) (iblk m c 0 t) (iblk m c 1 t) (iblk m c 2 t) (iblk m c 3 t) (31 - k) 128 s a)) (ConvPoint.T (grid0.coords t) (iblk m c 0 t) (iblk m c 1 t) (iblk m c 2 t) (iblk m c 3 t) (31 - k) 192 s a) = z + part m c k s a (t.val / 32) (t.val % 32) := by
    intro k hk s a z
    rw [T_val t k hk 0 (by omega), T_val t k hk 64 (by omega), T_val t k hk 128 (by omega), T_val t k hk 192 (by omega)]
    unfold part
    simp only [add_assoc]
  have g2 : ∀ (s : Fin 8) (a : Fin 256), ∑ j : Fin 32, U (iblk m c 1 t) (j.val * 8 + s.val) a = ∑ j : Fin 32, cn (D m c) (256 * (t.val / 32) + a.val) (256 * (t.val % 32) + (j.val * 8 + s.val)) := fun s a =>
    Finset.sum_congr rfl fun j _ => (U_ct t _ (by omega) a).trans (congrFun (cn_of (D m c) (cl t a)) _).symm
  have g3 : ∀ q : ℕ, ∀ hq : q < 4, ∀ (r : Fin 64) (a : Fin 256), ∑ k ∈ Finset.range 31, W (iblk m c 4 t) k a * E (grid0.coords t) (iblk m c 0 t) (iblk m c 1 t) (iblk m c 2 t) (31 - k + 64 * q + r.val) a = ∑ k ∈ Finset.range 31, sh k (col (D m c) (cl t a)) (15 + (256 * (t.val % 32) + (64 * q + r.val))) * col (Wt m c) (cl t a) k := fun q hq r a =>
    Finset.sum_congr rfl fun k hk => by
      have hk := Finset.mem_range.mp hk
      rw [W_val t k hk, E_val t _ (by omega), ← sh_shift k hk, mul_comm]
      exact congrArg (fun z => sh 16 (col (D m c) (cl t a)) z * _) (by omega)
  have Q := points (c := c) (i := grid0.coords t) (hw2 := hs0_0 t) (hw3 := hs0_1 t) (hw4 := hs0_2 t) (hw5 := hs0_3 t) (hw6 := hs0_4 t) (hw7 := hs0_5 t) (hw8 := hs0_6 t) (hw9 := hs0_7 t) (hw10 := (Memref.isWhole_whole _ : scM0_0.IsWhole)) (hw11 := (Memref.isWhole_whole _ : scM0_1.IsWhole)) (hw12 := (Memref.isWhole_whole _ : scM0_2.IsWhole)) (iblk m c 0 t) (iblk m c 1 t) (iblk m c 2 t) (iblk m c 3 t) (iblk m c 4 t) (outsAt0 m c (t.val - 1) (Nat.lt_of_le_of_lt (Nat.sub_le _ _) t.isLt)).2.2.2
  by_cases h0 : t.val % 32 = 0
  · have e := outsAt0_A m c t h0 (by omega)
    have P := Q.1 ((hcond0_0 t).mpr h0) (fun h => absurd ((hcond0_1 t).mp h) (by omega))
    have z : ∀ j, pv m c t j = 0 := fun j => if_pos h0
    refine ⟨fun k hk s a => (congrArg (fun p => p.2.2.2 (ix3 (⟨k, by omega⟩ : Fin 32) s a)) e).trans ((P.1 k hk s a).trans ?_),
      fun s a => (congrArg (fun p => p.2.2.2 (ix3 (⟨31, by omega⟩ : Fin 32) s a)) e).trans ((P.2.1 s a).trans ?_),
      fun q hq r a => (congrArg (fun p => p.1 (ix2 (⟨64 * q + r.val, by omega⟩ : Fin 256) a)) e).trans ((P.2.2 q hq r a).trans (g3 q hq r a))⟩
    · rw [z]; exact g1 k hk s a 0
    · rw [z, g2]
  · have z : ∀ j, pv m c t j = (outsAt0 m c (t.val - 1) (Nat.lt_of_le_of_lt (Nat.sub_le _ _) t.isLt)).2.2.2 j := fun j => if_neg h0
    by_cases h1 : t.val % 32 = 31
    · have e := outsAt0_C m c t h0 h1
      have P := Q.2.2 (fun h => h0 ((hcond0_0 t).mp h)) ((hcond0_1 t).mpr h1)
      refine ⟨fun k hk s a => (congrArg (fun p => p.2.2.2 (ix3 (⟨k, by omega⟩ : Fin 32) s a)) e).trans ((P.1 k hk s a).trans ?_),
        fun s a => (congrArg (fun p => p.2.2.2 (ix3 (⟨31, by omega⟩ : Fin 32) s a)) e).trans ((P.2.1 s a).trans ?_),
        fun q hq r a => (congrArg (fun p => p.1 (ix2 (⟨64 * q + r.val, by omega⟩ : Fin 256) a)) e).trans ((P.2.2 q hq r a).trans (g3 q hq r a))⟩
      · rw [z]; exact g1 k hk s a _
      · rw [z, g2]
    · have e := outsAt0_B m c t h0 h1
      have P := Q.2.1 (fun h => h0 ((hcond0_0 t).mp h)) (fun h => h1 ((hcond0_1 t).mp h))
      refine ⟨fun k hk s a => (congrArg (fun p => p.2.2.2 (ix3 (⟨k, by omega⟩ : Fin 32) s a)) e).trans ((P.1 k hk s a).trans ?_),
        fun s a => (congrArg (fun p => p.2.2.2 (ix3 (⟨31, by omega⟩ : Fin 32) s a)) e).trans ((P.2.1 s a).trans ?_),
        fun q hq r a => (congrArg (fun p => p.1 (ix2 (⟨64 * q + r.val, by omega⟩ : Fin 256) a)) e).trans ((P.2.2 q hq r a).trans (g3 q hq r a))⟩
      · rw [z]; exact g1 k hk s a _
      · rw [z, g2]

/-- The accumulator over the row blocks so far. -/
theorem fold (j : S32x8x256.Idx) (p : ℕ → ℕ → EReal) (hp : ∀ t : Fin cfg0.N, ((outsAt0 m c t.val t.isLt).2.2.2 j : EReal) = pv m c t j + p (t.val / 32) (t.val % 32)) :
    ∀ t (h : t < cfg0.N), ((outsAt0 m c t h).2.2.2 j : EReal) = ∑ i ∈ Finset.range (t % 32 + 1), p (t / 32) i :=
  fold_cols 32 (by omega) (fun t h => (outsAt0 m c t h).2.2.2 j) p
    (fun t h h0 => by
      have e := hp ⟨t, h⟩
      rw [show pv m c ⟨t, h⟩ j = 0 from if_pos h0, zero_add] at e
      exact e.trans (by rw [show (⟨t, h⟩ : Fin cfg0.N).val = t from rfl, h0]))
    (fun t h h0 => (hp ⟨t, h⟩).trans (congrArg (fun z : EReal => z + p (t / 32) (t % 32)) (if_neg h0)))

theorem tap_sum (h : t.val % 32 = 31) (k : ℕ) (hk : k < 31) (a : Fin 256) : ∑ s : Fin 8, ((outsAt0 m c t.val t.isLt).2.2.2 (ix3 (⟨k, by omega⟩ : Fin 32) s a) : EReal) = ∑ n ∈ Finset.range 8192, H m c (256 * (t.val / 32) + a.val) k n := by
  rw [← total]
  refine Finset.sum_congr rfl fun s _ => ?_
  refine (fold _ (part m c k s a) (fun t => (point t).1 k hk s a) t.val t.isLt).trans ?_
  rw [h]
  rfl

theorem ct_sum (h : t.val % 32 = 31) (a : Fin 256) : ∑ s : Fin 8, ((outsAt0 m c t.val t.isLt).2.2.2 (ix3 (31 : Fin 32) s a) : EReal) = ∑ n ∈ Finset.range 8192, cn (D m c) (256 * (t.val / 32) + a.val) n := by
  rw [← total']
  refine Finset.sum_congr rfl fun s _ => ?_
  refine (fold _ (fun J i => ∑ j : Fin 32, cn (D m c) (256 * J + a.val) (256 * i + (j.val * 8 + s.val))) (fun t => (point t).2.1 s a) t.val t.isLt).trans ?_
  rw [h]

theorem dw_at (h : t.val % 32 = 31) (k : Fin 32) (a : Fin 256) : ((outsAt0 m c t.val t.isLt).2.1 (ix2 k a) : EReal) = if k.val < 31 then ∑ n ∈ Finset.range 8192, H m c (256 * (t.val / 32) + a.val) k.val n else 0 := by
  have e := outsAt0_C m c t (by omega) h
  have es := congrArg (fun p => p.2.2.2) e
  refine (congrArg (fun p => p.2.1 (ix2 k a)) e).trans ?_
  dsimp only at es ⊢
  refine (congrFun (weights _ _ _ _ _ _ _ _) (ix2 k a)).trans ?_
  rw [← es, pay3_at]
  by_cases hk : k.val < 31
  · rw [if_pos hk, if_pos hk]
    exact tap_sum t h k.val hk a
  · rw [if_neg hk, if_neg hk]

theorem db_at (h : t.val % 32 = 31) (a : Fin 256) : ((outsAt0 m c t.val t.isLt).2.2.1 (ix2 (0 : Fin 1) a) : EReal) = ∑ n ∈ Finset.range 8192, cn (D m c) (256 * (t.val / 32) + a.val) n := by
  have e := outsAt0_C m c t (by omega) h
  have es := congrArg (fun p => p.2.2.2) e
  refine (congrArg (fun p => p.2.2.1 (ix2 (0 : Fin 1) a)) e).trans ?_
  dsimp only at es ⊢
  refine (congrFun (offset _ _ _ _ _ _ _ _) (ix2 (0 : Fin 1) a)).trans ?_
  rw [← es, pay4_at]
  exact ct_sum t h a

end

section

open Cert.ConvBwdIdeal Cert.ConvBwdIdeal.Gen Idealize.ShloMosaic TcCoe Idealize.SL.Sem
open Idealize.ShloMosaic.Pipeline (Dat)

variable (m : (ℓ : Loc nD τ sig) → Buf (Elt Ideal) ℓ) (ρ : Dev nD → PrngReg) (c : Dev nD) (t : Fin cfg0.N)

theorem flushed5 : (dats m 0 c).flushed 5 t = (cfg0.win 5).cut (grid0.coords t) ((outsAt0 m c t.val t.isLt).1) := by
  show (cfg0.win 5).cut (grid0.coords t) ((dats m 0 c).after 5 t) = _
  rw [after0_5]

theorem flushed6 : (dats m 0 c).flushed 6 t = (cfg0.win 6).cut (grid0.coords t) ((outsAt0 m c t.val t.isLt).2.1) := by
  show (cfg0.win 6).cut (grid0.coords t) ((dats m 0 c).after 6 t) = _
  rw [after0_6]

theorem flushed7 : (dats m 0 c).flushed 7 t = (cfg0.win 7).cut (grid0.coords t) ((outsAt0 m c t.val t.isLt).2.2.1) := by
  show (cfg0.win 7).cut (grid0.coords t) ((dats m 0 c).after 7 t) = _
  rw [after0_7]

theorem inj5 : ∀ t t' : Fin cfg0.N, (cfg0.win 5).index t = (cfg0.win 5).index t' → t = t' := (by decide +kernel : ∀ t t' : Fin grid0.N, win0_5.index t = win0_5.index t' → t = t')

theorem inj6 (t t' : Fin cfg0.N) (ht : t.val % 32 = 31) (ht' : t'.val % 32 = 31) (h : (cfg0.win 6).index t = (cfg0.win 6).index t') : t = t' := by
  obtain ⟨-, -, -, -, -, -, ⟨-, e⟩, -⟩ := idx_facts t
  obtain ⟨-, -, -, -, -, -, ⟨-, e'⟩, -⟩ := idx_facts t'
  have h : win0_6.index t ax1 = win0_6.index t' ax1 := congrFun h 1
  exact Fin.ext (by omega)

theorem inj7 (t t' : Fin cfg0.N) (ht : t.val % 32 = 31) (ht' : t'.val % 32 = 31) (h : (cfg0.win 7).index t = (cfg0.win 7).index t') : t = t' := by
  obtain ⟨-, -, -, -, -, -, -, ⟨-, e⟩⟩ := idx_facts t
  obtain ⟨-, -, -, -, -, -, -, ⟨-, e'⟩⟩ := idx_facts t'
  have h : win0_7.index t ax1 = win0_7.index t' ax1 := congrFun h 1
  exact Fin.ext (by omega)

/-- The input's gradient. -/
theorem arr5 (q : Fin 8192) (b : Fin 1024) : ((dats m 0 c).arrAt 5 cfg0.N (ix2 q b) : EReal) = ∑ k ∈ Finset.range 31, sh k (col (D m c) b) (15 + q.val) * col (Wt m c) b k := by
  have hN : cfg0.N = 128 := N_0
  obtain ⟨t, ht⟩ : ∃ t : Fin cfg0.N, t.val = 32 * (b.val / 256) + q.val / 256 := ⟨⟨32 * (b.val / 256) + q.val / 256, by omega⟩, rfl⟩
  obtain ⟨-, -, -, -, -, ⟨e0, e1⟩, -⟩ := idx_facts t
  have hb := (dats m 0 c).read_blk_arrAt_eq_flushed 5 (fun t t' _ _ hne => (cfg0.win 5).disjoint_blk fun h => hne (inj5 t t' h)) cfg0.N t t.isLt (flush0_5 t)
  rw [flushed5] at hb
  have hl : 64 * (q.val % 256 / 64) + (⟨q.val % 64, by omega⟩ : Fin 64).val = q.val % 256 := by show 64 * (q.val % 256 / 64) + q.val % 64 = _; omega
  have hc : cl t (⟨b.val % 256, by omega⟩ : Fin 256) = b := Fin.ext (by show 256 * (t.val / 32) + b.val % 256 = b.val; omega)
  refine Eq.trans (Eq.trans (Eq.symm ?_) (congrFun hb (ix2 (⟨64 * (q.val % 256 / 64) + (⟨q.val % 64, by omega⟩ : Fin 64).val, by omega⟩ : Fin 256) (⟨b.val % 256, by omega⟩ : Fin 256)))) ((((point (m := m) (c := c) t).2.2 (q.val % 256 / 64) (by omega) (⟨q.val % 64, by omega⟩ : Fin 64) (⟨b.val % 256, by omega⟩ : Fin 256))).trans ?_)
  · exact (read2 ((dats m 0 c).arrAt 5 cfg0.N) _ _ (by show q.val = win0_5.index t ax0 * 256 + 1 * (64 * (q.val % 256 / 64) + q.val % 64); omega) (by show b.val = win0_5.index t ax1 * 256 + 1 * (b.val % 256); omega)).symm
  · rw [hc, hl, show 256 * (t.val % 32) + q.val % 256 = q.val by omega]

/-- The weights' gradient. -/
theorem arr6 (k : Fin 32) (b : Fin 1024) : ((dats m 0 c).arrAt 6 cfg0.N (ix2 k b) : EReal) = if k.val < 31 then ∑ n ∈ Finset.range 8192, sh k.val (col (D m c) b) (15 + n) * col (X m c) b n else 0 := by
  have hN : cfg0.N = 128 := N_0
  obtain ⟨t, ht⟩ : ∃ t : Fin cfg0.N, t.val = 32 * (b.val / 256) + 31 := ⟨⟨32 * (b.val / 256) + 31, by omega⟩, rfl⟩
  obtain ⟨-, -, -, -, -, -, ⟨e0, e1⟩, -⟩ := idx_facts t
  have hb := (dats m 0 c).read_blk_arrAt_eq_flushed 6 (fun t t' ht ht' hne => (cfg0.win 6).disjoint_blk fun h => hne (inj6 t t' ((flush0_6 t).mp ht) ((flush0_6 t').mp ht') h)) cfg0.N t t.isLt ((flush0_6 t).mpr (by omega))
  rw [flushed6] at hb
  refine Eq.trans (Eq.trans (Eq.symm ?_) (congrFun hb (ix2 k (⟨b.val % 256, by omega⟩ : Fin 256)))) ((dw_at (m := m) (c := c) t (by omega) k (⟨b.val % 256, by omega⟩ : Fin 256)).trans ?_)
  · exact (read2 ((dats m 0 c).arrAt 6 cfg0.N) _ _ (by show k.val = win0_6.index t ax0 * 32 + 1 * k.val; omega) (by show b.val = win0_6.index t ax1 * 256 + 1 * (b.val % 256); omega)).symm
  · unfold H
    rw [show 256 * (t.val / 32) + (⟨b.val % 256, by omega⟩ : Fin 256).val = b.val by show 256 * (t.val / 32) + b.val % 256 = b.val; omega, cn_of, cn_of]

/-- The offset's gradient. -/
theorem arr7 (b : Fin 1024) : ((dats m 0 c).arrAt 7 cfg0.N (ix2 (0 : Fin 1) b) : EReal) = ∑ n ∈ Finset.range 8192, col (D m c) b n := by
  have hN : cfg0.N = 128 := N_0
  obtain ⟨t, ht⟩ : ∃ t : Fin cfg0.N, t.val = 32 * (b.val / 256) + 31 := ⟨⟨32 * (b.val / 256) + 31, by omega⟩, rfl⟩
  obtain ⟨-, -, -, -, -, -, -, ⟨e0, e1⟩⟩ := idx_facts t
  have hb := (dats m 0 c).read_blk_arrAt_eq_flushed 7 (fun t t' ht ht' hne => (cfg0.win 7).disjoint_blk fun h => hne (inj7 t t' ((flush0_7 t).mp ht) ((flush0_7 t').mp ht') h)) cfg0.N t t.isLt ((flush0_7 t).mpr (by omega))
  rw [flushed7] at hb
  refine Eq.trans (Eq.trans (Eq.symm ?_) (congrFun hb (ix2 (0 : Fin 1) (⟨b.val % 256, by omega⟩ : Fin 256)))) ((db_at (m := m) (c := c) t (by omega) (⟨b.val % 256, by omega⟩ : Fin 256)).trans ?_)
  · exact (read2 ((dats m 0 c).arrAt 7 cfg0.N) _ _ (by show 0 = win0_7.index t ax0 * 1 + 1 * 0; omega) (by show b.val = win0_7.index t ax1 * 256 + 1 * (b.val % 256); omega)).symm
  · rw [show 256 * (t.val / 32) + (⟨b.val % 256, by omega⟩ : Fin 256).val = b.val by show 256 * (t.val / 32) + b.val % 256 = b.val; omega, cn_of]

/-- The kernel's run, its results read off the grid's last point. -/
theorem run : θ_run defs (onTc (τ := τ) (main (F := Ideal))) ⟨m, fun _ => 0, ρ⟩ fun r => ∀ c : Dev nD,
      r.2.mem (lc c main_v1_0) = (dats m 0 c).arrAt 5 cfg0.N
      ∧ r.2.mem (lc c main_v1_1) = (dats m 0 c).arrAt 6 cfg0.N
      ∧ r.2.mem (lc c main_v1_2) = (dats m 0 c).arrAt 7 cfg0.N
      ∧ r.2.mem (lc c main_arg0) = m (lc c main_arg0)
      ∧ r.2.mem (lc c main_arg1) = m (lc c main_arg1)
      ∧ r.2.mem (lc c main_arg2) = m (lc c main_arg2) :=
  (θ_run defs _ _).mono (fun r h c => ⟨(h c).1 5, (h c).1 6, (h c).1 7,
      ((h c).1 2).trans (((dats m 0 c).arrAt_in 2 rfl _).trans ((A_eq m c 2).trans (V_main_arg0 m c))),
      ((h c).1 3).trans (((dats m 0 c).arrAt_in 3 rfl _).trans ((A_eq m c 3).trans (V_main_arg1 m c))),
      ((h c).2 main_arg2 (Pipeline.mem_restRefs_of main_arg2 (by decide) (by decide))).trans (V_main_arg2 m c)⟩) (run_main m ρ)

end

section

open Idealize.ShloMosaic Idealize.SL.Sem TcCoe

/-- Over the extended reals the kernel's gradients of the convolution's input, weights and offset are `jax.vjp`'s. -/
theorem algebraic : Cert.algebraic_ConvBwdIdeal_ConvBwdRefIdeal := fun m ρ m' ρ' _ hag =>
  ⟨fun c => (Cert.ConvBwdIdeal.Gen.dats m 0 c).arrAt 5 Cert.ConvBwdIdeal.cfg0.N, fun c => (Cert.ConvBwdIdeal.Gen.dats m 0 c).arrAt 6 Cert.ConvBwdIdeal.cfg0.N,
    fun c => (Cert.ConvBwdIdeal.Gen.dats m 0 c).arrAt 7 Cert.ConvBwdIdeal.cfg0.N, run m ρ,
    (θ_run _ _ _).mono (fun r h c => by
      obtain ⟨a0, a1, a2⟩ := hag c
      have b0 : StableHlo.launchContents m' c (Proc.tc.devRef Cert.ConvBwdRefIdeal.main_arg0) = m ((c : Thread Cert.ConvBwdIdeal.nD Cert.ConvBwdIdeal.τ).loc Cert.ConvBwdIdeal.main_arg0) := a0
      have b1 : StableHlo.launchContents m' c (Proc.tc.devRef Cert.ConvBwdRefIdeal.main_arg1) = m ((c : Thread Cert.ConvBwdIdeal.nD Cert.ConvBwdIdeal.τ).loc Cert.ConvBwdIdeal.main_arg1) := a1
      have b2 : StableHlo.launchContents m' c (Proc.tc.devRef Cert.ConvBwdRefIdeal.main_arg2) = m ((c : Thread Cert.ConvBwdIdeal.nD Cert.ConvBwdIdeal.τ).loc Cert.ConvBwdIdeal.main_arg2) := a2
      obtain ⟨q0, q1, q2, rest⟩ := h c
      refine ⟨?_, ?_, ?_, rest⟩
      · rw [q0, Cert.ConvBwdRefIdeal.Read.val_main_v568_eq, b0, b2]
        refine ext2 _ _ fun i0 i1 => ?_
        exact (r568 _ _ i1 i0).trans (arr5 m c i0 i1).symm
      · rw [q1, Cert.ConvBwdRefIdeal.Read.val_main_v571_eq, b0, b1]
        refine ext2 _ _ fun i0 i1 => ?_
        refine (r571 _ _ i1 i0).trans (Eq.trans ?_ (arr6 m c i0 i1).symm)
        by_cases hk : i0.val < 31
        · rw [if_pos hk, if_pos hk, taps i0.val hk _ _ (col_out _ _) (col_out _ _), ← Fin.sum_univ_eq_sum_range (fun n => sh 15 (col (X m c) i1) (i0.val + n) * col (D m c) i1 n)]
          exact Finset.sum_congr rfl fun t _ => congrArg (fun z => sh 15 (col (X m c) i1) (i0.val + t.val) * z) (col_of (D m c) i1 t.val t.isLt).symm
        · rw [if_neg hk, if_neg hk]
      · rw [q2, Cert.ConvBwdRefIdeal.Read.val_main_v227_eq, b0]
        refine ext2 _ _ fun i0 i1 => ?_
        obtain rfl : i0 = 0 := Subsingleton.elim _ _
        refine (r227 _ i1).trans (Eq.trans ?_ (arr7 m c i1).symm)
        rw [← Fin.sum_univ_eq_sum_range (fun n => col (D m c) i1 n)]
        exact Finset.sum_congr rfl fun t _ => (col_of (D m c) i1 t.val t.isLt).symm)
      (Cert.ConvBwdRefIdeal.Value.run m' ρ')⟩

end

end Cert.Conv

end
-- ==== Proof.ConvLn.lean ====
/- Hand-written, untrusted: the gradient of the gate after the convolution's layer norm. -/
module

public import proofs.«01_k».proof.Proof.Norm
public import proofs.«01_k».proof.Proof.Finite
public import proofs.«01_k».proof.Proof.Gen.Pre_finite_conv_ln_silu_bwd
public import proofs.«01_k».proof.Proof.Gen.ConvLnSiluBwdIdeal.Value
public import proofs.«01_k».proof.Proof.Gen.ConvLnSiluBwdRefIdeal.Read

@[expose] public section

set_option maxRecDepth 16384

noncomputable section

namespace Cert.ConvLn

open Cert.Common Cert.Norm

section

open Cert.ConvLnSiluBwdIdeal Cert.ConvLnSiluBwdIdeal.Gen Idealize.ShloMosaic TcCoe Idealize.SL.Sem

variable (u d : Vec Ideal S512x1024 .f32) (g b : Vec Ideal S1x1024 .f32) (z dr : Fin 512 → Fin 1024 → ℝ) (gr br : Fin 1024 → ℝ)
  (hu : ∀ r k, (u (ix2 r k) : EReal) = (z r k : ℝ)) (hd : ∀ r k, (d (ix2 r k) : EReal) = (dr r k : ℝ))
  (hg : ∀ k, (g (ix2 0 k) : EReal) = (gr k : ℝ)) (hb : ∀ k, (b (ix2 0 k) : EReal) = (br k : ℝ))

include hu in
theorem pay6 (r : Fin 512) (k : Fin 1024) : (k0_pay6 u (ix2 r k) : EReal) = (cen (z r) k : ℝ) := by
  unfold k0_pay6
  pointwise
  rw [mean_coe (z r) (by decide) _ (hu r) _ ofBits_1024, hu, ← EReal.coe_sub]
  rfl

include hu in
theorem pay7 (r : Fin 512) (j : Fin 1) : (k0_pay7 u (ix2 r j) : EReal) = (rs eps (z r) : ℝ) := by
  have h6 := pay6 u z hu r
  unfold k0_pay7
  generalize k0_pay6 u = v at h6 ⊢
  pointwise
  exact rs_coe eps (z r) (by decide) eps_pos _ h6 _ _ ofBits_1024 ofBits_eps

include hu in
theorem pay8 (r : Fin 512) (k : Fin 1024) : (k0_pay8 u (ix2 r k) : EReal) = (xh eps (z r) k : ℝ) := by
  have h6 := pay6 u z hu r
  have h7 := pay7 u z hu r
  unfold k0_pay8
  generalize k0_pay6 u = v at h6 ⊢
  generalize k0_pay7 u = w at h7 ⊢
  pointwise
  rw [h6, h7, ← EReal.coe_mul]
  rfl

/-- The row that the gate reads. -/
def yy (z gr br : Fin 1024 → ℝ) (k : Fin 1024) : ℝ := xh eps z k * gr k + br k

include hu hd hg hb in
theorem pay9 (r : Fin 512) (k : Fin 1024) : (k0_pay9 u g b d (ix2 r k) : EReal) = (dsilu (yy (z r) gr br k) (dr r k) : ℝ) := by
  have h8 := pay8 u z hu r
  unfold k0_pay9
  generalize k0_pay8 u = v at h8 ⊢
  pointwise
  rw [h8, hg, hb, hd, ← EReal.coe_mul, ← EReal.coe_add]
  exact dsilu_coe _ _

include hu hd hg hb in
theorem pay10 (r : Fin 512) (k : Fin 1024) : (k0_pay10 u g b d (ix2 r k) : EReal) = (dsilu (yy (z r) gr br k) (dr r k) * xh eps (z r) k : ℝ) := by
  have h8 := pay8 u z hu r
  have h9 := pay9 u d g b z dr gr br hu hd hg hb r
  unfold k0_pay10
  generalize k0_pay8 u = v at h8 ⊢
  generalize k0_pay9 u g b d = w at h9 ⊢
  pointwise
  rw [h8, h9, ← EReal.coe_mul]

include hu hd hg hb in
theorem pay5 (r : Fin 512) (k : Fin 1024) : (k0_pay5 (k0_pay7 u) (k0_pay8 u) (k0_pay9 u g b d) g (ix2 r k) : EReal)
    = (back eps (z r) (fun k => dsilu (yy (z r) gr br k) (dr r k) * gr k) k : ℝ) := by
  have h7 := pay7 u z hu r
  have h8 := pay8 u z hu r
  have h9 := pay9 u d g b z dr gr br hu hd hg hb r
  unfold k0_pay5
  generalize k0_pay7 u = x at h7 ⊢
  generalize k0_pay8 u = v at h8 ⊢
  generalize k0_pay9 u g b d = w at h9 ⊢
  pointwise
  exact back_coe eps (z r) (fun k => dsilu (yy (z r) gr br k) (dr r k) * gr k) (by decide) _ (h7 0) (fun k => (w (ix2 r k) : EReal) * (g (ix2 0 k) : EReal)) (fun k => v (ix2 r k))
    (fun k => by rw [h9, hg]; exact (EReal.coe_mul _ _).symm) h8 _ ofBits_1024 k

/-- The sum of a block's rows. -/
theorem pay1 (v : FVec Ideal S512x1024 .f32) (k : Fin 1024) : (k0_pay1 v (ix2 0 k) : EReal) = ∑ r, (v (ix2 r k) : EReal) := by
  unfold k0_pay1
  pointwise

theorem pay3 (v : FVec Ideal S512x1024 .f32) (k : Fin 1024) : (k0_pay3 v (ix2 0 k) : EReal) = ∑ r, (v (ix2 r k) : EReal) := by
  unfold k0_pay3
  pointwise

theorem pay2 (v : FVec Ideal S512x1024 .f32) (a : Vec Ideal S1x1024 .f32) (k : Fin 1024) : (k0_pay2 v a (ix2 0 k) : EReal) = (a (ix2 0 k) : EReal) + ∑ r, (v (ix2 r k) : EReal) := by
  unfold k0_pay2 k0_pay1
  pointwise

theorem pay4 (v : FVec Ideal S512x1024 .f32) (a : Vec Ideal S1x1024 .f32) (k : Fin 1024) : (k0_pay4 v a (ix2 0 k) : EReal) = (a (ix2 0 k) : EReal) + ∑ r, (v (ix2 r k) : EReal) := by
  unfold k0_pay4 k0_pay3
  pointwise

variable {c : Dev nD} {i : grid0.Coords} {arg1 : Memref sig .tc .vmem S512x1024 .f32} {hw1 : arg1.IsWhole} {arg2 : Memref sig .tc .vmem S512x1024 .f32} {hw2 : arg2.IsWhole} {arg3 : Memref sig .tc .vmem S1x1024 .f32} {hw3 : arg3.IsWhole} {arg4 : Memref sig .tc .vmem S1x1024 .f32} {hw4 : arg4.IsWhole} {arg5 : Memref sig .tc .vmem S512x1024 .f32} {hw5 : arg5.IsWhole} {arg6 : Memref sig .tc .vmem S1x1024 .f32} {hw6 : arg6.IsWhole} {arg7 : Memref sig .tc .vmem S1x1024 .f32} {hw7 : arg7.IsWhole}

theorem A_4 (hc0 : cond0_0 i) (hc1 : ¬cond0_1 i) (hc2 : cond0_2 i) (hc3 : ¬cond0_3 i) : out0_A_4 c i _ hw1 _ hw2 _ hw3 _ hw4 _ hw5 _ hw6 _ hw7 hc0 hc1 hc2 hc3 d u g b = k0_pay5 (k0_pay7 u) (k0_pay8 u) (k0_pay9 u g b d) g := by
  unfold out0_A_4
  rw [wr (fun _ => cover0_A_4 ..)]
  unfold kernelRun0_A
  dsimp only
  sl_unfold_words
  simp (disch := assumption) only [rd, ld0 S512x1024, ld0 S1x1024, c0 S512x1024]
  try rfl

theorem A_5 (hc0 : cond0_0 i) (hc1 : ¬cond0_1 i) (hc2 : cond0_2 i) (hc3 : ¬cond0_3 i) : out0_A_5 c i _ hw1 _ hw2 _ hw3 _ hw4 _ hw5 _ hw6 _ hw7 hc0 hc1 hc2 hc3 d u g b = k0_pay1 (k0_pay10 u g b d) := by
  unfold out0_A_5
  rw [wr (fun _ => cover0_A_5 ..)]
  unfold kernelRun0_A
  dsimp only
  sl_unfold_words
  simp (disch := assumption) only [rd, ld0 S512x1024, ld0 S1x1024, c0 S1x1024]
  try rfl

theorem A_6 (hc0 : cond0_0 i) (hc1 : ¬cond0_1 i) (hc2 : cond0_2 i) (hc3 : ¬cond0_3 i) : out0_A_6 c i _ hw1 _ hw2 _ hw3 _ hw4 _ hw5 _ hw6 _ hw7 hc0 hc1 hc2 hc3 d u g b = k0_pay3 (k0_pay9 u g b d) := by
  unfold out0_A_6
  rw [wr (fun _ => cover0_A_6 ..)]
  unfold kernelRun0_A
  dsimp only
  sl_unfold_words
  simp (disch := assumption) only [rd, ld0 S512x1024, ld0 S1x1024, c0 S1x1024]
  try rfl

theorem B_4 (p q : Vec Ideal S1x1024 .f32) (hc0 : ¬cond0_0 i) (hc1 : cond0_1 i) (hc2 : ¬cond0_2 i) (hc3 : cond0_3 i) : out0_B_4 c i _ hw1 _ hw2 _ hw3 _ hw4 _ hw5 _ hw6 _ hw7 hc0 hc1 hc2 hc3 d u g b p q = k0_pay5 (k0_pay7 u) (k0_pay8 u) (k0_pay9 u g b d) g := by
  unfold out0_B_4
  rw [wr (fun _ => cover0_B_4 ..)]
  unfold kernelRun0_B
  dsimp only
  sl_unfold_words
  simp (disch := assumption) only [rd, ld0 S512x1024, ld0 S1x1024, c0 S512x1024]
  try rfl

theorem B_5 (p q : Vec Ideal S1x1024 .f32) (hc0 : ¬cond0_0 i) (hc1 : cond0_1 i) (hc2 : ¬cond0_2 i) (hc3 : cond0_3 i) : out0_B_5 c i _ hw1 _ hw2 _ hw3 _ hw4 _ hw5 _ hw6 _ hw7 hc0 hc1 hc2 hc3 d u g b p q = k0_pay2 (k0_pay10 u g b d) p := by
  unfold out0_B_5
  rw [wr (fun _ => cover0_B_5 ..)]
  unfold kernelRun0_B
  dsimp only
  sl_unfold_words
  simp (disch := assumption) only [rd, ld0 S512x1024, ld0 S1x1024, c0 S1x1024]
  try rfl

theorem B_6 (p q : Vec Ideal S1x1024 .f32) (hc0 : ¬cond0_0 i) (hc1 : cond0_1 i) (hc2 : ¬cond0_2 i) (hc3 : cond0_3 i) : out0_B_6 c i _ hw1 _ hw2 _ hw3 _ hw4 _ hw5 _ hw6 _ hw7 hc0 hc1 hc2 hc3 d u g b p q = k0_pay4 (k0_pay9 u g b d) q := by
  unfold out0_B_6
  rw [wr (fun _ => cover0_B_6 ..)]
  unfold kernelRun0_B
  dsimp only
  sl_unfold_words
  simp (disch := assumption) only [rd, ld0 S512x1024, ld0 S1x1024, c0 S1x1024]
  try rfl

/-! tail -/

end

section

open Cert.ConvLnSiluBwdIdeal Cert.ConvLnSiluBwdIdeal.Gen Idealize.ShloMosaic TcCoe Idealize.SL.Sem

/-- The rows' gradients before the layer norm. -/
def dY (D : Fin 8192 → Fin 2048 → ℝ) (Z : Fin 8192 → Fin 1024 → ℝ) (G B : Fin 1024 → ℝ) (r : Fin 8192) (k : Fin 1024) : ℝ :=
  dsilu (yy (Z r) G B k) (D r ⟨1024 + k.val, by omega⟩)

/-- The arguments are arrays of real numbers. -/
def Reals (m : (ℓ : Loc nD τ sig) → Buf (Elt Ideal) ℓ) (c : Dev nD) (D : Fin 8192 → Fin 2048 → ℝ) (Z : Fin 8192 → Fin 1024 → ℝ) (G B : Fin 1024 → ℝ) : Prop :=
  (∀ r k, @Eq EReal ((m (lc c main_arg0) : S8192x2048.Idx → EReal) (ix2 r k)) (D r k : ℝ))
  ∧ (∀ r k, @Eq EReal ((m (lc c main_arg1) : S8192x1024.Idx → EReal) (ix2 r k)) (Z r k : ℝ))
  ∧ (∀ k, @Eq EReal ((m (lc c main_arg2) : S1x1024.Idx → EReal) (ix2 0 k)) (G k : ℝ))
  ∧ (∀ k, @Eq EReal ((m (lc c main_arg3) : S1x1024.Idx → EReal) (ix2 0 k)) (B k : ℝ))

theorem idx_facts : ∀ t : Fin grid0.N, (win0_0.index t ax0 = t.val ∧ win0_0.index t ax1 = 1) ∧ (win0_1.index t ax0 = t.val ∧ win0_1.index t ax1 = 0)
    ∧ (win0_2.index t ax0 = 0 ∧ win0_2.index t ax1 = 0) ∧ (win0_3.index t ax0 = 0 ∧ win0_3.index t ax1 = 0)
    ∧ (win0_4.index t ax0 = t.val ∧ win0_4.index t ax1 = 0) ∧ (win0_5.index t ax0 = 0 ∧ win0_5.index t ax1 = 0)
    ∧ (win0_6.index t ax0 = 0 ∧ win0_6.index t ax1 = 0) := by
  decide +kernel

variable {m : (ℓ : Loc nD τ sig) → Buf (Elt Ideal) ℓ} {c : Dev nD} {D : Fin 8192 → Fin 2048 → ℝ} {Z : Fin 8192 → Fin 1024 → ℝ} {G B : Fin 1024 → ℝ} (H : Reals m c D Z G B) (t : Fin cfg0.N)

/-- Row `r` of tile `t`. -/
def at_ (a : Fin cfg0.N) (r : Fin 512) : Fin 8192 := ⟨512 * a.val + r.val, by have h : a.val < 16 := a.isLt; omega⟩

include H

theorem blk_d (r : Fin 512) (k : Fin 1024) : (iblk m c 0 t (ix2 r k) : EReal) = ((D (at_ t r) ⟨1024 + k.val, by omega⟩ : ℝ) : EReal) := by
  obtain ⟨⟨e0, e1⟩, -⟩ := idx_facts t
  refine Eq.trans ?_ (H.1 (at_ t r) ⟨1024 + k.val, by omega⟩)
  exact read2 (m (lc c main_arg0)) _ _ (by show win0_0.index t ax0 * 512 + 1 * r.val = 512 * t.val + r.val; omega) (by show win0_0.index t ax1 * 1024 + 1 * k.val = 1024 + k.val; omega)

theorem blk_u (r : Fin 512) (k : Fin 1024) : (iblk m c 1 t (ix2 r k) : EReal) = ((Z (at_ t r) k : ℝ) : EReal) := by
  obtain ⟨-, ⟨e0, e1⟩, -⟩ := idx_facts t
  refine Eq.trans ?_ (H.2.1 (at_ t r) k)
  exact read2 (m (lc c main_arg1)) _ _ (by show win0_1.index t ax0 * 512 + 1 * r.val = 512 * t.val + r.val; omega) (by show win0_1.index t ax1 * 1024 + 1 * k.val = k.val; omega)

theorem blk_g (k : Fin 1024) : (iblk m c 2 t (ix2 0 k) : EReal) = ((G k : ℝ) : EReal) := by
  obtain ⟨-, -, ⟨e0, e1⟩, -⟩ := idx_facts t
  refine Eq.trans ?_ (H.2.2.1 k)
  exact read2 (m (lc c main_arg2)) _ _ (by show win0_2.index t ax0 * 1 + 1 * 0 = 0; omega) (by show win0_2.index t ax1 * 1024 + 1 * k.val = k.val; omega)

theorem blk_b (k : Fin 1024) : (iblk m c 3 t (ix2 0 k) : EReal) = ((B k : ℝ) : EReal) := by
  obtain ⟨-, -, -, ⟨e0, e1⟩, -⟩ := idx_facts t
  refine Eq.trans ?_ (H.2.2.2 k)
  exact read2 (m (lc c main_arg3)) _ _ (by show win0_3.index t ax0 * 1 + 1 * 0 = 0; omega) (by show win0_3.index t ax1 * 1024 + 1 * k.val = k.val; omega)

theorem pt4 (r : Fin 512) (k : Fin 1024) : ((outsAt0 m c t.val t.isLt).1 (ix2 r k) : EReal) = (back eps (Z (at_ t r)) (fun k => dY D Z G B (at_ t r) k * G k) k : ℝ) := by
  have hv := pay5 _ _ _ _ (fun r => Z (at_ t r)) (fun r k => D (at_ t r) ⟨1024 + k.val, by omega⟩) G B (blk_u H t) (blk_d H t) (blk_g H t) (blk_b H t) r k
  have hN : t.val < 16 := t.isLt
  by_cases h0 : t.val = 0
  · refine Eq.trans (congrFun (congrArg (fun p => p.1) (outsAt0_A m c t (by omega) (by omega) (by omega) (by omega))) (ix2 r k)) ?_
    dsimp only
    exact (congrFun (A_4 _ _ _ _ _ _ _ _) (ix2 r k)).trans hv
  · refine Eq.trans (congrFun (congrArg (fun p => p.1) (outsAt0_B m c t (by omega) (by omega) (by omega) (by omega))) (ix2 r k)) ?_
    dsimp only
    exact (congrFun (B_4 _ _ _ _ _ _ _ _ _ _) (ix2 r k)).trans hv

/-- The rows' parts of the scale's and of the offset's gradient. -/
def fg (D : Fin 8192 → Fin 2048 → ℝ) (Z : Fin 8192 → Fin 1024 → ℝ) (G B : Fin 1024 → ℝ) (k : Fin 1024) (r : Fin 8192) : EReal := ((dY D Z G B r k * xh eps (Z r) k : ℝ) : EReal)

def fb (D : Fin 8192 → Fin 2048 → ℝ) (Z : Fin 8192 → Fin 1024 → ℝ) (G B : Fin 1024 → ℝ) (k : Fin 1024) (r : Fin 8192) : EReal := ((dY D Z G B r k : ℝ) : EReal)

theorem tile_g (k : Fin 1024) : ∑ r, (k0_pay10 (iblk m c 1 t) (iblk m c 2 t) (iblk m c 3 t) (iblk m c 0 t) (ix2 r k) : EReal) = ∑ r : Fin 512, ext0 (fg D Z G B k) (512 * t.val + r.val) :=
  Finset.sum_congr rfl fun r _ => (pay10 _ _ _ _ (fun r => Z (at_ t r)) (fun r k => D (at_ t r) ⟨1024 + k.val, by omega⟩) G B (blk_u H t) (blk_d H t) (blk_g H t) (blk_b H t) r k).trans
    (ext0_of (fg D Z G B k) (512 * t.val + r.val) (at_ t r).isLt).symm

theorem tile_b (k : Fin 1024) : ∑ r, (k0_pay9 (iblk m c 1 t) (iblk m c 2 t) (iblk m c 3 t) (iblk m c 0 t) (ix2 r k) : EReal) = ∑ r : Fin 512, ext0 (fb D Z G B k) (512 * t.val + r.val) :=
  Finset.sum_congr rfl fun r _ => (pay9 _ _ _ _ (fun r => Z (at_ t r)) (fun r k => D (at_ t r) ⟨1024 + k.val, by omega⟩) G B (blk_u H t) (blk_d H t) (blk_g H t) (blk_b H t) r k).trans
    (ext0_of (fb D Z G B k) (512 * t.val + r.val) (at_ t r).isLt).symm

omit t in
theorem acc5 (k : Fin 1024) : ∀ t (h : t < cfg0.N), ((outsAt0 m c t h).2.1 (ix2 0 k) : EReal) = ∑ j ∈ Finset.range (t + 1), ∑ r : Fin 512, ext0 (fg D Z G B k) (512 * j + r.val) := by
  have hN : cfg0.N = 16 := N_0
  refine fold (fun t h => ((outsAt0 m c t h).2.1 (ix2 0 k) : EReal)) _ (fun h => ?_) (fun t h => ?_)
  · refine Eq.trans (congrFun (congrArg (fun p => p.2.1) (outsAt0_A m c ⟨0, h⟩ (by show 0 % 16 = 0; decide) (by show ¬ 1 ≤ 0; decide) (by show 0 % 16 = 0; decide) (by show ¬ 1 ≤ 0; decide))) (ix2 0 k)) ?_
    dsimp only
    refine Eq.trans (congrFun (A_5 _ _ _ _ _ _ _ _) (ix2 0 k)) ?_
    exact (pay1 _ k).trans (tile_g H ⟨0, h⟩ k)
  · refine Eq.trans (congrFun (congrArg (fun p => p.2.1) (outsAt0_B m c ⟨t + 1, h⟩ (by show ¬ (t + 1) % 16 = 0; omega) (by show 1 ≤ t + 1; omega) (by show ¬ (t + 1) % 16 = 0; omega) (by show 1 ≤ t + 1; omega))) (ix2 0 k)) ?_
    dsimp only
    refine Eq.trans (congrFun (B_5 _ _ _ _ _ _ _ _ _ _) (ix2 0 k)) ?_
    refine (pay2 _ _ k).trans ?_
    exact congrArg₂ (fun x y : EReal => x + y) rfl (tile_g H ⟨t + 1, h⟩ k)

omit t in
theorem acc6 (k : Fin 1024) : ∀ t (h : t < cfg0.N), ((outsAt0 m c t h).2.2 (ix2 0 k) : EReal) = ∑ j ∈ Finset.range (t + 1), ∑ r : Fin 512, ext0 (fb D Z G B k) (512 * j + r.val) := by
  have hN : cfg0.N = 16 := N_0
  refine fold (fun t h => ((outsAt0 m c t h).2.2 (ix2 0 k) : EReal)) _ (fun h => ?_) (fun t h => ?_)
  · refine Eq.trans (congrFun (congrArg (fun p => p.2.2) (outsAt0_A m c ⟨0, h⟩ (by show 0 % 16 = 0; decide) (by show ¬ 1 ≤ 0; decide) (by show 0 % 16 = 0; decide) (by show ¬ 1 ≤ 0; decide))) (ix2 0 k)) ?_
    dsimp only
    refine Eq.trans (congrFun (A_6 _ _ _ _ _ _ _ _) (ix2 0 k)) ?_
    exact (pay3 _ k).trans (tile_b H ⟨0, h⟩ k)
  · refine Eq.trans (congrFun (congrArg (fun p => p.2.2) (outsAt0_B m c ⟨t + 1, h⟩ (by show ¬ (t + 1) % 16 = 0; omega) (by show 1 ≤ t + 1; omega) (by show ¬ (t + 1) % 16 = 0; omega) (by show 1 ≤ t + 1; omega))) (ix2 0 k)) ?_
    dsimp only
    refine Eq.trans (congrFun (B_6 _ _ _ _ _ _ _ _ _ _) (ix2 0 k)) ?_
    refine (pay4 _ _ k).trans ?_
    exact congrArg₂ (fun x y : EReal => x + y) rfl (tile_b H ⟨t + 1, h⟩ k)

theorem arr4 (q : Fin 8192) (k : Fin 1024) : ((dats m 0 c).arrAt 4 cfg0.N (ix2 q k) : EReal) = ((back eps (Z q) (fun k => dY D Z G B q k * G k) k : ℝ) : EReal) := by
  have hN : cfg0.N = 16 := N_0
  obtain ⟨t, ht⟩ : ∃ t : Fin cfg0.N, t.val = q.val / 512 := ⟨⟨q.val / 512, by omega⟩, rfl⟩
  obtain ⟨-, -, -, -, ⟨e0, e1⟩, -⟩ := idx_facts t
  have hb := Value.blocks4 m c t (flush0_4 _)
  rw [Value.flushed4] at hb
  have hq : at_ t ⟨q.val % 512, by omega⟩ = q := Fin.ext (by show 512 * t.val + q.val % 512 = q.val; omega)
  refine Eq.trans (Eq.trans (Eq.symm ?_) (congrFun hb (ix2 (⟨q.val % 512, by omega⟩ : Fin 512) k))) ((pt4 H t ⟨q.val % 512, by omega⟩ k).trans (by rw [hq]))
  exact (read2 ((dats m 0 c).arrAt 4 cfg0.N) _ _ (by show q.val = win0_4.index t ax0 * 512 + 1 * (q.val % 512); omega) (by show k.val = win0_4.index t ax1 * 1024 + 1 * k.val; omega)).symm

theorem arr5 (k : Fin 1024) : ((dats m 0 c).arrAt 5 cfg0.N (ix2 0 k) : EReal) = ∑ r, fg D Z G B k r := by
  obtain ⟨t, ht⟩ : ∃ t : Fin cfg0.N, t.val = 15 := ⟨⟨15, by decide⟩, rfl⟩
  obtain ⟨-, -, -, -, -, ⟨e0, e1⟩, -⟩ := idx_facts t
  have hb := (dats m 0 c).read_blk_arrAt_eq_flushed 5 (fun a a' hf hf' hne => absurd (Fin.ext (by have ha : a.val < 16 := a.isLt; have ha' : a'.val < 16 := a'.isLt; have := (flush0_5 a).mp hf; have := (flush0_5 a').mp hf'; omega)) hne) cfg0.N t t.isLt ((flush0_5 t).mpr (by omega))
  rw [Value.flushed5] at hb
  refine Eq.trans (Eq.trans (Eq.symm ?_) (congrFun hb (ix2 0 k))) ((acc5 H k t.val t.isLt).trans ?_)
  · exact (read2 ((dats m 0 c).arrAt 5 cfg0.N) _ _ (by show 0 = win0_5.index t ax0 * 1 + 1 * 0; omega) (by show k.val = win0_5.index t ax1 * 1024 + 1 * k.val; omega)).symm
  · rw [ht]
    exact sum_blocks 16 512 (by decide) (fg D Z G B k)

theorem arr6 (k : Fin 1024) : ((dats m 0 c).arrAt 6 cfg0.N (ix2 0 k) : EReal) = ∑ r, fb D Z G B k r := by
  obtain ⟨t, ht⟩ : ∃ t : Fin cfg0.N, t.val = 15 := ⟨⟨15, by decide⟩, rfl⟩
  obtain ⟨-, -, -, -, -, -, ⟨e0, e1⟩⟩ := idx_facts t
  have hb := (dats m 0 c).read_blk_arrAt_eq_flushed 6 (fun a a' hf hf' hne => absurd (Fin.ext (by have ha : a.val < 16 := a.isLt; have ha' : a'.val < 16 := a'.isLt; have := (flush0_6 a).mp hf; have := (flush0_6 a').mp hf'; omega)) hne) cfg0.N t t.isLt ((flush0_6 t).mpr (by omega))
  rw [Value.flushed6] at hb
  refine Eq.trans (Eq.trans (Eq.symm ?_) (congrFun hb (ix2 0 k))) ((acc6 H k t.val t.isLt).trans ?_)
  · exact (read2 ((dats m 0 c).arrAt 6 cfg0.N) _ _ (by show 0 = win0_6.index t ax0 * 1 + 1 * 0; omega) (by show k.val = win0_6.index t ax1 * 1024 + 1 * k.val; omega)).symm
  · rw [ht]
    exact sum_blocks 16 512 (by decide) (fb D Z G B k)

end

section

open Cert.ConvLnSiluBwdRefIdeal Read Idealize.ShloMosaic

variable (x0 : (⟨S8192x2048, .f32⟩ : BufTy).Contents (Elt Ideal)) (x1 : (⟨S8192x1024, .f32⟩ : BufTy).Contents (Elt Ideal)) (x2 x3 : (⟨S1x1024, .f32⟩ : BufTy).Contents (Elt Ideal))
  {D : Fin 8192 → Fin 2048 → ℝ} {Z : Fin 8192 → Fin 1024 → ℝ} {G B : Fin 1024 → ℝ}
  (h0 : ∀ r k, (x0 (ix2 r k) : EReal) = (D r k : ℝ)) (h1 : ∀ r k, (x1 (ix2 r k) : EReal) = (Z r k : ℝ)) (h2 : ∀ k, (x2 (ix2 0 k) : EReal) = (G k : ℝ)) (h3 : ∀ k, (x3 (ix2 0 k) : EReal) = (B k : ℝ))

include h1 in
theorem r5 (r : Fin 8192) (k : Fin 1024) : (val_main_v5 x1 (ix2 r k) : EReal) = (cen (Z r) k : ℝ) := by
  simp only [val_main_v5, val_main_v4, val_main_v3, val_main_v2, val_main_v1, val_main_v0, val_main_cst, val_main_cst_0]
  pointwise
  rw [mean_coe (Z r) (by decide) _ (h1 r) _ ofBits_1024, h1, ← EReal.coe_sub]
  rfl

include h1 in
theorem r14 (r : Fin 8192) (j : Fin 1) : (val_main_v14 x1 (ix2 r j) : EReal) = (var (Z r) + eps : ℝ) := by
  have h5 := r5 x1 h1 r
  simp only [val_main_v14, val_main_v13, val_main_v12, val_main_v11, val_main_v10, val_main_v9, val_main_v6, val_main_cst_4, val_main_cst_3, val_main_cst_2]
  generalize val_main_v5 x1 = v at h5 ⊢
  pointwise
  exact var_coe eps (Z r) (by decide) _ h5 _ _ ofBits_1024 ofBits_eps

include h1 in
theorem r15 (r : Fin 8192) (j : Fin 1) : (val_main_v15 x1 (ix2 r j) : EReal) = (rs eps (Z r) : ℝ) := by
  have h14 := r14 x1 h1 r
  simp only [val_main_v15]
  generalize val_main_v14 x1 = v at h14 ⊢
  pointwise
  exact rsqrt_den eps (Z r) eps_pos _ (h14 _)

include h1 in
theorem r18 (r : Fin 8192) (j : Fin 1) : (val_main_v18 x1 (ix2 r j) : EReal) = (hs eps (Z r) : ℝ) := by
  have h14 := r14 x1 h1 r
  have h15 := r15 x1 h1 r
  simp only [val_main_v18, val_main_v17, val_main_v16, val_main_cst_5]
  generalize val_main_v14 x1 = v at h14 ⊢
  generalize val_main_v15 x1 = w at h15 ⊢
  pointwise
  exact hs_coe eps (Z r) eps_pos _ _ _ ofBits_neg_half (h15 _) (h14 _)

include h1 in
theorem r20 (r : Fin 8192) (k : Fin 1024) : (val_main_v20 x1 (ix2 r k) : EReal) = (xh eps (Z r) k : ℝ) := by
  have h5 := r5 x1 h1 r
  have h15 := r15 x1 h1 r
  simp only [val_main_v20, val_main_v19]
  generalize val_main_v5 x1 = v at h5 ⊢
  generalize val_main_v15 x1 = w at h15 ⊢
  pointwise
  rw [h5, h15, ← EReal.coe_mul]
  rfl

include h1 h2 h3 in
theorem r24 (r : Fin 8192) (k : Fin 1024) : (val_main_v24 x1 x2 x3 (ix2 r k) : EReal) = (yy (Z r) G B k : ℝ) := by
  have h20 := r20 x1 h1 r
  simp only [val_main_v24, val_main_v23, val_main_v22, val_main_v21]
  generalize val_main_v20 x1 = v at h20 ⊢
  pointwise
  rw [h20, h2, h3, ← EReal.coe_mul, ← EReal.coe_add]
  rfl

include h0 h1 h2 h3 in
theorem r27 (r : Fin 8192) (k : Fin 1024) : (val_main_v27 x0 x1 x2 x3 (ix2 r k) : EReal) = (dY D Z G B r k : ℝ) := by
  have h24 := r24 x1 x2 x3 h1 h2 h3 r
  simp only [val_main_v27, val_main_call1_v2, val_main_call1_v1, val_main_call1_v0, val_main_v26, val_main_v25_1, val_main_call0_v7, val_main_call0_v6, val_main_call0_cst_1,
    val_main_v25_2, val_main_call0_v4, val_main_call0_cst_0, val_main_call0_v3, val_main_call0_v2, val_main_call0_cst, val_main_call0_v1, val_main_call0_v0]
  generalize val_main_v24 x1 x2 x3 = v at h24 ⊢
  pointwise
  rw [h24, h0]
  exact silu_vjp _ _ _ (sig_coe _)

include h0 h1 h2 h3 in
theorem r46 (r : Fin 8192) (k : Fin 1024) : (val_main_v46 x0 x1 x2 x3 (ix2 r k) : EReal) = (pre eps (Z r) (fun k => dY D Z G B r k * G k) k : ℝ) := by
  have h5 := r5 x1 h1 r
  have h15 := r15 x1 h1 r
  have h18 := r18 x1 h1 r
  have h27 := r27 x0 x1 x2 x3 h0 h1 h2 h3 r
  simp only [val_main_v46, val_main_v45, val_main_v44, val_main_v43, val_main_v42, val_main_v41, val_main_v40, val_main_v39, val_main_v38, val_main_v37, val_main_v36, val_main_v35, val_main_v34,
    val_main_v33, val_main_v8, val_main_v7, val_main_cst_1, val_main_cst_8, val_main_cst_9, val_main_cst_10]
  generalize val_main_v5 x1 = v5 at h5 ⊢
  generalize val_main_v15 x1 = v15 at h15 ⊢
  generalize val_main_v18 x1 = v18 at h18 ⊢
  generalize val_main_v27 x0 x1 x2 x3 = v27 at h27 ⊢
  pointwise
  rw [Fin.sum_univ_one]
  exact pre_coe eps (Z r) (fun k => dY D Z G B r k * G k) (by decide) (fun k => (v27 (ix2 r k) : EReal) * (x2 (ix2 0 k) : EReal)) (fun k => v5 (ix2 r k)) (fun k => by rw [h27, h2]; exact (EReal.coe_mul _ _).symm) h5 _ _ _ _ (h15 _) (h18 _) ofBits_1024 ofBits_two k

include h0 h1 h2 h3 in
theorem r54 (r : Fin 8192) (k : Fin 1024) : (val_main_v54 x0 x1 x2 x3 (ix2 r k) : EReal) = ((back eps (Z r) (fun k => dY D Z G B r k * G k) k : ℝ) : EReal) := by
  have h46 := r46 x0 x1 x2 x3 h0 h1 h2 h3 r
  simp only [val_main_v54, val_main_v53, val_main_v52, val_main_v51, val_main_v50, val_main_v49, val_main_v48, val_main_v47, val_main_cst_11, val_main_cst_12, val_main_cst_13]
  generalize val_main_v46 x0 x1 x2 x3 = v at h46 ⊢
  pointwise
  rw [Fin.sum_univ_one]
  exact pre_back eps (Z r) (fun k => dY D Z G B r k * G k) (by decide) eps_pos (fun k => v (ix2 r k)) h46 _ ofBits_1024 k

include h0 h1 h2 h3 in
theorem r32 (k : Fin 1024) : (val_main_v32 x0 x1 x2 x3 (ix2 0 k) : EReal) = ∑ r, fg D Z G B k r := by
  have h20 := fun r => r20 x1 h1 r k
  have h27 := fun r => r27 x0 x1 x2 x3 h0 h1 h2 h3 r k
  simp only [val_main_v32, val_main_v31, val_main_v30, val_main_cst_7]
  generalize val_main_v20 x1 = v at h20 ⊢
  generalize val_main_v27 x0 x1 x2 x3 = w at h27 ⊢
  generalize hR : ∑ r, fg D Z G B k r = R
  pointwise
  rw [← hR]
  refine Finset.sum_congr rfl fun r _ => ?_
  rw [h20, h27, ← EReal.coe_mul]
  exact congrArg Real.toEReal (mul_comm _ _)

include h0 h1 h2 h3 in
theorem r29 (k : Fin 1024) : (val_main_v29 x0 x1 x2 x3 (ix2 0 k) : EReal) = ∑ r, fb D Z G B k r := by
  have h27 := fun r => r27 x0 x1 x2 x3 h0 h1 h2 h3 r k
  simp only [val_main_v29, val_main_v28, val_main_cst_6]
  generalize val_main_v27 x0 x1 x2 x3 = w at h27 ⊢
  generalize hR : ∑ r, fb D Z G B k r = R
  pointwise
  rw [← hR]
  exact Finset.sum_congr rfl fun r _ => h27 r

end

section

open Idealize.ShloMosaic Idealize.SL.Sem TcCoe
open Cert.Finite

theorem real_args (x0 : FVec Ideal Cert.ConvLnSiluBwdIdeal.S8192x2048 .f32) (x1 : FVec Ideal Cert.ConvLnSiluBwdIdeal.S8192x1024 .f32) (x2 x3 : FVec Ideal Cert.ConvLnSiluBwdIdeal.S1x1024 .f32)
    (h : Cert.Pre_finite_conv_ln_silu_bwd.fn (F := Ideal) x0 x1 x2 x3 = fun _ => 1#1) :
    (∀ i, ∃ r : ℝ, (x0 i : EReal) = r) ∧ (∀ i, ∃ r : ℝ, (x1 i : EReal) = r) ∧ (∀ i, ∃ r : ℝ, (x2 i : EReal) = r) ∧ (∀ i, ∃ r : ℝ, (x3 i : EReal) = r) := by
  have e := congrFun h ix0
  unfold Cert.Pre_finite_conv_ln_silu_bwd.fn at e
  obtain ⟨e, h3⟩ := and_one e
  obtain ⟨e, h2⟩ := and_one e
  obtain ⟨e, h1⟩ := and_one e
  obtain ⟨-, h0⟩ := and_one e
  exact ⟨all_real _ _ _ _ _ h0, all_real _ _ _ _ _ h1, all_real _ _ _ _ _ h2, all_real _ _ _ _ _ h3⟩

/-- The precondition names the reals. -/
theorem reals (m : (ℓ : Loc Cert.ConvLnSiluBwdIdeal.nD Cert.ConvLnSiluBwdIdeal.τ Cert.ConvLnSiluBwdIdeal.sig) → Buf (Elt Ideal) ℓ) (hpre : Cert.Pre_ConvLnSiluBwdIdeal_finite_conv_ln_silu_bwd m) (c : Dev Cert.ConvLnSiluBwdIdeal.nD) :
    ∃ D Z G B, Reals m c D Z G B := by
  obtain ⟨h0, h1, h2, h3⟩ := real_args _ _ _ _ (hpre c)
  choose r0 h0 using h0
  choose r1 h1 using h1
  choose r2 h2 using h2
  choose r3 h3 using h3
  exact ⟨fun q a => r0 (ix2 q a), fun q a => r1 (ix2 q a), fun a => r2 (ix2 0 a), fun a => r3 (ix2 0 a), fun q a => h0 _, fun q a => h1 _, fun a => h2 _, fun a => h3 _⟩

/-- Over the extended reals, of finite arguments, the kernel's gradients of the gate after the convolution's layer norm are `jax.vjp`'s. -/
theorem algebraic : Cert.algebraic_ConvLnSiluBwdIdeal_ConvLnSiluBwdRefIdeal_pre_finite_conv_ln_silu_bwd := fun m ρ m' ρ' hpre hag =>
  ⟨fun c => (Cert.ConvLnSiluBwdIdeal.Gen.dats m 0 c).arrAt 4 Cert.ConvLnSiluBwdIdeal.cfg0.N, fun c => (Cert.ConvLnSiluBwdIdeal.Gen.dats m 0 c).arrAt 5 Cert.ConvLnSiluBwdIdeal.cfg0.N,
    fun c => (Cert.ConvLnSiluBwdIdeal.Gen.dats m 0 c).arrAt 6 Cert.ConvLnSiluBwdIdeal.cfg0.N, Cert.ConvLnSiluBwdIdeal.Value.run_blocks m ρ,
    (θ_run _ _ _).mono (fun r h c => by
      obtain ⟨D, Z, G, B, H⟩ := reals m hpre c
      obtain ⟨a0, a1, a2, a3⟩ := hag c
      obtain ⟨q0, q1, q2, rest⟩ := h c
      refine ⟨?_, ?_, ?_, rest⟩
      · rw [q0, Cert.ConvLnSiluBwdRefIdeal.Read.val_main_v54_eq, a0, a1, a2, a3]
        refine ext2 _ _ fun i0 i1 => ?_
        exact (r54 _ _ _ _ H.1 H.2.1 H.2.2.1 H.2.2.2 i0 i1).trans (arr4 H i0 i1).symm
      · rw [q1, Cert.ConvLnSiluBwdRefIdeal.Read.val_main_v32_eq, a0, a1, a2, a3]
        refine ext2 _ _ fun i0 i1 => ?_
        obtain rfl : i0 = 0 := Subsingleton.elim _ _
        exact (r32 _ _ _ _ H.1 H.2.1 H.2.2.1 H.2.2.2 i1).trans (arr5 H i1).symm
      · rw [q2, Cert.ConvLnSiluBwdRefIdeal.Read.val_main_v29_eq, a0, a1, a2, a3]
        refine ext2 _ _ fun i0 i1 => ?_
        obtain rfl : i0 = 0 := Subsingleton.elim _ _
        exact (r29 _ _ _ _ H.1 H.2.1 H.2.2.1 H.2.2.2 i1).trans (arr6 H i1).symm)
      (Cert.ConvLnSiluBwdRefIdeal.Value.run m' ρ')⟩

end

end Cert.ConvLn

end
-- ==== Proof.ConvLnF.lean ====
/- Hand-written, untrusted: the layer norm and the swish after the convolution. The kernel writes them into the right half of the array that holds the attention's output, and leaves its left half as it was. -/
module

public import proofs.«01_k».proof.Proof.Common
public import proofs.«01_k».proof.Proof.Gen.ConvLnSiluIdeal.Value
public import proofs.«01_k».proof.Proof.Gen.ConvLnSiluRefIdeal.Read

@[expose] public section

set_option maxRecDepth 16384

noncomputable section

namespace Cert.ConvLnF

section

open Idealize.ShloMosaic

/-- A row minus its mean. -/
def centred (x : Fin 1024 → EReal) (k : Fin 1024) : EReal := x k - Ideal.div (∑ j : Fin 1024, x j) (Ideal.ofBits .f32 0x44800000#32)

/-- The layer norm of a row with gain `g` and offset `b`. -/
def norm (x g b : Fin 1024 → EReal) (k : Fin 1024) : EReal :=
  centred x k * Ideal.rsqrt (Ideal.div (∑ j : Fin 1024, centred x j * centred x j) (Ideal.ofBits .f32 0x44800000#32) + Ideal.ofBits .f32 0x3727C5AC#32) * g k + b k

/-- The swish of the norm. -/
def act (x g b : Fin 1024 → EReal) (k : Fin 1024) : EReal := norm x g b k * Ideal.div 1 (1 + Ideal.exp (0 - norm x g b k))

/-- The row of the result: a row `s` on the left, the activations on the right. -/
def joined (x g b : Fin 1024 → EReal) (s : Fin 2048 → EReal) (k : Fin 2048) : EReal := if h : 1024 ≤ k.val then act x g b ⟨k.val - 1024, by omega⟩ else s k

end

section

open Cert.Common Cert.ConvLnSiluIdeal Cert.ConvLnSiluIdeal.Gen Idealize.ShloMosaic TcCoe Idealize.SL.Sem

theorem out_apply (c : Dev nD) (i : grid0.Coords) (a1 : Memref sig .tc .vmem S512x1024 .f32) (h1 : a1.IsWhole) (a2 a3 : Memref sig .tc .vmem S1x1024 .f32) (h2 : a2.IsWhole) (h3 : a3.IsWhole) (a5 : Memref sig .tc .vmem S512x1024 .bf16) (h5 : a5.IsWhole)
    (x0 : Vec Ideal S512x1024 .f32) (x1 x2 : Vec Ideal S1x1024 .f32) (r : Fin 512) (k : Fin 1024) :
    (out0_A_3 c i a1 h1 a2 h2 a3 h3 a5 h5 x0 x1 x2 (ix2 r k) : EReal) = act (fun j => x0 (ix2 r j)) (fun j => x1 (ix2 0 j)) (fun j => x2 (ix2 0 j)) k := by
  unfold out0_A_3
  rw [wr (fun _ => cover0_A_3 ..)]
  unfold kernelRun0_A
  dsimp only
  sl_unfold_words
  simp (disch := assumption) only [rd, ld0 S512x1024, ld0 S1x1024]
  rw [c0 S512x1024]
  unfold_payloads
  pointwise
  rfl

variable (m : (ℓ : Loc nD τ sig) → Buf (Elt Ideal) ℓ)

theorem idx_facts : ∀ t : Fin cfg0.N, win0_0.index t ax0 = t.val ∧ win0_0.index t ax1 = 0
    ∧ win0_1.index t ax0 = 0 ∧ win0_1.index t ax1 = 0 ∧ win0_2.index t ax0 = 0 ∧ win0_2.index t ax1 = 0
    ∧ win0_3.index t ax0 = t.val ∧ win0_3.index t ax1 = 1 :=
  (by decide +kernel : ∀ t : Fin grid0.N, _)

/-- The result at one element. -/
theorem final_apply (c : Dev nD) (r : Fin 8192) (k : Fin 2048) : ((dats m 0 c).arrAt 3 cfg0.N (ix2 r k) : EReal) =
    joined (fun j => m (lc c main_arg0) (ix2 r j)) (fun j => m (lc c main_arg1) (ix2 0 j)) (fun j => m (lc c main_arg2) (ix2 0 j))
      (fun j => m (lc c main_arg3) (ix2 r j)) k := by
  have hN : cfg0.N = 16 := N_0
  unfold joined
  by_cases hk : 1024 ≤ k.val
  · rw [dif_pos hk]
    obtain ⟨t, ht⟩ : ∃ t : Fin cfg0.N, t.val = r.val / 512 := ⟨⟨r.val / 512, by omega⟩, rfl⟩
    obtain ⟨e00, e01, e10, e11, e20, e21, e30, e31⟩ := idx_facts t
    have hb := Value.blocks3 m c t (flush0_3 _)
    rw [Value.flushed3_A] at hb
    refine ((read2 ((dats m 0 c).arrAt 3 cfg0.N) (ix2 r k) _ (by show r.val = win0_3.index t ax0 * 512 + 1 * (r.val % 512); omega)
      (by show k.val = win0_3.index t ax1 * 1024 + 1 * (k.val - 1024); omega)).trans (congrFun hb (ix2 (⟨r.val % 512, Nat.mod_lt _ (by decide)⟩ : Fin 512) (⟨k.val - 1024, by omega⟩ : Fin 1024)))).trans ((out_apply c _ _ _ _ _ _ _ _ _ _ _ _ _ _).trans ?_)
    congr 1 <;> funext j
    · show (V m c main_arg0 _ : EReal) = _
      rw [V_main_arg0]
      exact read2 _ _ _ (by show win0_0.index t ax0 * 512 + 1 * (r.val % 512) = r.val; omega) (by show win0_0.index t ax1 * 1024 + 1 * j.val = j.val; omega)
    · show (V m c main_arg1 _ : EReal) = _
      rw [V_main_arg1]
      exact read2 _ _ _ (by show win0_1.index t ax0 * 1 + 1 * 0 = 0; omega) (by show win0_1.index t ax1 * 1024 + 1 * j.val = j.val; omega)
    · show (V m c main_arg2 _ : EReal) = _
      rw [V_main_arg2]
      exact read2 _ _ _ (by show win0_2.index t ax0 * 1 + 1 * 0 = 0; omega) (by show win0_2.index t ax1 * 1024 + 1 * j.val = j.val; omega)
  · rw [dif_neg hk]
    refine (Value.entry3 m c (ix2 r k) fun t _ hmem => ?_).trans ?_
    · obtain ⟨y, -, hy⟩ := Finset.mem_map.mp hmem
      obtain ⟨-, -, -, -, -, -, -, e1⟩ := idx_facts t
      have h1 : win0_3.index t ax1 * 1024 + 1 * (y 1).val = k.val := congrArg (fun i : S8192x2048.Idx => (i 1).val) hy
      omega
    · unfold V
      after_results
      rfl

end

section

open Cert.Common Cert.ConvLnSiluRefIdeal Read Idealize.ShloMosaic

/-- The reference's result at one element. -/
theorem ref_apply (x0 : (⟨S8192x1024, .f32⟩ : BufTy).Contents (Elt Ideal)) (x1 x2 : (⟨S1x1024, .f32⟩ : BufTy).Contents (Elt Ideal)) (x3 : (⟨S8192x2048, .bf16⟩ : BufTy).Contents (Elt Ideal)) (r : Fin 8192) (k : Fin 2048) :
    (val_main_v23 x0 x1 x2 x3 (ix2 r k) : EReal) = joined (fun j => x0 (ix2 r j)) (fun j => x1 (ix2 0 j)) (fun j => x2 (ix2 0 j)) (fun j => x3 (ix2 r j)) k := by
  unfold val_main_v23 joined
  have hv (q : Fin 1024) : (val_main_v20 x0 x1 x2 (ix2 r q) : EReal) = norm (fun j => x0 (ix2 r j)) (fun j => x1 (ix2 0 j)) (fun j => x2 (ix2 0 j)) q := by
    simp only [val_main_v20, val_main_v19, val_main_v18, val_main_v17, val_main_v16, val_main_v15, val_main_v14, val_main_v13, val_main_v12, val_main_v11, val_main_v10,
      val_main_v9, val_main_v8, val_main_v7, val_main_v6, val_main_v5, val_main_v4, val_main_v3, val_main_v2, val_main_v1,
      val_main_cst, val_main_cst_0, val_main_cst_1, val_main_cst_2, val_main_cst_3]
    pointwise
    rfl
  have ha (q : Fin 1024) : (val_main_v22 x0 x1 x2 (ix2 r q) : EReal) = act (fun j => x0 (ix2 r j)) (fun j => x1 (ix2 0 j)) (fun j => x2 (ix2 0 j)) q := by
    have h := hv q
    simp only [val_main_v22, val_main_v21, val_main_call0_v5, val_main_call0_v4, val_main_call0_v3, val_main_call0_v2, val_main_call0_v1, val_main_call0_v0, val_main_call0_cst, val_main_call0_cst_0]
    generalize val_main_v20 x0 x1 x2 = v at h ⊢
    pointwise
    unfold act
    rw [h, zero_sub]
  generalize val_main_v22 x0 x1 x2 = v at ha ⊢
  unfold val_main_v0
  pointwise
  by_cases hk : 1024 ≤ k.val
  · rw [dif_pos hk, dif_neg (by omega)]
    exact ha _
  · rw [dif_neg hk, dif_pos (by omega)]

end

open Idealize.ShloMosaic Idealize.SL.Sem TcCoe in
/-- Over the extended reals the kernel's array is the reference's. -/
theorem algebraic : Cert.algebraic_ConvLnSiluIdeal_ConvLnSiluRefIdeal := fun m ρ m' ρ' _ hag =>
  ⟨fun c => (Cert.ConvLnSiluIdeal.Gen.dats m 0 c).arrAt 3 Cert.ConvLnSiluIdeal.cfg0.N, Cert.ConvLnSiluIdeal.Value.run_blocks m ρ,
    (θ_run _ _ _).mono (fun r h c => ⟨by
      rw [(h c).1, Cert.ConvLnSiluRefIdeal.Read.val_main_v23_eq, (hag c).1, (hag c).2.1, (hag c).2.2.1, (hag c).2.2.2]
      funext i
      idx_vars i
      exact (ref_apply _ _ _ _ _ _).trans (final_apply m c _ _).symm, (h c).2⟩) (Cert.ConvLnSiluRefIdeal.Value.run m' ρ')⟩

end Cert.ConvLnF

end
-- ==== Proof.Delta.lean ====
/- Hand-written, untrusted: the row sums `Σ do·o` of the attention's gradient, spread over the lanes, and the cotangent's
   columns laid out head by head. -/
module

public import proofs.«01_k».proof.Proof.Common
public import proofs.«01_k».proof.Proof.Gen.AttnDeltaIdeal.Value
public import proofs.«01_k».proof.Proof.Gen.AttnDeltaRefIdeal.Read

@[expose] public section

set_option maxRecDepth 16384

noncomputable section

namespace Cert.Delta

open Idealize.ShloMosaic in
/-- Column `k` of head `h` in the row `r` of an array whose first 1024 columns hold eight heads. -/
def headCol (x : (⟨2, ![8192, 2048]⟩ : Shape).Idx → EReal) (h : Fin 8) (r : Fin 8192) (k : Fin 128) : EReal :=
  x (ix2 r ⟨h.val * 128 + k.val, by omega⟩)

section

open Cert.Common Cert.AttnDeltaIdeal Cert.AttnDeltaIdeal.Gen Idealize.ShloMosaic TcCoe Idealize.SL.Sem

theorem sum_apply (x0 : Vec Ideal S2048x128 .f32) (x1 : Vec Ideal S2048x128 .bf16) (i : Fin 2048) (j : Fin 128) :
    out0_2 x0 x1 (ix3 0 i j) = (∑ k : Fin 128, x0 (ix2 i k) * x1 (ix2 i k) : EReal) := by
  unfold out0_2
  rw [View.canon_unit_zero hz3]
  simp only [ld0 S2048x128]
  unfold_payloads
  pointwise
  try simp only [shapeCast_self]

theorem copy_apply (x0 : Vec Ideal S2048x128 .f32) (x1 : Vec Ideal S2048x128 .bf16) (i : Fin 2048) (j : Fin 128) :
    (out0_3 x0 x1 (ix3 0 i j) : EReal) = x0 (ix2 i j) := by
  unfold out0_3
  rw [View.canon_unit_zero hz3]
  simp only [ld0 S2048x128]
  unfold_payloads
  pointwise
  try simp only [shapeCast_self]

variable (m : (ℓ : Loc nD τ sig) → Buf (Elt Ideal) ℓ)

theorem V_v0 (c : Dev nD) : (V m c main_v0 : S8192x2048.Idx → EReal) = m (lc c main_arg1) := by
  show StableHlo.after hostOps0 (fun b => m (c, b)) main_v0 = _
  unfold hostOps0
  simp only [flat]
  after_results
  rfl

theorem idx_facts : ∀ t : Fin cfg0.N, win0_0.index t ax0 = t.val / 8 ∧ win0_0.index t ax1 = t.val % 8
    ∧ win0_1.index t ax0 = t.val / 8 ∧ win0_1.index t ax1 = t.val % 8
    ∧ win0_2.index t (0 : Fin 3) = t.val % 8 ∧ win0_2.index t (1 : Fin 3) = t.val / 8 ∧ win0_2.index t (2 : Fin 3) = 0
    ∧ win0_3.index t (0 : Fin 3) = t.val % 8 ∧ win0_3.index t (1 : Fin 3) = t.val / 8 ∧ win0_3.index t (2 : Fin 3) = 0 :=
  (by decide +kernel : ∀ t : Fin grid0.N, _)

/-- What a point finds of the cotangent and of the attention's output. -/
theorem in_apply (c : Dev nD) (t : Fin cfg0.N) (h : Fin 8) (r : Fin 8192) (i : Fin 2048) (ht : t.val % 8 = h.val) (hr : t.val / 8 * 2048 + i.val = r.val) (k : Fin 128) :
    (iblk m c 0 t (ix2 i k) : EReal) = headCol (m (lc c main_arg0)) h r k
    ∧ (iblk m c 1 t (ix2 i k) : EReal) = headCol (m (lc c main_arg1)) h r k := by
  obtain ⟨e00, e01, e10, e11, -⟩ := idx_facts t
  refine ⟨?_, ?_⟩
  · show (V m c main_arg0 _ : EReal) = _
    rw [V_main_arg0]
    exact read2 _ _ _ (by show win0_0.index t ax0 * 2048 + 1 * i.val = r.val; omega) (by show win0_0.index t ax1 * 128 + 1 * k.val = h.val * 128 + k.val; omega)
  · show (V m c main_v0 _ : EReal) = _
    rw [V_v0]
    exact read2 _ _ _ (by show win0_1.index t ax0 * 2048 + 1 * i.val = r.val; omega) (by show win0_1.index t ax1 * 128 + 1 * k.val = h.val * 128 + k.val; omega)

theorem final_apply (c : Dev nD) (h : Fin 8) (r : Fin 8192) (k : Fin 128) :
    (dats m 0 c).arrAt 2 cfg0.N (ix3 h r k) = (∑ k : Fin 128, headCol (m (lc c main_arg0)) h r k * headCol (m (lc c main_arg1)) h r k : EReal)
    ∧ ((dats m 0 c).arrAt 3 cfg0.N (ix3 h r k) : EReal) = headCol (m (lc c main_arg0)) h r k := by
  have hN : cfg0.N = 32 := N_0
  obtain ⟨t, ht⟩ : ∃ t : Fin cfg0.N, t.val = r.val / 2048 * 8 + h.val := ⟨⟨r.val / 2048 * 8 + h.val, by omega⟩, rfl⟩
  obtain ⟨-, -, -, -, e20, e21, e22, e30, e31, e32⟩ := idx_facts t
  have hin := in_apply m c t h r ⟨r.val % 2048, Nat.mod_lt _ (by decide)⟩ (by omega) (by show t.val / 8 * 2048 + r.val % 2048 = _; omega)
  have hb2 := Value.blocks2 m c t (flush0_2 _)
  have hb3 := Value.blocks3 m c t (flush0_3 _)
  rw [Value.flushed2] at hb2
  rw [Value.flushed3] at hb3
  have h2 := congrFun hb2 (ix3 (0 : Fin 1) (⟨r.val % 2048, Nat.mod_lt _ (by decide)⟩ : Fin 2048) k)
  have h3 := congrFun hb3 (ix3 (0 : Fin 1) (⟨r.val % 2048, Nat.mod_lt _ (by decide)⟩ : Fin 2048) k)
  have e2 := (read3 ((dats m 0 c).arrAt 2 cfg0.N) (ix3 h r k) _ (by show h.val = win0_2.index t (0 : Fin 3) * 1 + 1 * 0; omega)
    (by show r.val = win0_2.index t (1 : Fin 3) * 2048 + 1 * (r.val % 2048); omega) (by show k.val = win0_2.index t (2 : Fin 3) * 128 + 1 * k.val; omega)).trans h2
  have e3 := (read3 ((dats m 0 c).arrAt 3 cfg0.N) (ix3 h r k) _ (by show h.val = win0_3.index t (0 : Fin 3) * 1 + 1 * 0; omega)
    (by show r.val = win0_3.index t (1 : Fin 3) * 2048 + 1 * (r.val % 2048); omega) (by show k.val = win0_3.index t (2 : Fin 3) * 128 + 1 * k.val; omega)).trans h3
  refine ⟨e2.trans ((sum_apply _ _ _ _).trans (Finset.sum_congr rfl fun k _ => ?_)), e3.trans ((copy_apply _ _ _ _).trans (hin k).1)⟩
  rw [(hin k).1, (hin k).2]

end

section

open Cert.Common Cert.AttnDeltaRefIdeal Read Idealize.ShloMosaic

theorem ref_apply (x0 x1 : (⟨S8192x2048, .f32⟩ : BufTy).Contents (Elt Ideal)) (h : Fin 8) (r : Fin 8192) (k : Fin 128) :
    val_main_v8 x0 x1 (ix3 h r k) = (∑ k : Fin 128, headCol x0 h r k * headCol x1 h r k : EReal)
    ∧ (val_main_v10 x0 (ix3 h r k) : EReal) = headCol x0 h r k := by
  simp only [val_main_v8, val_main_v7, val_main_v6, val_main_v5, val_main_v4, val_main_v3, val_main_v2, val_main_v1, val_main_v0, val_main_v9,
    val_main_v10, val_main_cst]
  pointwise
  exact ⟨rfl, rfl⟩

end

open Idealize.ShloMosaic Idealize.SL.Sem TcCoe in
/-- Over the extended reals the kernel's row sums and its head-by-head cotangent are the reference's. -/
theorem algebraic : Cert.algebraic_AttnDeltaIdeal_AttnDeltaRefIdeal := fun m ρ m' ρ' _ hag =>
  ⟨fun c => (Cert.AttnDeltaIdeal.Gen.dats m 0 c).arrAt 2 Cert.AttnDeltaIdeal.cfg0.N, fun c => (Cert.AttnDeltaIdeal.Gen.dats m 0 c).arrAt 3 Cert.AttnDeltaIdeal.cfg0.N,
    Cert.AttnDeltaIdeal.Value.run_blocks m ρ,
    (θ_run _ _ _).mono (fun r h c => ⟨by
      rw [(h c).1, (hag c).1, (hag c).2, Cert.AttnDeltaRefIdeal.Read.val_main_v8_eq]
      funext i
      idx_vars i
      exact (ref_apply _ _ _ _ _).1.trans (final_apply m c _ _ _).1.symm, by
      rw [(h c).2.1, (hag c).1, Cert.AttnDeltaRefIdeal.Read.val_main_v10_eq]
      funext i
      idx_vars i
      exact (ref_apply _ (m' ((c.tc : Thread _ _).loc Cert.AttnDeltaRefIdeal.main_arg1)) _ _ _).2.trans (final_apply m c _ _ _).2.symm, (h c).2.2⟩) (Cert.AttnDeltaRefIdeal.Value.run m' ρ')⟩

end Cert.Delta

end
-- ==== Proof.Unrope.lean ====
/- Hand-written, untrusted: the gradients of the rotary embedding. The kernel multiplies a row by three padded
   tables and adds the row rotated by 96 and by 32 lanes; the reference adds the products of the two halves. -/
module

public import proofs.«01_k».proof.Proof.Common
public import proofs.«01_k».proof.Proof.Gen.DqUnropeIdeal.Value
public import proofs.«01_k».proof.Proof.Gen.DqUnropeRefIdeal.Read

@[expose] public section

set_option maxRecDepth 16384

noncomputable section

namespace Cert.Unrope

open Cert.Common Idealize.ShloMosaic

/-- Element `n` of a finite sequence, zero past its end. -/
def nth {N : ℕ} (f : Fin N → EReal) (n : ℕ) : EReal := if h : n < N then f ⟨n, h⟩ else 0

theorem nth_mk {N : ℕ} (f : Fin N → EReal) (n : ℕ) (h : n < N) : f ⟨n, h⟩ = nth f n := by
  unfold nth
  rw [dif_pos h]

/-- The rotary gradient of a row of 64 elements at element `j`, zero past the row's end. -/
def rot (x : ℕ → EReal) (cos sin : Fin 32 → EReal) (j : ℕ) : EReal :=
  if j < 32 then x j * nth cos j + x (j + 32) * nth sin j
  else if j < 64 then x j * nth cos (j - 32) - x (j - 32) * nth sin (j - 32) else 0

/-- A row of 256: 128 scaled elements, then the turned ones of the scaled rest. -/
def row (d : Fin 192 → EReal) (cos sin : Fin 32 → EReal) (w : EReal) (k : ℕ) : EReal :=
  if k < 128 then nth d k * w else rot (fun n => nth d (128 + n) * w) cos sin (k - 128)

theorem row_lt {d : Fin 192 → EReal} {cos sin : Fin 32 → EReal} {w : EReal} {k : ℕ} (h : k < 128) : row d cos sin w k = nth d k * w := if_pos h

theorem row_ge {d : Fin 192 → EReal} {cos sin : Fin 32 → EReal} {w : EReal} {k : ℕ} (h : ¬ k < 128) : row d cos sin w k = rot (fun n => nth d (128 + n) * w) cos sin (k - 128) := if_neg h

/-- The row times the padded tables, with its rotations by 96 and by 32 lanes. -/
theorem unrope_eq (x : ℕ → EReal) (cos sin : Fin 32 → EReal) (cp sa sb : EReal) (j : ℕ) (hj : j < 128)
    (hc : cp = if j < 32 then nth cos j else if j < 64 then nth cos (j - 32) else 0)
    (ha : sa = if j < 32 then -nth sin j else 0)
    (hb : sb = if j < 32 then 0 else if j < 64 then nth sin (j - 32) else 0) :
    x j * cp - x ((j + 128 - 96) % 128) * sa - x ((j + 128 - 32) % 128) * sb = rot x cos sin j := by
  unfold rot
  rw [hc, ha, hb]
  split_ifs with h1 h2
  · rw [show (j + 128 - 96) % 128 = j + 32 by omega, mul_zero, sub_zero, mul_neg, sub_eq_add_neg, neg_neg]
  · rw [show (j + 128 - 32) % 128 = j - 32 by omega, mul_zero, sub_zero]
  · simp only [mul_zero, sub_zero]

/-- The two halves' products, added where the halves meet, in the cotangent's own columns. -/
theorem turned (d : Fin 192 → EReal) (cos sin : Fin 32 → EReal) (w : EReal) (k : ℕ) (hk : ¬ k < 128) (hk' : k < 192) :
    (if h : k - 128 < 32 then d ⟨128 + (32 + (k - 128)), by omega⟩ * w * sin ⟨k - 128, h⟩ + d ⟨128 + (k - 128), by omega⟩ * w * cos ⟨k - 128, h⟩
      else d ⟨128 + (32 + (k - 128 - 32)), by omega⟩ * w * cos ⟨k - 128 - 32, by omega⟩ + -(d ⟨128 + (k - 128 - 32), by omega⟩ * w) * sin ⟨k - 128 - 32, by omega⟩)
      = row d cos sin w k := by
  have e0 : ∀ (n n' : ℕ) (h : n < 192), n = n' → d ⟨n, h⟩ = nth d n' := fun n n' h e => e ▸ nth_mk d n h
  rw [row_ge hk]
  unfold rot
  by_cases h3 : k - 128 < 32
  · rw [dif_pos h3, if_pos h3, e0 _ (128 + (k - 128 + 32)) _ (by omega), e0 _ _ _ rfl, nth_mk cos, nth_mk sin, add_comm]
  · rw [dif_neg h3, if_neg h3, if_pos (by omega), e0 _ (128 + (k - 128)) _ (by omega), e0 _ _ _ rfl, nth_mk cos, nth_mk sin, neg_mul, ← sub_eq_add_neg]

/-- The same over the padded columns. -/
theorem ref_row (d : Fin 192 → EReal) (cos sin : Fin 32 → EReal) (w z : EReal) (p : Prop) (k : ℕ) [Decidable (p ∧ k < 192)] (hp : p) (hz : z = 0) :
    (if h : p ∧ k < 192 then if h' : k < 128 then d ⟨k, h.2⟩ * w
      else if h : k - 128 < 32 then d ⟨128 + (32 + (k - 128)), by omega⟩ * w * sin ⟨k - 128, h⟩ + d ⟨128 + (k - 128), by omega⟩ * w * cos ⟨k - 128, h⟩
      else d ⟨128 + (32 + (k - 128 - 32)), by omega⟩ * w * cos ⟨k - 128 - 32, by omega⟩ + -(d ⟨128 + (k - 128 - 32), by omega⟩ * w) * sin ⟨k - 128 - 32, by omega⟩
      else z) = row d cos sin w k := by
  by_cases h2 : k < 192
  · rw [dif_pos ⟨hp, h2⟩]
    by_cases h1 : k < 128
    · rw [dif_pos h1, row_lt h1, nth_mk d]
    · rw [dif_neg h1]
      exact turned d cos sin w k h1 h2
  · rw [dif_neg (fun h => h2 h.2), row_ge (by omega)]
    unfold rot
    rw [if_neg (by omega), if_neg (by omega), hz]

theorem sitofp_zero : (FloatOps.sitofp .f32 (0#32) : Ideal .f32) = (0 : EReal) := by
  simp [FloatOps.sitofp, Idealize.ShloMosaic.FloatOps.sitofp]

end Cert.Unrope

namespace Cert.DqUnropeValue

open Cert.Unrope

open Idealize.ShloMosaic in
/-- The gradient of the scaled queries with their last 64 elements turned, at row `r`, head `h` and element `k` of 256 (the last 64 padding). -/
def G (d : (⟨3, ![8192, 8, 192]⟩ : Shape).Idx → EReal) (cos sin : (⟨2, ![8192, 32]⟩ : Shape).Idx → EReal) (r : Fin 8192) (h : Fin 8) (k : ℕ) : EReal :=
  row (fun k => d (ix3 r h k)) (fun k => cos (ix2 r k)) (fun k => sin (ix2 r k)) (Ideal.ofBits .f32 0x3d93cd3a#32) k

section

open Cert.Common Cert.DqUnropeIdeal Cert.DqUnropeIdeal.Gen Idealize.ShloMosaic TcCoe Idealize.SL.Sem

/-- What the body leaves in its block, over any row `d` of queries and any tables of the printed form. -/
theorem out_apply (b0 : Vec Ideal S1x2048x256 .f32) (b1 b2 b3 : Vec Ideal S2048x128 .f32) (y : S2048x256.Idx) (d : Fin 192 → EReal) (cos sin : Fin 32 → EReal)
    (hd : ∀ k : Fin 256, (b0 (ix3 0 (y 0) k) : EReal) = nth d k.val)
    (hc : ∀ j : Fin 128, (b1 (ix2 (y 0) j) : EReal) = if j.val < 32 then nth cos j.val else if j.val < 64 then nth cos (j.val - 32) else 0)
    (ha : ∀ j : Fin 128, (b2 (ix2 (y 0) j) : EReal) = if j.val < 32 then -nth sin j.val else 0)
    (hb : ∀ j : Fin 128, (b3 (ix2 (y 0) j) : EReal) = if j.val < 32 then 0 else if j.val < 64 then nth sin (j.val - 32) else 0) :
    (out0_4 b0 b1 b2 b3 y : EReal) = row d cos sin (Ideal.ofBits .f32 0x3d93cd3a#32) (y 1).val := by
  idx_vars y
  unfold out0_4
  simp only [ld0 S2048x128, ld0 S1x2048x256]
  canon_tiles x h
  · idx_vars x
    have h0' : x0 = y0 := Fin.ext h0.symm
    subst h0'
    have h1' : y1.val = 128 + x1.val := h1
    refine Eq.trans ?_ (row_ge (show ¬ y1.val < 128 by omega)).symm
    unfold_payloads
    pointwise
    try simp only [shapeCast_self]
    have hd' : ∀ k : Fin 256, (b0 (ix3 0 x0 k) : EReal) = nth d k.val := hd
    have hc' := hc x1
    have ha' := ha x1
    have hb' := hb x1
    rw [show y1.val - 128 = x1.val by omega]
    rw [← unrope_eq (fun n => nth d (128 + n) * Ideal.ofBits .f32 0x3d93cd3a#32) cos sin _ _ _ x1.val (by omega) hc' ha' hb', hd', hd', hd']
  · idx_vars x
    have h0' : x0 = y0 := Fin.ext h0.symm
    subst h0'
    have h1' : y1.val = x1.val := h1
    refine Eq.trans ?_ (row_lt (show y1.val < 128 by omega)).symm
    unfold_payloads
    pointwise
    try simp only [shapeCast_self]
    refine (congrArg (· * Ideal.ofBits .f32 0x3d93cd3a#32) (hd ⟨x1.val, by omega⟩)).trans ?_
    rw [h1']

variable (m : (ℓ : Loc nD τ sig) → Buf (Elt Ideal) ℓ)

/-- The padded queries' cotangent and the three padded tables as the region finds them. -/
theorem V_d (c : Dev nD) (h : Fin 8) (r : Fin 8192) (k : Fin 256) (d : S8192x8x192.Idx → EReal) (hd : d = m (lc c main_arg0)) :
    V m c main_v1 (ix3 h r k) = nth (fun k => d (ix3 r h k)) k.val := by
  have hV : V m c main_v1 = pad (α := Ideal .f32) S8x8192x256 ![0, 0, 0] ![0, 0, 64] ![0, 0, 0] (transpose S8x8192x192 [1, 0, 2] (m (lc c main_arg0)) transposes_S8192x8x192_S8x8192x192_1_0_2)
     (sitofp (F := Ideal) .f32 (constantI S_ 32 0#32)) pads_S8x8192x192_S8x8192x256_000_000_0640 h_S_ := by
    show StableHlo.after _ (fun b => m (c, b)) main_v1 = _
    simp only [flat]
    after_results
    try rfl
  rw [hV, ← hd]
  pointwise
  rw [sitofp_zero]
  rfl

theorem V_tab (c : Dev nD) (r : Fin 8192) (j : Fin 128) (cos sin : S8192x32.Idx → EReal) (hc : cos = m (lc c main_arg1)) (hs : sin = m (lc c main_arg2)) :
    V m c main_v4 (ix2 r j) = (if j.val < 32 then nth (fun k => cos (ix2 r k)) j.val else if j.val < 64 then nth (fun k => cos (ix2 r k)) (j.val - 32) else 0)
    ∧ V m c main_v6 (ix2 r j) = (if j.val < 32 then -nth (fun k => sin (ix2 r k)) j.val else 0)
    ∧ V m c main_v7 (ix2 r j) = (if j.val < 32 then 0 else if j.val < 64 then nth (fun k => sin (ix2 r k)) (j.val - 32) else 0) := by
  have h4 : V m c main_v4 = concatenate (α := Ideal .f32) S8192x128 1 [⟨S8192x32, m (lc c main_arg1)⟩, ⟨S8192x32, m (lc c main_arg1)⟩,
      ⟨S8192x64, broadcastInDim S8192x64 ![] bcast_S_S8192x64 (constant (F := Ideal) S_ .f32 0x00000000#32)⟩] concatenates_S8192x32_S8192x32_S8192x64_S8192x128_d1 := by
    show StableHlo.after _ (fun b => m (c, b)) main_v4 = _
    simp only [flat]
    after_results
    try rfl
  have h6 : V m c main_v6 = concatenate (α := Ideal .f32) S8192x128 1 [⟨S8192x32, Host.negf (F := Ideal) (m (lc c main_arg2))⟩,
      ⟨S8192x32, broadcastInDim S8192x32 ![] bcast_S_S8192x32 (constant (F := Ideal) S_ .f32 0x00000000#32)⟩,
      ⟨S8192x64, broadcastInDim S8192x64 ![] bcast_S_S8192x64 (constant (F := Ideal) S_ .f32 0x00000000#32)⟩] concatenates_S8192x32_S8192x32_S8192x64_S8192x128_d1 := by
    show StableHlo.after _ (fun b => m (c, b)) main_v6 = _
    simp only [flat]
    after_results
    try rfl
  have h7 : V m c main_v7 = concatenate (α := Ideal .f32) S8192x128 1 [⟨S8192x32, broadcastInDim S8192x32 ![] bcast_S_S8192x32 (constant (F := Ideal) S_ .f32 0x00000000#32)⟩,
      ⟨S8192x32, m (lc c main_arg2)⟩,
      ⟨S8192x64, broadcastInDim S8192x64 ![] bcast_S_S8192x64 (constant (F := Ideal) S_ .f32 0x00000000#32)⟩] concatenates_S8192x32_S8192x32_S8192x64_S8192x128_d1 := by
    show StableHlo.after _ (fun b => m (c, b)) main_v7 = _
    simp only [flat]
    after_results
    try rfl
  have e1 : ∀ (n : ℕ) (h : n < 32), cos (ix2 r ⟨n, h⟩) = nth (fun k => cos (ix2 r k)) n := nth_mk (fun k => cos (ix2 r k))
  have e2 : ∀ (n : ℕ) (h : n < 32), sin (ix2 r ⟨n, h⟩) = nth (fun k => sin (ix2 r k)) n := nth_mk (fun k => sin (ix2 r k))
  rw [h4, h6, h7, ← hc, ← hs]
  pointwise
  by_cases h1 : j.val < 32
  · refine ⟨?_, ?_, ?_⟩ <;> rw [dif_pos h1, if_pos h1]
    · exact e1 _ _
    · exact congrArg (fun z : EReal => -z) (e2 _ _)
  · by_cases h2 : j.val - 32 < 32
    · have h3 : j.val < 64 := by omega
      refine ⟨?_, ?_, ?_⟩ <;> rw [dif_neg h1, if_neg h1, dif_pos h2]
      · exact (e1 _ _).trans (if_pos h3).symm
      · exact (e2 _ _).trans (if_pos h3).symm
    · have h3 : ¬ j.val < 64 := by omega
      refine ⟨?_, ?_, ?_⟩ <;> rw [dif_neg h1, if_neg h1, dif_neg h2]
      · exact (if_neg h3).symm
      · exact (if_neg h3).symm

theorem idx_facts : ∀ t : Fin grid0.N, win0_0.index t (0 : Fin 3) = t.val % 8 ∧ win0_0.index t (1 : Fin 3) = t.val / 8 ∧ win0_0.index t (2 : Fin 3) = 0
    ∧ win0_1.index t ax0 = t.val / 8 ∧ win0_1.index t ax1 = 0 ∧ win0_2.index t ax0 = t.val / 8 ∧ win0_2.index t ax1 = 0
    ∧ win0_3.index t ax0 = t.val / 8 ∧ win0_3.index t ax1 = 0 ∧ win0_4.index t ax0 = t.val / 8 ∧ win0_4.index t ax1 = t.val % 8 := by
  decide +kernel

/-- What the region leaves of its result, element by element. -/
theorem final_apply (c : Dev nD) (i : S8192x2048.Idx) (h : Fin 8) (hh : h.val = (i 1).val / 256) :
    (dats m 0 c).arrAt 4 cfg0.N i = G (m (lc c main_arg0)) (m (lc c main_arg1)) (m (lc c main_arg2)) (i 0) h ((i 1).val % 256) := by
  have hN : cfg0.N = 32 := N_0
  have hi0 : (i 0).val < 8192 := (i 0).isLt
  have hi1 : (i 1).val < 2048 := (i 1).isLt
  obtain ⟨t, ht⟩ : ∃ t : Fin cfg0.N, t.val = (i 0).val / 2048 * 8 + (i 1).val / 256 := ⟨⟨(i 0).val / 2048 * 8 + (i 1).val / 256, by omega⟩, rfl⟩
  obtain ⟨e00, e01, e02, e10, e11, e20, e21, e30, e31, e40, e41⟩ := idx_facts t
  have hb := Value.blocks4 m c t (flush0_4 _)
  rw [Value.flushed4] at hb
  have hb' := congrFun hb (ix2 (⟨(i 0).val % 2048, Nat.mod_lt _ (by decide)⟩ : Fin 2048) (⟨(i 1).val % 256, Nat.mod_lt _ (by decide)⟩ : Fin 256))
  have hi' : (dats m 0 c).arrAt 4 cfg0.N i = _ := (read2 ((dats m 0 c).arrAt 4 cfg0.N) i _ (by
    show _ = win0_4.index t ax0 * 2048 + 1 * ((i 0).val % 2048); omega) (by
    show _ = win0_4.index t ax1 * 256 + 1 * ((i 1).val % 256); omega)).trans hb'
  refine hi'.trans ((out_apply _ _ _ _ _ (fun k => m (lc c main_arg0) (ix3 (i 0) h k)) (fun k => m (lc c main_arg1) (ix2 (i 0) k))
    (fun k => m (lc c main_arg2) (ix2 (i 0) k)) ?_ ?_ ?_ ?_).trans rfl)
  · intro k
    refine Eq.trans ?_ (V_d m c h (i 0) k _ rfl)
    exact read3 (V m c main_v1) _ _ (by show win0_0.index t (0 : Fin 3) * 1 + 1 * 0 = h.val; omega) (by show win0_0.index t (1 : Fin 3) * 2048 + 1 * ((i 0).val % 2048) = (i 0).val; omega)
      (by show win0_0.index t (2 : Fin 3) * 256 + 1 * k.val = k.val; omega)
  · intro j
    refine Eq.trans ?_ (V_tab m c (i 0) j _ _ rfl rfl).1
    exact read2 (V m c main_v4) _ _ (by show win0_1.index t ax0 * 2048 + 1 * ((i 0).val % 2048) = (i 0).val; omega) (by show win0_1.index t ax1 * 128 + 1 * j.val = j.val; omega)
  · intro j
    refine Eq.trans ?_ (V_tab m c (i 0) j _ _ rfl rfl).2.1
    exact read2 (V m c main_v6) _ _ (by show win0_2.index t ax0 * 2048 + 1 * ((i 0).val % 2048) = (i 0).val; omega) (by show win0_2.index t ax1 * 128 + 1 * j.val = j.val; omega)
  · intro j
    refine Eq.trans ?_ (V_tab m c (i 0) j _ _ rfl rfl).2.2
    exact read2 (V m c main_v7) _ _ (by show win0_3.index t ax0 * 2048 + 1 * ((i 0).val % 2048) = (i 0).val; omega) (by show win0_3.index t ax1 * 128 + 1 * j.val = j.val; omega)

end

section

open Cert.Common Cert.DqUnropeRefIdeal Read Idealize.ShloMosaic

theorem ref_apply (x0 : (⟨S8192x8x192, .f32⟩ : BufTy).Contents (Elt Ideal)) (x1 x2 : (⟨S8192x32, .f32⟩ : BufTy).Contents (Elt Ideal)) (i : S8192x2048.Idx) (h : Fin 8) (hh : h.val = (i 1).val / 256) :
    (val_main_v42 x0 x1 x2 i : EReal) = G x0 x1 x2 (i 0) h ((i 1).val % 256) := by
  idx_vars i
  simp only [val_main_v42, val_main_v41, val_main_v40, val_main_v39, val_main_v38, val_main_v37, val_main_v36, val_main_v35, val_main_v34, val_main_v33, val_main_v32,
    val_main_v31, val_main_v30, val_main_v29, val_main_v28, val_main_v27, val_main_v26, val_main_v25, val_main_v24, val_main_v23, val_main_v22, val_main_v21,
    val_main_v4, val_main_v3, val_main_cst_1, val_main_call0_v0, val_main_c]
  have hh' : h.val = i1.val / 256 := hh
  have hlt : i1.val / 256 < 8 := lt_of_eq_of_lt hh'.symm h.isLt
  obtain rfl : h = ⟨i1.val / 256, hlt⟩ := Fin.ext hh'
  change _ = G x0 x1 x2 i0 ⟨i1.val / 256, hlt⟩ (i1.val % 256)
  generalize hg : G x0 x1 x2 i0 ⟨i1.val / 256, hlt⟩ (i1.val % 256) = g
  pointwise
  exact (ref_row (fun k => x0 (ix3 i0 ⟨i1.val / 256, hlt⟩ k)) (fun k => x1 (ix2 i0 k)) (fun k => x2 (ix2 i0 k)) _ _ (i1.val / 256 < 8) (i1.val % 256) hlt sitofp_zero).trans hg

end

open Idealize.ShloMosaic Idealize.SL.Sem TcCoe in
/-- Over the extended reals the kernel's gradient with respect to the queries before the rotary embedding is `jax.vjp`'s. -/
theorem algebraic : Cert.algebraic_DqUnropeIdeal_DqUnropeRefIdeal := fun m ρ m' ρ' _ hag =>
  ⟨fun c => (Cert.DqUnropeIdeal.Gen.dats m 0 c).arrAt 4 Cert.DqUnropeIdeal.cfg0.N,
    Cert.DqUnropeIdeal.Value.run_blocks m ρ,
    (θ_run _ _ _).mono (fun r h c => ⟨by
      rw [(h c).1, (hag c).1, (hag c).2.1, (hag c).2.2, Cert.DqUnropeRefIdeal.Read.val_main_v42_eq]
      refine funext fun i => ?_
      have hi1 : (i 1).val < 2048 := (i 1).isLt
      exact (ref_apply _ _ _ i ⟨(i 1).val / 256, by omega⟩ rfl).trans (final_apply m c i ⟨(i 1).val / 256, by omega⟩ rfl).symm, (h c).2⟩) (Cert.DqUnropeRefIdeal.Value.run m' ρ')⟩

end Cert.DqUnropeValue

end
-- ==== Proof.DkUnrope.lean ====
/- Hand-written, untrusted: the gradient of the shared key's rotary embedding. A row's turned gradient is that of the
   sum over the heads, which the kernel carries from head to head and turns at the last one. -/
module

public import proofs.«01_k».proof.Proof.Unrope
public import proofs.«01_k».proof.Proof.Gen.DkUnropeIdeal.Value
public import proofs.«01_k».proof.Proof.Gen.DkUnropeRefIdeal.Read

@[expose] public section

set_option maxRecDepth 16384

noncomputable section

namespace Cert.DkUnropeValue

open Cert.Unrope Cert.Common

section

open Cert.DkUnropeIdeal Cert.DkUnropeIdeal.Gen Idealize.ShloMosaic TcCoe Idealize.SL.Sem

/-- The factor log 2 as the program writes it. -/
abbrev w : EReal := Ideal.ofBits .f32 0x3F317218#32

/-- A row of a head's block: the key's gradient without the shared part, then the value's. -/
def joined (b0 : Vec Ideal S1x1024x256 .f32) (b1 : Vec Ideal S1x1024x128 .f32) (y0 : Fin 1024) (y1 : Fin 256) : EReal :=
  if h : y1.val < 128 then (b0 (ix3 0 y0 ⟨y1.val, by omega⟩) : EReal) * w else b1 (ix3 0 y0 ⟨y1.val - 128, by omega⟩)

/-- The shared part's gradient of one head. -/
def shared (b0 : Vec Ideal S1x1024x256 .f32) (y0 : Fin 1024) (y1 : Fin 128) : EReal := (b0 (ix3 0 y0 ⟨128 + y1.val, by omega⟩) : EReal) * w

variable {c : Dev nD} {i : grid0.Coords} {arg2 : Memref sig .tc .vmem S1x1024x256 .f32} {hw2 : arg2.IsWhole} {arg3 : Memref sig .tc .vmem S1x1024x128 .f32} {hw3 : arg3.IsWhole} {arg4 : Memref sig .tc .vmem S1024x128 .f32} {hw4 : arg4.IsWhole} {arg5 : Memref sig .tc .vmem S1024x128 .f32} {hw5 : arg5.IsWhole} {arg6 : Memref sig .tc .vmem S1024x128 .f32} {hw6 : arg6.IsWhole} {arg8 : Memref sig .tc .vmem S1024x256 .bf16} {hw8 : arg8.IsWhole} {arg9 : Memref sig .tc .vmem S1024x128 .bf16} {hw9 : arg9.IsWhole} {arg10 : Memref sig .tc .vmem S1024x128 .f32} {hw10 : arg10.IsWhole}
  (b0 : Vec Ideal S1x1024x256 .f32) (b1 : Vec Ideal S1x1024x128 .f32) (b2 b3 b4 xs : Vec Ideal S1024x128 .f32)

/-- The two stores of a head's block of keys and values, read back. -/
theorem joined_apply (p0 p1 : Vec Ideal S1024x128 .bf16) (y0 : Fin 1024) (y1 : Fin 256)
    (hp0 : ∀ x1 : Fin 128, (p0 (ix2 y0 x1) : EReal) = (b0 (ix3 0 y0 ⟨x1.val, by omega⟩) : EReal) * w) (hp1 : ∀ x1 : Fin 128, (p1 (ix2 y0 x1) : EReal) = b1 (ix3 0 y0 x1)) :
    (View.canon [⟨Rect.unit ![0, 128] ![1024, 128] inb_S1024x256_S1024x128_0_128, p1⟩, ⟨Rect.unit ![0, 0] ![1024, 128] inb_S1024x256_S1024x128_0_0, p0⟩] (ix2 y0 y1) : EReal) = joined b0 b1 y0 y1 := by
  generalize hg : joined b0 b1 y0 y1 = g
  unfold joined at hg
  canon_tiles x h
  · idx_vars x
    obtain rfl : y0 = x0 := Fin.ext h0
    rw [dif_neg (by omega)] at hg
    rw [hp1, ← hg]
    exact congrArg (fun k => (b1 (ix3 0 y0 k) : EReal)) (Fin.ext (by show x1.val = y1.val - 128; omega))
  · idx_vars x
    obtain rfl : y0 = x0 := Fin.ext h0
    rw [dif_pos (by omega)] at hg
    rw [hp0, ← hg]
    exact congrArg (fun k => (b0 (ix3 0 y0 k) : EReal) * w) (Fin.ext (by show x1.val = y1.val; omega))

theorem out0_A_5_apply (hc0 : cond0_0 i) (hc1 : ¬cond0_1 i) (hc2 : ¬cond0_2 i) (y0 : Fin 1024) (y1 : Fin 256) : (out0_A_5 c i _ hw2 _ hw3 _ hw4 _ hw5 _ hw6 _ hw8 _ hw9 _ hw10 hc0 hc1 hc2 b0 b1 b2 b3 b4 (ix2 y0 y1) : EReal) = joined b0 b1 y0 y1 := by
  unfold out0_A_5
  rw [wr (fun _ => cover0_A_5 ..)]
  unfold kernelRun0_A
  dsimp only
  sl_unfold_words
  simp only [View.readAt_eq_ld, hw2.read_unread, hw3.read_unread, ld0 S1x1024x256, ld0 S1x1024x128]
  refine joined_apply b0 b1 _ _ y0 y1 (fun x1 => ?_) (fun x1 => ?_)
  all_goals
    unfold_payloads
    pointwise
    try simp only [shapeCast_self]

theorem sout0_A_0_apply (hc0 : cond0_0 i) (hc1 : ¬cond0_1 i) (hc2 : ¬cond0_2 i) (y0 : Fin 1024) (y1 : Fin 128) : (sout0_A_0 c i _ hw2 _ hw3 _ hw4 _ hw5 _ hw6 _ hw8 _ hw9 _ hw10 hc0 hc1 hc2 b0 b1 b2 b3 b4 (ix2 y0 y1) : EReal) = shared b0 y0 y1 := by
  unfold sout0_A_0
  rw [wr (fun _ => scover0_A_0 ..)]
  unfold kernelRun0_A
  dsimp only
  sl_unfold_words
  simp (disch := assumption) only [rd, ld0 S1x1024x256, c0 S1024x128]
  unfold shared
  unfold_payloads
  pointwise
  try simp only [shapeCast_self]

theorem out0_B_5_apply (hc0 : ¬cond0_0 i) (hc1 : cond0_1 i) (hc2 : ¬cond0_2 i) (y0 : Fin 1024) (y1 : Fin 256) : (out0_B_5 c i _ hw2 _ hw3 _ hw4 _ hw5 _ hw6 _ hw8 _ hw9 _ hw10 hc0 hc1 hc2 b0 b1 b2 b3 b4 xs (ix2 y0 y1) : EReal) = joined b0 b1 y0 y1 := by
  unfold out0_B_5
  rw [wr (fun _ => cover0_B_5 ..)]
  unfold kernelRun0_B
  dsimp only
  sl_unfold_words
  simp only [View.readAt_eq_ld, hw2.read_unread, hw3.read_unread, ld0 S1x1024x256, ld0 S1x1024x128]
  refine joined_apply b0 b1 _ _ y0 y1 (fun x1 => ?_) (fun x1 => ?_)
  all_goals
    unfold_payloads
    pointwise
    try simp only [shapeCast_self]

theorem sout0_B_0_apply (hc0 : ¬cond0_0 i) (hc1 : cond0_1 i) (hc2 : ¬cond0_2 i) (y0 : Fin 1024) (y1 : Fin 128) : (sout0_B_0 c i _ hw2 _ hw3 _ hw4 _ hw5 _ hw6 _ hw8 _ hw9 _ hw10 hc0 hc1 hc2 b0 b1 b2 b3 b4 xs (ix2 y0 y1) : EReal) = (xs (ix2 y0 y1) : EReal) + shared b0 y0 y1 := by
  unfold sout0_B_0
  rw [wr (fun _ => scover0_B_0 ..)]
  unfold kernelRun0_B
  dsimp only
  sl_unfold_words
  simp (disch := assumption) only [rd, ld0 S1x1024x256, ld0 S1024x128, c0 S1024x128]
  unfold shared
  unfold_payloads
  pointwise
  try simp only [shapeCast_self]

theorem out0_C_5_apply (hc0 : ¬cond0_0 i) (hc1 : cond0_1 i) (hc2 : cond0_2 i) (y0 : Fin 1024) (y1 : Fin 256) : (out0_C_5 c i _ hw2 _ hw3 _ hw4 _ hw5 _ hw6 _ hw8 _ hw9 _ hw10 hc0 hc1 hc2 b0 b1 b2 b3 b4 xs (ix2 y0 y1) : EReal) = joined b0 b1 y0 y1 := by
  unfold out0_C_5
  rw [wr (fun _ => cover0_C_5 ..)]
  unfold kernelRun0_C
  dsimp only
  sl_unfold_words
  simp only [View.readAt_eq_ld, hw2.read_unread, hw3.read_unread, ld0 S1x1024x256, ld0 S1x1024x128]
  refine joined_apply b0 b1 _ _ y0 y1 (fun x1 => ?_) (fun x1 => ?_)
  all_goals
    unfold_payloads
    pointwise
    try simp only [shapeCast_self]

theorem sout0_C_0_apply (hc0 : ¬cond0_0 i) (hc1 : cond0_1 i) (hc2 : cond0_2 i) (y0 : Fin 1024) (y1 : Fin 128) : (sout0_C_0 c i _ hw2 _ hw3 _ hw4 _ hw5 _ hw6 _ hw8 _ hw9 _ hw10 hc0 hc1 hc2 b0 b1 b2 b3 b4 xs (ix2 y0 y1) : EReal) = (xs (ix2 y0 y1) : EReal) + shared b0 y0 y1 := by
  unfold sout0_C_0
  rw [wr (fun _ => scover0_C_0 ..)]
  unfold kernelRun0_C
  dsimp only
  sl_unfold_words
  simp (disch := assumption) only [rd, ld0 S1x1024x256, ld0 S1024x128, c0 S1024x128]
  unfold shared
  unfold_payloads
  pointwise
  try simp only [shapeCast_self]

/-- The last head's store: the carried sum and this head's share, turned. -/
theorem out0_C_6_apply (hc0 : ¬cond0_0 i) (hc1 : cond0_1 i) (hc2 : cond0_2 i) (y0 : Fin 1024) (y1 : Fin 128) (X : ℕ → EReal) (cos sin : Fin 32 → EReal)
    (hX : ∀ j : Fin 128, (xs (ix2 y0 j) : EReal) + shared b0 y0 j = X j.val)
    (hc : (b2 (ix2 y0 y1) : EReal) = if y1.val < 32 then nth cos y1.val else if y1.val < 64 then nth cos (y1.val - 32) else 0)
    (ha : (b3 (ix2 y0 y1) : EReal) = if y1.val < 32 then -nth sin y1.val else 0)
    (hb : (b4 (ix2 y0 y1) : EReal) = if y1.val < 32 then 0 else if y1.val < 64 then nth sin (y1.val - 32) else 0) :
    (out0_C_6 c i _ hw2 _ hw3 _ hw4 _ hw5 _ hw6 _ hw8 _ hw9 _ hw10 hc0 hc1 hc2 b0 b1 b2 b3 b4 xs (ix2 y0 y1) : EReal) = rot X cos sin y1.val := by
  unfold out0_C_6
  rw [wr (fun _ => cover0_C_6 ..)]
  unfold kernelRun0_C
  dsimp only
  sl_unfold_words
  simp (disch := decide) only [↓ View.readCov_cons_toLoadRect]
  simp (disch := assumption) only [rd, ld0 S1x1024x256, ld0 S1024x128, c0 S1024x128]
  rw [← unrope_eq X cos sin _ _ _ y1.val (by omega) hc ha hb]
  unfold shared at hX
  have hX : ∀ j : Fin 128, (xs (ix2 y0 j) : EReal) + (b0 (ix3 0 y0 ⟨128 + j.val, by omega⟩) : EReal) * Ideal.ofBits .f32 0x3F317218#32 = X j.val := hX
  generalize h1 : X y1.val = X1
  generalize h2 : X ((y1.val + 128 - 96) % 128) = X2
  generalize h3 : X ((y1.val + 128 - 32) % 128) = X3
  unfold_payloads
  pointwise
  try simp only [shapeCast_self]
  rw [← h1, ← h2, ← h3]
  exact congrArg₂ (fun x y : EReal => x - y) (congrArg₂ (fun x y : EReal => x - y) (congrArg (fun x : EReal => x * _) (hX y1)) (congrArg (fun x : EReal => x * _) (hX ⟨(y1.val + 128 - 96) % 128, by omega⟩))) (congrArg (fun x : EReal => x * _) (hX ⟨(y1.val + 128 - 32) % 128, by omega⟩))

/-! tail -/

variable (m : (ℓ : Loc nD τ sig) → Buf (Elt Ideal) ℓ)

theorem V_d (c : Dev nD) (h : Fin 8) (r : Fin 8192) (k : Fin 256) (d : S8192x8x192.Idx → EReal) (hd : d = m (lc c main_arg0)) :
    V m c main_v1 (ix3 h r k) = nth (fun k => d (ix3 r h k)) k.val := by
  have hv1 : V m c main_v1 = pad (α := Ideal .f32) S8x8192x256 ![0, 0, 0] ![0, 0, 64] ![0, 0, 0] (transpose S8x8192x192 [1, 0, 2] (m (lc c main_arg0)) transposes_S8192x8x192_S8x8192x192_1_0_2)
     (sitofp (F := Ideal) .f32 (constantI S_ 32 0#32)) pads_S8x8192x192_S8x8192x256_000_000_0640 h_S_ := by
    show StableHlo.after _ (fun b => m (c, b)) main_v1 = _
    simp only [flat]
    after_results
    try rfl
  rw [hv1, ← hd]
  pointwise
  rw [sitofp_zero]
  rfl

theorem V_e (c : Dev nD) (h : Fin 8) (r : Fin 8192) (k : Fin 128) (e : S8192x8x128.Idx → EReal) (he : e = m (lc c main_arg1)) :
    V m c main_v2 (ix3 h r k) = e (ix3 r h k) := by
  have hv2 : V m c main_v2 = transpose (α := Ideal .f32) S8x8192x128 [1, 0, 2] (m (lc c main_arg1)) transposes_S8192x8x128_S8x8192x128_1_0_2 := by
    show StableHlo.after _ (fun b => m (c, b)) main_v2 = _
    simp only [flat]
    after_results
    try rfl
  rw [hv2, ← he]
  pointwise

/-- The three padded tables as the region finds them. -/
theorem V_tab (c : Dev nD) (r : Fin 8192) (j : Fin 128) (cos sin : S8192x32.Idx → EReal) (hc : cos = m (lc c main_arg2)) (hs : sin = m (lc c main_arg3)) :
    V m c main_v5 (ix2 r j) = (if j.val < 32 then nth (fun k => cos (ix2 r k)) j.val else if j.val < 64 then nth (fun k => cos (ix2 r k)) (j.val - 32) else 0)
    ∧ V m c main_v7 (ix2 r j) = (if j.val < 32 then -nth (fun k => sin (ix2 r k)) j.val else 0)
    ∧ V m c main_v8 (ix2 r j) = (if j.val < 32 then 0 else if j.val < 64 then nth (fun k => sin (ix2 r k)) (j.val - 32) else 0) := by
  have hv5 : V m c main_v5 = concatenate (α := Ideal .f32) S8192x128 1 [⟨S8192x32, m (lc c main_arg2)⟩, ⟨S8192x32, m (lc c main_arg2)⟩, ⟨S8192x64, broadcastInDim S8192x64 ![] bcast_S_S8192x64 (constant (F := Ideal) S_ .f32 0x00000000#32)⟩] concatenates_S8192x32_S8192x32_S8192x64_S8192x128_d1 := by
    show StableHlo.after _ (fun b => m (c, b)) main_v5 = _
    simp only [flat]
    after_results
    try rfl
  have hv7 : V m c main_v7 = concatenate (α := Ideal .f32) S8192x128 1 [⟨S8192x32, Host.negf (F := Ideal) (m (lc c main_arg3))⟩, ⟨S8192x32, broadcastInDim S8192x32 ![] bcast_S_S8192x32 (constant (F := Ideal) S_ .f32 0x00000000#32)⟩, ⟨S8192x64, broadcastInDim S8192x64 ![] bcast_S_S8192x64 (constant (F := Ideal) S_ .f32 0x00000000#32)⟩] concatenates_S8192x32_S8192x32_S8192x64_S8192x128_d1 := by
    show StableHlo.after _ (fun b => m (c, b)) main_v7 = _
    simp only [flat]
    after_results
    try rfl
  have hv8 : V m c main_v8 = concatenate (α := Ideal .f32) S8192x128 1 [⟨S8192x32, broadcastInDim S8192x32 ![] bcast_S_S8192x32 (constant (F := Ideal) S_ .f32 0x00000000#32)⟩, ⟨S8192x32, m (lc c main_arg3)⟩, ⟨S8192x64, broadcastInDim S8192x64 ![] bcast_S_S8192x64 (constant (F := Ideal) S_ .f32 0x00000000#32)⟩] concatenates_S8192x32_S8192x32_S8192x64_S8192x128_d1 := by
    show StableHlo.after _ (fun b => m (c, b)) main_v8 = _
    simp only [flat]
    after_results
    try rfl
  have e1 : ∀ (n : ℕ) (h : n < 32), cos (ix2 r ⟨n, h⟩) = nth (fun k => cos (ix2 r k)) n := nth_mk (fun k => cos (ix2 r k))
  have e2 : ∀ (n : ℕ) (h : n < 32), sin (ix2 r ⟨n, h⟩) = nth (fun k => sin (ix2 r k)) n := nth_mk (fun k => sin (ix2 r k))
  rw [hv5, hv7, hv8, ← hc, ← hs]
  pointwise
  by_cases h1 : j.val < 32
  · simp only [dif_pos h1, if_pos h1]
    exact ⟨e1 _ _, congrArg (fun z : EReal => -z) (e2 _ _), trivial⟩
  · simp only [dif_neg h1, if_neg h1]
    by_cases h2 : j.val - 32 < 32
    · have h3 : j.val < 64 := by omega
      simp only [dif_pos h2, if_pos h3]
      exact ⟨e1 _ _, trivial, e2 _ _⟩
    · have h3 : ¬ j.val < 64 := by omega
      simp only [dif_neg h2, if_neg h3]
      exact ⟨trivial, trivial, trivial⟩

/-- The shared key's gradient, summed over the heads, at element `n` of a row. -/
def X (d : (⟨3, ![8192, 8, 192]⟩ : Shape).Idx → EReal) (r : Fin 8192) (n : ℕ) : EReal := ∑ h : Fin 8, nth (fun k => d (ix3 r h k)) (128 + n) * w

/-- The heads' keys' and values' gradients side by side. -/
def G5 (d : (⟨3, ![8192, 8, 192]⟩ : Shape).Idx → EReal) (e : (⟨3, ![8192, 8, 128]⟩ : Shape).Idx → EReal) (r : Fin 8192) (h : Fin 8) (k : Fin 256) : EReal :=
  if hk : k.val < 128 then d (ix3 r h ⟨k.val, by omega⟩) * w else e (ix3 r h ⟨k.val - 128, by omega⟩)

/-- The gradient row in the version's order of columns, with the shared key's part filled in. -/
def G6 (d : (⟨3, ![8192, 8, 192]⟩ : Shape).Idx → EReal) (cos sin : (⟨2, ![8192, 32]⟩ : Shape).Idx → EReal) (dh : (⟨2, ![8192, 3136]⟩ : Shape).Idx → EReal) (r : Fin 8192) (q : Fin 3200) : EReal :=
  if h : q.val < 2048 then dh (ix2 r ⟨1088 + q.val, by omega⟩) else if h : q.val < 3072 then dh (ix2 r ⟨q.val - 2048, by omega⟩)
  else rot (X d r) (fun k => cos (ix2 r k)) (fun k => sin (ix2 r k)) (q.val - 3072)

/-- The other columns come packed. -/
theorem V_dh (c : Dev nD) (r : Fin 8192) (q : Fin 3200) (hq : q.val < 3072) (d : S8192x8x192.Idx → EReal) (cos sin : S8192x32.Idx → EReal) (dh : S8192x3136.Idx → EReal) (hd : dh = m (lc c main_arg4)) :
    V m c (Pipeline.arrRef spec0 6) (ix2 r q) = G6 d cos sin dh r q := by
  have hv16 : V m c (Pipeline.arrRef spec0 6) = truncf (F := Ideal) .bf16 (concatenate (α := Ideal .f32) S8192x3200 1 [⟨S8192x1024, extractStridedSlice S8192x1024 ![0, 1088] (m (lc c main_arg4)) slices_S8192x3136_S8192x1024_0_1088⟩,
      ⟨S8192x1024, extractStridedSlice S8192x1024 ![0, 2112] (m (lc c main_arg4)) slices_S8192x3136_S8192x1024_0_2112⟩, ⟨S8192x512, extractStridedSlice S8192x512 ![0, 0] (m (lc c main_arg4)) slices_S8192x3136_S8192x512_0_0⟩,
      ⟨S8192x512, extractStridedSlice S8192x512 ![0, 512] (m (lc c main_arg4)) slices_S8192x3136_S8192x512_0_512⟩, ⟨S8192x64, extractStridedSlice S8192x64 ![0, 1024] (m (lc c main_arg4)) slices_S8192x3136_S8192x64_0_1024⟩,
      ⟨S8192x64, broadcastInDim S8192x64 ![] bcast_S_S8192x64 (constant (F := Ideal) S_ .f32 0x00000000#32)⟩] concatenates_S8192x1024_S8192x1024_S8192x512_S8192x512_S8192x64_S8192x64_S8192x3200_d1) bitsLt_bf16_f32 := by
    unfold V
    after_results
    try rfl
  rw [hv16, ← hd]
  generalize hg : G6 d cos sin dh r q = g
  unfold G6 at hg
  pointwise
  rw [← hg]
  have e : ∀ (n n' : ℕ) (h : n < 3136) (h' : n' < 3136), n = n' → dh (ix2 r ⟨n, h⟩) = dh (ix2 r ⟨n', h'⟩) := fun n n' _ _ hn => by subst hn; rfl
  by_cases h2 : q.val < 2048
  · simp only [dif_pos h2]
    split_ifs
    all_goals first | omega | exact e _ _ _ _ (by omega)
  · have a1 : ¬ q.val < 1024 := by omega
    have a2 : ¬ q.val - 1024 < 1024 := by omega
    rw [dif_neg h2, dif_pos hq, dif_neg a1, dif_neg a2]
    by_cases a3 : q.val - 1024 - 1024 < 512
    · rw [dif_pos a3]
      exact e (q.val - 1024 - 1024) (q.val - 2048) _ _ (by omega)
    · have a4 : q.val - 1024 - 1024 - 512 < 512 := by omega
      rw [dif_neg a3, dif_pos a4]
      exact e (512 + (q.val - 1024 - 1024 - 512)) (q.val - 2048) _ _ (by omega)

theorem idx_facts : ∀ t : Fin grid0.N, (win0_0.index t (0 : Fin 3) = t.val % 8 ∧ win0_0.index t (1 : Fin 3) = t.val / 8 ∧ win0_0.index t (2 : Fin 3) = 0)
    ∧ (win0_1.index t (0 : Fin 3) = t.val % 8 ∧ win0_1.index t (1 : Fin 3) = t.val / 8 ∧ win0_1.index t (2 : Fin 3) = 0)
    ∧ (win0_2.index t ax0 = t.val / 8 ∧ win0_2.index t ax1 = 0) ∧ (win0_3.index t ax0 = t.val / 8 ∧ win0_3.index t ax1 = 0)
    ∧ (win0_4.index t ax0 = t.val / 8 ∧ win0_4.index t ax1 = 0) ∧ (win0_5.index t ax0 = t.val / 8 ∧ win0_5.index t ax1 = t.val % 8)
    ∧ (win0_6.index t ax0 = t.val / 8 ∧ win0_6.index t ax1 = 24) := by
  decide +kernel

/-- Row `r` of tile `i`. -/
def at_ (i : Fin 8) (r : Fin 1024) : Fin 8192 := ⟨1024 * i.val + r.val, by omega⟩

section

variable {m} {c : Dev nD} (t : Fin cfg0.N) (i h : Fin 8) (ht : t.val = 8 * i.val + h.val) (r : Fin 1024)
  (d : S8192x8x192.Idx → EReal) (hd : d = m (lc c main_arg0)) (e : S8192x8x128.Idx → EReal) (he : e = m (lc c main_arg1))

include ht hd

theorem blk_d (k : Fin 256) : (iblk m c 0 t (ix3 0 r k) : EReal) = nth (fun k => d (ix3 (at_ i r) h k)) k.val := by
  obtain ⟨⟨e0, e1, e2⟩, -⟩ := idx_facts t
  refine Eq.trans ?_ (V_d m c h (at_ i r) k d hd)
  exact read3 (V m c main_v1) _ _ (by show win0_0.index t (0 : Fin 3) * 1 + 1 * 0 = h.val; omega) (by show win0_0.index t (1 : Fin 3) * 1024 + 1 * r.val = 1024 * i.val + r.val; omega)
    (by show win0_0.index t (2 : Fin 3) * 256 + 1 * k.val = k.val; omega)

theorem shared_eq (j : Fin 128) : shared (iblk m c 0 t) r j = nth (fun k => d (ix3 (at_ i r) h k)) (128 + j.val) * w := by
  unfold shared
  exact congrArg (fun x : EReal => x * w) (blk_d t i h ht r d hd ⟨128 + j.val, by omega⟩)

include he in
theorem joined_eq (k : Fin 256) : joined (iblk m c 0 t) (iblk m c 1 t) r k = G5 d e (at_ i r) h k := by
  unfold joined G5
  by_cases hk : k.val < 128
  · rw [dif_pos hk, dif_pos hk]
    exact congrArg (fun x : EReal => x * w) ((blk_d t i h ht r d hd ⟨k.val, by omega⟩).trans (nth_mk (fun k => d (ix3 (at_ i r) h k)) k.val (by omega)).symm)
  · rw [dif_neg hk, dif_neg hk]
    obtain ⟨-, ⟨e0, e1, e2⟩, -⟩ := idx_facts t
    refine Eq.trans ?_ (V_e m c h (at_ i r) ⟨k.val - 128, by omega⟩ e he)
    exact read3 (V m c main_v2) _ _ (by show win0_1.index t (0 : Fin 3) * 1 + 1 * 0 = h.val; omega) (by show win0_1.index t (1 : Fin 3) * 1024 + 1 * r.val = 1024 * i.val + r.val; omega)
      (by show win0_1.index t (2 : Fin 3) * 128 + 1 * (k.val - 128) = k.val - 128; omega)

include he in
/-- What a point leaves of the heads' keys and values. -/
theorem out5 (k : Fin 256) : ((outsAt0 m c t.val t.isLt).1 (ix2 r k) : EReal) = G5 d e (at_ i r) h k := by
  refine Eq.trans ?_ (joined_eq t i h ht r d hd e he k)
  by_cases h0 : t.val % 8 = 0
  · have e0 := congrFun (congrArg (fun p => p.1) (outsAt0_A m c t h0 (by omega) (by omega))) (ix2 r k)
    refine Eq.trans e0 ?_
    dsimp only
    exact out0_A_5_apply ..
  · by_cases h2 : t.val % 8 = 7
    · have e0 := congrFun (congrArg (fun p => p.1) (outsAt0_C m c t h0 (by omega) h2)) (ix2 r k)
      refine Eq.trans e0 ?_
      dsimp only
      exact out0_C_5_apply ..
    · have e0 := congrFun (congrArg (fun p => p.1) (outsAt0_B m c t h0 (by omega) h2)) (ix2 r k)
      refine Eq.trans e0 ?_
      dsimp only
      exact out0_B_5_apply ..

omit ht h t in
/-- The carried sum over the heads so far. -/
theorem scr (j : Fin 128) : ∀ (n : ℕ) (t : Fin cfg0.N) (hn : n < 8) (ht : t.val = 8 * i.val + n), ((outsAt0 m c t.val t.isLt).2.2 (ix2 r j) : EReal)
    = ∑ k ∈ Finset.range (n + 1), if hk : k < 8 then nth (fun a => d (ix3 (at_ i r) ⟨k, hk⟩ a)) (128 + j.val) * w else 0 := by
  intro n
  induction n with
  | zero =>
    intro t hn ht
    have e0 := congrFun (congrArg (fun p => p.2.2) (outsAt0_A m c t (by omega) (by omega) (by omega))) (ix2 r j)
    refine Eq.trans e0 ?_
    dsimp only
    refine (sout0_A_0_apply ..).trans ?_
    rw [zero_add, Finset.sum_range_one, dif_pos hn]
    exact shared_eq t i ⟨0, hn⟩ ht r d hd j
  | succ n ih =>
    intro t hn ht
    have ih' := ih ⟨t.val - 1, by omega⟩ (by omega) (by show t.val - 1 = _; omega)
    rw [Finset.sum_range_succ _ (n + 1), dif_pos hn]
    have hs := shared_eq t i ⟨n + 1, hn⟩ ht r d hd j
    by_cases h2 : t.val % 8 = 7
    · have e0 := congrFun (congrArg (fun p => p.2.2) (outsAt0_C m c t (by omega) (by omega) h2)) (ix2 r j)
      refine Eq.trans e0 ?_
      dsimp only
      refine (sout0_C_0_apply ..).trans ?_
      exact congrArg₂ (fun x y : EReal => x + y) ih' hs
    · have e0 := congrFun (congrArg (fun p => p.2.2) (outsAt0_B m c t (by omega) (by omega) h2)) (ix2 r j)
      refine Eq.trans e0 ?_
      dsimp only
      refine (sout0_B_0_apply ..).trans ?_
      exact congrArg₂ (fun x y : EReal => x + y) ih' hs

omit ht h in
/-- What the last head's point leaves of the shared key's gradient. -/
theorem out6 (ht : t.val = 8 * i.val + 7) (cos sin : S8192x32.Idx → EReal) (hc : cos = m (lc c main_arg2)) (hs : sin = m (lc c main_arg3)) (j : Fin 128) :
    ((outsAt0 m c t.val t.isLt).2.1 (ix2 r j) : EReal) = rot (X d (at_ i r)) (fun k => cos (ix2 (at_ i r) k)) (fun k => sin (ix2 (at_ i r) k)) j.val := by
  obtain ⟨-, -, ⟨e20, e21⟩, ⟨e30, e31⟩, ⟨e40, e41⟩, -⟩ := idx_facts t
  have e0 := congrFun (congrArg (fun p => p.2.1) (outsAt0_C m c t (by omega) (by omega) (by omega))) (ix2 r j)
  refine Eq.trans e0 ?_
  dsimp only
  refine out0_C_6_apply _ _ _ _ _ _ _ _ _ r j _ _ _ (fun a => ?_) ?_ ?_ ?_
  · have h7 := scr i r d hd a 6 ⟨t.val - 1, by omega⟩ (by omega) (by show t.val - 1 = _; omega)
    refine (congrArg₂ (fun x y : EReal => x + y) h7 (shared_eq t i 7 ht r d hd a)).trans ?_
    have hX : X d (at_ i r) a.val = ∑ k ∈ Finset.range 8, if hk : k < 8 then nth (fun b => d (ix3 (at_ i r) ⟨k, hk⟩ b)) (128 + a.val) * w else 0 := by
      unfold X
      rw [Finset.sum_range]
      exact Finset.sum_congr rfl fun k _ => Eq.symm (dif_pos (c := k.val < 8) k.isLt)
    rw [hX, Finset.sum_range_succ _ 7, dif_pos (by decide)]
    rfl
  · refine Eq.trans ?_ (V_tab m c (at_ i r) j _ _ hc hs).1
    exact read2 (V m c main_v5) _ _ (by show win0_2.index t ax0 * 1024 + 1 * r.val = 1024 * i.val + r.val; omega) (by show win0_2.index t ax1 * 128 + 1 * j.val = j.val; omega)
  · refine Eq.trans ?_ (V_tab m c (at_ i r) j _ _ hc hs).2.1
    exact read2 (V m c main_v7) _ _ (by show win0_3.index t ax0 * 1024 + 1 * r.val = 1024 * i.val + r.val; omega) (by show win0_3.index t ax1 * 128 + 1 * j.val = j.val; omega)
  · refine Eq.trans ?_ (V_tab m c (at_ i r) j _ _ hc hs).2.2
    exact read2 (V m c main_v8) _ _ (by show win0_4.index t ax0 * 1024 + 1 * r.val = 1024 * i.val + r.val; omega) (by show win0_4.index t ax1 * 128 + 1 * j.val = j.val; omega)

end

theorem arr5 (c : Dev nD) (q : Fin 8192) (a : Fin 2048) : ((dats m 0 c).arrAt 5 cfg0.N (ix2 q a) : EReal)
    = G5 (m (lc c main_arg0)) (m (lc c main_arg1)) q ⟨a.val / 256, by omega⟩ ⟨a.val % 256, by omega⟩ := by
  have hN : cfg0.N = 64 := N_0
  obtain ⟨t, ht⟩ : ∃ t : Fin cfg0.N, t.val = 8 * (q.val / 1024) + a.val / 256 := ⟨⟨8 * (q.val / 1024) + a.val / 256, by omega⟩, rfl⟩
  obtain ⟨-, -, -, -, -, ⟨e0, e1⟩, -⟩ := idx_facts t
  have hb := Value.blocks5 m c t (flush0_5 _)
  rw [Value.flushed5] at hb
  refine Eq.trans (Eq.trans (Eq.symm ?_) (congrFun hb (ix2 (⟨q.val % 1024, by omega⟩ : Fin 1024) (⟨a.val % 256, by omega⟩ : Fin 256)))) ((out5 (m := m) t ⟨q.val / 1024, by omega⟩ ⟨a.val / 256, by omega⟩ ht ⟨q.val % 1024, by omega⟩ _ rfl _ rfl ⟨a.val % 256, by omega⟩).trans ?_)
  · exact (read2 ((dats m 0 c).arrAt 5 cfg0.N) _ _ (by show q.val = win0_5.index t ax0 * 1024 + 1 * (q.val % 1024); omega) (by show a.val = win0_5.index t ax1 * 256 + 1 * (a.val % 256); omega)).symm
  · have hq : at_ ⟨q.val / 1024, by omega⟩ ⟨q.val % 1024, by omega⟩ = q := Fin.ext (by show 1024 * (q.val / 1024) + q.val % 1024 = q.val; omega)
    rw [hq]

theorem disjoint6 : ∀ t t' : Fin cfg0.N, (cfg0.win 6).flush t = true → (cfg0.win 6).flush t' = true → t ≠ t' → Disjoint ((cfg0.win 6).blk t).view.set ((cfg0.win 6).blk t').view.set := fun t t' hf hf' hne =>
  (cfg0.win 6).disjoint_blk fun e => hne (Fin.ext (by
    obtain ⟨-, -, -, -, -, -, ⟨e0, -⟩⟩ := idx_facts t
    obtain ⟨-, -, -, -, -, -, ⟨f0, -⟩⟩ := idx_facts t'
    have h7 := (flush0_6 t).mp hf
    have h7' := (flush0_6 t').mp hf'
    have := congrFun e (0 : Fin 2)
    have : win0_6.index t ax0 = win0_6.index t' ax0 := this
    omega))

theorem arr6 (c : Dev nD) (q : Fin 8192) (a : Fin 3200) : ((dats m 0 c).arrAt 6 cfg0.N (ix2 q a) : EReal)
    = G6 (m (lc c main_arg0)) (m (lc c main_arg2)) (m (lc c main_arg3)) (m (lc c main_arg4)) q a := by
  have hN : cfg0.N = 64 := N_0
  by_cases ha : a.val < 3072
  · refine Eq.trans (Value.entry6 m c (ix2 q a) fun t _ hmem => ?_) (V_dh m c q a ha _ _ _ _ rfl)
    obtain ⟨y, -, hy⟩ := Finset.mem_map.mp hmem
    obtain ⟨-, -, -, -, -, -, ⟨-, e1⟩⟩ := idx_facts t
    have h1 : win0_6.index t ax1 * 128 + 1 * (y 1).val = a.val := congrArg (fun i : S8192x3200.Idx => (i 1).val) hy
    omega
  · obtain ⟨t, ht⟩ : ∃ t : Fin cfg0.N, t.val = 8 * (q.val / 1024) + 7 := ⟨⟨8 * (q.val / 1024) + 7, by omega⟩, rfl⟩
    obtain ⟨-, -, -, -, -, -, ⟨e0, e1⟩⟩ := idx_facts t
    have hb := (dats m 0 c).read_blk_arrAt_eq_flushed 6 disjoint6 cfg0.N t t.isLt ((flush0_6 t).mpr (by omega))
    rw [Value.flushed6] at hb
    refine Eq.trans (Eq.trans (Eq.symm ?_) (congrFun hb (ix2 (⟨q.val % 1024, by omega⟩ : Fin 1024) (⟨a.val - 3072, by omega⟩ : Fin 128))))
      ((out6 (m := m) t ⟨q.val / 1024, by omega⟩ ⟨q.val % 1024, by omega⟩ _ rfl ht _ _ rfl rfl ⟨a.val - 3072, by omega⟩).trans ?_)
    · exact (read2 ((dats m 0 c).arrAt 6 cfg0.N) _ _ (by show q.val = win0_6.index t ax0 * 1024 + 1 * (q.val % 1024); omega) (by show a.val = win0_6.index t ax1 * 128 + 1 * (a.val - 3072); omega)).symm
    · have hq : at_ ⟨q.val / 1024, by omega⟩ ⟨q.val % 1024, by omega⟩ = q := Fin.ext (by show 1024 * (q.val / 1024) + q.val % 1024 = q.val; omega)
      rw [hq]
      unfold G6
      rw [dif_neg (by omega), dif_neg ha]

end

section

open Cert.Common Cert.DkUnropeRefIdeal Read Idealize.ShloMosaic

/-- Two arrays of rank 2 that agree at every pair of coordinates are equal. -/
theorem ext2 {α : Type} {l n : ℕ} (f g : Shape.Idx ⟨2, ![l, n]⟩ → α) (h : ∀ a b, f (ix2 a b) = g (ix2 a b)) : f = g :=
  funext fun i => by rw [eq_ix2 i]; exact h _ _

theorem ref5 (x0 : (⟨S8192x8x192, .f32⟩ : BufTy).Contents (Elt Ideal)) (x1 : (⟨S8192x8x128, .f32⟩ : BufTy).Contents (Elt Ideal)) (q : Fin 8192) (a : Fin 2048) :
    (val_main_v37 x0 x1 (ix2 q a) : EReal) = G5 x0 x1 q ⟨a.val / 256, by omega⟩ ⟨a.val % 256, by omega⟩ := by
  simp only [val_main_v37, val_main_v32, val_main_v31, val_main_v16, val_main_v15, val_main_v14, val_main_cst_1]
  generalize hg : G5 x0 x1 q ⟨a.val / 256, by omega⟩ ⟨a.val % 256, by omega⟩ = g
  pointwise
  rw [← hg]
  unfold G5 w
  dsimp only
  try (split_ifs <;> first | omega | rfl)

theorem ref_x (x0 : (⟨S8192x8x192, .f32⟩ : BufTy).Contents (Elt Ideal)) (q : Fin 8192) (k : Fin 64) : (val_main_v20 x0 (ix2 q k) : EReal) = X x0 q k.val := by
  simp only [val_main_v20, val_main_v19, val_main_v18, val_main_v17, val_main_v15, val_main_v14, val_main_cst_1, val_main_cst_2, val_main_cst_3]
  generalize hg : X x0 q k.val = g
  pointwise
  rw [← hg]
  unfold X w
  rw [Finset.sum_comm]
  try simp only [Finset.univ_unique, Finset.sum_singleton]
  refine Finset.sum_congr rfl fun h _ => ?_
  exact congrArg (fun z : EReal => z * _) (nth_mk (fun k => x0 (ix3 q h k)) (128 + k.val) (by omega))

theorem ref6 (x0 : (⟨S8192x8x192, .f32⟩ : BufTy).Contents (Elt Ideal)) (x2 x3 : (⟨S8192x32, .f32⟩ : BufTy).Contents (Elt Ideal)) (x4 : (⟨S8192x3136, .f32⟩ : BufTy).Contents (Elt Ideal)) (q : Fin 8192) (a : Fin 3200) :
    (val_main_v38 x0 x2 x3 x4 (ix2 q a) : EReal) = G6 x0 x2 x3 x4 q a := by
  have hx := ref_x x0 q
  simp only [val_main_v38, val_main_v36, val_main_v33, val_main_v34, val_main_v35, val_main_cst_4, val_main_v30, val_main_v29, val_main_v28, val_main_v27, val_main_v26, val_main_v25, val_main_v24, val_main_v23, val_main_v22, val_main_v21]
  generalize val_main_v20 x0 = v at hx ⊢
  generalize hg : G6 x0 x2 x3 x4 q a = g
  pointwise
  rw [← hg]
  unfold G6
  simp only [hx]
  have e1 : ∀ (n : ℕ) (h : n < 32), x2 (ix2 q ⟨n, h⟩) = nth (fun k => x2 (ix2 q k)) n := nth_mk (fun k => x2 (ix2 q k))
  have e2 : ∀ (n : ℕ) (h : n < 32), x3 (ix2 q ⟨n, h⟩) = nth (fun k => x3 (ix2 q k)) n := nth_mk (fun k => x3 (ix2 q k))
  by_cases h1 : a.val < 2048
  · rw [dif_pos h1, dif_pos h1]
  · rw [dif_neg h1, dif_neg h1]
    by_cases h2 : a.val < 3072
    · have h2' : a.val - 2048 < 1024 := by omega
      rw [dif_pos h2', dif_pos h2]
    · have h2' : ¬ a.val - 2048 < 1024 := by omega
      rw [dif_neg h2', dif_neg h2]
      obtain ⟨j, hj⟩ : ∃ j, a.val - 3072 = j := ⟨_, rfl⟩
      have hj' : a.val - 2048 - 1024 = j := by omega
      simp only [hj, hj']
      unfold rot
      by_cases h3 : j < 32
      · have h4 : j < 64 := by omega
        rw [dif_pos h4, dif_pos h3, if_pos h3, e1, e2, add_comm, Nat.add_comm 32 j]
      · rw [if_neg h3]
        by_cases h4 : j < 64
        · have h5 : 32 + (j - 32) = j := by omega
          rw [dif_pos h4, dif_neg h3, if_pos h4, e1, e2, h5, neg_mul, ← sub_eq_add_neg]
        · rw [dif_neg h4, if_neg h4]

end

open Idealize.ShloMosaic Idealize.SL.Sem TcCoe in
/-- Over the extended reals the kernel's gradients with respect to the keys and values before the rotary embedding, laid out as the packed columns, are `jax.vjp`'s. -/
theorem algebraic : Cert.algebraic_DkUnropeIdeal_DkUnropeRefIdeal := fun m ρ m' ρ' _ hag =>
  ⟨fun c => (Cert.DkUnropeIdeal.Gen.dats m 0 c).arrAt 5 Cert.DkUnropeIdeal.cfg0.N, fun c => (Cert.DkUnropeIdeal.Gen.dats m 0 c).arrAt 6 Cert.DkUnropeIdeal.cfg0.N,
    Cert.DkUnropeIdeal.Value.run_blocks m ρ,
    (θ_run _ _ _).mono (fun r h c => ⟨by
      rw [(h c).1, (hag c).1, (hag c).2.1, Cert.DkUnropeRefIdeal.Read.val_main_v37_eq]
      refine ext2 _ _ fun q a => ?_
      exact (ref5 _ _ q a).trans (arr5 m c q a).symm, by
      rw [(h c).2.1, (hag c).1, (hag c).2.2.1, (hag c).2.2.2.1, (hag c).2.2.2.2, Cert.DkUnropeRefIdeal.Read.val_main_v38_eq]
      refine ext2 _ _ fun q a => ?_
      exact (ref6 _ _ _ _ q a).trans (arr6 m c q a).symm, (h c).2.2⟩) (Cert.DkUnropeRefIdeal.Value.run m' ρ')⟩

end Cert.DkUnropeValue

end
-- ==== Proof.Ff1.lean ====
/- Hand-written, untrusted: the first feed-forward product with its squared rectifier. The kernel reads the weight in eight blocks of columns; each result element is the rectified product, or its square. -/
module

public import proofs.«01_k».proof.Proof.Common
public import proofs.«01_k».proof.Proof.Gen.Ff1Relu2Ideal.Value
public import proofs.«01_k».proof.Proof.Gen.Ff1Relu2RefIdeal.Read

@[expose] public section

set_option maxRecDepth 16384

noncomputable section

namespace Cert.Ff1

open Idealize.ShloMosaic in
/-- The rectified product at one element. -/
def rect (x : (⟨2, ![8192, 2048]⟩ : Shape).Idx → EReal) (w : (⟨2, ![2048, 8192]⟩ : Shape).Idx → EReal) (r n : Fin 8192) : EReal :=
  max (∑ k : Fin 2048, x (ix2 r k) * w (ix2 k n)) 0

section

open Cert.Common Cert.Ff1Relu2Ideal Cert.Ff1Relu2Ideal.Gen Idealize.ShloMosaic TcCoe Idealize.SL.Sem

/-- What a point leaves in its two blocks. -/
theorem out_apply (x0 : Vec Ideal S1024x2048 .bf16) (x1 : Vec Ideal S1x2048x1024 .bf16) (i j : Fin 1024) (g : EReal) (h : max (∑ k : Fin 2048, x0 (ix2 i k) * x1 (ix3 0 k j) : EReal) 0 = g) :
    (out0_2 x0 x1 (ix2 i j) : EReal) = g * g ∧ (out0_3 x0 x1 (ix2 i j) : EReal) = g := by
  subst h
  unfold out0_2 out0_3
  rw [View.canon_unit_zero hz, View.canon_unit_zero hz]
  simp only [ld0 S1024x2048, ld0 S1x2048x1024]
  unfold_payloads
  pointwise

variable (m : (ℓ : Loc nD τ sig) → Buf (Elt Ideal) ℓ)

theorem V_x (c : Dev nD) : (V m c main_v3 : S8192x2048.Idx → EReal) = m (lc c main_arg0) := by
  unfold V
  after_results
  rfl

/-- The weight's blocks of columns as the region finds them. -/
theorem V_w (c : Dev nD) (j : Fin 8) (l : Fin 2048) (a : Fin 1024) (n : Fin 8192) (hn : n.val = 1024 * j.val + a.val) (w : S2048x8192.Idx → EReal) (hw : w = m (lc c main_arg1)) :
    (V m c main_v2 (ix3 j l a) : EReal) = w (ix2 l n) := by
  have hv : V m c main_v2 = truncf (F := Ideal) .bf16 (transpose S8x2048x1024 [1, 0, 2] (shapeCast (s := S2048x8192) S2048x8x1024 (m (lc c main_arg1)) shapeCasts_S2048x8192_S2048x8x1024) transposes_S2048x8x1024_S8x2048x1024_1_0_2) bitsLt_bf16_f32 := by
    unfold V
    after_results
    try rfl
  rw [hv, ← hw]
  generalize hg : w (ix2 l n) = g
  pointwise
  rw [← hg]
  exact congrArg (fun n => w (ix2 l n)) (Fin.ext (by show j.val * 1024 + a.val = n.val; omega))

theorem idx_facts : ∀ t : Fin cfg0.N, win0_0.index t ax0 = t.val / 8 ∧ win0_0.index t ax1 = 0
    ∧ win0_1.index t (0 : Fin 3) = t.val % 8 ∧ win0_1.index t (1 : Fin 3) = 0 ∧ win0_1.index t (2 : Fin 3) = 0
    ∧ win0_2.index t ax0 = t.val / 8 ∧ win0_2.index t ax1 = t.val % 8 ∧ win0_3.index t ax0 = t.val / 8 ∧ win0_3.index t ax1 = t.val % 8 :=
  (by decide +kernel : ∀ t : Fin grid0.N, _)

/-- The two results at one element. -/
theorem final_apply (c : Dev nD) (r n : Fin 8192) (g : EReal) (hg : rect (m (lc c main_arg0)) (m (lc c main_arg1)) r n = g) :
    ((dats m 0 c).arrAt 2 cfg0.N (ix2 r n) : EReal) = g * g ∧ ((dats m 0 c).arrAt 3 cfg0.N (ix2 r n) : EReal) = g := by
  have hN : cfg0.N = 64 := N_0
  obtain ⟨t, ht⟩ : ∃ t : Fin cfg0.N, t.val = r.val / 1024 * 8 + n.val / 1024 := ⟨⟨r.val / 1024 * 8 + n.val / 1024, by omega⟩, rfl⟩
  obtain ⟨e00, e01, e10, e11, e12, e20, e21, e30, e31⟩ := idx_facts t
  have hb2 := Value.blocks2 m c t (flush0_2 _)
  have hb3 := Value.blocks3 m c t (flush0_3 _)
  rw [Value.flushed2] at hb2
  rw [Value.flushed3] at hb3
  have h2 := congrFun hb2 (ix2 (⟨r.val % 1024, Nat.mod_lt _ (by decide)⟩ : Fin 1024) (⟨n.val % 1024, Nat.mod_lt _ (by decide)⟩ : Fin 1024))
  have h3 := congrFun hb3 (ix2 (⟨r.val % 1024, Nat.mod_lt _ (by decide)⟩ : Fin 1024) (⟨n.val % 1024, Nat.mod_lt _ (by decide)⟩ : Fin 1024))
  have e2 := (read2 ((dats m 0 c).arrAt 2 cfg0.N) (ix2 r n) _ (by show r.val = win0_2.index t ax0 * 1024 + 1 * (r.val % 1024); omega)
    (by show n.val = win0_2.index t ax1 * 1024 + 1 * (n.val % 1024); omega)).trans h2
  have e3 := (read2 ((dats m 0 c).arrAt 3 cfg0.N) (ix2 r n) _ (by show r.val = win0_3.index t ax0 * 1024 + 1 * (r.val % 1024); omega)
    (by show n.val = win0_3.index t ax1 * 1024 + 1 * (n.val % 1024); omega)).trans h3
  have ho := out_apply (iblk m c 0 t) (iblk m c 1 t) ⟨r.val % 1024, Nat.mod_lt _ (by decide)⟩ ⟨n.val % 1024, Nat.mod_lt _ (by decide)⟩ g (by
    rw [← hg]
    unfold rect
    refine congrArg (max · 0) (Finset.sum_congr rfl fun k _ => ?_)
    congr 1
    · show (V m c main_v3 _ : EReal) = _
      rw [V_x]
      exact read2 _ _ _ (by show win0_0.index t ax0 * 1024 + 1 * (r.val % 1024) = r.val; omega) (by show win0_0.index t ax1 * 2048 + 1 * k.val = k.val; omega)
    · show (V m c main_v2 _ : EReal) = _
      exact (read3 (V m c main_v2) _ (ix3 (⟨n.val / 1024, by omega⟩ : Fin 8) k (⟨n.val % 1024, Nat.mod_lt _ (by decide)⟩ : Fin 1024))
        (by show win0_1.index t (0 : Fin 3) * 1 + 1 * 0 = n.val / 1024; omega) (by show win0_1.index t (1 : Fin 3) * 2048 + 1 * k.val = k.val; omega)
        (by show win0_1.index t (2 : Fin 3) * 1024 + 1 * (n.val % 1024) = n.val % 1024; omega)).trans
        (V_w m c _ k _ n (by show n.val = 1024 * (n.val / 1024) + n.val % 1024; omega) _ rfl))
  exact ⟨e2.trans ho.1, e3.trans ho.2⟩

end

section

open Cert.Common Cert.Ff1Relu2RefIdeal Read Idealize.ShloMosaic

/-- The reference's two results at one element. -/
theorem ref_apply (x0 : (⟨S8192x2048, .f32⟩ : BufTy).Contents (Elt Ideal)) (x1 : (⟨S2048x8192, .f32⟩ : BufTy).Contents (Elt Ideal)) (r n : Fin 8192) :
    (val_main_v3 x0 x1 (ix2 r n) : EReal) = rect x0 x1 r n * rect x0 x1 r n ∧ (val_main_v4 x0 x1 (ix2 r n) : EReal) = rect x0 x1 r n := by
  simp only [val_main_v4, val_main_v3, val_main_v2, val_main_v1, val_main_v0, val_main_call0_v0, val_main_call0_cst]
  pointwise
  exact ⟨rfl, rfl⟩

end

open Idealize.ShloMosaic Idealize.SL.Sem TcCoe in
/-- Over the extended reals the kernel's rectified product and its square are the reference's. -/
theorem algebraic : Cert.algebraic_Ff1Relu2Ideal_Ff1Relu2RefIdeal := fun m ρ m' ρ' _ hag =>
  ⟨fun c => (Cert.Ff1Relu2Ideal.Gen.dats m 0 c).arrAt 2 Cert.Ff1Relu2Ideal.cfg0.N, fun c => (Cert.Ff1Relu2Ideal.Gen.dats m 0 c).arrAt 3 Cert.Ff1Relu2Ideal.cfg0.N,
    Cert.Ff1Relu2Ideal.Value.run_blocks m ρ,
    (θ_run _ _ _).mono (fun r h c => ⟨by
      rw [(h c).1, (hag c).1, (hag c).2, Cert.Ff1Relu2RefIdeal.Read.val_main_v3_eq]
      funext i
      idx_vars i
      exact (ref_apply _ _ _ _).1.trans (final_apply m c _ _ _ rfl).1.symm, by
      rw [(h c).2.1, (hag c).1, (hag c).2, Cert.Ff1Relu2RefIdeal.Read.val_main_v4_eq]
      funext i
      idx_vars i
      exact (ref_apply _ _ _ _).2.trans (final_apply m c _ _ _ rfl).2.symm, (h c).2.2⟩) (Cert.Ff1Relu2RefIdeal.Value.run m' ρ')⟩

end Cert.Ff1

end
-- ==== Proof.Ff2.lean ====
/- Hand-written, untrusted: the gradient through the squared rectifier. The kernel multiplies `dz2 · w_ff2ᵀ` by twice the
   rectified pre-activation; the reference takes the same product where the pre-activation is positive and zero elsewhere,
   where the rectified value is zero. -/
module

public import proofs.«01_k».proof.Proof.Common
public import proofs.«01_k».proof.Proof.Gen.Ff2DgradIdeal.Value
public import proofs.«01_k».proof.Proof.Gen.Ff2DgradRefIdeal.Read

@[expose] public section

set_option maxRecDepth 16384

noncomputable section

namespace Cert.Ff2

open Idealize.ShloMosaic in
/-- The gradient at one element: the product's element times twice the rectified pre-activation. -/
def G (pre : (⟨2, ![8192, 8192]⟩ : Shape).Idx → EReal) (w dz : (⟨2, ![8192, 2048]⟩ : Shape).Idx → EReal) (i : (⟨2, ![8192, 8192]⟩ : Shape).Idx) : EReal :=
  (∑ k : Fin 2048, dz (ix2 (i 0) k) * w (ix2 (i 1) k)) * (2 * max (pre i) 0)

section

open Cert.Common Cert.Ff2DgradIdeal Cert.Ff2DgradIdeal.Gen Idealize.ShloMosaic TcCoe Idealize.SL.Sem

theorem out_apply (x0 x1 : Vec Ideal S1024x2048 .bf16) (x2 : Vec Ideal S1024x1024 .bf16) (i j : Fin 1024) :
    out0_3 x0 x1 x2 (ix2 i j) = ((∑ k : Fin 2048, x0 (ix2 i k) * x1 (ix2 j k)) * (2 * x2 (ix2 i j)) : EReal) := by
  unfold out0_3
  rw [View.canon_unit_zero hz]
  simp only [ld0 S1024x2048, ld0 S1024x1024]
  unfold_payloads
  pointwise
  try simp only [shapeCast_self]
  rw [two]

variable (m : (ℓ : Loc nD τ sig) → Buf (Elt Ideal) ℓ)

theorem V_v0 (c : Dev nD) : (V m c main_v0 : S8192x2048.Idx → EReal) = m (lc c main_arg2) := by
  show StableHlo.after hostOps0 (fun b => m (c, b)) main_v0 = _
  unfold hostOps0
  simp only [flat]
  after_results
  rfl

theorem V_v1 (c : Dev nD) : (V m c main_v1 : S8192x2048.Idx → EReal) = m (lc c main_arg1) := by
  show StableHlo.after hostOps0 (fun b => m (c, b)) main_v1 = _
  unfold hostOps0
  simp only [flat]
  after_results
  rfl

theorem V_v4 (c : Dev nD) (i : S8192x8192.Idx) (p : S8192x8192.Idx → EReal) (hp : p = m (lc c main_arg0)) : V m c main_v4 i = max (p i) 0 := by
  have hV : V m c main_v4 = truncf .bf16 (maximumf (m (lc c main_arg0)) (broadcastInDim S8192x8192 ![] bcast_S_S8192x8192 (constant (F := Ideal) S_ .f32 0x00000000#32))) bitsLt_bf16_f32 := by
    show StableHlo.after hostOps0 (fun b => m (c, b)) main_v4 = _
    unfold hostOps0
    simp only [flat]
    after_results
    try rfl
  rw [hV, ← hp]
  pointwise

theorem idx_facts : ∀ t : Fin cfg0.N, win0_0.index t ax0 = t.val / 8 ∧ win0_0.index t ax1 = 0
    ∧ win0_1.index t ax0 = t.val % 8 ∧ win0_1.index t ax1 = 0 ∧ win0_2.index t ax0 = t.val / 8 ∧ win0_2.index t ax1 = t.val % 8
    ∧ win0_3.index t ax0 = t.val / 8 ∧ win0_3.index t ax1 = t.val % 8 :=
  (by decide +kernel : ∀ t : Fin grid0.N, _)

theorem final_apply (c : Dev nD) (i : S8192x8192.Idx) :
    (dats m 0 c).arrAt 3 cfg0.N i = G (m (lc c main_arg0)) (m (lc c main_arg1)) (m (lc c main_arg2)) i := by
  have hN : cfg0.N = 64 := N_0
  have hi0 : (i 0).val < 8192 := (i 0).isLt
  have hi1 : (i 1).val < 8192 := (i 1).isLt
  obtain ⟨t, ht⟩ : ∃ t : Fin cfg0.N, t.val = (i 0).val / 1024 * 8 + (i 1).val / 1024 := ⟨⟨(i 0).val / 1024 * 8 + (i 1).val / 1024, by omega⟩, rfl⟩
  obtain ⟨e00, e01, e10, e11, e20, e21, e30, e31⟩ := idx_facts t
  have hb := Value.blocks3 m c t (flush0_3 _)
  rw [Value.flushed3] at hb
  have hb' := congrFun hb (ix2 (⟨(i 0).val % 1024, Nat.mod_lt _ (by decide)⟩ : Fin 1024) (⟨(i 1).val % 1024, Nat.mod_lt _ (by decide)⟩ : Fin 1024))
  have hi' : (dats m 0 c).arrAt 3 cfg0.N i = _ := (read2 ((dats m 0 c).arrAt 3 cfg0.N) i _ (by
    show _ = win0_3.index t ax0 * 1024 + 1 * ((i 0).val % 1024); omega) (by
    show _ = win0_3.index t ax1 * 1024 + 1 * ((i 1).val % 1024); omega)).trans hb'
  rw [hi']
  refine (out_apply _ _ _ _ _).trans ?_
  unfold G
  congr 1
  · refine Finset.sum_congr rfl fun k _ => ?_
    congr 1
    · show (V m c main_v0 _ : EReal) = _
      rw [V_v0]
      exact read2 _ _ _ (by show win0_0.index t ax0 * 1024 + 1 * ((i 0).val % 1024) = (i 0).val; omega) (by show win0_0.index t ax1 * 2048 + 1 * k.val = k.val; omega)
    · show (V m c main_v1 _ : EReal) = _
      rw [V_v1]
      exact read2 _ _ _ (by show win0_1.index t ax0 * 1024 + 1 * ((i 1).val % 1024) = (i 1).val; omega) (by show win0_1.index t ax1 * 2048 + 1 * k.val = k.val; omega)
  · congr 1
    show (V m c main_v4 _ : EReal) = _
    rw [V_v4 m c _ _ rfl]
    congr 1
    exact read2 _ _ _ (by show win0_2.index t ax0 * 1024 + 1 * ((i 0).val % 1024) = (i 0).val; omega) (by show win0_2.index t ax1 * 1024 + 1 * ((i 1).val % 1024) = (i 1).val; omega)

end

section

open Cert.Common Cert.Ff2DgradRefIdeal Read Idealize.ShloMosaic

theorem ref_apply (x0 : (⟨S8192x8192, .f32⟩ : BufTy).Contents (Elt Ideal)) (x1 x2 : (⟨S8192x2048, .f32⟩ : BufTy).Contents (Elt Ideal)) (i : S8192x8192.Idx) :
    Cert.Ff2DgradRefIdeal.Read.val_main_v12 x0 x1 x2 i = G x0 x1 x2 i := by
  idx_vars i
  simp only [val_main_v12, val_main_v11, val_main_v10, val_main_v9, val_main_v8, val_main_v6, val_main_v5, val_main_v3, val_main_v2, val_main_v1, val_main_v0,
    val_main_call0_v0, val_main_call0_cst, val_main_cst, val_main_cst_1, val_main_cst_2]
  pointwise
  rw [two]
  show _ = (∑ k : Fin 2048, x2 (ix2 i0 k) * x1 (ix2 i1 k)) * (2 * max (x0 (ix2 i0 i1)) 0)
  split_ifs with h
  · rfl
  · rw [max_eq_right (not_lt.1 h), mul_zero, mul_zero]

end

open Idealize.ShloMosaic Idealize.SL.Sem TcCoe in
/-- Over the extended reals the kernel's gradient through the squared rectifier is `jax.vjp`'s. -/
theorem algebraic : Cert.algebraic_Ff2DgradIdeal_Ff2DgradRefIdeal := fun m ρ m' ρ' _ hag =>
  ⟨fun c => (Cert.Ff2DgradIdeal.Gen.dats m 0 c).arrAt 3 Cert.Ff2DgradIdeal.cfg0.N,
    Cert.Ff2DgradIdeal.Value.run_blocks m ρ,
    (θ_run _ _ _).mono (fun r h c => ⟨by
      rw [(h c).1, (hag c).1, (hag c).2.1, (hag c).2.2, Cert.Ff2DgradRefIdeal.Read.val_main_v12_eq]
      refine funext fun i => Eq.trans ?_ (final_apply m c i).symm
      exact ref_apply _ _ _ i, (h c).2⟩) (Cert.Ff2DgradRefIdeal.Value.run m' ρ')⟩

end Cert.Ff2

end
-- ==== Proof.FlashBwdPoint.lean ====
/- Hand-written, untrusted: what one grid point of the attention's backward pass leaves in its three blocks. -/
module

public import proofs.«01_k».proof.Proof.Common
public import proofs.«01_k».proof.Proof.Gen.FlashBwdIdeal.Value

@[expose] public section

set_option maxRecDepth 16384

noncomputable section

namespace Cert.FlashBwdPoint

open Cert.Common Cert.FlashBwdIdeal Cert.FlashBwdIdeal.Gen Idealize.ShloMosaic TcCoe Idealize.SL.Sem

/-- The probability of row `r` and key `κ` over one block of queries and all keys. -/
def prob (q : Vec Ideal S1x1024x256 .bf16) (k : Vec Ideal S1x8192x256 .bf16) (L : Fin 1024 → EReal) (r : Fin 1024) (κ : Fin 8192) : EReal :=
  Ideal.exp2 ((∑ a : Fin 256, (q (ix3 0 r a) : EReal) * k (ix3 0 κ a)) - L r)

/-- Where an earlier-listed piece covers `y`, what lies under the listed pieces is not seen. -/
theorem canon_drop {Val : EltTy → Type} [∀ e, Nonempty (Val e)] {S : Shape} {e : EltTy} : ∀ (L L' : List (View.Piece Val S e)) (y : S.Idx), (∃ p ∈ L, y ∈ p.1.set) → View.canon (L ++ L') y = View.canon L y
  | [], _, _, h => by obtain ⟨p, hp, _⟩ := h; simp at hp
  | p :: L, L', y, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_drop L L' y ?_
      obtain ⟨q, hq, hy⟩ := h
      rcases List.mem_cons.mp hq with rfl | hq
      · exact absurd hy hm
      · exact ⟨q, hq, hy⟩

/-- The gradient of the score of row `r` and key `κ`. -/
def dscore (q : Vec Ideal S1x1024x256 .bf16) (g : Vec Ideal S1x1024x128 .bf16) (k v : Vec Ideal S1x8192x256 .bf16) (L D : Fin 1024 → EReal) (r : Fin 1024) (κ : Fin 8192) : EReal :=
  prob q k L r κ * ((∑ a : Fin 128, (g (ix3 0 r a) : EReal) * v (ix3 0 κ ⟨a.val, by omega⟩)) - D r)

/-- A sum over `n` blocks of `b` terms each. -/
theorem sum_split {M : Type} [AddCommMonoid M] {n b N : ℕ} (hN : N = n * b) (f : Fin N → M) :
    ∑ κ, f κ = ∑ j : Fin n, ∑ x : Fin b, f ⟨b * j.val + x.val, by subst hN; have := j.isLt; have := x.isLt; have := Nat.mul_le_mul_left b (show j.val + 1 ≤ n by omega); rw [Nat.mul_comm n b]; rw [Nat.mul_add] at this; omega⟩ := by
  subst hN
  rw [← Fintype.sum_prod_type', ← Equiv.sum_comp finProdFinEquiv]
  refine Fintype.sum_congr _ _ fun p => congrArg f (Fin.ext ?_)
  show p.2.val + b * p.1.val = b * p.1.val + p.2.val
  omega

/-- The sum over all keys, added up in the kernel's sixteen pieces. -/
theorem sum_keys (f : Fin 8192 → EReal) :
    (∑ x : Fin 512, f ⟨x.val, by have := x.isLt; omega⟩) + (∑ x : Fin 512, f ⟨512 + x.val, by have := x.isLt; omega⟩) + (∑ x : Fin 512, f ⟨1024 + x.val, by have := x.isLt; omega⟩) + (∑ x : Fin 512, f ⟨1536 + x.val, by have := x.isLt; omega⟩) + (∑ x : Fin 512, f ⟨2048 + x.val, by have := x.isLt; omega⟩) + (∑ x : Fin 512, f ⟨2560 + x.val, by have := x.isLt; omega⟩) + (∑ x : Fin 512, f ⟨3072 + x.val, by have := x.isLt; omega⟩) + (∑ x : Fin 512, f ⟨3584 + x.val, by have := x.isLt; omega⟩) + (∑ x : Fin 512, f ⟨4096 + x.val, by have := x.isLt; omega⟩) + (∑ x : Fin 512, f ⟨4608 + x.val, by have := x.isLt; omega⟩) + (∑ x : Fin 512, f ⟨5120 + x.val, by have := x.isLt; omega⟩) + (∑ x : Fin 512, f ⟨5632 + x.val, by have := x.isLt; omega⟩) + (∑ x : Fin 512, f ⟨6144 + x.val, by have := x.isLt; omega⟩) + (∑ x : Fin 512, f ⟨6656 + x.val, by have := x.isLt; omega⟩) + (∑ x : Fin 512, f ⟨7168 + x.val, by have := x.isLt; omega⟩) + (∑ x : Fin 512, f ⟨7680 + x.val, by have := x.isLt; omega⟩) = ∑ κ, f κ := by
  rw [sum_split (n := 16) (b := 512) rfl f]
  generalize hg : (fun j : Fin 16 => ∑ x : Fin 512, f ⟨512 * j.val + x.val, by have := x.isLt; have := j.isLt; omega⟩) = g
  have h0 : (∑ x : Fin 512, f ⟨x.val, by have := x.isLt; omega⟩) = g 0 := by
    rw [← hg]
    exact Finset.sum_congr rfl fun x _ => congrArg f (Fin.ext (by simp))
  rw [h0, show ∑ j, g j = g 0 + g 1 + g 2 + g 3 + g 4 + g 5 + g 6 + g 7 + g 8 + g 9 + g 10 + g 11 + g 12 + g 13 + g 14 + g 15 by
    simp only [Fin.sum_univ_castSucc, Fin.sum_univ_zero, zero_add]; rfl]
  subst hg
  rfl

section

variable {c : Dev nD} {i : grid0.Coords} {arg2 : Memref sig .tc .vmem S1x1024x256 .bf16} {hw2 : arg2.IsWhole} {arg3 : Memref sig .tc .vmem S1x1024x128 .bf16} {hw3 : arg3.IsWhole} {arg4 : Memref sig .tc .vmem S1x1024x128 .f32} {hw4 : arg4.IsWhole} {arg5 : Memref sig .tc .vmem S1x1024x128 .f32} {hw5 : arg5.IsWhole} {arg6 : Memref sig .tc .vmem S1x8192x256 .bf16} {hw6 : arg6.IsWhole} {arg7 : Memref sig .tc .vmem S1x8192x256 .bf16} {hw7 : arg7.IsWhole} {arg8 : Memref sig .tc .vmem S1x1024x256 .f32} {hw8 : arg8.IsWhole} {arg9 : Memref sig .tc .vmem S1x8192x256 .f32} {hw9 : arg9.IsWhole} {arg10 : Memref sig .tc .vmem S1x8192x128 .f32} {hw10 : arg10.IsWhole} {arg11 : Memref sig .tc .vmem S1024x256 .f32} {hw11 : arg11.IsWhole}
  {b0 : Vec Ideal S1x1024x256 .bf16} {b1 : Vec Ideal S1x1024x128 .bf16} {b2 b3 : Vec Ideal S1x1024x128 .f32} {b4 b5 : Vec Ideal S1x8192x256 .bf16}
  {bo7 : Vec Ideal S1x8192x256 .f32} {bo8 : Vec Ideal S1x8192x128 .f32} {L D : Fin 1024 → EReal}

set_option maxHeartbeats 2000000 in
/-- The block of query gradients: every key's score gradient times the key. -/
theorem out0_A_6_apply (hc0 : cond0_0 i) (hL : ∀ r l, (b2 (ix3 0 r l) : EReal) = L r) (hD : ∀ r l, (b3 (ix3 0 r l) : EReal) = D r) (y : S1x1024x256.Idx) :
    (out0_A_6 c i _ hw2 _ hw3 _ hw4 _ hw5 _ hw6 _ hw7 _ hw8 _ hw9 _ hw10 _ hw11 hc0 b0 b1 b2 b3 b4 b5 y : EReal) = ∑ κ : Fin 8192, dscore b0 b1 b4 b5 L D (y 1) κ * b4 (ix3 0 κ (y 2)) := by
  unfold out0_A_6
  rw [wr (fun _ => cover0_A_6 ..)]
  unfold kernelRun0_A
  dsimp only
  sl_unfold_words
  simp (disch := decide) only [↓ View.readCov_cons_toLoadRect, ↓ View.readCov_unit_zero (S := S1024x256) _ hz]
  simp (disch := assumption) only [rd,
    ld0 S1x1024x256, ld0 S1x1024x128]
  simp only [c0 S1x1024x256]
  idx_vars y
  obtain rfl : y0 = 0 := Subsingleton.elim _ _
  generalize hg : (∑ κ : Fin 8192, dscore b0 b1 b4 b5 L D y1 κ * b4 (ix3 0 κ y2) : EReal) = g
  unfold_payloads
  pointwise
  try simp only [shapeCast_self]
  simp only [hL, hD, dite_eq_ite, ite_self]
  refine Eq.trans ?_ hg
  exact sum_keys (fun κ => dscore b0 b1 b4 b5 L D y1 κ * b4 (ix3 0 κ y2))

/-- The key gradients: this row tile's share. -/
theorem out0_A_7_apply (hc0 : cond0_0 i) (hL : ∀ r l, (b2 (ix3 0 r l) : EReal) = L r) (hD : ∀ r l, (b3 (ix3 0 r l) : EReal) = D r) (y : S1x8192x256.Idx) :
    (out0_A_7 c i _ hw2 _ hw3 _ hw4 _ hw5 _ hw6 _ hw7 _ hw8 _ hw9 _ hw10 _ hw11 hc0 b0 b1 b2 b3 b4 b5 y : EReal) = ∑ r : Fin 1024, dscore b0 b1 b4 b5 L D r (y 1) * b0 (ix3 0 r (y 2)) := by
  unfold out0_A_7
  rw [wr (fun _ => cover0_A_7 ..)]
  unfold kernelRun0_A
  dsimp only
  sl_unfold_words
  simp (disch := decide) only [↓ View.readCov_skip, ↓ View.readCov_fill]
  simp (disch := assumption) only [rd,
    ld0 S1x1024x256, ld0 S1x1024x128]
  idx_vars y
  obtain rfl : y0 = 0 := Subsingleton.elim _ _
  refine (canon_drop [_, _, _, _, _, _, _, _, _, _, _, _, _, _, _, _] [_] _ (View.cover_of_tiled_head _ _ _ (by rfl) _)).trans ?_
  generalize hg : (∑ r : Fin 1024, dscore b0 b1 b4 b5 L D r y1 * b0 (ix3 0 r y2) : EReal) = g
  canon_tiles x h
  all_goals
    idx_vars x
    unfold_payloads
    pointwise
    try simp only [shapeCast_self]
    obtain rfl : y2 = x2 := Fin.ext h2
    simp only [hL, hD, dite_eq_ite, ite_self, ← h1, Fin.eta]
    exact hg

/-- The value gradients: this row tile's share. -/
theorem out0_A_8_apply (hc0 : cond0_0 i) (hL : ∀ r l, (b2 (ix3 0 r l) : EReal) = L r) (hD : ∀ r l, (b3 (ix3 0 r l) : EReal) = D r) (y : S1x8192x128.Idx) :
    (out0_A_8 c i _ hw2 _ hw3 _ hw4 _ hw5 _ hw6 _ hw7 _ hw8 _ hw9 _ hw10 _ hw11 hc0 b0 b1 b2 b3 b4 b5 y : EReal) = ∑ r : Fin 1024, prob b0 b4 L r (y 1) * b1 (ix3 0 r (y 2)) := by
  unfold out0_A_8
  rw [wr (fun _ => cover0_A_8 ..)]
  unfold kernelRun0_A
  dsimp only
  sl_unfold_words
  simp (disch := decide) only [↓ View.readCov_skip, ↓ View.readCov_fill]
  simp (disch := assumption) only [rd,
    ld0 S1x1024x256, ld0 S1x1024x128]
  idx_vars y
  obtain rfl : y0 = 0 := Subsingleton.elim _ _
  refine (canon_drop [_, _, _, _, _, _, _, _, _, _, _, _, _, _, _, _] [_] _ (View.cover_of_tiled_head _ _ _ (by rfl) _)).trans ?_
  generalize hg : (∑ r : Fin 1024, prob b0 b4 L r y1 * b1 (ix3 0 r y2) : EReal) = g
  canon_tiles x h
  all_goals
    idx_vars x
    unfold_payloads
    pointwise
    try simp only [shapeCast_self]
    obtain rfl : y2 = x2 := Fin.ext h2
    simp only [hL, dite_eq_ite, ite_self, ← h1, Fin.eta]
    exact hg

set_option maxHeartbeats 2000000 in
/-- The block of query gradients: every key's score gradient times the key. -/
theorem out0_B_6_apply (hc0 : ¬cond0_0 i) (hL : ∀ r l, (b2 (ix3 0 r l) : EReal) = L r) (hD : ∀ r l, (b3 (ix3 0 r l) : EReal) = D r) (y : S1x1024x256.Idx) :
    (out0_B_6 c i _ hw2 _ hw3 _ hw4 _ hw5 _ hw6 _ hw7 _ hw8 _ hw9 _ hw10 _ hw11 hc0 b0 b1 b2 b3 b4 b5 bo7 bo8 y : EReal) = ∑ κ : Fin 8192, dscore b0 b1 b4 b5 L D (y 1) κ * b4 (ix3 0 κ (y 2)) := by
  unfold out0_B_6
  rw [wr (fun _ => cover0_B_6 ..)]
  unfold kernelRun0_B
  dsimp only
  sl_unfold_words
  simp (disch := decide) only [↓ View.readCov_cons_toLoadRect, ↓ View.readCov_unit_zero (S := S1024x256) _ hz]
  simp (disch := assumption) only [rd,
    ld0 S1x1024x256, ld0 S1x1024x128]
  simp only [c0 S1x1024x256]
  idx_vars y
  obtain rfl : y0 = 0 := Subsingleton.elim _ _
  generalize hg : (∑ κ : Fin 8192, dscore b0 b1 b4 b5 L D y1 κ * b4 (ix3 0 κ y2) : EReal) = g
  unfold_payloads
  pointwise
  try simp only [shapeCast_self]
  simp only [hL, hD, dite_eq_ite, ite_self]
  refine Eq.trans ?_ hg
  exact sum_keys (fun κ => dscore b0 b1 b4 b5 L D y1 κ * b4 (ix3 0 κ y2))

/-- The key gradients: what lay there and this row tile's share. -/
theorem out0_B_7_apply (hc0 : ¬cond0_0 i) (hL : ∀ r l, (b2 (ix3 0 r l) : EReal) = L r) (hD : ∀ r l, (b3 (ix3 0 r l) : EReal) = D r) (y : S1x8192x256.Idx) :
    (out0_B_7 c i _ hw2 _ hw3 _ hw4 _ hw5 _ hw6 _ hw7 _ hw8 _ hw9 _ hw10 _ hw11 hc0 b0 b1 b2 b3 b4 b5 bo7 bo8 y : EReal) = bo7 y + ∑ r : Fin 1024, dscore b0 b1 b4 b5 L D r (y 1) * b0 (ix3 0 r (y 2)) := by
  unfold out0_B_7
  rw [wr (fun _ => cover0_B_7 ..)]
  unfold kernelRun0_B
  dsimp only
  sl_unfold_words
  simp (disch := decide) only []
  simp (disch := assumption) only [rd,
    ld0 S1x1024x256, ld0 S1x1024x128]
  idx_vars y
  obtain rfl : y0 = 0 := Subsingleton.elim _ _
  generalize hg : (bo7 (ix3 0 y1 y2) + ∑ r : Fin 1024, dscore b0 b1 b4 b5 L D r y1 * b0 (ix3 0 r y2) : EReal) = g
  canon_tiles x h
  all_goals
    idx_vars x
    unfold_payloads
    pointwise
    try simp only [shapeCast_self]
    obtain rfl : y2 = x2 := Fin.ext h2
    simp only [hL, hD, dite_eq_ite, ite_self, ← h1, Fin.eta]
    exact hg

/-- The value gradients: what lay there and this row tile's share. -/
theorem out0_B_8_apply (hc0 : ¬cond0_0 i) (hL : ∀ r l, (b2 (ix3 0 r l) : EReal) = L r) (hD : ∀ r l, (b3 (ix3 0 r l) : EReal) = D r) (y : S1x8192x128.Idx) :
    (out0_B_8 c i _ hw2 _ hw3 _ hw4 _ hw5 _ hw6 _ hw7 _ hw8 _ hw9 _ hw10 _ hw11 hc0 b0 b1 b2 b3 b4 b5 bo7 bo8 y : EReal) = bo8 y + ∑ r : Fin 1024, prob b0 b4 L r (y 1) * b1 (ix3 0 r (y 2)) := by
  unfold out0_B_8
  rw [wr (fun _ => cover0_B_8 ..)]
  unfold kernelRun0_B
  dsimp only
  sl_unfold_words
  simp (disch := decide) only []
  simp (disch := assumption) only [rd, hw10.read_unread,
    ld0 S1x1024x256, ld0 S1x1024x128]
  idx_vars y
  obtain rfl : y0 = 0 := Subsingleton.elim _ _
  generalize hg : (bo8 (ix3 0 y1 y2) + ∑ r : Fin 1024, prob b0 b4 L r y1 * b1 (ix3 0 r y2) : EReal) = g
  canon_tiles x h
  all_goals
    idx_vars x
    unfold_payloads
    pointwise
    try simp only [shapeCast_self]
    obtain rfl : y2 = x2 := Fin.ext h2
    simp only [hL, dite_eq_ite, ite_self, ← h1, Fin.eta]
    exact hg

end

end Cert.FlashBwdPoint

end
-- ==== Proof.FlashBwdHost.lean ====
/- Hand-written, untrusted: what the attention's backward call finds in its arguments, at finite arrays. -/
module

public import proofs.«01_k».proof.Proof.Attention
public import proofs.«01_k».proof.Proof.Gen.FlashBwdIdeal.Value

@[expose] public section

set_option maxRecDepth 16384

noncomputable section

namespace Cert.FlashBwdHost

open Cert.Common Cert.Attention Idealize.ShloMosaic TcCoe Idealize.SL.Sem
open Cert.FlashBwdIdeal Cert.FlashBwdIdeal.Gen

variable (qn : Fin 8192 → Fin 8 → Fin 128 → ℝ) (qr : Fin 8192 → Fin 8 → Fin 64 → ℝ) (kn : Fin 8192 → Fin 8 → Fin 128 → ℝ) (kr : Fin 8192 → Fin 64 → ℝ)
  (v g : Fin 8192 → Fin 8 → Fin 128 → ℝ)

variable (m : (ℓ : Loc nD τ sig) → Buf (Elt Ideal) ℓ) (c : Dev nD)

/-- The queries, scaled. -/
theorem V_q (x0 : S8192x8x128.Idx → EReal) (hx0 : x0 = m (lc c main_arg0)) (x1 : S8192x8x64.Idx → EReal) (hx1 : x1 = m (lc c main_arg1))
    (h0 : ∀ q h a, x0 (ix3 q h a) = qn q h a) (h1 : ∀ q h a, x1 (ix3 q h a) = qr q h a) (h : Fin 8) (q : Fin 8192) (a : Fin 256) :
    (V m c main_v15 : S8x8192x256.Idx → EReal) (ix3 h q a) = ((qh qn qr h q a * (scale / Real.log 2) : ℝ) : EReal) := by
  generalize hR : ((qh qn qr h q a * (scale / Real.log 2) : ℝ) : EReal) = R
  have e : (V m c main_v15 : S8x8192x256.Idx → EReal) = (truncf .bf16 (mulf (concatenate (α := Ideal .f32) S8x8192x256 2 [⟨S8x8192x128, transpose S8x8192x128 [1, 0, 2] (m (lc c main_arg0)) transposes_S8192x8x128_S8x8192x128_1_0_2⟩, ⟨S8x8192x64, transpose S8x8192x64 [1, 0, 2] (m (lc c main_arg1)) transposes_S8192x8x64_S8x8192x64_1_0_2⟩, ⟨S8x8192x64, broadcastInDim S8x8192x64 ![] bcast_S_S8x8192x64 (constant (F := Ideal) S_ .f32 0x00000000#32)⟩] concatenates_S8x8192x128_S8x8192x64_S8x8192x64_S8x8192x256_d2)
      (broadcastInDim S8x8192x256 ![] bcast_S_S8x8192x256 (Host.divf (constant (F := Ideal) S_ .f32 0x3D93CD3A#32) (Host.log (constant (F := Ideal) S_ .f32 0x40000000#32))))) bitsLt_bf16_f32 : FVec Ideal S8x8192x256 .bf16) := by
    show StableHlo.after _ (fun b => m (c, b)) main_v15 = _
    simp only []
    after_results
    try rfl
  rw [e, ← hx0, ← hx1]
  have hl : Real.log 2 ≠ 0 := (Real.log_pos one_lt_two).ne'
  have hC : Ideal.div (Ideal.ofBits FTy.f32 0x3D93CD3A#32) (Ideal.log (Ideal.ofBits FTy.f32 0x40000000#32)) = ((scale / Real.log 2 : ℝ) : EReal) := by
    refine (congrArg₂ Ideal.div ofBits_scale log_two_word).trans (div_real hl _)
  generalize hu : (Host.divf (constant (F := Ideal) S_ .f32 0x3D93CD3A#32) (Host.log (constant (F := Ideal) S_ .f32 0x40000000#32))) = u
  have hu' : ∀ i, (u i : EReal) = ((scale / Real.log 2 : ℝ) : EReal) := fun i => hu ▸ hC
  clear hC hu
  pointwise
  simp only [hu', h0, h1]
  rw [qh_coe, ← EReal.coe_mul]
  exact hR

/-- The keys. -/
theorem V_k (x2 : S8192x8x128.Idx → EReal) (hx2 : x2 = m (lc c main_arg2)) (x3 : S8192x64.Idx → EReal) (hx3 : x3 = m (lc c main_arg3))
    (h2 : ∀ q h a, x2 (ix3 q h a) = kn q h a) (h3 : ∀ q a, x3 (ix2 q a) = kr q a) (h : Fin 8) (q : Fin 8192) (a : Fin 256) :
    (V m c main_v16 : S8x8192x256.Idx → EReal) (ix3 h q a) = ((kh kn kr h q a : ℝ) : EReal) := by
  rw [← kh_coe]
  generalize hR : (if ha : a.val < 128 then _ else _ : EReal) = R
  have e : (V m c main_v16 : S8x8192x256.Idx → EReal) = (truncf .bf16 (concatenate (α := Ideal .f32) S8x8192x256 2 [⟨S8x8192x128, transpose S8x8192x128 [1, 0, 2] (m (lc c main_arg2)) transposes_S8192x8x128_S8x8192x128_1_0_2⟩, ⟨S8x8192x64, broadcastInDim S8x8192x64 ![0, 1, 2] bcast_S1x8192x64_S8x8192x64_0_1_2 (broadcastInDim S1x8192x64 ![1, 2] bcast_S8192x64_S1x8192x64_1_2 (m (lc c main_arg3)))⟩, ⟨S8x8192x64, broadcastInDim S8x8192x64 ![] bcast_S_S8x8192x64 (constant (F := Ideal) S_ .f32 0x00000000#32)⟩] concatenates_S8x8192x128_S8x8192x64_S8x8192x64_S8x8192x256_d2) bitsLt_bf16_f32 : FVec Ideal S8x8192x256 .bf16) := by
    show StableHlo.after _ (fun b => m (c, b)) main_v16 = _
    simp only []
    after_results
    try rfl
  rw [e, ← hx2, ← hx3]
  pointwise
  simp only [h2, h3]
  exact hR

/-- The values, with ones behind them. -/
theorem V_v1 (x4 : S8192x8x128.Idx → EReal) (hx4 : x4 = m (lc c main_arg4))
    (h4 : ∀ q h a, x4 (ix3 q h a) = v q h a) (h : Fin 8) (q : Fin 8192) (a : Fin 256) (ha : a.val < 128) :
    (V m c main_v17 : S8x8192x256.Idx → EReal) (ix3 h q a) = ((v q h ⟨a.val, ha⟩ : ℝ) : EReal) := by
  have e : (V m c main_v17 : S8x8192x256.Idx → EReal) = (truncf .bf16 (concatenate (α := Ideal .f32) S8x8192x256 2 [⟨S8x8192x128, transpose S8x8192x128 [1, 0, 2] (m (lc c main_arg4)) transposes_S8192x8x128_S8x8192x128_1_0_2⟩, ⟨S8x8192x128, broadcastInDim S8x8192x128 ![] bcast_S_S8x8192x128 (constant (F := Ideal) S_ .f32 0x3F800000#32)⟩] concatenates_S8x8192x128_S8x8192x128_S8x8192x256_d2) bitsLt_bf16_f32 : FVec Ideal S8x8192x256 .bf16) := by
    show StableHlo.after _ (fun b => m (c, b)) main_v17 = _
    simp only []
    after_results
    try rfl
  rw [e, ← hx4]
  generalize constant (F := Ideal) S_ .f32 0x3F800000#32 = u
  pointwise
  rw [dif_pos ha, h4]

/-- The output's gradient, by head. -/
theorem V_do (x5 : S8192x1024.Idx → EReal) (hx5 : x5 = m (lc c main_arg5))
    (h5 : ∀ (q : Fin 8192) (h : Fin 8) (a : Fin 128), x5 (ix2 q ⟨128 * h.val + a.val, by omega⟩) = g q h a) (h : Fin 8) (q : Fin 8192) (a : Fin 128) :
    (V m c main_v46 : S8x8192x128.Idx → EReal) (ix3 h q a) = ((g q h a : ℝ) : EReal) := by
  have e : (V m c main_v46 : S8x8192x128.Idx → EReal) = (truncf .bf16 (transpose S8x8192x128 [1, 0, 2] (shapeCast S8192x8x128 (m (lc c main_arg5)) shapeCasts_S8192x1024_S8192x8x128) transposes_S8192x8x128_S8x8192x128_1_0_2) bitsLt_bf16_f32 : FVec Ideal S8x8192x128 .bf16) := by
    show StableHlo.after _ (fun b => m (c, b)) main_v46 = _
    simp only []
    after_results
    try rfl
  rw [e, ← hx5]
  pointwise
  refine Eq.trans (read2 (A := 8192) (B := 1024) x5 _ _ ?_ ?_) (h5 q h a)
  · rfl
  · show h.val * 128 + a.val = 128 * h.val + a.val
    omega

/-- The scores as the host computes them. -/
def sc (x0 : FVec Ideal S8192x8x128 .f32) (x1 : FVec Ideal S8192x8x64 .f32) (x2 : FVec Ideal S8192x8x128 .f32) (x3 : FVec Ideal S8192x64 .f32) : FVec Ideal S8x8192x8192 .f32 :=
  mulf (addf (Host.dotGeneral dot_S8192x8x128_S8192x8x128_S8x8192x8192_2_2_0_0_1_1 none x0 x2) (transpose S8x8192x8192 [2, 1, 0] (Host.dotGeneral dot_S8192x64_S8192x8x64_S8192x8192x8_1_2_0_01_n_n none x3 x1) transposes_S8192x8192x8_S8x8192x8192_2_1_0))
    (broadcastInDim S8x8192x8192 ![] bcast_S_S8x8192x8192 (constant (F := Ideal) S_ .f32 0x3D93CD3A#32))

/-- The rows' maxima. -/
def mx (z : FVec Ideal S8x8192x8192 .f32) : FVec Ideal S8x8192x1 .f32 :=
  broadcastInDim S8x8192x1 ![0, 1] bcast_S8x8192_S8x8192x1_0_1 (Host.reduce FloatOps.maximumf z (constant (F := Ideal) S_ .f32 0xFF800000#32) reducesTo_S8x8192x8192_S8x8192_d2 h_S_)

/-- The exponentials of the scores. -/
def ex (z : FVec Ideal S8x8192x8192 .f32) (w : FVec Ideal S8x8192x1 .f32) : FVec Ideal S8x8192x8192 .f32 :=
  Host.exp (subf z (broadcastInDim S8x8192x8192 ![0, 1, 2] bcast_S8x8192x1_S8x8192x8192_0_1_2 w))

/-- Their sums by row. -/
def ls (e : FVec Ideal S8x8192x8192 .f32) : FVec Ideal S8x8192x1 .f32 :=
  broadcastInDim S8x8192x1 ![0, 1] bcast_S8x8192_S8x8192x1_0_1 (Host.reduceAdd e (constant (F := Ideal) S_ .f32 0x00000000#32) reducesTo_S8x8192x8192_S8x8192_d2 h_S_)

theorem sc_eq (x0 : FVec Ideal S8192x8x128 .f32) (x1 : FVec Ideal S8192x8x64 .f32) (x2 : FVec Ideal S8192x8x128 .f32) (x3 : FVec Ideal S8192x64 .f32)
    (h0 : ∀ q h a, (x0 (ix3 q h a) : EReal) = qn q h a) (h1 : ∀ q h a, (x1 (ix3 q h a) : EReal) = qr q h a) (h2 : ∀ q h a, (x2 (ix3 q h a) : EReal) = kn q h a) (h3 : ∀ q a, (x3 (ix2 q a) : EReal) = kr q a) (h : Fin 8) (q κ : Fin 8192) :
    (sc x0 x1 x2 x3 (ix3 h q κ) : EReal) = ((score qn qr kn kr h q κ : ℝ) : EReal) := by
  unfold sc
  generalize hR : ((score qn qr kn kr h q κ : ℝ) : EReal) = R
  have hu : ∀ i, (constant (F := Ideal) S_ .f32 0x3D93CD3A#32 i : EReal) = ((scale : ℝ) : EReal) := fun _ => ofBits_scale
  generalize constant (F := Ideal) S_ .f32 0x3D93CD3A#32 = u at hu ⊢
  pointwise
  simp only [h0, h1, h2, h3, hu]
  simp only [← EReal.coe_mul, coe_sum, ← EReal.coe_add]
  rw [← hR]
  unfold score
  exact congrArg _ (congrArg (· * scale) (congrArg _ (Finset.sum_congr rfl fun _ _ => mul_comm _ _)))

theorem mx_eq (z : FVec Ideal S8x8192x8192 .f32) (s : Fin 8192 → ℝ) (h : Fin 8) (q : Fin 8192) (hs : ∀ κ, (z (ix3 h q κ) : EReal) = s κ) :
    ∃ M : ℝ, ∀ i : Fin 1, (mx z (ix3 h q i) : EReal) = M := by
  obtain ⟨M, hM⟩ := max_real (by norm_num) s
  refine ⟨M, fun i => ?_⟩
  unfold mx
  have hr := row_max z reducesTo_S8x8192x8192_S8x8192_d2 h_S_ h q
  generalize Host.reduce FloatOps.maximumf z (constant (F := Ideal) S_ .f32 0xFF800000#32) reducesTo_S8x8192x8192_S8x8192_d2 h_S_ = y at hr ⊢
  pointwise
  rw [hr]
  simp only [hs]
  exact hM

/-- The quotients of the exponentials by their sums. -/
def pr (z : FVec Ideal S8x8192x8192 .f32) (w : FVec Ideal S8x8192x1 .f32) : FVec Ideal S8x8192x8192 .f32 :=
  Host.divf (ex z w) (broadcastInDim S8x8192x8192 ![0, 1, 2] bcast_S8x8192x1_S8x8192x8192_0_1_2 (ls (ex z w)))

theorem pr_eq (z : FVec Ideal S8x8192x8192 .f32) (w : FVec Ideal S8x8192x1 .f32) (s : Fin 8192 → ℝ) (M : ℝ) (h : Fin 8) (q : Fin 8192) (hs : ∀ κ, (z (ix3 h q κ) : EReal) = s κ)
    (hM : ∀ i : Fin 1, (w (ix3 h q i) : EReal) = M) (κ : Fin 8192) : (pr z w (ix3 h q κ) : EReal) = ((soft s κ : ℝ) : EReal) := by
  refine Eq.trans ?_ (exp_div (n := 8192) (by norm_num) s M κ)
  unfold pr ls ex
  pointwise
  simp only [hs, hM]

theorem lse_eq (z : FVec Ideal S8x8192x8192 .f32) (w : FVec Ideal S8x8192x1 .f32) (u : FVec Ideal S_ .f32) (s : Fin 8192 → ℝ) (M L : ℝ) (h : Fin 8) (q : Fin 8192) (hs : ∀ κ, (z (ix3 h q κ) : EReal) = s κ)
    (hM : ∀ i : Fin 1, (w (ix3 h q i) : EReal) = M) (hu : ∀ i, (u i : EReal) = L) (l : Fin 128) :
    (broadcastInDim (α := Ideal .f32) S8x8192x128 ![0, 1, 2] bcast_S8x8192x1_S8x8192x128_0_1_2 (Host.divf (addf w (Host.log (ls (ex z w)))) (broadcastInDim S8x8192x1 ![] bcast_S_S8x8192x1 u)) (ix3 h q l) : EReal)
      = Ideal.div ((M : EReal) + Ideal.log (∑ k, Ideal.exp ((s k : EReal) - (M : EReal)))) (L : EReal) := by
  unfold ls ex
  pointwise
  simp only [hs, hM, hu]

/-- The rows' log-sums in base 2. -/
theorem V_lse (x0 : FVec Ideal S8192x8x128 .f32) (hx0 : x0 = m (lc c main_arg0)) (x1 : FVec Ideal S8192x8x64 .f32) (hx1 : x1 = m (lc c main_arg1))
    (x2 : FVec Ideal S8192x8x128 .f32) (hx2 : x2 = m (lc c main_arg2)) (x3 : FVec Ideal S8192x64 .f32) (hx3 : x3 = m (lc c main_arg3))
    (h0 : ∀ q h a, (x0 (ix3 q h a) : EReal) = qn q h a) (h1 : ∀ q h a, (x1 (ix3 q h a) : EReal) = qr q h a) (h2 : ∀ q h a, (x2 (ix3 q h a) : EReal) = kn q h a) (h3 : ∀ q a, (x3 (ix2 q a) : EReal) = kr q a) (h : Fin 8) (q : Fin 8192) :
    ∃ M : ℝ, ∀ l : Fin 128, (V m c main_v41 : S8x8192x128.Idx → EReal) (ix3 h q l) = Ideal.div ((M : EReal) + Ideal.log (∑ k, Ideal.exp ((score qn qr kn kr h q k : EReal) - (M : EReal)))) (Real.log 2 : ℝ) := by
  have e : (V m c main_v41 : S8x8192x128.Idx → EReal) = (broadcastInDim S8x8192x128 ![0, 1, 2] bcast_S8x8192x1_S8x8192x128_0_1_2 (Host.divf (addf (mx (sc x0 x1 x2 x3)) (Host.log (ls (ex (sc x0 x1 x2 x3) (mx (sc x0 x1 x2 x3))))))
      (broadcastInDim S8x8192x1 ![] bcast_S_S8x8192x1 (Host.log (constant (F := Ideal) S_ .f32 0x40000000#32)))) : FVec Ideal S8x8192x128 .f32) := by
    subst hx0 hx1 hx2 hx3
    show StableHlo.after _ (fun b => m (c, b)) main_v41 = _
    simp only []
    after_results
    try rfl
  have hs := sc_eq qn qr kn kr x0 x1 x2 x3 h0 h1 h2 h3 h q
  obtain ⟨M, hM⟩ := mx_eq (sc x0 x1 x2 x3) _ h q hs
  refine ⟨M, fun l => ?_⟩
  exact (congrFun e (ix3 h q l)).trans (lse_eq _ _ _ _ M (Real.log 2) h q hs hM (fun _ => log_two_word) l)

/-- The rows' sums of the output's gradient times the output. -/
theorem V_delta (x0 : FVec Ideal S8192x8x128 .f32) (hx0 : x0 = m (lc c main_arg0)) (x1 : FVec Ideal S8192x8x64 .f32) (hx1 : x1 = m (lc c main_arg1))
    (x2 : FVec Ideal S8192x8x128 .f32) (hx2 : x2 = m (lc c main_arg2)) (x3 : FVec Ideal S8192x64 .f32) (hx3 : x3 = m (lc c main_arg3))
    (x4 : FVec Ideal S8192x8x128 .f32) (hx4 : x4 = m (lc c main_arg4)) (x5 : FVec Ideal S8192x1024 .f32) (hx5 : x5 = m (lc c main_arg5))
    (h0 : ∀ q h a, (x0 (ix3 q h a) : EReal) = qn q h a) (h1 : ∀ q h a, (x1 (ix3 q h a) : EReal) = qr q h a) (h2 : ∀ q h a, (x2 (ix3 q h a) : EReal) = kn q h a) (h3 : ∀ q a, (x3 (ix2 q a) : EReal) = kr q a)
    (h4 : ∀ q h a, (x4 (ix3 q h a) : EReal) = v q h a) (h5 : ∀ (q : Fin 8192) (h : Fin 8) (a : Fin 128), (x5 (ix2 q ⟨128 * h.val + a.val, by omega⟩) : EReal) = g q h a) (h : Fin 8) (q : Fin 8192) (l : Fin 128) :
    (V m c main_v45 : S8x8192x128.Idx → EReal) (ix3 h q l) = ((∑ k, soft (score qn qr kn kr h q) k * ∑ a, g q h a * v k h a : ℝ) : EReal) := by
  have e : (V m c main_v45 : S8x8192x128.Idx → EReal) = (broadcastInDim S8x8192x128 ![0, 1, 2] bcast_S8x8192x1_S8x8192x128_0_1_2 (broadcastInDim S8x8192x1 ![0, 1] bcast_S8x8192_S8x8192x1_0_1 (Host.reduceAdd (mulf (transpose S8x8192x128 [1, 0, 2] (shapeCast S8192x8x128 x5 shapeCasts_S8192x1024_S8192x8x128) transposes_S8192x8x128_S8x8192x128_1_0_2)
      (Host.dotGeneral dot_S8x8192x8192_S8192x8x128_S8x8192x128_2_0_1_2_0_1 none (pr (sc x0 x1 x2 x3) (mx (sc x0 x1 x2 x3))) x4)) (constant (F := Ideal) S_ .f32 0x00000000#32) reducesTo_S8x8192x128_S8x8192_d2 h_S_)) : FVec Ideal S8x8192x128 .f32) := by
    subst hx0 hx1 hx2 hx3 hx4 hx5
    show StableHlo.after _ (fun b => m (c, b)) main_v45 = _
    simp only []
    after_results
    try rfl
  have hs := sc_eq qn qr kn kr x0 x1 x2 x3 h0 h1 h2 h3 h q
  obtain ⟨M, hM⟩ := mx_eq (sc x0 x1 x2 x3) _ h q hs
  have hp := pr_eq (sc x0 x1 x2 x3) (mx (sc x0 x1 x2 x3)) _ M h q hs hM
  have hd : ∀ a, (transpose S8x8192x128 [1, 0, 2] (shapeCast S8192x8x128 x5 shapeCasts_S8192x1024_S8192x8x128) transposes_S8192x8x128_S8x8192x128_1_0_2 (ix3 h q a) : EReal) = ((g q h a : ℝ) : EReal) := fun a => by
    pointwise
    refine Eq.trans (read2 (A := 8192) (B := 1024) x5 _ _ ?_ ?_) (h5 q h a)
    · rfl
    · show h.val * 128 + a.val = 128 * h.val + a.val
      omega
  rw [e]
  generalize pr (sc x0 x1 x2 x3) (mx (sc x0 x1 x2 x3)) = p at hp ⊢
  generalize transpose S8x8192x128 [1, 0, 2] (shapeCast S8192x8x128 x5 shapeCasts_S8192x1024_S8192x8x128) transposes_S8192x8x128_S8x8192x128_1_0_2 = d at hd ⊢
  generalize hR : ((∑ k, soft (score qn qr kn kr h q) k * ∑ a, g q h a * v k h a : ℝ) : EReal) = R
  pointwise
  simp only [hp, hd, h4]
  simp only [← EReal.coe_mul, coe_sum]
  rw [← hR]
  refine congrArg _ ?_
  simp only [Finset.mul_sum]
  rw [Finset.sum_comm]
  exact Finset.sum_congr rfl fun k _ => Finset.sum_congr rfl fun a _ => by ring

end Cert.FlashBwdHost

end
-- ==== Proof.FlashBwdRef.lean ====
/- Hand-written, untrusted: what the reference of the attention's gradient gives, at finite arguments. -/
module

public import proofs.«01_k».proof.Proof.Attention
public import proofs.«01_k».proof.Proof.Gen.FlashBwdRefIdeal.Read

@[expose] public section

set_option maxRecDepth 16384

noncomputable section

namespace Cert.FlashBwdRefValue

open Cert.Common Cert.Attention Idealize.ShloMosaic TcCoe Idealize.SL.Sem
open Cert.FlashBwdRefIdeal Read Cert.FlashBwdRefIdeal.Gen

variable (qn : Fin 8192 → Fin 8 → Fin 128 → ℝ) (qr : Fin 8192 → Fin 8 → Fin 64 → ℝ) (kn : Fin 8192 → Fin 8 → Fin 128 → ℝ) (kr : Fin 8192 → Fin 64 → ℝ)
  (v g : Fin 8192 → Fin 8 → Fin 128 → ℝ)

variable (x0 : FVec Ideal S8192x8x128 .f32) (x1 : FVec Ideal S8192x8x64 .f32) (x2 : FVec Ideal S8192x8x128 .f32) (x3 : FVec Ideal S8192x64 .f32)
  (x4 : FVec Ideal S8192x8x128 .f32) (x5 : FVec Ideal S8192x1024 .f32)

theorem score_real (C : EReal) (hC : C = ((scale : ℝ) : EReal)) (h : Fin 8) (q κ : Fin 8192) :
    (∑ a, ((qn q h a : ℝ) : EReal) * C * ((kn κ h a : ℝ) : EReal) + ∑ r, ((qr q h r : ℝ) : EReal) * C * ((kr κ r : ℝ) : EReal)) = ((score qn qr kn kr h q κ : ℝ) : EReal) := by
  subst hC
  simp only [← EReal.coe_mul, coe_sum, ← EReal.coe_add]
  refine congrArg _ ?_
  unfold score
  rw [add_mul, Finset.sum_mul, Finset.sum_mul]
  exact congrArg₂ _ (Finset.sum_congr rfl fun a _ => by ring) (Finset.sum_congr rfl fun a _ => by ring)

/-- The scores. -/
theorem v8_eq (h0 : ∀ q h a, (x0 (ix3 q h a) : EReal) = qn q h a) (h1 : ∀ q h a, (x1 (ix3 q h a) : EReal) = qr q h a)
    (h2 : ∀ q h a, (x2 (ix3 q h a) : EReal) = kn q h a) (h3 : ∀ q a, (x3 (ix2 q a) : EReal) = kr q a) (h : Fin 8) (q κ : Fin 8192) :
    (val_main_v8 (F := Ideal) x0 x1 x2 x3 (ix3 h q κ) : EReal) = ((score qn qr kn kr h q κ : ℝ) : EReal) := by
  refine Eq.trans ?_ (score_real qn qr kn kr _ ofBits_scale h q κ)
  generalize hg : (∑ a, ((qn q h a : ℝ) : EReal) * Ideal.ofBits FTy.f32 0x3D93CD3A#32 * ((kn κ h a : ℝ) : EReal) + ∑ r, ((qr q h r : ℝ) : EReal) * Ideal.ofBits FTy.f32 0x3D93CD3A#32 * ((kr κ r : ℝ) : EReal)) = g'
  simp only [val_main_v8, val_main_v7, val_main_v6, val_main_v5, val_main_v4, val_main_v3, val_main_v2, val_main_v1, val_main_v0, val_main_cst, val_main_cst_0]
  pointwise
  simp only [h0, h1, h2, h3]
  exact hg

/-- The row's maximum, which the scores are taken from. -/
theorem v16_eq (h : Fin 8) (q : Fin 8192) :
    (val_main_v16 (F := Ideal) x0 x1 x2 x3 (ix2 h q) : EReal) = Finset.univ.fold max (⊥ : EReal) fun κ : Fin 8192 => (val_main_v8 (F := Ideal) x0 x1 x2 x3 (ix3 h q κ) : EReal) := by
  refine Eq.trans (max_with bcast_S_S8x8192 (constant (F := Ideal) S_ .f32 0xFF800000#32) (val_main_v9 (F := Ideal) x0 x1 x2 x3) (ix2 h q) fun _ => ofBits_neg_inf) ?_
  exact row_max _ _ _ h q

/-- The output's gradient, by head. -/
theorem v41_eq (h5 : ∀ (q : Fin 8192) (h : Fin 8) (a : Fin 128), (x5 (ix2 q ⟨128 * h.val + a.val, by omega⟩) : EReal) = g q h a) (h : Fin 8) (a : Fin 128) (q : Fin 8192) :
    (val_main_v41 (F := Ideal) x5 (ix3 h a q) : EReal) = g q h a := by
  simp only [val_main_v41, val_main_v40]
  pointwise
  refine Eq.trans (read2 (A := 8192) (B := 1024) x5 _ _ ?_ ?_) (h5 q h a)
  · rfl
  · show h.val * 128 + a.val = 128 * h.val + a.val
    omega

/-- The row's maximum is a real. -/
theorem max_eq (h0 : ∀ q h a, (x0 (ix3 q h a) : EReal) = qn q h a) (h1 : ∀ q h a, (x1 (ix3 q h a) : EReal) = qr q h a)
    (h2 : ∀ q h a, (x2 (ix3 q h a) : EReal) = kn q h a) (h3 : ∀ q a, (x3 (ix2 q a) : EReal) = kr q a) (h : Fin 8) (q : Fin 8192) :
    ∃ M : ℝ, (val_main_v16 (F := Ideal) x0 x1 x2 x3 (ix2 h q) : EReal) = (M : ℝ) := by
  obtain ⟨M, hM⟩ := max_real (by norm_num) (score qn qr kn kr h q)
  refine ⟨M, ?_⟩
  rw [v16_eq]; refine Eq.trans ?_ hM
  exact congrArg (Finset.univ.fold max (⊥ : EReal)) (funext fun κ => v8_eq qn qr kn kr x0 x1 x2 x3 h0 h1 h2 h3 h q κ)

/-- The probabilities. -/
theorem v33_eq (h0 : ∀ q h a, (x0 (ix3 q h a) : EReal) = qn q h a) (h1 : ∀ q h a, (x1 (ix3 q h a) : EReal) = qr q h a)
    (h2 : ∀ q h a, (x2 (ix3 q h a) : EReal) = kn q h a) (h3 : ∀ q a, (x3 (ix2 q a) : EReal) = kr q a) (h : Fin 8) (q κ : Fin 8192) :
    (val_main_v33 (F := Ideal) x0 x1 x2 x3 (ix3 h q κ) : EReal) = ((soft (score qn qr kn kr h q) κ : ℝ) : EReal) := by
  obtain ⟨M, hm⟩ := max_eq qn qr kn kr x0 x1 x2 x3 h0 h1 h2 h3 h q
  have hs := v8_eq qn qr kn kr x0 x1 x2 x3 h0 h1 h2 h3 h q
  refine Eq.trans ?_ (exp_div (n := 8192) (by norm_num) (score qn qr kn kr h q) M κ)
  simp only [val_main_v33, val_main_v32, val_main_v31, val_main_v30, val_main_v29, val_main_v28, val_main_v27, val_main_v26, val_main_cst_9]
  generalize val_main_v8 (F := Ideal) x0 x1 x2 x3 = z at hs ⊢
  generalize val_main_v16 (F := Ideal) x0 x1 x2 x3 = w at hm ⊢
  pointwise
  simp only [hs, hm]

/-- The gradient of the scores. -/
theorem v56_eq (h0 : ∀ q h a, (x0 (ix3 q h a) : EReal) = qn q h a) (h1 : ∀ q h a, (x1 (ix3 q h a) : EReal) = qr q h a)
    (h2 : ∀ q h a, (x2 (ix3 q h a) : EReal) = kn q h a) (h3 : ∀ q a, (x3 (ix2 q a) : EReal) = kr q a) (h4 : ∀ q h a, (x4 (ix3 q h a) : EReal) = v q h a)
    (h5 : ∀ (q : Fin 8192) (h : Fin 8) (a : Fin 128), (x5 (ix2 q ⟨128 * h.val + a.val, by omega⟩) : EReal) = g q h a) (h : Fin 8) (q κ : Fin 8192) :
    (val_main_v56 (F := Ideal) x0 x1 x2 x3 x4 x5 (ix3 h q κ) : EReal) = ((dS qn qr kn kr v g h q κ : ℝ) : EReal) := by
  obtain ⟨M, hm⟩ := max_eq qn qr kn kr x0 x1 x2 x3 h0 h1 h2 h3 h q
  have hs := v8_eq qn qr kn kr x0 x1 x2 x3 h0 h1 h2 h3 h q
  have hd := v41_eq g x5 h5
  have hk := soft_grad (n := 8192) (by norm_num) (score qn qr kn kr h q) (fun κ => ∑ a, g q h a * v κ h a) M κ
  refine Eq.trans ?_ hk
  generalize hR : ((Ideal.div ((∑ a, g q h a * v κ h a : ℝ) : EReal) _ + _) * Ideal.exp _ : EReal) = R
  simp only [val_main_v56, val_main_v55, val_main_v54, val_main_v53, val_main_v52, val_main_v51, val_main_v50, val_main_v49, val_main_v48, val_main_v47, val_main_v46, val_main_v45, val_main_v42, val_main_v36, val_main_v35, val_main_v34, val_main_v31, val_main_v30, val_main_v29, val_main_v28, val_main_v27, val_main_v26, val_main_cst_9, val_main_cst_10, val_main_cst_11, val_main_cst_12]
  generalize val_main_v8 (F := Ideal) x0 x1 x2 x3 = z at hs ⊢
  generalize val_main_v16 (F := Ideal) x0 x1 x2 x3 = w at hm ⊢
  generalize val_main_v41 (F := Ideal) x5 = d at hd ⊢
  pointwise
  simp only [hs, hm, hd, h4]
  simp only [← EReal.coe_mul, coe_sum]
  exact hR

/-- The gradient by the scaled queries, padded, heads first. -/
theorem dq_eq (h0 : ∀ q h a, (x0 (ix3 q h a) : EReal) = qn q h a) (h1 : ∀ q h a, (x1 (ix3 q h a) : EReal) = qr q h a)
    (h2 : ∀ q h a, (x2 (ix3 q h a) : EReal) = kn q h a) (h3 : ∀ q a, (x3 (ix2 q a) : EReal) = kr q a) (h4 : ∀ q h a, (x4 (ix3 q h a) : EReal) = v q h a)
    (h5 : ∀ (q : Fin 8192) (h : Fin 8) (a : Fin 128), (x5 (ix2 q ⟨128 * h.val + a.val, by omega⟩) : EReal) = g q h a) (h : Fin 8) (q : Fin 8192) (a : Fin 256) :
    (val_main_v68 (F := Ideal) x0 x1 x2 x3 x4 x5 (ix3 h q a) : EReal) = ((∑ κ, dS qn qr kn kr v g h q κ * kh kn kr h κ a : ℝ) : EReal) := by
  have hs := v56_eq qn qr kn kr v g x0 x1 x2 x3 x4 x5 h0 h1 h2 h3 h4 h5 h
  simp only [val_main_v68, val_main_v66, val_main_v65, val_main_v64, val_main_v63, val_main_v60, val_main_v59, val_main_v1, val_main_v0, val_main_cst_13]
  generalize val_main_v56 (F := Ideal) x0 x1 x2 x3 x4 x5 = z at hs ⊢
  generalize hR : ((∑ κ, dS qn qr kn kr v g h q κ * kh kn kr h κ a : ℝ) : EReal) = R
  pointwise
  simp only [hs, h2, h3]
  simp only [← EReal.coe_mul, coe_sum]
  rw [← hR]
  unfold kh
  split_ifs
  all_goals first
    | rfl
    | simp

/-- The gradient by the keys over the logarithm of two, padded, heads first. -/
theorem dk_eq (h0 : ∀ q h a, (x0 (ix3 q h a) : EReal) = qn q h a) (h1 : ∀ q h a, (x1 (ix3 q h a) : EReal) = qr q h a)
    (h2 : ∀ q h a, (x2 (ix3 q h a) : EReal) = kn q h a) (h3 : ∀ q a, (x3 (ix2 q a) : EReal) = kr q a) (h4 : ∀ q h a, (x4 (ix3 q h a) : EReal) = v q h a)
    (h5 : ∀ (q : Fin 8192) (h : Fin 8) (a : Fin 128), (x5 (ix2 q ⟨128 * h.val + a.val, by omega⟩) : EReal) = g q h a) (h : Fin 8) (κ : Fin 8192) (a : Fin 256) :
    (val_main_v72 (F := Ideal) x0 x1 x2 x3 x4 x5 (ix3 h κ a) : EReal) = ((∑ q, dS qn qr kn kr v g h q κ * (qh qn qr h q a * (scale / Real.log 2)) : ℝ) : EReal) := by
  have hs := fun q => v56_eq qn qr kn kr v g x0 x1 x2 x3 x4 x5 h0 h1 h2 h3 h4 h5 h q κ
  simp only [val_main_v72, val_main_v71, val_main_v70, val_main_v69, val_main_v67, val_main_v65, val_main_v62, val_main_v61, val_main_v58, val_main_v57, val_main_v5, val_main_v4, val_main_v3, val_main_v2, val_main_cst_13]
  generalize val_main_v56 (F := Ideal) x0 x1 x2 x3 x4 x5 = z at hs ⊢
  generalize hR : ((∑ q, dS qn qr kn kr v g h q κ * (qh qn qr h q a * (scale / Real.log 2)) : ℝ) : EReal) = R
  pointwise
  have e0 : (val_main_cst (F := Ideal) ix0 : EReal) = ((scale : ℝ) : EReal) := ofBits_scale
  have e1 : (val_main_cst_0 (F := Ideal) ix0 : EReal) = ((scale : ℝ) : EReal) := ofBits_scale
  have e2 : Ideal.log (val_main_cst_14 (F := Ideal) ix0 : EReal) = ((Real.log 2 : ℝ) : EReal) := log_two_word
  simp only [hs, h0, h1, e0, e1, e2]
  simp only [← EReal.coe_mul, coe_sum]
  rw [← hR]
  unfold qh
  have hl : Real.log 2 ≠ 0 := (Real.log_pos one_lt_two).ne'
  split_ifs
  all_goals first
    | rw [div_real hl, Finset.sum_div]
      exact congrArg _ (Finset.sum_congr rfl fun _ _ => by ring)
    | rw [show (0 : EReal) = ((0 : ℝ) : EReal) from rfl, div_real hl]
      simp

/-- The gradient by the values, heads first. -/
theorem dv_eq (h0 : ∀ q h a, (x0 (ix3 q h a) : EReal) = qn q h a) (h1 : ∀ q h a, (x1 (ix3 q h a) : EReal) = qr q h a)
    (h2 : ∀ q h a, (x2 (ix3 q h a) : EReal) = kn q h a) (h3 : ∀ q a, (x3 (ix2 q a) : EReal) = kr q a)
    (h5 : ∀ (q : Fin 8192) (h : Fin 8) (a : Fin 128), (x5 (ix2 q ⟨128 * h.val + a.val, by omega⟩) : EReal) = g q h a) (h : Fin 8) (κ : Fin 8192) (a : Fin 128) :
    (val_main_v73 (F := Ideal) x0 x1 x2 x3 x5 (ix3 h κ a) : EReal) = ((∑ q, soft (score qn qr kn kr h q) κ * g q h a : ℝ) : EReal) := by
  simp only [val_main_v73, val_main_v44, val_main_v43]
  have hp := fun q => v33_eq qn qr kn kr x0 x1 x2 x3 h0 h1 h2 h3 h q κ
  have hd := v41_eq g x5 h5
  generalize val_main_v33 (F := Ideal) x0 x1 x2 x3 = z at hp ⊢
  generalize val_main_v41 (F := Ideal) x5 = d at hd ⊢
  generalize hR : ((∑ q, soft (score qn qr kn kr h q) κ * g q h a : ℝ) : EReal) = R
  pointwise
  simp only [hp, hd]
  simp only [← EReal.coe_mul, coe_sum]
  rw [← hR]
  exact congrArg _ (Finset.sum_congr rfl fun _ _ => mul_comm _ _)

end Cert.FlashBwdRefValue

end
-- ==== Proof.FlashBwdValue.lean ====
/- Hand-written, untrusted: the gradient of the attention. A launch goes over the heads and, inside a head, over the
   blocks of queries; the gradients by the keys and the values are added up over a head's eight blocks. -/
module

public import proofs.«01_k».proof.Proof.Gen.Pre_finite_flash_bwd
public import proofs.«01_k».proof.Proof.Finite
public import proofs.«01_k».proof.Proof.FlashBwdPoint
public import proofs.«01_k».proof.Proof.FlashBwdHost
public import proofs.«01_k».proof.Proof.FlashBwdRef

@[expose] public section

set_option maxRecDepth 16384

noncomputable section

namespace Cert.FlashBwdValue

open Cert.Common Cert.Attention Cert.FlashBwdPoint

/-- The sum over one block of 1024 queries. -/
def tile (f : Fin 8192 → ℝ) (j : ℕ) : ℝ := if hj : j < 8 then ∑ r : Fin 1024, f ⟨1024 * j + r.val, by omega⟩ else 0

theorem sum_tiles (f : Fin 8192 → ℝ) : ∑ j ∈ Finset.range 8, tile f j = ∑ q, f q := by
  rw [Finset.sum_range, sum_split (n := 8) (b := 1024) rfl f]
  refine Finset.sum_congr rfl fun j _ => ?_
  unfold tile
  rw [dif_pos j.isLt]

/-- The scores by the padded queries and keys. -/
theorem logit (qn : Fin 8192 → Fin 8 → Fin 128 → ℝ) (qr : Fin 8192 → Fin 8 → Fin 64 → ℝ) (kn : Fin 8192 → Fin 8 → Fin 128 → ℝ) (kr : Fin 8192 → Fin 64 → ℝ) (h : Fin 8) (q κ : Fin 8192) :
    ∑ a, qh qn qr h q a * (scale / Real.log 2) * kh kn kr h κ a = score qn qr kn kr h q κ / Real.log 2 := by
  unfold score
  rw [← sum_pad, mul_div_assoc, Finset.sum_mul]
  exact Finset.sum_congr rfl fun a _ => by ring

section

open Idealize.ShloMosaic
open Cert.FlashBwdIdeal

variable (qn : Fin 8192 → Fin 8 → Fin 128 → ℝ) (qr : Fin 8192 → Fin 8 → Fin 64 → ℝ) (kn : Fin 8192 → Fin 8 → Fin 128 → ℝ) (kr : Fin 8192 → Fin 64 → ℝ)
  (v g : Fin 8192 → Fin 8 → Fin 128 → ℝ)

/-- The probability that a block gives a key is that of the softmax of the scores. -/
theorem prob_real (b0 : Vec Ideal S1x1024x256 .f32) (b4 : Vec Ideal S1x8192x256 .f32) (L : Fin 1024 → EReal) (h : Fin 8) (q : Fin 8192) (M : ℝ) (r : Fin 1024) (κ : Fin 8192)
    (h0 : ∀ a, (b0 (ix3 0 r a) : EReal) = ((qh qn qr h q a * (scale / Real.log 2) : ℝ) : EReal)) (h4 : ∀ a, (b4 (ix3 0 κ a) : EReal) = ((kh kn kr h κ a : ℝ) : EReal))
    (hL : L r = Ideal.div ((M : EReal) + Ideal.log (∑ k, Ideal.exp ((score qn qr kn kr h q k : EReal) - (M : EReal)))) (Real.log 2 : ℝ)) :
    prob b0 b4 L r κ = ((soft (score qn qr kn kr h q) κ : ℝ) : EReal) := by
  refine Eq.trans ?_ (exp2_logsum (by norm_num) (score qn qr kn kr h q) M κ)
  have e : (∑ a : Fin 256, (b0 (ix3 0 r a) : EReal) * (b4 (ix3 0 κ a) : EReal)) = ((score qn qr kn kr h q κ / Real.log 2 : ℝ) : EReal) := by
    rw [← logit, ← coe_sum]
    exact Finset.sum_congr rfl fun a _ => (congrArg₂ (fun x y : EReal => x * y) (h0 a) (h4 a)).trans (EReal.coe_mul _ _).symm
  have hu : prob b0 b4 L r κ = Ideal.exp2 ((∑ a : Fin 256, (b0 (ix3 0 r a) : EReal) * (b4 (ix3 0 κ a) : EReal)) - L r) := rfl
  rw [hu, e, hL]

/-- The score gradient of a block. -/
theorem dscore_real (b0 : Vec Ideal S1x1024x256 .f32) (b1 : Vec Ideal S1x1024x128 .f32) (b4 b5 : Vec Ideal S1x8192x256 .f32) (L D : Fin 1024 → EReal) (h : Fin 8) (q : Fin 8192) (r : Fin 1024) (κ : Fin 8192)
    (hp : prob b0 b4 L r κ = ((soft (score qn qr kn kr h q) κ : ℝ) : EReal))
    (h1 : ∀ a, (b1 (ix3 0 r a) : EReal) = ((g q h a : ℝ) : EReal)) (h5 : ∀ a : Fin 128, (b5 (ix3 0 κ ⟨a.val, by omega⟩) : EReal) = ((v κ h a : ℝ) : EReal))
    (hD : D r = ((∑ k, soft (score qn qr kn kr h q) k * ∑ a, g q h a * v k h a : ℝ) : EReal)) :
    dscore b0 b1 b4 b5 L D r κ = ((dS qn qr kn kr v g h q κ : ℝ) : EReal) := by
  have e : (∑ a : Fin 128, (b1 (ix3 0 r a) : EReal) * (b5 (ix3 0 κ ⟨a.val, by omega⟩) : EReal)) = ((∑ a, g q h a * v κ h a : ℝ) : EReal) := by
    rw [← coe_sum]
    exact Finset.sum_congr rfl fun a _ => (congrArg₂ (fun x y : EReal => x * y) (h1 a) (h5 a)).trans (EReal.coe_mul _ _).symm
  unfold dscore
  refine (congrArg₂ (fun x y : EReal => x * y) hp (congrArg₂ (fun x y : EReal => x - y) e hD)).trans ?_
  beta_reduce
  rw [← EReal.coe_sub, ← EReal.coe_mul]
  rfl

end

section

open Idealize.ShloMosaic TcCoe Idealize.SL.Sem
open Cert.FlashBwdIdeal Cert.FlashBwdIdeal.Gen

variable (qn : Fin 8192 → Fin 8 → Fin 128 → ℝ) (qr : Fin 8192 → Fin 8 → Fin 64 → ℝ) (kn : Fin 8192 → Fin 8 → Fin 128 → ℝ) (kr : Fin 8192 → Fin 64 → ℝ)
  (v g : Fin 8192 → Fin 8 → Fin 128 → ℝ)

variable (m : (ℓ : Loc nD τ sig) → Buf (Elt Ideal) ℓ) (c : Dev nD)

/-- The arguments are these reals. -/
def Reals : Prop :=
  (∀ q h a, @Eq EReal ((m (lc c main_arg0) : S8192x8x128.Idx → EReal) (ix3 q h a)) (qn q h a : ℝ)) ∧ (∀ q h a, @Eq EReal ((m (lc c main_arg1) : S8192x8x64.Idx → EReal) (ix3 q h a)) (qr q h a : ℝ))
  ∧ (∀ q h a, @Eq EReal ((m (lc c main_arg2) : S8192x8x128.Idx → EReal) (ix3 q h a)) (kn q h a : ℝ)) ∧ (∀ q a, @Eq EReal ((m (lc c main_arg3) : S8192x64.Idx → EReal) (ix2 q a)) (kr q a : ℝ))
  ∧ (∀ q h a, @Eq EReal ((m (lc c main_arg4) : S8192x8x128.Idx → EReal) (ix3 q h a)) (v q h a : ℝ))
  ∧ (∀ (q : Fin 8192) (h : Fin 8) (a : Fin 128), @Eq EReal ((m (lc c main_arg5) : S8192x1024.Idx → EReal) (ix2 q ⟨128 * h.val + a.val, by omega⟩)) (g q h a : ℝ))

theorem idx_facts : ∀ t : Fin grid0.N, (win0_0.index t (0 : Fin 3) = t.val / 8 ∧ win0_0.index t (1 : Fin 3) = t.val % 8 ∧ win0_0.index t (2 : Fin 3) = 0)
    ∧ (win0_1.index t (0 : Fin 3) = t.val / 8 ∧ win0_1.index t (1 : Fin 3) = t.val % 8 ∧ win0_1.index t (2 : Fin 3) = 0)
    ∧ (win0_2.index t (0 : Fin 3) = t.val / 8 ∧ win0_2.index t (1 : Fin 3) = t.val % 8 ∧ win0_2.index t (2 : Fin 3) = 0)
    ∧ (win0_3.index t (0 : Fin 3) = t.val / 8 ∧ win0_3.index t (1 : Fin 3) = t.val % 8 ∧ win0_3.index t (2 : Fin 3) = 0)
    ∧ (win0_4.index t (0 : Fin 3) = t.val / 8 ∧ win0_4.index t (1 : Fin 3) = 0 ∧ win0_4.index t (2 : Fin 3) = 0)
    ∧ (win0_5.index t (0 : Fin 3) = t.val / 8 ∧ win0_5.index t (1 : Fin 3) = 0 ∧ win0_5.index t (2 : Fin 3) = 0)
    ∧ (win0_6.index t (0 : Fin 3) = t.val / 8 ∧ win0_6.index t (1 : Fin 3) = t.val % 8 ∧ win0_6.index t (2 : Fin 3) = 0)
    ∧ (win0_7.index t (0 : Fin 3) = t.val / 8 ∧ win0_7.index t (1 : Fin 3) = 0 ∧ win0_7.index t (2 : Fin 3) = 0)
    ∧ (win0_8.index t (0 : Fin 3) = t.val / 8 ∧ win0_8.index t (1 : Fin 3) = 0 ∧ win0_8.index t (2 : Fin 3) = 0) := by
  decide +kernel

/-- The query of row `r` of block `j`. -/
def row (j : Fin 8) (r : Fin 1024) : Fin 8192 := ⟨1024 * j.val + r.val, by omega⟩

variable {qn qr kn kr v g m c} (H : Reals qn qr kn kr v g m c) (t : Fin cfg0.N) (h j : Fin 8) (ht : t.val = 8 * h.val + j.val)

include H ht

theorem blk_q (r : Fin 1024) (a : Fin 256) : (iblk m c 0 t (ix3 0 r a) : EReal) = ((qh qn qr h (row j r) a * (scale / Real.log 2) : ℝ) : EReal) := by
  obtain ⟨⟨e0, e1, e2⟩, -⟩ := idx_facts t
  refine Eq.trans ?_ (FlashBwdHost.V_q qn qr m c _ rfl _ rfl H.1 H.2.1 h (row j r) a)
  exact read3 (V m c main_v15) _ _ (by show win0_0.index t (0 : Fin 3) * 1 + 1 * 0 = h.val; omega) (by show win0_0.index t (1 : Fin 3) * 1024 + 1 * r.val = 1024 * j.val + r.val; omega)
    (by show win0_0.index t (2 : Fin 3) * 256 + 1 * a.val = a.val; omega)

theorem blk_do (r : Fin 1024) (a : Fin 128) : (iblk m c 1 t (ix3 0 r a) : EReal) = ((g (row j r) h a : ℝ) : EReal) := by
  obtain ⟨-, ⟨e0, e1, e2⟩, -⟩ := idx_facts t
  refine Eq.trans ?_ (FlashBwdHost.V_do g m c _ rfl H.2.2.2.2.2 h (row j r) a)
  exact read3 (V m c main_v46) _ _ (by show win0_1.index t (0 : Fin 3) * 1 + 1 * 0 = h.val; omega) (by show win0_1.index t (1 : Fin 3) * 1024 + 1 * r.val = 1024 * j.val + r.val; omega)
    (by show win0_1.index t (2 : Fin 3) * 128 + 1 * a.val = a.val; omega)

theorem blk_k (κ : Fin 8192) (a : Fin 256) : (iblk m c 4 t (ix3 0 κ a) : EReal) = ((kh kn kr h κ a : ℝ) : EReal) := by
  obtain ⟨-, -, -, -, ⟨e0, e1, e2⟩, -⟩ := idx_facts t
  refine Eq.trans ?_ (FlashBwdHost.V_k kn kr m c _ rfl _ rfl H.2.2.1 H.2.2.2.1 h κ a)
  exact read3 (V m c main_v16) _ _ (by show win0_4.index t (0 : Fin 3) * 1 + 1 * 0 = h.val; omega) (by show win0_4.index t (1 : Fin 3) * 8192 + 1 * κ.val = κ.val; omega)
    (by show win0_4.index t (2 : Fin 3) * 256 + 1 * a.val = a.val; omega)

theorem blk_v (κ : Fin 8192) (a : Fin 128) : (iblk m c 5 t (ix3 0 κ ⟨a.val, by omega⟩) : EReal) = ((v κ h a : ℝ) : EReal) := by
  obtain ⟨-, -, -, -, -, ⟨e0, e1, e2⟩, -⟩ := idx_facts t
  refine Eq.trans ?_ (FlashBwdHost.V_v1 v m c _ rfl H.2.2.2.2.1 h κ ⟨a.val, by omega⟩ a.isLt)
  exact read3 (V m c main_v17) _ _ (by show win0_5.index t (0 : Fin 3) * 1 + 1 * 0 = h.val; omega) (by show win0_5.index t (1 : Fin 3) * 8192 + 1 * κ.val = κ.val; omega)
    (by show win0_5.index t (2 : Fin 3) * 256 + 1 * a.val = a.val; omega)

/-- The saved log-sums and row sums of a block do not depend on the lane. -/
theorem blk_stats : ∃ L D : Fin 1024 → EReal, (∀ r l, (iblk m c 2 t (ix3 0 r l) : EReal) = L r) ∧ (∀ r l, (iblk m c 3 t (ix3 0 r l) : EReal) = D r)
    ∧ (∀ r κ, prob (iblk m c 0 t) (iblk m c 4 t) L r κ = ((soft (score qn qr kn kr h (row j r)) κ : ℝ) : EReal))
    ∧ (∀ r κ, dscore (iblk m c 0 t) (iblk m c 1 t) (iblk m c 4 t) (iblk m c 5 t) L D r κ = ((dS qn qr kn kr v g h (row j r) κ : ℝ) : EReal)) := by
  obtain ⟨-, -, ⟨e0, e1, e2⟩, ⟨f0, f1, f2⟩, -⟩ := idx_facts t
  choose M hM using fun q => FlashBwdHost.V_lse qn qr kn kr m c _ rfl _ rfl _ rfl _ rfl H.1 H.2.1 H.2.2.1 H.2.2.2.1 h q
  have hp : ∀ r κ, prob (iblk m c 0 t) (iblk m c 4 t) (fun r => Ideal.div ((M (row j r) : EReal) + Ideal.log (∑ k, Ideal.exp ((score qn qr kn kr h (row j r) k : EReal) - (M (row j r) : EReal)))) (Real.log 2 : ℝ)) r κ = ((soft (score qn qr kn kr h (row j r)) κ : ℝ) : EReal) := fun r κ =>
    prob_real qn qr kn kr _ _ _ h (row j r) (M (row j r)) r κ (fun a => blk_q H t h j ht r a) (fun a => blk_k H t h j ht κ a) rfl
  refine ⟨_, fun r => ((∑ k, soft (score qn qr kn kr h (row j r)) k * ∑ a, g (row j r) h a * v k h a : ℝ) : EReal), fun r l => ?_, fun r l => ?_, hp, fun r κ => ?_⟩
  · refine Eq.trans ?_ (hM (row j r) l)
    exact read3 (V m c main_v41) _ _ (by show win0_2.index t (0 : Fin 3) * 1 + 1 * 0 = h.val; omega) (by show win0_2.index t (1 : Fin 3) * 1024 + 1 * r.val = 1024 * j.val + r.val; omega)
      (by show win0_2.index t (2 : Fin 3) * 128 + 1 * l.val = l.val; omega)
  · refine Eq.trans ?_ (FlashBwdHost.V_delta qn qr kn kr v g m c _ rfl _ rfl _ rfl _ rfl _ rfl _ rfl H.1 H.2.1 H.2.2.1 H.2.2.2.1 H.2.2.2.2.1 H.2.2.2.2.2 h (row j r) l)
    exact read3 (V m c main_v45) _ _ (by show win0_3.index t (0 : Fin 3) * 1 + 1 * 0 = h.val; omega) (by show win0_3.index t (1 : Fin 3) * 1024 + 1 * r.val = 1024 * j.val + r.val; omega)
      (by show win0_3.index t (2 : Fin 3) * 128 + 1 * l.val = l.val; omega)
  · exact dscore_real qn qr kn kr v g _ _ _ _ _ _ h (row j r) r κ (hp r κ) (fun a => blk_do H t h j ht r a) (fun a => blk_v H t h j ht κ a) rfl

omit ht in
/-- The block of query gradients that a point leaves. -/
theorem out6 (ht : t.val = 8 * h.val + j.val) (r : Fin 1024) (a : Fin 256) : ((outsAt0 m c t.val t.isLt).1 (ix3 0 r a) : EReal) = ((∑ κ, dS qn qr kn kr v g h (row j r) κ * kh kn kr h κ a : ℝ) : EReal) := by
  obtain ⟨L, D, hL, hD, hp, hd⟩ := blk_stats H t h j ht
  have e : ∑ κ : Fin 8192, dscore (iblk m c 0 t) (iblk m c 1 t) (iblk m c 4 t) (iblk m c 5 t) L D r κ * (iblk m c 4 t (ix3 0 κ a) : EReal) = ((∑ κ, dS qn qr kn kr v g h (row j r) κ * kh kn kr h κ a : ℝ) : EReal) := by
    rw [← coe_sum]
    exact Finset.sum_congr rfl fun κ _ => (congrArg₂ (fun x y : EReal => x * y) (hd r κ) (blk_k H t h j ht κ a)).trans (EReal.coe_mul _ _).symm
  by_cases h0 : t.val % 8 = 0
  · have e0 := congrFun (congrArg (fun p => p.1) (outsAt0_A m c t h0)) (ix3 0 r a)
    refine Eq.trans e0 ?_
    beta_reduce
    dsimp only
    refine Eq.trans (out0_A_6_apply (L := L) (D := D) _ ?_ ?_ _) ?_
    · exact hL
    · exact hD
    · exact e
  · have e0 := congrFun (congrArg (fun p => p.1) (outsAt0_B m c t h0)) (ix3 0 r a)
    refine Eq.trans e0 ?_
    beta_reduce
    dsimp only
    refine Eq.trans (out0_B_6_apply (L := L) (D := D) _ ?_ ?_ _) ?_
    · exact hL
    · exact hD
    · exact e

omit ht in
/-- What one block of queries adds to the gradients by the keys. -/
theorem step7 (t : Fin cfg0.N) (n : ℕ) (hn : n < 8) (ht : t.val = 8 * h.val + n) (L D : Fin 1024 → EReal) (κ : Fin 8192) (a : Fin 256)
    (hd : ∀ r κ, dscore (iblk m c 0 t) (iblk m c 1 t) (iblk m c 4 t) (iblk m c 5 t) L D r κ = ((dS qn qr kn kr v g h (row ⟨n, hn⟩ r) κ : ℝ) : EReal)) :
    ∑ r : Fin 1024, dscore (iblk m c 0 t) (iblk m c 1 t) (iblk m c 4 t) (iblk m c 5 t) L D r κ * (iblk m c 0 t (ix3 0 r a) : EReal) = ((tile (fun q => dS qn qr kn kr v g h q κ * (qh qn qr h q a * (scale / Real.log 2))) n : ℝ) : EReal) := by
  unfold tile
  rw [dif_pos hn, ← coe_sum]
  exact Finset.sum_congr rfl fun r _ => (congrArg₂ (fun x y : EReal => x * y) (hd r κ) (blk_q H t h ⟨n, hn⟩ ht r a)).trans (EReal.coe_mul _ _).symm

omit ht in
/-- The gradients by the keys, added up over a head's blocks so far. -/
theorem out7 (κ : Fin 8192) (a : Fin 256) : ∀ (n : ℕ) (t : Fin cfg0.N) (hn : n < 8) (ht : t.val = 8 * h.val + n), ((outsAt0 m c t.val t.isLt).2.1 (ix3 0 κ a) : EReal)
    = ((∑ j ∈ Finset.range (n + 1), tile (fun q => dS qn qr kn kr v g h q κ * (qh qn qr h q a * (scale / Real.log 2))) j : ℝ) : EReal) := by
  intro n
  induction n with
  | zero =>
    intro t hn ht
    obtain ⟨L, D, hL, hD, hp, hd⟩ := blk_stats H t h ⟨0, hn⟩ ht
    have e0 := congrFun (congrArg (fun p => p.2.1) (outsAt0_A m c t (by omega))) (ix3 0 κ a)
    refine Eq.trans e0 ?_
    beta_reduce
    dsimp only
    refine Eq.trans (out0_A_7_apply (L := L) (D := D) _ ?_ ?_ _) ?_
    · exact hL
    · exact hD
    refine Eq.trans (step7 H h t 0 hn ht L D κ a hd) ?_
    rw [zero_add, Finset.sum_range_one]
  | succ n ih =>
    intro t hn ht
    obtain ⟨L, D, hL, hD, hp, hd⟩ := blk_stats H t h ⟨n + 1, hn⟩ ht
    have e0 := congrFun (congrArg (fun p => p.2.1) (outsAt0_B m c t (by omega))) (ix3 0 κ a)
    refine Eq.trans e0 ?_
    beta_reduce
    dsimp only
    refine Eq.trans (out0_B_7_apply (L := L) (D := D) _ ?_ ?_ _) ?_
    · exact hL
    · exact hD
    refine (congrArg₂ (fun x y : EReal => x + y) (ih ⟨t.val - 1, by omega⟩ (by omega) (by show t.val - 1 = _; omega)) (step7 H h t (n + 1) hn ht L D κ a hd)).trans ?_
    rw [← EReal.coe_add, Finset.sum_range_succ _ (n + 1)]

omit ht in
/-- What one block of queries adds to the gradients by the values. -/
theorem step8 (t : Fin cfg0.N) (n : ℕ) (hn : n < 8) (ht : t.val = 8 * h.val + n) (L : Fin 1024 → EReal) (κ : Fin 8192) (a : Fin 128)
    (hp : ∀ r κ, prob (iblk m c 0 t) (iblk m c 4 t) L r κ = ((soft (score qn qr kn kr h (row ⟨n, hn⟩ r)) κ : ℝ) : EReal)) :
    ∑ r : Fin 1024, prob (iblk m c 0 t) (iblk m c 4 t) L r κ * (iblk m c 1 t (ix3 0 r a) : EReal) = ((tile (fun q => soft (score qn qr kn kr h q) κ * g q h a) n : ℝ) : EReal) := by
  unfold tile
  rw [dif_pos hn, ← coe_sum]
  exact Finset.sum_congr rfl fun r _ => (congrArg₂ (fun x y : EReal => x * y) (hp r κ) (blk_do H t h ⟨n, hn⟩ ht r a)).trans (EReal.coe_mul _ _).symm

omit ht in
/-- The gradients by the values, added up over a head's blocks so far. -/
theorem out8 (κ : Fin 8192) (a : Fin 128) : ∀ (n : ℕ) (t : Fin cfg0.N) (hn : n < 8) (ht : t.val = 8 * h.val + n), ((outsAt0 m c t.val t.isLt).2.2 (ix3 0 κ a) : EReal)
    = ((∑ j ∈ Finset.range (n + 1), tile (fun q => soft (score qn qr kn kr h q) κ * g q h a) j : ℝ) : EReal) := by
  intro n
  induction n with
  | zero =>
    intro t hn ht
    obtain ⟨L, D, hL, hD, hp, hd⟩ := blk_stats H t h ⟨0, hn⟩ ht
    have e0 := congrFun (congrArg (fun p => p.2.2) (outsAt0_A m c t (by omega))) (ix3 0 κ a)
    refine Eq.trans e0 ?_
    beta_reduce
    dsimp only
    refine Eq.trans (out0_A_8_apply (L := L) (D := D) _ ?_ ?_ _) ?_
    · exact hL
    · exact hD
    refine Eq.trans (step8 H h t 0 hn ht L κ a hp) ?_
    rw [zero_add, Finset.sum_range_one]
  | succ n ih =>
    intro t hn ht
    obtain ⟨L, D, hL, hD, hp, hd⟩ := blk_stats H t h ⟨n + 1, hn⟩ ht
    have e0 := congrFun (congrArg (fun p => p.2.2) (outsAt0_B m c t (by omega))) (ix3 0 κ a)
    refine Eq.trans e0 ?_
    beta_reduce
    dsimp only
    refine Eq.trans (out0_B_8_apply (L := L) (D := D) _ ?_ ?_ _) ?_
    · exact hL
    · exact hD
    refine (congrArg₂ (fun x y : EReal => x + y) (ih ⟨t.val - 1, by omega⟩ (by omega) (by show t.val - 1 = _; omega)) (step8 H h t (n + 1) hn ht L κ a hp)).trans ?_
    rw [← EReal.coe_add, Finset.sum_range_succ _ (n + 1)]

omit h j ht in
theorem arr6 (h : Fin 8) (q : Fin 8192) (a : Fin 256) : ((dats m 0 c).arrAt 6 cfg0.N (ix3 h q a) : EReal) = ((∑ κ, dS qn qr kn kr v g h q κ * kh kn kr h κ a : ℝ) : EReal) := by
  obtain ⟨t, ht⟩ : ∃ t : Fin cfg0.N, t.val = 8 * h.val + q.val / 1024 := ⟨⟨8 * h.val + q.val / 1024, by show _ < 64; omega⟩, rfl⟩
  obtain ⟨j, hj⟩ : ∃ j : Fin 8, j.val = q.val / 1024 := ⟨⟨q.val / 1024, by omega⟩, rfl⟩
  obtain ⟨r, hr⟩ : ∃ r : Fin 1024, r.val = q.val % 1024 := ⟨⟨q.val % 1024, by omega⟩, rfl⟩
  obtain ⟨-, -, -, -, -, -, ⟨e0, e1, e2⟩, -⟩ := idx_facts t
  have hq : row j r = q := Fin.ext (by show 1024 * j.val + r.val = q.val; omega)
  have hb := Value.blocks6 m c t (flush0_6 t)
  rw [Value.flushed6] at hb
  refine Eq.trans (Eq.trans (Eq.symm ?_) (congrFun hb (ix3 0 r a))) ((out6 H t h j (by omega) r a).trans (by rw [hq]))
  exact read3 ((dats m 0 c).arrAt 6 cfg0.N) _ _ (by show win0_6.index t (0 : Fin 3) * 1 + 1 * 0 = h.val; omega) (by show win0_6.index t (1 : Fin 3) * 1024 + 1 * r.val = q.val; omega)
    (by show win0_6.index t (2 : Fin 3) * 256 + 1 * a.val = a.val; omega)

omit H h j ht in
theorem disjoint7 : ∀ t t' : Fin cfg0.N, (cfg0.win 7).flush t = true → (cfg0.win 7).flush t' = true → t ≠ t' → Disjoint ((cfg0.win 7).blk t).view.set ((cfg0.win 7).blk t').view.set := fun t t' hf hf' hne =>
  (cfg0.win 7).disjoint_blk fun e => hne (Fin.ext (by
    obtain ⟨-, -, -, -, -, -, -, ⟨e0, -, -⟩, -⟩ := idx_facts t
    obtain ⟨-, -, -, -, -, -, -, ⟨f0, -, -⟩, -⟩ := idx_facts t'
    have h7 := (flush0_7 t).mp hf
    have h7' := (flush0_7 t').mp hf'
    have := congrFun e (0 : Fin 3)
    have : win0_7.index t (0 : Fin 3) = win0_7.index t' (0 : Fin 3) := this
    omega))

omit H h j ht in
theorem disjoint8 : ∀ t t' : Fin cfg0.N, (cfg0.win 8).flush t = true → (cfg0.win 8).flush t' = true → t ≠ t' → Disjoint ((cfg0.win 8).blk t).view.set ((cfg0.win 8).blk t').view.set := fun t t' hf hf' hne =>
  (cfg0.win 8).disjoint_blk fun e => hne (Fin.ext (by
    obtain ⟨-, -, -, -, -, -, -, -, ⟨e0, -, -⟩⟩ := idx_facts t
    obtain ⟨-, -, -, -, -, -, -, -, ⟨f0, -, -⟩⟩ := idx_facts t'
    have h7 := (flush0_8 t).mp hf
    have h7' := (flush0_8 t').mp hf'
    have := congrFun e (0 : Fin 3)
    have : win0_8.index t (0 : Fin 3) = win0_8.index t' (0 : Fin 3) := this
    omega))

omit h j ht in
theorem arr7 (h : Fin 8) (κ : Fin 8192) (a : Fin 256) : ((dats m 0 c).arrAt 7 cfg0.N (ix3 h κ a) : EReal) = ((∑ q, dS qn qr kn kr v g h q κ * (qh qn qr h q a * (scale / Real.log 2)) : ℝ) : EReal) := by
  obtain ⟨t, ht⟩ : ∃ t : Fin cfg0.N, t.val = 8 * h.val + 7 := ⟨⟨8 * h.val + 7, by show _ < 64; omega⟩, rfl⟩
  obtain ⟨-, -, -, -, -, -, -, ⟨e0, e1, e2⟩, -⟩ := idx_facts t
  have hb := (dats m 0 c).read_blk_arrAt_eq_flushed 7 disjoint7 cfg0.N t t.isLt ((flush0_7 t).mpr (by omega))
  rw [Value.flushed7] at hb
  refine Eq.trans (Eq.trans (Eq.symm ?_) (congrFun hb (ix3 0 κ a))) ((out7 H h κ a 7 t (by omega) ht).trans (congrArg Real.toEReal (sum_tiles _)))
  exact read3 ((dats m 0 c).arrAt 7 cfg0.N) _ _ (by show win0_7.index t (0 : Fin 3) * 1 + 1 * 0 = h.val; omega) (by show win0_7.index t (1 : Fin 3) * 8192 + 1 * κ.val = κ.val; omega)
    (by show win0_7.index t (2 : Fin 3) * 256 + 1 * a.val = a.val; omega)

omit h j ht in
theorem arr8 (h : Fin 8) (κ : Fin 8192) (a : Fin 128) : ((dats m 0 c).arrAt 8 cfg0.N (ix3 h κ a) : EReal) = ((∑ q, soft (score qn qr kn kr h q) κ * g q h a : ℝ) : EReal) := by
  obtain ⟨t, ht⟩ : ∃ t : Fin cfg0.N, t.val = 8 * h.val + 7 := ⟨⟨8 * h.val + 7, by show _ < 64; omega⟩, rfl⟩
  obtain ⟨-, -, -, -, -, -, -, -, ⟨e0, e1, e2⟩⟩ := idx_facts t
  have hb := (dats m 0 c).read_blk_arrAt_eq_flushed 8 disjoint8 cfg0.N t t.isLt ((flush0_8 t).mpr (by omega))
  rw [Value.flushed8] at hb
  refine Eq.trans (Eq.trans (Eq.symm ?_) (congrFun hb (ix3 0 κ a))) ((out8 H h κ a 7 t (by omega) ht).trans (congrArg Real.toEReal (sum_tiles _)))
  exact read3 ((dats m 0 c).arrAt 8 cfg0.N) _ _ (by show win0_8.index t (0 : Fin 3) * 1 + 1 * 0 = h.val; omega) (by show win0_8.index t (1 : Fin 3) * 8192 + 1 * κ.val = κ.val; omega)
    (by show win0_8.index t (2 : Fin 3) * 128 + 1 * a.val = a.val; omega)

end

section

open Idealize.ShloMosaic Idealize.SL.Sem TcCoe
open Cert.Finite

/-- Two arrays of rank 3 that agree at every triple of coordinates are equal. -/
theorem ext3 {α : Type} {l n k : ℕ} (f g : Shape.Idx ⟨3, ![l, n, k]⟩ → α) (h : ∀ a b c, f (ix3 a b c) = g (ix3 a b c)) : f = g := by
  refine funext fun i => ?_
  rw [eq_ix3 i]
  exact h _ _ _

/-- Under the precondition the arguments are reals. -/
theorem real_args (x0 : FVec Ideal Cert.FlashBwdIdeal.S8192x8x128 .f32) (x1 : FVec Ideal Cert.FlashBwdIdeal.S8192x8x64 .f32) (x2 : FVec Ideal Cert.FlashBwdIdeal.S8192x8x128 .f32) (x3 : FVec Ideal Cert.FlashBwdIdeal.S8192x64 .f32)
    (x4 : FVec Ideal Cert.FlashBwdIdeal.S8192x8x128 .f32) (x5 : FVec Ideal Cert.FlashBwdIdeal.S8192x1024 .f32) (h : Cert.Pre_finite_flash_bwd.fn (F := Ideal) x0 x1 x2 x3 x4 x5 = fun _ => 1#1) :
    (∀ i, ∃ r : ℝ, (x0 i : EReal) = r) ∧ (∀ i, ∃ r : ℝ, (x1 i : EReal) = r) ∧ (∀ i, ∃ r : ℝ, (x2 i : EReal) = r) ∧ (∀ i, ∃ r : ℝ, (x3 i : EReal) = r)
    ∧ (∀ i, ∃ r : ℝ, (x4 i : EReal) = r) ∧ (∀ i, ∃ r : ℝ, (x5 i : EReal) = r) := by
  have e := congrFun h ix0
  unfold Cert.Pre_finite_flash_bwd.fn Cert.Pre_finite_flash_bwd.fn_part1 at e
  obtain ⟨e, h5⟩ := and_one e
  obtain ⟨e, h4⟩ := and_one e
  obtain ⟨e, h3⟩ := and_one e
  obtain ⟨e, h2⟩ := and_one e
  obtain ⟨e, h1⟩ := and_one e
  obtain ⟨-, h0⟩ := and_one e
  exact ⟨all_real _ _ _ _ _ h0, all_real _ _ _ _ _ h1, all_real _ _ _ _ _ h2, all_real _ _ _ _ _ h3, all_real _ _ _ _ _ h4, all_real _ _ _ _ _ h5⟩

/-- The precondition names the reals. -/
theorem reals (m : (ℓ : Loc Cert.FlashBwdIdeal.nD Cert.FlashBwdIdeal.τ Cert.FlashBwdIdeal.sig) → Buf (Elt Ideal) ℓ) (hpre : Cert.Pre_FlashBwdIdeal_finite_flash_bwd m) (c : Dev Cert.FlashBwdIdeal.nD) :
    ∃ qn qr kn kr v g, Reals qn qr kn kr v g m c := by
  obtain ⟨h0, h1, h2, h3, h4, h5⟩ := real_args _ _ _ _ _ _ (hpre c)
  choose r0 h0 using h0
  choose r1 h1 using h1
  choose r2 h2 using h2
  choose r3 h3 using h3
  choose r4 h4 using h4
  choose r5 h5 using h5
  exact ⟨fun q h a => r0 (ix3 q h a), fun q h a => r1 (ix3 q h a), fun q h a => r2 (ix3 q h a), fun q a => r3 (ix2 q a), fun q h a => r4 (ix3 q h a), fun q h a => r5 (ix2 q ⟨128 * h.val + a.val, by omega⟩),
    fun q h a => h0 _, fun q h a => h1 _, fun q h a => h2 _, fun q a => h3 _, fun q h a => h4 _, fun q h a => h5 _⟩

/-- Over the extended reals, of finite arguments, the kernel's gradients with respect to the queries, the keys and the values are `jax.vjp`'s. -/
theorem algebraic : Cert.algebraic_FlashBwdIdeal_FlashBwdRefIdeal_pre_finite_flash_bwd := fun m ρ m' ρ' hpre hag =>
  ⟨fun c => (Cert.FlashBwdIdeal.Gen.dats m 0 c).arrAt 6 Cert.FlashBwdIdeal.cfg0.N, fun c => (Cert.FlashBwdIdeal.Gen.dats m 0 c).arrAt 7 Cert.FlashBwdIdeal.cfg0.N,
    fun c => (Cert.FlashBwdIdeal.Gen.dats m 0 c).arrAt 8 Cert.FlashBwdIdeal.cfg0.N, Cert.FlashBwdIdeal.Value.run_blocks m ρ,
    (θ_run _ _ _).mono (fun r h c => by
      obtain ⟨qn, qr, kn, kr, v, g, H⟩ := reals m hpre c
      obtain ⟨a0, a1, a2, a3, a4, a5⟩ := hag c
      obtain ⟨r6, r7, r8, rest⟩ := h c
      refine ⟨?_, ?_, ?_, rest⟩
      · rw [r6, Cert.FlashBwdRefIdeal.Read.val_main_v68_eq, a0, a1, a2, a3, a4, a5]
        refine ext3 _ _ fun i0 i1 i2 => ?_
        exact (FlashBwdRefValue.dq_eq qn qr kn kr v g _ _ _ _ _ _ H.1 H.2.1 H.2.2.1 H.2.2.2.1 H.2.2.2.2.1 H.2.2.2.2.2 i0 i1 i2).trans (arr6 H i0 i1 i2).symm
      · rw [r7, Cert.FlashBwdRefIdeal.Read.val_main_v72_eq, a0, a1, a2, a3, a4, a5]
        refine ext3 _ _ fun i0 i1 i2 => ?_
        exact (FlashBwdRefValue.dk_eq qn qr kn kr v g _ _ _ _ _ _ H.1 H.2.1 H.2.2.1 H.2.2.2.1 H.2.2.2.2.1 H.2.2.2.2.2 i0 i1 i2).trans (arr7 H i0 i1 i2).symm
      · rw [r8, Cert.FlashBwdRefIdeal.Read.val_main_v73_eq, a0, a1, a2, a3, a5]
        refine ext3 _ _ fun i0 i1 i2 => ?_
        exact (FlashBwdRefValue.dv_eq qn qr kn kr g _ _ _ _ _ H.1 H.2.1 H.2.2.1 H.2.2.2.1 H.2.2.2.2.2 i0 i1 i2).trans (arr8 H i0 i1 i2).symm)
      (Cert.FlashBwdRefIdeal.Value.run m' ρ')⟩

end

/-- No operation is rewritten. -/
theorem preserves : Cert.preserves_FlashBwd_FlashBwdIdeal := trivial

end Cert.FlashBwdValue

end
-- ==== Proof.FlashFwdPoint.lean ====
/- Hand-written, untrusted: what the attention's forward call computes at one grid point: sixteen blocks of 512 keys, a running maximum in base 2 and running sums. -/
module

public import proofs.«01_k».proof.Proof.Attention
public import proofs.«01_k».proof.Proof.Gen.FlashFwdIdeal.Value

@[expose] public section

set_option maxRecDepth 16384

noncomputable section

namespace Cert.FlashFwdPoint

open Cert.Common Cert.Attention Idealize.ShloMosaic TcCoe Idealize.SL.Sem
open Cert.FlashFwdIdeal Cert.FlashFwdIdeal.Gen

/-- The row maximum after one more block of keys. -/
def stM (q : FVec Ideal S1024x256 .bf16) (kb : Vec Ideal S1x512x256 .bf16) (m : Vec Ideal S1024x128 .f32) : FVec Ideal S1024x128 .f32 := k0_pay15 (k0_pay12 q kb m)

/-- The weighted sums after one more block of keys. -/
def stA (q : FVec Ideal S1024x256 .bf16) (kb vb : Vec Ideal S1x512x256 .bf16) (m : Vec Ideal S1024x128 .f32) (a : Vec Ideal S1024x256 .f32) : FVec Ideal S1024x256 .f32 := k0_pay14 (k0_pay13 q kb m vb a)

section Fold

variable (q : FVec Ideal S1024x256 .bf16) (kb vb : Vec Ideal S1x512x256 .bf16) (m : Vec Ideal S1024x128 .f32) (a : Vec Ideal S1024x256 .f32)

/-- Scores of a block of keys. -/
abbrev sc : FVec Ideal S1024x512 .f32 := matmul dot_S1024x256_S512x256_S1024x512_1_1_0_0_n_n none q (shapeCast S512x256 kb shapeCasts_S1x512x256_S512x256 : FVec Ideal S512x256 .bf16) (constant S1024x512 .f32 0x00000000#32)

/-- The row maximum so far, over 128 columns and over 512. -/
abbrev mx : FVec Ideal S1024x128 .f32 := maximumf m (broadcastTo S1024x128 (shapeCast S1024x1 (multiReduction .maximumf [1] S1024 (sc q kb) 0xFF800000#32 reduces_S1024x512_S1024 (.inl rfl) rfl) shapeCasts_S1024_S1024x1) broadcasts_S1024x1_S1024x128)

abbrev mx4 : FVec Ideal S1024x512 .f32 := concatenate (α := Ideal .f32) S1024x512 1 [⟨S1024x128, mx q kb m⟩, ⟨S1024x128, mx q kb m⟩, ⟨S1024x128, mx q kb m⟩, ⟨S1024x128, mx q kb m⟩] concatenates_S1024x128_S1024x128_S1024x128_S1024x128_S1024x512_d1

theorem foldM : (shapeCast S1024x128 (mx q kb m) shapeCasts_S1024x128_S1024x128 : FVec Ideal S1024x128 .f32) = stM q kb m := rfl

theorem foldA : ((shapeCast S1024x256 (addf (mulf (concatenate (α := Ideal .f32) S1024x256 1 [⟨S1024x128, (exp2 (subf m (mx q kb m)))⟩, ⟨S1024x128, (exp2 (subf m (mx q kb m)))⟩] concatenates_S1024x128_S1024x128_S1024x256_d1) a) (matmul dot_S1024x512_S512x256_S1024x256_1_0_0_1_n_n none (truncf .bf16 (exp2 (subf (sc q kb) (mx4 q kb m))) bitsLt_bf16_f32) (shapeCast S512x256 vb shapeCasts_S1x512x256_S512x256 : FVec Ideal S512x256 .bf16) (constant S1024x256 .f32 0x00000000#32))) shapeCasts_S1024x256_S1024x256) : FVec Ideal S1024x256 .f32) = stA q kb vb m a := rfl

theorem foldZ : k0_pay79 (sc q kb) (exp2 (subf m (mx q kb m))) (mx4 q kb m) vb a = stA q kb vb m a := rfl

end Fold

theorem foldq (q : Vec Ideal S1x1024x256 .bf16) : (shapeCast S1024x256 q shapeCasts_S1x1024x256_S1024x256 : FVec Ideal S1024x256 .bf16) = k0_pay4 q := rfl

/-- The maximum before the first block. -/
def m0 : FVec Ideal S1024x128 .f32 := k0_pay2

/-- The sums before the first block. -/
def a0 : FVec Ideal S1024x256 .f32 := k0_pay3

theorem foldm0 : (shapeCast S1024x128 (broadcast S1024x128 (FloatOps.ofBits .f32 0xFF800000#32)) shapeCasts_S1024x128_S1024x128 : FVec Ideal S1024x128 .f32) = m0 := rfl

theorem folda0 : (shapeCast S1024x256 (broadcast S1024x256 (FloatOps.ofBits .f32 0x00000000#32)) shapeCasts_S1024x256_S1024x256 : FVec Ideal S1024x256 .f32) = a0 := rfl

theorem kb_in (n : ℕ) (hn : n < 16) (a : Fin 3) : (![0, 512 * n, 0] : Fin 3 → ℕ) a + (![1, 512, 256] : Fin 3 → ℕ) a ≤ S1x8192x256.size a := by
  fin_cases a
  · show 0 + 1 ≤ 1
    omega
  · show 512 * n + 512 ≤ 8192
    omega
  · show 0 + 256 ≤ 256
    omega

/-- A block of 512 rows. -/
def kb (x : Vec Ideal S1x8192x256 .bf16) (n : ℕ) (hn : n < 16) : Vec Ideal S1x512x256 .bf16 :=
  View.ld x (Rect.unit (s := S1x8192x256) ![0, 512 * n, 0] ![1, 512, 256] (kb_in n hn))

theorem kb_apply (x : Vec Ideal S1x8192x256 .bf16) (n : ℕ) (hn : n < 16) (j : Fin 512) (a : Fin 256) : (kb x n hn (ix3 0 j a) : EReal) = x (ix3 0 ⟨512 * n + j.val, by have := j.isLt; omega⟩ a) :=
  read3 x _ _ rfl (by show 512 * n + 1 * j.val = 512 * n + j.val; omega) (by show 0 + 1 * a.val = a.val; omega)

/-- The running maximum after some blocks. -/
def stN (q : Vec Ideal S1x1024x256 .bf16) (k : Vec Ideal S1x8192x256 .bf16) : (n : ℕ) → n ≤ 16 → FVec Ideal S1024x128 .f32
  | 0, _ => m0
  | n + 1, h => stM (k0_pay4 q) (kb k n h) (stN q k n (Nat.le_of_lt h))

/-- The running sums after some blocks. -/
def acN (q : Vec Ideal S1x1024x256 .bf16) (k v : Vec Ideal S1x8192x256 .bf16) : (n : ℕ) → n ≤ 16 → FVec Ideal S1024x256 .f32
  | 0, _ => a0
  | n + 1, h => stA (k0_pay4 q) (kb k n h) (kb v n h) (stN q k n (Nat.le_of_lt h)) (acN q k v n (Nat.le_of_lt h))

section Cases

variable (c : Dev nD) (i : grid0.Coords) {arg2 : Memref sig .tc .vmem S1x1024x256 .bf16} {hw2 : arg2.IsWhole} {arg3 : Memref sig .tc .vmem S1x8192x256 .bf16} {hw3 : arg3.IsWhole} {arg4 : Memref sig .tc .vmem S1x8192x256 .bf16} {hw4 : arg4.IsWhole} {arg5 : Memref sig .tc .vmem S1024x128 .bf16} {hw5 : arg5.IsWhole} {arg6 : Memref sig .tc .vmem S1x1024x128 .f32} {hw6 : arg6.IsWhole} {arg7 : Memref sig .tc .vmem S1024x128 .f32} {hw7 : arg7.IsWhole} {arg8 : Memref sig .tc .vmem S1024x256 .f32} {hw8 : arg8.IsWhole} (q : Vec Ideal S1x1024x256 .bf16) (k v : Vec Ideal S1x8192x256 .bf16)
theorem A_4 : out0_A_4 c i _ hw2 _ hw3 _ hw4 _ hw5 _ hw6 _ hw7 _ hw8 q k v = k0_pay1 (F := Ideal) (k0_pay81 (acN q k v 16 le_rfl)) (stN q k 16 le_rfl) := by
  unfold out0_A_4
  rw [wr (fun _ => cover0_A_4 ..)]
  unfold kernelRun0_A
  dsimp only
  sl_unfold_words
  simp only [↓foldA, ↓foldZ, ↓foldM, ↓foldm0, ↓folda0]
  simp (disch := assumption) only [rd, ld0 S1x1024x256, c0 S1x1024x128, View.readCov_cons_toLoadRect, foldq]
  rfl

theorem A_3 : out0_A_3 c i _ hw2 _ hw3 _ hw4 _ hw5 _ hw6 _ hw7 _ hw8 q k v = k0_pay82 (F := Ideal) (acN q k v 16 le_rfl) := by
  unfold out0_A_3
  rw [wr (fun _ => cover0_A_3 ..)]
  unfold kernelRun0_A
  dsimp only
  sl_unfold_words
  simp only [↓foldA, ↓foldZ, ↓foldM, ↓foldm0, ↓folda0]
  simp (disch := assumption) only [rd, ld0 S1x1024x256, c0 S1024x128, View.readCov_cons_toLoadRect, foldq]
  rfl

end Cases

section Steps

variable (q : FVec Ideal S1024x256 .bf16) (k v : Vec Ideal S1x512x256 .bf16) (m : Vec Ideal S1024x128 .f32) (a : Vec Ideal S1024x256 .f32) (r : Fin 1024) (s : Fin 512 → ℝ)

/-- The largest of a row's scores in one block. -/
theorem row_max (z : FVec Ideal S1024x512 .f32) :
    (multiReduction .maximumf [1] S1024 z 0xFF800000#32 reduces_S1024x512_S1024 (.inl rfl) rfl (ix1 r) : EReal) = Finset.univ.fold max (Ideal.ofBits FTy.f32 0xFF800000#32) fun κ : Fin 512 => (z (ix2 r κ) : EReal) := by
  simp only [pointwise]

include s in
theorem scores (hs : ∀ j : Fin 512, ∑ x : Fin 256, (q (ix2 r x) : EReal) * (k (ix3 0 j x) : EReal) = s j) (j : Fin 512) : (k0_pay11 q k (ix2 r j) : EReal) = s j := by
  refine Eq.trans ?_ (hs j)
  unfold k0_pay11
  pointwise

theorem newM (hs : ∀ j : Fin 512, ∑ x : Fin 256, (q (ix2 r x) : EReal) * (k (ix3 0 j x) : EReal) = s j) :
    ∃ B : ℝ, ∀ l : Fin 128, (k0_pay12 q k m (ix2 r l) : EReal) = max (m (ix2 r l) : EReal) (B : EReal) := by
  obtain ⟨B, hB⟩ := max_real (by norm_num) s
  refine ⟨B, fun l => ?_⟩
  unfold k0_pay12
  have hz := scores q k r s hs
  have hr := row_max r (k0_pay11 q k)
  generalize k0_pay11 q k = z at hz hr ⊢
  generalize multiReduction .maximumf [1] S1024 z 0xFF800000#32 reduces_S1024x512_S1024 (.inl rfl) rfl = y at hr ⊢
  pointwise
  rw [hr]
  simp only [hz]
  rw [show Ideal.ofBits FTy.f32 0xFF800000#32 = (⊥ : EReal) from ofBits_neg_inf, hB]

theorem stM_eq (l : Fin 128) : (stM q k m (ix2 r l) : EReal) = k0_pay12 q k m (ix2 r l) := by
  unfold stM k0_pay15
  generalize k0_pay12 q k m = y
  pointwise

/-- The sums after one more block, when the maximum before it is the same in every lane and so is the new one. -/
theorem stA_eq (hs : ∀ j : Fin 512, ∑ x : Fin 256, (q (ix2 r x) : EReal) * (k (ix3 0 j x) : EReal) = s j) (M M' : EReal) (hm : ∀ l : Fin 128, (m (ix2 r l) : EReal) = M) (hM : ∀ l : Fin 128, (k0_pay12 q k m (ix2 r l) : EReal) = M')
    (j : Fin 256) : (stA q k v m a (ix2 r j) : EReal) = Ideal.exp2 (M - M') * (a (ix2 r j) : EReal) + ∑ κ : Fin 512, Ideal.exp2 ((s κ : EReal) - M') * (v (ix3 0 κ j) : EReal) := by
  unfold stA k0_pay14 k0_pay13
  have hz := scores q k r s hs
  generalize k0_pay12 q k m = y at hM ⊢
  generalize k0_pay11 q k = z at hz ⊢
  pointwise
  simp only [hz, hm, hM, dite_eq_ite, ite_self]
  rfl

end Steps

/-- One step of the running sum over the reals. -/
theorem real_step (f : ℕ → ℝ) (g : ℕ → ℝ) (n : ℕ) (M M' : ℝ) :
    Real.rpow 2 (M - M') * (∑ κ ∈ Finset.range (512 * n), Real.rpow 2 (f κ - M) * g κ) + ∑ x : Fin 512, Real.rpow 2 (f (512 * n + x.val) - M') * g (512 * n + x.val)
      = ∑ κ ∈ Finset.range (512 * (n + 1)), Real.rpow 2 (f κ - M') * g κ := by
  rw [show 512 * (n + 1) = 512 * n + 512 by ring, Finset.sum_range_add (fun κ => Real.rpow 2 (f κ - M') * g κ), Fin.sum_univ_eq_sum_range (fun x => Real.rpow 2 (f (512 * n + x) - M') * g (512 * n + x)) 512, Finset.mul_sum]
  refine congrArg (· + _) (Finset.sum_congr rfl fun κ _ => ?_)
  rw [← mul_assoc]
  refine congrArg (· * _) ?_
  refine (Real.rpow_add two_pos _ _).symm.trans ?_
  exact congrArg _ (by ring)

section Loop

variable (q : Vec Ideal S1x1024x256 .bf16) (k v : Vec Ideal S1x8192x256 .bf16) (r : Fin 1024) (σ : Fin 8192 → ℝ) (ν : Fin 8192 → Fin 256 → ℝ)

/-- A row's scores, continued by zero. -/
def ext (f : Fin 8192 → ℝ) (n : ℕ) : ℝ := if h : n < 8192 then f ⟨n, h⟩ else 0

theorem ext_at (f : Fin 8192 → ℝ) (n : ℕ) (h : n < 8192) : ext f n = f ⟨n, h⟩ := dif_pos h

/-- After the first block the maximum is a real number, the same in every lane, and the sums are those of the blocks so far, taken relative to it. -/
theorem loop (hs : ∀ κ : Fin 8192, ∑ x : Fin 256, (q (ix3 0 r x) : EReal) * (k (ix3 0 κ x) : EReal) = σ κ) (hv : ∀ (κ : Fin 8192) (j : Fin 256), (v (ix3 0 κ j) : EReal) = ν κ j) (n : ℕ) (hn : n + 1 ≤ 16) :
    ∃ M : ℝ, (∀ l : Fin 128, (stN q k (n + 1) hn (ix2 r l) : EReal) = M)
      ∧ ∀ j : Fin 256, (acN q k v (n + 1) hn (ix2 r j) : EReal) = ((∑ κ ∈ Finset.range (512 * (n + 1)), Real.rpow 2 (ext σ κ - M) * ext (fun κ => ν κ j) κ : ℝ) : EReal) := by
  have hq : ∀ x : Fin 256, (k0_pay4 q (ix2 r x) : EReal) = q (ix3 0 r x) := by
    intro x
    unfold k0_pay4
    pointwise
  have hb : ∀ (n : ℕ) (hn : n < 16) (j : Fin 512), ∑ x : Fin 256, (k0_pay4 q (ix2 r x) : EReal) * (kb k n hn (ix3 0 j x) : EReal) = ext σ (512 * n + j.val) := by
    intro n hn j
    simp only [hq, kb_apply]
    rw [ext_at σ _ (by have := j.isLt; omega)]
    exact hs _
  have hw : ∀ (n : ℕ) (hn : n < 16) (κ : Fin 512) (j : Fin 256), (kb v n hn (ix3 0 κ j) : EReal) = ext (fun κ => ν κ j) (512 * n + κ.val) := by
    intro n hn κ j
    rw [ext_at _ _ (by have := κ.isLt; omega)]
    exact (kb_apply v n hn κ j).trans (hv _ j)
  induction n with
  | zero =>
    obtain ⟨B, hB⟩ := newM (k0_pay4 q) (kb k 0 hn) m0 r _ (hb 0 hn)
    have h0 : ∀ l : Fin 128, (m0 (ix2 r l) : EReal) = ⊥ := fun l => ofBits_neg_inf
    have hB' : ∀ l : Fin 128, (k0_pay12 (k0_pay4 q) (kb k 0 hn) m0 (ix2 r l) : EReal) = B := fun l => by rw [hB, h0]; exact max_eq_right bot_le
    refine ⟨B, fun l => (stM_eq _ _ _ r l).trans (hB' l), fun j => ?_⟩
    refine (stA_eq (k0_pay4 q) (kb k 0 hn) (kb v 0 hn) m0 a0 r _ (hb 0 hn) ⊥ B h0 hB' j).trans ?_
    have ha : (a0 (ix2 r j) : EReal) = 0 := by
      unfold a0 k0_pay3
      pointwise
    rw [ha, mul_zero, zero_add]
    simp only [hw, ← EReal.coe_sub, Ideal.exp2_coe, ← EReal.coe_mul, coe_sum]
    refine congrArg _ ?_
    have := real_step (ext σ) (ext fun κ => ν κ j) 0 0 B
    simp only [Finset.range_zero, Finset.sum_empty, mul_zero, zero_add] at this
    simpa using this
  | succ n ih =>
    obtain ⟨M, hM, hA⟩ := ih (by omega)
    obtain ⟨B, hB⟩ := newM (k0_pay4 q) (kb k (n + 1) hn) (stN q k (n + 1) (Nat.le_of_lt hn)) r _ (hb (n + 1) hn)
    have hB' : ∀ l : Fin 128, (k0_pay12 (k0_pay4 q) (kb k (n + 1) hn) (stN q k (n + 1) (Nat.le_of_lt hn)) (ix2 r l) : EReal) = ((max M B : ℝ) : EReal) := fun l => by rw [hB, hM]; exact (EReal.coe_strictMono.monotone.map_max (a := M) (b := B)).symm
    refine ⟨max M B, fun l => (stM_eq _ _ _ r l).trans (hB' l), fun j => ?_⟩
    refine (stA_eq (k0_pay4 q) (kb k (n + 1) hn) (kb v (n + 1) hn) _ (acN q k v (n + 1) (Nat.le_of_lt hn)) r _ (hb (n + 1) hn) M _ hM hB' j).trans ?_
    rw [hA]
    simp only [hw, ← EReal.coe_sub, Ideal.exp2_coe, ← EReal.coe_mul, coe_sum]
    rw [← EReal.coe_add, real_step]

end Loop

section Result

variable (q : Vec Ideal S1x1024x256 .bf16) (k v : Vec Ideal S1x8192x256 .bf16) (r : Fin 1024) (s : Fin 8192 → ℝ) (ν : Fin 8192 → Fin 256 → ℝ)

/-- The exponential in base 2 of a score in base 2. -/
theorem two_pow (x M : ℝ) : Real.rpow 2 (x / Real.log 2 - M) = Real.exp (x - M * Real.log 2) := by
  have hl : Real.log 2 ≠ 0 := (Real.log_pos one_lt_two).ne'
  rw [show ∀ y, Real.rpow 2 y = Real.exp (Real.log 2 * y) from fun y => Real.rpow_def_of_pos two_pos y]
  exact congrArg _ (by field_simp)

/-- After all blocks: the sums over every key. -/
theorem final (hs : ∀ κ : Fin 8192, ∑ x : Fin 256, (q (ix3 0 r x) : EReal) * (k (ix3 0 κ x) : EReal) = ((s κ / Real.log 2 : ℝ) : EReal)) (hv : ∀ (κ : Fin 8192) (j : Fin 256), (v (ix3 0 κ j) : EReal) = ν κ j) :
    ∃ M : ℝ, (∀ l : Fin 128, (stN q k 16 le_rfl (ix2 r l) : EReal) = M)
      ∧ ∀ j : Fin 256, (acN q k v 16 le_rfl (ix2 r j) : EReal) = ((∑ κ, Real.exp (s κ - M * Real.log 2) * ν κ j : ℝ) : EReal) := by
  obtain ⟨M, hM, hA⟩ := loop q k v r (fun κ => s κ / Real.log 2) ν hs hv 15 le_rfl
  refine ⟨M, hM, fun j => (hA j).trans (congrArg _ ?_)⟩
  rw [show 512 * (15 + 1) = 8192 from rfl, ← Fin.sum_univ_eq_sum_range (fun κ => Real.rpow 2 (ext (fun κ => s κ / Real.log 2) κ - M) * ext (fun κ => ν κ j) κ) 8192]
  refine Finset.sum_congr rfl fun κ _ => ?_
  rw [ext_at _ _ κ.isLt, ext_at _ _ κ.isLt]
  exact congrArg (· * _) (two_pow _ _)

/-- The output's row: the values under the softmax of the scores. -/
theorem out_row (hs : ∀ κ : Fin 8192, ∑ x : Fin 256, (q (ix3 0 r x) : EReal) * (k (ix3 0 κ x) : EReal) = ((s κ / Real.log 2 : ℝ) : EReal)) (hv : ∀ (κ : Fin 8192) (j : Fin 256), (v (ix3 0 κ j) : EReal) = ν κ j)
    (h1 : ∀ (κ : Fin 8192) (j : Fin 256), 128 ≤ j.val → ν κ j = 1) (j : Fin 128) :
    (k0_pay82 (F := Ideal) (acN q k v 16 le_rfl) (ix2 r j) : EReal) = ((∑ κ, soft s κ * ν κ ⟨j.val, by omega⟩ : ℝ) : EReal) := by
  obtain ⟨M, -, hA⟩ := final q k v r s ν hs hv
  unfold k0_pay82 k0_pay81
  generalize acN q k v 16 le_rfl = a at hA ⊢
  have hp := sum_pos (by norm_num : 0 < 8192) fun κ => s κ - M * Real.log 2
  refine Eq.trans (b := Ideal.div (a (ix2 r ⟨j.val, by omega⟩)) (a (ix2 r ⟨128 + j.val, by omega⟩))) ?_ ?_
  · pointwise
  rw [hA, hA]
  simp only [h1 _ (⟨128 + j.val, by omega⟩ : Fin 256) (by show 128 ≤ 128 + j.val; omega), mul_one]
  rw [div_real hp.ne', Finset.sum_div]
  refine congrArg _ (Finset.sum_congr rfl fun κ _ => ?_)
  rw [← soft_sub s (M * Real.log 2) κ, div_eq_mul_inv, mul_right_comm, ← div_eq_mul_inv]
  rfl

/-- The saved log-sum of the row, in base 2. -/
theorem lse_row (hs : ∀ κ : Fin 8192, ∑ x : Fin 256, (q (ix3 0 r x) : EReal) * (k (ix3 0 κ x) : EReal) = ((s κ / Real.log 2 : ℝ) : EReal)) (hv : ∀ (κ : Fin 8192) (j : Fin 256), (v (ix3 0 κ j) : EReal) = ν κ j)
    (h1 : ∀ (κ : Fin 8192) (j : Fin 256), 128 ≤ j.val → ν κ j = 1) (l : Fin 128) :
    (k0_pay1 (F := Ideal) (k0_pay81 (acN q k v 16 le_rfl)) (stN q k 16 le_rfl) (ix3 0 r l) : EReal) = ((Real.log (∑ κ, Real.exp (s κ)) / Real.log 2 : ℝ) : EReal) := by
  obtain ⟨M, hM, hA⟩ := final q k v r s ν hs hv
  unfold k0_pay1 k0_pay81
  generalize acN q k v 16 le_rfl = a at hA ⊢
  generalize stN q k 16 le_rfl = m at hM ⊢
  have hl : Real.log 2 ≠ 0 := (Real.log_pos one_lt_two).ne'
  have hp := sum_pos (by norm_num : 0 < 8192) fun κ => s κ - M * Real.log 2
  have hq := sum_pos (by norm_num : 0 < 8192) s
  have hn : (Named.named κ "log2e" 0x3FB8AA3B#32 : Ideal .f32) = (((Real.log 2)⁻¹ : ℝ) : EReal) := IdealRules.named_const.ideal_named_scalar _ _ _ _ rfl
  refine Eq.trans (b := (m (ix2 r l) : EReal) + Ideal.log (a (ix2 r ⟨128 + l.val, by omega⟩)) * (((Real.log 2)⁻¹ : ℝ) : EReal)) ?_ ?_
  · rw [← hn]
    pointwise
  rw [hA, hM]
  simp only [h1 _ (⟨128 + l.val, by omega⟩ : Fin 256) (by show 128 ≤ 128 + l.val; omega), mul_one]
  rw [log_pos hp, ← EReal.coe_mul, ← EReal.coe_add]
  refine congrArg _ ?_
  have e : ∑ κ, Real.exp (s κ - M * Real.log 2) = (∑ κ, Real.exp (s κ)) / Real.exp (M * Real.log 2) := by
    rw [Finset.sum_div]
    exact Finset.sum_congr rfl fun κ _ => Real.exp_sub _ _
  rw [e, Real.log_div hq.ne' (Real.exp_pos _).ne', Real.log_exp]
  field_simp
  ring

end Result

end Cert.FlashFwdPoint
-- ==== Proof.FlashFwdValue.lean ====
/- Hand-written, untrusted: the attention's forward call computes the softmax of the scores applied to the values, and the logarithm, in base 2, of the rows' sums of exponentials. -/
module

public import proofs.«01_k».proof.Proof.Gen.Pre_finite_flash_fwd
public import proofs.«01_k».proof.Proof.Gen.On_attention_columns
public import proofs.«01_k».proof.Proof.Gen.FlashFwdRefIdeal.Read
public import proofs.«01_k».proof.Proof.FlashFwdPoint
public import proofs.«01_k».proof.Proof.FlashBwdValue

@[expose] public section

set_option maxRecDepth 16384

noncomputable section

namespace Cert.FlashFwdValue

open Cert.Common Cert.Attention

variable (qn : Fin 8192 → Fin 8 → Fin 128 → ℝ) (qr : Fin 8192 → Fin 8 → Fin 64 → ℝ) (kn : Fin 8192 → Fin 8 → Fin 128 → ℝ) (kr : Fin 8192 → Fin 64 → ℝ)
  (v : Fin 8192 → Fin 8 → Fin 128 → ℝ)

section Kernel

open Idealize.ShloMosaic TcCoe Idealize.SL.Sem
open Cert.FlashFwdIdeal Cert.FlashFwdIdeal.Gen

section Host

variable (m : (ℓ : Loc nD τ sig) → Buf (Elt Ideal) ℓ) (c : Dev nD)

/-- The queries, scaled. -/
theorem V_q (x0 : S8192x8x128.Idx → EReal) (hx0 : x0 = m (lc c main_arg0)) (x1 : S8192x8x64.Idx → EReal) (hx1 : x1 = m (lc c main_arg1))
    (h0 : ∀ q h a, x0 (ix3 q h a) = qn q h a) (h1 : ∀ q h a, x1 (ix3 q h a) = qr q h a) (h : Fin 8) (q : Fin 8192) (a : Fin 256) :
    (V m c main_v15 : S8x8192x256.Idx → EReal) (ix3 h q a) = ((qh qn qr h q a * (scale / Real.log 2) : ℝ) : EReal) := by
  generalize hR : ((qh qn qr h q a * (scale / Real.log 2) : ℝ) : EReal) = R
  have e : (V m c main_v15 : S8x8192x256.Idx → EReal) = (truncf .bf16 (mulf (concatenate (α := Ideal .f32) S8x8192x256 2 [⟨S8x8192x128, transpose S8x8192x128 [1, 0, 2] (m (lc c main_arg0)) transposes_S8192x8x128_S8x8192x128_1_0_2⟩, ⟨S8x8192x64, transpose S8x8192x64 [1, 0, 2] (m (lc c main_arg1)) transposes_S8192x8x64_S8x8192x64_1_0_2⟩, ⟨S8x8192x64, broadcastInDim S8x8192x64 ![] bcast_S_S8x8192x64 (constant (F := Ideal) S_ .f32 0x00000000#32)⟩] concatenates_S8x8192x128_S8x8192x64_S8x8192x64_S8x8192x256_d2)
      (broadcastInDim S8x8192x256 ![] bcast_S_S8x8192x256 (Host.divf (constant (F := Ideal) S_ .f32 0x3D93CD3A#32) (Host.log (constant (F := Ideal) S_ .f32 0x40000000#32))))) bitsLt_bf16_f32 : FVec Ideal S8x8192x256 .bf16) := by
    show StableHlo.after _ (fun b => m (c, b)) main_v15 = _
    after_results
    try rfl
  rw [e, ← hx0, ← hx1]
  have hl : Real.log 2 ≠ 0 := (Real.log_pos one_lt_two).ne'
  have hC : Ideal.div (Ideal.ofBits FTy.f32 0x3D93CD3A#32) (Ideal.log (Ideal.ofBits FTy.f32 0x40000000#32)) = ((scale / Real.log 2 : ℝ) : EReal) := by
    refine (congrArg₂ Ideal.div ofBits_scale log_two_word).trans (div_real hl _)
  generalize hu : (Host.divf (constant (F := Ideal) S_ .f32 0x3D93CD3A#32) (Host.log (constant (F := Ideal) S_ .f32 0x40000000#32))) = u
  have hu' : ∀ i, (u i : EReal) = ((scale / Real.log 2 : ℝ) : EReal) := fun i => hu ▸ hC
  clear hC hu
  pointwise
  simp only [hu', h0, h1]
  rw [qh_coe, ← EReal.coe_mul]
  exact hR

/-- The keys. -/
theorem V_k (x2 : S8192x8x128.Idx → EReal) (hx2 : x2 = m (lc c main_arg2)) (x3 : S8192x64.Idx → EReal) (hx3 : x3 = m (lc c main_arg3))
    (h2 : ∀ q h a, x2 (ix3 q h a) = kn q h a) (h3 : ∀ q a, x3 (ix2 q a) = kr q a) (h : Fin 8) (q : Fin 8192) (a : Fin 256) :
    (V m c main_v16 : S8x8192x256.Idx → EReal) (ix3 h q a) = ((kh kn kr h q a : ℝ) : EReal) := by
  rw [← kh_coe]
  generalize hR : (if ha : a.val < 128 then _ else _ : EReal) = R
  have e : (V m c main_v16 : S8x8192x256.Idx → EReal) = (truncf .bf16 (concatenate (α := Ideal .f32) S8x8192x256 2 [⟨S8x8192x128, transpose S8x8192x128 [1, 0, 2] (m (lc c main_arg2)) transposes_S8192x8x128_S8x8192x128_1_0_2⟩, ⟨S8x8192x64, broadcastInDim S8x8192x64 ![0, 1, 2] bcast_S1x8192x64_S8x8192x64_0_1_2 (broadcastInDim S1x8192x64 ![1, 2] bcast_S8192x64_S1x8192x64_1_2 (m (lc c main_arg3)))⟩, ⟨S8x8192x64, broadcastInDim S8x8192x64 ![] bcast_S_S8x8192x64 (constant (F := Ideal) S_ .f32 0x00000000#32)⟩] concatenates_S8x8192x128_S8x8192x64_S8x8192x64_S8x8192x256_d2) bitsLt_bf16_f32 : FVec Ideal S8x8192x256 .bf16) := by
    show StableHlo.after _ (fun b => m (c, b)) main_v16 = _
    after_results
    try rfl
  rw [e, ← hx2, ← hx3]
  pointwise
  simp only [h2, h3]
  exact hR

/-- The values, with ones behind them. -/
theorem V_v1 (x4 : S8192x8x128.Idx → EReal) (hx4 : x4 = m (lc c main_arg4))
    (h4 : ∀ q h a, x4 (ix3 q h a) = v q h a) (h : Fin 8) (q : Fin 8192) (a : Fin 256) (ha : a.val < 128) :
    (V m c main_v17 : S8x8192x256.Idx → EReal) (ix3 h q a) = ((v q h ⟨a.val, ha⟩ : ℝ) : EReal) := by
  have e : (V m c main_v17 : S8x8192x256.Idx → EReal) = (truncf .bf16 (concatenate (α := Ideal .f32) S8x8192x256 2 [⟨S8x8192x128, transpose S8x8192x128 [1, 0, 2] (m (lc c main_arg4)) transposes_S8192x8x128_S8x8192x128_1_0_2⟩, ⟨S8x8192x128, broadcastInDim S8x8192x128 ![] bcast_S_S8x8192x128 (constant (F := Ideal) S_ .f32 0x3F800000#32)⟩] concatenates_S8x8192x128_S8x8192x128_S8x8192x256_d2) bitsLt_bf16_f32 : FVec Ideal S8x8192x256 .bf16) := by
    show StableHlo.after _ (fun b => m (c, b)) main_v17 = _
    after_results
    try rfl
  rw [e, ← hx4]
  generalize constant (F := Ideal) S_ .f32 0x3F800000#32 = u
  pointwise
  rw [dif_pos ha, h4]

/-- The ones behind the values. -/
theorem V_one (x4 : S8192x8x128.Idx → EReal) (hx4 : x4 = m (lc c main_arg4)) (h : Fin 8) (q : Fin 8192) (a : Fin 256) (ha : ¬ a.val < 128) :
    (V m c main_v17 : S8x8192x256.Idx → EReal) (ix3 h q a) = ((1 : ℝ) : EReal) := by
  have e : (V m c main_v17 : S8x8192x256.Idx → EReal) = (truncf .bf16 (concatenate (α := Ideal .f32) S8x8192x256 2 [⟨S8x8192x128, transpose S8x8192x128 [1, 0, 2] (m (lc c main_arg4)) transposes_S8192x8x128_S8x8192x128_1_0_2⟩, ⟨S8x8192x128, broadcastInDim S8x8192x128 ![] bcast_S_S8x8192x128 (constant (F := Ideal) S_ .f32 0x3F800000#32)⟩] concatenates_S8x8192x128_S8x8192x128_S8x8192x256_d2) bitsLt_bf16_f32 : FVec Ideal S8x8192x256 .bf16) := by
    show StableHlo.after _ (fun b => m (c, b)) main_v17 = _
    after_results
    try rfl
  rw [e, ← hx4]
  pointwise
  rw [dif_neg ha]
  rfl

end Host

/-- The column of a head's lane. -/
def col (h : Fin 8) (a : Fin 128) : Fin 2048 := ⟨128 * h.val + a.val, by omega⟩

variable (m : (ℓ : Loc nD τ sig) → Buf (Elt Ideal) ℓ) (c : Dev nD)

/-- The arguments are these reals. -/
def Reals : Prop :=
  (∀ q h a, @Eq EReal ((m (lc c main_arg0) : S8192x8x128.Idx → EReal) (ix3 q h a)) (qn q h a : ℝ)) ∧ (∀ q h a, @Eq EReal ((m (lc c main_arg1) : S8192x8x64.Idx → EReal) (ix3 q h a)) (qr q h a : ℝ))
  ∧ (∀ q h a, @Eq EReal ((m (lc c main_arg2) : S8192x8x128.Idx → EReal) (ix3 q h a)) (kn q h a : ℝ)) ∧ (∀ q a, @Eq EReal ((m (lc c main_arg3) : S8192x64.Idx → EReal) (ix2 q a)) (kr q a : ℝ))
  ∧ (∀ q h a, @Eq EReal ((m (lc c main_arg4) : S8192x8x128.Idx → EReal) (ix3 q h a)) (v q h a : ℝ))

/-- Where the blocks of a point lie. -/
theorem idx_facts : ∀ t : Fin grid0.N, (win0_0.index t (0 : Fin 3) = t.val / 8 ∧ win0_0.index t (1 : Fin 3) = t.val % 8 ∧ win0_0.index t (2 : Fin 3) = 0)
    ∧ (win0_1.index t (0 : Fin 3) = t.val / 8 ∧ win0_1.index t (1 : Fin 3) = 0 ∧ win0_1.index t (2 : Fin 3) = 0)
    ∧ (win0_2.index t (0 : Fin 3) = t.val / 8 ∧ win0_2.index t (1 : Fin 3) = 0 ∧ win0_2.index t (2 : Fin 3) = 0)
    ∧ (win0_3.index t ax0 = t.val % 8 ∧ win0_3.index t ax1 = t.val / 8)
    ∧ (win0_4.index t (0 : Fin 3) = t.val / 8 ∧ win0_4.index t (1 : Fin 3) = t.val % 8 ∧ win0_4.index t (2 : Fin 3) = 0) := by
  decide +kernel

variable {qn qr kn kr v m c} (H : Reals qn qr kn kr v m c) (t : Fin cfg0.N) (h j : Fin 8) (ht : t.val = 8 * h.val + j.val)

include H ht

theorem blk_q (r : Fin 1024) (a : Fin 256) : (iblk m c 0 t (ix3 0 r a) : EReal) = ((qh qn qr h (FlashBwdValue.row j r) a * (scale / Real.log 2) : ℝ) : EReal) := by
  obtain ⟨⟨e0, e1, e2⟩, -⟩ := idx_facts t
  refine Eq.trans ?_ (V_q qn qr m c _ rfl _ rfl H.1 H.2.1 h (FlashBwdValue.row j r) a)
  exact read3 (V m c main_v15) _ _ (by show win0_0.index t (0 : Fin 3) * 1 + 1 * 0 = h.val; omega) (by show win0_0.index t (1 : Fin 3) * 1024 + 1 * r.val = 1024 * j.val + r.val; omega)
    (by show win0_0.index t (2 : Fin 3) * 256 + 1 * a.val = a.val; omega)

theorem blk_k (κ : Fin 8192) (a : Fin 256) : (iblk m c 1 t (ix3 0 κ a) : EReal) = ((kh kn kr h κ a : ℝ) : EReal) := by
  obtain ⟨-, ⟨e0, e1, e2⟩, -⟩ := idx_facts t
  refine Eq.trans ?_ (V_k kn kr m c _ rfl _ rfl H.2.2.1 H.2.2.2.1 h κ a)
  exact read3 (V m c main_v16) _ _ (by show win0_1.index t (0 : Fin 3) * 1 + 1 * 0 = h.val; omega) (by show win0_1.index t (1 : Fin 3) * 8192 + 1 * κ.val = κ.val; omega)
    (by show win0_1.index t (2 : Fin 3) * 256 + 1 * a.val = a.val; omega)

omit H ht in
/-- A head's values with ones behind them. -/
def vh (v : Fin 8192 → Fin 8 → Fin 128 → ℝ) (h : Fin 8) (κ : Fin 8192) (a : Fin 256) : ℝ := if ha : a.val < 128 then v κ h ⟨a.val, ha⟩ else 1

theorem blk_v (κ : Fin 8192) (a : Fin 256) : (iblk m c 2 t (ix3 0 κ a) : EReal) = ((vh v h κ a : ℝ) : EReal) := by
  obtain ⟨-, -, ⟨e0, e1, e2⟩, -⟩ := idx_facts t
  refine Eq.trans (b := (V m c main_v17 : S8x8192x256.Idx → EReal) (ix3 h κ a)) ?_ ?_
  · exact read3 (V m c main_v17) _ _ (by show win0_2.index t (0 : Fin 3) * 1 + 1 * 0 = h.val; omega) (by show win0_2.index t (1 : Fin 3) * 8192 + 1 * κ.val = κ.val; omega)
      (by show win0_2.index t (2 : Fin 3) * 256 + 1 * a.val = a.val; omega)
  · unfold vh
    by_cases ha : a.val < 128
    · rw [dif_pos ha]
      exact V_v1 v m c _ rfl H.2.2.2.2 h κ a ha
    · rw [dif_neg ha]
      exact V_one m c _ rfl h κ a ha

theorem scores (r : Fin 1024) (κ : Fin 8192) : ∑ x : Fin 256, @HMul.hMul EReal EReal EReal _ (iblk m c 0 t (ix3 0 r x)) (iblk m c 1 t (ix3 0 κ x)) = ((score qn qr kn kr h (FlashBwdValue.row j r) κ / Real.log 2 : ℝ) : EReal) := by
  rw [← FlashBwdValue.logit, ← coe_sum]
  exact Finset.sum_congr rfl fun x _ => (congrArg₂ (fun x y : EReal => x * y) (blk_q H t h j ht r x) (blk_k H t h j ht κ x)).trans (EReal.coe_mul _ _).symm

/-- The block of the output that a point leaves. -/
theorem out3 (r : Fin 1024) (a : Fin 128) : ((outsAt0 m c t).1 (ix2 r a) : EReal) = ((∑ κ, soft (score qn qr kn kr h (FlashBwdValue.row j r)) κ * v κ h a : ℝ) : EReal) := by
  unfold outsAt0
  dsimp only
  refine Eq.trans (congrFun (FlashFwdPoint.A_3 _ _ _ _ _) (ix2 r a)) ?_
  refine Eq.trans (FlashFwdPoint.out_row _ _ _ r _ (vh v h) (scores H t h j ht r) (blk_v H t h j ht) (fun κ j hj => dif_neg (Nat.not_lt.mpr hj)) a) ?_
  exact congrArg _ (Finset.sum_congr rfl fun κ _ => congrArg (_ * ·) (dif_pos a.isLt))

/-- The block of log-sums that a point leaves. -/
theorem out4 (r : Fin 1024) (l : Fin 128) : ((outsAt0 m c t).2 (ix3 0 r l) : EReal) = ((Real.log (∑ κ, Real.exp (score qn qr kn kr h (FlashBwdValue.row j r) κ)) / Real.log 2 : ℝ) : EReal) := by
  unfold outsAt0
  dsimp only
  refine Eq.trans (congrFun (FlashFwdPoint.A_4 _ _ _ _ _) (ix3 0 r l)) ?_
  exact FlashFwdPoint.lse_row _ _ _ r _ (vh v h) (scores H t h j ht r) (blk_v H t h j ht) (fun κ j hj => dif_neg (Nat.not_lt.mpr hj)) l

omit h j ht in
/-- The output. -/
theorem arr3 (q : Fin 8192) (h : Fin 8) (a : Fin 128) :
    ((dats m 0 c).arrAt 3 cfg0.N (ix2 q (col h a)) : EReal) = ((∑ κ, soft (score qn qr kn kr h q) κ * v κ h a : ℝ) : EReal) := by
  obtain ⟨t, ht⟩ : ∃ t : Fin cfg0.N, t.val = 8 * h.val + q.val / 1024 := ⟨⟨8 * h.val + q.val / 1024, by show _ < 64; omega⟩, rfl⟩
  obtain ⟨j, hj⟩ : ∃ j : Fin 8, j.val = q.val / 1024 := ⟨⟨q.val / 1024, by omega⟩, rfl⟩
  obtain ⟨r, hr⟩ : ∃ r : Fin 1024, r.val = q.val % 1024 := ⟨⟨q.val % 1024, by omega⟩, rfl⟩
  obtain ⟨-, -, -, ⟨e0, e1⟩, -⟩ := idx_facts t
  have hq : FlashBwdValue.row j r = q := Fin.ext (by show 1024 * j.val + r.val = q.val; omega)
  have hb := Value.blocks3 m c t (flush0_3 t)
  rw [Value.flushed3] at hb
  refine Eq.trans (Eq.trans (Eq.symm ?_) (congrFun hb (ix2 r a))) ((out3 H t h j (by omega) r a).trans (by rw [hq]))
  exact read2 ((dats m 0 c).arrAt 3 cfg0.N) _ _ (by show win0_3.index t ax0 * 1024 + 1 * r.val = q.val; omega) (by show win0_3.index t ax1 * 128 + 1 * a.val = 128 * h.val + a.val; omega)

omit h j ht in
/-- The log-sums, the same in every lane. -/
theorem arr4 (h : Fin 8) (q : Fin 8192) (l : Fin 128) :
    ((dats m 0 c).arrAt 4 cfg0.N (ix3 h q l) : EReal) = ((Real.log (∑ κ, Real.exp (score qn qr kn kr h q κ)) / Real.log 2 : ℝ) : EReal) := by
  obtain ⟨t, ht⟩ : ∃ t : Fin cfg0.N, t.val = 8 * h.val + q.val / 1024 := ⟨⟨8 * h.val + q.val / 1024, by show _ < 64; omega⟩, rfl⟩
  obtain ⟨j, hj⟩ : ∃ j : Fin 8, j.val = q.val / 1024 := ⟨⟨q.val / 1024, by omega⟩, rfl⟩
  obtain ⟨r, hr⟩ : ∃ r : Fin 1024, r.val = q.val % 1024 := ⟨⟨q.val % 1024, by omega⟩, rfl⟩
  obtain ⟨-, -, -, -, ⟨e0, e1, e2⟩⟩ := idx_facts t
  have hq : FlashBwdValue.row j r = q := Fin.ext (by show 1024 * j.val + r.val = q.val; omega)
  have hb := Value.blocks4 m c t (flush0_4 t)
  rw [Value.flushed4] at hb
  refine Eq.trans (Eq.trans (Eq.symm ?_) (congrFun hb (ix3 0 r l))) ((out4 H t h j (by omega) r l).trans (by rw [hq]))
  exact read3 ((dats m 0 c).arrAt 4 cfg0.N) _ _ (by show win0_4.index t (0 : Fin 3) * 1 + 1 * 0 = h.val; omega) (by show win0_4.index t (1 : Fin 3) * 1024 + 1 * r.val = q.val; omega)
    (by show win0_4.index t (2 : Fin 3) * 128 + 1 * l.val = l.val; omega)

end Kernel

section Reference

open Idealize.ShloMosaic TcCoe Idealize.SL.Sem
open Cert.FlashFwdRefIdeal Read Cert.FlashFwdRefIdeal.Gen

variable (x0 : FVec Ideal S8192x8x128 .f32) (x1 : FVec Ideal S8192x8x64 .f32) (x2 : FVec Ideal S8192x8x128 .f32) (x3 : FVec Ideal S8192x64 .f32) (x4 : FVec Ideal S8192x8x128 .f32)
  (h0 : ∀ q h a, (x0 (ix3 q h a) : EReal) = qn q h a) (h1 : ∀ q h a, (x1 (ix3 q h a) : EReal) = qr q h a) (h2 : ∀ q h a, (x2 (ix3 q h a) : EReal) = kn q h a) (h3 : ∀ q a, (x3 (ix2 q a) : EReal) = kr q a)

include h0 h1 h2 h3

theorem v5_eq (h : Fin 8) (q κ : Fin 8192) : (val_main_v5 (F := Ideal) x0 x1 x2 x3 (ix3 h q κ) : EReal) = ((score qn qr kn kr h q κ : ℝ) : EReal) :=
  FlashBwdHost.sc_eq qn qr kn kr x0 x1 x2 x3 h0 h1 h2 h3 h q κ

theorem v9_real (h : Fin 8) (q : Fin 8192) : ∃ M : ℝ, ∀ i : Fin 1, (val_main_v9 (F := Ideal) x0 x1 x2 x3 (ix3 h q i) : EReal) = M := by
  obtain ⟨M, hM⟩ := max_real (by norm_num) (score qn qr kn kr h q)
  refine ⟨M, fun i => ?_⟩
  have hr : (val_main_v8 (F := Ideal) x0 x1 x2 x3 (ix2 h q) : EReal) = Finset.univ.fold max (⊥ : EReal) fun κ : Fin 8192 => (val_main_v5 (F := Ideal) x0 x1 x2 x3 (ix3 h q κ) : EReal) := by
    refine Eq.trans (max_with _ (constant (F := Ideal) S_ .f32 0xFF800000#32) (val_main_v6 (F := Ideal) x0 x1 x2 x3) (ix2 h q) fun _ => ofBits_neg_inf) ?_
    exact row_max _ _ _ h q
  have hz := v5_eq qn qr kn kr x0 x1 x2 x3 h0 h1 h2 h3 h q
  unfold val_main_v9
  generalize val_main_v8 (F := Ideal) x0 x1 x2 x3 = y at hr ⊢
  pointwise
  rw [hr]
  simp only [hz]
  exact hM

theorem v16_eq (h : Fin 8) (q κ : Fin 8192) : (val_main_v16 (F := Ideal) x0 x1 x2 x3 (ix3 h q κ) : EReal) = ((soft (score qn qr kn kr h q) κ : ℝ) : EReal) := by
  obtain ⟨M, hM⟩ := v9_real qn qr kn kr x0 x1 x2 x3 h0 h1 h2 h3 h q
  exact FlashBwdHost.pr_eq _ _ _ M h q (v5_eq qn qr kn kr x0 x1 x2 x3 h0 h1 h2 h3 h q) hM κ

/-- The reference's output. -/
theorem ref_out (h4 : ∀ q h a, (x4 (ix3 q h a) : EReal) = v q h a) (q : Fin 8192) (h : Fin 8) (a : Fin 128) :
    (val_main_v29 (F := Ideal) x0 x1 x2 x3 x4 (ix2 q (col h a)) : EReal) = ((∑ κ, soft (score qn qr kn kr h q) κ * v κ h a : ℝ) : EReal) := by
  have hp := v16_eq qn qr kn kr x0 x1 x2 x3 h0 h1 h2 h3 h q
  have hd : (val_main_v17 (F := Ideal) x0 x1 x2 x3 x4 (ix3 h a q) : EReal) = ((∑ κ, soft (score qn qr kn kr h q) κ * v κ h a : ℝ) : EReal) := by
    unfold val_main_v17
    generalize val_main_v16 (F := Ideal) x0 x1 x2 x3 = p at hp ⊢
    generalize hR : ((∑ κ, soft (score qn qr kn kr h q) κ * v κ h a : ℝ) : EReal) = R
    pointwise
    simp only [h4, hp, ← EReal.coe_mul, coe_sum]
    rw [← hR]
    exact congrArg _ (Finset.sum_congr rfl fun κ _ => mul_comm _ _)
  unfold val_main_v29 val_main_v28 val_main_v19 val_main_v18
  generalize val_main_v17 (F := Ideal) x0 x1 x2 x3 x4 = d at hd ⊢
  generalize val_main_v27 (F := Ideal) = e
  rw [← hd]
  have hi : (col h a).val < 1024 := by show 128 * h.val + a.val < 1024; omega
  pointwise
  rw [dif_pos hi]
  exact read3 d _ _ (by show (128 * h.val + a.val) / 128 = h.val; omega) (by show (128 * h.val + a.val) % 128 = a.val; omega) rfl

/-- The reference's log-sums. -/
theorem ref_lse (h : Fin 8) (q : Fin 8192) (l : Fin 128) :
    (val_main_v30 (F := Ideal) x0 x1 x2 x3 (ix3 h q l) : EReal) = ((Real.log (∑ κ, Real.exp (score qn qr kn kr h q κ)) / Real.log 2 : ℝ) : EReal) := by
  have hz := v5_eq qn qr kn kr x0 x1 x2 x3 h0 h1 h2 h3 h q
  have hl : Real.log 2 ≠ 0 := (Real.log_pos one_lt_two).ne'
  have hu : ∀ i, (val_main_v24 (F := Ideal) i : EReal) = ((Real.log 2 : ℝ) : EReal) := fun i => log_two_word
  unfold val_main_v30 val_main_v26 val_main_v25 val_main_v23 val_main_v22 val_main_v21 val_main_v20 val_main_cst_3
  generalize val_main_v5 (F := Ideal) x0 x1 x2 x3 = z at hz ⊢
  generalize val_main_v24 (F := Ideal) = u at hu ⊢
  generalize hR : ((Real.log (∑ κ, Real.exp (score qn qr kn kr h q κ)) / Real.log 2 : ℝ) : EReal) = R
  pointwise
  simp only [hz, hu, Ideal.exp_coe, coe_sum]
  rw [log_pos (sum_pos (by norm_num) _), div_real hl]
  exact hR

end Reference

section Claim

open Idealize.ShloMosaic Idealize.SL.Sem TcCoe
open Cert.Finite

/-- Under the precondition the arguments are reals. -/
theorem real_args (x0 : FVec Ideal Cert.FlashFwdIdeal.S8192x8x128 .f32) (x1 : FVec Ideal Cert.FlashFwdIdeal.S8192x8x64 .f32) (x2 : FVec Ideal Cert.FlashFwdIdeal.S8192x8x128 .f32) (x3 : FVec Ideal Cert.FlashFwdIdeal.S8192x64 .f32)
    (x4 : FVec Ideal Cert.FlashFwdIdeal.S8192x8x128 .f32) (h : Cert.Pre_finite_flash_fwd.fn (F := Ideal) x0 x1 x2 x3 x4 = fun _ => 1#1) :
    (∀ i, ∃ r : ℝ, (x0 i : EReal) = r) ∧ (∀ i, ∃ r : ℝ, (x1 i : EReal) = r) ∧ (∀ i, ∃ r : ℝ, (x2 i : EReal) = r) ∧ (∀ i, ∃ r : ℝ, (x3 i : EReal) = r) ∧ (∀ i, ∃ r : ℝ, (x4 i : EReal) = r) := by
  have e := congrFun h ix0
  unfold Cert.Pre_finite_flash_fwd.fn at e
  obtain ⟨e, h4⟩ := and_one e
  obtain ⟨e, h3⟩ := and_one e
  obtain ⟨e, h2⟩ := and_one e
  obtain ⟨e, h1⟩ := and_one e
  obtain ⟨-, h0⟩ := and_one e
  exact ⟨all_real _ _ _ _ _ h0, all_real _ _ _ _ _ h1, all_real _ _ _ _ _ h2, all_real _ _ _ _ _ h3, all_real _ _ _ _ _ h4⟩

/-- The precondition names the reals. -/
theorem reals (m : (ℓ : Loc Cert.FlashFwdIdeal.nD Cert.FlashFwdIdeal.τ Cert.FlashFwdIdeal.sig) → Buf (Elt Ideal) ℓ) (hpre : Cert.Pre_FlashFwdIdeal_finite_flash_fwd m) (c : Dev Cert.FlashFwdIdeal.nD) :
    ∃ qn qr kn kr v, Reals qn qr kn kr v m c := by
  obtain ⟨h0, h1, h2, h3, h4⟩ := real_args _ _ _ _ _ (hpre c)
  choose r0 h0 using h0
  choose r1 h1 using h1
  choose r2 h2 using h2
  choose r3 h3 using h3
  choose r4 h4 using h4
  exact ⟨fun q h a => r0 (ix3 q h a), fun q h a => r1 (ix3 q h a), fun q h a => r2 (ix3 q h a), fun q a => r3 (ix2 q a), fun q h a => r4 (ix3 q h a),
    fun q h a => h0 _, fun q h a => h1 _, fun q h a => h2 _, fun q a => h3 _, fun q h a => h4 _⟩

/-- The mask holds only on the first 1024 columns. -/
theorem mask_iff (x0 : FVec Ideal Cert.On_attention_columns.S8192x8x128 .f32) (x1 : FVec Ideal Cert.On_attention_columns.S8192x8x64 .f32) (x2 : FVec Ideal Cert.On_attention_columns.S8192x8x128 .f32)
    (x3 : FVec Ideal Cert.On_attention_columns.S8192x64 .f32) (x4 : FVec Ideal Cert.On_attention_columns.S8192x8x128 .f32)
    (i : Cert.On_attention_columns.S8192x2048.Idx) (h : (Cert.On_attention_columns.fn (F := Ideal) x0 x1 x2 x3 x4).1 i = 1#1) : (i 1).val < 1024 := by
  have key : ∀ k : Fin 2048, IntOp.cmpi .slt (BitVec.ofNat 32 k.val) 1024#32 = 1#1 → k.val < 1024 := by decide +kernel
  exact key (i 1) h

/-- A column of the first half, by head and lane. -/
theorem col_eq {α : Type} (f : Cert.FlashFwdIdeal.S8192x2048.Idx → α) (i : Cert.FlashFwdIdeal.S8192x2048.Idx) (hi : (i 1).val < 1024) :
    f i = f (ix2 (⟨(i 0).val, (i 0).isLt⟩ : Fin 8192) (col ⟨(i 1).val / 128, by omega⟩ ⟨(i 1).val % 128, Nat.mod_lt _ (by decide)⟩)) :=
  read2 f _ _ rfl (by show (i 1).val = 128 * ((i 1).val / 128) + (i 1).val % 128; omega)

/-- Over the extended reals, of finite arguments, the kernel's attention is the softmax of the scores applied to the values, and its second result is the logarithm, in base 2, of the sums of the scores' exponentials. -/
theorem algebraic : Cert.algebraic_FlashFwdIdeal_FlashFwdRefIdeal_on_attention_columns_pre_finite_flash_fwd := fun m ρ m' ρ' hpre hag =>
  ⟨fun c => (Cert.FlashFwdIdeal.Gen.dats m 0 c).arrAt 3 Cert.FlashFwdIdeal.cfg0.N, fun c => (Cert.FlashFwdIdeal.Gen.dats m 0 c).arrAt 4 Cert.FlashFwdIdeal.cfg0.N,
    (θ_run _ _ _).mono (fun r h c => ⟨fun i _ => congrFun (h c).1 i, fun i _ => congrFun (h c).2.1 i, (h c).2.2⟩) (Cert.FlashFwdIdeal.Value.run_blocks m ρ),
    (θ_run _ _ _).mono (fun r h c => by
      obtain ⟨qn, qr, kn, kr, v, H⟩ := reals m hpre c
      obtain ⟨a0, a1, a2, a3, a4⟩ := hag c
      obtain ⟨r3, r4, rest⟩ := h c
      refine ⟨fun i hm => ?_, fun i _ => ?_, rest⟩
      · have hi := mask_iff _ _ _ _ _ i hm
        rw [r3, Cert.FlashFwdRefIdeal.Read.val_main_v29_eq, a0, a1, a2, a3, a4]
        refine Eq.trans (col_eq _ i hi) (Eq.trans ?_ (col_eq ((Cert.FlashFwdIdeal.Gen.dats m 0 c).arrAt 3 Cert.FlashFwdIdeal.cfg0.N) i hi).symm)
        exact (ref_out qn qr kn kr v _ _ _ _ _ H.1 H.2.1 H.2.2.1 H.2.2.2.1 H.2.2.2.2 ⟨(i 0).val, (i 0).isLt⟩ ⟨(i 1).val / 128, by omega⟩ ⟨(i 1).val % 128, Nat.mod_lt _ (by decide)⟩).trans (arr3 H _ ⟨(i 1).val / 128, by omega⟩ ⟨(i 1).val % 128, Nat.mod_lt _ (by decide)⟩).symm
      · rw [r4, Cert.FlashFwdRefIdeal.Read.val_main_v30_eq, a0, a1, a2, a3]
        refine congrFun (FlashBwdValue.ext3 _ _ fun i0 i1 i2 => ?_) i
        exact (ref_lse qn qr kn kr _ _ _ _ H.1 H.2.1 H.2.2.1 H.2.2.2.1 i0 i1 i2).trans (arr4 H i0 i1 i2).symm)
      (Cert.FlashFwdRefIdeal.Value.run m' ρ')⟩

/-- The one rewrite reads the word near the reciprocal of the logarithm of 2 as that number. -/
theorem preserves : Cert.preserves_FlashFwd_FlashFwdIdeal :=
  IdealRules.named_const.statement Cert.FlashFwdIdeal.κ "log2e" .f32 0x3FB8AA3B#32 (((Real.log 2)⁻¹ : ℝ) : EReal) rfl

end Claim

end Cert.FlashFwdValue

end
-- ==== Proof.Glu.lean ====
/- Hand-written, untrusted: the gradient of the gated linear unit. The kernel reads the two halves of a column-packed array
   (first the values `a`, then the gates) and writes `du · σ(gate)` and `((du · a) · σ) · (1 − σ)` beside each other into the
   first 2048 of 3200 columns; the reference joins the same two gradients along the columns. -/
module

public import proofs.«01_k».proof.Proof.Common
public import proofs.«01_k».proof.Proof.Gen.GluBwdIdeal.Value
public import proofs.«01_k».proof.Proof.Gen.GluBwdRefIdeal.Read
public import proofs.«01_k».proof.Proof.Gen.On_conv_columns

@[expose] public section

set_option maxRecDepth 16384

noncomputable section

namespace Cert.Glu

section

open Cert.Common Cert.GluBwdIdeal Cert.GluBwdIdeal.Gen Idealize.ShloMosaic TcCoe Idealize.SL.Sem

/-- What the body leaves at column `k` of its block: the two gradients beside each other. -/
def piece (du a g : Ideal .f32) (k : ℕ) : Ideal .bf16 :=
  if k < 1024 then (du * Ideal.div 1 (1 + Ideal.exp (0 - g)) : EReal)
  else (((du * a) * Ideal.div 1 (1 + Ideal.exp (0 - g))) * (1 - Ideal.div 1 (1 + Ideal.exp (0 - g))) : EReal)

theorem out_apply (c : Dev nD) (i : grid0.Coords) (arg1 : Memref sig .tc .vmem S512x1024 .f32) (hw1 : arg1.IsWhole) (arg2 : Memref sig .tc .vmem S512x1024 .f32) (hw2 : arg2.IsWhole) (arg3 : Memref sig .tc .vmem S512x1024 .f32) (hw3 : arg3.IsWhole) (arg4 : Memref sig .tc .vmem S512x2048 .bf16) (hw4 : arg4.IsWhole)
    (x0 x1 x2 : Vec Ideal S512x1024 .f32) (y : S512x2048.Idx) (z : S512x1024.Idx) (h0 : (z 0).val = (y 0).val) (h1 : (z 1).val = (y 1).val % 1024) :
    out0_A_3 c i _ hw1 _ hw2 _ hw3 _ hw4 x0 x1 x2 y = piece (x0 z) (x1 z) (x2 z) (y 1).val := by
  unfold out0_A_3
  rw [wr (fun _ => cover0_A_3 ..)]
  unfold kernelRun0_A
  dsimp only
  sl_unfold_words
  simp (disch := assumption) only [rd, ld0 S512x1024]
  canon_tiles x h
  all_goals
    obtain rfl : x = z := by
      refine funext fun a => Fin.ext ?_
      match a with
      | ⟨0, _⟩ => show (x 0).val = (z 0).val; omega
      | ⟨1, _⟩ => show (x 1).val = (z 1).val; omega
    unfold piece
  · rw [if_neg (by omega)]
    unfold_payloads
    pointwise
    try simp only [shapeCast_self]
  · rw [if_pos (by omega)]
    unfold_payloads
    pointwise
    try simp only [shapeCast_self]

variable (m : (ℓ : Loc nD τ sig) → Buf (Elt Ideal) ℓ)

/-- The packed array as the region finds it, on its first 2048 columns. -/
theorem packed (c : Dev nD) (i : S8192x3200.Idx) (j : S8192x3136.Idx) (h0 : (j 0).val = (i 0).val) (h1 : (j 1).val = (i 1).val + 1088)
    (hi : (i 1).val < 2048) : V m c main_v6 i = m (lc c main_arg1) j := by
  have hV : V m c main_v6 = concatenate (α := Ideal .f32) S8192x3200 1
      [⟨S8192x1024, extractStridedSlice S8192x1024 ![0, 1088] (m (lc c main_arg1)) slices_S8192x3136_S8192x1024_0_1088⟩,
        ⟨S8192x1024, extractStridedSlice S8192x1024 ![0, 2112] (m (lc c main_arg1)) slices_S8192x3136_S8192x1024_0_2112⟩,
        ⟨S8192x512, extractStridedSlice S8192x512 ![0, 0] (m (lc c main_arg1)) slices_S8192x3136_S8192x512_0_0⟩,
        ⟨S8192x512, extractStridedSlice S8192x512 ![0, 512] (m (lc c main_arg1)) slices_S8192x3136_S8192x512_0_512⟩,
        ⟨S8192x64, extractStridedSlice S8192x64 ![0, 1024] (m (lc c main_arg1)) slices_S8192x3136_S8192x64_0_1024⟩,
        ⟨S8192x64, broadcastInDim S8192x64 ![] bcast_S_S8192x64 (constant (F := Ideal) S_ .f32 0x00000000#32)⟩]
      concatenates_S8192x1024_S8192x1024_S8192x512_S8192x512_S8192x64_S8192x64_S8192x3200_d1 := by
    show StableHlo.after hostOps0 (fun b => m (c, b)) main_v6 = _
    unfold hostOps0
    simp only []
    after_results
    rfl
  rw [hV]
  idx_vars i
  have hi' : i1.val < 2048 := hi
  pointwise
  by_cases h : i1.val < 1024
  · rw [dif_pos h]
    exact read2 _ _ _ h0.symm (show 1088 + i1.val = _ by rw [h1]; show _ = i1.val + 1088; omega)
  · rw [dif_neg h, dif_pos (show i1.val - 1024 < 1024 by omega)]
    exact read2 _ _ _ h0.symm (show 2112 + (i1.val - 1024) = _ by rw [h1]; show _ = i1.val + 1088; omega)

/-- The rows and columns at which the four windows' blocks begin. -/
theorem idx_facts : ∀ t : Fin cfg0.N, win0_0.index t ax0 = t.val ∧ win0_0.index t ax1 = 0
    ∧ win0_1.index t ax0 = t.val ∧ win0_1.index t ax1 = 0 ∧ win0_2.index t ax0 = t.val ∧ win0_2.index t ax1 = 1
    ∧ win0_3.index t ax0 = t.val ∧ win0_3.index t ax1 = 0 :=
  (by decide +kernel : ∀ t : Fin grid0.N, _)

/-- The result array at an index of its first 2048 columns. -/
theorem final_apply (c : Dev nD) (i : S8192x3200.Idx) (hi : (i 1).val < 2048)
    (z : S8192x1024.Idx) (h0 : (z 0).val = (i 0).val) (h1 : (z 1).val = (i 1).val % 1024)
    (a : S8192x3136.Idx) (a0 : (a 0).val = (i 0).val) (a1 : (a 1).val = (i 1).val % 1024 + 1088)
    (g : S8192x3136.Idx) (g0 : (g 0).val = (i 0).val) (g1 : (g 1).val = (i 1).val % 1024 + 2112) :
    (dats m 0 c).arrAt 3 cfg0.N i = piece (m (lc c main_arg0) z) (m (lc c main_arg1) a)
      (m (lc c main_arg1) g) (i 1).val := by
  have hN : cfg0.N = 16 := N_0
  have hi0 : (i 0).val < 8192 := (i 0).isLt
  obtain ⟨t, ht⟩ : ∃ t : Fin cfg0.N, t.val = (i 0).val / 512 := ⟨⟨(i 0).val / 512, by omega⟩, rfl⟩
  obtain ⟨e00, e01, e10, e11, e20, e21, e30, e31⟩ := idx_facts t
  have hx : ∀ ax, (cfg0.win 3).xsize (cfg0.grid.coords t) ax = (cfg0.win 3).size ax :=
    (by decide +kernel : ∀ t : Fin cfg0.N, ∀ ax, (cfg0.win 3).xsize (cfg0.grid.coords t) ax = (cfg0.win 3).size ax) _
  have hb := Value.blocks3 m c t (flush0_3 _)
  rw [Value.flushed3_A] at hb
  have hb' := congrFun hb (fun ax => ⟨(match ax with | ⟨0, _⟩ => (i 0).val % 512 | ⟨1, _⟩ => (i 1).val), by
    refine lt_of_lt_of_eq ?_ (hx ax).symm
    match ax with
    | ⟨0, _⟩ => exact Nat.mod_lt _ (by decide)
    | ⟨1, _⟩ => exact hi⟩)
  have hi' : (dats m 0 c).arrAt 3 cfg0.N i = _ := (read2 ((dats m 0 c).arrAt 3 cfg0.N) i _ (by
    show _ = win0_3.index t ax0 * 512 + 1 * ((i 0).val % 512); omega) (by
    show _ = win0_3.index t ax1 * 2048 + 1 * (i 1).val; omega)).trans hb'
  rw [hi']
  have hz1 : (i 1).val % 1024 < 1024 := Nat.mod_lt _ (by decide)
  refine (out_apply c _ _ _ _ _ _ _ _ _ _ _ _ _ (ix2 ⟨(i 0).val % 512, Nat.mod_lt _ (by decide)⟩ ⟨(i 1).val % 1024, hz1⟩) rfl rfl).trans ?_
  have e0 : iblk m c 0 t (ix2 ⟨(i 0).val % 512, Nat.mod_lt _ (by decide)⟩ ⟨(i 1).val % 1024, hz1⟩) = m (lc c main_arg0) z := by
    show V m c main_arg0 _ = _
    rw [V_main_arg0]
    exact read2 _ _ z (by rw [h0]; show win0_0.index t ax0 * 512 + 1 * ((i 0).val % 512) = _; omega)
      (by rw [h1]; show win0_0.index t ax1 * 1024 + 1 * ((i 1).val % 1024) = _; omega)
  have e1 : X0_1 m c t (ix2 ⟨(i 0).val % 512, Nat.mod_lt _ (by decide)⟩ ⟨(i 1).val % 1024, hz1⟩) = m (lc c main_arg1) a := by
    unfold X0_1 Pipeline.Window.fill
    rw [dif_pos (moved0_1 _ _)]
    show V m c main_v6 _ = _
    refine packed m c _ a ?_ ?_ ?_
    · rw [a0]; show _ = win0_1.index t ax0 * 512 + 1 * ((i 0).val % 512); omega
    · rw [a1]; show _ = win0_1.index t ax1 * 1024 + 1 * ((i 1).val % 1024) + 1088; omega
    · show win0_1.index t ax1 * 1024 + 1 * ((i 1).val % 1024) < 2048; omega
  have e2 : X0_2 m c t (ix2 ⟨(i 0).val % 512, Nat.mod_lt _ (by decide)⟩ ⟨(i 1).val % 1024, hz1⟩) = m (lc c main_arg1) g := by
    unfold X0_2 Pipeline.Window.fill
    rw [dif_pos (moved0_2 _ _)]
    show V m c main_v6 _ = _
    refine packed m c _ g ?_ ?_ ?_
    · rw [g0]; show _ = win0_2.index t ax0 * 512 + 1 * ((i 0).val % 512); omega
    · rw [g1]; show _ = win0_2.index t ax1 * 1024 + 1 * ((i 1).val % 1024) + 1088; omega
    · show win0_2.index t ax1 * 1024 + 1 * ((i 1).val % 1024) < 2048; omega
  rw [e0, e1, e2]

end

section

open Cert.Common Cert.GluBwdRefIdeal Read Idealize.ShloMosaic

theorem ref_apply (x0 : (⟨S8192x1024, .f32⟩ : BufTy).Contents (Elt Ideal)) (x1 : (⟨S8192x3136, .f32⟩ : BufTy).Contents (Elt Ideal)) (i : S8192x3200.Idx)
  (z : S8192x1024.Idx) (h0 : (z 0).val = (i 0).val) (h1 : (z 1).val = (i 1).val % 1024)
  (a : S8192x3136.Idx) (a0 : (a 0).val = (i 0).val) (a1 : (a 1).val = (i 1).val % 1024 + 1088)
  (g : S8192x3136.Idx) (g0 : (g 0).val = (i 0).val) (g1 : (g 1).val = (i 1).val % 1024 + 2112) (hi : (i 1).val < 2048):
   Cert.GluBwdRefIdeal.Read.val_main_v19 x0 x1 i = piece (x0 z) (x1 a) (x1 g) (i 1).val := by
  idx_vars i
  have hi' : i1.val < 2048 := hi
  simp only [val_main_v19, val_main_v18, val_main_v16, val_main_v15, val_main_v14,
    val_main_v13, val_main_v11, val_main_v10, val_main_v9, val_main_v8,
    val_main_v7, val_main_v6, val_main_v5, val_main_v4, val_main_v3,
    val_main_v2, val_main_v1, val_main_v0,
    val_main_cst, val_main_cst_0, val_main_cst_1]
  pointwise
  rw [dif_pos hi']
  unfold piece
  by_cases h : i1.val < 1024
  · rw [dif_pos h, if_pos (show i1.val < 1024 from h), read2 x0 _ z (by exact h0.symm) (by rw [h1]; show i1.val = i1.val % 1024; omega),
      read2 x1 _ g (by exact g0.symm) (by rw [g1]; show 1088 + (1024 + i1.val) = i1.val % 1024 + 2112; omega), zero_sub]
  · have e : i1.val % 1024 = i1.val - 1024 := by omega
    rw [dif_neg h, if_neg (show ¬ i1.val < 1024 from h), read2 x0 _ z (by exact h0.symm) (by rw [h1]; show i1.val - 1024 = i1.val % 1024; omega),
      read2 x1 (ix2 i0 ⟨1088 + (i1.val - 1024), _⟩) a (by exact a0.symm) (by rw [a1]; show 1088 + (i1.val - 1024) = i1.val % 1024 + 1088; omega),
      read2 x1 (ix2 i0 ⟨1088 + (1024 + (i1.val - 1024)), _⟩) g (by exact g0.symm)
        (by rw [g1]; show 1088 + (1024 + (i1.val - 1024)) = i1.val % 1024 + 2112; omega), zero_sub]
    ac_rfl

end

open Idealize.ShloMosaic Idealize.SL.Sem TcCoe in
/-- The mask holds exactly on the first 2048 columns. -/
theorem mask_iff [Cert.On_conv_columns.Facts] (x0 : FVec Ideal Cert.On_conv_columns.S8192x1024 .f32) (x1 : FVec Ideal Cert.On_conv_columns.S8192x3136 .f32)
    (i : Cert.On_conv_columns.S8192x3200.Idx) (h : Cert.On_conv_columns.fn (F := Ideal) x0 x1 i = 1#1) : (i 1).val < 2048 := by
  have key : ∀ k : Fin 3200, IntOp.cmpi .slt (BitVec.ofNat 32 k.val) 2048#32 = 1#1 → k.val < 2048 := by decide +kernel
  exact key (i 1) h

open Idealize.ShloMosaic Idealize.SL.Sem TcCoe in
/-- Over the extended reals the kernel's gradient of the gated linear unit is `jax.vjp`'s, on the columns it writes. -/
theorem algebraic : Cert.algebraic_GluBwdIdeal_GluBwdRefIdeal_on_conv_columns := fun m ρ m' ρ' _ hag =>
  ⟨fun c => (Cert.GluBwdIdeal.Gen.dats m 0 c).arrAt 3 Cert.GluBwdIdeal.cfg0.N,
    (θ_run _ _ _).mono (fun r h c => ⟨fun i _ => congrFun (h c).1 i, (h c).2⟩) (Cert.GluBwdIdeal.Value.run_blocks m ρ),
    (θ_run _ _ _).mono (fun r h c => ⟨fun i hm => by
      rw [(h c).1, (hag c).1, (hag c).2, Cert.GluBwdRefIdeal.Read.val_main_v19_eq]
      have hi := mask_iff _ _ i hm
      have h0 : (i 0).val < 8192 := (i 0).isLt
      have hz : (i 1).val % 1024 < 1024 := Nat.mod_lt _ (by decide)
      refine Eq.trans ?_ (final_apply m c i hi (ix2 ⟨(i 0).val, h0⟩ ⟨(i 1).val % 1024, hz⟩) rfl rfl (ix2 ⟨(i 0).val, h0⟩ ⟨(i 1).val % 1024 + 1088, by omega⟩) rfl rfl
        (ix2 ⟨(i 0).val, h0⟩ ⟨(i 1).val % 1024 + 2112, by omega⟩) rfl rfl).symm
      exact ref_apply _ _ i _ rfl rfl _ rfl rfl _ rfl rfl hi, (h c).2⟩) (Cert.GluBwdRefIdeal.Value.run m' ρ')⟩

end Cert.Glu

end
-- ==== Proof.LatQ.lean ====
/- Hand-written, untrusted: the gradient of the query latent's rms norm, after its product with the projection. -/
module

public import proofs.«01_k».proof.Proof.Rms
public import proofs.«01_k».proof.Proof.Unrope
public import proofs.«01_k».proof.Proof.Finite
public import proofs.«01_k».proof.Proof.Gen.Pre_finite_q_dgrad_rms_bwd
public import proofs.«01_k».proof.Proof.Gen.QDgradRmsIdeal.Value
public import proofs.«01_k».proof.Proof.Gen.QDgradRmsRefIdeal.Read

@[expose] public section

set_option maxRecDepth 16384

noncomputable section

namespace Cert.LatQ

open Cert.Common Cert.Norm Cert.Rms
open Cert.Unrope (sitofp_zero)

section

open Cert.QDgradRmsIdeal Cert.QDgradRmsIdeal.Gen Idealize.ShloMosaic TcCoe Idealize.SL.Sem

variable (a : Vec Ideal S1024x2048 .bf16) (w : Vec Ideal S512x2048 .bf16) (u : Vec Ideal S1024x512 .f32) (g : Vec Ideal S1x512 .f32)
  (ar : Fin 1024 → Fin 2048 → ℝ) (wr : Fin 512 → Fin 2048 → ℝ) (ur : Fin 1024 → Fin 512 → ℝ) (gr : Fin 512 → ℝ)
  (ha : ∀ r j, (a (ix2 r j) : EReal) = (ar r j : ℝ)) (hw : ∀ l j, (w (ix2 l j) : EReal) = (wr l j : ℝ))
  (hu : ∀ r k, (u (ix2 r k) : EReal) = (ur r k : ℝ)) (hg : ∀ k, (g (ix2 0 k) : EReal) = (gr k : ℝ))

include ha hw in
theorem pay2 (r : Fin 1024) (l : Fin 512) : (k0_pay2 a w (ix2 r l) : EReal) = ((∑ j, ar r j * wr l j : ℝ) : EReal) := by
  unfold k0_pay2
  pointwise
  try simp only [shapeCast_self]
  exact dot_coe _ _ _ _ (ha r) (hw l)

theorem pay3 : k0_pay3 u = u := by
  unfold k0_pay3
  exact shapeCast_self _ _

include hu in
theorem pay4 (r : Fin 1024) (j : Fin 1) : (k0_pay4 u (ix2 r j) : EReal) = ((rr reps (ur r) : ℝ) : EReal) := by
  unfold k0_pay4
  rw [pay3]
  pointwise
  exact rr_coe reps (ur r) reps_pos _ (den_coe reps (ur r) (by decide) _ (hu r) _ _ ofBits_512 ofBits_reps)

variable (dr : Fin 1024 → Fin 512 → ℝ) (hd : ∀ r l, (k0_pay2 a w (ix2 r l) : EReal) = (dr r l : ℝ))

include hd hu in
theorem pay5 (k : Fin 512) : (k0_pay5 a w u (ix2 0 k) : EReal) = ∑ r, ((dr r k * ur r k * rr reps (ur r) : ℝ) : EReal) := by
  have h4 := pay4 u ur hu
  unfold k0_pay5
  rw [pay3]
  generalize k0_pay2 a w = d at hd ⊢
  generalize k0_pay4 u = v at h4 ⊢
  generalize hs : ∑ r, ((dr r k * ur r k * rr reps (ur r) : ℝ) : EReal) = s
  pointwise
  rw [← hs]
  exact Finset.sum_congr rfl fun r _ => by rw [hd, hu, h4, ← EReal.coe_mul, ← EReal.coe_mul]

include hd hu hg in
theorem pay6 (r : Fin 1024) (k : Fin 512) : (k0_pay6 a w u g (ix2 r k) : EReal) = ((rback reps (ur r) (fun k => dr r k * gr k) k : ℝ) : EReal) := by
  have h4 := pay4 u ur hu r
  unfold k0_pay6
  rw [pay3]
  generalize k0_pay2 a w = d at hd ⊢
  generalize k0_pay4 u = v at h4 ⊢
  pointwise
  exact kernel_coe reps (ur r) (fun k => dr r k * gr k) (by decide) (fun k => (d (ix2 r k) : EReal) * (g (ix2 0 k) : EReal)) (fun k => u (ix2 r k)) (fun k => by rw [hd, hg]; exact (EReal.coe_mul _ _).symm) (hu r) _ _ (h4 _) ofBits_512 k

theorem pay1 (v p : Vec Ideal S1x512 .f32) (k : Fin 512) : (k0_pay1 v p (ix2 0 k) : EReal) = (p (ix2 0 k) : EReal) + (v (ix2 0 k) : EReal) := by
  unfold k0_pay1
  pointwise
  try simp only [shapeCast_self]

variable {c : Dev nD} {i : grid0.Coords} {arg3 : Memref sig .tc .vmem S1024x2048 .bf16} {hw3 : arg3.IsWhole} {arg4 : Memref sig .tc .vmem S512x2048 .bf16} {hw4 : arg4.IsWhole} {arg5 : Memref sig .tc .vmem S1024x512 .f32} {hw5 : arg5.IsWhole} {arg6 : Memref sig .tc .vmem S1x512 .f32} {hw6 : arg6.IsWhole} {arg8 : Memref sig .tc .vmem S1024x512 .bf16} {hw8 : arg8.IsWhole} {arg9 : Memref sig .tc .vmem S1x512 .f32} {hw9 : arg9.IsWhole}

theorem A_4 (hc0 : cond0_0 i) (hc1 : ¬cond0_1 i) : out0_A_4 c i _ hw3 _ hw4 _ hw5 _ hw6 _ hw8 _ hw9 hc0 hc1 a w u g = k0_pay6 a w u g := by
  unfold out0_A_4
  rw [wr (fun _ => cover0_A_4 ..)]
  unfold kernelRun0_A
  dsimp only
  sl_unfold_words
  simp (disch := assumption) only [rd, ld0 S1024x2048, ld0 S512x2048, ld0 S1024x512, ld0 S1x512, c0 S1024x512]
  try rfl

theorem A_5 (hc0 : cond0_0 i) (hc1 : ¬cond0_1 i) : out0_A_5 c i _ hw3 _ hw4 _ hw5 _ hw6 _ hw8 _ hw9 hc0 hc1 a w u g = k0_pay5 a w u := by
  unfold out0_A_5
  rw [wr (fun _ => cover0_A_5 ..)]
  unfold kernelRun0_A
  dsimp only
  sl_unfold_words
  simp (disch := assumption) only [rd, ld0 S1024x2048, ld0 S512x2048, ld0 S1024x512, c0 S1x512]
  try rfl

theorem B_4 (p : Vec Ideal S1x512 .f32) (hc0 : ¬cond0_0 i) (hc1 : cond0_1 i) : out0_B_4 c i _ hw3 _ hw4 _ hw5 _ hw6 _ hw8 _ hw9 hc0 hc1 a w u g p = k0_pay6 a w u g := by
  unfold out0_B_4
  rw [wr (fun _ => cover0_B_4 ..)]
  unfold kernelRun0_B
  dsimp only
  sl_unfold_words
  simp (disch := assumption) only [rd, ld0 S1024x2048, ld0 S512x2048, ld0 S1024x512, ld0 S1x512, c0 S1024x512]
  try rfl

theorem B_5 (p : Vec Ideal S1x512 .f32) (hc0 : ¬cond0_0 i) (hc1 : cond0_1 i) : out0_B_5 c i _ hw3 _ hw4 _ hw5 _ hw6 _ hw8 _ hw9 hc0 hc1 a w u g p = k0_pay1 (k0_pay5 a w u) p := by
  unfold out0_B_5
  rw [wr (fun _ => cover0_B_5 ..)]
  unfold kernelRun0_B
  dsimp only
  sl_unfold_words
  simp (disch := assumption) only [rd, ld0 S1024x2048, ld0 S512x2048, ld0 S1024x512, ld0 S1x512, c0 S1x512]
  try rfl

end

section

open Cert.QDgradRmsIdeal Cert.QDgradRmsIdeal.Gen Idealize.ShloMosaic TcCoe Idealize.SL.Sem

theorem sitofp_zero' : (FloatOps.sitofp .bf16 (0#32) : Ideal .bf16) = (0 : EReal) := by
  simp [FloatOps.sitofp, Idealize.ShloMosaic.FloatOps.sitofp]

/-- A row of heads side by side, each followed by zeros. -/
def heads {α : Type} [Zero α] (f : Fin 8 → Fin 192 → α) (j : Fin 2048) : α := if h : j.val % 256 < 192 then f ⟨j.val / 256, by omega⟩ ⟨j.val % 256, h⟩ else 0

/-- The cotangent of the normed latent. -/
def dR (A : Fin 8192 → Fin 8 → Fin 192 → ℝ) (W : Fin 512 → Fin 1536 → ℝ) (q : Fin 8192) (l : Fin 512) : ℝ := ∑ h : Fin 8, ∑ k : Fin 192, A q h k * W l ⟨192 * h.val + k.val, by omega⟩

theorem sum_q (A : Fin 8192 → Fin 8 → Fin 192 → ℝ) (W : Fin 512 → Fin 1536 → ℝ) (q : Fin 8192) (l : Fin 512) :
    ∑ j, heads (A q) j * heads (fun h k => W l ⟨192 * h.val + k.val, by omega⟩) j = dR A W q l := by
  refine (sum_heads 8 256 _).trans (Finset.sum_congr rfl fun h _ => ?_)
  have e : ∀ k : Fin 256, (finProdFinEquiv (h, k)).val = k.val + 256 * h.val := fun _ => rfl
  refine (sum_zeros 192 64 _ fun j => ?_).trans (Finset.sum_congr rfl fun k _ => ?_)
  · have e' := e (Fin.natAdd 192 j)
    have e'' : (Fin.natAdd 192 j : Fin 256).val = 192 + j.val := rfl
    unfold heads
    rw [dif_neg (by omega), zero_mul]
  · have e' := e (Fin.castAdd 64 k)
    have e'' : (Fin.castAdd 64 k : Fin 256).val = k.val := rfl
    have d1 : (finProdFinEquiv (h, (Fin.castAdd 64 k : Fin 256)) : Fin (8 * 256)).val % 256 = k.val := by omega
    have d2 : (finProdFinEquiv (h, (Fin.castAdd 64 k : Fin 256)) : Fin (8 * 256)).val / 256 = h.val := by omega
    unfold heads
    rw [dif_pos (by omega), dif_pos (by omega)]
    simp only [d1, d2]

/-- The arguments are arrays of real numbers. -/
def Reals (m : (ℓ : Loc nD τ sig) → Buf (Elt Ideal) ℓ) (c : Dev nD) (A : Fin 8192 → Fin 8 → Fin 192 → ℝ) (W : Fin 512 → Fin 1536 → ℝ) (X : Fin 8192 → Fin 3136 → ℝ) (G : Fin 512 → ℝ) : Prop :=
  (∀ q h k, @Eq EReal ((m (lc c main_arg0) : S8192x8x192.Idx → EReal) (ix3 q h k)) (A q h k : ℝ))
  ∧ (∀ l k, @Eq EReal ((m (lc c main_arg1) : S512x1536.Idx → EReal) (ix2 l k)) (W l k : ℝ))
  ∧ (∀ q k, @Eq EReal ((m (lc c main_arg2) : S8192x3136.Idx → EReal) (ix2 q k)) (X q k : ℝ))
  ∧ (∀ k, @Eq EReal ((m (lc c main_arg3) : S1x512.Idx → EReal) (ix2 0 k)) (G k : ℝ))

theorem idx_facts : ∀ t : Fin grid0.N, (win0_0.index t ax0 = t.val ∧ win0_0.index t ax1 = 0) ∧ (win0_1.index t ax0 = 0 ∧ win0_1.index t ax1 = 0)
    ∧ (win0_2.index t ax0 = t.val ∧ win0_2.index t ax1 = 4) ∧ (win0_3.index t ax0 = 0 ∧ win0_3.index t ax1 = 0)
    ∧ (win0_4.index t ax0 = t.val ∧ win0_4.index t ax1 = 4) ∧ (win0_5.index t ax0 = 0 ∧ win0_5.index t ax1 = 0) := by
  decide +kernel

/-- Row `r` of tile `t`. -/
def at_ (a : Fin cfg0.N) (r : Fin 1024) : Fin 8192 := ⟨1024 * a.val + r.val, by have h : a.val < 8 := a.isLt; omega⟩

variable {m : (ℓ : Loc nD τ sig) → Buf (Elt Ideal) ℓ} {c : Dev nD}

theorem V_a (q : Fin 8192) (j : Fin 2048) (d : S8192x8x192.Idx → EReal) (hd : d = m (lc c main_arg0)) : (V m c main_v6 (ix2 q j) : EReal) = heads (fun h k => d (ix3 q h k)) j := by
  have hv : V m c main_v6 = truncf (F := Ideal) .bf16 (shapeCast S8192x2048 (pad (α := Ideal .f32) (s := S8192x8x192) S8192x8x256 ![0, 0, 0] ![0, 0, 64] ![0, 0, 0] (m (lc c main_arg0))
     (sitofp (F := Ideal) .f32 (constantI S_ 32 0#32)) pads_S8192x8x192_S8192x8x256_000_000_0640 h_S_) shapeCasts_S8192x8x256_S8192x2048) bitsLt_bf16_f32 := by
    show StableHlo.after _ (fun b => m (c, b)) main_v6 = _
    simp only [flat]
    after_results
    try rfl
  rw [hv, ← hd]
  generalize hg : heads (fun h k => d (ix3 q h k)) j = g
  pointwise
  rw [← hg, sitofp_zero]
  unfold heads
  by_cases h : j.val % 256 < 192
  · have h' : j.val / 256 < 8 := by omega
    rw [dif_pos ⟨h', h⟩, dif_pos h]
  · have h' : ¬ (j.val / 256 < 8 ∧ j.val % 256 < 192) := fun x => h x.2
    rw [dif_neg h', dif_neg h]

theorem heads_w (x : FVec Ideal S512x1536 .f32) (z : FVec Ideal S_ .bf16) (hz : ∀ i, (z i : EReal) = 0) (l : Fin 512) (j : Fin 2048) :
    (shapeCast S512x2048 (transpose S512x8x256 [1, 0, 2] (pad (α := Ideal .bf16) (s := S8x512x192) S8x512x256 ![0, 0, 0] ![0, 0, 64] ![0, 0, 0]
      (truncf (F := Ideal) .bf16 (transpose S8x512x192 [1, 0, 2] (shapeCast (s := S512x1536) S512x8x192 x shapeCasts_S512x1536_S512x8x192) transposes_S512x8x192_S8x512x192_1_0_2) bitsLt_bf16_f32)
      z pads_S8x512x192_S8x512x256_000_000_0640 h_S_) transposes_S8x512x256_S512x8x256_1_0_2) shapeCasts_S512x8x256_S512x2048 (ix2 l j) : EReal) = heads (fun h k => x (ix2 l ⟨192 * h.val + k.val, by omega⟩)) j := by
  generalize hg : heads (fun h k => x (ix2 l ⟨192 * h.val + k.val, by omega⟩)) j = g
  pointwise
  rw [← hg]
  unfold heads
  by_cases h : j.val % 256 < 192
  · have h' : j.val / 256 < 8 := by omega
    refine (dif_pos ⟨h', h⟩).trans (Eq.trans ?_ (dif_pos h).symm)
    exact congrArg (fun k => x (ix2 l k)) (Fin.ext (by show j.val / 256 * 192 + j.val % 256 = 192 * (j.val / 256) + j.val % 256; omega))
  · have h' : ¬ (j.val / 256 < 8 ∧ j.val % 256 < 192) := fun x => h x.2
    refine (dif_neg h').trans (Eq.trans ?_ (dif_neg h).symm)
    exact hz _

theorem pad_zero (i : S_.Idx) : ((sitofp (F := Ideal) .bf16 (constantI S_ 32 0#32) : FVec Ideal S_ .bf16) i : EReal) = 0 := by
  show ((((0#32 : BitVec 32).toInt : ℝ)) : EReal) = 0
  simp

theorem V_w (l : Fin 512) (j : Fin 2048) (d : S512x1536.Idx → EReal) (hd : d = m (lc c main_arg1)) : (V m c main_v8 (ix2 l j) : EReal) = heads (fun h k => d (ix2 l ⟨192 * h.val + k.val, by omega⟩)) j := by
  have hv : V m c main_v8 = shapeCast S512x2048 (transpose S512x8x256 [1, 0, 2] (pad (α := Ideal .bf16) (s := S8x512x192) S8x512x256 ![0, 0, 0] ![0, 0, 64] ![0, 0, 0]
     (truncf (F := Ideal) .bf16 (transpose S8x512x192 [1, 0, 2] (shapeCast (s := S512x1536) S512x8x192 (m (lc c main_arg1)) shapeCasts_S512x1536_S512x8x192) transposes_S512x8x192_S8x512x192_1_0_2) bitsLt_bf16_f32)
     (sitofp (F := Ideal) .bf16 (constantI S_ 32 0#32)) pads_S8x512x192_S8x512x256_000_000_0640 h_S_) transposes_S8x512x256_S512x8x256_1_0_2) shapeCasts_S512x8x256_S512x2048 := by
    show StableHlo.after _ (fun b => m (c, b)) main_v8 = _
    simp only [flat]
    after_results
    try rfl
  rw [hv, ← hd]
  exact heads_w d _ pad_zero l j

/-- The rows are packed by columns. -/
def packed {α : Type} [Zero α] (X : Fin 8192 → Fin 3136 → α) (q : Fin 8192) (a : Fin 3200) : α :=
  if h : a.val < 2048 then X q ⟨1088 + a.val, by omega⟩ else if h : a.val < 3136 then X q ⟨a.val - 2048, by omega⟩ else 0

theorem pack_apply (x : S8192x3136.Idx → EReal) (q : Fin 8192) (a : Fin 3200) :
    (concatenate (α := Ideal .f32) S8192x3200 1 [⟨S8192x1024, extractStridedSlice S8192x1024 ![0, 1088] x slices_S8192x3136_S8192x1024_0_1088⟩,
      ⟨S8192x1024, extractStridedSlice S8192x1024 ![0, 2112] x slices_S8192x3136_S8192x1024_0_2112⟩, ⟨S8192x512, extractStridedSlice S8192x512 ![0, 0] x slices_S8192x3136_S8192x512_0_0⟩,
      ⟨S8192x512, extractStridedSlice S8192x512 ![0, 512] x slices_S8192x3136_S8192x512_0_512⟩, ⟨S8192x64, extractStridedSlice S8192x64 ![0, 1024] x slices_S8192x3136_S8192x64_0_1024⟩,
      ⟨S8192x64, broadcastInDim S8192x64 ![] bcast_S_S8192x64 (constant (F := Ideal) S_ .f32 0x00000000#32)⟩] concatenates_S8192x1024_S8192x1024_S8192x512_S8192x512_S8192x64_S8192x64_S8192x3200_d1 (ix2 q a) : EReal)
    = packed (fun q k => x (ix2 q k)) q a := by
  generalize hg : packed (fun q k => x (ix2 q k)) q a = g
  unfold packed at hg
  pointwise
  rw [← hg]
  have e : ∀ (n n' : ℕ) (h : n < 3136) (h' : n' < 3136), n = n' → x (ix2 q ⟨n, h⟩) = x (ix2 q ⟨n', h'⟩) := fun n n' _ _ hn => by subst hn; rfl
  by_cases h1 : a.val < 1024
  · rw [dif_pos h1, dif_pos (by omega)]
    try exact e (1088 + a.val) (1088 + a.val) _ _ (by omega)
  rw [dif_neg h1]
  by_cases h2 : a.val - 1024 < 1024
  · rw [dif_pos h2, dif_pos (by omega)]
    exact e (2112 + (a.val - 1024)) (1088 + a.val) _ _ (by omega)
  rw [dif_neg h2, dif_neg (show ¬ a.val < 2048 by omega)]
  by_cases h3 : a.val - 1024 - 1024 < 512
  · rw [dif_pos h3, dif_pos (by omega)]
    exact e (a.val - 1024 - 1024) (a.val - 2048) _ _ (by omega)
  rw [dif_neg h3]
  by_cases h4 : a.val - 1024 - 1024 - 512 < 512
  · rw [dif_pos h4, dif_pos (by omega)]
    exact e (512 + (a.val - 1024 - 1024 - 512)) (a.val - 2048) _ _ (by omega)
  rw [dif_neg h4]
  by_cases h5 : a.val - 1024 - 1024 - 512 - 512 < 64
  · rw [dif_pos h5, dif_pos (by omega)]
    exact e (1024 + (a.val - 1024 - 1024 - 512 - 512)) (a.val - 2048) _ _ (by omega)
  · rw [dif_neg h5, dif_neg (by omega)]

theorem V_h (q : Fin 8192) (a : Fin 3200) (d : S8192x3136.Idx → EReal) (hd : d = m (lc c main_arg2)) : (V m c main_v15 (ix2 q a) : EReal) = packed (fun q k => d (ix2 q k)) q a := by
  rw [hd, ← pack_apply]
  refine congrFun (?_ : V m c main_v15 = _) (ix2 q a)
  show StableHlo.after _ (fun b => m (c, b)) main_v15 = _
  simp only [flat]
  after_results
  try rfl

theorem V_dh (q : Fin 8192) (a : Fin 3200) (d : S8192x3136.Idx → EReal) (hd : d = m (lc c main_arg4)) : (V m c (Pipeline.arrRef spec0 4) (ix2 q a) : EReal) = packed (fun q k => d (ix2 q k)) q a := by
  rw [hd, ← pack_apply]
  have hv : V m c (Pipeline.arrRef spec0 4) = truncf (F := Ideal) .bf16 (concatenate (α := Ideal .f32) S8192x3200 1 [⟨S8192x1024, extractStridedSlice S8192x1024 ![0, 1088] (m (lc c main_arg4)) slices_S8192x3136_S8192x1024_0_1088⟩,
      ⟨S8192x1024, extractStridedSlice S8192x1024 ![0, 2112] (m (lc c main_arg4)) slices_S8192x3136_S8192x1024_0_2112⟩, ⟨S8192x512, extractStridedSlice S8192x512 ![0, 0] (m (lc c main_arg4)) slices_S8192x3136_S8192x512_0_0⟩,
      ⟨S8192x512, extractStridedSlice S8192x512 ![0, 512] (m (lc c main_arg4)) slices_S8192x3136_S8192x512_0_512⟩, ⟨S8192x64, extractStridedSlice S8192x64 ![0, 1024] (m (lc c main_arg4)) slices_S8192x3136_S8192x64_0_1024⟩,
      ⟨S8192x64, broadcastInDim S8192x64 ![] bcast_S_S8192x64 (constant (F := Ideal) S_ .f32 0x00000000#32)⟩] concatenates_S8192x1024_S8192x1024_S8192x512_S8192x512_S8192x64_S8192x64_S8192x3200_d1) bitsLt_bf16_f32 := by
    unfold V
    after_results
    try rfl
  exact congrFun hv (ix2 q a)

theorem V_g : V m c main_arg3 = m (lc c main_arg3) := by
  show StableHlo.after _ (fun b => m (c, b)) main_arg3 = _
  simp only [flat]
  after_results
  try rfl

variable {A : Fin 8192 → Fin 8 → Fin 192 → ℝ} {W : Fin 512 → Fin 1536 → ℝ} {X : Fin 8192 → Fin 3136 → ℝ} {G : Fin 512 → ℝ} (H : Reals m c A W X G) (t : Fin cfg0.N)

/-- A row of heads of real numbers. -/
theorem heads_coe (f : Fin 8 → Fin 192 → EReal) (f' : Fin 8 → Fin 192 → ℝ) (h : ∀ a b, f a b = (f' a b : ℝ)) (j : Fin 2048) : heads f j = ((heads f' j : ℝ) : EReal) := by
  unfold heads
  by_cases hj : j.val % 256 < 192
  · rw [dif_pos hj, dif_pos hj, h]
  · rw [dif_neg hj, dif_neg hj]
    rfl

include H

theorem blk_a (r : Fin 1024) (j : Fin 2048) : (iblk m c 0 t (ix2 r j) : EReal) = ((heads (A (at_ t r)) j : ℝ) : EReal) := by
  obtain ⟨⟨e0, e1⟩, -⟩ := idx_facts t
  refine Eq.trans (Eq.trans ?_ (V_a (m := m) (c := c) (at_ t r) j _ rfl)) (heads_coe _ _ (H.1 (at_ t r)) j)
  exact read2 (V m c main_v6) _ _ (by show win0_0.index t ax0 * 1024 + 1 * r.val = 1024 * t.val + r.val; omega) (by show win0_0.index t ax1 * 2048 + 1 * j.val = j.val; omega)

theorem blk_w (l : Fin 512) (j : Fin 2048) : (iblk m c 1 t (ix2 l j) : EReal) = ((heads (fun h k => W l ⟨192 * h.val + k.val, by omega⟩) j : ℝ) : EReal) := by
  obtain ⟨-, ⟨e0, e1⟩, -⟩ := idx_facts t
  refine Eq.trans (Eq.trans ?_ (V_w (m := m) (c := c) l j _ rfl)) (heads_coe _ (fun h k => W l ⟨192 * h.val + k.val, by omega⟩) (fun _ _ => H.2.1 l _) j)
  exact read2 (V m c main_v8) _ _ (by show win0_1.index t ax0 * 512 + 1 * l.val = l.val; omega) (by show win0_1.index t ax1 * 2048 + 1 * j.val = j.val; omega)

theorem blk_u (r : Fin 1024) (k : Fin 512) : (X0_2 m c t (ix2 r k) : EReal) = ((X (at_ t r) ⟨k.val, by omega⟩ : ℝ) : EReal) := by
  obtain ⟨-, -, ⟨e0, e1⟩, -⟩ := idx_facts t
  refine Eq.trans (Eq.trans ?_ (V_h (m := m) (c := c) (at_ t r) ⟨2048 + k.val, by omega⟩ _ rfl)) ?_
  · unfold X0_2 Pipeline.Window.fill
    rw [dif_pos (moved0_2 _ _)]
    exact read2 (V m c main_v15) _ _ (by show win0_2.index t ax0 * 1024 + 1 * r.val = 1024 * t.val + r.val; omega) (by show win0_2.index t ax1 * 512 + 1 * k.val = 2048 + k.val; omega)
  · unfold packed
    have h1 : ¬ 2048 + k.val < 2048 := by omega
    have h2 : 2048 + k.val < 3136 := by omega
    rw [dif_neg h1, dif_pos h2]
    exact (congrArg (fun k => ((m (lc c main_arg2) : S8192x3136.Idx → EReal) (ix2 (at_ t r) k) : EReal)) (Fin.ext (by show 2048 + k.val - 2048 = k.val; omega))).trans (H.2.2.1 (at_ t r) _)

theorem blk_g (k : Fin 512) : (iblk m c 3 t (ix2 0 k) : EReal) = ((G k : ℝ) : EReal) := by
  obtain ⟨-, -, -, ⟨e0, e1⟩, -⟩ := idx_facts t
  refine Eq.trans (Eq.trans ?_ (congrFun (V_g (m := m) (c := c)) (ix2 0 k))) (H.2.2.2 k)
  exact read2 (V m c main_arg3) _ _ (by show win0_3.index t ax0 * 1 + 1 * 0 = 0; omega) (by show win0_3.index t ax1 * 512 + 1 * k.val = k.val; omega)

theorem dot (r : Fin 1024) (l : Fin 512) : (k0_pay2 (iblk m c 0 t) (iblk m c 1 t) (ix2 r l) : EReal) = ((dR A W (at_ t r) l : ℝ) : EReal) :=
  (pay2 (iblk m c 0 t) (iblk m c 1 t) (fun r => heads (A (at_ t r))) (fun l => heads (fun h k => W l ⟨192 * h.val + k.val, by omega⟩)) (blk_a H t) (blk_w H t) r l).trans
    (congrArg Real.toEReal (sum_q A W (at_ t r) l))

omit H in
/-- The latent's columns of a row. -/
def lat (X : Fin 8192 → Fin 3136 → ℝ) (q : Fin 8192) (k : Fin 512) : ℝ := X q ⟨k.val, by omega⟩

theorem pt4 (r : Fin 1024) (k : Fin 512) : ((outsAt0 m c t.val t.isLt).1 (ix2 r k) : EReal) = ((rback reps (lat X (at_ t r)) (fun k => dR A W (at_ t r) k * G k) k : ℝ) : EReal) := by
  have hv := pay6 _ _ _ _ (fun r => lat X (at_ t r)) G (blk_u H t) (blk_g H t) (fun r => dR A W (at_ t r)) (dot H t) r k
  have hN : t.val < 8 := t.isLt
  by_cases h0 : t.val = 0
  · refine Eq.trans (congrFun (congrArg (fun p => p.1) (outsAt0_A m c t (by omega) (by omega))) (ix2 r k)) ?_
    dsimp only
    exact (congrFun (A_4 _ _ _ _ _ _) (ix2 r k)).trans hv
  · refine Eq.trans (congrFun (congrArg (fun p => p.1) (outsAt0_B m c t (by omega) (by omega))) (ix2 r k)) ?_
    dsimp only
    exact (congrFun (B_4 _ _ _ _ _ _ _) (ix2 r k)).trans hv

omit H in
/-- The rows' parts of the scale's gradient. -/
def fg (A : Fin 8192 → Fin 8 → Fin 192 → ℝ) (W : Fin 512 → Fin 1536 → ℝ) (X : Fin 8192 → Fin 3136 → ℝ) (k : Fin 512) (r : Fin 8192) : EReal := ((dR A W r k * lat X r k * rr reps (lat X r) : ℝ) : EReal)

theorem tile_g (k : Fin 512) : (k0_pay5 (iblk m c 0 t) (iblk m c 1 t) (X0_2 m c t) (ix2 0 k) : EReal) = ∑ r : Fin 1024, ext0 (fg A W X k) (1024 * t.val + r.val) :=
  (pay5 _ _ _ (fun r => lat X (at_ t r)) (blk_u H t) (fun r => dR A W (at_ t r)) (dot H t) k).trans (Finset.sum_congr rfl fun r _ => (ext0_of (fg A W X k) (1024 * t.val + r.val) (at_ t r).isLt).symm)

omit t in
theorem acc5 (k : Fin 512) : ∀ t (h : t < cfg0.N), ((outsAt0 m c t h).2 (ix2 0 k) : EReal) = ∑ j ∈ Finset.range (t + 1), ∑ r : Fin 1024, ext0 (fg A W X k) (1024 * j + r.val) := by
  have hN : cfg0.N = 8 := N_0
  refine fold (fun t h => ((outsAt0 m c t h).2 (ix2 0 k) : EReal)) _ (fun h => ?_) (fun t h => ?_)
  · refine Eq.trans (congrFun (congrArg (fun p => p.2) (outsAt0_A m c ⟨0, h⟩ (by show 0 % 8 = 0; decide) (by show ¬ 1 ≤ 0; decide))) (ix2 0 k)) ?_
    dsimp only
    refine Eq.trans (congrFun (A_5 _ _ _ _ _ _) (ix2 0 k)) ?_
    exact tile_g H ⟨0, h⟩ k
  · refine Eq.trans (congrFun (congrArg (fun p => p.2) (outsAt0_B m c ⟨t + 1, h⟩ (by show ¬ (t + 1) % 8 = 0; omega) (by show 1 ≤ t + 1; omega))) (ix2 0 k)) ?_
    dsimp only
    refine Eq.trans (congrFun (B_5 _ _ _ _ _ _ _) (ix2 0 k)) ?_
    refine (pay1 _ _ k).trans ?_
    exact congrArg₂ (fun x y : EReal => x + y) rfl (tile_g H ⟨t + 1, h⟩ k)

theorem arr5 (k : Fin 512) : ((dats m 0 c).arrAt 5 cfg0.N (ix2 0 k) : EReal) = ∑ r, fg A W X k r := by
  obtain ⟨t, ht⟩ : ∃ t : Fin cfg0.N, t.val = 7 := ⟨⟨7, by decide⟩, rfl⟩
  obtain ⟨-, -, -, -, -, ⟨e0, e1⟩⟩ := idx_facts t
  have hb := (dats m 0 c).read_blk_arrAt_eq_flushed 5 (fun a a' hf hf' hne => absurd (Fin.ext (by have ha : a.val < 8 := a.isLt; have ha' : a'.val < 8 := a'.isLt; have := (flush0_5 a).mp hf; have := (flush0_5 a').mp hf'; omega)) hne) cfg0.N t t.isLt ((flush0_5 t).mpr (by omega))
  rw [Value.flushed5] at hb
  refine Eq.trans (Eq.trans (Eq.symm ?_) (congrFun hb (ix2 0 k))) ((acc5 H k t.val t.isLt).trans ?_)
  · exact (read2 ((dats m 0 c).arrAt 5 cfg0.N) _ _ (by show 0 = win0_5.index t ax0 * 1 + 1 * 0; omega) (by show k.val = win0_5.index t ax1 * 512 + 1 * k.val; omega)).symm
  · rw [ht]
    exact sum_blocks 8 1024 (by decide) (fg A W X k)

omit H in
/-- The packed rows with the query latent's gradient filled in. -/
def G4 (A : Fin 8192 → Fin 8 → Fin 192 → ℝ) (W : Fin 512 → Fin 1536 → ℝ) (X : Fin 8192 → Fin 3136 → ℝ) (G : Fin 512 → ℝ) (dh : (⟨2, ![8192, 3136]⟩ : Shape).Idx → EReal) (q : Fin 8192) (a : Fin 3200) : EReal :=
  if h : 2048 ≤ a.val ∧ a.val < 2560 then ((rback reps (lat X q) (fun k => dR A W q k * G k) ⟨a.val - 2048, by omega⟩ : ℝ) : EReal) else packed (fun q k => dh (ix2 q k)) q a

omit H in
/-- No write-back of the output's window is cut. -/
theorem xsize4 : ∀ t : Fin cfg0.N, ∀ a, (cfg0.win 4).xsize (cfg0.grid.coords t) a = (cfg0.win 4).size a := by decide +kernel

theorem arr4 (q : Fin 8192) (a : Fin 3200) : ((dats m 0 c).arrAt 4 cfg0.N (ix2 q a) : EReal) = G4 A W X G (m (lc c main_arg4)) q a := by
  have hN : cfg0.N = 8 := N_0
  unfold G4
  by_cases ha : 2048 ≤ a.val ∧ a.val < 2560
  · rw [dif_pos ha]
    obtain ⟨t, ht⟩ : ∃ t : Fin cfg0.N, t.val = q.val / 1024 := ⟨⟨q.val / 1024, by omega⟩, rfl⟩
    obtain ⟨-, -, -, -, ⟨e0, e1⟩, -⟩ := idx_facts t
    have hb := Value.blocks4 m c t (flush0_4 _)
    rw [Value.flushed4] at hb
    have hq : at_ t ⟨q.val % 1024, by omega⟩ = q := Fin.ext (by show 1024 * t.val + q.val % 1024 = q.val; omega)
    refine Eq.trans (Eq.trans (Eq.symm ?_) (congrFun hb (fun ax => ⟨((ix2 (⟨q.val % 1024, by omega⟩ : Fin 1024) (⟨a.val - 2048, by omega⟩ : Fin 512) : S1024x512.Idx) ax).val, lt_of_lt_of_eq (Fin.isLt _) (xsize4 t ax).symm⟩))) ((pt4 H t ⟨q.val % 1024, by omega⟩ ⟨a.val - 2048, by omega⟩).trans (by rw [hq]))
    exact (read2 ((dats m 0 c).arrAt 4 cfg0.N) _ _ (by show q.val = win0_4.index t ax0 * 1024 + 1 * (q.val % 1024); omega) (by show a.val = win0_4.index t ax1 * 512 + 1 * (a.val - 2048); omega)).symm
  · rw [dif_neg ha]
    refine Eq.trans (Value.entry4 m c (ix2 q a) fun t _ hmem => ?_) (V_dh (m := m) (c := c) q a _ rfl)
    obtain ⟨y, -, hy⟩ := Finset.mem_map.mp hmem
    obtain ⟨-, -, -, -, ⟨-, e1⟩, -⟩ := idx_facts t
    have h1 : win0_4.index t ax1 * 512 + 1 * (y 1).val = a.val := congrArg (fun i : S8192x3200.Idx => (i 1).val) hy
    have h2 : (y 1).val < 512 := (y 1).isLt
    omega

end

section

open Cert.QDgradRmsRefIdeal Read Idealize.ShloMosaic

variable (x0 : (⟨S8192x8x192, .f32⟩ : BufTy).Contents (Elt Ideal)) (x1 : (⟨S512x1536, .f32⟩ : BufTy).Contents (Elt Ideal)) (x2 x4 : (⟨S8192x3136, .f32⟩ : BufTy).Contents (Elt Ideal)) (x3 : (⟨S1x512, .f32⟩ : BufTy).Contents (Elt Ideal))
  {A : Fin 8192 → Fin 8 → Fin 192 → ℝ} {W : Fin 512 → Fin 1536 → ℝ} {X : Fin 8192 → Fin 3136 → ℝ} {G : Fin 512 → ℝ}
  (h0 : ∀ q h k, (x0 (ix3 q h k) : EReal) = (A q h k : ℝ)) (h1 : ∀ l k, (x1 (ix2 l k) : EReal) = (W l k : ℝ)) (h2 : ∀ q k, (x2 (ix2 q k) : EReal) = (X q k : ℝ)) (h3 : ∀ k, (x3 (ix2 0 k) : EReal) = (G k : ℝ))

include h2 in
theorem r0 (r : Fin 8192) (k : Fin 512) : (val_main_v0 x2 (ix2 r k) : EReal) = (lat X r k : ℝ) := by
  unfold val_main_v0
  pointwise
  exact h2 r _

include h2 in
theorem r9 (r : Fin 8192) (j : Fin 1) : (val_main_v9 x2 (ix2 r j) : EReal) = (ms (lat X r) + reps : ℝ) := by
  have h := r0 x2 h2 r
  simp only [val_main_v9, val_main_v8, val_main_v7, val_main_v6, val_main_v5, val_main_v4, val_main_v1, val_main_cst_0, val_main_cst_1, val_main_cst_2]
  generalize val_main_v0 x2 = v at h ⊢
  pointwise
  exact den_coe reps (lat X r) (by decide) _ h _ _ ofBits_512 ofBits_reps

include h2 in
theorem r10 (r : Fin 8192) (j : Fin 1) : (val_main_v10 x2 (ix2 r j) : EReal) = (rr reps (lat X r) : ℝ) := by
  have h := r9 x2 h2 r
  unfold val_main_v10
  generalize val_main_v9 x2 = v at h ⊢
  pointwise
  exact rr_coe reps (lat X r) reps_pos _ (h _)

include h2 in
theorem r13 (r : Fin 8192) (j : Fin 1) : (val_main_v13 x2 (ix2 r j) : EReal) = (hr reps (lat X r) : ℝ) := by
  have h9 := r9 x2 h2 r
  have h10 := r10 x2 h2 r
  simp only [val_main_v13, val_main_v12, val_main_v11, val_main_cst_3]
  generalize val_main_v9 x2 = v at h9 ⊢
  generalize val_main_v10 x2 = w at h10 ⊢
  pointwise
  exact hr_coe reps (lat X r) reps_pos _ _ _ ofBits_neg_half (h10 _) (h9 _)

include h0 h1 in
theorem r21 (r : Fin 8192) (l : Fin 512) : (val_main_v21 x0 x1 (ix2 r l) : EReal) = (dR A W r l : ℝ) := by
  simp only [val_main_v21, val_main_v20]
  generalize hg : ((dR A W r l : ℝ) : EReal) = g
  pointwise
  rw [← hg]
  refine (dot_coe _ _ (fun j : Fin 1536 => A r ⟨j.val / 192, by omega⟩ ⟨j.val % 192, by omega⟩) (fun j => W l j) (fun j => h0 r _ _) (fun j => h1 l j)).trans (congrArg Real.toEReal ?_)
  refine (sum_heads 8 192 _).trans (Finset.sum_congr rfl fun h _ => Finset.sum_congr rfl fun k _ => ?_)
  have e : (finProdFinEquiv (h, k) : Fin (8 * 192)).val = k.val + 192 * h.val := rfl
  have d1 : (finProdFinEquiv (h, k) : Fin (8 * 192)).val % 192 = k.val := by omega
  have d2 : (finProdFinEquiv (h, k) : Fin (8 * 192)).val / 192 = h.val := by omega
  simp only [d1, d2]
  exact congrArg (fun j => A r h k * W l j) (Fin.ext (by show k.val + 192 * h.val = 192 * h.val + k.val; omega))

include h0 h1 h2 h3 in
theorem r38 (r : Fin 8192) (k : Fin 512) : (val_main_v38 x0 x1 x2 x3 (ix2 r k) : EReal) = (rback reps (lat X r) (fun k => dR A W r k * G k) k : ℝ) := by
  have h' := r0 x2 h2 r
  have h10 := r10 x2 h2 r
  have h13 := r13 x2 h2 r
  have h21 := r21 x0 x1 h0 h1 r
  simp only [val_main_v38, val_main_v37, val_main_v36, val_main_v35, val_main_v34, val_main_v33, val_main_v32, val_main_v31, val_main_v30, val_main_v29, val_main_v28, val_main_v27, val_main_v26, val_main_v25,
    val_main_v3, val_main_v2, val_main_cst, val_main_cst_5, val_main_cst_6, val_main_cst_7]
  generalize val_main_v0 x2 = v0 at h' ⊢
  generalize val_main_v10 x2 = v10 at h10 ⊢
  generalize val_main_v13 x2 = v13 at h13 ⊢
  generalize val_main_v21 x0 x1 = v21 at h21 ⊢
  pointwise
  rw [Fin.sum_univ_one]
  exact vjp_coe reps (lat X r) (fun k => dR A W r k * G k) (by decide) reps_pos (fun k => (v21 (ix2 r k) : EReal) * (x3 (ix2 0 k) : EReal)) (fun k => v0 (ix2 r k)) (fun k => by rw [h21, h3]; exact (EReal.coe_mul _ _).symm) h' _ _ _ _ (h10 _) (h13 _) ofBits_512 ofBits_two k

include h0 h1 h2 in
theorem r24 (k : Fin 512) : (val_main_v24 x0 x1 x2 (ix2 0 k) : EReal) = ∑ r, fg A W X k r := by
  have h' := fun r => r0 x2 h2 r k
  have h10 := fun r => r10 x2 h2 r
  have h21 := fun r => r21 x0 x1 h0 h1 r k
  simp only [val_main_v24, val_main_v23, val_main_v22, val_main_v15, val_main_v14, val_main_cst_4]
  generalize val_main_v0 x2 = v0 at h' ⊢
  generalize val_main_v10 x2 = v10 at h10 ⊢
  generalize val_main_v21 x0 x1 = v21 at h21 ⊢
  generalize hR : ∑ r, fg A W X k r = R
  pointwise
  rw [← hR]
  refine Finset.sum_congr rfl fun r _ => ?_
  rw [h', h10, h21, ← EReal.coe_mul, ← EReal.coe_mul]
  exact congrArg Real.toEReal (by ring)

include h0 h1 h2 h3 in
theorem r43 (q : Fin 8192) (a : Fin 3200) : (val_main_v43 x0 x1 x2 x3 x4 (ix2 q a) : EReal) = G4 A W X G x4 q a := by
  have h38 := r38 x0 x1 x2 x3 h0 h1 h2 h3 q
  simp only [val_main_v43, val_main_v42, val_main_v41, val_main_v40, val_main_v39, val_main_cst_8]
  generalize val_main_v38 x0 x1 x2 x3 = v at h38 ⊢
  generalize hg : G4 A W X G x4 q a = g
  pointwise
  rw [← hg]
  unfold G4 packed
  by_cases b1 : a.val < 2048
  · rw [dif_pos b1, dif_neg (by omega), dif_pos b1]
  rw [dif_neg b1]
  by_cases b2 : a.val - 2048 < 512
  · rw [dif_pos b2, dif_pos (by omega)]
    exact h38 _
  rw [dif_neg b2]
  have b4 : ¬ (2048 ≤ a.val ∧ a.val < 2560) := by omega
  by_cases b3 : a.val - 2048 - 512 < 576
  · rw [dif_pos b3, dif_neg b4, dif_neg b1, dif_pos (by omega)]
    exact congrArg (fun k => (x4 (ix2 q k) : EReal)) (Fin.ext (by show 512 + (a.val - 2048 - 512) = a.val - 2048; omega))
  · rw [dif_neg b3, dif_neg b4, dif_neg b1, dif_neg (by omega)]

end

section

open Idealize.ShloMosaic Idealize.SL.Sem TcCoe
open Cert.Finite

theorem real_args (x0 : FVec Ideal Cert.QDgradRmsIdeal.S8192x8x192 .f32) (x1 : FVec Ideal Cert.QDgradRmsIdeal.S512x1536 .f32) (x2 x4 : FVec Ideal Cert.QDgradRmsIdeal.S8192x3136 .f32) (x3 : FVec Ideal Cert.QDgradRmsIdeal.S1x512 .f32)
    (h : Cert.Pre_finite_q_dgrad_rms_bwd.fn (F := Ideal) x0 x1 x2 x3 x4 = fun _ => 1#1) :
    (∀ i, ∃ r : ℝ, (x0 i : EReal) = r) ∧ (∀ i, ∃ r : ℝ, (x1 i : EReal) = r) ∧ (∀ i, ∃ r : ℝ, (x2 i : EReal) = r) ∧ (∀ i, ∃ r : ℝ, (x3 i : EReal) = r) := by
  have e := congrFun h ix0
  unfold Cert.Pre_finite_q_dgrad_rms_bwd.fn at e
  obtain ⟨e, h3⟩ := and_one e
  obtain ⟨e, h2⟩ := and_one e
  obtain ⟨e, h1⟩ := and_one e
  obtain ⟨-, h0⟩ := and_one e
  exact ⟨all_real _ _ _ _ _ h0, all_real _ _ _ _ _ h1, all_real _ _ _ _ _ h2, all_real _ _ _ _ _ h3⟩

/-- The precondition names the reals. -/
theorem reals (m : (ℓ : Loc Cert.QDgradRmsIdeal.nD Cert.QDgradRmsIdeal.τ Cert.QDgradRmsIdeal.sig) → Buf (Elt Ideal) ℓ) (hpre : Cert.Pre_QDgradRmsIdeal_finite_q_dgrad_rms_bwd m) (c : Dev Cert.QDgradRmsIdeal.nD) :
    ∃ A W X G, Reals m c A W X G := by
  obtain ⟨h0, h1, h2, h3⟩ := real_args _ _ _ _ _ (hpre c)
  choose r0 h0 using h0
  choose r1 h1 using h1
  choose r2 h2 using h2
  choose r3 h3 using h3
  exact ⟨fun q a b => r0 (ix3 q a b), fun q a => r1 (ix2 q a), fun q a => r2 (ix2 q a), fun a => r3 (ix2 0 a), fun q a b => h0 _, fun q a => h1 _, fun q a => h2 _, fun a => h3 _⟩

/-- Over the extended reals, of finite arguments, the kernel's gradients through the query latent's rms norm and its projection are `jax.vjp`'s. -/
theorem algebraic : Cert.algebraic_QDgradRmsIdeal_QDgradRmsRefIdeal_pre_finite_q_dgrad_rms_bwd := fun m ρ m' ρ' hpre hag =>
  ⟨fun c => (Cert.QDgradRmsIdeal.Gen.dats m 0 c).arrAt 4 Cert.QDgradRmsIdeal.cfg0.N, fun c => (Cert.QDgradRmsIdeal.Gen.dats m 0 c).arrAt 5 Cert.QDgradRmsIdeal.cfg0.N, Cert.QDgradRmsIdeal.Value.run_blocks m ρ,
    (θ_run _ _ _).mono (fun r h c => by
      obtain ⟨A, W, X, G, H⟩ := reals m hpre c
      obtain ⟨a0, a1, a2, a3, a4⟩ := hag c
      obtain ⟨q0, q1, rest⟩ := h c
      refine ⟨?_, ?_, rest⟩
      · rw [q0, Cert.QDgradRmsRefIdeal.Read.val_main_v43_eq, a0, a1, a2, a3, a4]
        refine ext2 _ _ fun i0 i1 => ?_
        exact (r43 _ _ _ _ _ H.1 H.2.1 H.2.2.1 H.2.2.2 i0 i1).trans (arr4 H i0 i1).symm
      · rw [q1, Cert.QDgradRmsRefIdeal.Read.val_main_v24_eq, a0, a1, a2]
        refine ext2 _ _ fun i0 i1 => ?_
        obtain rfl : i0 = 0 := Subsingleton.elim _ _
        exact (r24 _ _ _ H.1 H.2.1 H.2.2.1 i1).trans (arr5 H i1).symm)
      (Cert.QDgradRmsRefIdeal.Value.run m' ρ')⟩

end

end Cert.LatQ

end
-- ==== Proof.LatKv.lean ====
/- Hand-written, untrusted: the gradient of the key-value latent's rms norm, after its products with the two projections. -/
module

public import proofs.«01_k».proof.Proof.LatQ
public import proofs.«01_k».proof.Proof.Gen.Pre_finite_kv_dgrad_rms_bwd
public import proofs.«01_k».proof.Proof.Gen.KvDgradRmsIdeal.Value
public import proofs.«01_k».proof.Proof.Gen.KvDgradRmsRefIdeal.Read

@[expose] public section

set_option maxRecDepth 16384

noncomputable section

namespace Cert.LatKv

open Cert.Common Cert.Norm Cert.Rms
open Cert.LatQ (packed pack_apply)

section

open Cert.KvDgradRmsIdeal Cert.KvDgradRmsIdeal.Gen Idealize.ShloMosaic TcCoe Idealize.SL.Sem

variable (a : Vec Ideal S1024x2048 .bf16) (w : Vec Ideal S512x2048 .bf16) (u : Vec Ideal S1024x512 .f32) (g : Vec Ideal S1x512 .f32)
  (ar : Fin 1024 → Fin 2048 → ℝ) (wr : Fin 512 → Fin 2048 → ℝ) (ur : Fin 1024 → Fin 512 → ℝ) (gr : Fin 512 → ℝ)
  (ha : ∀ r j, (a (ix2 r j) : EReal) = (ar r j : ℝ)) (hw : ∀ l j, (w (ix2 l j) : EReal) = (wr l j : ℝ))
  (hu : ∀ r k, (u (ix2 r k) : EReal) = (ur r k : ℝ)) (hg : ∀ k, (g (ix2 0 k) : EReal) = (gr k : ℝ))

include ha hw in
theorem pay2 (r : Fin 1024) (l : Fin 512) : (k0_pay2 a w (ix2 r l) : EReal) = ((∑ j, ar r j * wr l j : ℝ) : EReal) :=
  Cert.LatQ.pay2 a w ar wr ha hw r l

variable (dr : Fin 1024 → Fin 512 → ℝ) (hd : ∀ r l, (k0_pay2 a w (ix2 r l) : EReal) = (dr r l : ℝ))

include hd hu in
theorem pay5 (k : Fin 512) : (k0_pay5 a w u (ix2 0 k) : EReal) = ∑ r, ((dr r k * ur r k * rr reps (ur r) : ℝ) : EReal) :=
  Cert.LatQ.pay5 a w u ur hu dr hd k

include hd hu hg in
theorem pay6 (r : Fin 1024) (k : Fin 512) : (k0_pay6 a w u g (ix2 r k) : EReal) = ((rback reps (ur r) (fun k => dr r k * gr k) k : ℝ) : EReal) :=
  Cert.LatQ.pay6 a w u g ur gr hu hg dr hd r k

theorem pay1 (v p : Vec Ideal S1x512 .f32) (k : Fin 512) : (k0_pay1 v p (ix2 0 k) : EReal) = (p (ix2 0 k) : EReal) + (v (ix2 0 k) : EReal) :=
  Cert.LatQ.pay1 v p k

variable {c : Dev nD} {i : grid0.Coords} {arg3 : Memref sig .tc .vmem S1024x2048 .bf16} {hw3 : arg3.IsWhole} {arg4 : Memref sig .tc .vmem S512x2048 .bf16} {hw4 : arg4.IsWhole} {arg5 : Memref sig .tc .vmem S1024x512 .f32} {hw5 : arg5.IsWhole} {arg6 : Memref sig .tc .vmem S1x512 .f32} {hw6 : arg6.IsWhole} {arg8 : Memref sig .tc .vmem S1024x512 .bf16} {hw8 : arg8.IsWhole} {arg9 : Memref sig .tc .vmem S1x512 .f32} {hw9 : arg9.IsWhole}

theorem A_4 (hc0 : cond0_0 i) (hc1 : ¬cond0_1 i) : out0_A_4 c i _ hw3 _ hw4 _ hw5 _ hw6 _ hw8 _ hw9 hc0 hc1 a w u g = k0_pay6 a w u g := by
  unfold out0_A_4
  rw [wr (fun _ => cover0_A_4 ..)]
  unfold kernelRun0_A
  dsimp only
  sl_unfold_words
  simp (disch := assumption) only [rd, ld0 S1024x2048, ld0 S512x2048, ld0 S1024x512, ld0 S1x512, c0 S1024x512]
  try rfl

theorem A_5 (hc0 : cond0_0 i) (hc1 : ¬cond0_1 i) : out0_A_5 c i _ hw3 _ hw4 _ hw5 _ hw6 _ hw8 _ hw9 hc0 hc1 a w u g = k0_pay5 a w u := by
  unfold out0_A_5
  rw [wr (fun _ => cover0_A_5 ..)]
  unfold kernelRun0_A
  dsimp only
  sl_unfold_words
  simp (disch := assumption) only [rd, ld0 S1024x2048, ld0 S512x2048, ld0 S1024x512, c0 S1x512]
  try rfl

theorem B_4 (p : Vec Ideal S1x512 .f32) (hc0 : ¬cond0_0 i) (hc1 : cond0_1 i) : out0_B_4 c i _ hw3 _ hw4 _ hw5 _ hw6 _ hw8 _ hw9 hc0 hc1 a w u g p = k0_pay6 a w u g := by
  unfold out0_B_4
  rw [wr (fun _ => cover0_B_4 ..)]
  unfold kernelRun0_B
  dsimp only
  sl_unfold_words
  simp (disch := assumption) only [rd, ld0 S1024x2048, ld0 S512x2048, ld0 S1024x512, ld0 S1x512, c0 S1024x512]
  try rfl

theorem B_5 (p : Vec Ideal S1x512 .f32) (hc0 : ¬cond0_0 i) (hc1 : cond0_1 i) : out0_B_5 c i _ hw3 _ hw4 _ hw5 _ hw6 _ hw8 _ hw9 hc0 hc1 a w u g p = k0_pay1 (k0_pay5 a w u) p := by
  unfold out0_B_5
  rw [wr (fun _ => cover0_B_5 ..)]
  unfold kernelRun0_B
  dsimp only
  sl_unfold_words
  simp (disch := assumption) only [rd, ld0 S1024x2048, ld0 S512x2048, ld0 S1024x512, ld0 S1x512, c0 S1x512]
  try rfl

end

section

open Cert.KvDgradRmsIdeal Cert.KvDgradRmsIdeal.Gen Idealize.ShloMosaic TcCoe Idealize.SL.Sem

/-- A row of pairs of heads side by side. -/
def pairs {α : Type} (f g : Fin 8 → Fin 128 → α) (j : Fin 2048) : α := if h : j.val % 256 < 128 then f ⟨j.val / 256, by omega⟩ ⟨j.val % 256, h⟩ else g ⟨j.val / 256, by omega⟩ ⟨j.val % 256 - 128, by omega⟩

/-- One of the weights by heads. -/
def byHead {α : Type} (w : Fin 512 → Fin 1024 → α) (l : Fin 512) (h : Fin 8) (k : Fin 128) : α := w l ⟨128 * h.val + k.val, by omega⟩

/-- The cotangent of the normed latent. -/
def dR (A B : Fin 8192 → Fin 8 → Fin 128 → ℝ) (W Y : Fin 512 → Fin 1024 → ℝ) (q : Fin 8192) (l : Fin 512) : ℝ := ∑ h : Fin 8, ((∑ k, A q h k * byHead W l h k) + ∑ k, B q h k * byHead Y l h k)

theorem sum_kv (A B : Fin 8192 → Fin 8 → Fin 128 → ℝ) (W Y : Fin 512 → Fin 1024 → ℝ) (q : Fin 8192) (l : Fin 512) :
    ∑ j, pairs (A q) (B q) j * pairs (byHead W l) (byHead Y l) j = dR A B W Y q l := by
  refine (sum_heads 8 256 _).trans (Finset.sum_congr rfl fun h _ => ?_)
  have e : ∀ k : Fin (128 + 128), (finProdFinEquiv (h, (k : Fin 256)) : Fin (8 * 256)).val = k.val + 256 * h.val := fun _ => rfl
  refine (Fin.sum_univ_add (a := 128) (b := 128) _).trans (congrArg₂ (· + ·) (Finset.sum_congr rfl fun k _ => ?_) (Finset.sum_congr rfl fun k _ => ?_))
  · have e' := e (Fin.castAdd 128 k)
    have e'' : (Fin.castAdd 128 k).val = k.val := rfl
    have d1 : (finProdFinEquiv (h, (Fin.castAdd 128 k : Fin 256)) : Fin (8 * 256)).val % 256 = k.val := by omega
    have d2 : (finProdFinEquiv (h, (Fin.castAdd 128 k : Fin 256)) : Fin (8 * 256)).val / 256 = h.val := by omega
    unfold pairs
    rw [dif_pos (by omega), dif_pos (by omega)]
    simp only [d1, d2]
  · have e' := e (Fin.natAdd 128 k)
    have e'' : (Fin.natAdd 128 k).val = 128 + k.val := rfl
    have d1 : (finProdFinEquiv (h, (Fin.natAdd 128 k : Fin 256)) : Fin (8 * 256)).val % 256 - 128 = k.val := by omega
    have d2 : (finProdFinEquiv (h, (Fin.natAdd 128 k : Fin 256)) : Fin (8 * 256)).val / 256 = h.val := by omega
    unfold pairs
    rw [dif_neg (by omega), dif_neg (by omega)]
    simp only [d1, d2]

/-- The arguments are arrays of real numbers. -/
def Reals (m : (ℓ : Loc nD τ sig) → Buf (Elt Ideal) ℓ) (c : Dev nD) (A B : Fin 8192 → Fin 8 → Fin 128 → ℝ) (W Y : Fin 512 → Fin 1024 → ℝ) (X : Fin 8192 → Fin 3136 → ℝ) (G : Fin 512 → ℝ) : Prop :=
  (∀ q h k, @Eq EReal ((m (lc c main_arg0) : S8192x8x128.Idx → EReal) (ix3 q h k)) (A q h k : ℝ))
  ∧ (∀ q h k, @Eq EReal ((m (lc c main_arg1) : S8192x8x128.Idx → EReal) (ix3 q h k)) (B q h k : ℝ))
  ∧ (∀ l k, @Eq EReal ((m (lc c main_arg2) : S512x1024.Idx → EReal) (ix2 l k)) (W l k : ℝ))
  ∧ (∀ l k, @Eq EReal ((m (lc c main_arg3) : S512x1024.Idx → EReal) (ix2 l k)) (Y l k : ℝ))
  ∧ (∀ q k, @Eq EReal ((m (lc c main_arg4) : S8192x3136.Idx → EReal) (ix2 q k)) (X q k : ℝ))
  ∧ (∀ k, @Eq EReal ((m (lc c main_arg5) : S1x512.Idx → EReal) (ix2 0 k)) (G k : ℝ))

theorem idx_facts : ∀ t : Fin grid0.N, (win0_0.index t ax0 = t.val ∧ win0_0.index t ax1 = 0) ∧ (win0_1.index t ax0 = 0 ∧ win0_1.index t ax1 = 0)
    ∧ (win0_2.index t ax0 = t.val ∧ win0_2.index t ax1 = 5) ∧ (win0_3.index t ax0 = 0 ∧ win0_3.index t ax1 = 0)
    ∧ (win0_4.index t ax0 = t.val ∧ win0_4.index t ax1 = 5) ∧ (win0_5.index t ax0 = 0 ∧ win0_5.index t ax1 = 0) := by
  decide +kernel

/-- Row `r` of tile `t`. -/
def at_ (a : Fin cfg0.N) (r : Fin 1024) : Fin 8192 := ⟨1024 * a.val + r.val, by have h : a.val < 8 := a.isLt; omega⟩

variable {m : (ℓ : Loc nD τ sig) → Buf (Elt Ideal) ℓ} {c : Dev nD}

theorem V_a (q : Fin 8192) (j : Fin 2048) (d e : S8192x8x128.Idx → EReal) (hd : d = m (lc c main_arg0)) (he : e = m (lc c main_arg1)) :
    (V m c main_v8 (ix2 q j) : EReal) = pairs (fun h k => d (ix3 q h k)) (fun h k => e (ix3 q h k)) j := by
  have hv : V m c main_v8 = truncf (F := Ideal) .bf16 (shapeCast S8192x2048 (concatenate (α := Ideal .f32) S8192x8x256 2 [⟨S8192x8x128, m (lc c main_arg0)⟩, ⟨S8192x8x128, m (lc c main_arg1)⟩] concatenates_S8192x8x128_S8192x8x128_S8192x8x256_d2) shapeCasts_S8192x8x256_S8192x2048) bitsLt_bf16_f32 := by
    unfold V
    after_results
    try rfl
  rw [hv, ← hd, ← he]
  generalize hg : pairs (fun h k => d (ix3 q h k)) (fun h k => e (ix3 q h k)) j = g
  pointwise
  rw [← hg]
  rfl

theorem pairs_w (x y : FVec Ideal S512x1024 .f32) (l : Fin 512) (j : Fin 2048) :
    (shapeCast S512x2048 (transpose S512x8x256 [1, 0, 2] (truncf (F := Ideal) .bf16 (concatenate (α := Ideal .f32) S8x512x256 2
      [⟨S8x512x128, transpose S8x512x128 [1, 0, 2] (shapeCast (s := S512x1024) S512x8x128 x shapeCasts_S512x1024_S512x8x128) transposes_S512x8x128_S8x512x128_1_0_2⟩,
       ⟨S8x512x128, transpose S8x512x128 [1, 0, 2] (shapeCast (s := S512x1024) S512x8x128 y shapeCasts_S512x1024_S512x8x128) transposes_S512x8x128_S8x512x128_1_0_2⟩] concatenates_S8x512x128_S8x512x128_S8x512x256_d2) bitsLt_bf16_f32)
      transposes_S8x512x256_S512x8x256_1_0_2) shapeCasts_S512x8x256_S512x2048 (ix2 l j) : EReal) = pairs (byHead (fun l k => x (ix2 l k)) l) (byHead (fun l k => y (ix2 l k)) l) j := by
  generalize hg : pairs (byHead (fun l k => x (ix2 l k)) l) (byHead (fun l k => y (ix2 l k)) l) j = g
  pointwise
  rw [← hg]
  unfold pairs byHead
  by_cases h : j.val % 256 < 128
  · refine (dif_pos h).trans (Eq.trans ?_ (dif_pos h).symm)
    exact congrArg (fun k => x (ix2 l k)) (Fin.ext (by show j.val / 256 * 128 + j.val % 256 = 128 * (j.val / 256) + j.val % 256; omega))
  · refine (dif_neg h).trans (Eq.trans ?_ (dif_neg h).symm)
    exact congrArg (fun k => y (ix2 l k)) (Fin.ext (by show j.val / 256 * 128 + (j.val % 256 - 128) = 128 * (j.val / 256) + (j.val % 256 - 128); omega))

theorem V_w (l : Fin 512) (j : Fin 2048) (d e : S512x1024.Idx → EReal) (hd : d = m (lc c main_arg2)) (he : e = m (lc c main_arg3)) :
    (V m c main_v10 (ix2 l j) : EReal) = pairs (byHead (fun l k => d (ix2 l k)) l) (byHead (fun l k => e (ix2 l k)) l) j := by
  rw [← pairs_w, hd, he]
  refine congrFun (?_ : V m c main_v10 = _) (ix2 l j)
  unfold V
  after_results
  try rfl

theorem V_h (q : Fin 8192) (a : Fin 3200) (d : S8192x3136.Idx → EReal) (hd : d = m (lc c main_arg4)) : (V m c main_v17 (ix2 q a) : EReal) = packed (fun q k => d (ix2 q k)) q a := by
  rw [hd, ← pack_apply]
  refine congrFun (?_ : V m c main_v17 = _) (ix2 q a)
  unfold V
  after_results
  try rfl

theorem V_dh (q : Fin 8192) (a : Fin 3200) (d : S8192x3136.Idx → EReal) (hd : d = m (lc c main_arg6)) : (V m c (Pipeline.arrRef spec0 4) (ix2 q a) : EReal) = packed (fun q k => d (ix2 q k)) q a := by
  rw [hd, ← pack_apply]
  have hv : V m c (Pipeline.arrRef spec0 4) = truncf (F := Ideal) .bf16 (concatenate (α := Ideal .f32) S8192x3200 1 [⟨S8192x1024, extractStridedSlice S8192x1024 ![0, 1088] (m (lc c main_arg6)) slices_S8192x3136_S8192x1024_0_1088⟩,
      ⟨S8192x1024, extractStridedSlice S8192x1024 ![0, 2112] (m (lc c main_arg6)) slices_S8192x3136_S8192x1024_0_2112⟩, ⟨S8192x512, extractStridedSlice S8192x512 ![0, 0] (m (lc c main_arg6)) slices_S8192x3136_S8192x512_0_0⟩,
      ⟨S8192x512, extractStridedSlice S8192x512 ![0, 512] (m (lc c main_arg6)) slices_S8192x3136_S8192x512_0_512⟩, ⟨S8192x64, extractStridedSlice S8192x64 ![0, 1024] (m (lc c main_arg6)) slices_S8192x3136_S8192x64_0_1024⟩,
      ⟨S8192x64, broadcastInDim S8192x64 ![] bcast_S_S8192x64 (constant (F := Ideal) S_ .f32 0x00000000#32)⟩] concatenates_S8192x1024_S8192x1024_S8192x512_S8192x512_S8192x64_S8192x64_S8192x3200_d1) bitsLt_bf16_f32 := by
    unfold V
    after_results
    try rfl
  exact congrFun hv (ix2 q a)

theorem V_g : V m c main_arg5 = m (lc c main_arg5) := by
  unfold V
  after_results
  try rfl

variable {A B : Fin 8192 → Fin 8 → Fin 128 → ℝ} {W Y : Fin 512 → Fin 1024 → ℝ} {X : Fin 8192 → Fin 3136 → ℝ} {G : Fin 512 → ℝ} (H : Reals m c A B W Y X G) (t : Fin cfg0.N)

/-- A row of heads of real numbers. -/
theorem pairs_coe (f g : Fin 8 → Fin 128 → EReal) (f' g' : Fin 8 → Fin 128 → ℝ) (h : ∀ a b, f a b = (f' a b : ℝ)) (hg : ∀ a b, g a b = (g' a b : ℝ)) (j : Fin 2048) : pairs f g j = ((pairs f' g' j : ℝ) : EReal) := by
  unfold pairs
  by_cases hj : j.val % 256 < 128
  · rw [dif_pos hj, dif_pos hj, h]
  · rw [dif_neg hj, dif_neg hj, hg]

include H

theorem blk_a (r : Fin 1024) (j : Fin 2048) : (iblk m c 0 t (ix2 r j) : EReal) = ((pairs (A (at_ t r)) (B (at_ t r)) j : ℝ) : EReal) := by
  obtain ⟨⟨e0, e1⟩, -⟩ := idx_facts t
  refine Eq.trans (Eq.trans ?_ (V_a (m := m) (c := c) (at_ t r) j _ _ rfl rfl)) (pairs_coe _ _ _ _ (H.1 (at_ t r)) (H.2.1 (at_ t r)) j)
  exact read2 (V m c main_v8) _ _ (by show win0_0.index t ax0 * 1024 + 1 * r.val = 1024 * t.val + r.val; omega) (by show win0_0.index t ax1 * 2048 + 1 * j.val = j.val; omega)

theorem blk_w (l : Fin 512) (j : Fin 2048) : (iblk m c 1 t (ix2 l j) : EReal) = ((pairs (byHead W l) (byHead Y l) j : ℝ) : EReal) := by
  obtain ⟨-, ⟨e0, e1⟩, -⟩ := idx_facts t
  refine Eq.trans (Eq.trans ?_ (V_w (m := m) (c := c) l j _ _ rfl rfl)) (pairs_coe _ _ (byHead W l) (byHead Y l) (fun _ _ => H.2.2.1 l _) (fun _ _ => H.2.2.2.1 l _) j)
  exact read2 (V m c main_v10) _ _ (by show win0_1.index t ax0 * 512 + 1 * l.val = l.val; omega) (by show win0_1.index t ax1 * 2048 + 1 * j.val = j.val; omega)

theorem blk_u (r : Fin 1024) (k : Fin 512) : (X0_2 m c t (ix2 r k) : EReal) = ((X (at_ t r) ⟨512 + k.val, by omega⟩ : ℝ) : EReal) := by
  obtain ⟨-, -, ⟨e0, e1⟩, -⟩ := idx_facts t
  refine Eq.trans (Eq.trans ?_ (V_h (m := m) (c := c) (at_ t r) ⟨2560 + k.val, by omega⟩ _ rfl)) ?_
  · unfold X0_2 Pipeline.Window.fill
    rw [dif_pos (moved0_2 _ _)]
    exact read2 (V m c main_v17) _ _ (by show win0_2.index t ax0 * 1024 + 1 * r.val = 1024 * t.val + r.val; omega) (by show win0_2.index t ax1 * 512 + 1 * k.val = 2560 + k.val; omega)
  · unfold packed
    have h1 : ¬ 2560 + k.val < 2048 := by omega
    have h2 : 2560 + k.val < 3136 := by omega
    rw [dif_neg h1, dif_pos h2]
    exact (congrArg (fun k => ((m (lc c main_arg4) : S8192x3136.Idx → EReal) (ix2 (at_ t r) k) : EReal)) (Fin.ext (by show 2560 + k.val - 2048 = 512 + k.val; omega))).trans (H.2.2.2.2.1 (at_ t r) _)

theorem blk_g (k : Fin 512) : (iblk m c 3 t (ix2 0 k) : EReal) = ((G k : ℝ) : EReal) := by
  obtain ⟨-, -, -, ⟨e0, e1⟩, -⟩ := idx_facts t
  refine Eq.trans (Eq.trans ?_ (congrFun (V_g (m := m) (c := c)) (ix2 0 k))) (H.2.2.2.2.2 k)
  exact read2 (V m c main_arg5) _ _ (by show win0_3.index t ax0 * 1 + 1 * 0 = 0; omega) (by show win0_3.index t ax1 * 512 + 1 * k.val = k.val; omega)

theorem dot (r : Fin 1024) (l : Fin 512) : (k0_pay2 (iblk m c 0 t) (iblk m c 1 t) (ix2 r l) : EReal) = ((dR A B W Y (at_ t r) l : ℝ) : EReal) :=
  (pay2 (iblk m c 0 t) (iblk m c 1 t) (fun r => pairs (A (at_ t r)) (B (at_ t r))) (fun l => pairs (byHead W l) (byHead Y l)) (blk_a H t) (blk_w H t) r l).trans
    (congrArg Real.toEReal (sum_kv A B W Y (at_ t r) l))

omit H in
/-- The latent's columns of a row. -/
def lat (X : Fin 8192 → Fin 3136 → ℝ) (q : Fin 8192) (k : Fin 512) : ℝ := X q ⟨512 + k.val, by omega⟩

theorem pt4 (r : Fin 1024) (k : Fin 512) : ((outsAt0 m c t.val t.isLt).1 (ix2 r k) : EReal) = ((rback reps (lat X (at_ t r)) (fun k => dR A B W Y (at_ t r) k * G k) k : ℝ) : EReal) := by
  have hv := pay6 _ _ _ _ (fun r => lat X (at_ t r)) G (blk_u H t) (blk_g H t) (fun r => dR A B W Y (at_ t r)) (dot H t) r k
  have hN : t.val < 8 := t.isLt
  by_cases h0 : t.val = 0
  · refine Eq.trans (congrFun (congrArg (fun p => p.1) (outsAt0_A m c t (by omega) (by omega))) (ix2 r k)) ?_
    dsimp only
    exact (congrFun (A_4 _ _ _ _ _ _) (ix2 r k)).trans hv
  · refine Eq.trans (congrFun (congrArg (fun p => p.1) (outsAt0_B m c t (by omega) (by omega))) (ix2 r k)) ?_
    dsimp only
    exact (congrFun (B_4 _ _ _ _ _ _ _) (ix2 r k)).trans hv

omit H in
/-- The rows' parts of the scale's gradient. -/
def fg (A B : Fin 8192 → Fin 8 → Fin 128 → ℝ) (W Y : Fin 512 → Fin 1024 → ℝ) (X : Fin 8192 → Fin 3136 → ℝ) (k : Fin 512) (r : Fin 8192) : EReal := ((dR A B W Y r k * lat X r k * rr reps (lat X r) : ℝ) : EReal)

theorem tile_g (k : Fin 512) : (k0_pay5 (iblk m c 0 t) (iblk m c 1 t) (X0_2 m c t) (ix2 0 k) : EReal) = ∑ r : Fin 1024, ext0 (fg A B W Y X k) (1024 * t.val + r.val) :=
  (pay5 _ _ _ (fun r => lat X (at_ t r)) (blk_u H t) (fun r => dR A B W Y (at_ t r)) (dot H t) k).trans (Finset.sum_congr rfl fun r _ => (ext0_of (fg A B W Y X k) (1024 * t.val + r.val) (at_ t r).isLt).symm)

omit t in
theorem acc5 (k : Fin 512) : ∀ t (h : t < cfg0.N), ((outsAt0 m c t h).2 (ix2 0 k) : EReal) = ∑ j ∈ Finset.range (t + 1), ∑ r : Fin 1024, ext0 (fg A B W Y X k) (1024 * j + r.val) := by
  have hN : cfg0.N = 8 := N_0
  refine fold (fun t h => ((outsAt0 m c t h).2 (ix2 0 k) : EReal)) _ (fun h => ?_) (fun t h => ?_)
  · refine Eq.trans (congrFun (congrArg (fun p => p.2) (outsAt0_A m c ⟨0, h⟩ (by show 0 % 8 = 0; decide) (by show ¬ 1 ≤ 0; decide))) (ix2 0 k)) ?_
    dsimp only
    refine Eq.trans (congrFun (A_5 _ _ _ _ _ _) (ix2 0 k)) ?_
    exact tile_g H ⟨0, h⟩ k
  · refine Eq.trans (congrFun (congrArg (fun p => p.2) (outsAt0_B m c ⟨t + 1, h⟩ (by show ¬ (t + 1) % 8 = 0; omega) (by show 1 ≤ t + 1; omega))) (ix2 0 k)) ?_
    dsimp only
    refine Eq.trans (congrFun (B_5 _ _ _ _ _ _ _) (ix2 0 k)) ?_
    refine (pay1 _ _ k).trans ?_
    exact congrArg₂ (fun x y : EReal => x + y) rfl (tile_g H ⟨t + 1, h⟩ k)

theorem arr5 (k : Fin 512) : ((dats m 0 c).arrAt 5 cfg0.N (ix2 0 k) : EReal) = ∑ r, fg A B W Y X k r := by
  obtain ⟨t, ht⟩ : ∃ t : Fin cfg0.N, t.val = 7 := ⟨⟨7, by decide⟩, rfl⟩
  obtain ⟨-, -, -, -, -, ⟨e0, e1⟩⟩ := idx_facts t
  have hb := (dats m 0 c).read_blk_arrAt_eq_flushed 5 (fun a a' hf hf' hne => absurd (Fin.ext (by have ha : a.val < 8 := a.isLt; have ha' : a'.val < 8 := a'.isLt; have := (flush0_5 a).mp hf; have := (flush0_5 a').mp hf'; omega)) hne) cfg0.N t t.isLt ((flush0_5 t).mpr (by omega))
  rw [Value.flushed5] at hb
  refine Eq.trans (Eq.trans (Eq.symm ?_) (congrFun hb (ix2 0 k))) ((acc5 H k t.val t.isLt).trans ?_)
  · exact (read2 ((dats m 0 c).arrAt 5 cfg0.N) _ _ (by show 0 = win0_5.index t ax0 * 1 + 1 * 0; omega) (by show k.val = win0_5.index t ax1 * 512 + 1 * k.val; omega)).symm
  · rw [ht]
    exact sum_blocks 8 1024 (by decide) (fg A B W Y X k)

omit H in
/-- The packed rows with the key-value latent's gradient filled in. -/
def G4 (A B : Fin 8192 → Fin 8 → Fin 128 → ℝ) (W Y : Fin 512 → Fin 1024 → ℝ) (X : Fin 8192 → Fin 3136 → ℝ) (G : Fin 512 → ℝ) (dh : (⟨2, ![8192, 3136]⟩ : Shape).Idx → EReal) (q : Fin 8192) (a : Fin 3200) : EReal :=
  if h : 2560 ≤ a.val ∧ a.val < 3072 then ((rback reps (lat X q) (fun k => dR A B W Y q k * G k) ⟨a.val - 2560, by omega⟩ : ℝ) : EReal) else packed (fun q k => dh (ix2 q k)) q a

omit H in
/-- No write-back of the output's window is cut. -/
theorem xsize4 : ∀ t : Fin cfg0.N, ∀ a, (cfg0.win 4).xsize (cfg0.grid.coords t) a = (cfg0.win 4).size a := by decide +kernel

theorem arr4 (q : Fin 8192) (a : Fin 3200) : ((dats m 0 c).arrAt 4 cfg0.N (ix2 q a) : EReal) = G4 A B W Y X G (m (lc c main_arg6)) q a := by
  have hN : cfg0.N = 8 := N_0
  unfold G4
  by_cases ha : 2560 ≤ a.val ∧ a.val < 3072
  · rw [dif_pos ha]
    obtain ⟨t, ht⟩ : ∃ t : Fin cfg0.N, t.val = q.val / 1024 := ⟨⟨q.val / 1024, by omega⟩, rfl⟩
    obtain ⟨-, -, -, -, ⟨e0, e1⟩, -⟩ := idx_facts t
    have hb := Value.blocks4 m c t (flush0_4 _)
    rw [Value.flushed4] at hb
    have hq : at_ t ⟨q.val % 1024, by omega⟩ = q := Fin.ext (by show 1024 * t.val + q.val % 1024 = q.val; omega)
    refine Eq.trans (Eq.trans (Eq.symm ?_) (congrFun hb (fun ax => ⟨((ix2 (⟨q.val % 1024, by omega⟩ : Fin 1024) (⟨a.val - 2560, by omega⟩ : Fin 512) : S1024x512.Idx) ax).val, lt_of_lt_of_eq (Fin.isLt _) (xsize4 t ax).symm⟩))) ((pt4 H t ⟨q.val % 1024, by omega⟩ ⟨a.val - 2560, by omega⟩).trans (by rw [hq]))
    exact (read2 ((dats m 0 c).arrAt 4 cfg0.N) _ _ (by show q.val = win0_4.index t ax0 * 1024 + 1 * (q.val % 1024); omega) (by show a.val = win0_4.index t ax1 * 512 + 1 * (a.val - 2560); omega)).symm
  · rw [dif_neg ha]
    refine Eq.trans (Value.entry4 m c (ix2 q a) fun t _ hmem => ?_) (V_dh (m := m) (c := c) q a _ rfl)
    obtain ⟨y, -, hy⟩ := Finset.mem_map.mp hmem
    obtain ⟨-, -, -, -, ⟨-, e1⟩, -⟩ := idx_facts t
    have h1 : win0_4.index t ax1 * 512 + 1 * (y 1).val = a.val := congrArg (fun i : S8192x3200.Idx => (i 1).val) hy
    have h2 : (y 1).val < 512 := (y 1).isLt
    omega

end

section

open Cert.KvDgradRmsRefIdeal Read Idealize.ShloMosaic

variable (x0 x1 : (⟨S8192x8x128, .f32⟩ : BufTy).Contents (Elt Ideal)) (x2 x3 : (⟨S512x1024, .f32⟩ : BufTy).Contents (Elt Ideal)) (x4 x6 : (⟨S8192x3136, .f32⟩ : BufTy).Contents (Elt Ideal)) (x5 : (⟨S1x512, .f32⟩ : BufTy).Contents (Elt Ideal))
  {A B : Fin 8192 → Fin 8 → Fin 128 → ℝ} {W Y : Fin 512 → Fin 1024 → ℝ} {X : Fin 8192 → Fin 3136 → ℝ} {G : Fin 512 → ℝ}
  (h0 : ∀ q h k, (x0 (ix3 q h k) : EReal) = (A q h k : ℝ)) (h1 : ∀ q h k, (x1 (ix3 q h k) : EReal) = (B q h k : ℝ)) (h2 : ∀ l k, (x2 (ix2 l k) : EReal) = (W l k : ℝ)) (h3 : ∀ l k, (x3 (ix2 l k) : EReal) = (Y l k : ℝ))
  (h4 : ∀ q k, (x4 (ix2 q k) : EReal) = (X q k : ℝ)) (h5 : ∀ k, (x5 (ix2 0 k) : EReal) = (G k : ℝ))

include h4 in
theorem r0 (r : Fin 8192) (k : Fin 512) : (val_main_v0 x4 (ix2 r k) : EReal) = (lat X r k : ℝ) := by
  unfold val_main_v0
  pointwise
  exact h4 r _

include h4 in
theorem r9 (r : Fin 8192) (j : Fin 1) : (val_main_v9 x4 (ix2 r j) : EReal) = (ms (lat X r) + reps : ℝ) := by
  have h := r0 x4 h4 r
  simp only [val_main_v9, val_main_v8, val_main_v7, val_main_v6, val_main_v5, val_main_v4, val_main_v1, val_main_cst_0, val_main_cst_1, val_main_cst_2]
  generalize val_main_v0 x4 = v at h ⊢
  pointwise
  exact den_coe reps (lat X r) (by decide) _ h _ _ ofBits_512 ofBits_reps

include h4 in
theorem r10 (r : Fin 8192) (j : Fin 1) : (val_main_v10 x4 (ix2 r j) : EReal) = (rr reps (lat X r) : ℝ) := by
  have h := r9 x4 h4 r
  unfold val_main_v10
  generalize val_main_v9 x4 = v at h ⊢
  pointwise
  exact rr_coe reps (lat X r) reps_pos _ (h _)

include h4 in
theorem r13 (r : Fin 8192) (j : Fin 1) : (val_main_v13 x4 (ix2 r j) : EReal) = (hr reps (lat X r) : ℝ) := by
  have h9 := r9 x4 h4 r
  have h10 := r10 x4 h4 r
  simp only [val_main_v13, val_main_v12, val_main_v11, val_main_cst_3]
  generalize val_main_v9 x4 = v at h9 ⊢
  generalize val_main_v10 x4 = w at h10 ⊢
  pointwise
  exact hr_coe reps (lat X r) reps_pos _ _ _ ofBits_neg_half (h10 _) (h9 _)

/-- A product with one of the weights, by heads. -/
theorem dot_head (x : (⟨S8192x8x128, .f32⟩ : BufTy).Contents (Elt Ideal)) (w : (⟨S512x1024, .f32⟩ : BufTy).Contents (Elt Ideal)) (A : Fin 8192 → Fin 8 → Fin 128 → ℝ) (W : Fin 512 → Fin 1024 → ℝ) (hx : ∀ q h k, (x (ix3 q h k) : EReal) = (A q h k : ℝ)) (hw : ∀ l k, (w (ix2 l k) : EReal) = (W l k : ℝ)) (r : Fin 8192) (l : Fin 512) :
    (val_main_v23 x w (ix2 r l) : EReal) = ((∑ h, ∑ k, A r h k * byHead W l h k : ℝ) : EReal) := by
  simp only [val_main_v23, val_main_v22]
  generalize hg : ((∑ h, ∑ k, A r h k * byHead W l h k : ℝ) : EReal) = g
  pointwise
  rw [← hg]
  refine (dot_coe _ _ (fun j : Fin 1024 => A r ⟨j.val / 128, by omega⟩ ⟨j.val % 128, by omega⟩) (fun j => W l j) (fun j => hx r _ _) (fun j => hw l j)).trans (congrArg Real.toEReal ?_)
  refine (sum_heads 8 128 _).trans (Finset.sum_congr rfl fun h _ => Finset.sum_congr rfl fun k _ => ?_)
  have e : (finProdFinEquiv (h, k) : Fin (8 * 128)).val = k.val + 128 * h.val := rfl
  have d1 : (finProdFinEquiv (h, k) : Fin (8 * 128)).val % 128 = k.val := by omega
  have d2 : (finProdFinEquiv (h, k) : Fin (8 * 128)).val / 128 = h.val := by omega
  simp only [d1, d2]
  exact congrArg (fun j => A r h k * W l j) (Fin.ext (by show k.val + 128 * h.val = 128 * h.val + k.val; omega))

include h0 h1 h2 h3 in
theorem r26 (r : Fin 8192) (l : Fin 512) : (val_main_v26 x0 x1 x2 x3 (ix2 r l) : EReal) = (dR A B W Y r l : ℝ) := by
  have hv := dot_head x1 x3 B Y h1 h3 r l
  have hk : (val_main_v25 x0 x2 (ix2 r l) : EReal) = _ := dot_head x0 x2 A W h0 h2 r l
  unfold val_main_v26
  generalize val_main_v23 x1 x3 = u at hv ⊢
  generalize val_main_v25 x0 x2 = w at hk ⊢
  refine Eq.trans (?_ : _ = (u (ix2 r l) : EReal) + (w (ix2 r l) : EReal)) ?_
  · pointwise
  rw [hv, hk, ← EReal.coe_add]
  unfold dR
  rw [Finset.sum_add_distrib, add_comm]

include h0 h1 h2 h3 h4 h5 in
theorem r43 (r : Fin 8192) (k : Fin 512) : (val_main_v43 x0 x1 x2 x3 x4 x5 (ix2 r k) : EReal) = (rback reps (lat X r) (fun k => dR A B W Y r k * G k) k : ℝ) := by
  have h' := r0 x4 h4 r
  have h10 := r10 x4 h4 r
  have h13 := r13 x4 h4 r
  have h26 := r26 x0 x1 x2 x3 h0 h1 h2 h3 r
  simp only [val_main_v43, val_main_v42, val_main_v41, val_main_v40, val_main_v39, val_main_v38, val_main_v37, val_main_v36, val_main_v35, val_main_v34, val_main_v33, val_main_v32, val_main_v31, val_main_v30,
    val_main_v3, val_main_v2, val_main_cst, val_main_cst_5, val_main_cst_6, val_main_cst_7]
  generalize val_main_v0 x4 = v0 at h' ⊢
  generalize val_main_v10 x4 = v10 at h10 ⊢
  generalize val_main_v13 x4 = v13 at h13 ⊢
  generalize val_main_v26 x0 x1 x2 x3 = v26 at h26 ⊢
  pointwise
  rw [Fin.sum_univ_one]
  exact vjp_coe reps (lat X r) (fun k => dR A B W Y r k * G k) (by decide) reps_pos (fun k => (v26 (ix2 r k) : EReal) * (x5 (ix2 0 k) : EReal)) (fun k => v0 (ix2 r k)) (fun k => by rw [h26, h5]; exact (EReal.coe_mul _ _).symm) h' _ _ _ _ (h10 _) (h13 _) ofBits_512 ofBits_two k

include h0 h1 h2 h3 h4 in
theorem r29 (k : Fin 512) : (val_main_v29 x0 x1 x2 x3 x4 (ix2 0 k) : EReal) = ∑ r, fg A B W Y X k r := by
  have h' := fun r => r0 x4 h4 r k
  have h10 := fun r => r10 x4 h4 r
  have h26 := fun r => r26 x0 x1 x2 x3 h0 h1 h2 h3 r k
  simp only [val_main_v29, val_main_v28, val_main_v27, val_main_v15, val_main_v14, val_main_cst_4]
  generalize val_main_v0 x4 = v0 at h' ⊢
  generalize val_main_v10 x4 = v10 at h10 ⊢
  generalize val_main_v26 x0 x1 x2 x3 = v26 at h26 ⊢
  generalize hR : ∑ r, fg A B W Y X k r = R
  pointwise
  rw [← hR]
  refine Finset.sum_congr rfl fun r _ => ?_
  rw [h', h10, h26, ← EReal.coe_mul, ← EReal.coe_mul]
  exact congrArg Real.toEReal (by ring)

include h0 h1 h2 h3 h4 h5 in
theorem r49 (q : Fin 8192) (a : Fin 3200) : (val_main_v49 x0 x1 x2 x3 x4 x5 x6 (ix2 q a) : EReal) = G4 A B W Y X G x6 q a := by
  have h43 := r43 x0 x1 x2 x3 x4 x5 h0 h1 h2 h3 h4 h5 q
  simp only [val_main_v49, val_main_v48, val_main_v47, val_main_v46, val_main_v45, val_main_v44, val_main_cst_8]
  generalize val_main_v43 x0 x1 x2 x3 x4 x5 = v at h43 ⊢
  generalize hg : G4 A B W Y X G x6 q a = g
  pointwise
  rw [← hg]
  unfold G4 packed
  by_cases b1 : a.val < 2048
  · rw [dif_pos b1, dif_neg (by omega), dif_pos b1]
  rw [dif_neg b1]
  by_cases b2 : a.val - 2048 < 512
  · rw [dif_pos b2, dif_neg (show ¬ (2560 ≤ a.val ∧ a.val < 3072) by omega), dif_neg b1, dif_pos (by omega)]
  rw [dif_neg b2]
  by_cases b3 : a.val - 2048 - 512 < 512
  · rw [dif_pos b3, dif_pos (by omega)]
    exact h43 _
  rw [dif_neg b3]
  have b5 : ¬ (2560 ≤ a.val ∧ a.val < 3072) := by omega
  by_cases b4 : a.val - 2048 - 512 - 512 < 64
  · rw [dif_pos b4, dif_neg b5, dif_neg b1, dif_pos (by omega)]
    exact congrArg (fun k => (x6 (ix2 q k) : EReal)) (Fin.ext (by show 1024 + (a.val - 2048 - 512 - 512) = a.val - 2048; omega))
  · rw [dif_neg b4, dif_neg b5, dif_neg b1, dif_neg (by omega)]

end

section

open Idealize.ShloMosaic Idealize.SL.Sem TcCoe
open Cert.Finite

theorem real_args (x0 x1 : FVec Ideal Cert.KvDgradRmsIdeal.S8192x8x128 .f32) (x2 x3 : FVec Ideal Cert.KvDgradRmsIdeal.S512x1024 .f32) (x4 x6 : FVec Ideal Cert.KvDgradRmsIdeal.S8192x3136 .f32) (x5 : FVec Ideal Cert.KvDgradRmsIdeal.S1x512 .f32)
    (h : Cert.Pre_finite_kv_dgrad_rms_bwd.fn (F := Ideal) x0 x1 x2 x3 x4 x5 x6 = fun _ => 1#1) :
    (∀ i, ∃ r : ℝ, (x0 i : EReal) = r) ∧ (∀ i, ∃ r : ℝ, (x1 i : EReal) = r) ∧ (∀ i, ∃ r : ℝ, (x2 i : EReal) = r) ∧ (∀ i, ∃ r : ℝ, (x3 i : EReal) = r) ∧ (∀ i, ∃ r : ℝ, (x4 i : EReal) = r) ∧ (∀ i, ∃ r : ℝ, (x5 i : EReal) = r) := by
  have e := congrFun h ix0
  unfold Cert.Pre_finite_kv_dgrad_rms_bwd.fn at e
  obtain ⟨e, h5⟩ := and_one e
  obtain ⟨e, h4⟩ := and_one e
  obtain ⟨e, h3⟩ := and_one e
  obtain ⟨e, h2⟩ := and_one e
  obtain ⟨e, h1⟩ := and_one e
  obtain ⟨-, h0⟩ := and_one e
  exact ⟨all_real _ _ _ _ _ h0, all_real _ _ _ _ _ h1, all_real _ _ _ _ _ h2, all_real _ _ _ _ _ h3, all_real _ _ _ _ _ h4, all_real _ _ _ _ _ h5⟩

/-- The precondition names the reals. -/
theorem reals (m : (ℓ : Loc Cert.KvDgradRmsIdeal.nD Cert.KvDgradRmsIdeal.τ Cert.KvDgradRmsIdeal.sig) → Buf (Elt Ideal) ℓ) (hpre : Cert.Pre_KvDgradRmsIdeal_finite_kv_dgrad_rms_bwd m) (c : Dev Cert.KvDgradRmsIdeal.nD) :
    ∃ A B W Y X G, Reals m c A B W Y X G := by
  obtain ⟨h0, h1, h2, h3, h4, h5⟩ := real_args _ _ _ _ _ _ _ (hpre c)
  choose r0 h0 using h0
  choose r1 h1 using h1
  choose r2 h2 using h2
  choose r3 h3 using h3
  choose r4 h4 using h4
  choose r5 h5 using h5
  exact ⟨fun q a b => r0 (ix3 q a b), fun q a b => r1 (ix3 q a b), fun q a => r2 (ix2 q a), fun q a => r3 (ix2 q a), fun q a => r4 (ix2 q a), fun a => r5 (ix2 0 a), fun q a b => h0 _, fun q a b => h1 _, fun q a => h2 _, fun q a => h3 _, fun q a => h4 _, fun a => h5 _⟩

/-- Over the extended reals, of finite arguments, the kernel's gradients through the key-value latent's rms norm and its two projections are `jax.vjp`'s. -/
theorem algebraic : Cert.algebraic_KvDgradRmsIdeal_KvDgradRmsRefIdeal_pre_finite_kv_dgrad_rms_bwd := fun m ρ m' ρ' hpre hag =>
  ⟨fun c => (Cert.KvDgradRmsIdeal.Gen.dats m 0 c).arrAt 4 Cert.KvDgradRmsIdeal.cfg0.N, fun c => (Cert.KvDgradRmsIdeal.Gen.dats m 0 c).arrAt 5 Cert.KvDgradRmsIdeal.cfg0.N, Cert.KvDgradRmsIdeal.Value.run_blocks m ρ,
    (θ_run _ _ _).mono (fun r h c => by
      obtain ⟨A, B, W, Y, X, G, H⟩ := reals m hpre c
      obtain ⟨a0, a1, a2, a3, a4, a5, a6⟩ := hag c
      obtain ⟨q0, q1, rest⟩ := h c
      refine ⟨?_, ?_, rest⟩
      · rw [q0, Cert.KvDgradRmsRefIdeal.Read.val_main_v49_eq, a0, a1, a2, a3, a4, a5, a6]
        refine ext2 _ _ fun i0 i1 => ?_
        exact (r49 _ _ _ _ _ _ _ H.1 H.2.1 H.2.2.1 H.2.2.2.1 H.2.2.2.2.1 H.2.2.2.2.2 i0 i1).trans (arr4 H i0 i1).symm
      · rw [q1, Cert.KvDgradRmsRefIdeal.Read.val_main_v29_eq, a0, a1, a2, a3, a4]
        refine ext2 _ _ fun i0 i1 => ?_
        obtain rfl : i0 = 0 := Subsingleton.elim _ _
        exact (r29 _ _ _ _ _ H.1 H.2.1 H.2.2.1 H.2.2.2.1 H.2.2.2.2.1 i1).trans (arr5 H i1).symm)
      (Cert.KvDgradRmsRefIdeal.Value.run m' ρ')⟩

end

end Cert.LatKv

end
-- ==== Proof.LnIn.lean ====
/- Hand-written, untrusted: the gradient of the first layer norm, after its product with the packed projection. -/
module

public import proofs.«01_k».proof.Proof.LnTail
public import proofs.«01_k».proof.Proof.LatQ
public import proofs.«01_k».proof.Proof.Gen.Pre_finite_in_dgrad_ln_in_bwd
public import proofs.«01_k».proof.Proof.Gen.InLnInBwdIdeal.Value
public import proofs.«01_k».proof.Proof.Gen.InLnInBwdRefIdeal.Read

@[expose] public section

set_option maxRecDepth 16384

noncomputable section

namespace Cert.LnIn

open Cert.Common Cert.Norm Cert.LnTail

section

open Cert.InLnInBwdIdeal Cert.InLnInBwdIdeal.Gen Idealize.ShloMosaic TcCoe Idealize.SL.Sem

variable (a : Vec Ideal S512x640 .bf16) (b : Vec Ideal S2048x640 .bf16) (z : Vec Ideal S512x2048 .f32) (x : Vec Ideal S512x2048 .f32) (g : Vec Ideal S1x2048 .f32) (p : Vec Ideal S512x2048 .f32) (u v : Vec Ideal S1x2048 .f32)

theorem pay1 (r : Fin 512) (k : Fin 2048) : (k0_pay1 (F := Ideal) (ix2 r k) : EReal) = 0 := by
  unfold k0_pay1
  pointwise
  try simp only [shapeCast_self]
  try exact Ideal.ofBits_zero _

theorem pay2 (r : Fin 512) (k : Fin 2048) : (k0_pay2 p a b (ix2 r k) : EReal) = (p (ix2 r k) : EReal) + ∑ j, (a (ix2 r j) : EReal) * (b (ix2 k j) : EReal) := by
  unfold k0_pay2
  pointwise
  try simp only [shapeCast_self]

variable {c : Dev nD} {i : grid0.Coords} {arg3 : Memref sig .tc .vmem S512x640 .bf16} {hw3 : arg3.IsWhole} {arg4 : Memref sig .tc .vmem S2048x640 .bf16} {hw4 : arg4.IsWhole} {arg5 : Memref sig .tc .vmem S512x2048 .f32} {hw5 : arg5.IsWhole} {arg6 : Memref sig .tc .vmem S512x2048 .f32} {hw6 : arg6.IsWhole} {arg7 : Memref sig .tc .vmem S1x2048 .f32} {hw7 : arg7.IsWhole} {arg8 : Memref sig .tc .vmem S512x2048 .f32} {hw8 : arg8.IsWhole} {arg9 : Memref sig .tc .vmem S1x2048 .f32} {hw9 : arg9.IsWhole} {arg10 : Memref sig .tc .vmem S1x2048 .f32} {hw10 : arg10.IsWhole} {arg11 : Memref sig .tc .vmem S512x2048 .f32} {hw11 : arg11.IsWhole}

theorem A_s (hc0 : cond0_0 i) (hc1 : ¬cond0_1 i) : sout0_A_0 c i _ hw3 _ hw4 _ hw5 _ hw6 _ hw7 _ hw8 _ hw9 _ hw10 _ hw11 hc0 hc1 a b z x g = k0_pay2 k0_pay1 a b := by
  unfold sout0_A_0
  rw [wr (fun _ => scover0_A_0 ..)]
  unfold kernelRun0_A
  dsimp only
  sl_unfold_words
  simp (disch := assumption) only [rd, ld0 S512x640, ld0 S2048x640, c0 S512x2048, View.readCov_cons_toLoadRect]
  try rfl

theorem B_s (hc0 : ¬cond0_0 i) (hc1 : ¬cond0_1 i) : sout0_B_0 c i _ hw3 _ hw4 _ hw5 _ hw6 _ hw7 _ hw8 _ hw9 _ hw10 _ hw11 hc0 hc1 a b z x g p = k0_pay2 p a b := by
  unfold sout0_B_0
  rw [wr (fun _ => scover0_B_0 ..)]
  unfold kernelRun0_B
  dsimp only
  sl_unfold_words
  simp (disch := assumption) only [rd, ld0 S512x640, ld0 S2048x640, ld0 S512x2048, c0 S512x2048]
  try rfl

theorem C_s (hc0 : ¬cond0_0 i) (hc1 : cond0_1 i) (hc2 : cond0_2 i) (hc3 : ¬cond0_3 i) (hc4 : cond0_4 i) (hc5 : ¬cond0_5 i) : sout0_C_0 c i _ hw3 _ hw4 _ hw5 _ hw6 _ hw7 _ hw8 _ hw9 _ hw10 _ hw11 hc0 hc1 hc2 hc3 hc4 hc5 a b z x g p = k0_pay2 p a b := by
  unfold sout0_C_0
  rw [wr (fun _ => scover0_C_0 ..)]
  unfold kernelRun0_C
  dsimp only
  sl_unfold_words
  simp (disch := assumption) only [rd, ld0 S512x640, ld0 S2048x640, ld0 S512x2048, c0 S512x2048]
  try rfl

theorem D_s (hc0 : ¬cond0_0 i) (hc1 : cond0_1 i) (hc2 : ¬cond0_2 i) (hc3 : cond0_3 i) (hc4 : ¬cond0_4 i) (hc5 : cond0_5 i) : sout0_D_0 c i _ hw3 _ hw4 _ hw5 _ hw6 _ hw7 _ hw8 _ hw9 _ hw10 _ hw11 hc0 hc1 hc2 hc3 hc4 hc5 a b z x g u v p = k0_pay2 p a b := by
  unfold sout0_D_0
  rw [wr (fun _ => scover0_D_0 ..)]
  unfold kernelRun0_D
  dsimp only
  sl_unfold_words
  simp (disch := assumption) only [rd, ld0 S512x640, ld0 S2048x640, ld0 S512x2048, c0 S512x2048]
  try rfl

theorem C_6 (hc0 : ¬cond0_0 i) (hc1 : cond0_1 i) (hc2 : cond0_2 i) (hc3 : ¬cond0_3 i) (hc4 : cond0_4 i) (hc5 : ¬cond0_5 i) : out0_C_6 c i _ hw3 _ hw4 _ hw5 _ hw6 _ hw7 _ hw8 _ hw9 _ hw10 _ hw11 hc0 hc1 hc2 hc3 hc4 hc5 a b z x g p = tileG (k0_pay2 p a b) z x (k0_pay7 (ch 0 (k0_pay2 p a b)) (ch 0 z) (ch 0 x)) := by
  unfold out0_C_6
  rw [wr (fun _ => cover0_C_6 ..)]
  unfold kernelRun0_C
  dsimp only
  sl_unfold_words
  simp (disch := assumption) only [rd, ld0 S512x640, ld0 S2048x640, ld0 S512x2048, c0 S1x2048, View.readCov_cons_toLoadRect, lch 0 0, lch 1 128, lch 2 256, lch 3 384, rch 0 0, rch 1 128, rch 2 256, rch 3 384]
  try rfl

theorem D_6 (hc0 : ¬cond0_0 i) (hc1 : cond0_1 i) (hc2 : ¬cond0_2 i) (hc3 : cond0_3 i) (hc4 : ¬cond0_4 i) (hc5 : cond0_5 i) : out0_D_6 c i _ hw3 _ hw4 _ hw5 _ hw6 _ hw7 _ hw8 _ hw9 _ hw10 _ hw11 hc0 hc1 hc2 hc3 hc4 hc5 a b z x g u v p = tileG (k0_pay2 p a b) z x (k0_pay8 (ch 0 (k0_pay2 p a b)) (ch 0 z) (ch 0 x) u) := by
  unfold out0_D_6
  rw [wr (fun _ => cover0_D_6 ..)]
  unfold kernelRun0_D
  dsimp only
  sl_unfold_words
  simp (disch := assumption) only [rd, ld0 S512x640, ld0 S2048x640, ld0 S512x2048, ld0 S1x2048, c0 S1x2048, View.readCov_cons_toLoadRect, lch 0 0, lch 1 128, lch 2 256, lch 3 384, rch 0 0, rch 1 128, rch 2 256, rch 3 384]
  try rfl

theorem C_7 (hc0 : ¬cond0_0 i) (hc1 : cond0_1 i) (hc2 : cond0_2 i) (hc3 : ¬cond0_3 i) (hc4 : cond0_4 i) (hc5 : ¬cond0_5 i) : out0_C_7 c i _ hw3 _ hw4 _ hw5 _ hw6 _ hw7 _ hw8 _ hw9 _ hw10 _ hw11 hc0 hc1 hc2 hc3 hc4 hc5 a b z x g p = tileB (k0_pay2 p a b) z (k0_pay9 (ch 0 (k0_pay2 p a b)) (ch 0 z)) := by
  unfold out0_C_7
  rw [wr (fun _ => cover0_C_7 ..)]
  unfold kernelRun0_C
  dsimp only
  sl_unfold_words
  simp (disch := assumption) only [rd, ld0 S512x640, ld0 S2048x640, ld0 S512x2048, c0 S1x2048, View.readCov_cons_toLoadRect, lch 0 0, lch 1 128, lch 2 256, lch 3 384, rch 0 0, rch 1 128, rch 2 256, rch 3 384]
  try rfl

theorem D_7 (hc0 : ¬cond0_0 i) (hc1 : cond0_1 i) (hc2 : ¬cond0_2 i) (hc3 : cond0_3 i) (hc4 : ¬cond0_4 i) (hc5 : cond0_5 i) : out0_D_7 c i _ hw3 _ hw4 _ hw5 _ hw6 _ hw7 _ hw8 _ hw9 _ hw10 _ hw11 hc0 hc1 hc2 hc3 hc4 hc5 a b z x g u v p = tileB (k0_pay2 p a b) z (k0_pay10 (k0_pay9 (ch 0 (k0_pay2 p a b)) (ch 0 z)) v) := by
  unfold out0_D_7
  rw [wr (fun _ => cover0_D_7 ..)]
  unfold kernelRun0_D
  dsimp only
  sl_unfold_words
  simp (disch := assumption) only [rd, ld0 S512x640, ld0 S2048x640, ld0 S512x2048, ld0 S1x2048, c0 S1x2048, View.readCov_cons_toLoadRect, lch 0 0, lch 1 128, lch 2 256, lch 3 384, rch 0 0, rch 1 128, rch 2 256, rch 3 384]
  try rfl

theorem C_5 (hc0 : ¬cond0_0 i) (hc1 : cond0_1 i) (hc2 : cond0_2 i) (hc3 : ¬cond0_3 i) (hc4 : cond0_4 i) (hc5 : ¬cond0_5 i) (r : Fin 512) (k : Fin 2048) : (out0_C_5 c i _ hw3 _ hw4 _ hw5 _ hw6 _ hw7 _ hw8 _ hw9 _ hw10 _ hw11 hc0 hc1 hc2 hc3 hc4 hc5 a b z x g p (ix2 r k) : EReal) = (tileX (k0_pay2 p a b) z x g ⟨r.val / 128, by omega⟩ (ix2 ⟨r.val % 128, by omega⟩ k) : EReal) := by
  unfold out0_C_5
  rw [wr (fun _ => cover0_C_5 ..)]
  unfold kernelRun0_C
  dsimp only
  sl_unfold_words
  simp (disch := assumption) only [rd, ld0 S512x640, ld0 S2048x640, ld0 S512x2048, ld0 S1x2048, lch 0 0, lch 1 128, lch 2 256, lch 3 384, rch 0 0, rch 1 128, rch 2 256, rch 3 384]
  exact canon_tile (e := .f32) (tileX (k0_pay2 p a b) z x g) _ _ _ _ r k

theorem D_5 (hc0 : ¬cond0_0 i) (hc1 : cond0_1 i) (hc2 : ¬cond0_2 i) (hc3 : cond0_3 i) (hc4 : ¬cond0_4 i) (hc5 : cond0_5 i) (r : Fin 512) (k : Fin 2048) : (out0_D_5 c i _ hw3 _ hw4 _ hw5 _ hw6 _ hw7 _ hw8 _ hw9 _ hw10 _ hw11 hc0 hc1 hc2 hc3 hc4 hc5 a b z x g u v p (ix2 r k) : EReal) = (tileX (k0_pay2 p a b) z x g ⟨r.val / 128, by omega⟩ (ix2 ⟨r.val % 128, by omega⟩ k) : EReal) := by
  unfold out0_D_5
  rw [wr (fun _ => cover0_D_5 ..)]
  unfold kernelRun0_D
  dsimp only
  sl_unfold_words
  simp (disch := assumption) only [rd, ld0 S512x640, ld0 S2048x640, ld0 S512x2048, ld0 S1x2048, lch 0 0, lch 1 128, lch 2 256, lch 3 384, rch 0 0, rch 1 128, rch 2 256, rch 3 384]
  exact canon_tile (e := .f32) (tileX (k0_pay2 p a b) z x g) _ _ _ _ r k

end

section

open Cert.InLnInBwdIdeal Cert.InLnInBwdIdeal.Gen Idealize.ShloMosaic TcCoe Idealize.SL.Sem
open Cert.LatQ (packed pack_apply)

/-- A packed row. -/
def prow {α : Type} [Zero α] (f : Fin 3136 → α) (a : Fin 3200) : α := packed (fun _ => f) 0 a

theorem prow_coe (f : Fin 3136 → EReal) (f' : Fin 3136 → ℝ) (h : ∀ k, f k = (f' k : ℝ)) (a : Fin 3200) : prow f a = ((prow f' a : ℝ) : EReal) := by
  unfold prow packed
  by_cases h1 : a.val < 2048
  · rw [dif_pos h1, dif_pos h1]
    exact h _
  · rw [dif_neg h1, dif_neg h1]
    by_cases h2 : a.val < 3136
    · rw [dif_pos h2, dif_pos h2]
      exact h _
    · rw [dif_neg h2, dif_neg h2]
      rfl

/-- The packed columns are the columns in another order and zeros. -/
theorem sum_prow (f g : Fin 3136 → ℝ) : ∑ a, prow f a * prow g a = ∑ k, f k * g k := by
  refine (Fin.sum_univ_add (a := 2048) (b := 1152) (fun a : Fin (2048 + 1152) => prow f a * prow g a)).trans ?_
  refine Eq.trans ?_ ((add_comm _ _).trans (Fin.sum_univ_add (a := 1088) (b := 2048) (fun k : Fin (1088 + 2048) => f k * g k)).symm)
  refine congrArg₂ (fun x y : ℝ => x + y) (Finset.sum_congr rfl fun i _ => ?_) ((Fin.sum_univ_add (a := 1088) (b := 64) (fun i : Fin (1088 + 64) => prow f (Fin.natAdd 2048 i) * prow g (Fin.natAdd 2048 i))).trans ?_)
  · have h : (Fin.castAdd 1152 i : Fin 3200).val < 2048 := i.isLt
    unfold prow packed
    rw [dif_pos h, dif_pos h]
    rfl
  · have hz : ∑ i : Fin 64, prow f (Fin.natAdd 2048 (Fin.natAdd 1088 i)) * prow g (Fin.natAdd 2048 (Fin.natAdd 1088 i)) = 0 := Finset.sum_eq_zero fun i _ => by
      have h1 : ¬ (Fin.natAdd 2048 (Fin.natAdd 1088 i : Fin 1152) : Fin 3200).val < 2048 := fun h => by have : 2048 + (1088 + i.val) < 2048 := h; omega
      have h2 : ¬ (Fin.natAdd 2048 (Fin.natAdd 1088 i : Fin 1152) : Fin 3200).val < 3136 := fun h => by have : 2048 + (1088 + i.val) < 3136 := h; omega
      unfold prow packed
      rw [dif_neg h1, dif_neg h2, zero_mul]
    refine (congrArg₂ (fun x y : ℝ => x + y) (Finset.sum_congr rfl fun i _ => ?_) hz).trans (add_zero _)
    have h1 : ¬ (Fin.natAdd 2048 (Fin.castAdd 64 i : Fin 1152) : Fin 3200).val < 2048 := fun h => by have : 2048 + i.val < 2048 := h; omega
    have h2 : (Fin.natAdd 2048 (Fin.castAdd 64 i : Fin 1152) : Fin 3200).val < 3136 := by show 2048 + i.val < 3136; omega
    unfold prow packed
    rw [dif_neg h1, dif_pos h2, dif_neg h1, dif_pos h2]
    have e : (⟨(Fin.natAdd 2048 (Fin.castAdd 64 i : Fin 1152) : Fin 3200).val - 2048, by show 2048 + i.val - 2048 < 3136; omega⟩ : Fin 3136) = Fin.castAdd 2048 i := Fin.ext (by show 2048 + i.val - 2048 = i.val; omega)
    exact congrArg (fun k => f k * g k) e

/-- The arguments are arrays of real numbers. -/
def Reals (m : (ℓ : Loc nD τ sig) → Buf (Elt Ideal) ℓ) (c : Dev nD) (Z : Fin 8192 → Fin 2048 → ℝ) (D : Fin 8192 → Fin 3136 → ℝ) (X : Fin 8192 → Fin 2048 → ℝ) (W : Fin 2048 → Fin 3136 → ℝ) (G : Fin 2048 → ℝ) : Prop :=
  (∀ q k, @Eq EReal ((m (lc c main_arg0) : S8192x2048.Idx → EReal) (ix2 q k)) (Z q k : ℝ))
  ∧ (∀ q k, @Eq EReal ((m (lc c main_arg1) : S8192x3136.Idx → EReal) (ix2 q k)) (D q k : ℝ))
  ∧ (∀ q k, @Eq EReal ((m (lc c main_arg2) : S8192x2048.Idx → EReal) (ix2 q k)) (X q k : ℝ))
  ∧ (∀ l k, @Eq EReal ((m (lc c main_arg3) : S2048x3136.Idx → EReal) (ix2 l k)) (W l k : ℝ))
  ∧ (∀ k, @Eq EReal ((m (lc c main_arg4) : S1x2048.Idx → EReal) (ix2 0 k)) (G k : ℝ))

theorem idx_facts : ∀ t : Fin grid0.N, (win0_0.index t ax0 = t.val / 5 ∧ win0_0.index t ax1 = t.val % 5) ∧ (win0_1.index t ax0 = 0 ∧ win0_1.index t ax1 = t.val % 5)
    ∧ (win0_2.index t ax0 = t.val / 5 ∧ win0_2.index t ax1 = 0) ∧ (win0_3.index t ax0 = t.val / 5 ∧ win0_3.index t ax1 = 0) ∧ (win0_4.index t ax0 = 0 ∧ win0_4.index t ax1 = 0)
    ∧ (win0_5.index t ax0 = t.val / 5 ∧ win0_5.index t ax1 = 0) ∧ (win0_6.index t ax0 = 0 ∧ win0_6.index t ax1 = 0) ∧ (win0_7.index t ax0 = 0 ∧ win0_7.index t ax1 = 0) := by
  decide +kernel

/-- Row `r` of the tile of point `t`. -/
def at_ (a : Fin cfg0.N) (r : Fin 512) : Fin 8192 := ⟨512 * (a.val / 5) + r.val, by have h : a.val < 80 := a.isLt; omega⟩

/-- Column `j` of the block of point `t`. -/
def col (a : Fin cfg0.N) (j : Fin 640) : Fin 3200 := ⟨640 * (a.val % 5) + j.val, by omega⟩

variable {m : (ℓ : Loc nD τ sig) → Buf (Elt Ideal) ℓ} {c : Dev nD}

theorem V_a (q : Fin 8192) (a : Fin 3200) (d : S8192x3136.Idx → EReal) (hd : d = m (lc c main_arg1)) : (V m c main_v15 (ix2 q a) : EReal) = prow (fun k => d (ix2 q k)) a := by
  have hv : V m c main_v15 = truncf (F := Ideal) .bf16 (concatenate (α := Ideal .f32) S8192x3200 1 [⟨S8192x1024, extractStridedSlice S8192x1024 ![0, 1088] (m (lc c main_arg1)) slices_S8192x3136_S8192x1024_0_1088⟩,
      ⟨S8192x1024, extractStridedSlice S8192x1024 ![0, 2112] (m (lc c main_arg1)) slices_S8192x3136_S8192x1024_0_2112⟩, ⟨S8192x512, extractStridedSlice S8192x512 ![0, 0] (m (lc c main_arg1)) slices_S8192x3136_S8192x512_0_0⟩,
      ⟨S8192x512, extractStridedSlice S8192x512 ![0, 512] (m (lc c main_arg1)) slices_S8192x3136_S8192x512_0_512⟩, ⟨S8192x64, extractStridedSlice S8192x64 ![0, 1024] (m (lc c main_arg1)) slices_S8192x3136_S8192x64_0_1024⟩,
      ⟨S8192x64, broadcastInDim S8192x64 ![] bcast_S_S8192x64 (constant (F := Ideal) S_ .f32 0x00000000#32)⟩] concatenates_S8192x1024_S8192x1024_S8192x512_S8192x512_S8192x64_S8192x64_S8192x3200_d1) bitsLt_bf16_f32 := by
    unfold V
    after_results
    try rfl
  rw [hv, ← hd]
  exact pack_apply d q a

theorem pack_w (x : S2048x3136.Idx → EReal) (l : Fin 2048) (a : Fin 3200) :
    (concatenate (α := Ideal .f32) S2048x3200 1 [⟨S2048x1024, extractStridedSlice S2048x1024 ![0, 1088] x slices_S2048x3136_S2048x1024_0_1088⟩,
      ⟨S2048x1024, extractStridedSlice S2048x1024 ![0, 2112] x slices_S2048x3136_S2048x1024_0_2112⟩, ⟨S2048x512, extractStridedSlice S2048x512 ![0, 0] x slices_S2048x3136_S2048x512_0_0⟩,
      ⟨S2048x512, extractStridedSlice S2048x512 ![0, 512] x slices_S2048x3136_S2048x512_0_512⟩, ⟨S2048x64, extractStridedSlice S2048x64 ![0, 1024] x slices_S2048x3136_S2048x64_0_1024⟩,
      ⟨S2048x64, broadcastInDim S2048x64 ![] bcast_S_S2048x64 (constant (F := Ideal) S_ .f32 0x00000000#32)⟩] concatenates_S2048x1024_S2048x1024_S2048x512_S2048x512_S2048x64_S2048x64_S2048x3200_d1 (ix2 l a) : EReal)
    = prow (fun k => x (ix2 l k)) a := by
  generalize hg : prow (fun k => x (ix2 l k)) a = g
  unfold prow packed at hg
  pointwise
  rw [← hg]
  have e : ∀ (n n' : ℕ) (h : n < 3136) (h' : n' < 3136), n = n' → x (ix2 l ⟨n, h⟩) = x (ix2 l ⟨n', h'⟩) := fun n n' _ _ hn => by subst hn; rfl
  by_cases h1 : a.val < 1024
  · rw [dif_pos h1, dif_pos (show a.val < 2048 by omega)]
  rw [dif_neg h1]
  by_cases h2 : a.val - 1024 < 1024
  · rw [dif_pos h2, dif_pos (show a.val < 2048 by omega)]
    exact e _ _ _ _ (by omega)
  rw [dif_neg h2, dif_neg (show ¬ a.val < 2048 by omega)]
  by_cases h3 : a.val - 1024 - 1024 < 512
  · rw [dif_pos h3, dif_pos (show a.val < 3136 by omega)]
    exact e _ _ _ _ (by omega)
  rw [dif_neg h3]
  by_cases h4 : a.val - 1024 - 1024 - 512 < 512
  · rw [dif_pos h4, dif_pos (show a.val < 3136 by omega)]
    exact e _ _ _ _ (by omega)
  rw [dif_neg h4]
  by_cases h5 : a.val - 1024 - 1024 - 512 - 512 < 64
  · rw [dif_pos h5, dif_pos (show a.val < 3136 by omega)]
    exact e _ _ _ _ (by omega)
  · rw [dif_neg h5, dif_neg (show ¬ a.val < 3136 by omega)]

theorem V_b (l : Fin 2048) (a : Fin 3200) (d : S2048x3136.Idx → EReal) (hd : d = m (lc c main_arg3)) : (V m c main_v7 (ix2 l a) : EReal) = prow (fun k => d (ix2 l k)) a := by
  have hv : V m c main_v7 = truncf (F := Ideal) .bf16 (concatenate (α := Ideal .f32) S2048x3200 1 [⟨S2048x1024, extractStridedSlice S2048x1024 ![0, 1088] (m (lc c main_arg3)) slices_S2048x3136_S2048x1024_0_1088⟩,
      ⟨S2048x1024, extractStridedSlice S2048x1024 ![0, 2112] (m (lc c main_arg3)) slices_S2048x3136_S2048x1024_0_2112⟩, ⟨S2048x512, extractStridedSlice S2048x512 ![0, 0] (m (lc c main_arg3)) slices_S2048x3136_S2048x512_0_0⟩,
      ⟨S2048x512, extractStridedSlice S2048x512 ![0, 512] (m (lc c main_arg3)) slices_S2048x3136_S2048x512_0_512⟩, ⟨S2048x64, extractStridedSlice S2048x64 ![0, 1024] (m (lc c main_arg3)) slices_S2048x3136_S2048x64_0_1024⟩,
      ⟨S2048x64, broadcastInDim S2048x64 ![] bcast_S_S2048x64 (constant (F := Ideal) S_ .f32 0x00000000#32)⟩] concatenates_S2048x1024_S2048x1024_S2048x512_S2048x512_S2048x64_S2048x64_S2048x3200_d1) bitsLt_bf16_f32 := by
    unfold V
    after_results
    try rfl
  rw [hv, ← hd]
  exact pack_w d l a

theorem V_z : V m c main_arg0 = m (lc c main_arg0) := by
  unfold V
  after_results
  try rfl

theorem V_x : V m c main_arg2 = m (lc c main_arg2) := by
  unfold V
  after_results
  try rfl

theorem V_g : V m c main_arg4 = m (lc c main_arg4) := by
  unfold V
  after_results
  try rfl

/-- The cotangent of the normed row. -/
def dR (Z : Fin 8192 → Fin 2048 → ℝ) (D : Fin 8192 → Fin 3136 → ℝ) (W : Fin 2048 → Fin 3136 → ℝ) (q : Fin 8192) (k : Fin 2048) : ℝ := alpha * Z q k + ∑ j, D q j * W k j

variable {Z X : Fin 8192 → Fin 2048 → ℝ} {D : Fin 8192 → Fin 3136 → ℝ} {W : Fin 2048 → Fin 3136 → ℝ} {G : Fin 2048 → ℝ} (H : Reals m c Z D X W G) (t : Fin cfg0.N)

include H

theorem blk_a (r : Fin 512) (j : Fin 640) : (iblk m c 0 t (ix2 r j) : EReal) = ((prow (D (at_ t r)) (col t j) : ℝ) : EReal) := by
  obtain ⟨⟨e0, e1⟩, -⟩ := idx_facts t
  refine Eq.trans (Eq.trans ?_ (V_a (m := m) (c := c) (at_ t r) (col t j) _ rfl)) (prow_coe _ _ (H.2.1 (at_ t r)) _)
  exact read2 (V m c main_v15) _ _ (by show win0_0.index t ax0 * 512 + 1 * r.val = 512 * (t.val / 5) + r.val; omega) (by show win0_0.index t ax1 * 640 + 1 * j.val = 640 * (t.val % 5) + j.val; omega)

theorem blk_b (l : Fin 2048) (j : Fin 640) : (iblk m c 1 t (ix2 l j) : EReal) = ((prow (W l) (col t j) : ℝ) : EReal) := by
  obtain ⟨-, ⟨e0, e1⟩, -⟩ := idx_facts t
  refine Eq.trans (Eq.trans ?_ (V_b (m := m) (c := c) l (col t j) _ rfl)) (prow_coe _ _ (H.2.2.2.1 l) _)
  exact read2 (V m c main_v7) _ _ (by show win0_1.index t ax0 * 2048 + 1 * l.val = l.val; omega) (by show win0_1.index t ax1 * 640 + 1 * j.val = 640 * (t.val % 5) + j.val; omega)

theorem blk_z (r : Fin 512) (k : Fin 2048) : (iblk m c 2 t (ix2 r k) : EReal) = ((Z (at_ t r) k : ℝ) : EReal) := by
  obtain ⟨-, -, ⟨e0, e1⟩, -⟩ := idx_facts t
  refine Eq.trans (Eq.trans ?_ (congrFun (V_z (m := m) (c := c)) (ix2 (at_ t r) k))) (H.1 (at_ t r) k)
  exact read2 (V m c main_arg0) _ _ (by show win0_2.index t ax0 * 512 + 1 * r.val = 512 * (t.val / 5) + r.val; omega) (by show win0_2.index t ax1 * 2048 + 1 * k.val = k.val; omega)

theorem blk_x (r : Fin 512) (k : Fin 2048) : (iblk m c 3 t (ix2 r k) : EReal) = ((X (at_ t r) k : ℝ) : EReal) := by
  obtain ⟨-, -, -, ⟨e0, e1⟩, -⟩ := idx_facts t
  refine Eq.trans (Eq.trans ?_ (congrFun (V_x (m := m) (c := c)) (ix2 (at_ t r) k))) (H.2.2.1 (at_ t r) k)
  exact read2 (V m c main_arg2) _ _ (by show win0_3.index t ax0 * 512 + 1 * r.val = 512 * (t.val / 5) + r.val; omega) (by show win0_3.index t ax1 * 2048 + 1 * k.val = k.val; omega)

theorem blk_g (k : Fin 2048) : (iblk m c 4 t (ix2 0 k) : EReal) = ((G k : ℝ) : EReal) := by
  obtain ⟨-, -, -, -, ⟨e0, e1⟩, -⟩ := idx_facts t
  refine Eq.trans (Eq.trans ?_ (congrFun (V_g (m := m) (c := c)) (ix2 0 k))) (H.2.2.2.2 k)
  exact read2 (V m c main_arg4) _ _ (by show win0_4.index t ax0 * 1 + 1 * 0 = 0; omega) (by show win0_4.index t ax1 * 2048 + 1 * k.val = k.val; omega)

omit H in
/-- A row of the packed product, its terms. -/
def term (D : Fin 8192 → Fin 3136 → ℝ) (W : Fin 2048 → Fin 3136 → ℝ) (q : Fin 8192) (k : Fin 2048) (a : Fin 3200) : EReal := ((prow (D q) a * prow (W k) a : ℝ) : EReal)

theorem dot (r : Fin 512) (k : Fin 2048) : ∑ j : Fin 640, @HMul.hMul EReal EReal EReal _ (iblk m c 0 t (ix2 r j)) (iblk m c 1 t (ix2 k j)) = ∑ j : Fin 640, ext0 (term D W (at_ t r) k) (640 * (t.val % 5) + j.val) :=
  Finset.sum_congr rfl fun j _ => by
    exact (congrArg₂ (fun x y : EReal => x * y) (blk_a H t r j) (blk_b H t k j)).trans ((EReal.coe_mul _ _).symm.trans (ext0_of (term D W (at_ t r) k) _ (col t j).isLt).symm)

omit H in
/-- What the point before left in the accumulator. -/
def prev (m : (ℓ : Loc nD τ sig) → Buf (Elt Ideal) ℓ) (c : Dev nD) (t : Fin cfg0.N) : Vec Ideal S512x2048 .f32 := (outsAt0 m c (t.val - 1) (Nat.lt_of_le_of_lt (Nat.sub_le _ _) t.isLt)).2.2.2

omit H in
theorem scr_first (h : t.val % 5 = 0) : (outsAt0 m c t.val t.isLt).2.2.2 = k0_pay2 k0_pay1 (iblk m c 0 t) (iblk m c 1 t) := by
  refine Eq.trans (congrArg (fun p => p.2.2.2) (outsAt0_A m c t h (by omega))) ?_
  dsimp only
  exact A_s _ _ _ _ _ _ _

omit H in
theorem scr_next (h : ¬ t.val % 5 = 0) : (outsAt0 m c t.val t.isLt).2.2.2 = k0_pay2 (prev m c t) (iblk m c 0 t) (iblk m c 1 t) := by
  by_cases h1 : t.val % 5 = 4
  · by_cases h2 : t.val < 5
    · refine Eq.trans (congrArg (fun p => p.2.2.2) (outsAt0_C m c t h h1 h2 (by omega) h2 (by omega))) ?_
      dsimp only
      exact C_s _ _ _ _ _ _ _ _ _ _ _ _
    · refine Eq.trans (congrArg (fun p => p.2.2.2) (outsAt0_D m c t h h1 h2 (by omega) h2 (by omega))) ?_
      dsimp only
      exact D_s _ _ _ _ _ _ _ _ _ _ _ _ _ _
  · refine Eq.trans (congrArg (fun p => p.2.2.2) (outsAt0_B m c t h h1)) ?_
    dsimp only
    exact B_s _ _ _ _ _ _ _ _

omit H t in
/-- Row `r` of row tile `i`. -/
def row (i : ℕ) (r : Fin 512) : Fin 8192 := ⟨(512 * i + r.val) % 8192, Nat.mod_lt _ (by decide)⟩

omit H in
theorem row_eq (r : Fin 512) : at_ t r = row (t.val / 5) r := Fin.ext (by
  have h : t.val < 80 := t.isLt
  show 512 * (t.val / 5) + r.val = (512 * (t.val / 5) + r.val) % 8192
  omega)

/-- A block's part of the product, by its row tile and its place. -/
theorem part (r : Fin 512) (k : Fin 2048) (j : ℕ) (hj : t.val % 5 = j) : ∑ j : Fin 640, @HMul.hMul EReal EReal EReal _ (iblk m c 0 t (ix2 r j)) (iblk m c 1 t (ix2 k j)) = ∑ a : Fin 640, ext0 (term D W (row (t.val / 5) r) k) (640 * j + a.val) := by
  subst hj
  exact (dot H t r k).trans (by rw [row_eq])

theorem scr_first' (h : t.val % 5 = 0) (r : Fin 512) (k : Fin 2048) : ((outsAt0 m c t.val t.isLt).2.2.2 (ix2 r k) : EReal) = ∑ a : Fin 640, ext0 (term D W (row (t.val / 5) r) k) (640 * 0 + a.val) := by
  rw [scr_first t h, pay2, pay1, zero_add]
  exact part H t r k 0 h

theorem scr_next' (h : ¬ t.val % 5 = 0) (r : Fin 512) (k : Fin 2048) : ((outsAt0 m c t.val t.isLt).2.2.2 (ix2 r k) : EReal) = (prev m c t (ix2 r k) : EReal) + ∑ a : Fin 640, ext0 (term D W (row (t.val / 5) r) k) (640 * (t.val % 5) + a.val) := by
  rw [scr_next t h, pay2]
  exact congrArg (fun y : EReal => (prev m c t (ix2 r k) : EReal) + y) (part H t r k _ rfl)

theorem scr (r : Fin 512) (k : Fin 2048) : ((outsAt0 m c t.val t.isLt).2.2.2 (ix2 r k) : EReal) = ∑ j ∈ Finset.range (t.val % 5 + 1), ∑ a : Fin 640, ext0 (term D W (row (t.val / 5) r) k) (640 * j + a.val) :=
  fold_cols 5 (by decide) (fun t h => ((outsAt0 m c t h).2.2.2 (ix2 r k) : EReal)) (fun i j => ∑ a : Fin 640, ext0 (term D W (row i r) k) (640 * j + a.val))
    (fun t h hm => scr_first' H ⟨t, h⟩ hm r k) (fun t h hm => scr_next' H ⟨t, h⟩ hm r k) t.val t.isLt

/-- At the last block the accumulator holds the product. -/
theorem scr_last (h : t.val % 5 = 4) (r : Fin 512) (k : Fin 2048) : (k0_pay2 (prev m c t) (iblk m c 0 t) (iblk m c 1 t) (ix2 r k) : EReal) = ((∑ j, D (at_ t r) j * W k j : ℝ) : EReal) := by
  refine Eq.trans (congrFun (scr_next (m := m) (c := c) t (by omega)) (ix2 r k)).symm ((scr H t r k).trans ?_)
  rw [h, ← row_eq]
  refine (sum_blocks 5 640 (by decide) (term D W (at_ t r) k)).trans ?_
  unfold term
  rw [Cert.Attention.coe_sum]
  exact congrArg Real.toEReal (sum_prow _ _)

theorem last_d (h : t.val % 5 = 4) (r : Fin 512) (k : Fin 2048) :
    Ideal.ofBits .f32 0x3F9837F0#32 * (iblk m c 2 t (ix2 r k) : EReal) + (k0_pay2 (prev m c t) (iblk m c 0 t) (iblk m c 1 t) (ix2 r k) : EReal) = ((dR Z D W (at_ t r) k : ℝ) : EReal) := by
  rw [scr_last H t h, ofBits_alpha]
  refine (congrArg (fun y : EReal => ((alpha : ℝ) : EReal) * y + _) (blk_z H t r k)).trans ?_
  rw [← EReal.coe_mul, ← EReal.coe_add]
  rfl

theorem pt5 (h : t.val % 5 = 4) (r : Fin 512) (k : Fin 2048) : ((outsAt0 m c t.val t.isLt).1 (ix2 r k) : EReal) = (back eps (X (at_ t r)) (fun k => dR Z D W (at_ t r) k * G k) k : ℝ) := by
  have hr : sub ⟨r.val / 128, by omega⟩ ⟨r.val % 128, by omega⟩ = r := Fin.ext (by show 128 * (r.val / 128) + r.val % 128 = r.val; omega)
  have hv := chunk_x (k0_pay2 (prev m c t) (iblk m c 0 t) (iblk m c 1 t)) (iblk m c 2 t) (iblk m c 3 t) (iblk m c 4 t) (fun r => dR Z D W (at_ t r)) (fun r => X (at_ t r)) G (last_d H t h) (blk_x H t) (blk_g H t) ⟨r.val / 128, by omega⟩ ⟨r.val % 128, by omega⟩ k
  rw [hr] at hv
  by_cases h2 : t.val < 5
  · refine Eq.trans (congrFun (congrArg (fun p => p.1) (outsAt0_C m c t (by omega) h h2 (by omega) h2 (by omega))) (ix2 r k)) ?_
    dsimp only
    exact (C_5 _ _ _ _ _ _ _ _ _ _ _ _ _ _).trans hv
  · refine Eq.trans (congrFun (congrArg (fun p => p.1) (outsAt0_D m c t (by omega) h h2 (by omega) h2 (by omega))) (ix2 r k)) ?_
    dsimp only
    exact (D_5 _ _ _ _ _ _ _ _ _ _ _ _ _ _ _ _).trans hv

omit H in
/-- The rows' parts of the scale's gradient. -/
def fg (Z : Fin 8192 → Fin 2048 → ℝ) (D : Fin 8192 → Fin 3136 → ℝ) (X : Fin 8192 → Fin 2048 → ℝ) (W : Fin 2048 → Fin 3136 → ℝ) (k : Fin 2048) (r : Fin 8192) : EReal := ((dR Z D W r k * xh eps (X r) k : ℝ) : EReal)

omit H in
/-- The rows' parts of the offset's gradient. -/
def fb (Z : Fin 8192 → Fin 2048 → ℝ) (D : Fin 8192 → Fin 3136 → ℝ) (W : Fin 2048 → Fin 3136 → ℝ) (k : Fin 2048) (r : Fin 8192) : EReal := ((dR Z D W r k : ℝ) : EReal)

omit H in
theorem tile_sum (f : Fin 8192 → EReal) (i : ℕ) (hi : t.val / 5 = i) : ∑ r : Fin 512, f (at_ t r) = ∑ r : Fin 512, ext0 f (512 * i + r.val) :=
  Finset.sum_congr rfl fun r _ => by subst hi; exact (ext0_of f _ (at_ t r).isLt).symm

omit t in
theorem acc6 (k : Fin 2048) : ∀ t (h : t < cfg0.N), 5 ≤ t + 1 → ((outsAt0 m c t h).2.1 (ix2 0 k) : EReal) = ∑ j ∈ Finset.range ((t + 1) / 5), ∑ r : Fin 512, ext0 (fg Z D X W k) (512 * j + r.val) := by
  refine fold_rows 5 (by decide) (fun t h => ((outsAt0 m c t h).2.1 (ix2 0 k) : EReal)) (fun j => ∑ r : Fin 512, ext0 (fg Z D X W k) (512 * j + r.val)) (fun h => ?_) (fun t h hl hm => ?_) (fun t h hl hm => ?_)
  · refine Eq.trans (congrFun (congrArg (fun p => p.2.1) (outsAt0_C m c ⟨4, h⟩ (by show ¬ 4 % 5 = 0; decide) (by show 4 % 5 = 4; decide) (by show 4 < 5; decide) (by show ¬ 5 ≤ 4; decide) (by show 4 < 5; decide) (by show ¬ 5 ≤ 4; decide))) (ix2 0 k)) ?_
    dsimp only
    refine Eq.trans (congrFun (C_6 _ _ _ _ _ _ _ _ _ _ _ _) (ix2 0 k)) ?_
    exact (tile_g0 _ _ _ (fun r => dR Z D W (at_ ⟨4, h⟩ r)) (fun r => X (at_ ⟨4, h⟩ r)) (last_d H ⟨4, h⟩ rfl) (blk_x H ⟨4, h⟩) k).trans (tile_sum ⟨4, h⟩ (fg Z D X W k) 0 (by show 4 / 5 = 0; decide))
  · refine Eq.trans (congrFun (congrArg (fun p => p.2.1) (outsAt0_D m c ⟨t, h⟩ (by show ¬ t % 5 = 0; omega) (by show t % 5 = 4; omega) (by show ¬ t < 5; omega) (by show 5 ≤ t; omega) (by show ¬ t < 5; omega) (by show 5 ≤ t; omega))) (ix2 0 k)) ?_
    dsimp only
    refine Eq.trans (congrFun (D_6 _ _ _ _ _ _ _ _ _ _ _ _ _ _) (ix2 0 k)) ?_
    exact (tile_g _ _ _ (fun r => dR Z D W (at_ ⟨t, h⟩ r)) (fun r => X (at_ ⟨t, h⟩ r)) (last_d H ⟨t, h⟩ hm) (blk_x H ⟨t, h⟩) _ k).trans (congrArg₂ (fun x y : EReal => x + y) rfl (tile_sum ⟨t, h⟩ (fg Z D X W k) (t / 5) rfl))
  · by_cases h0 : t % 5 = 0
    · exact congrFun (congrArg (fun p => p.2.1) (outsAt0_A m c ⟨t, h⟩ h0 (by show ¬ t % 5 = 4; omega))) (ix2 0 k)
    · exact congrFun (congrArg (fun p => p.2.1) (outsAt0_B m c ⟨t, h⟩ h0 (by show ¬ t % 5 = 4; omega))) (ix2 0 k)

omit t in
theorem acc7 (k : Fin 2048) : ∀ t (h : t < cfg0.N), 5 ≤ t + 1 → ((outsAt0 m c t h).2.2.1 (ix2 0 k) : EReal) = ∑ j ∈ Finset.range ((t + 1) / 5), ∑ r : Fin 512, ext0 (fb Z D W k) (512 * j + r.val) := by
  refine fold_rows 5 (by decide) (fun t h => ((outsAt0 m c t h).2.2.1 (ix2 0 k) : EReal)) (fun j => ∑ r : Fin 512, ext0 (fb Z D W k) (512 * j + r.val)) (fun h => ?_) (fun t h hl hm => ?_) (fun t h hl hm => ?_)
  · refine Eq.trans (congrFun (congrArg (fun p => p.2.2.1) (outsAt0_C m c ⟨4, h⟩ (by show ¬ 4 % 5 = 0; decide) (by show 4 % 5 = 4; decide) (by show 4 < 5; decide) (by show ¬ 5 ≤ 4; decide) (by show 4 < 5; decide) (by show ¬ 5 ≤ 4; decide))) (ix2 0 k)) ?_
    dsimp only
    refine Eq.trans (congrFun (C_7 _ _ _ _ _ _ _ _ _ _ _ _) (ix2 0 k)) ?_
    exact (tile_b0 _ _ (fun r => dR Z D W (at_ ⟨4, h⟩ r)) (last_d H ⟨4, h⟩ rfl) k).trans (tile_sum ⟨4, h⟩ (fb Z D W k) 0 (by show 4 / 5 = 0; decide))
  · refine Eq.trans (congrFun (congrArg (fun p => p.2.2.1) (outsAt0_D m c ⟨t, h⟩ (by show ¬ t % 5 = 0; omega) (by show t % 5 = 4; omega) (by show ¬ t < 5; omega) (by show 5 ≤ t; omega) (by show ¬ t < 5; omega) (by show 5 ≤ t; omega))) (ix2 0 k)) ?_
    dsimp only
    refine Eq.trans (congrFun (D_7 _ _ _ _ _ _ _ _ _ _ _ _ _ _) (ix2 0 k)) ?_
    exact (tile_b _ _ (fun r => dR Z D W (at_ ⟨t, h⟩ r)) (last_d H ⟨t, h⟩ hm) _ k).trans (congrArg₂ (fun x y : EReal => x + y) rfl (tile_sum ⟨t, h⟩ (fb Z D W k) (t / 5) rfl))
  · by_cases h0 : t % 5 = 0
    · exact congrFun (congrArg (fun p => p.2.2.1) (outsAt0_A m c ⟨t, h⟩ h0 (by show ¬ t % 5 = 4; omega))) (ix2 0 k)
    · exact congrFun (congrArg (fun p => p.2.2.1) (outsAt0_B m c ⟨t, h⟩ h0 (by show ¬ t % 5 = 4; omega))) (ix2 0 k)

omit H in
theorem disjoint5 (a a' : Fin cfg0.N) (hf : (cfg0.win 5).flush a = true) (hf' : (cfg0.win 5).flush a' = true) (hne : a ≠ a') : Disjoint ((cfg0.win 5).blk a).view.set ((cfg0.win 5).blk a').view.set := by
  have h := (flush0_5 a).mp hf
  have h' := (flush0_5 a').mp hf'
  obtain ⟨-, -, -, -, -, ⟨e0, -⟩, -⟩ := idx_facts a
  obtain ⟨-, -, -, -, -, ⟨e0', -⟩, -⟩ := idx_facts a'
  refine Finset.disjoint_left.mpr fun i hm hm' => hne (Fin.ext ?_)
  obtain ⟨y, -, hy⟩ := Finset.mem_map.mp hm
  obtain ⟨y', -, hy'⟩ := Finset.mem_map.mp hm'
  have h1 : win0_5.index a ax0 * 512 + 1 * (y 0).val = (i 0).val := congrArg (fun i : S8192x2048.Idx => (i 0).val) hy
  have h2 : win0_5.index a' ax0 * 512 + 1 * (y' 0).val = (i 0).val := congrArg (fun i : S8192x2048.Idx => (i 0).val) hy'
  have l1 : (y 0).val < 512 := (y 0).isLt
  have l2 : (y' 0).val < 512 := (y' 0).isLt
  omega

theorem arr5 (q : Fin 8192) (k : Fin 2048) : ((dats m 0 c).arrAt 5 cfg0.N (ix2 q k) : EReal) = ((back eps (X q) (fun k => dR Z D W q k * G k) k : ℝ) : EReal) := by
  have hN : cfg0.N = 80 := N_0
  obtain ⟨t, ht⟩ : ∃ t : Fin cfg0.N, t.val = q.val / 512 * 5 + 4 := ⟨⟨q.val / 512 * 5 + 4, by omega⟩, rfl⟩
  obtain ⟨-, -, -, -, -, ⟨e0, e1⟩, -⟩ := idx_facts t
  have hb := (dats m 0 c).read_blk_arrAt_eq_flushed 5 disjoint5 cfg0.N t t.isLt ((flush0_5 t).mpr (by omega))
  rw [Value.flushed5] at hb
  have hq : at_ t ⟨q.val % 512, by omega⟩ = q := Fin.ext (by show 512 * (t.val / 5) + q.val % 512 = q.val; omega)
  refine Eq.trans (Eq.trans (Eq.symm ?_) (congrFun hb (ix2 (⟨q.val % 512, by omega⟩ : Fin 512) k))) ((pt5 H t (by omega) ⟨q.val % 512, by omega⟩ k).trans (by rw [hq]))
  exact (read2 ((dats m 0 c).arrAt 5 cfg0.N) _ _ (by show q.val = win0_5.index t ax0 * 512 + 1 * (q.val % 512); omega) (by show k.val = win0_5.index t ax1 * 2048 + 1 * k.val; omega)).symm

theorem arr6 (k : Fin 2048) : ((dats m 0 c).arrAt 6 cfg0.N (ix2 0 k) : EReal) = ∑ r, fg Z D X W k r := by
  obtain ⟨t, ht⟩ : ∃ t : Fin cfg0.N, t.val = 79 := ⟨⟨79, by decide⟩, rfl⟩
  obtain ⟨-, -, -, -, -, -, ⟨e0, e1⟩, -⟩ := idx_facts t
  have hb := (dats m 0 c).read_blk_arrAt_eq_flushed 6 (fun a a' hf hf' hne => absurd (Fin.ext (by have ha : a.val < 80 := a.isLt; have ha' : a'.val < 80 := a'.isLt; have := (flush0_6 a).mp hf; have := (flush0_6 a').mp hf'; omega)) hne) cfg0.N t t.isLt ((flush0_6 t).mpr (by omega))
  rw [Value.flushed6] at hb
  refine Eq.trans (Eq.trans (Eq.symm ?_) (congrFun hb (ix2 0 k))) ((acc6 H k t.val t.isLt (by omega)).trans ?_)
  · exact (read2 ((dats m 0 c).arrAt 6 cfg0.N) _ _ (by show 0 = win0_6.index t ax0 * 1 + 1 * 0; omega) (by show k.val = win0_6.index t ax1 * 2048 + 1 * k.val; omega)).symm
  · rw [ht]
    exact sum_blocks 16 512 (by decide) (fg Z D X W k)

theorem arr7 (k : Fin 2048) : ((dats m 0 c).arrAt 7 cfg0.N (ix2 0 k) : EReal) = ∑ r, fb Z D W k r := by
  obtain ⟨t, ht⟩ : ∃ t : Fin cfg0.N, t.val = 79 := ⟨⟨79, by decide⟩, rfl⟩
  obtain ⟨-, -, -, -, -, -, -, ⟨e0, e1⟩⟩ := idx_facts t
  have hb := (dats m 0 c).read_blk_arrAt_eq_flushed 7 (fun a a' hf hf' hne => absurd (Fin.ext (by have ha : a.val < 80 := a.isLt; have ha' : a'.val < 80 := a'.isLt; have := (flush0_7 a).mp hf; have := (flush0_7 a').mp hf'; omega)) hne) cfg0.N t t.isLt ((flush0_7 t).mpr (by omega))
  rw [Value.flushed7] at hb
  refine Eq.trans (Eq.trans (Eq.symm ?_) (congrFun hb (ix2 0 k))) ((acc7 H k t.val t.isLt (by omega)).trans ?_)
  · exact (read2 ((dats m 0 c).arrAt 7 cfg0.N) _ _ (by show 0 = win0_7.index t ax0 * 1 + 1 * 0; omega) (by show k.val = win0_7.index t ax1 * 2048 + 1 * k.val; omega)).symm
  · rw [ht]
    exact sum_blocks 16 512 (by decide) (fb Z D W k)

end

section

open Cert.InLnInBwdRefIdeal Read Idealize.ShloMosaic

variable (x0 : (⟨S8192x2048, .f32⟩ : BufTy).Contents (Elt Ideal)) (x1 : (⟨S8192x3136, .f32⟩ : BufTy).Contents (Elt Ideal)) (x2 : (⟨S8192x2048, .f32⟩ : BufTy).Contents (Elt Ideal)) (x3 : (⟨S2048x3136, .f32⟩ : BufTy).Contents (Elt Ideal)) (x4 : (⟨S1x2048, .f32⟩ : BufTy).Contents (Elt Ideal))
  {Z X : Fin 8192 → Fin 2048 → ℝ} {D : Fin 8192 → Fin 3136 → ℝ} {W : Fin 2048 → Fin 3136 → ℝ} {G : Fin 2048 → ℝ}
  (h0 : ∀ r k, (x0 (ix2 r k) : EReal) = (Z r k : ℝ)) (h1 : ∀ r k, (x1 (ix2 r k) : EReal) = (D r k : ℝ)) (h2 : ∀ r k, (x2 (ix2 r k) : EReal) = (X r k : ℝ)) (h3 : ∀ l k, (x3 (ix2 l k) : EReal) = (W l k : ℝ)) (h4 : ∀ k, (x4 (ix2 0 k) : EReal) = (G k : ℝ))

include h2 in
theorem r5 (r : Fin 8192) (k : Fin 2048) : (val_main_v5 x2 (ix2 r k) : EReal) = (cen (X r) k : ℝ) := by
  simp only [val_main_v5, val_main_v4, val_main_v3, val_main_v2, val_main_v1, val_main_v0, val_main_cst, val_main_cst_0]
  pointwise
  rw [mean_coe (X r) (by decide) _ (h2 r) _ ofBits_2048, h2, ← EReal.coe_sub]
  rfl

include h2 in
theorem r14 (r : Fin 8192) (j : Fin 1) : (val_main_v14 x2 (ix2 r j) : EReal) = (var (X r) + eps : ℝ) := by
  have h5 := r5 x2 h2 r
  simp only [val_main_v14, val_main_v13, val_main_v12, val_main_v11, val_main_v10, val_main_v9, val_main_v6, val_main_cst_4, val_main_cst_3, val_main_cst_2]
  generalize val_main_v5 x2 = v at h5 ⊢
  pointwise
  exact var_coe eps (X r) (by decide) _ h5 _ _ ofBits_2048 ofBits_eps

include h2 in
theorem r15 (r : Fin 8192) (j : Fin 1) : (val_main_v15 x2 (ix2 r j) : EReal) = (rs eps (X r) : ℝ) := by
  have h14 := r14 x2 h2 r
  simp only [val_main_v15]
  generalize val_main_v14 x2 = v at h14 ⊢
  pointwise
  exact rsqrt_den eps (X r) eps_pos _ (h14 _)

include h2 in
theorem r18 (r : Fin 8192) (j : Fin 1) : (val_main_v18 x2 (ix2 r j) : EReal) = (hs eps (X r) : ℝ) := by
  have h14 := r14 x2 h2 r
  have h15 := r15 x2 h2 r
  simp only [val_main_v18, val_main_v17, val_main_v16, val_main_cst_5]
  generalize val_main_v14 x2 = v at h14 ⊢
  generalize val_main_v15 x2 = w at h15 ⊢
  pointwise
  exact hs_coe eps (X r) eps_pos _ _ _ ofBits_neg_half (h15 _) (h14 _)

include h2 in
theorem r20 (r : Fin 8192) (k : Fin 2048) : (val_main_v20 x2 (ix2 r k) : EReal) = (xh eps (X r) k : ℝ) := by
  have h5 := r5 x2 h2 r
  have h15 := r15 x2 h2 r
  simp only [val_main_v20, val_main_v19]
  generalize val_main_v5 x2 = v at h5 ⊢
  generalize val_main_v15 x2 = w at h15 ⊢
  pointwise
  rw [h5, h15, ← EReal.coe_mul]
  rfl

include h0 h1 h3 in
theorem r31 (r : Fin 8192) (k : Fin 2048) : (val_main_v31 x0 x1 x3 (ix2 r k) : EReal) = (dR Z D W r k : ℝ) := by
  simp only [val_main_v31, val_main_v30, val_main_v29, val_main_v28, val_main_cst_7]
  pointwise
  rw [Cert.Rms.dot_coe (fun j => x1 (ix2 r j)) (fun j => x3 (ix2 k j)) (D r) (W k) (h1 r) (h3 k), h0, ofBits_alpha, ← EReal.coe_mul, ← EReal.coe_add]
  exact congrArg Real.toEReal (add_comm _ _)

include h0 h1 h2 h3 h4 in
theorem r50 (r : Fin 8192) (k : Fin 2048) : (val_main_v50 x0 x1 x2 x3 x4 (ix2 r k) : EReal) = (pre eps (X r) (fun k => dR Z D W r k * G k) k : ℝ) := by
  have h5 := r5 x2 h2 r
  have h15 := r15 x2 h2 r
  have h18 := r18 x2 h2 r
  have h31 := r31 x0 x1 x3 h0 h1 h3 r
  simp only [val_main_v50, val_main_v49, val_main_v48, val_main_v47, val_main_v46, val_main_v45, val_main_v44, val_main_v43, val_main_v42, val_main_v41, val_main_v40, val_main_v39, val_main_v38, val_main_v37, val_main_v8, val_main_v7, val_main_cst_1, val_main_cst_10, val_main_cst_11, val_main_cst_12]
  generalize val_main_v5 x2 = v5 at h5 ⊢
  generalize val_main_v15 x2 = v15 at h15 ⊢
  generalize val_main_v18 x2 = v18 at h18 ⊢
  generalize val_main_v31 x0 x1 x3 = v31 at h31 ⊢
  pointwise
  rw [Fin.sum_univ_one]
  exact pre_coe eps (X r) (fun k => dR Z D W r k * G k) (by decide) (fun k => (v31 (ix2 r k) : EReal) * (x4 (ix2 0 k) : EReal)) (fun k => v5 (ix2 r k)) (fun k => by rw [h31, h4]; exact (EReal.coe_mul _ _).symm) h5 _ _ _ _ (h15 _) (h18 _) ofBits_2048 ofBits_two k

include h0 h1 h2 h3 h4 in
theorem r58 (r : Fin 8192) (k : Fin 2048) : (val_main_v58 x0 x1 x2 x3 x4 (ix2 r k) : EReal) = ((back eps (X r) (fun k => dR Z D W r k * G k) k : ℝ) : EReal) := by
  have h50 := r50 x0 x1 x2 x3 x4 h0 h1 h2 h3 h4 r
  simp only [val_main_v58, val_main_v57, val_main_v56, val_main_v55, val_main_v54, val_main_v53, val_main_v52, val_main_v51, val_main_cst_13, val_main_cst_14, val_main_cst_15]
  generalize val_main_v50 x0 x1 x2 x3 x4 = v at h50 ⊢
  pointwise
  rw [Fin.sum_univ_one]
  exact pre_back eps (X r) (fun k => dR Z D W r k * G k) (by decide) eps_pos (fun k => v (ix2 r k)) h50 _ ofBits_2048 k

include h0 h1 h2 h3 in
theorem r36 (k : Fin 2048) : (val_main_v36 x0 x1 x2 x3 (ix2 0 k) : EReal) = ∑ r, fg Z D X W k r := by
  have h20 := fun r => r20 x2 h2 r k
  have h31 := fun r => r31 x0 x1 x3 h0 h1 h3 r k
  simp only [val_main_v36, val_main_v35, val_main_v34, val_main_cst_9]
  generalize val_main_v20 x2 = v at h20 ⊢
  generalize val_main_v31 x0 x1 x3 = w at h31 ⊢
  generalize hR : ∑ r, fg Z D X W k r = R
  pointwise
  rw [← hR]
  refine Finset.sum_congr rfl fun r _ => ?_
  rw [h20, h31, ← EReal.coe_mul]
  exact congrArg Real.toEReal (mul_comm _ _)

include h0 h1 h3 in
theorem r33 (k : Fin 2048) : (val_main_v33 x0 x1 x3 (ix2 0 k) : EReal) = ∑ r, fb Z D W k r := by
  have h31 := fun r => r31 x0 x1 x3 h0 h1 h3 r k
  simp only [val_main_v33, val_main_v32, val_main_cst_8]
  generalize val_main_v31 x0 x1 x3 = w at h31 ⊢
  generalize hR : ∑ r, fb Z D W k r = R
  pointwise
  rw [← hR]
  exact Finset.sum_congr rfl fun r _ => h31 r

end

section

open Idealize.ShloMosaic Idealize.SL.Sem TcCoe
open Cert.Finite

theorem real_args (x0 : FVec Ideal Cert.InLnInBwdIdeal.S8192x2048 .f32) (x1 : FVec Ideal Cert.InLnInBwdIdeal.S8192x3136 .f32) (x2 : FVec Ideal Cert.InLnInBwdIdeal.S8192x2048 .f32) (x3 : FVec Ideal Cert.InLnInBwdIdeal.S2048x3136 .f32) (x4 x5 : FVec Ideal Cert.InLnInBwdIdeal.S1x2048 .f32)
    (h : Cert.Pre_finite_in_dgrad_ln_in_bwd.fn (F := Ideal) x0 x1 x2 x3 x4 x5 = fun _ => 1#1) :
    (∀ i, ∃ r : ℝ, (x0 i : EReal) = r) ∧ (∀ i, ∃ r : ℝ, (x1 i : EReal) = r) ∧ (∀ i, ∃ r : ℝ, (x2 i : EReal) = r) ∧ (∀ i, ∃ r : ℝ, (x3 i : EReal) = r) ∧ (∀ i, ∃ r : ℝ, (x4 i : EReal) = r) := by
  have e := congrFun h ix0
  unfold Cert.Pre_finite_in_dgrad_ln_in_bwd.fn at e
  obtain ⟨e, h4⟩ := and_one e
  obtain ⟨e, h3⟩ := and_one e
  obtain ⟨e, h2⟩ := and_one e
  obtain ⟨e, h1⟩ := and_one e
  obtain ⟨-, h0⟩ := and_one e
  exact ⟨all_real _ _ _ _ _ h0, all_real _ _ _ _ _ h1, all_real _ _ _ _ _ h2, all_real _ _ _ _ _ h3, all_real _ _ _ _ _ h4⟩

/-- The precondition names the reals. -/
theorem reals (m : (ℓ : Loc Cert.InLnInBwdIdeal.nD Cert.InLnInBwdIdeal.τ Cert.InLnInBwdIdeal.sig) → Buf (Elt Ideal) ℓ) (hpre : Cert.Pre_InLnInBwdIdeal_finite_in_dgrad_ln_in_bwd m) (c : Dev Cert.InLnInBwdIdeal.nD) :
    ∃ Z D X W G, Reals m c Z D X W G := by
  obtain ⟨h0, h1, h2, h3, h4⟩ := real_args _ _ _ _ _ _ (hpre c)
  choose r0 h0 using h0
  choose r1 h1 using h1
  choose r2 h2 using h2
  choose r3 h3 using h3
  choose r4 h4 using h4
  exact ⟨fun q a => r0 (ix2 q a), fun q a => r1 (ix2 q a), fun q a => r2 (ix2 q a), fun q a => r3 (ix2 q a), fun a => r4 (ix2 0 a), fun q a => h0 _, fun q a => h1 _, fun q a => h2 _, fun q a => h3 _, fun a => h4 _⟩

/-- Over the extended reals, of finite arguments, the kernel's product with the input projection's weight and the gradients of the layer norm before it are `jax.vjp`'s. -/
theorem algebraic : Cert.algebraic_InLnInBwdIdeal_InLnInBwdRefIdeal_pre_finite_in_dgrad_ln_in_bwd := fun m ρ m' ρ' hpre hag =>
  ⟨fun c => (Cert.InLnInBwdIdeal.Gen.dats m 0 c).arrAt 5 Cert.InLnInBwdIdeal.cfg0.N, fun c => (Cert.InLnInBwdIdeal.Gen.dats m 0 c).arrAt 6 Cert.InLnInBwdIdeal.cfg0.N,
    fun c => (Cert.InLnInBwdIdeal.Gen.dats m 0 c).arrAt 7 Cert.InLnInBwdIdeal.cfg0.N, Cert.InLnInBwdIdeal.Value.run_blocks m ρ,
    (θ_run _ _ _).mono (fun r h c => by
      obtain ⟨Z, D, X, W, G, H⟩ := reals m hpre c
      obtain ⟨a0, a1, a2, a3, a4, a5⟩ := hag c
      obtain ⟨q0, q1, q2, rest⟩ := h c
      refine ⟨?_, ?_, ?_, rest⟩
      · rw [q0, Cert.InLnInBwdRefIdeal.Read.val_main_v58_eq, a0, a1, a2, a3, a4]
        refine ext2 _ _ fun i0 i1 => ?_
        exact (r58 _ _ _ _ _ H.1 H.2.1 H.2.2.1 H.2.2.2.1 H.2.2.2.2 i0 i1).trans (arr5 H i0 i1).symm
      · rw [q1, Cert.InLnInBwdRefIdeal.Read.val_main_v36_eq, a0, a1, a2, a3]
        refine ext2 _ _ fun i0 i1 => ?_
        obtain rfl : i0 = 0 := Subsingleton.elim _ _
        exact (r36 _ _ _ _ H.1 H.2.1 H.2.2.1 H.2.2.2.1 i1).trans (arr6 H i1).symm
      · rw [q2, Cert.InLnInBwdRefIdeal.Read.val_main_v33_eq, a0, a1, a3]
        refine ext2 _ _ fun i0 i1 => ?_
        obtain rfl : i0 = 0 := Subsingleton.elim _ _
        exact (r33 _ _ _ H.1 H.2.1 H.2.2.2.1 i1).trans (arr7 H i1).symm)
      (Cert.InLnInBwdRefIdeal.Value.run m' ρ')⟩

end

end Cert.LnIn

end
-- ==== Proof.Ln1.lean ====
/- Hand-written, untrusted: the gradient of the second layer norm, after the product with the feed-forward layer's first weight. -/
module

public import proofs.«01_k».proof.Proof.LnIn
public import proofs.«01_k».proof.Proof.Gen.Pre_finite_ff1_dgrad_ln1_bwd
public import proofs.«01_k».proof.Proof.Gen.Ff1Ln1BwdIdeal.Value
public import proofs.«01_k».proof.Proof.Gen.Ff1Ln1BwdRefIdeal.Read

@[expose] public section

set_option maxRecDepth 16384

noncomputable section

namespace Cert.Ln1

open Cert.Common Cert.Norm Cert.LnTail

section

open Cert.Ff1Ln1BwdIdeal Cert.Ff1Ln1BwdIdeal.Gen Idealize.ShloMosaic TcCoe Idealize.SL.Sem

variable (a : Vec Ideal S512x1024 .bf16) (b : Vec Ideal S1x2048x1024 .bf16) (z : Vec Ideal S512x2048 .f32) (x : Vec Ideal S512x2048 .f32) (g : Vec Ideal S1x2048 .f32) (p : Vec Ideal S512x2048 .f32) (u v : Vec Ideal S1x2048 .f32)

theorem pay1 (r : Fin 512) (k : Fin 2048) : (k0_pay1 (F := Ideal) (ix2 r k) : EReal) = 0 := Cert.LnIn.pay1 r k

theorem pay2 (r : Fin 512) (k : Fin 2048) : (k0_pay2 p a b (ix2 r k) : EReal) = (p (ix2 r k) : EReal) + ∑ j, (a (ix2 r j) : EReal) * (b (ix3 0 k j) : EReal) := by
  unfold k0_pay2
  pointwise
  try simp only [shapeCast_self]

section

variable (A z x : Vec Ideal S128x2048 .f32) (u w : Vec Ideal S1x2048 .f32) (g : Vec Ideal S1x2048 .f32)

theorem g0 : k0_pay9 A z x = Cert.InLnInBwdIdeal.Gen.k0_pay7 A z x := rfl

theorem g0' : k0_pay10 A z x u = Cert.InLnInBwdIdeal.Gen.k0_pay8 A z x u := rfl

theorem g1 : k0_pay20 (k0_pay15 A z) (k0_pay16 x) (k0_pay17 x) u = Cert.InLnInBwdIdeal.Gen.k0_pay8 A z x u := rfl

theorem g2 : k0_pay30 A z x u = Cert.InLnInBwdIdeal.Gen.k0_pay8 A z x u := rfl

theorem g3 : k0_pay40 (k0_pay35 A z) x (k0_pay36 x) (FloatOps.ofBits (F := Ideal) FTy.f32 0x45000000#32) u = Cert.InLnInBwdIdeal.Gen.k0_pay8 A z x u := rfl

theorem b0 : k0_pay11 A z = Cert.InLnInBwdIdeal.Gen.k0_pay9 A z := rfl

theorem b0' : k0_pay12 w u = Cert.InLnInBwdIdeal.Gen.k0_pay10 w u := rfl

theorem b1 : k0_pay21 (k0_pay15 A z) u = Cert.InLnInBwdIdeal.Gen.k0_pay10 (Cert.InLnInBwdIdeal.Gen.k0_pay9 A z) u := rfl

theorem b2 : k0_pay32 (k0_pay31 A z) u = Cert.InLnInBwdIdeal.Gen.k0_pay10 (Cert.InLnInBwdIdeal.Gen.k0_pay9 A z) u := rfl

theorem b3 : k0_pay41 (k0_pay35 A z) u = Cert.InLnInBwdIdeal.Gen.k0_pay10 (Cert.InLnInBwdIdeal.Gen.k0_pay9 A z) u := rfl

/-- The rows' gradient of a chunk. -/
def chunkX (A z x : Vec Ideal S128x2048 .f32) (g : Vec Ideal S1x2048 .f32) : Vec Ideal S128x2048 .f32 := Cert.InLnInBwdIdeal.Gen.k0_pay11 (Cert.InLnInBwdIdeal.Gen.k0_pay3 A z) (Cert.InLnInBwdIdeal.Gen.k0_pay5 x) (Cert.InLnInBwdIdeal.Gen.k0_pay6 x) g

theorem x0 : k0_pay13 (k0_pay5 A z) (k0_pay7 x) (k0_pay8 x) g = chunkX A z x g := rfl

theorem x1 : k0_pay24 (k0_pay22 (k0_pay15 A z) (k0_pay16 x) (k0_pay17 x) g) (k0_pay23 (k0_pay17 x)) = chunkX A z x g := rfl

theorem x2 : k0_pay33 (k0_pay26 A z) (k0_pay28 x) (k0_pay29 x) g = chunkX A z x g := rfl

theorem x3 : k0_pay3 (k0_pay38 x (k0_pay36 x) (FloatOps.ofBits (F := Ideal) FTy.f32 0x45000000#32)) (k0_pay39 x (k0_pay36 x) (FloatOps.ofBits (F := Ideal) FTy.f32 0x45000000#32)) (k0_pay42 (k0_pay35 A z) g) (k0_pay43 (k0_pay35 A z) g)
    (k0_pay44 (k0_pay35 A z) x (k0_pay36 x) (FloatOps.ofBits (F := Ideal) FTy.f32 0x45000000#32) g) = chunkX A z x g := rfl

theorem y0 : k0_pay14 (k0_pay5 A z) (k0_pay7 x) (k0_pay8 x) g = truncf (F := Ideal) .bf16 (chunkX A z x g) bitsLt_bf16_f32 := rfl

theorem y1 : k0_pay25 (k0_pay22 (k0_pay15 A z) (k0_pay16 x) (k0_pay17 x) g) (k0_pay23 (k0_pay17 x)) = truncf (F := Ideal) .bf16 (chunkX A z x g) bitsLt_bf16_f32 := rfl

theorem y2 : k0_pay34 (k0_pay26 A z) (k0_pay28 x) (k0_pay29 x) g = truncf (F := Ideal) .bf16 (chunkX A z x g) bitsLt_bf16_f32 := rfl

theorem y3 : k0_pay4 (k0_pay38 x (k0_pay36 x) (FloatOps.ofBits (F := Ideal) FTy.f32 0x45000000#32)) (k0_pay39 x (k0_pay36 x) (FloatOps.ofBits (F := Ideal) FTy.f32 0x45000000#32)) (k0_pay42 (k0_pay35 A z) g) (k0_pay43 (k0_pay35 A z) g)
    (k0_pay44 (k0_pay35 A z) x (k0_pay36 x) (FloatOps.ofBits (F := Ideal) FTy.f32 0x45000000#32) g) = truncf (F := Ideal) .bf16 (chunkX A z x g) bitsLt_bf16_f32 := rfl

end

variable {c : Dev nD} {i : grid0.Coords} {arg3 : Memref sig .tc .vmem S512x1024 .bf16} {hw3 : arg3.IsWhole} {arg4 : Memref sig .tc .vmem S1x2048x1024 .bf16} {hw4 : arg4.IsWhole} {arg5 : Memref sig .tc .vmem S512x2048 .f32} {hw5 : arg5.IsWhole} {arg6 : Memref sig .tc .vmem S512x2048 .f32} {hw6 : arg6.IsWhole} {arg7 : Memref sig .tc .vmem S1x2048 .f32} {hw7 : arg7.IsWhole} {arg8 : Memref sig .tc .vmem S512x2048 .f32} {hw8 : arg8.IsWhole} {arg9 : Memref sig .tc .vmem S512x2048 .bf16} {hw9 : arg9.IsWhole} {arg10 : Memref sig .tc .vmem S1x2048 .f32} {hw10 : arg10.IsWhole} {arg11 : Memref sig .tc .vmem S1x2048 .f32} {hw11 : arg11.IsWhole} {arg12 : Memref sig .tc .vmem S512x2048 .f32} {hw12 : arg12.IsWhole}

theorem A_s (hc0 : cond0_0 i) (hc1 : ¬cond0_1 i) : sout0_A_0 c i _ hw3 _ hw4 _ hw5 _ hw6 _ hw7 _ hw8 _ hw9 _ hw10 _ hw11 _ hw12 hc0 hc1 a b z x g = k0_pay2 k0_pay1 a b := by
  unfold sout0_A_0
  rw [wr (fun _ => scover0_A_0 ..)]
  unfold kernelRun0_A
  dsimp only
  sl_unfold_words
  simp (disch := assumption) only [rd, ld0 S512x1024, ld0 S1x2048x1024, c0 S512x2048, View.readCov_cons_toLoadRect]
  try rfl

theorem B_s (hc0 : ¬cond0_0 i) (hc1 : ¬cond0_1 i) : sout0_B_0 c i _ hw3 _ hw4 _ hw5 _ hw6 _ hw7 _ hw8 _ hw9 _ hw10 _ hw11 _ hw12 hc0 hc1 a b z x g p = k0_pay2 p a b := by
  unfold sout0_B_0
  rw [wr (fun _ => scover0_B_0 ..)]
  unfold kernelRun0_B
  dsimp only
  sl_unfold_words
  simp (disch := assumption) only [rd, ld0 S512x1024, ld0 S1x2048x1024, ld0 S512x2048, c0 S512x2048]
  try rfl

theorem C_s (hc0 : ¬cond0_0 i) (hc1 : cond0_1 i) (hc2 : cond0_2 i) (hc3 : ¬cond0_3 i) (hc4 : cond0_4 i) (hc5 : ¬cond0_5 i) : sout0_C_0 c i _ hw3 _ hw4 _ hw5 _ hw6 _ hw7 _ hw8 _ hw9 _ hw10 _ hw11 _ hw12 hc0 hc1 hc2 hc3 hc4 hc5 a b z x g p = k0_pay2 p a b := by
  unfold sout0_C_0
  rw [wr (fun _ => scover0_C_0 ..)]
  unfold kernelRun0_C
  dsimp only
  sl_unfold_words
  simp (disch := assumption) only [rd, ld0 S512x1024, ld0 S1x2048x1024, ld0 S512x2048, c0 S512x2048]
  try rfl

theorem D_s (hc0 : ¬cond0_0 i) (hc1 : cond0_1 i) (hc2 : ¬cond0_2 i) (hc3 : cond0_3 i) (hc4 : ¬cond0_4 i) (hc5 : cond0_5 i) : sout0_D_0 c i _ hw3 _ hw4 _ hw5 _ hw6 _ hw7 _ hw8 _ hw9 _ hw10 _ hw11 _ hw12 hc0 hc1 hc2 hc3 hc4 hc5 a b z x g u v p = k0_pay2 p a b := by
  unfold sout0_D_0
  rw [wr (fun _ => scover0_D_0 ..)]
  unfold kernelRun0_D
  dsimp only
  sl_unfold_words
  simp (disch := assumption) only [rd, ld0 S512x1024, ld0 S1x2048x1024, ld0 S512x2048, c0 S512x2048]
  try rfl

theorem C_7 (hc0 : ¬cond0_0 i) (hc1 : cond0_1 i) (hc2 : cond0_2 i) (hc3 : ¬cond0_3 i) (hc4 : cond0_4 i) (hc5 : ¬cond0_5 i) : out0_C_7 c i _ hw3 _ hw4 _ hw5 _ hw6 _ hw7 _ hw8 _ hw9 _ hw10 _ hw11 _ hw12 hc0 hc1 hc2 hc3 hc4 hc5 a b z x g p = tileG (k0_pay2 p a b) z x (Cert.InLnInBwdIdeal.Gen.k0_pay7 (ch 0 (k0_pay2 p a b)) (ch 0 z) (ch 0 x)) := by
  unfold out0_C_7
  rw [wr (fun _ => cover0_C_7 ..)]
  unfold kernelRun0_C
  dsimp only
  sl_unfold_words
  simp (disch := assumption) only [rd, ld0 S512x1024, ld0 S1x2048x1024, ld0 S512x2048, c0 S1x2048, View.readCov_cons_toLoadRect, lch 0 0, lch 1 128, lch 2 256, lch 3 384, rch 0 0, rch 1 128, rch 2 256, rch 3 384, g0, g1, g2, g3]
  try rfl

theorem D_7 (hc0 : ¬cond0_0 i) (hc1 : cond0_1 i) (hc2 : ¬cond0_2 i) (hc3 : cond0_3 i) (hc4 : ¬cond0_4 i) (hc5 : cond0_5 i) : out0_D_7 c i _ hw3 _ hw4 _ hw5 _ hw6 _ hw7 _ hw8 _ hw9 _ hw10 _ hw11 _ hw12 hc0 hc1 hc2 hc3 hc4 hc5 a b z x g u v p = tileG (k0_pay2 p a b) z x (Cert.InLnInBwdIdeal.Gen.k0_pay8 (ch 0 (k0_pay2 p a b)) (ch 0 z) (ch 0 x) u) := by
  unfold out0_D_7
  rw [wr (fun _ => cover0_D_7 ..)]
  unfold kernelRun0_D
  dsimp only
  sl_unfold_words
  simp (disch := assumption) only [rd, ld0 S512x1024, ld0 S1x2048x1024, ld0 S512x2048, ld0 S1x2048, c0 S1x2048, View.readCov_cons_toLoadRect, lch 0 0, lch 1 128, lch 2 256, lch 3 384, rch 0 0, rch 1 128, rch 2 256, rch 3 384, g0', g1, g2, g3]
  try rfl

theorem C_8 (hc0 : ¬cond0_0 i) (hc1 : cond0_1 i) (hc2 : cond0_2 i) (hc3 : ¬cond0_3 i) (hc4 : cond0_4 i) (hc5 : ¬cond0_5 i) : out0_C_8 c i _ hw3 _ hw4 _ hw5 _ hw6 _ hw7 _ hw8 _ hw9 _ hw10 _ hw11 _ hw12 hc0 hc1 hc2 hc3 hc4 hc5 a b z x g p = tileB (k0_pay2 p a b) z (Cert.InLnInBwdIdeal.Gen.k0_pay9 (ch 0 (k0_pay2 p a b)) (ch 0 z)) := by
  unfold out0_C_8
  rw [wr (fun _ => cover0_C_8 ..)]
  unfold kernelRun0_C
  dsimp only
  sl_unfold_words
  simp (disch := assumption) only [rd, ld0 S512x1024, ld0 S1x2048x1024, ld0 S512x2048, c0 S1x2048, View.readCov_cons_toLoadRect, lch 0 0, lch 1 128, lch 2 256, lch 3 384, rch 0 0, rch 1 128, rch 2 256, rch 3 384, b0, b1, b2, b3]
  try rfl

theorem D_8 (hc0 : ¬cond0_0 i) (hc1 : cond0_1 i) (hc2 : ¬cond0_2 i) (hc3 : cond0_3 i) (hc4 : ¬cond0_4 i) (hc5 : cond0_5 i) : out0_D_8 c i _ hw3 _ hw4 _ hw5 _ hw6 _ hw7 _ hw8 _ hw9 _ hw10 _ hw11 _ hw12 hc0 hc1 hc2 hc3 hc4 hc5 a b z x g u v p = tileB (k0_pay2 p a b) z (Cert.InLnInBwdIdeal.Gen.k0_pay10 (Cert.InLnInBwdIdeal.Gen.k0_pay9 (ch 0 (k0_pay2 p a b)) (ch 0 z)) v) := by
  unfold out0_D_8
  rw [wr (fun _ => cover0_D_8 ..)]
  unfold kernelRun0_D
  dsimp only
  sl_unfold_words
  simp (disch := assumption) only [rd, ld0 S512x1024, ld0 S1x2048x1024, ld0 S512x2048, ld0 S1x2048, c0 S1x2048, View.readCov_cons_toLoadRect, lch 0 0, lch 1 128, lch 2 256, lch 3 384, rch 0 0, rch 1 128, rch 2 256, rch 3 384, b0, b0', b1, b2, b3]
  try rfl

theorem C_5 (hc0 : ¬cond0_0 i) (hc1 : cond0_1 i) (hc2 : cond0_2 i) (hc3 : ¬cond0_3 i) (hc4 : cond0_4 i) (hc5 : ¬cond0_5 i) (r : Fin 512) (k : Fin 2048) : (out0_C_5 c i _ hw3 _ hw4 _ hw5 _ hw6 _ hw7 _ hw8 _ hw9 _ hw10 _ hw11 _ hw12 hc0 hc1 hc2 hc3 hc4 hc5 a b z x g p (ix2 r k) : EReal) = (tileX (k0_pay2 p a b) z x g ⟨r.val / 128, by omega⟩ (ix2 ⟨r.val % 128, by omega⟩ k) : EReal) := by
  unfold out0_C_5
  rw [wr (fun _ => cover0_C_5 ..)]
  unfold kernelRun0_C
  dsimp only
  sl_unfold_words
  simp (disch := assumption) only [rd, ld0 S512x1024, ld0 S1x2048x1024, ld0 S512x2048, ld0 S1x2048, lch 0 0, lch 1 128, lch 2 256, lch 3 384, rch 0 0, rch 1 128, rch 2 256, rch 3 384, x0, x1, x2, x3]
  exact canon_tile (e := .f32) (fun q => chunkX (ch q (k0_pay2 p a b)) (ch q z) (ch q x) g) _ _ _ _ r k

theorem D_5 (hc0 : ¬cond0_0 i) (hc1 : cond0_1 i) (hc2 : ¬cond0_2 i) (hc3 : cond0_3 i) (hc4 : ¬cond0_4 i) (hc5 : cond0_5 i) (r : Fin 512) (k : Fin 2048) : (out0_D_5 c i _ hw3 _ hw4 _ hw5 _ hw6 _ hw7 _ hw8 _ hw9 _ hw10 _ hw11 _ hw12 hc0 hc1 hc2 hc3 hc4 hc5 a b z x g u v p (ix2 r k) : EReal) = (tileX (k0_pay2 p a b) z x g ⟨r.val / 128, by omega⟩ (ix2 ⟨r.val % 128, by omega⟩ k) : EReal) := by
  unfold out0_D_5
  rw [wr (fun _ => cover0_D_5 ..)]
  unfold kernelRun0_D
  dsimp only
  sl_unfold_words
  simp (disch := assumption) only [rd, ld0 S512x1024, ld0 S1x2048x1024, ld0 S512x2048, ld0 S1x2048, lch 0 0, lch 1 128, lch 2 256, lch 3 384, rch 0 0, rch 1 128, rch 2 256, rch 3 384, x0, x1, x2, x3]
  exact canon_tile (e := .f32) (fun q => chunkX (ch q (k0_pay2 p a b)) (ch q z) (ch q x) g) _ _ _ _ r k

theorem C_6 (hc0 : ¬cond0_0 i) (hc1 : cond0_1 i) (hc2 : cond0_2 i) (hc3 : ¬cond0_3 i) (hc4 : cond0_4 i) (hc5 : ¬cond0_5 i) (r : Fin 512) (k : Fin 2048) : (out0_C_6 c i _ hw3 _ hw4 _ hw5 _ hw6 _ hw7 _ hw8 _ hw9 _ hw10 _ hw11 _ hw12 hc0 hc1 hc2 hc3 hc4 hc5 a b z x g p (ix2 r k) : EReal) = (tileX (k0_pay2 p a b) z x g ⟨r.val / 128, by omega⟩ (ix2 ⟨r.val % 128, by omega⟩ k) : EReal) := by
  unfold out0_C_6
  rw [wr (fun _ => cover0_C_6 ..)]
  unfold kernelRun0_C
  dsimp only
  sl_unfold_words
  simp (disch := assumption) only [rd, ld0 S512x1024, ld0 S1x2048x1024, ld0 S512x2048, ld0 S1x2048, lch 0 0, lch 1 128, lch 2 256, lch 3 384, rch 0 0, rch 1 128, rch 2 256, rch 3 384, y0, y1, y2, y3]
  exact canon_tile (e := .bf16) (fun q => truncf (F := Ideal) .bf16 (chunkX (ch q (k0_pay2 p a b)) (ch q z) (ch q x) g) bitsLt_bf16_f32) _ _ _ _ r k

theorem D_6 (hc0 : ¬cond0_0 i) (hc1 : cond0_1 i) (hc2 : ¬cond0_2 i) (hc3 : cond0_3 i) (hc4 : ¬cond0_4 i) (hc5 : cond0_5 i) (r : Fin 512) (k : Fin 2048) : (out0_D_6 c i _ hw3 _ hw4 _ hw5 _ hw6 _ hw7 _ hw8 _ hw9 _ hw10 _ hw11 _ hw12 hc0 hc1 hc2 hc3 hc4 hc5 a b z x g u v p (ix2 r k) : EReal) = (tileX (k0_pay2 p a b) z x g ⟨r.val / 128, by omega⟩ (ix2 ⟨r.val % 128, by omega⟩ k) : EReal) := by
  unfold out0_D_6
  rw [wr (fun _ => cover0_D_6 ..)]
  unfold kernelRun0_D
  dsimp only
  sl_unfold_words
  simp (disch := assumption) only [rd, ld0 S512x1024, ld0 S1x2048x1024, ld0 S512x2048, ld0 S1x2048, lch 0 0, lch 1 128, lch 2 256, lch 3 384, rch 0 0, rch 1 128, rch 2 256, rch 3 384, y0, y1, y2, y3]
  exact canon_tile (e := .bf16) (fun q => truncf (F := Ideal) .bf16 (chunkX (ch q (k0_pay2 p a b)) (ch q z) (ch q x) g) bitsLt_bf16_f32) _ _ _ _ r k

end

section

open Cert.Ff1Ln1BwdIdeal Cert.Ff1Ln1BwdIdeal.Gen Idealize.ShloMosaic TcCoe Idealize.SL.Sem

/-- The arguments are arrays of real numbers. -/
def Reals (m : (ℓ : Loc nD τ sig) → Buf (Elt Ideal) ℓ) (c : Dev nD) (Z : Fin 8192 → Fin 2048 → ℝ) (D : Fin 8192 → Fin 8192 → ℝ) (X : Fin 8192 → Fin 2048 → ℝ) (W : Fin 2048 → Fin 8192 → ℝ) (G : Fin 2048 → ℝ) : Prop :=
  (∀ q k, @Eq EReal ((m (lc c main_arg0) : S8192x2048.Idx → EReal) (ix2 q k)) (Z q k : ℝ))
  ∧ (∀ q k, @Eq EReal ((m (lc c main_arg1) : S8192x8192.Idx → EReal) (ix2 q k)) (D q k : ℝ))
  ∧ (∀ q k, @Eq EReal ((m (lc c main_arg2) : S8192x2048.Idx → EReal) (ix2 q k)) (X q k : ℝ))
  ∧ (∀ l k, @Eq EReal ((m (lc c main_arg3) : S2048x8192.Idx → EReal) (ix2 l k)) (W l k : ℝ))
  ∧ (∀ k, @Eq EReal ((m (lc c main_arg4) : S1x2048.Idx → EReal) (ix2 0 k)) (G k : ℝ))

theorem idx_facts : ∀ t : Fin grid0.N, (win0_0.index t ax0 = t.val / 8 ∧ win0_0.index t ax1 = t.val % 8) ∧ (win0_1.index t (0 : Fin 3) = t.val % 8 ∧ win0_1.index t (1 : Fin 3) = 0 ∧ win0_1.index t (2 : Fin 3) = 0)
    ∧ (win0_2.index t ax0 = t.val / 8 ∧ win0_2.index t ax1 = 0) ∧ (win0_3.index t ax0 = t.val / 8 ∧ win0_3.index t ax1 = 0) ∧ (win0_4.index t ax0 = 0 ∧ win0_4.index t ax1 = 0)
    ∧ (win0_5.index t ax0 = t.val / 8 ∧ win0_5.index t ax1 = 0) ∧ (win0_6.index t ax0 = t.val / 8 ∧ win0_6.index t ax1 = 0) ∧ (win0_7.index t ax0 = 0 ∧ win0_7.index t ax1 = 0) ∧ (win0_8.index t ax0 = 0 ∧ win0_8.index t ax1 = 0) := by
  decide +kernel

/-- Row `r` of the tile of point `t`. -/
def at_ (a : Fin cfg0.N) (r : Fin 512) : Fin 8192 := ⟨512 * (a.val / 8) + r.val, by have h : a.val < 128 := a.isLt; omega⟩

/-- Column `j` of the block of point `t`. -/
def col (a : Fin cfg0.N) (j : Fin 1024) : Fin 8192 := ⟨1024 * (a.val % 8) + j.val, by omega⟩

variable {m : (ℓ : Loc nD τ sig) → Buf (Elt Ideal) ℓ} {c : Dev nD}

theorem V_a (q : Fin 8192) (a : Fin 8192) : (V m c main_v3 (ix2 q a) : EReal) = ((m (lc c main_arg1) : S8192x8192.Idx → EReal) (ix2 q a) : EReal) := by
  have hv : V m c main_v3 = truncf (F := Ideal) .bf16 (m (lc c main_arg1)) bitsLt_bf16_f32 := by
    unfold V
    after_results
    try rfl
  rw [hv]
  rfl

theorem blocks (x : S2048x8192.Idx → EReal) (j : Fin 8) (l : Fin 2048) (a : Fin 1024) :
    (transpose S8x2048x1024 [1, 0, 2] (shapeCast (s := S2048x8192) S2048x8x1024 x shapeCasts_S2048x8192_S2048x8x1024) transposes_S2048x8x1024_S8x2048x1024_1_0_2 (ix3 j l a) : EReal) = x (ix2 l ⟨1024 * j.val + a.val, by omega⟩) := by
  generalize hg : x (ix2 l ⟨1024 * j.val + a.val, by omega⟩) = g
  pointwise
  rw [← hg]
  exact congrArg (fun n => x (ix2 l n)) (Fin.ext (by show j.val * 1024 + a.val = 1024 * j.val + a.val; omega))

theorem V_b (j : Fin 8) (l : Fin 2048) (a : Fin 1024) : (V m c main_v2 (ix3 j l a) : EReal) = ((m (lc c main_arg3) : S2048x8192.Idx → EReal) (ix2 l ⟨1024 * j.val + a.val, by omega⟩) : EReal) := by
  have hv : V m c main_v2 = truncf (F := Ideal) .bf16 (transpose S8x2048x1024 [1, 0, 2] (shapeCast (s := S2048x8192) S2048x8x1024 (m (lc c main_arg3)) shapeCasts_S2048x8192_S2048x8x1024) transposes_S2048x8x1024_S8x2048x1024_1_0_2) bitsLt_bf16_f32 := by
    unfold V
    after_results
    try rfl
  rw [hv]
  exact blocks (m (lc c main_arg3)) j l a

theorem V_z : V m c main_arg0 = m (lc c main_arg0) := by
  unfold V
  after_results
  try rfl

theorem V_x : V m c main_arg2 = m (lc c main_arg2) := by
  unfold V
  after_results
  try rfl

theorem V_g : V m c main_arg4 = m (lc c main_arg4) := by
  unfold V
  after_results
  try rfl

/-- The cotangent of the normed row. -/
def dR (Z : Fin 8192 → Fin 2048 → ℝ) (D : Fin 8192 → Fin 8192 → ℝ) (W : Fin 2048 → Fin 8192 → ℝ) (q : Fin 8192) (k : Fin 2048) : ℝ := alpha * Z q k + ∑ j, D q j * W k j

variable {Z X : Fin 8192 → Fin 2048 → ℝ} {D : Fin 8192 → Fin 8192 → ℝ} {W : Fin 2048 → Fin 8192 → ℝ} {G : Fin 2048 → ℝ} (H : Reals m c Z D X W G) (t : Fin cfg0.N)

include H

theorem blk_a (r : Fin 512) (j : Fin 1024) : (iblk m c 0 t (ix2 r j) : EReal) = ((D (at_ t r) (col t j) : ℝ) : EReal) := by
  obtain ⟨⟨e0, e1⟩, -⟩ := idx_facts t
  refine Eq.trans (Eq.trans ?_ (V_a (m := m) (c := c) (at_ t r) (col t j))) (H.2.1 (at_ t r) (col t j))
  exact read2 (V m c main_v3) _ _ (by show win0_0.index t ax0 * 512 + 1 * r.val = 512 * (t.val / 8) + r.val; omega) (by show win0_0.index t ax1 * 1024 + 1 * j.val = 1024 * (t.val % 8) + j.val; omega)

theorem blk_b (l : Fin 2048) (j : Fin 1024) : (iblk m c 1 t (ix3 0 l j) : EReal) = ((W l (col t j) : ℝ) : EReal) := by
  obtain ⟨-, ⟨e0, e1, e2⟩, -⟩ := idx_facts t
  refine Eq.trans (Eq.trans ?_ (V_b (m := m) (c := c) ⟨t.val % 8, by omega⟩ l j)) (H.2.2.2.1 l (col t j))
  exact read3 (V m c main_v2) _ _ (by show win0_1.index t (0 : Fin 3) * 1 + 1 * 0 = t.val % 8; omega) (by show win0_1.index t (1 : Fin 3) * 2048 + 1 * l.val = l.val; omega) (by show win0_1.index t (2 : Fin 3) * 1024 + 1 * j.val = j.val; omega)

theorem blk_z (r : Fin 512) (k : Fin 2048) : (iblk m c 2 t (ix2 r k) : EReal) = ((Z (at_ t r) k : ℝ) : EReal) := by
  obtain ⟨-, -, ⟨e0, e1⟩, -⟩ := idx_facts t
  refine Eq.trans (Eq.trans ?_ (congrFun (V_z (m := m) (c := c)) (ix2 (at_ t r) k))) (H.1 (at_ t r) k)
  exact read2 (V m c main_arg0) _ _ (by show win0_2.index t ax0 * 512 + 1 * r.val = 512 * (t.val / 8) + r.val; omega) (by show win0_2.index t ax1 * 2048 + 1 * k.val = k.val; omega)

theorem blk_x (r : Fin 512) (k : Fin 2048) : (iblk m c 3 t (ix2 r k) : EReal) = ((X (at_ t r) k : ℝ) : EReal) := by
  obtain ⟨-, -, -, ⟨e0, e1⟩, -⟩ := idx_facts t
  refine Eq.trans (Eq.trans ?_ (congrFun (V_x (m := m) (c := c)) (ix2 (at_ t r) k))) (H.2.2.1 (at_ t r) k)
  exact read2 (V m c main_arg2) _ _ (by show win0_3.index t ax0 * 512 + 1 * r.val = 512 * (t.val / 8) + r.val; omega) (by show win0_3.index t ax1 * 2048 + 1 * k.val = k.val; omega)

theorem blk_g (k : Fin 2048) : (iblk m c 4 t (ix2 0 k) : EReal) = ((G k : ℝ) : EReal) := by
  obtain ⟨-, -, -, -, ⟨e0, e1⟩, -⟩ := idx_facts t
  refine Eq.trans (Eq.trans ?_ (congrFun (V_g (m := m) (c := c)) (ix2 0 k))) (H.2.2.2.2 k)
  exact read2 (V m c main_arg4) _ _ (by show win0_4.index t ax0 * 1 + 1 * 0 = 0; omega) (by show win0_4.index t ax1 * 2048 + 1 * k.val = k.val; omega)

omit H in
/-- A row of the packed product, its terms. -/
def term (D : Fin 8192 → Fin 8192 → ℝ) (W : Fin 2048 → Fin 8192 → ℝ) (q : Fin 8192) (k : Fin 2048) (a : Fin 8192) : EReal := ((D q a * W k a : ℝ) : EReal)

theorem dot (r : Fin 512) (k : Fin 2048) : ∑ j : Fin 1024, @HMul.hMul EReal EReal EReal _ (iblk m c 0 t (ix2 r j)) (iblk m c 1 t (ix3 0 k j)) = ∑ j : Fin 1024, ext0 (term D W (at_ t r) k) (1024 * (t.val % 8) + j.val) :=
  Finset.sum_congr rfl fun j _ => by
    exact (congrArg₂ (fun x y : EReal => x * y) (blk_a H t r j) (blk_b H t k j)).trans ((EReal.coe_mul _ _).symm.trans (ext0_of (term D W (at_ t r) k) _ (col t j).isLt).symm)

omit H in
/-- What the point before left in the accumulator. -/
def prev (m : (ℓ : Loc nD τ sig) → Buf (Elt Ideal) ℓ) (c : Dev nD) (t : Fin cfg0.N) : Vec Ideal S512x2048 .f32 := (outsAt0 m c (t.val - 1) (Nat.lt_of_le_of_lt (Nat.sub_le _ _) t.isLt)).2.2.2.2

omit H in
theorem scr_first (h : t.val % 8 = 0) : (outsAt0 m c t.val t.isLt).2.2.2.2 = k0_pay2 k0_pay1 (iblk m c 0 t) (iblk m c 1 t) := by
  refine Eq.trans (congrArg (fun p => p.2.2.2.2) (outsAt0_A m c t h (by omega))) ?_
  dsimp only
  exact A_s _ _ _ _ _ _ _

omit H in
theorem scr_next (h : ¬ t.val % 8 = 0) : (outsAt0 m c t.val t.isLt).2.2.2.2 = k0_pay2 (prev m c t) (iblk m c 0 t) (iblk m c 1 t) := by
  by_cases h1 : t.val % 8 = 7
  · by_cases h2 : t.val < 8
    · refine Eq.trans (congrArg (fun p => p.2.2.2.2) (outsAt0_C m c t h h1 h2 (by omega) h2 (by omega))) ?_
      dsimp only
      exact C_s _ _ _ _ _ _ _ _ _ _ _ _
    · refine Eq.trans (congrArg (fun p => p.2.2.2.2) (outsAt0_D m c t h h1 h2 (by omega) h2 (by omega))) ?_
      dsimp only
      exact D_s _ _ _ _ _ _ _ _ _ _ _ _ _ _
  · refine Eq.trans (congrArg (fun p => p.2.2.2.2) (outsAt0_B m c t h h1)) ?_
    dsimp only
    exact B_s _ _ _ _ _ _ _ _

omit H t in
/-- Row `r` of row tile `i`. -/
def row (i : ℕ) (r : Fin 512) : Fin 8192 := ⟨(512 * i + r.val) % 8192, Nat.mod_lt _ (by decide)⟩

omit H in
theorem row_eq (r : Fin 512) : at_ t r = row (t.val / 8) r := Fin.ext (by
  have h : t.val < 128 := t.isLt
  show 512 * (t.val / 8) + r.val = (512 * (t.val / 8) + r.val) % 8192
  omega)

/-- A block's part of the product, by its row tile and its place. -/
theorem part (r : Fin 512) (k : Fin 2048) (j : ℕ) (hj : t.val % 8 = j) : ∑ j : Fin 1024, @HMul.hMul EReal EReal EReal _ (iblk m c 0 t (ix2 r j)) (iblk m c 1 t (ix3 0 k j)) = ∑ a : Fin 1024, ext0 (term D W (row (t.val / 8) r) k) (1024 * j + a.val) := by
  subst hj
  exact (dot H t r k).trans (by rw [row_eq])

theorem scr_first' (h : t.val % 8 = 0) (r : Fin 512) (k : Fin 2048) : ((outsAt0 m c t.val t.isLt).2.2.2.2 (ix2 r k) : EReal) = ∑ a : Fin 1024, ext0 (term D W (row (t.val / 8) r) k) (1024 * 0 + a.val) := by
  rw [scr_first t h, pay2, pay1, zero_add]
  exact part H t r k 0 h

theorem scr_next' (h : ¬ t.val % 8 = 0) (r : Fin 512) (k : Fin 2048) : ((outsAt0 m c t.val t.isLt).2.2.2.2 (ix2 r k) : EReal) = (prev m c t (ix2 r k) : EReal) + ∑ a : Fin 1024, ext0 (term D W (row (t.val / 8) r) k) (1024 * (t.val % 8) + a.val) := by
  rw [scr_next t h, pay2]
  exact congrArg (fun y : EReal => (prev m c t (ix2 r k) : EReal) + y) (part H t r k _ rfl)

theorem scr (r : Fin 512) (k : Fin 2048) : ((outsAt0 m c t.val t.isLt).2.2.2.2 (ix2 r k) : EReal) = ∑ j ∈ Finset.range (t.val % 8 + 1), ∑ a : Fin 1024, ext0 (term D W (row (t.val / 8) r) k) (1024 * j + a.val) :=
  fold_cols 8 (by decide) (fun t h => ((outsAt0 m c t h).2.2.2.2 (ix2 r k) : EReal)) (fun i j => ∑ a : Fin 1024, ext0 (term D W (row i r) k) (1024 * j + a.val))
    (fun t h hm => scr_first' H ⟨t, h⟩ hm r k) (fun t h hm => scr_next' H ⟨t, h⟩ hm r k) t.val t.isLt

/-- At the last block the accumulator holds the product. -/
theorem scr_last (h : t.val % 8 = 7) (r : Fin 512) (k : Fin 2048) : (k0_pay2 (prev m c t) (iblk m c 0 t) (iblk m c 1 t) (ix2 r k) : EReal) = ((∑ j, D (at_ t r) j * W k j : ℝ) : EReal) := by
  refine Eq.trans (congrFun (scr_next (m := m) (c := c) t (by omega)) (ix2 r k)).symm ((scr H t r k).trans ?_)
  rw [h, ← row_eq]
  refine (sum_blocks 8 1024 (by decide) (term D W (at_ t r) k)).trans ?_
  unfold term
  rw [Cert.Attention.coe_sum]

theorem last_d (h : t.val % 8 = 7) (r : Fin 512) (k : Fin 2048) :
    Ideal.ofBits .f32 0x3F9837F0#32 * (iblk m c 2 t (ix2 r k) : EReal) + (k0_pay2 (prev m c t) (iblk m c 0 t) (iblk m c 1 t) (ix2 r k) : EReal) = ((dR Z D W (at_ t r) k : ℝ) : EReal) := by
  rw [scr_last H t h, ofBits_alpha]
  refine (congrArg (fun y : EReal => ((alpha : ℝ) : EReal) * y + _) (blk_z H t r k)).trans ?_
  rw [← EReal.coe_mul, ← EReal.coe_add]
  rfl

theorem pt (h : t.val % 8 = 7) (r : Fin 512) (k : Fin 2048) :
    (chunkX (ch ⟨r.val / 128, by omega⟩ (k0_pay2 (prev m c t) (iblk m c 0 t) (iblk m c 1 t))) (ch ⟨r.val / 128, by omega⟩ (iblk m c 2 t)) (ch ⟨r.val / 128, by omega⟩ (iblk m c 3 t)) (iblk m c 4 t) (ix2 ⟨r.val % 128, by omega⟩ k) : EReal) = (back eps (X (at_ t r)) (fun k => dR Z D W (at_ t r) k * G k) k : ℝ) := by
  have hr : sub ⟨r.val / 128, by omega⟩ ⟨r.val % 128, by omega⟩ = r := Fin.ext (by show 128 * (r.val / 128) + r.val % 128 = r.val; omega)
  have hv := chunk_x (k0_pay2 (prev m c t) (iblk m c 0 t) (iblk m c 1 t)) (iblk m c 2 t) (iblk m c 3 t) (iblk m c 4 t) (fun r => dR Z D W (at_ t r)) (fun r => X (at_ t r)) G (last_d H t h) (blk_x H t) (blk_g H t) ⟨r.val / 128, by omega⟩ ⟨r.val % 128, by omega⟩ k
  rw [hr] at hv
  exact hv

theorem pt5 (h : t.val % 8 = 7) (r : Fin 512) (k : Fin 2048) : ((outsAt0 m c t.val t.isLt).1 (ix2 r k) : EReal) = (back eps (X (at_ t r)) (fun k => dR Z D W (at_ t r) k * G k) k : ℝ) := by
  by_cases h2 : t.val < 8
  · refine Eq.trans (congrFun (congrArg (fun p => p.1) (outsAt0_C m c t (by omega) h h2 (by omega) h2 (by omega))) (ix2 r k)) ?_
    dsimp only
    exact (C_5 _ _ _ _ _ _ _ _ _ _ _ _ _ _).trans (pt H t h r k)
  · refine Eq.trans (congrFun (congrArg (fun p => p.1) (outsAt0_D m c t (by omega) h h2 (by omega) h2 (by omega))) (ix2 r k)) ?_
    dsimp only
    exact (D_5 _ _ _ _ _ _ _ _ _ _ _ _ _ _ _ _).trans (pt H t h r k)

theorem pt6 (h : t.val % 8 = 7) (r : Fin 512) (k : Fin 2048) : ((outsAt0 m c t.val t.isLt).2.1 (ix2 r k) : EReal) = (back eps (X (at_ t r)) (fun k => dR Z D W (at_ t r) k * G k) k : ℝ) := by
  by_cases h2 : t.val < 8
  · refine Eq.trans (congrFun (congrArg (fun p => p.2.1) (outsAt0_C m c t (by omega) h h2 (by omega) h2 (by omega))) (ix2 r k)) ?_
    dsimp only
    exact (C_6 _ _ _ _ _ _ _ _ _ _ _ _ _ _).trans (pt H t h r k)
  · refine Eq.trans (congrFun (congrArg (fun p => p.2.1) (outsAt0_D m c t (by omega) h h2 (by omega) h2 (by omega))) (ix2 r k)) ?_
    dsimp only
    exact (D_6 _ _ _ _ _ _ _ _ _ _ _ _ _ _ _ _).trans (pt H t h r k)

omit H in
/-- The rows' parts of the scale's gradient. -/
def fg (Z : Fin 8192 → Fin 2048 → ℝ) (D : Fin 8192 → Fin 8192 → ℝ) (X : Fin 8192 → Fin 2048 → ℝ) (W : Fin 2048 → Fin 8192 → ℝ) (k : Fin 2048) (r : Fin 8192) : EReal := ((dR Z D W r k * xh eps (X r) k : ℝ) : EReal)

omit H in
/-- The rows' parts of the offset's gradient. -/
def fb (Z : Fin 8192 → Fin 2048 → ℝ) (D : Fin 8192 → Fin 8192 → ℝ) (W : Fin 2048 → Fin 8192 → ℝ) (k : Fin 2048) (r : Fin 8192) : EReal := ((dR Z D W r k : ℝ) : EReal)

omit H in
theorem tile_sum (f : Fin 8192 → EReal) (i : ℕ) (hi : t.val / 8 = i) : ∑ r : Fin 512, f (at_ t r) = ∑ r : Fin 512, ext0 f (512 * i + r.val) :=
  Finset.sum_congr rfl fun r _ => by subst hi; exact (ext0_of f _ (at_ t r).isLt).symm

omit t in
theorem acc7 (k : Fin 2048) : ∀ t (h : t < cfg0.N), 8 ≤ t + 1 → ((outsAt0 m c t h).2.2.1 (ix2 0 k) : EReal) = ∑ j ∈ Finset.range ((t + 1) / 8), ∑ r : Fin 512, ext0 (fg Z D X W k) (512 * j + r.val) := by
  refine fold_rows 8 (by decide) (fun t h => ((outsAt0 m c t h).2.2.1 (ix2 0 k) : EReal)) (fun j => ∑ r : Fin 512, ext0 (fg Z D X W k) (512 * j + r.val)) (fun h => ?_) (fun t h hl hm => ?_) (fun t h hl hm => ?_)
  · refine Eq.trans (congrFun (congrArg (fun p => p.2.2.1) (outsAt0_C m c ⟨7, h⟩ (by show ¬ 7 % 8 = 0; decide) (by show 7 % 8 = 7; decide) (by show 7 < 8; decide) (by show ¬ 8 ≤ 7; decide) (by show 7 < 8; decide) (by show ¬ 8 ≤ 7; decide))) (ix2 0 k)) ?_
    dsimp only
    refine Eq.trans (congrFun (C_7 _ _ _ _ _ _ _ _ _ _ _ _) (ix2 0 k)) ?_
    exact (tile_g0 _ _ _ (fun r => dR Z D W (at_ ⟨7, h⟩ r)) (fun r => X (at_ ⟨7, h⟩ r)) (last_d H ⟨7, h⟩ rfl) (blk_x H ⟨7, h⟩) k).trans (tile_sum ⟨7, h⟩ (fg Z D X W k) 0 (by show 7 / 8 = 0; decide))
  · refine Eq.trans (congrFun (congrArg (fun p => p.2.2.1) (outsAt0_D m c ⟨t, h⟩ (by show ¬ t % 8 = 0; omega) (by show t % 8 = 7; omega) (by show ¬ t < 8; omega) (by show 8 ≤ t; omega) (by show ¬ t < 8; omega) (by show 8 ≤ t; omega))) (ix2 0 k)) ?_
    dsimp only
    refine Eq.trans (congrFun (D_7 _ _ _ _ _ _ _ _ _ _ _ _ _ _) (ix2 0 k)) ?_
    exact (tile_g _ _ _ (fun r => dR Z D W (at_ ⟨t, h⟩ r)) (fun r => X (at_ ⟨t, h⟩ r)) (last_d H ⟨t, h⟩ hm) (blk_x H ⟨t, h⟩) _ k).trans (congrArg₂ (fun x y : EReal => x + y) rfl (tile_sum ⟨t, h⟩ (fg Z D X W k) (t / 8) rfl))
  · by_cases h0 : t % 8 = 0
    · exact congrFun (congrArg (fun p => p.2.2.1) (outsAt0_A m c ⟨t, h⟩ h0 (by show ¬ t % 8 = 7; omega))) (ix2 0 k)
    · exact congrFun (congrArg (fun p => p.2.2.1) (outsAt0_B m c ⟨t, h⟩ h0 (by show ¬ t % 8 = 7; omega))) (ix2 0 k)

omit t in
theorem acc8 (k : Fin 2048) : ∀ t (h : t < cfg0.N), 8 ≤ t + 1 → ((outsAt0 m c t h).2.2.2.1 (ix2 0 k) : EReal) = ∑ j ∈ Finset.range ((t + 1) / 8), ∑ r : Fin 512, ext0 (fb Z D W k) (512 * j + r.val) := by
  refine fold_rows 8 (by decide) (fun t h => ((outsAt0 m c t h).2.2.2.1 (ix2 0 k) : EReal)) (fun j => ∑ r : Fin 512, ext0 (fb Z D W k) (512 * j + r.val)) (fun h => ?_) (fun t h hl hm => ?_) (fun t h hl hm => ?_)
  · refine Eq.trans (congrFun (congrArg (fun p => p.2.2.2.1) (outsAt0_C m c ⟨7, h⟩ (by show ¬ 7 % 8 = 0; decide) (by show 7 % 8 = 7; decide) (by show 7 < 8; decide) (by show ¬ 8 ≤ 7; decide) (by show 7 < 8; decide) (by show ¬ 8 ≤ 7; decide))) (ix2 0 k)) ?_
    dsimp only
    refine Eq.trans (congrFun (C_8 _ _ _ _ _ _ _ _ _ _ _ _) (ix2 0 k)) ?_
    exact (tile_b0 _ _ (fun r => dR Z D W (at_ ⟨7, h⟩ r)) (last_d H ⟨7, h⟩ rfl) k).trans (tile_sum ⟨7, h⟩ (fb Z D W k) 0 (by show 7 / 8 = 0; decide))
  · refine Eq.trans (congrFun (congrArg (fun p => p.2.2.2.1) (outsAt0_D m c ⟨t, h⟩ (by show ¬ t % 8 = 0; omega) (by show t % 8 = 7; omega) (by show ¬ t < 8; omega) (by show 8 ≤ t; omega) (by show ¬ t < 8; omega) (by show 8 ≤ t; omega))) (ix2 0 k)) ?_
    dsimp only
    refine Eq.trans (congrFun (D_8 _ _ _ _ _ _ _ _ _ _ _ _ _ _) (ix2 0 k)) ?_
    exact (tile_b _ _ (fun r => dR Z D W (at_ ⟨t, h⟩ r)) (last_d H ⟨t, h⟩ hm) _ k).trans (congrArg₂ (fun x y : EReal => x + y) rfl (tile_sum ⟨t, h⟩ (fb Z D W k) (t / 8) rfl))
  · by_cases h0 : t % 8 = 0
    · exact congrFun (congrArg (fun p => p.2.2.2.1) (outsAt0_A m c ⟨t, h⟩ h0 (by show ¬ t % 8 = 7; omega))) (ix2 0 k)
    · exact congrFun (congrArg (fun p => p.2.2.2.1) (outsAt0_B m c ⟨t, h⟩ h0 (by show ¬ t % 8 = 7; omega))) (ix2 0 k)

omit H in
theorem disjoint5 (a a' : Fin cfg0.N) (hf : (cfg0.win 5).flush a = true) (hf' : (cfg0.win 5).flush a' = true) (hne : a ≠ a') : Disjoint ((cfg0.win 5).blk a).view.set ((cfg0.win 5).blk a').view.set := by
  have h := (flush0_5 a).mp hf
  have h' := (flush0_5 a').mp hf'
  obtain ⟨-, -, -, -, -, ⟨e0, -⟩, -⟩ := idx_facts a
  obtain ⟨-, -, -, -, -, ⟨e0', -⟩, -⟩ := idx_facts a'
  refine Finset.disjoint_left.mpr fun i hm hm' => hne (Fin.ext ?_)
  obtain ⟨y, -, hy⟩ := Finset.mem_map.mp hm
  obtain ⟨y', -, hy'⟩ := Finset.mem_map.mp hm'
  have h1 : win0_5.index a ax0 * 512 + 1 * (y 0).val = (i 0).val := congrArg (fun i : S8192x2048.Idx => (i 0).val) hy
  have h2 : win0_5.index a' ax0 * 512 + 1 * (y' 0).val = (i 0).val := congrArg (fun i : S8192x2048.Idx => (i 0).val) hy'
  have l1 : (y 0).val < 512 := (y 0).isLt
  have l2 : (y' 0).val < 512 := (y' 0).isLt
  omega

omit H in
theorem disjoint6 (a a' : Fin cfg0.N) (hf : (cfg0.win 6).flush a = true) (hf' : (cfg0.win 6).flush a' = true) (hne : a ≠ a') : Disjoint ((cfg0.win 6).blk a).view.set ((cfg0.win 6).blk a').view.set := by
  have h := (flush0_6 a).mp hf
  have h' := (flush0_6 a').mp hf'
  obtain ⟨-, -, -, -, -, -, ⟨e0, -⟩, -⟩ := idx_facts a
  obtain ⟨-, -, -, -, -, -, ⟨e0', -⟩, -⟩ := idx_facts a'
  refine Finset.disjoint_left.mpr fun i hm hm' => hne (Fin.ext ?_)
  obtain ⟨y, -, hy⟩ := Finset.mem_map.mp hm
  obtain ⟨y', -, hy'⟩ := Finset.mem_map.mp hm'
  have h1 : win0_6.index a ax0 * 512 + 1 * (y 0).val = (i 0).val := congrArg (fun i : S8192x2048.Idx => (i 0).val) hy
  have h2 : win0_6.index a' ax0 * 512 + 1 * (y' 0).val = (i 0).val := congrArg (fun i : S8192x2048.Idx => (i 0).val) hy'
  have l1 : (y 0).val < 512 := (y 0).isLt
  have l2 : (y' 0).val < 512 := (y' 0).isLt
  omega

theorem arr5 (q : Fin 8192) (k : Fin 2048) : ((dats m 0 c).arrAt 5 cfg0.N (ix2 q k) : EReal) = ((back eps (X q) (fun k => dR Z D W q k * G k) k : ℝ) : EReal) := by
  have hN : cfg0.N = 128 := N_0
  obtain ⟨t, ht⟩ : ∃ t : Fin cfg0.N, t.val = q.val / 512 * 8 + 7 := ⟨⟨q.val / 512 * 8 + 7, by omega⟩, rfl⟩
  obtain ⟨-, -, -, -, -, ⟨e0, e1⟩, -⟩ := idx_facts t
  have hb := (dats m 0 c).read_blk_arrAt_eq_flushed 5 disjoint5 cfg0.N t t.isLt ((flush0_5 t).mpr (by omega))
  rw [Value.flushed5] at hb
  have hq : at_ t ⟨q.val % 512, by omega⟩ = q := Fin.ext (by show 512 * (t.val / 8) + q.val % 512 = q.val; omega)
  refine Eq.trans (Eq.trans (Eq.symm ?_) (congrFun hb (ix2 (⟨q.val % 512, by omega⟩ : Fin 512) k))) ((pt5 H t (by omega) ⟨q.val % 512, by omega⟩ k).trans (by rw [hq]))
  exact (read2 ((dats m 0 c).arrAt 5 cfg0.N) _ _ (by show q.val = win0_5.index t ax0 * 512 + 1 * (q.val % 512); omega) (by show k.val = win0_5.index t ax1 * 2048 + 1 * k.val; omega)).symm

theorem arr6 (q : Fin 8192) (k : Fin 2048) : ((dats m 0 c).arrAt 6 cfg0.N (ix2 q k) : EReal) = ((back eps (X q) (fun k => dR Z D W q k * G k) k : ℝ) : EReal) := by
  have hN : cfg0.N = 128 := N_0
  obtain ⟨t, ht⟩ : ∃ t : Fin cfg0.N, t.val = q.val / 512 * 8 + 7 := ⟨⟨q.val / 512 * 8 + 7, by omega⟩, rfl⟩
  obtain ⟨-, -, -, -, -, -, ⟨e0, e1⟩, -⟩ := idx_facts t
  have hb := (dats m 0 c).read_blk_arrAt_eq_flushed 6 disjoint6 cfg0.N t t.isLt ((flush0_6 t).mpr (by omega))
  rw [Value.flushed6] at hb
  have hq : at_ t ⟨q.val % 512, by omega⟩ = q := Fin.ext (by show 512 * (t.val / 8) + q.val % 512 = q.val; omega)
  refine Eq.trans (Eq.trans (Eq.symm ?_) (congrFun hb (ix2 (⟨q.val % 512, by omega⟩ : Fin 512) k))) ((pt6 H t (by omega) ⟨q.val % 512, by omega⟩ k).trans (by rw [hq]))
  exact (read2 ((dats m 0 c).arrAt 6 cfg0.N) _ _ (by show q.val = win0_6.index t ax0 * 512 + 1 * (q.val % 512); omega) (by show k.val = win0_6.index t ax1 * 2048 + 1 * k.val; omega)).symm

theorem arr7 (k : Fin 2048) : ((dats m 0 c).arrAt 7 cfg0.N (ix2 0 k) : EReal) = ∑ r, fg Z D X W k r := by
  obtain ⟨t, ht⟩ : ∃ t : Fin cfg0.N, t.val = 127 := ⟨⟨127, by decide⟩, rfl⟩
  obtain ⟨-, -, -, -, -, -, -, ⟨e0, e1⟩, -⟩ := idx_facts t
  have hb := (dats m 0 c).read_blk_arrAt_eq_flushed 7 (fun a a' hf hf' hne => absurd (Fin.ext (by have ha : a.val < 128 := a.isLt; have ha' : a'.val < 128 := a'.isLt; have := (flush0_7 a).mp hf; have := (flush0_7 a').mp hf'; omega)) hne) cfg0.N t t.isLt ((flush0_7 t).mpr (by omega))
  rw [Value.flushed7] at hb
  refine Eq.trans (Eq.trans (Eq.symm ?_) (congrFun hb (ix2 0 k))) ((acc7 H k t.val t.isLt (by omega)).trans ?_)
  · exact (read2 ((dats m 0 c).arrAt 7 cfg0.N) _ _ (by show 0 = win0_7.index t ax0 * 1 + 1 * 0; omega) (by show k.val = win0_7.index t ax1 * 2048 + 1 * k.val; omega)).symm
  · rw [ht]
    exact sum_blocks 16 512 (by decide) (fg Z D X W k)

theorem arr8 (k : Fin 2048) : ((dats m 0 c).arrAt 8 cfg0.N (ix2 0 k) : EReal) = ∑ r, fb Z D W k r := by
  obtain ⟨t, ht⟩ : ∃ t : Fin cfg0.N, t.val = 127 := ⟨⟨127, by decide⟩, rfl⟩
  obtain ⟨-, -, -, -, -, -, -, -, ⟨e0, e1⟩⟩ := idx_facts t
  have hb := (dats m 0 c).read_blk_arrAt_eq_flushed 8 (fun a a' hf hf' hne => absurd (Fin.ext (by have ha : a.val < 128 := a.isLt; have ha' : a'.val < 128 := a'.isLt; have := (flush0_8 a).mp hf; have := (flush0_8 a').mp hf'; omega)) hne) cfg0.N t t.isLt ((flush0_8 t).mpr (by omega))
  rw [Value.flushed8] at hb
  refine Eq.trans (Eq.trans (Eq.symm ?_) (congrFun hb (ix2 0 k))) ((acc8 H k t.val t.isLt (by omega)).trans ?_)
  · exact (read2 ((dats m 0 c).arrAt 8 cfg0.N) _ _ (by show 0 = win0_8.index t ax0 * 1 + 1 * 0; omega) (by show k.val = win0_8.index t ax1 * 2048 + 1 * k.val; omega)).symm
  · rw [ht]
    exact sum_blocks 16 512 (by decide) (fb Z D W k)

end

section

open Cert.Ff1Ln1BwdRefIdeal Read Idealize.ShloMosaic

variable (x0 : (⟨S8192x2048, .f32⟩ : BufTy).Contents (Elt Ideal)) (x1 : (⟨S8192x8192, .f32⟩ : BufTy).Contents (Elt Ideal)) (x2 : (⟨S8192x2048, .f32⟩ : BufTy).Contents (Elt Ideal)) (x3 : (⟨S2048x8192, .f32⟩ : BufTy).Contents (Elt Ideal)) (x4 : (⟨S1x2048, .f32⟩ : BufTy).Contents (Elt Ideal))
  {Z X : Fin 8192 → Fin 2048 → ℝ} {D : Fin 8192 → Fin 8192 → ℝ} {W : Fin 2048 → Fin 8192 → ℝ} {G : Fin 2048 → ℝ}
  (h0 : ∀ r k, (x0 (ix2 r k) : EReal) = (Z r k : ℝ)) (h1 : ∀ r k, (x1 (ix2 r k) : EReal) = (D r k : ℝ)) (h2 : ∀ r k, (x2 (ix2 r k) : EReal) = (X r k : ℝ)) (h3 : ∀ l k, (x3 (ix2 l k) : EReal) = (W l k : ℝ)) (h4 : ∀ k, (x4 (ix2 0 k) : EReal) = (G k : ℝ))

include h2 in
theorem r5 (r : Fin 8192) (k : Fin 2048) : (val_main_v5 x2 (ix2 r k) : EReal) = (cen (X r) k : ℝ) := Cert.LnIn.r5 x2 h2 r k

include h2 in
theorem r15 (r : Fin 8192) (j : Fin 1) : (val_main_v15 x2 (ix2 r j) : EReal) = (rs eps (X r) : ℝ) := Cert.LnIn.r15 x2 h2 r j

include h2 in
theorem r18 (r : Fin 8192) (j : Fin 1) : (val_main_v18 x2 (ix2 r j) : EReal) = (hs eps (X r) : ℝ) := Cert.LnIn.r18 x2 h2 r j

include h2 in
theorem r20 (r : Fin 8192) (k : Fin 2048) : (val_main_v20 x2 (ix2 r k) : EReal) = (xh eps (X r) k : ℝ) := Cert.LnIn.r20 x2 h2 r k

include h0 h1 h3 in
theorem r31 (r : Fin 8192) (k : Fin 2048) : (val_main_v31 x0 x1 x3 (ix2 r k) : EReal) = (dR Z D W r k : ℝ) := by
  simp only [val_main_v31, val_main_v30, val_main_v29, val_main_v28, val_main_cst_7]
  pointwise
  rw [Cert.Rms.dot_coe (fun j => x1 (ix2 r j)) (fun j => x3 (ix2 k j)) (D r) (W k) (h1 r) (h3 k), h0, ofBits_alpha, ← EReal.coe_mul, ← EReal.coe_add]
  exact congrArg Real.toEReal (add_comm _ _)

include h0 h1 h2 h3 h4 in
theorem r50 (r : Fin 8192) (k : Fin 2048) : (val_main_v50 x0 x1 x2 x3 x4 (ix2 r k) : EReal) = (pre eps (X r) (fun k => dR Z D W r k * G k) k : ℝ) := by
  have h5 := r5 x2 h2 r
  have h15 := r15 x2 h2 r
  have h18 := r18 x2 h2 r
  have h31 := r31 x0 x1 x3 h0 h1 h3 r
  simp only [val_main_v50, val_main_v49, val_main_v48, val_main_v47, val_main_v46, val_main_v45, val_main_v44, val_main_v43, val_main_v42, val_main_v41, val_main_v40, val_main_v39, val_main_v38, val_main_v37, val_main_v8, val_main_v7, val_main_cst_1, val_main_cst_10, val_main_cst_11, val_main_cst_12]
  generalize val_main_v5 x2 = v5 at h5 ⊢
  generalize val_main_v15 x2 = v15 at h15 ⊢
  generalize val_main_v18 x2 = v18 at h18 ⊢
  generalize val_main_v31 x0 x1 x3 = v31 at h31 ⊢
  pointwise
  rw [Fin.sum_univ_one]
  exact pre_coe eps (X r) (fun k => dR Z D W r k * G k) (by decide) (fun k => (v31 (ix2 r k) : EReal) * (x4 (ix2 0 k) : EReal)) (fun k => v5 (ix2 r k)) (fun k => by rw [h31, h4]; exact (EReal.coe_mul _ _).symm) h5 _ _ _ _ (h15 _) (h18 _) ofBits_2048 ofBits_two k

include h0 h1 h2 h3 h4 in
theorem r58 (r : Fin 8192) (k : Fin 2048) : (val_main_v58 x0 x1 x2 x3 x4 (ix2 r k) : EReal) = ((back eps (X r) (fun k => dR Z D W r k * G k) k : ℝ) : EReal) := by
  have h50 := r50 x0 x1 x2 x3 x4 h0 h1 h2 h3 h4 r
  simp only [val_main_v58, val_main_v57, val_main_v56, val_main_v55, val_main_v54, val_main_v53, val_main_v52, val_main_v51, val_main_cst_13, val_main_cst_14, val_main_cst_15]
  generalize val_main_v50 x0 x1 x2 x3 x4 = v at h50 ⊢
  pointwise
  rw [Fin.sum_univ_one]
  exact pre_back eps (X r) (fun k => dR Z D W r k * G k) (by decide) eps_pos (fun k => v (ix2 r k)) h50 _ ofBits_2048 k

include h0 h1 h2 h3 in
theorem r36 (k : Fin 2048) : (val_main_v36 x0 x1 x2 x3 (ix2 0 k) : EReal) = ∑ r, fg Z D X W k r := by
  have h20 := fun r => r20 x2 h2 r k
  have h31 := fun r => r31 x0 x1 x3 h0 h1 h3 r k
  simp only [val_main_v36, val_main_v35, val_main_v34, val_main_cst_9]
  generalize val_main_v20 x2 = v at h20 ⊢
  generalize val_main_v31 x0 x1 x3 = w at h31 ⊢
  generalize hR : ∑ r, fg Z D X W k r = R
  pointwise
  rw [← hR]
  refine Finset.sum_congr rfl fun r _ => ?_
  rw [h20, h31, ← EReal.coe_mul]
  exact congrArg Real.toEReal (mul_comm _ _)

include h0 h1 h3 in
theorem r33 (k : Fin 2048) : (val_main_v33 x0 x1 x3 (ix2 0 k) : EReal) = ∑ r, fb Z D W k r := by
  have h31 := fun r => r31 x0 x1 x3 h0 h1 h3 r k
  simp only [val_main_v33, val_main_v32, val_main_cst_8]
  generalize val_main_v31 x0 x1 x3 = w at h31 ⊢
  generalize hR : ∑ r, fb Z D W k r = R
  pointwise
  rw [← hR]
  exact Finset.sum_congr rfl fun r _ => h31 r

end

section

open Idealize.ShloMosaic Idealize.SL.Sem TcCoe
open Cert.Finite

theorem real_args (x0 : FVec Ideal Cert.Ff1Ln1BwdIdeal.S8192x2048 .f32) (x1 : FVec Ideal Cert.Ff1Ln1BwdIdeal.S8192x8192 .f32) (x2 : FVec Ideal Cert.Ff1Ln1BwdIdeal.S8192x2048 .f32) (x3 : FVec Ideal Cert.Ff1Ln1BwdIdeal.S2048x8192 .f32) (x4 x5 : FVec Ideal Cert.Ff1Ln1BwdIdeal.S1x2048 .f32)
    (h : Cert.Pre_finite_ff1_dgrad_ln1_bwd.fn (F := Ideal) x0 x1 x2 x3 x4 x5 = fun _ => 1#1) :
    (∀ i, ∃ r : ℝ, (x0 i : EReal) = r) ∧ (∀ i, ∃ r : ℝ, (x1 i : EReal) = r) ∧ (∀ i, ∃ r : ℝ, (x2 i : EReal) = r) ∧ (∀ i, ∃ r : ℝ, (x3 i : EReal) = r) ∧ (∀ i, ∃ r : ℝ, (x4 i : EReal) = r) := by
  have e := congrFun h ix0
  unfold Cert.Pre_finite_ff1_dgrad_ln1_bwd.fn at e
  obtain ⟨e, h4⟩ := and_one e
  obtain ⟨e, h3⟩ := and_one e
  obtain ⟨e, h2⟩ := and_one e
  obtain ⟨e, h1⟩ := and_one e
  obtain ⟨-, h0⟩ := and_one e
  exact ⟨all_real _ _ _ _ _ h0, all_real _ _ _ _ _ h1, all_real _ _ _ _ _ h2, all_real _ _ _ _ _ h3, all_real _ _ _ _ _ h4⟩

/-- The precondition names the reals. -/
theorem reals (m : (ℓ : Loc Cert.Ff1Ln1BwdIdeal.nD Cert.Ff1Ln1BwdIdeal.τ Cert.Ff1Ln1BwdIdeal.sig) → Buf (Elt Ideal) ℓ) (hpre : Cert.Pre_Ff1Ln1BwdIdeal_finite_ff1_dgrad_ln1_bwd m) (c : Dev Cert.Ff1Ln1BwdIdeal.nD) :
    ∃ Z D X W G, Reals m c Z D X W G := by
  obtain ⟨h0, h1, h2, h3, h4⟩ := real_args _ _ _ _ _ _ (hpre c)
  choose r0 h0 using h0
  choose r1 h1 using h1
  choose r2 h2 using h2
  choose r3 h3 using h3
  choose r4 h4 using h4
  exact ⟨fun q a => r0 (ix2 q a), fun q a => r1 (ix2 q a), fun q a => r2 (ix2 q a), fun q a => r3 (ix2 q a), fun a => r4 (ix2 0 a), fun q a => h0 _, fun q a => h1 _, fun q a => h2 _, fun q a => h3 _, fun a => h4 _⟩

/-- Over the extended reals, of finite arguments, the kernel's product with the feed-forward layer's first weight and the gradients of the layer norm before it are `jax.vjp`'s. -/
theorem algebraic : Cert.algebraic_Ff1Ln1BwdIdeal_Ff1Ln1BwdRefIdeal_pre_finite_ff1_dgrad_ln1_bwd := fun m ρ m' ρ' hpre hag =>
  ⟨fun c => (Cert.Ff1Ln1BwdIdeal.Gen.dats m 0 c).arrAt 5 Cert.Ff1Ln1BwdIdeal.cfg0.N, fun c => (Cert.Ff1Ln1BwdIdeal.Gen.dats m 0 c).arrAt 6 Cert.Ff1Ln1BwdIdeal.cfg0.N,
    fun c => (Cert.Ff1Ln1BwdIdeal.Gen.dats m 0 c).arrAt 7 Cert.Ff1Ln1BwdIdeal.cfg0.N, fun c => (Cert.Ff1Ln1BwdIdeal.Gen.dats m 0 c).arrAt 8 Cert.Ff1Ln1BwdIdeal.cfg0.N, Cert.Ff1Ln1BwdIdeal.Value.run_blocks m ρ,
    (θ_run _ _ _).mono (fun r h c => by
      obtain ⟨Z, D, X, W, G, H⟩ := reals m hpre c
      obtain ⟨a0, a1, a2, a3, a4, a5⟩ := hag c
      obtain ⟨q0, q1, q2, q3, rest⟩ := h c
      refine ⟨?_, ?_, ?_, ?_, rest⟩
      · rw [q0, Cert.Ff1Ln1BwdRefIdeal.Read.val_main_v58_eq, a0, a1, a2, a3, a4]
        refine ext2 _ _ fun i0 i1 => ?_
        exact (r58 _ _ _ _ _ H.1 H.2.1 H.2.2.1 H.2.2.2.1 H.2.2.2.2 i0 i1).trans (arr5 H i0 i1).symm
      · rw [q1, Cert.Ff1Ln1BwdRefIdeal.Read.val_main_v59_eq, a0, a1, a2, a3, a4]
        refine ext2 _ _ fun i0 i1 => ?_
        exact (r58 _ _ _ _ _ H.1 H.2.1 H.2.2.1 H.2.2.2.1 H.2.2.2.2 i0 i1).trans (arr6 H i0 i1).symm
      · rw [q2, Cert.Ff1Ln1BwdRefIdeal.Read.val_main_v36_eq, a0, a1, a2, a3]
        refine ext2 _ _ fun i0 i1 => ?_
        obtain rfl : i0 = 0 := Subsingleton.elim _ _
        exact (r36 _ _ _ _ H.1 H.2.1 H.2.2.1 H.2.2.2.1 i1).trans (arr7 H i1).symm
      · rw [q3, Cert.Ff1Ln1BwdRefIdeal.Read.val_main_v33_eq, a0, a1, a3]
        refine ext2 _ _ fun i0 i1 => ?_
        obtain rfl : i0 = 0 := Subsingleton.elim _ _
        exact (r33 _ _ _ H.1 H.2.1 H.2.2.2.1 i1).trans (arr8 H i1).symm)
      (Cert.Ff1Ln1BwdRefIdeal.Value.run m' ρ')⟩

end

end Cert.Ln1

end
-- ==== Proof.Ln2.lean ====
/- Hand-written, untrusted: the loss and the gradient of the last layer norm, after the product with the feed-forward layer's second weight. -/
module

public import proofs.«01_k».proof.Proof.LnIn
public import proofs.«01_k».proof.Proof.Gen.Pre_finite_ff2_ln2_loss
public import proofs.«01_k».proof.Proof.Gen.Ff2Ln2LossIdeal.Value
public import proofs.«01_k».proof.Proof.Gen.Ff2Ln2LossRefIdeal.Read

@[expose] public section

set_option maxRecDepth 16384

noncomputable section

namespace Cert.Ln2

open Cert.Common Cert.Norm Cert.LnTail

section

open Cert.Ff2Ln2LossIdeal Cert.Ff2Ln2LossIdeal.Gen Idealize.ShloMosaic TcCoe Idealize.SL.Sem

variable (a : Vec Ideal S512x1024 .bf16) (b : Vec Ideal S1024x2048 .bf16) (z : Vec Ideal S512x2048 .f32) (x : Vec Ideal S512x2048 .f32) (g h : Vec Ideal S1x2048 .f32) (p : Vec Ideal S512x2048 .f32) (l : Vec Ideal S8x128 .f32) (u v : Vec Ideal S1x2048 .f32)

theorem pay1 (r : Fin 512) (k : Fin 2048) : (k0_pay1 (F := Ideal) (ix2 r k) : EReal) = 0 := Cert.LnIn.pay1 r k

theorem pay2 (r : Fin 512) (k : Fin 2048) : (k0_pay2 p a b (ix2 r k) : EReal) = (p (ix2 r k) : EReal) + ∑ j, (a (ix2 r j) : EReal) * (b (ix2 j k) : EReal) := by
  unfold k0_pay2
  pointwise
  try simp only [shapeCast_self]

section

variable (A z t : Vec Ideal S128x2048 .f32) (g h : Vec Ideal S1x2048 .f32) (l : Vec Ideal S8x128 .f32) (u : Vec Ideal S1x2048 .f32)

/-- The summed rows of a chunk. -/
def zC (A z : Vec Ideal S128x2048 .f32) : Vec Ideal S128x2048 .f32 := Cert.InLnInBwdIdeal.Gen.k0_pay3 A z

/-- The differences from the target of a chunk. -/
def erC (A z t : Vec Ideal S128x2048 .f32) (g h : Vec Ideal S1x2048 .f32) : Vec Ideal S128x2048 .f32 := k0_pay10 A g z h t

/-- The loss of a chunk. -/
def chunkL (A z t : Vec Ideal S128x2048 .f32) (g h : Vec Ideal S1x2048 .f32) : Vec Ideal S8x128 .f32 := k0_pay12 (k0_pay11 A g z h t) (FloatOps.ofBits (F := Ideal) FTy.f32 0x3F000000#32)

/-- It added to what is there. -/
def addL (A z t : Vec Ideal S128x2048 .f32) (g h : Vec Ideal S1x2048 .f32) (l : Vec Ideal S8x128 .f32) : Vec Ideal S8x128 .f32 := k0_pay13 (k0_pay11 A g z h t) (FloatOps.ofBits (F := Ideal) FTy.f32 0x3F000000#32) l

/-- The scale's gradient of a chunk. -/
def chunkG (A z t : Vec Ideal S128x2048 .f32) (g h : Vec Ideal S1x2048 .f32) : Vec Ideal S1x2048 .f32 := k0_pay15 (k0_pay9 A z) (erC A z t g h)

/-- It added to what is there. -/
def addG (A z t : Vec Ideal S128x2048 .f32) (g h : Vec Ideal S1x2048 .f32) (u : Vec Ideal S1x2048 .f32) : Vec Ideal S1x2048 .f32 := k0_pay16 (k0_pay9 A z) (erC A z t g h) u

/-- The offset's gradient of a chunk. -/
def chunkB (A z t : Vec Ideal S128x2048 .f32) (g h : Vec Ideal S1x2048 .f32) : Vec Ideal S1x2048 .f32 := k0_pay17 (F := Ideal) (erC A z t g h)

/-- It added to what is there. -/
def addB (A z t : Vec Ideal S128x2048 .f32) (g h : Vec Ideal S1x2048 .f32) (u : Vec Ideal S1x2048 .f32) : Vec Ideal S1x2048 .f32 := k0_pay18 (erC A z t g h) u

/-- The rows' gradient of a chunk. -/
def chunkX (A z t : Vec Ideal S128x2048 .f32) (g h : Vec Ideal S1x2048 .f32) : Vec Ideal S128x2048 .f32 := Cert.InLnInBwdIdeal.Gen.k0_pay11 (k0_pay14 (erC A z t g h)) (Cert.InLnInBwdIdeal.Gen.k0_pay5 (zC A z)) (Cert.InLnInBwdIdeal.Gen.k0_pay6 (zC A z)) g

/-- The loss of a tile, its chunks added one after the other to `l`. -/
def tileL (P z t : Vec Ideal S512x2048 .f32) (g h : Vec Ideal S1x2048 .f32) (l : Vec Ideal S8x128 .f32) : Vec Ideal S8x128 .f32 :=
  addL (ch 3 P) (ch 3 z) (ch 3 t) g h (addL (ch 2 P) (ch 2 z) (ch 2 t) g h (addL (ch 1 P) (ch 1 z) (ch 1 t) g h l))

/-- The scale's gradient of a tile, its chunks added one after the other to `u`. -/
def tileG (P z t : Vec Ideal S512x2048 .f32) (g h : Vec Ideal S1x2048 .f32) (u : Vec Ideal S1x2048 .f32) : Vec Ideal S1x2048 .f32 :=
  addG (ch 3 P) (ch 3 z) (ch 3 t) g h (addG (ch 2 P) (ch 2 z) (ch 2 t) g h (addG (ch 1 P) (ch 1 z) (ch 1 t) g h u))

/-- The offset's gradient of a tile, its chunks added one after the other to `u`. -/
def tileB (P z t : Vec Ideal S512x2048 .f32) (g h : Vec Ideal S1x2048 .f32) (u : Vec Ideal S1x2048 .f32) : Vec Ideal S1x2048 .f32 :=
  addB (ch 3 P) (ch 3 z) (ch 3 t) g h (addB (ch 2 P) (ch 2 z) (ch 2 t) g h (addB (ch 1 P) (ch 1 z) (ch 1 t) g h u))

theorem l0 : k0_pay12 (k0_pay11 A g z h t) (FloatOps.ofBits (F := Ideal) FTy.f32 0x3F000000#32) = chunkL A z t g h := rfl

theorem l0' : k0_pay13 (k0_pay11 A g z h t) (FloatOps.ofBits (F := Ideal) FTy.f32 0x3F000000#32) l = addL A z t g h l := rfl

theorem l1 : k0_pay29 (k0_pay27 A g z h) t l = addL A z t g h l := rfl

theorem l2 : k0_pay42 g (k0_pay37 A z) (k0_pay39 A z) h t l = addL A z t g h l := rfl

theorem l3 : k0_pay54 g (k0_pay49 A z) (k0_pay50 A z) h t l = addL A z t g h l := rfl

theorem g0 : k0_pay15 (k0_pay9 A z) (k0_pay10 A g z h t) = chunkG A z t g h := rfl

theorem g0' : k0_pay16 (k0_pay9 A z) (k0_pay10 A g z h t) u = addG A z t g h u := rfl

theorem g1 : k0_pay31 (k0_pay26 A z) (k0_pay27 A g z h) t u = addG A z t g h u := rfl

theorem g2 : k0_pay44 g (k0_pay37 A z) (k0_pay39 A z) h t u = addG A z t g h u := rfl

theorem g3 : k0_pay3 (k0_pay56 g (k0_pay49 A z) (k0_pay50 A z) h t) u = addG A z t g h u := rfl

theorem b0 : k0_pay17 (k0_pay10 A g z h t) = chunkB A z t g h := rfl

theorem b0' : k0_pay18 (k0_pay10 A g z h t) u = addB A z t g h u := rfl

theorem b1 : k0_pay32 (k0_pay27 A g z h) t u = addB A z t g h u := rfl

theorem b2 : k0_pay46 (k0_pay45 g (k0_pay37 A z) (k0_pay39 A z) h t) u = addB A z t g h u := rfl

theorem b3 : k0_pay4 (k0_pay55 g (k0_pay49 A z) (k0_pay50 A z) h t) u = addB A z t g h u := rfl

theorem x0 : k0_pay22 (k0_pay8 A z) (k0_pay9 A z) (k0_pay19 g (k0_pay10 A g z h t)) (k0_pay20 g (k0_pay10 A g z h t)) (k0_pay21 g (k0_pay9 A z) (k0_pay10 A g z h t)) = chunkX A z t g h := rfl

theorem x1 : k0_pay35 (k0_pay25 A z) (k0_pay26 A z) (k0_pay33 g (k0_pay27 A g z h) t) (k0_pay34 g (k0_pay27 A g z h) t) = chunkX A z t g h := rfl

theorem x2 : k0_pay47 g (k0_pay38 A z) (k0_pay40 (k0_pay37 A z) (k0_pay39 A z)) (k0_pay43 g (k0_pay37 A z) (k0_pay39 A z) h t) = chunkX A z t g h := rfl

theorem x3 : k0_pay5 g (k0_pay51 (k0_pay50 A z)) (k0_pay52 (k0_pay49 A z) (k0_pay50 A z)) (k0_pay55 g (k0_pay49 A z) (k0_pay50 A z) h t) = chunkX A z t g h := rfl

theorem y0 : k0_pay23 (k0_pay8 A z) (k0_pay9 A z) (k0_pay19 g (k0_pay10 A g z h t)) (k0_pay20 g (k0_pay10 A g z h t)) (k0_pay21 g (k0_pay9 A z) (k0_pay10 A g z h t)) = truncf (F := Ideal) .bf16 (chunkX A z t g h) bitsLt_bf16_f32 := rfl

theorem y1 : k0_pay36 (k0_pay25 A z) (k0_pay26 A z) (k0_pay33 g (k0_pay27 A g z h) t) (k0_pay34 g (k0_pay27 A g z h) t) = truncf (F := Ideal) .bf16 (chunkX A z t g h) bitsLt_bf16_f32 := rfl

theorem y2 : k0_pay48 g (k0_pay38 A z) (k0_pay40 (k0_pay37 A z) (k0_pay39 A z)) (k0_pay43 g (k0_pay37 A z) (k0_pay39 A z) h t) = truncf (F := Ideal) .bf16 (chunkX A z t g h) bitsLt_bf16_f32 := rfl

theorem y3 : k0_pay6 g (k0_pay51 (k0_pay50 A z)) (k0_pay52 (k0_pay49 A z) (k0_pay50 A z)) (k0_pay55 g (k0_pay49 A z) (k0_pay50 A z) h t) = truncf (F := Ideal) .bf16 (chunkX A z t g h) bitsLt_bf16_f32 := rfl

end

/-- The difference from the target, as a real. -/
def er (z g h t : Fin 2048 → ℝ) (k : Fin 2048) : ℝ := xh eps z k * g k + h k - t k

/-- The cotangent of the normed row, as a real. -/
def dy (z g h t : Fin 2048 → ℝ) (k : Fin 2048) : ℝ := er z g h t k * (1 / 2048)

/-- A row's part of the loss, as a real. -/
def lo (z g h t : Fin 2048 → ℝ) : ℝ := 1 / 2 * ((∑ k, er z g h t k * er z g h t k) / 2048)

theorem ofBits_half : Ideal.ofBits .f32 0x3F000000#32 = ((1 / 2 : ℝ) : EReal) := by
  simp [Ideal.ofBits, Ideal.ieee, -EReal.coe_mul]
  norm_num

theorem ofBits_inv : Ideal.ofBits .f32 0x3A000000#32 = ((1 / 2048 : ℝ) : EReal) := by
  simp [Ideal.ofBits, Ideal.ieee, -EReal.coe_mul]
  norm_num

/-- Summing half of every row's mean is half the sum of the means. -/
theorem half_sum {n : ℕ} (f : Fin n → ℝ) : ((1 / 2 : ℝ) : EReal) * ∑ r, ((f r : ℝ) : EReal) = ∑ r, ((1 / 2 * f r : ℝ) : EReal) := by
  rw [Cert.Attention.coe_sum, Cert.Attention.coe_sum, ← EReal.coe_mul, Finset.mul_sum]

section

variable (A z t : Vec Ideal S128x2048 .f32) (g h : Vec Ideal S1x2048 .f32) (zr tr : Fin 128 → Fin 2048 → ℝ) (gr hr : Fin 2048 → ℝ)
  (hz : ∀ r k, (zC A z (ix2 r k) : EReal) = (zr r k : ℝ)) (ht : ∀ r k, (t (ix2 r k) : EReal) = (tr r k : ℝ)) (hg : ∀ k, (g (ix2 0 k) : EReal) = (gr k : ℝ)) (hh : ∀ k, (h (ix2 0 k) : EReal) = (hr k : ℝ))

include hz in
theorem c_xh (r : Fin 128) (k : Fin 2048) : (k0_pay9 A z (ix2 r k) : EReal) = (xh eps (zr r) k : ℝ) := Cert.LnTail.pay6 (zC A z) zr hz r k

include hz ht hg hh in
theorem c_er (r : Fin 128) (k : Fin 2048) : (erC A z t g h (ix2 r k) : EReal) = (er (zr r) gr hr (tr r) k : ℝ) := by
  have h9 := c_xh A z zr hz r k
  unfold erC k0_pay10
  generalize k0_pay9 A z = v at h9 ⊢
  pointwise
  rw [h9, hg, hh, ht, ← EReal.coe_mul, ← EReal.coe_add, ← EReal.coe_sub]
  rfl

include hz ht hg hh in
theorem c_dy (r : Fin 128) (k : Fin 2048) : (k0_pay14 (F := Ideal) (erC A z t g h) (ix2 r k) : EReal) = (dy (zr r) gr hr (tr r) k : ℝ) := by
  have h9 := c_er A z t g h zr tr gr hr hz ht hg hh r k
  unfold k0_pay14
  generalize erC A z t g h = v at h9 ⊢
  pointwise
  rw [h9, ofBits_inv, ← EReal.coe_mul]
  rfl

include hz ht hg hh in
theorem c_lo : (k0_pay11 A g z h t : EReal) = ∑ r, (((∑ k, er (zr r) gr hr (tr r) k * er (zr r) gr hr (tr r) k) / 2048 : ℝ) : EReal) := by
  have h9 := c_er A z t g h zr tr gr hr hz ht hg hh
  unfold erC at h9
  unfold k0_pay11
  generalize k0_pay10 A g z h t = v at h9 ⊢
  generalize hs : ∑ r, (((∑ k, er (zr r) gr hr (tr r) k * er (zr r) gr hr (tr r) k) / 2048 : ℝ) : EReal) = s
  pointwise
  rw [← hs]
  refine Finset.sum_congr rfl fun r _ => ?_
  rw [Fin.sum_univ_one]
  exact mean_coe (fun k => er (zr r) gr hr (tr r) k * er (zr r) gr hr (tr r) k) (by decide) (fun k => (v (ix2 r k) : EReal) * (v (ix2 r k) : EReal)) (fun k => by rw [h9]; exact (EReal.coe_mul _ _).symm) _ ofBits_2048

include hz ht hg hh in
theorem c_L (i : Fin 8) (j : Fin 128) : (chunkL A z t g h (ix2 i j) : EReal) = ∑ r, ((lo (zr r) gr hr (tr r) : ℝ) : EReal) := by
  have h11 := c_lo A z t g h zr tr gr hr hz ht hg hh
  unfold chunkL k0_pay12
  generalize k0_pay11 A g z h t = v at h11 ⊢
  generalize hs : ∑ r, ((lo (zr r) gr hr (tr r) : ℝ) : EReal) = s
  pointwise
  rw [← hs, h11, ofBits_half]
  exact half_sum fun r => (∑ k, er (zr r) gr hr (tr r) k * er (zr r) gr hr (tr r) k) / 2048

omit hz ht hg hh in
theorem c_L' (l : Vec Ideal S8x128 .f32) (i : Fin 8) (j : Fin 128) : (addL A z t g h l (ix2 i j) : EReal) = (l (ix2 i j) : EReal) + (chunkL A z t g h (ix2 i j) : EReal) := by
  unfold addL chunkL k0_pay13
  generalize k0_pay12 (k0_pay11 A g z h t) (FloatOps.ofBits (F := Ideal) FTy.f32 0x3F000000#32) = v
  pointwise
  try simp only [shapeCast_self]

include hz ht hg hh in
theorem c_G (k : Fin 2048) : (chunkG A z t g h (ix2 0 k) : EReal) = ∑ r, ((dy (zr r) gr hr (tr r) k * xh eps (zr r) k : ℝ) : EReal) := by
  have h9 := fun r => c_xh A z zr hz r k
  have h14 := fun r => c_dy A z t g h zr tr gr hr hz ht hg hh r k
  unfold chunkG k0_pay15
  generalize k0_pay9 A z = v at h9 ⊢
  generalize k0_pay14 (F := Ideal) (erC A z t g h) = w at h14 ⊢
  generalize hs : ∑ r, ((dy (zr r) gr hr (tr r) k * xh eps (zr r) k : ℝ) : EReal) = s
  pointwise
  rw [← hs]
  exact Finset.sum_congr rfl fun r _ => by rw [h9, h14, ← EReal.coe_mul]

omit hz ht hg hh in
theorem c_G' (u : Vec Ideal S1x2048 .f32) (k : Fin 2048) : (addG A z t g h u (ix2 0 k) : EReal) = (u (ix2 0 k) : EReal) + (chunkG A z t g h (ix2 0 k) : EReal) := by
  unfold addG chunkG k0_pay16
  generalize k0_pay15 (k0_pay9 A z) (erC A z t g h) = v
  pointwise
  try simp only [shapeCast_self]

include hz ht hg hh in
theorem c_B (k : Fin 2048) : (chunkB A z t g h (ix2 0 k) : EReal) = ∑ r, ((dy (zr r) gr hr (tr r) k : ℝ) : EReal) := by
  have h14 := fun r => c_dy A z t g h zr tr gr hr hz ht hg hh r k
  unfold chunkB k0_pay17
  generalize k0_pay14 (F := Ideal) (erC A z t g h) = w at h14 ⊢
  generalize hs : ∑ r, ((dy (zr r) gr hr (tr r) k : ℝ) : EReal) = s
  pointwise
  rw [← hs]
  exact Finset.sum_congr rfl fun r _ => h14 r

omit hz ht hg hh in
theorem c_B' (u : Vec Ideal S1x2048 .f32) (k : Fin 2048) : (addB A z t g h u (ix2 0 k) : EReal) = (u (ix2 0 k) : EReal) + (chunkB A z t g h (ix2 0 k) : EReal) := by
  unfold addB chunkB k0_pay18
  generalize k0_pay17 (F := Ideal) (erC A z t g h) = v
  pointwise
  try simp only [shapeCast_self]

include hz ht hg hh in
theorem c_X (r : Fin 128) (k : Fin 2048) : (chunkX A z t g h (ix2 r k) : EReal) = (back eps (zr r) (fun k => dy (zr r) gr hr (tr r) k * gr k) k : ℝ) :=
  Cert.LnTail.pay11 (zC A z) (k0_pay14 (F := Ideal) (erC A z t g h)) g (fun r => dy (zr r) gr hr (tr r)) zr gr (c_dy A z t g h zr tr gr hr hz ht hg hh) hz hg r k

end

section

variable (P z t : Vec Ideal S512x2048 .f32) (g h : Vec Ideal S1x2048 .f32) (zr tr : Fin 512 → Fin 2048 → ℝ) (gr hr : Fin 2048 → ℝ)
  (hz : ∀ r k, Ideal.ofBits .f32 0x3F9837F0#32 * (z (ix2 r k) : EReal) + (P (ix2 r k) : EReal) = (zr r k : ℝ)) (ht : ∀ r k, (t (ix2 r k) : EReal) = (tr r k : ℝ)) (hg : ∀ k, (g (ix2 0 k) : EReal) = (gr k : ℝ)) (hh : ∀ k, (h (ix2 0 k) : EReal) = (hr k : ℝ))

include hz in
theorem t_z (q : Fin 4) (r : Fin 128) (k : Fin 2048) : (zC (ch q P) (ch q z) (ix2 r k) : EReal) = (zr (sub q r) k : ℝ) :=
  (Cert.LnTail.pay3 _ _ r k).trans (hz (sub q r) k)

include hz ht hg hh in
theorem t_L (q : Fin 4) (i : Fin 8) (j : Fin 128) : (chunkL (ch q P) (ch q z) (ch q t) g h (ix2 i j) : EReal) = ∑ r, ((lo (zr (sub q r)) gr hr (tr (sub q r)) : ℝ) : EReal) :=
  c_L _ _ _ g h (fun r => zr (sub q r)) (fun r => tr (sub q r)) gr hr (t_z P z zr hz q) (fun r => ht (sub q r)) hg hh i j

include hz ht hg hh in
theorem t_G (q : Fin 4) (k : Fin 2048) : (chunkG (ch q P) (ch q z) (ch q t) g h (ix2 0 k) : EReal) = ∑ r, ((dy (zr (sub q r)) gr hr (tr (sub q r)) k * xh eps (zr (sub q r)) k : ℝ) : EReal) :=
  c_G _ _ _ g h (fun r => zr (sub q r)) (fun r => tr (sub q r)) gr hr (t_z P z zr hz q) (fun r => ht (sub q r)) hg hh k

include hz ht hg hh in
theorem t_B (q : Fin 4) (k : Fin 2048) : (chunkB (ch q P) (ch q z) (ch q t) g h (ix2 0 k) : EReal) = ∑ r, ((dy (zr (sub q r)) gr hr (tr (sub q r)) k : ℝ) : EReal) :=
  c_B _ _ _ g h (fun r => zr (sub q r)) (fun r => tr (sub q r)) gr hr (t_z P z zr hz q) (fun r => ht (sub q r)) hg hh k

include hz ht hg hh in
theorem t_X (q : Fin 4) (r : Fin 128) (k : Fin 2048) : (chunkX (ch q P) (ch q z) (ch q t) g h (ix2 r k) : EReal) = (back eps (zr (sub q r)) (fun k => dy (zr (sub q r)) gr hr (tr (sub q r)) k * gr k) k : ℝ) :=
  c_X _ _ _ g h (fun r => zr (sub q r)) (fun r => tr (sub q r)) gr hr (t_z P z zr hz q) (fun r => ht (sub q r)) hg hh r k

include hz ht hg hh in
theorem tile_l0 (i : Fin 8) (j : Fin 128) : (tileL P z t g h (chunkL (ch 0 P) (ch 0 z) (ch 0 t) g h) (ix2 i j) : EReal) = ∑ r, ((lo (zr r) gr hr (tr r) : ℝ) : EReal) := by
  unfold tileL
  rw [c_L', c_L', c_L', t_L P z t g h zr tr gr hr hz ht hg hh, t_L P z t g h zr tr gr hr hz ht hg hh, t_L P z t g h zr tr gr hr hz ht hg hh, t_L P z t g h zr tr gr hr hz ht hg hh]
  exact four fun r => ((lo (zr r) gr hr (tr r) : ℝ) : EReal)

include hz ht hg hh in
theorem tile_l (l : Vec Ideal S8x128 .f32) (i : Fin 8) (j : Fin 128) : (tileL P z t g h (addL (ch 0 P) (ch 0 z) (ch 0 t) g h l) (ix2 i j) : EReal) = (l (ix2 i j) : EReal) + ∑ r, ((lo (zr r) gr hr (tr r) : ℝ) : EReal) := by
  unfold tileL
  rw [c_L', c_L', c_L', c_L', t_L P z t g h zr tr gr hr hz ht hg hh, t_L P z t g h zr tr gr hr hz ht hg hh, t_L P z t g h zr tr gr hr hz ht hg hh, t_L P z t g h zr tr gr hr hz ht hg hh,
    ← four fun r => ((lo (zr r) gr hr (tr r) : ℝ) : EReal)]
  simp only [add_assoc]

include hz ht hg hh in
theorem tile_g0 (k : Fin 2048) : (tileG P z t g h (chunkG (ch 0 P) (ch 0 z) (ch 0 t) g h) (ix2 0 k) : EReal) = ∑ r, ((dy (zr r) gr hr (tr r) k * xh eps (zr r) k : ℝ) : EReal) := by
  unfold tileG
  rw [c_G', c_G', c_G', t_G P z t g h zr tr gr hr hz ht hg hh, t_G P z t g h zr tr gr hr hz ht hg hh, t_G P z t g h zr tr gr hr hz ht hg hh, t_G P z t g h zr tr gr hr hz ht hg hh]
  exact four fun r => ((dy (zr r) gr hr (tr r) k * xh eps (zr r) k : ℝ) : EReal)

include hz ht hg hh in
theorem tile_g (u : Vec Ideal S1x2048 .f32) (k : Fin 2048) : (tileG P z t g h (addG (ch 0 P) (ch 0 z) (ch 0 t) g h u) (ix2 0 k) : EReal) = (u (ix2 0 k) : EReal) + ∑ r, ((dy (zr r) gr hr (tr r) k * xh eps (zr r) k : ℝ) : EReal) := by
  unfold tileG
  rw [c_G', c_G', c_G', c_G', t_G P z t g h zr tr gr hr hz ht hg hh, t_G P z t g h zr tr gr hr hz ht hg hh, t_G P z t g h zr tr gr hr hz ht hg hh, t_G P z t g h zr tr gr hr hz ht hg hh,
    ← four fun r => ((dy (zr r) gr hr (tr r) k * xh eps (zr r) k : ℝ) : EReal)]
  simp only [add_assoc]

include hz ht hg hh in
theorem tile_b0 (k : Fin 2048) : (tileB P z t g h (chunkB (ch 0 P) (ch 0 z) (ch 0 t) g h) (ix2 0 k) : EReal) = ∑ r, ((dy (zr r) gr hr (tr r) k : ℝ) : EReal) := by
  unfold tileB
  rw [c_B', c_B', c_B', t_B P z t g h zr tr gr hr hz ht hg hh, t_B P z t g h zr tr gr hr hz ht hg hh, t_B P z t g h zr tr gr hr hz ht hg hh, t_B P z t g h zr tr gr hr hz ht hg hh]
  exact four fun r => ((dy (zr r) gr hr (tr r) k : ℝ) : EReal)

include hz ht hg hh in
theorem tile_b (u : Vec Ideal S1x2048 .f32) (k : Fin 2048) : (tileB P z t g h (addB (ch 0 P) (ch 0 z) (ch 0 t) g h u) (ix2 0 k) : EReal) = (u (ix2 0 k) : EReal) + ∑ r, ((dy (zr r) gr hr (tr r) k : ℝ) : EReal) := by
  unfold tileB
  rw [c_B', c_B', c_B', c_B', t_B P z t g h zr tr gr hr hz ht hg hh, t_B P z t g h zr tr gr hr hz ht hg hh, t_B P z t g h zr tr gr hr hz ht hg hh, t_B P z t g h zr tr gr hr hz ht hg hh,
    ← four fun r => ((dy (zr r) gr hr (tr r) k : ℝ) : EReal)]
  simp only [add_assoc]

end

variable {c : Dev nD} {i : grid0.Coords} {arg3 : Memref sig .tc .vmem S512x1024 .bf16} {hw3 : arg3.IsWhole} {arg4 : Memref sig .tc .vmem S1024x2048 .bf16} {hw4 : arg4.IsWhole} {arg5 : Memref sig .tc .vmem S512x2048 .f32} {hw5 : arg5.IsWhole} {arg6 : Memref sig .tc .vmem S512x2048 .f32} {hw6 : arg6.IsWhole} {arg7 : Memref sig .tc .vmem S1x2048 .f32} {hw7 : arg7.IsWhole} {arg8 : Memref sig .tc .vmem S1x2048 .f32} {hw8 : arg8.IsWhole} {arg9 : Memref sig .tc .vmem S512x2048 .f32} {hw9 : arg9.IsWhole} {arg10 : Memref sig .tc .vmem S512x2048 .bf16} {hw10 : arg10.IsWhole} {arg11 : Memref sig .tc .vmem S8x128 .f32} {hw11 : arg11.IsWhole} {arg12 : Memref sig .tc .vmem S1x2048 .f32} {hw12 : arg12.IsWhole} {arg13 : Memref sig .tc .vmem S1x2048 .f32} {hw13 : arg13.IsWhole} {arg14 : Memref sig .tc .vmem S512x2048 .f32} {hw14 : arg14.IsWhole}

theorem A_s (hc0 : cond0_0 i) (hc1 : ¬cond0_1 i) : sout0_A_0 c i _ hw3 _ hw4 _ hw5 _ hw6 _ hw7 _ hw8 _ hw9 _ hw10 _ hw11 _ hw12 _ hw13 _ hw14 hc0 hc1 a b z x g h = k0_pay2 k0_pay1 a b := by
  unfold sout0_A_0
  rw [wr (fun _ => scover0_A_0 ..)]
  unfold kernelRun0_A
  dsimp only
  sl_unfold_words
  simp (disch := assumption) only [rd, ld0 S512x1024, ld0 S1024x2048, c0 S512x2048, View.readCov_cons_toLoadRect]
  try rfl

theorem B_s (hc0 : ¬cond0_0 i) (hc1 : ¬cond0_1 i) : sout0_B_0 c i _ hw3 _ hw4 _ hw5 _ hw6 _ hw7 _ hw8 _ hw9 _ hw10 _ hw11 _ hw12 _ hw13 _ hw14 hc0 hc1 a b z x g h p = k0_pay2 p a b := by
  unfold sout0_B_0
  rw [wr (fun _ => scover0_B_0 ..)]
  unfold kernelRun0_B
  dsimp only
  sl_unfold_words
  simp (disch := assumption) only [rd, ld0 S512x1024, ld0 S1024x2048, ld0 S512x2048, c0 S512x2048]
  try rfl

theorem C_s (hc0 : ¬cond0_0 i) (hc1 : cond0_1 i) (hc2 : cond0_2 i) (hc3 : ¬cond0_3 i) (hc4 : cond0_4 i) (hc5 : ¬cond0_5 i) (hc6 : cond0_6 i) (hc7 : ¬cond0_7 i) : sout0_C_0 c i _ hw3 _ hw4 _ hw5 _ hw6 _ hw7 _ hw8 _ hw9 _ hw10 _ hw11 _ hw12 _ hw13 _ hw14 hc0 hc1 hc2 hc3 hc4 hc5 hc6 hc7 a b z x g h p = k0_pay2 p a b := by
  unfold sout0_C_0
  rw [wr (fun _ => scover0_C_0 ..)]
  unfold kernelRun0_C
  dsimp only
  sl_unfold_words
  simp (disch := assumption) only [rd, ld0 S512x1024, ld0 S1024x2048, ld0 S512x2048, c0 S512x2048]
  try rfl

theorem D_s (hc0 : ¬cond0_0 i) (hc1 : cond0_1 i) (hc2 : ¬cond0_2 i) (hc3 : cond0_3 i) (hc4 : ¬cond0_4 i) (hc5 : cond0_5 i) (hc6 : ¬cond0_6 i) (hc7 : cond0_7 i) : sout0_D_0 c i _ hw3 _ hw4 _ hw5 _ hw6 _ hw7 _ hw8 _ hw9 _ hw10 _ hw11 _ hw12 _ hw13 _ hw14 hc0 hc1 hc2 hc3 hc4 hc5 hc6 hc7 a b z x g h l u v p = k0_pay2 p a b := by
  unfold sout0_D_0
  rw [wr (fun _ => scover0_D_0 ..)]
  unfold kernelRun0_D
  dsimp only
  sl_unfold_words
  simp (disch := assumption) only [rd, ld0 S512x1024, ld0 S1024x2048, ld0 S512x2048, c0 S512x2048]
  try rfl

theorem C_8 (hc0 : ¬cond0_0 i) (hc1 : cond0_1 i) (hc2 : cond0_2 i) (hc3 : ¬cond0_3 i) (hc4 : cond0_4 i) (hc5 : ¬cond0_5 i) (hc6 : cond0_6 i) (hc7 : ¬cond0_7 i) : out0_C_8 c i _ hw3 _ hw4 _ hw5 _ hw6 _ hw7 _ hw8 _ hw9 _ hw10 _ hw11 _ hw12 _ hw13 _ hw14 hc0 hc1 hc2 hc3 hc4 hc5 hc6 hc7 a b z x g h p = tileL (k0_pay2 p a b) z x g h (chunkL (ch 0 (k0_pay2 p a b)) (ch 0 z) (ch 0 x) g h) := by
  unfold out0_C_8
  rw [wr (fun _ => cover0_C_8 ..)]
  unfold kernelRun0_C
  dsimp only
  sl_unfold_words
  simp (disch := assumption) only [rd, ld0 S512x1024, ld0 S1024x2048, ld0 S512x2048, ld0 S1x2048, c0 S8x128, View.readCov_cons_toLoadRect, lch 0 0, lch 1 128, lch 2 256, lch 3 384, rch 0 0, rch 1 128, rch 2 256, rch 3 384, l0, l1, l2, l3]
  try rfl

theorem D_8 (hc0 : ¬cond0_0 i) (hc1 : cond0_1 i) (hc2 : ¬cond0_2 i) (hc3 : cond0_3 i) (hc4 : ¬cond0_4 i) (hc5 : cond0_5 i) (hc6 : ¬cond0_6 i) (hc7 : cond0_7 i) : out0_D_8 c i _ hw3 _ hw4 _ hw5 _ hw6 _ hw7 _ hw8 _ hw9 _ hw10 _ hw11 _ hw12 _ hw13 _ hw14 hc0 hc1 hc2 hc3 hc4 hc5 hc6 hc7 a b z x g h l u v p = tileL (k0_pay2 p a b) z x g h (addL (ch 0 (k0_pay2 p a b)) (ch 0 z) (ch 0 x) g h l) := by
  unfold out0_D_8
  rw [wr (fun _ => cover0_D_8 ..)]
  unfold kernelRun0_D
  dsimp only
  sl_unfold_words
  simp (disch := assumption) only [rd, ld0 S512x1024, ld0 S1024x2048, ld0 S512x2048, ld0 S1x2048, ld0 S8x128, c0 S8x128, View.readCov_cons_toLoadRect, lch 0 0, lch 1 128, lch 2 256, lch 3 384, rch 0 0, rch 1 128, rch 2 256, rch 3 384, l0', l1, l2, l3]
  try rfl

theorem C_9 (hc0 : ¬cond0_0 i) (hc1 : cond0_1 i) (hc2 : cond0_2 i) (hc3 : ¬cond0_3 i) (hc4 : cond0_4 i) (hc5 : ¬cond0_5 i) (hc6 : cond0_6 i) (hc7 : ¬cond0_7 i) : out0_C_9 c i _ hw3 _ hw4 _ hw5 _ hw6 _ hw7 _ hw8 _ hw9 _ hw10 _ hw11 _ hw12 _ hw13 _ hw14 hc0 hc1 hc2 hc3 hc4 hc5 hc6 hc7 a b z x g h p = tileG (k0_pay2 p a b) z x g h (chunkG (ch 0 (k0_pay2 p a b)) (ch 0 z) (ch 0 x) g h) := by
  unfold out0_C_9
  rw [wr (fun _ => cover0_C_9 ..)]
  unfold kernelRun0_C
  dsimp only
  sl_unfold_words
  simp (disch := assumption) only [rd, ld0 S512x1024, ld0 S1024x2048, ld0 S512x2048, ld0 S1x2048, c0 S1x2048, View.readCov_cons_toLoadRect, lch 0 0, lch 1 128, lch 2 256, lch 3 384, rch 0 0, rch 1 128, rch 2 256, rch 3 384, g0, g1, g2, g3]
  try rfl

theorem D_9 (hc0 : ¬cond0_0 i) (hc1 : cond0_1 i) (hc2 : ¬cond0_2 i) (hc3 : cond0_3 i) (hc4 : ¬cond0_4 i) (hc5 : cond0_5 i) (hc6 : ¬cond0_6 i) (hc7 : cond0_7 i) : out0_D_9 c i _ hw3 _ hw4 _ hw5 _ hw6 _ hw7 _ hw8 _ hw9 _ hw10 _ hw11 _ hw12 _ hw13 _ hw14 hc0 hc1 hc2 hc3 hc4 hc5 hc6 hc7 a b z x g h l u v p = tileG (k0_pay2 p a b) z x g h (addG (ch 0 (k0_pay2 p a b)) (ch 0 z) (ch 0 x) g h u) := by
  unfold out0_D_9
  rw [wr (fun _ => cover0_D_9 ..)]
  unfold kernelRun0_D
  dsimp only
  sl_unfold_words
  simp (disch := assumption) only [rd, ld0 S512x1024, ld0 S1024x2048, ld0 S512x2048, ld0 S1x2048, c0 S1x2048, View.readCov_cons_toLoadRect, lch 0 0, lch 1 128, lch 2 256, lch 3 384, rch 0 0, rch 1 128, rch 2 256, rch 3 384, g0', g1, g2, g3]
  try rfl

theorem C_10 (hc0 : ¬cond0_0 i) (hc1 : cond0_1 i) (hc2 : cond0_2 i) (hc3 : ¬cond0_3 i) (hc4 : cond0_4 i) (hc5 : ¬cond0_5 i) (hc6 : cond0_6 i) (hc7 : ¬cond0_7 i) : out0_C_10 c i _ hw3 _ hw4 _ hw5 _ hw6 _ hw7 _ hw8 _ hw9 _ hw10 _ hw11 _ hw12 _ hw13 _ hw14 hc0 hc1 hc2 hc3 hc4 hc5 hc6 hc7 a b z x g h p = tileB (k0_pay2 p a b) z x g h (chunkB (ch 0 (k0_pay2 p a b)) (ch 0 z) (ch 0 x) g h) := by
  unfold out0_C_10
  rw [wr (fun _ => cover0_C_10 ..)]
  unfold kernelRun0_C
  dsimp only
  sl_unfold_words
  simp (disch := assumption) only [rd, ld0 S512x1024, ld0 S1024x2048, ld0 S512x2048, ld0 S1x2048, c0 S1x2048, View.readCov_cons_toLoadRect, lch 0 0, lch 1 128, lch 2 256, lch 3 384, rch 0 0, rch 1 128, rch 2 256, rch 3 384, b0, b1, b2, b3]
  try rfl

theorem D_10 (hc0 : ¬cond0_0 i) (hc1 : cond0_1 i) (hc2 : ¬cond0_2 i) (hc3 : cond0_3 i) (hc4 : ¬cond0_4 i) (hc5 : cond0_5 i) (hc6 : ¬cond0_6 i) (hc7 : cond0_7 i) : out0_D_10 c i _ hw3 _ hw4 _ hw5 _ hw6 _ hw7 _ hw8 _ hw9 _ hw10 _ hw11 _ hw12 _ hw13 _ hw14 hc0 hc1 hc2 hc3 hc4 hc5 hc6 hc7 a b z x g h l u v p = tileB (k0_pay2 p a b) z x g h (addB (ch 0 (k0_pay2 p a b)) (ch 0 z) (ch 0 x) g h v) := by
  unfold out0_D_10
  rw [wr (fun _ => cover0_D_10 ..)]
  unfold kernelRun0_D
  dsimp only
  sl_unfold_words
  simp (disch := assumption) only [rd, ld0 S512x1024, ld0 S1024x2048, ld0 S512x2048, ld0 S1x2048, c0 S1x2048, View.readCov_cons_toLoadRect, lch 0 0, lch 1 128, lch 2 256, lch 3 384, rch 0 0, rch 1 128, rch 2 256, rch 3 384, b0', b1, b2, b3]
  try rfl

theorem C_6 (hc0 : ¬cond0_0 i) (hc1 : cond0_1 i) (hc2 : cond0_2 i) (hc3 : ¬cond0_3 i) (hc4 : cond0_4 i) (hc5 : ¬cond0_5 i) (hc6 : cond0_6 i) (hc7 : ¬cond0_7 i) (r : Fin 512) (k : Fin 2048) : (out0_C_6 c i _ hw3 _ hw4 _ hw5 _ hw6 _ hw7 _ hw8 _ hw9 _ hw10 _ hw11 _ hw12 _ hw13 _ hw14 hc0 hc1 hc2 hc3 hc4 hc5 hc6 hc7 a b z x g h p (ix2 r k) : EReal) = (chunkX (ch ⟨r.val / 128, by omega⟩ (k0_pay2 p a b)) (ch ⟨r.val / 128, by omega⟩ z) (ch ⟨r.val / 128, by omega⟩ x) g h (ix2 ⟨r.val % 128, by omega⟩ k) : EReal) := by
  unfold out0_C_6
  rw [wr (fun _ => cover0_C_6 ..)]
  unfold kernelRun0_C
  dsimp only
  sl_unfold_words
  simp (disch := assumption) only [rd, ld0 S512x1024, ld0 S1024x2048, ld0 S512x2048, ld0 S1x2048, lch 0 0, lch 1 128, lch 2 256, lch 3 384, rch 0 0, rch 1 128, rch 2 256, rch 3 384, x0, x1, x2, x3]
  exact canon_tile (e := .f32) (fun q => chunkX (ch q (k0_pay2 p a b)) (ch q z) (ch q x) g h) _ _ _ _ r k

theorem D_6 (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (r : Fin 512) (k : Fin 2048) : (out0_D_6 c i _ hw3 _ hw4 _ hw5 _ hw6 _ hw7 _ hw8 _ hw9 _ hw10 _ hw11 _ hw12 _ hw13 _ hw14 hc0 hc1 hc2 hc3 hc4 hc5 hc6 hc7 a b z x g h l u v p (ix2 r k) : EReal) = (chunkX (ch ⟨r.val / 128, by omega⟩ (k0_pay2 p a b)) (ch ⟨r.val / 128, by omega⟩ z) (ch ⟨r.val / 128, by omega⟩ x) g h (ix2 ⟨r.val % 128, by omega⟩ k) : EReal) := by
  unfold out0_D_6
  rw [wr (fun _ => cover0_D_6 ..)]
  unfold kernelRun0_D
  dsimp only
  sl_unfold_words
  simp (disch := assumption) only [rd, ld0 S512x1024, ld0 S1024x2048, ld0 S512x2048, ld0 S1x2048, lch 0 0, lch 1 128, lch 2 256, lch 3 384, rch 0 0, rch 1 128, rch 2 256, rch 3 384, x0, x1, x2, x3]
  exact canon_tile (e := .f32) (fun q => chunkX (ch q (k0_pay2 p a b)) (ch q z) (ch q x) g h) _ _ _ _ r k

theorem C_7 (hc0 : ¬cond0_0 i) (hc1 : cond0_1 i) (hc2 : cond0_2 i) (hc3 : ¬cond0_3 i) (hc4 : cond0_4 i) (hc5 : ¬cond0_5 i) (hc6 : cond0_6 i) (hc7 : ¬cond0_7 i) (r : Fin 512) (k : Fin 2048) : (out0_C_7 c i _ hw3 _ hw4 _ hw5 _ hw6 _ hw7 _ hw8 _ hw9 _ hw10 _ hw11 _ hw12 _ hw13 _ hw14 hc0 hc1 hc2 hc3 hc4 hc5 hc6 hc7 a b z x g h p (ix2 r k) : EReal) = (chunkX (ch ⟨r.val / 128, by omega⟩ (k0_pay2 p a b)) (ch ⟨r.val / 128, by omega⟩ z) (ch ⟨r.val / 128, by omega⟩ x) g h (ix2 ⟨r.val % 128, by omega⟩ k) : EReal) := by
  unfold out0_C_7
  rw [wr (fun _ => cover0_C_7 ..)]
  unfold kernelRun0_C
  dsimp only
  sl_unfold_words
  simp (disch := assumption) only [rd, ld0 S512x1024, ld0 S1024x2048, ld0 S512x2048, ld0 S1x2048, lch 0 0, lch 1 128, lch 2 256, lch 3 384, rch 0 0, rch 1 128, rch 2 256, rch 3 384, y0, y1, y2, y3]
  exact canon_tile (e := .bf16) (fun q => truncf (F := Ideal) .bf16 (chunkX (ch q (k0_pay2 p a b)) (ch q z) (ch q x) g h) bitsLt_bf16_f32) _ _ _ _ r k

theorem D_7 (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (r : Fin 512) (k : Fin 2048) : (out0_D_7 c i _ hw3 _ hw4 _ hw5 _ hw6 _ hw7 _ hw8 _ hw9 _ hw10 _ hw11 _ hw12 _ hw13 _ hw14 hc0 hc1 hc2 hc3 hc4 hc5 hc6 hc7 a b z x g h l u v p (ix2 r k) : EReal) = (chunkX (ch ⟨r.val / 128, by omega⟩ (k0_pay2 p a b)) (ch ⟨r.val / 128, by omega⟩ z) (ch ⟨r.val / 128, by omega⟩ x) g h (ix2 ⟨r.val % 128, by omega⟩ k) : EReal) := by
  unfold out0_D_7
  rw [wr (fun _ => cover0_D_7 ..)]
  unfold kernelRun0_D
  dsimp only
  sl_unfold_words
  simp (disch := assumption) only [rd, ld0 S512x1024, ld0 S1024x2048, ld0 S512x2048, ld0 S1x2048, lch 0 0, lch 1 128, lch 2 256, lch 3 384, rch 0 0, rch 1 128, rch 2 256, rch 3 384, y0, y1, y2, y3]
  exact canon_tile (e := .bf16) (fun q => truncf (F := Ideal) .bf16 (chunkX (ch q (k0_pay2 p a b)) (ch q z) (ch q x) g h) bitsLt_bf16_f32) _ _ _ _ r k

end

section

open Cert.Ff2Ln2LossIdeal Cert.Ff2Ln2LossIdeal.Gen Idealize.ShloMosaic TcCoe Idealize.SL.Sem

/-- The arguments are arrays of real numbers. -/
def Reals (m : (ℓ : Loc nD τ sig) → Buf (Elt Ideal) ℓ) (c : Dev nD) (Z : Fin 8192 → Fin 2048 → ℝ) (D : Fin 8192 → Fin 8192 → ℝ) (T : Fin 8192 → Fin 2048 → ℝ) (W : Fin 8192 → Fin 2048 → ℝ) (G B : Fin 2048 → ℝ) : Prop :=
  (∀ q k, @Eq EReal ((m (lc c main_arg0) : S8192x2048.Idx → EReal) (ix2 q k)) (Z q k : ℝ))
  ∧ (∀ q k, @Eq EReal ((m (lc c main_arg1) : S8192x8192.Idx → EReal) (ix2 q k)) (D q k : ℝ))
  ∧ (∀ q k, @Eq EReal ((m (lc c main_arg2) : S8192x2048.Idx → EReal) (ix2 q k)) (W q k : ℝ))
  ∧ (∀ q k, @Eq EReal ((m (lc c main_arg3) : S8192x2048.Idx → EReal) (ix2 q k)) (T q k : ℝ))
  ∧ (∀ k, @Eq EReal ((m (lc c main_arg4) : S1x2048.Idx → EReal) (ix2 0 k)) (G k : ℝ))
  ∧ (∀ k, @Eq EReal ((m (lc c main_arg5) : S1x2048.Idx → EReal) (ix2 0 k)) (B k : ℝ))

theorem idx_facts : ∀ t : Fin grid0.N, (win0_0.index t ax0 = t.val / 8 ∧ win0_0.index t ax1 = t.val % 8) ∧ (win0_1.index t ax0 = t.val % 8 ∧ win0_1.index t ax1 = 0) ∧ (win0_2.index t ax0 = t.val / 8 ∧ win0_2.index t ax1 = 0)
    ∧ (win0_3.index t ax0 = t.val / 8 ∧ win0_3.index t ax1 = 0) ∧ (win0_4.index t ax0 = 0 ∧ win0_4.index t ax1 = 0) ∧ (win0_5.index t ax0 = 0 ∧ win0_5.index t ax1 = 0)
    ∧ (win0_6.index t ax0 = t.val / 8 ∧ win0_6.index t ax1 = 0) ∧ (win0_7.index t ax0 = t.val / 8 ∧ win0_7.index t ax1 = 0) ∧ (win0_8.index t ax0 = 0 ∧ win0_8.index t ax1 = 0)
    ∧ (win0_9.index t ax0 = 0 ∧ win0_9.index t ax1 = 0) ∧ (win0_10.index t ax0 = 0 ∧ win0_10.index t ax1 = 0) := by
  decide +kernel

/-- Row `r` of the tile of point `t`. -/
def at_ (a : Fin cfg0.N) (r : Fin 512) : Fin 8192 := ⟨512 * (a.val / 8) + r.val, by have h : a.val < 128 := a.isLt; omega⟩

/-- Column `j` of the block of point `t`. -/
def col (a : Fin cfg0.N) (j : Fin 1024) : Fin 8192 := ⟨1024 * (a.val % 8) + j.val, by omega⟩

variable {m : (ℓ : Loc nD τ sig) → Buf (Elt Ideal) ℓ} {c : Dev nD}

theorem V_a (q : Fin 8192) (a : Fin 8192) : (V m c main_v0 (ix2 q a) : EReal) = ((m (lc c main_arg1) : S8192x8192.Idx → EReal) (ix2 q a) : EReal) := by
  have hv : V m c main_v0 = truncf (F := Ideal) .bf16 (m (lc c main_arg1)) bitsLt_bf16_f32 := by
    unfold V
    after_results
    try rfl
  rw [hv]
  rfl

theorem V_b (q : Fin 8192) (a : Fin 2048) : (V m c main_v1 (ix2 q a) : EReal) = ((m (lc c main_arg2) : S8192x2048.Idx → EReal) (ix2 q a) : EReal) := by
  have hv : V m c main_v1 = truncf (F := Ideal) .bf16 (m (lc c main_arg2)) bitsLt_bf16_f32 := by
    unfold V
    after_results
    try rfl
  rw [hv]
  rfl

theorem V_z : V m c main_arg0 = m (lc c main_arg0) := by
  unfold V
  after_results
  try rfl

theorem V_x : V m c main_arg3 = m (lc c main_arg3) := by
  unfold V
  after_results
  try rfl

theorem V_g : V m c main_arg4 = m (lc c main_arg4) := by
  unfold V
  after_results
  try rfl

theorem V_h : V m c main_arg5 = m (lc c main_arg5) := by
  unfold V
  after_results
  try rfl

/-- The row that is normed. -/
def dR (Z : Fin 8192 → Fin 2048 → ℝ) (D : Fin 8192 → Fin 8192 → ℝ) (W : Fin 8192 → Fin 2048 → ℝ) (q : Fin 8192) (k : Fin 2048) : ℝ := alpha * Z q k + ∑ j, D q j * W j k

variable {Z T : Fin 8192 → Fin 2048 → ℝ} {D : Fin 8192 → Fin 8192 → ℝ} {W : Fin 8192 → Fin 2048 → ℝ} {G B : Fin 2048 → ℝ} (H : Reals m c Z D T W G B) (t : Fin cfg0.N)

include H

theorem blk_a (r : Fin 512) (j : Fin 1024) : (iblk m c 0 t (ix2 r j) : EReal) = ((D (at_ t r) (col t j) : ℝ) : EReal) := by
  obtain ⟨⟨e0, e1⟩, -⟩ := idx_facts t
  refine Eq.trans (Eq.trans ?_ (V_a (m := m) (c := c) (at_ t r) (col t j))) (H.2.1 (at_ t r) (col t j))
  exact read2 (V m c main_v0) _ _ (by show win0_0.index t ax0 * 512 + 1 * r.val = 512 * (t.val / 8) + r.val; omega) (by show win0_0.index t ax1 * 1024 + 1 * j.val = 1024 * (t.val % 8) + j.val; omega)

theorem blk_b (j : Fin 1024) (k : Fin 2048) : (iblk m c 1 t (ix2 j k) : EReal) = ((W (col t j) k : ℝ) : EReal) := by
  obtain ⟨-, ⟨e0, e1⟩, -⟩ := idx_facts t
  refine Eq.trans (Eq.trans ?_ (V_b (m := m) (c := c) (col t j) k)) (H.2.2.1 (col t j) k)
  exact read2 (V m c main_v1) _ _ (by show win0_1.index t ax0 * 1024 + 1 * j.val = 1024 * (t.val % 8) + j.val; omega) (by show win0_1.index t ax1 * 2048 + 1 * k.val = k.val; omega)

theorem blk_z (r : Fin 512) (k : Fin 2048) : (iblk m c 2 t (ix2 r k) : EReal) = ((Z (at_ t r) k : ℝ) : EReal) := by
  obtain ⟨-, -, ⟨e0, e1⟩, -⟩ := idx_facts t
  refine Eq.trans (Eq.trans ?_ (congrFun (V_z (m := m) (c := c)) (ix2 (at_ t r) k))) (H.1 (at_ t r) k)
  exact read2 (V m c main_arg0) _ _ (by show win0_2.index t ax0 * 512 + 1 * r.val = 512 * (t.val / 8) + r.val; omega) (by show win0_2.index t ax1 * 2048 + 1 * k.val = k.val; omega)

theorem blk_x (r : Fin 512) (k : Fin 2048) : (iblk m c 3 t (ix2 r k) : EReal) = ((T (at_ t r) k : ℝ) : EReal) := by
  obtain ⟨-, -, -, ⟨e0, e1⟩, -⟩ := idx_facts t
  refine Eq.trans (Eq.trans ?_ (congrFun (V_x (m := m) (c := c)) (ix2 (at_ t r) k))) (H.2.2.2.1 (at_ t r) k)
  exact read2 (V m c main_arg3) _ _ (by show win0_3.index t ax0 * 512 + 1 * r.val = 512 * (t.val / 8) + r.val; omega) (by show win0_3.index t ax1 * 2048 + 1 * k.val = k.val; omega)

theorem blk_g (k : Fin 2048) : (iblk m c 4 t (ix2 0 k) : EReal) = ((G k : ℝ) : EReal) := by
  obtain ⟨-, -, -, -, ⟨e0, e1⟩, -⟩ := idx_facts t
  refine Eq.trans (Eq.trans ?_ (congrFun (V_g (m := m) (c := c)) (ix2 0 k))) (H.2.2.2.2.1 k)
  exact read2 (V m c main_arg4) _ _ (by show win0_4.index t ax0 * 1 + 1 * 0 = 0; omega) (by show win0_4.index t ax1 * 2048 + 1 * k.val = k.val; omega)

theorem blk_h (k : Fin 2048) : (iblk m c 5 t (ix2 0 k) : EReal) = ((B k : ℝ) : EReal) := by
  obtain ⟨-, -, -, -, -, ⟨e0, e1⟩, -⟩ := idx_facts t
  refine Eq.trans (Eq.trans ?_ (congrFun (V_h (m := m) (c := c)) (ix2 0 k))) (H.2.2.2.2.2 k)
  exact read2 (V m c main_arg5) _ _ (by show win0_5.index t ax0 * 1 + 1 * 0 = 0; omega) (by show win0_5.index t ax1 * 2048 + 1 * k.val = k.val; omega)

omit H in
/-- The terms of the product. -/
def term (D : Fin 8192 → Fin 8192 → ℝ) (W : Fin 8192 → Fin 2048 → ℝ) (q : Fin 8192) (k : Fin 2048) (a : Fin 8192) : EReal := ((D q a * W a k : ℝ) : EReal)

theorem dot (r : Fin 512) (k : Fin 2048) : ∑ j : Fin 1024, @HMul.hMul EReal EReal EReal _ (iblk m c 0 t (ix2 r j)) (iblk m c 1 t (ix2 j k)) = ∑ j : Fin 1024, ext0 (term D W (at_ t r) k) (1024 * (t.val % 8) + j.val) :=
  Finset.sum_congr rfl fun j _ => by
    exact (congrArg₂ (fun x y : EReal => x * y) (blk_a H t r j) (blk_b H t j k)).trans ((EReal.coe_mul _ _).symm.trans (ext0_of (term D W (at_ t r) k) _ (col t j).isLt).symm)

omit H in
/-- What the point before left in the accumulator. -/
def prev (m : (ℓ : Loc nD τ sig) → Buf (Elt Ideal) ℓ) (c : Dev nD) (t : Fin cfg0.N) : Vec Ideal S512x2048 .f32 := (outsAt0 m c (t.val - 1) (Nat.lt_of_le_of_lt (Nat.sub_le _ _) t.isLt)).2.2.2.2.2

omit H in
theorem scr_first (h : t.val % 8 = 0) : (outsAt0 m c t.val t.isLt).2.2.2.2.2 = k0_pay2 k0_pay1 (iblk m c 0 t) (iblk m c 1 t) := by
  refine Eq.trans (congrArg (fun p => p.2.2.2.2.2) (outsAt0_A m c t h (by omega))) ?_
  dsimp only
  exact A_s _ _ _ _ _ _ _ _

omit H in
theorem scr_next (h : ¬ t.val % 8 = 0) : (outsAt0 m c t.val t.isLt).2.2.2.2.2 = k0_pay2 (prev m c t) (iblk m c 0 t) (iblk m c 1 t) := by
  by_cases h1 : t.val % 8 = 7
  · by_cases h2 : t.val < 8
    · refine Eq.trans (congrArg (fun p => p.2.2.2.2.2) (outsAt0_C m c t h h1 h2 (by omega) h2 (by omega) h2 (by omega))) ?_
      dsimp only
      exact C_s _ _ _ _ _ _ _ _ _ _ _ _ _ _ _
    · refine Eq.trans (congrArg (fun p => p.2.2.2.2.2) (outsAt0_D m c t h h1 h2 (by omega) h2 (by omega) h2 (by omega))) ?_
      dsimp only
      exact D_s _ _ _ _ _ _ _ _ _ _ _ _ _ _ _ _ _ _
  · refine Eq.trans (congrArg (fun p => p.2.2.2.2.2) (outsAt0_B m c t h h1)) ?_
    dsimp only
    exact B_s _ _ _ _ _ _ _ _ _

omit H t in
/-- Row `r` of row tile `i`. -/
def row (i : ℕ) (r : Fin 512) : Fin 8192 := ⟨(512 * i + r.val) % 8192, Nat.mod_lt _ (by decide)⟩

omit H in
theorem row_eq (r : Fin 512) : at_ t r = row (t.val / 8) r := Fin.ext (by
  have h : t.val < 128 := t.isLt
  show 512 * (t.val / 8) + r.val = (512 * (t.val / 8) + r.val) % 8192
  omega)

/-- A block's part of the product, by its row tile and its place. -/
theorem part (r : Fin 512) (k : Fin 2048) (j : ℕ) (hj : t.val % 8 = j) : ∑ j : Fin 1024, @HMul.hMul EReal EReal EReal _ (iblk m c 0 t (ix2 r j)) (iblk m c 1 t (ix2 j k)) = ∑ a : Fin 1024, ext0 (term D W (row (t.val / 8) r) k) (1024 * j + a.val) := by
  subst hj
  exact (dot H t r k).trans (by rw [row_eq])

theorem scr_first' (h : t.val % 8 = 0) (r : Fin 512) (k : Fin 2048) : ((outsAt0 m c t.val t.isLt).2.2.2.2.2 (ix2 r k) : EReal) = ∑ a : Fin 1024, ext0 (term D W (row (t.val / 8) r) k) (1024 * 0 + a.val) := by
  rw [scr_first t h, pay2, pay1, zero_add]
  exact part H t r k 0 h

theorem scr_next' (h : ¬ t.val % 8 = 0) (r : Fin 512) (k : Fin 2048) : ((outsAt0 m c t.val t.isLt).2.2.2.2.2 (ix2 r k) : EReal) = (prev m c t (ix2 r k) : EReal) + ∑ a : Fin 1024, ext0 (term D W (row (t.val / 8) r) k) (1024 * (t.val % 8) + a.val) := by
  rw [scr_next t h, pay2]
  exact congrArg (fun y : EReal => (prev m c t (ix2 r k) : EReal) + y) (part H t r k _ rfl)

theorem scr (r : Fin 512) (k : Fin 2048) : ((outsAt0 m c t.val t.isLt).2.2.2.2.2 (ix2 r k) : EReal) = ∑ j ∈ Finset.range (t.val % 8 + 1), ∑ a : Fin 1024, ext0 (term D W (row (t.val / 8) r) k) (1024 * j + a.val) :=
  fold_cols 8 (by decide) (fun t h => ((outsAt0 m c t h).2.2.2.2.2 (ix2 r k) : EReal)) (fun i j => ∑ a : Fin 1024, ext0 (term D W (row i r) k) (1024 * j + a.val))
    (fun t h hm => scr_first' H ⟨t, h⟩ hm r k) (fun t h hm => scr_next' H ⟨t, h⟩ hm r k) t.val t.isLt

/-- At the last block the accumulator holds the product. -/
theorem scr_last (h : t.val % 8 = 7) (r : Fin 512) (k : Fin 2048) : (k0_pay2 (prev m c t) (iblk m c 0 t) (iblk m c 1 t) (ix2 r k) : EReal) = ((∑ j, D (at_ t r) j * W j k : ℝ) : EReal) := by
  refine Eq.trans (congrFun (scr_next (m := m) (c := c) t (by omega)) (ix2 r k)).symm ((scr H t r k).trans ?_)
  rw [h, ← row_eq]
  refine (sum_blocks 8 1024 (by decide) (term D W (at_ t r) k)).trans ?_
  unfold term
  rw [Cert.Attention.coe_sum]

theorem last_d (h : t.val % 8 = 7) (r : Fin 512) (k : Fin 2048) :
    Ideal.ofBits .f32 0x3F9837F0#32 * (iblk m c 2 t (ix2 r k) : EReal) + (k0_pay2 (prev m c t) (iblk m c 0 t) (iblk m c 1 t) (ix2 r k) : EReal) = ((dR Z D W (at_ t r) k : ℝ) : EReal) := by
  rw [scr_last H t h, ofBits_alpha]
  refine (congrArg (fun y : EReal => ((alpha : ℝ) : EReal) * y + _) (blk_z H t r k)).trans ?_
  rw [← EReal.coe_mul, ← EReal.coe_add]
  rfl

theorem pt (h : t.val % 8 = 7) (r : Fin 512) (k : Fin 2048) :
    (chunkX (ch ⟨r.val / 128, by omega⟩ (k0_pay2 (prev m c t) (iblk m c 0 t) (iblk m c 1 t))) (ch ⟨r.val / 128, by omega⟩ (iblk m c 2 t)) (ch ⟨r.val / 128, by omega⟩ (iblk m c 3 t)) (iblk m c 4 t) (iblk m c 5 t) (ix2 ⟨r.val % 128, by omega⟩ k) : EReal) = (back eps (dR Z D W (at_ t r)) (fun k => dy (dR Z D W (at_ t r)) G B (T (at_ t r)) k * G k) k : ℝ) := by
  have hr : sub ⟨r.val / 128, by omega⟩ ⟨r.val % 128, by omega⟩ = r := Fin.ext (by show 128 * (r.val / 128) + r.val % 128 = r.val; omega)
  have hv := t_X (k0_pay2 (prev m c t) (iblk m c 0 t) (iblk m c 1 t)) (iblk m c 2 t) (iblk m c 3 t) (iblk m c 4 t) (iblk m c 5 t) (fun r => dR Z D W (at_ t r)) (fun r => T (at_ t r)) G B (last_d H t h) (blk_x H t) (blk_g H t) (blk_h H t) ⟨r.val / 128, by omega⟩ ⟨r.val % 128, by omega⟩ k
  rw [hr] at hv
  exact hv

theorem pt6 (h : t.val % 8 = 7) (r : Fin 512) (k : Fin 2048) : ((outsAt0 m c t.val t.isLt).1 (ix2 r k) : EReal) = (back eps (dR Z D W (at_ t r)) (fun k => dy (dR Z D W (at_ t r)) G B (T (at_ t r)) k * G k) k : ℝ) := by
  by_cases h2 : t.val < 8
  · refine Eq.trans (congrFun (congrArg (fun p => p.1) (outsAt0_C m c t (by omega) h h2 (by omega) h2 (by omega) h2 (by omega))) (ix2 r k)) ?_
    dsimp only
    exact (C_6 _ _ _ _ _ _ _ _ _ _ _ _ _ _ _ _ _).trans (pt H t h r k)
  · refine Eq.trans (congrFun (congrArg (fun p => p.1) (outsAt0_D m c t (by omega) h h2 (by omega) h2 (by omega) h2 (by omega))) (ix2 r k)) ?_
    dsimp only
    exact (D_6 _ _ _ _ _ _ _ _ _ _ _ _ _ _ _ _ _ _ _ _).trans (pt H t h r k)

theorem pt7 (h : t.val % 8 = 7) (r : Fin 512) (k : Fin 2048) : ((outsAt0 m c t.val t.isLt).2.1 (ix2 r k) : EReal) = (back eps (dR Z D W (at_ t r)) (fun k => dy (dR Z D W (at_ t r)) G B (T (at_ t r)) k * G k) k : ℝ) := by
  by_cases h2 : t.val < 8
  · refine Eq.trans (congrFun (congrArg (fun p => p.2.1) (outsAt0_C m c t (by omega) h h2 (by omega) h2 (by omega) h2 (by omega))) (ix2 r k)) ?_
    dsimp only
    exact (C_7 _ _ _ _ _ _ _ _ _ _ _ _ _ _ _ _ _).trans (pt H t h r k)
  · refine Eq.trans (congrFun (congrArg (fun p => p.2.1) (outsAt0_D m c t (by omega) h h2 (by omega) h2 (by omega) h2 (by omega))) (ix2 r k)) ?_
    dsimp only
    exact (D_7 _ _ _ _ _ _ _ _ _ _ _ _ _ _ _ _ _ _ _ _).trans (pt H t h r k)

omit H in
/-- The rows' parts of the scale's gradient. -/
def fg (Z : Fin 8192 → Fin 2048 → ℝ) (D : Fin 8192 → Fin 8192 → ℝ) (T : Fin 8192 → Fin 2048 → ℝ) (W : Fin 8192 → Fin 2048 → ℝ) (G B : Fin 2048 → ℝ) (k : Fin 2048) (r : Fin 8192) : EReal := ((dy (dR Z D W r) G B (T r) k * xh eps (dR Z D W r) k : ℝ) : EReal)

omit H in
/-- The rows' parts of the offset's gradient. -/
def fb (Z : Fin 8192 → Fin 2048 → ℝ) (D : Fin 8192 → Fin 8192 → ℝ) (T : Fin 8192 → Fin 2048 → ℝ) (W : Fin 8192 → Fin 2048 → ℝ) (G B : Fin 2048 → ℝ) (k : Fin 2048) (r : Fin 8192) : EReal := ((dy (dR Z D W r) G B (T r) k : ℝ) : EReal)

omit H in
/-- The rows' parts of the loss. -/
def fl (Z : Fin 8192 → Fin 2048 → ℝ) (D : Fin 8192 → Fin 8192 → ℝ) (T : Fin 8192 → Fin 2048 → ℝ) (W : Fin 8192 → Fin 2048 → ℝ) (G B : Fin 2048 → ℝ) (r : Fin 8192) : EReal := ((lo (dR Z D W r) G B (T r) : ℝ) : EReal)

omit H in
theorem tile_sum (f : Fin 8192 → EReal) (i : ℕ) (hi : t.val / 8 = i) : ∑ r : Fin 512, f (at_ t r) = ∑ r : Fin 512, ext0 f (512 * i + r.val) :=
  Finset.sum_congr rfl fun r _ => by subst hi; exact (ext0_of f _ (at_ t r).isLt).symm

omit t in
theorem acc8 (i : Fin 8) (j : Fin 128) : ∀ t (h : t < cfg0.N), 8 ≤ t + 1 → ((outsAt0 m c t h).2.2.1 (ix2 i j) : EReal) = ∑ j ∈ Finset.range ((t + 1) / 8), ∑ r : Fin 512, ext0 (fl Z D T W G B) (512 * j + r.val) := by
  refine fold_rows 8 (by decide) (fun t h => ((outsAt0 m c t h).2.2.1 (ix2 i j) : EReal)) (fun j => ∑ r : Fin 512, ext0 (fl Z D T W G B) (512 * j + r.val)) (fun h => ?_) (fun t h hl hm => ?_) (fun t h hl hm => ?_)
  · refine Eq.trans (congrFun (congrArg (fun p => p.2.2.1) (outsAt0_C m c ⟨7, h⟩ (by show ¬ 7 % 8 = 0; decide) (by show 7 % 8 = 7; decide) (by show 7 < 8; decide) (by show ¬ 8 ≤ 7; decide) (by show 7 < 8; decide) (by show ¬ 8 ≤ 7; decide) (by show 7 < 8; decide) (by show ¬ 8 ≤ 7; decide))) (ix2 i j)) ?_
    dsimp only
    refine Eq.trans (congrFun (C_8 _ _ _ _ _ _ _ _ _ _ _ _ _ _ _) (ix2 i j)) ?_
    exact (tile_l0 _ _ _ _ _ (fun r => dR Z D W (at_ ⟨7, h⟩ r)) (fun r => T (at_ ⟨7, h⟩ r)) G B (last_d H ⟨7, h⟩ rfl) (blk_x H ⟨7, h⟩) (blk_g H ⟨7, h⟩) (blk_h H ⟨7, h⟩) i j).trans (tile_sum ⟨7, h⟩ (fl Z D T W G B) 0 (by show 7 / 8 = 0; decide))
  · refine Eq.trans (congrFun (congrArg (fun p => p.2.2.1) (outsAt0_D m c ⟨t, h⟩ (by show ¬ t % 8 = 0; omega) (by show t % 8 = 7; omega) (by show ¬ t < 8; omega) (by show 8 ≤ t; omega) (by show ¬ t < 8; omega) (by show 8 ≤ t; omega) (by show ¬ t < 8; omega) (by show 8 ≤ t; omega))) (ix2 i j)) ?_
    dsimp only
    refine Eq.trans (congrFun (D_8 _ _ _ _ _ _ _ _ _ _ _ _ _ _ _ _ _ _) (ix2 i j)) ?_
    exact (tile_l _ _ _ _ _ (fun r => dR Z D W (at_ ⟨t, h⟩ r)) (fun r => T (at_ ⟨t, h⟩ r)) G B (last_d H ⟨t, h⟩ hm) (blk_x H ⟨t, h⟩) (blk_g H ⟨t, h⟩) (blk_h H ⟨t, h⟩) _ i j).trans (congrArg₂ (fun x y : EReal => x + y) rfl (tile_sum ⟨t, h⟩ (fl Z D T W G B) (t / 8) rfl))
  · by_cases h0 : t % 8 = 0
    · exact congrFun (congrArg (fun p => p.2.2.1) (outsAt0_A m c ⟨t, h⟩ h0 (by show ¬ t % 8 = 7; omega))) (ix2 i j)
    · exact congrFun (congrArg (fun p => p.2.2.1) (outsAt0_B m c ⟨t, h⟩ h0 (by show ¬ t % 8 = 7; omega))) (ix2 i j)

omit t in
theorem acc9 (k : Fin 2048) : ∀ t (h : t < cfg0.N), 8 ≤ t + 1 → ((outsAt0 m c t h).2.2.2.1 (ix2 0 k) : EReal) = ∑ j ∈ Finset.range ((t + 1) / 8), ∑ r : Fin 512, ext0 (fg Z D T W G B k) (512 * j + r.val) := by
  refine fold_rows 8 (by decide) (fun t h => ((outsAt0 m c t h).2.2.2.1 (ix2 0 k) : EReal)) (fun j => ∑ r : Fin 512, ext0 (fg Z D T W G B k) (512 * j + r.val)) (fun h => ?_) (fun t h hl hm => ?_) (fun t h hl hm => ?_)
  · refine Eq.trans (congrFun (congrArg (fun p => p.2.2.2.1) (outsAt0_C m c ⟨7, h⟩ (by show ¬ 7 % 8 = 0; decide) (by show 7 % 8 = 7; decide) (by show 7 < 8; decide) (by show ¬ 8 ≤ 7; decide) (by show 7 < 8; decide) (by show ¬ 8 ≤ 7; decide) (by show 7 < 8; decide) (by show ¬ 8 ≤ 7; decide))) (ix2 0 k)) ?_
    dsimp only
    refine Eq.trans (congrFun (C_9 _ _ _ _ _ _ _ _ _ _ _ _ _ _ _) (ix2 0 k)) ?_
    exact (tile_g0 _ _ _ _ _ (fun r => dR Z D W (at_ ⟨7, h⟩ r)) (fun r => T (at_ ⟨7, h⟩ r)) G B (last_d H ⟨7, h⟩ rfl) (blk_x H ⟨7, h⟩) (blk_g H ⟨7, h⟩) (blk_h H ⟨7, h⟩) k).trans (tile_sum ⟨7, h⟩ (fg Z D T W G B k) 0 (by show 7 / 8 = 0; decide))
  · refine Eq.trans (congrFun (congrArg (fun p => p.2.2.2.1) (outsAt0_D m c ⟨t, h⟩ (by show ¬ t % 8 = 0; omega) (by show t % 8 = 7; omega) (by show ¬ t < 8; omega) (by show 8 ≤ t; omega) (by show ¬ t < 8; omega) (by show 8 ≤ t; omega) (by show ¬ t < 8; omega) (by show 8 ≤ t; omega))) (ix2 0 k)) ?_
    dsimp only
    refine Eq.trans (congrFun (D_9 _ _ _ _ _ _ _ _ _ _ _ _ _ _ _ _ _ _) (ix2 0 k)) ?_
    exact (tile_g _ _ _ _ _ (fun r => dR Z D W (at_ ⟨t, h⟩ r)) (fun r => T (at_ ⟨t, h⟩ r)) G B (last_d H ⟨t, h⟩ hm) (blk_x H ⟨t, h⟩) (blk_g H ⟨t, h⟩) (blk_h H ⟨t, h⟩) _ k).trans (congrArg₂ (fun x y : EReal => x + y) rfl (tile_sum ⟨t, h⟩ (fg Z D T W G B k) (t / 8) rfl))
  · by_cases h0 : t % 8 = 0
    · exact congrFun (congrArg (fun p => p.2.2.2.1) (outsAt0_A m c ⟨t, h⟩ h0 (by show ¬ t % 8 = 7; omega))) (ix2 0 k)
    · exact congrFun (congrArg (fun p => p.2.2.2.1) (outsAt0_B m c ⟨t, h⟩ h0 (by show ¬ t % 8 = 7; omega))) (ix2 0 k)

omit t in
theorem acc10 (k : Fin 2048) : ∀ t (h : t < cfg0.N), 8 ≤ t + 1 → ((outsAt0 m c t h).2.2.2.2.1 (ix2 0 k) : EReal) = ∑ j ∈ Finset.range ((t + 1) / 8), ∑ r : Fin 512, ext0 (fb Z D T W G B k) (512 * j + r.val) := by
  refine fold_rows 8 (by decide) (fun t h => ((outsAt0 m c t h).2.2.2.2.1 (ix2 0 k) : EReal)) (fun j => ∑ r : Fin 512, ext0 (fb Z D T W G B k) (512 * j + r.val)) (fun h => ?_) (fun t h hl hm => ?_) (fun t h hl hm => ?_)
  · refine Eq.trans (congrFun (congrArg (fun p => p.2.2.2.2.1) (outsAt0_C m c ⟨7, h⟩ (by show ¬ 7 % 8 = 0; decide) (by show 7 % 8 = 7; decide) (by show 7 < 8; decide) (by show ¬ 8 ≤ 7; decide) (by show 7 < 8; decide) (by show ¬ 8 ≤ 7; decide) (by show 7 < 8; decide) (by show ¬ 8 ≤ 7; decide))) (ix2 0 k)) ?_
    dsimp only
    refine Eq.trans (congrFun (C_10 _ _ _ _ _ _ _ _ _ _ _ _ _ _ _) (ix2 0 k)) ?_
    exact (tile_b0 _ _ _ _ _ (fun r => dR Z D W (at_ ⟨7, h⟩ r)) (fun r => T (at_ ⟨7, h⟩ r)) G B (last_d H ⟨7, h⟩ rfl) (blk_x H ⟨7, h⟩) (blk_g H ⟨7, h⟩) (blk_h H ⟨7, h⟩) k).trans (tile_sum ⟨7, h⟩ (fb Z D T W G B k) 0 (by show 7 / 8 = 0; decide))
  · refine Eq.trans (congrFun (congrArg (fun p => p.2.2.2.2.1) (outsAt0_D m c ⟨t, h⟩ (by show ¬ t % 8 = 0; omega) (by show t % 8 = 7; omega) (by show ¬ t < 8; omega) (by show 8 ≤ t; omega) (by show ¬ t < 8; omega) (by show 8 ≤ t; omega) (by show ¬ t < 8; omega) (by show 8 ≤ t; omega))) (ix2 0 k)) ?_
    dsimp only
    refine Eq.trans (congrFun (D_10 _ _ _ _ _ _ _ _ _ _ _ _ _ _ _ _ _ _) (ix2 0 k)) ?_
    exact (tile_b _ _ _ _ _ (fun r => dR Z D W (at_ ⟨t, h⟩ r)) (fun r => T (at_ ⟨t, h⟩ r)) G B (last_d H ⟨t, h⟩ hm) (blk_x H ⟨t, h⟩) (blk_g H ⟨t, h⟩) (blk_h H ⟨t, h⟩) _ k).trans (congrArg₂ (fun x y : EReal => x + y) rfl (tile_sum ⟨t, h⟩ (fb Z D T W G B k) (t / 8) rfl))
  · by_cases h0 : t % 8 = 0
    · exact congrFun (congrArg (fun p => p.2.2.2.2.1) (outsAt0_A m c ⟨t, h⟩ h0 (by show ¬ t % 8 = 7; omega))) (ix2 0 k)
    · exact congrFun (congrArg (fun p => p.2.2.2.2.1) (outsAt0_B m c ⟨t, h⟩ h0 (by show ¬ t % 8 = 7; omega))) (ix2 0 k)

omit H in
theorem disjoint6 (a a' : Fin cfg0.N) (hf : (cfg0.win 6).flush a = true) (hf' : (cfg0.win 6).flush a' = true) (hne : a ≠ a') : Disjoint ((cfg0.win 6).blk a).view.set ((cfg0.win 6).blk a').view.set := by
  have h := (flush0_6 a).mp hf
  have h' := (flush0_6 a').mp hf'
  obtain ⟨-, -, -, -, -, -, ⟨e0, -⟩, -⟩ := idx_facts a
  obtain ⟨-, -, -, -, -, -, ⟨e0', -⟩, -⟩ := idx_facts a'
  refine Finset.disjoint_left.mpr fun i hm hm' => hne (Fin.ext ?_)
  obtain ⟨y, -, hy⟩ := Finset.mem_map.mp hm
  obtain ⟨y', -, hy'⟩ := Finset.mem_map.mp hm'
  have h1 : win0_6.index a ax0 * 512 + 1 * (y 0).val = (i 0).val := congrArg (fun i : S8192x2048.Idx => (i 0).val) hy
  have h2 : win0_6.index a' ax0 * 512 + 1 * (y' 0).val = (i 0).val := congrArg (fun i : S8192x2048.Idx => (i 0).val) hy'
  have l1 : (y 0).val < 512 := (y 0).isLt
  have l2 : (y' 0).val < 512 := (y' 0).isLt
  omega

omit H in
theorem disjoint7 (a a' : Fin cfg0.N) (hf : (cfg0.win 7).flush a = true) (hf' : (cfg0.win 7).flush a' = true) (hne : a ≠ a') : Disjoint ((cfg0.win 7).blk a).view.set ((cfg0.win 7).blk a').view.set := by
  have h := (flush0_7 a).mp hf
  have h' := (flush0_7 a').mp hf'
  obtain ⟨-, -, -, -, -, -, -, ⟨e0, -⟩, -⟩ := idx_facts a
  obtain ⟨-, -, -, -, -, -, -, ⟨e0', -⟩, -⟩ := idx_facts a'
  refine Finset.disjoint_left.mpr fun i hm hm' => hne (Fin.ext ?_)
  obtain ⟨y, -, hy⟩ := Finset.mem_map.mp hm
  obtain ⟨y', -, hy'⟩ := Finset.mem_map.mp hm'
  have h1 : win0_7.index a ax0 * 512 + 1 * (y 0).val = (i 0).val := congrArg (fun i : S8192x2048.Idx => (i 0).val) hy
  have h2 : win0_7.index a' ax0 * 512 + 1 * (y' 0).val = (i 0).val := congrArg (fun i : S8192x2048.Idx => (i 0).val) hy'
  have l1 : (y 0).val < 512 := (y 0).isLt
  have l2 : (y' 0).val < 512 := (y' 0).isLt
  omega

theorem arr6 (q : Fin 8192) (k : Fin 2048) : ((dats m 0 c).arrAt 6 cfg0.N (ix2 q k) : EReal) = ((back eps (dR Z D W q) (fun k => dy (dR Z D W q) G B (T q) k * G k) k : ℝ) : EReal) := by
  have hN : cfg0.N = 128 := N_0
  obtain ⟨t, ht⟩ : ∃ t : Fin cfg0.N, t.val = q.val / 512 * 8 + 7 := ⟨⟨q.val / 512 * 8 + 7, by omega⟩, rfl⟩
  obtain ⟨-, -, -, -, -, -, ⟨e0, e1⟩, -⟩ := idx_facts t
  have hb := (dats m 0 c).read_blk_arrAt_eq_flushed 6 disjoint6 cfg0.N t t.isLt ((flush0_6 t).mpr (by omega))
  rw [Value.flushed6] at hb
  have hq : at_ t ⟨q.val % 512, by omega⟩ = q := Fin.ext (by show 512 * (t.val / 8) + q.val % 512 = q.val; omega)
  refine Eq.trans (Eq.trans (Eq.symm ?_) (congrFun hb (ix2 (⟨q.val % 512, by omega⟩ : Fin 512) k))) ((pt6 H t (by omega) ⟨q.val % 512, by omega⟩ k).trans (by rw [hq]))
  exact (read2 ((dats m 0 c).arrAt 6 cfg0.N) _ _ (by show q.val = win0_6.index t ax0 * 512 + 1 * (q.val % 512); omega) (by show k.val = win0_6.index t ax1 * 2048 + 1 * k.val; omega)).symm

theorem arr7 (q : Fin 8192) (k : Fin 2048) : ((dats m 0 c).arrAt 7 cfg0.N (ix2 q k) : EReal) = ((back eps (dR Z D W q) (fun k => dy (dR Z D W q) G B (T q) k * G k) k : ℝ) : EReal) := by
  have hN : cfg0.N = 128 := N_0
  obtain ⟨t, ht⟩ : ∃ t : Fin cfg0.N, t.val = q.val / 512 * 8 + 7 := ⟨⟨q.val / 512 * 8 + 7, by omega⟩, rfl⟩
  obtain ⟨-, -, -, -, -, -, -, ⟨e0, e1⟩, -⟩ := idx_facts t
  have hb := (dats m 0 c).read_blk_arrAt_eq_flushed 7 disjoint7 cfg0.N t t.isLt ((flush0_7 t).mpr (by omega))
  rw [Value.flushed7] at hb
  have hq : at_ t ⟨q.val % 512, by omega⟩ = q := Fin.ext (by show 512 * (t.val / 8) + q.val % 512 = q.val; omega)
  refine Eq.trans (Eq.trans (Eq.symm ?_) (congrFun hb (ix2 (⟨q.val % 512, by omega⟩ : Fin 512) k))) ((pt7 H t (by omega) ⟨q.val % 512, by omega⟩ k).trans (by rw [hq]))
  exact (read2 ((dats m 0 c).arrAt 7 cfg0.N) _ _ (by show q.val = win0_7.index t ax0 * 512 + 1 * (q.val % 512); omega) (by show k.val = win0_7.index t ax1 * 2048 + 1 * k.val; omega)).symm

theorem arr8 (i : Fin 8) (j : Fin 128) : ((dats m 0 c).arrAt 8 cfg0.N (ix2 i j) : EReal) = ∑ r, fl Z D T W G B r := by
  obtain ⟨t, ht⟩ : ∃ t : Fin cfg0.N, t.val = 127 := ⟨⟨127, by decide⟩, rfl⟩
  obtain ⟨-, -, -, -, -, -, -, -, ⟨e0, e1⟩, -⟩ := idx_facts t
  have hb := (dats m 0 c).read_blk_arrAt_eq_flushed 8 (fun a a' hf hf' hne => absurd (Fin.ext (by have ha : a.val < 128 := a.isLt; have ha' : a'.val < 128 := a'.isLt; have := (flush0_8 a).mp hf; have := (flush0_8 a').mp hf'; omega)) hne) cfg0.N t t.isLt ((flush0_8 t).mpr (by omega))
  rw [Value.flushed8] at hb
  refine Eq.trans (Eq.trans (Eq.symm ?_) (congrFun hb (ix2 i j))) ((acc8 H i j t.val t.isLt (by omega)).trans ?_)
  · exact (read2 ((dats m 0 c).arrAt 8 cfg0.N) _ _ (by show i.val = win0_8.index t ax0 * 8 + 1 * i.val; omega) (by show j.val = win0_8.index t ax1 * 128 + 1 * j.val; omega)).symm
  · rw [ht]
    exact sum_blocks 16 512 (by decide) (fl Z D T W G B)

theorem arr9 (k : Fin 2048) : ((dats m 0 c).arrAt 9 cfg0.N (ix2 0 k) : EReal) = ∑ r, fg Z D T W G B k r := by
  obtain ⟨t, ht⟩ : ∃ t : Fin cfg0.N, t.val = 127 := ⟨⟨127, by decide⟩, rfl⟩
  obtain ⟨-, -, -, -, -, -, -, -, -, ⟨e0, e1⟩, -⟩ := idx_facts t
  have hb := (dats m 0 c).read_blk_arrAt_eq_flushed 9 (fun a a' hf hf' hne => absurd (Fin.ext (by have ha : a.val < 128 := a.isLt; have ha' : a'.val < 128 := a'.isLt; have := (flush0_9 a).mp hf; have := (flush0_9 a').mp hf'; omega)) hne) cfg0.N t t.isLt ((flush0_9 t).mpr (by omega))
  rw [Value.flushed9] at hb
  refine Eq.trans (Eq.trans (Eq.symm ?_) (congrFun hb (ix2 0 k))) ((acc9 H k t.val t.isLt (by omega)).trans ?_)
  · exact (read2 ((dats m 0 c).arrAt 9 cfg0.N) _ _ (by show 0 = win0_9.index t ax0 * 1 + 1 * 0; omega) (by show k.val = win0_9.index t ax1 * 2048 + 1 * k.val; omega)).symm
  · rw [ht]
    exact sum_blocks 16 512 (by decide) (fg Z D T W G B k)

theorem arr10 (k : Fin 2048) : ((dats m 0 c).arrAt 10 cfg0.N (ix2 0 k) : EReal) = ∑ r, fb Z D T W G B k r := by
  obtain ⟨t, ht⟩ : ∃ t : Fin cfg0.N, t.val = 127 := ⟨⟨127, by decide⟩, rfl⟩
  obtain ⟨-, -, -, -, -, -, -, -, -, -, ⟨e0, e1⟩⟩ := idx_facts t
  have hb := (dats m 0 c).read_blk_arrAt_eq_flushed 10 (fun a a' hf hf' hne => absurd (Fin.ext (by have ha : a.val < 128 := a.isLt; have ha' : a'.val < 128 := a'.isLt; have := (flush0_10 a).mp hf; have := (flush0_10 a').mp hf'; omega)) hne) cfg0.N t t.isLt ((flush0_10 t).mpr (by omega))
  rw [Value.flushed10] at hb
  refine Eq.trans (Eq.trans (Eq.symm ?_) (congrFun hb (ix2 0 k))) ((acc10 H k t.val t.isLt (by omega)).trans ?_)
  · exact (read2 ((dats m 0 c).arrAt 10 cfg0.N) _ _ (by show 0 = win0_10.index t ax0 * 1 + 1 * 0; omega) (by show k.val = win0_10.index t ax1 * 2048 + 1 * k.val; omega)).symm
  · rw [ht]
    exact sum_blocks 16 512 (by decide) (fb Z D T W G B k)

end

section

open Cert.Ff2Ln2LossRefIdeal Read Idealize.ShloMosaic

variable (x0 : (⟨S8192x2048, .f32⟩ : BufTy).Contents (Elt Ideal)) (x1 : (⟨S8192x8192, .f32⟩ : BufTy).Contents (Elt Ideal)) (x2 x3 : (⟨S8192x2048, .f32⟩ : BufTy).Contents (Elt Ideal)) (x4 x5 : (⟨S1x2048, .f32⟩ : BufTy).Contents (Elt Ideal))
  {Z T : Fin 8192 → Fin 2048 → ℝ} {D : Fin 8192 → Fin 8192 → ℝ} {W : Fin 8192 → Fin 2048 → ℝ} {G B : Fin 2048 → ℝ}
  (h0 : ∀ r k, (x0 (ix2 r k) : EReal) = (Z r k : ℝ)) (h1 : ∀ r k, (x1 (ix2 r k) : EReal) = (D r k : ℝ)) (h2 : ∀ l k, (x2 (ix2 l k) : EReal) = (W l k : ℝ)) (h3 : ∀ r k, (x3 (ix2 r k) : EReal) = (T r k : ℝ)) (h4 : ∀ k, (x4 (ix2 0 k) : EReal) = (G k : ℝ)) (h5 : ∀ k, (x5 (ix2 0 k) : EReal) = (B k : ℝ))

include h0 h1 h2 in
theorem r3 (r : Fin 8192) (k : Fin 2048) : (val_main_v3 x0 x1 x2 (ix2 r k) : EReal) = (dR Z D W r k : ℝ) := by
  simp only [val_main_v3, val_main_v2, val_main_v1, val_main_v0, val_main_cst]
  pointwise
  rw [Cert.Rms.dot_coe (fun j => x1 (ix2 r j)) (fun j => x2 (ix2 j k)) (D r) (fun j => W j k) (h1 r) (fun j => h2 j k), h0, ofBits_alpha, ← EReal.coe_mul, ← EReal.coe_add]
  rfl

include h0 h1 h2 in
theorem r9 (r : Fin 8192) (k : Fin 2048) : (val_main_v9 x0 x1 x2 (ix2 r k) : EReal) = (cen (dR Z D W r) k : ℝ) :=
  Cert.LnIn.r5 (val_main_v3 x0 x1 x2) (r3 x0 x1 x2 h0 h1 h2) r k

include h0 h1 h2 in
theorem r19 (r : Fin 8192) (j : Fin 1) : (val_main_v19 x0 x1 x2 (ix2 r j) : EReal) = (rs eps (dR Z D W r) : ℝ) :=
  Cert.LnIn.r15 (val_main_v3 x0 x1 x2) (r3 x0 x1 x2 h0 h1 h2) r j

include h0 h1 h2 in
theorem r22 (r : Fin 8192) (j : Fin 1) : (val_main_v22 x0 x1 x2 (ix2 r j) : EReal) = (hs eps (dR Z D W r) : ℝ) :=
  Cert.LnIn.r18 (val_main_v3 x0 x1 x2) (r3 x0 x1 x2 h0 h1 h2) r j

include h0 h1 h2 in
theorem r24 (r : Fin 8192) (k : Fin 2048) : (val_main_v24 x0 x1 x2 (ix2 r k) : EReal) = (xh eps (dR Z D W r) k : ℝ) :=
  Cert.LnIn.r20 (val_main_v3 x0 x1 x2) (r3 x0 x1 x2 h0 h1 h2) r k

include h0 h1 h2 h3 h4 h5 in
theorem r29 (r : Fin 8192) (k : Fin 2048) : (val_main_v29 x0 x1 x2 x3 x4 x5 (ix2 r k) : EReal) = (er (dR Z D W r) G B (T r) k : ℝ) := by
  have h24 := r24 x0 x1 x2 h0 h1 h2 r k
  simp only [val_main_v29, val_main_v28, val_main_v27, val_main_v26, val_main_v25]
  generalize val_main_v24 x0 x1 x2 = v at h24 ⊢
  pointwise
  rw [h24, h3, h4, h5, ← EReal.coe_mul, ← EReal.coe_add, ← EReal.coe_sub]
  rfl

include h0 h1 h2 h3 h4 h5 in
theorem r43 (r : Fin 8192) (k : Fin 2048) : (val_main_v43 x0 x1 x2 x3 x4 x5 (ix2 r k) : EReal) = (dy (dR Z D W r) G B (T r) k : ℝ) := by
  have h29 := r29 x0 x1 x2 x3 x4 x5 h0 h1 h2 h3 h4 h5 r k
  simp only [val_main_v43, val_main_v42, val_main_v41, val_main_v40, val_main_v39, val_main_v38, val_main_v32, val_main_v31, val_main_cst_7, val_main_cst_12, val_main_cst_13, val_main_cst_14]
  generalize val_main_v29 x0 x1 x2 x3 x4 x5 = v at h29 ⊢
  pointwise
  rw [h29, ofBits_half, ofBits_2048, ofBits_two, Cert.Attention.div_real (Nat.cast_ne_zero.mpr (by decide)), ← EReal.coe_mul, ← EReal.coe_mul]
  refine congrArg Real.toEReal ?_
  unfold dy
  push_cast
  ring

include h0 h1 h2 h3 h4 h5 in
theorem r72 (i : Fin 8) (j : Fin 128) : (val_main_v72 x0 x1 x2 x3 x4 x5 (ix2 i j) : EReal) = ∑ r, fl Z D T W G B r := by
  have h29 := r29 x0 x1 x2 x3 x4 x5 h0 h1 h2 h3 h4 h5
  simp only [val_main_v72, val_main_v37, val_main_v36, val_main_v35, val_main_v34, val_main_v33, val_main_v30, val_main_cst_8, val_main_cst_9, val_main_cst_10, val_main_cst_11]
  generalize val_main_v29 x0 x1 x2 x3 x4 x5 = v at h29 ⊢
  generalize hR : ∑ r, fl Z D T W G B r = R
  pointwise
  rw [← hR, ofBits_half]
  refine Eq.trans ?_ (half_sum fun r => (∑ k, er (dR Z D W r) G B (T r) k * er (dR Z D W r) G B (T r) k) / 2048)
  refine congrArg (fun y : EReal => ((1 / 2 : ℝ) : EReal) * y) (Finset.sum_congr rfl fun r _ => ?_)
  exact mean_coe (fun k => er (dR Z D W r) G B (T r) k * er (dR Z D W r) G B (T r) k) (by decide) (fun k => (v (ix2 r k) : EReal) * (v (ix2 r k) : EReal)) (fun k => by rw [h29]; exact (EReal.coe_mul _ _).symm) _ ofBits_2048

include h0 h1 h2 h3 h4 h5 in
theorem r62 (r : Fin 8192) (k : Fin 2048) : (val_main_v62 x0 x1 x2 x3 x4 x5 (ix2 r k) : EReal) = (pre eps (dR Z D W r) (fun k => dy (dR Z D W r) G B (T r) k * G k) k : ℝ) := by
  have h9 := r9 x0 x1 x2 h0 h1 h2 r
  have h19 := r19 x0 x1 x2 h0 h1 h2 r
  have h22 := r22 x0 x1 x2 h0 h1 h2 r
  have h43 := r43 x0 x1 x2 x3 x4 x5 h0 h1 h2 h3 h4 h5 r
  simp only [val_main_v62, val_main_v61, val_main_v60, val_main_v59, val_main_v58, val_main_v57, val_main_v56, val_main_v55, val_main_v54, val_main_v53, val_main_v52, val_main_v51, val_main_v50, val_main_v49, val_main_v12, val_main_v11, val_main_cst_2, val_main_cst_17, val_main_cst_18, val_main_cst_19]
  generalize val_main_v9 x0 x1 x2 = v9 at h9 ⊢
  generalize val_main_v19 x0 x1 x2 = v19 at h19 ⊢
  generalize val_main_v22 x0 x1 x2 = v22 at h22 ⊢
  generalize val_main_v43 x0 x1 x2 x3 x4 x5 = v43 at h43 ⊢
  pointwise
  rw [Fin.sum_univ_one]
  exact pre_coe eps (dR Z D W r) (fun k => dy (dR Z D W r) G B (T r) k * G k) (by decide) (fun k => (v43 (ix2 r k) : EReal) * (x4 (ix2 0 k) : EReal)) (fun k => v9 (ix2 r k)) (fun k => by rw [h43, h4]; exact (EReal.coe_mul _ _).symm) h9 _ _ _ _ (h19 _) (h22 _) ofBits_2048 ofBits_two k

include h0 h1 h2 h3 h4 h5 in
theorem r70 (r : Fin 8192) (k : Fin 2048) : (val_main_v70 x0 x1 x2 x3 x4 x5 (ix2 r k) : EReal) = ((back eps (dR Z D W r) (fun k => dy (dR Z D W r) G B (T r) k * G k) k : ℝ) : EReal) := by
  have h62 := r62 x0 x1 x2 x3 x4 x5 h0 h1 h2 h3 h4 h5 r
  simp only [val_main_v70, val_main_v69, val_main_v68, val_main_v67, val_main_v66, val_main_v65, val_main_v64, val_main_v63, val_main_cst_20, val_main_cst_21, val_main_cst_22]
  generalize val_main_v62 x0 x1 x2 x3 x4 x5 = v at h62 ⊢
  pointwise
  rw [Fin.sum_univ_one]
  exact pre_back eps (dR Z D W r) (fun k => dy (dR Z D W r) G B (T r) k * G k) (by decide) eps_pos (fun k => v (ix2 r k)) h62 _ ofBits_2048 k

include h0 h1 h2 h3 h4 h5 in
theorem r48 (k : Fin 2048) : (val_main_v48 x0 x1 x2 x3 x4 x5 (ix2 0 k) : EReal) = ∑ r, fg Z D T W G B k r := by
  have h24 := fun r => r24 x0 x1 x2 h0 h1 h2 r k
  have h43 := fun r => r43 x0 x1 x2 x3 x4 x5 h0 h1 h2 h3 h4 h5 r k
  simp only [val_main_v48, val_main_v47, val_main_v46, val_main_cst_16]
  generalize val_main_v24 x0 x1 x2 = v at h24 ⊢
  generalize val_main_v43 x0 x1 x2 x3 x4 x5 = w at h43 ⊢
  generalize hR : ∑ r, fg Z D T W G B k r = R
  pointwise
  rw [← hR]
  refine Finset.sum_congr rfl fun r _ => ?_
  rw [h24, h43, ← EReal.coe_mul]
  exact congrArg Real.toEReal (mul_comm _ _)

include h0 h1 h2 h3 h4 h5 in
theorem r45 (k : Fin 2048) : (val_main_v45 x0 x1 x2 x3 x4 x5 (ix2 0 k) : EReal) = ∑ r, fb Z D T W G B k r := by
  have h43 := fun r => r43 x0 x1 x2 x3 x4 x5 h0 h1 h2 h3 h4 h5 r k
  simp only [val_main_v45, val_main_v44, val_main_cst_15]
  generalize val_main_v43 x0 x1 x2 x3 x4 x5 = w at h43 ⊢
  generalize hR : ∑ r, fb Z D T W G B k r = R
  pointwise
  rw [← hR]
  exact Finset.sum_congr rfl fun r _ => h43 r

end

section

open Idealize.ShloMosaic Idealize.SL.Sem TcCoe
open Cert.Finite

theorem real_args (x0 : FVec Ideal Cert.Ff2Ln2LossIdeal.S8192x2048 .f32) (x1 : FVec Ideal Cert.Ff2Ln2LossIdeal.S8192x8192 .f32) (x2 x3 : FVec Ideal Cert.Ff2Ln2LossIdeal.S8192x2048 .f32) (x4 x5 : FVec Ideal Cert.Ff2Ln2LossIdeal.S1x2048 .f32)
    (h : Cert.Pre_finite_ff2_ln2_loss.fn (F := Ideal) x0 x1 x2 x3 x4 x5 = fun _ => 1#1) :
    (∀ i, ∃ r : ℝ, (x0 i : EReal) = r) ∧ (∀ i, ∃ r : ℝ, (x1 i : EReal) = r) ∧ (∀ i, ∃ r : ℝ, (x2 i : EReal) = r) ∧ (∀ i, ∃ r : ℝ, (x3 i : EReal) = r) ∧ (∀ i, ∃ r : ℝ, (x4 i : EReal) = r) ∧ (∀ i, ∃ r : ℝ, (x5 i : EReal) = r) := by
  have e := congrFun h ix0
  unfold Cert.Pre_finite_ff2_ln2_loss.fn at e
  obtain ⟨e, h5⟩ := and_one e
  obtain ⟨e, h4⟩ := and_one e
  obtain ⟨e, h3⟩ := and_one e
  obtain ⟨e, h2⟩ := and_one e
  obtain ⟨e, h1⟩ := and_one e
  obtain ⟨-, h0⟩ := and_one e
  exact ⟨all_real _ _ _ _ _ h0, all_real _ _ _ _ _ h1, all_real _ _ _ _ _ h2, all_real _ _ _ _ _ h3, all_real _ _ _ _ _ h4, all_real _ _ _ _ _ h5⟩

/-- The precondition names the reals. -/
theorem reals (m : (ℓ : Loc Cert.Ff2Ln2LossIdeal.nD Cert.Ff2Ln2LossIdeal.τ Cert.Ff2Ln2LossIdeal.sig) → Buf (Elt Ideal) ℓ) (hpre : Cert.Pre_Ff2Ln2LossIdeal_finite_ff2_ln2_loss m) (c : Dev Cert.Ff2Ln2LossIdeal.nD) :
    ∃ Z D T W G B, Reals m c Z D T W G B := by
  obtain ⟨h0, h1, h2, h3, h4, h5⟩ := real_args _ _ _ _ _ _ (hpre c)
  choose r0 h0 using h0
  choose r1 h1 using h1
  choose r2 h2 using h2
  choose r3 h3 using h3
  choose r4 h4 using h4
  choose r5 h5 using h5
  exact ⟨fun q a => r0 (ix2 q a), fun q a => r1 (ix2 q a), fun q a => r3 (ix2 q a), fun q a => r2 (ix2 q a), fun a => r4 (ix2 0 a), fun a => r5 (ix2 0 a), fun q a => h0 _, fun q a => h1 _, fun q a => h2 _, fun q a => h3 _, fun a => h4 _, fun a => h5 _⟩

/-- Over the extended reals, of finite arguments, the loss the kernel takes and the gradients of the last layer norm are `jax.value_and_grad`'s. -/
theorem algebraic : Cert.algebraic_Ff2Ln2LossIdeal_Ff2Ln2LossRefIdeal_pre_finite_ff2_ln2_loss := fun m ρ m' ρ' hpre hag =>
  ⟨fun c => (Cert.Ff2Ln2LossIdeal.Gen.dats m 0 c).arrAt 6 Cert.Ff2Ln2LossIdeal.cfg0.N, fun c => (Cert.Ff2Ln2LossIdeal.Gen.dats m 0 c).arrAt 7 Cert.Ff2Ln2LossIdeal.cfg0.N,
    fun c => (Cert.Ff2Ln2LossIdeal.Gen.dats m 0 c).arrAt 8 Cert.Ff2Ln2LossIdeal.cfg0.N, fun c => (Cert.Ff2Ln2LossIdeal.Gen.dats m 0 c).arrAt 9 Cert.Ff2Ln2LossIdeal.cfg0.N,
    fun c => (Cert.Ff2Ln2LossIdeal.Gen.dats m 0 c).arrAt 10 Cert.Ff2Ln2LossIdeal.cfg0.N, Cert.Ff2Ln2LossIdeal.Value.run_blocks m ρ,
    (θ_run _ _ _).mono (fun r h c => by
      obtain ⟨Z, D, T, W, G, B, H⟩ := reals m hpre c
      obtain ⟨a0, a1, a2, a3, a4, a5⟩ := hag c
      obtain ⟨q0, q1, q2, q3, q4, rest⟩ := h c
      obtain ⟨H0, H1, H2, H3, H4, H5⟩ := id H
      refine ⟨?_, ?_, ?_, ?_, ?_, rest⟩
      · rw [q0, Cert.Ff2Ln2LossRefIdeal.Read.val_main_v70_eq, a0, a1, a2, a3, a4, a5]
        refine ext2 _ _ fun i0 i1 => ?_
        exact (r70 _ _ _ _ _ _ H0 H1 H2 H3 H4 H5 i0 i1).trans (arr6 H i0 i1).symm
      · rw [q1, Cert.Ff2Ln2LossRefIdeal.Read.val_main_v71_eq, a0, a1, a2, a3, a4, a5]
        refine ext2 _ _ fun i0 i1 => ?_
        exact (r70 _ _ _ _ _ _ H0 H1 H2 H3 H4 H5 i0 i1).trans (arr7 H i0 i1).symm
      · rw [q2, Cert.Ff2Ln2LossRefIdeal.Read.val_main_v72_eq, a0, a1, a2, a3, a4, a5]
        refine ext2 _ _ fun i0 i1 => ?_
        exact (r72 _ _ _ _ _ _ H0 H1 H2 H3 H4 H5 i0 i1).trans (arr8 H i0 i1).symm
      · rw [q3, Cert.Ff2Ln2LossRefIdeal.Read.val_main_v48_eq, a0, a1, a2, a3, a4, a5]
        refine ext2 _ _ fun i0 i1 => ?_
        obtain rfl : i0 = 0 := Subsingleton.elim _ _
        exact (r48 _ _ _ _ _ _ H0 H1 H2 H3 H4 H5 i1).trans (arr9 H i1).symm
      · rw [q4, Cert.Ff2Ln2LossRefIdeal.Read.val_main_v45_eq, a0, a1, a2, a3, a4, a5]
        refine ext2 _ _ fun i0 i1 => ?_
        obtain rfl : i0 = 0 := Subsingleton.elim _ _
        exact (r45 _ _ _ _ _ _ H0 H1 H2 H3 H4 H5 i1).trans (arr10 H i1).symm)
      (Cert.Ff2Ln2LossRefIdeal.Value.run m' ρ')⟩

end

end Cert.Ln2

end
-- ==== Proof.LnFwd.lean ====
/- Hand-written, untrusted: the first layer norm. Kernel and reference centre a row, scale it by the reciprocal root of its variance and apply the gain and the offset, in the same order; the kernel also leaves a copy in the narrower format. -/
module

public import proofs.«01_k».proof.Proof.Common
public import proofs.«01_k».proof.Proof.Gen.LnInFwdIdeal.Value
public import proofs.«01_k».proof.Proof.Gen.LnInFwdRefIdeal.Read

@[expose] public section

set_option maxRecDepth 16384

noncomputable section

namespace Cert.LnFwd

open Idealize.ShloMosaic in
/-- A row minus its mean. -/
def centred (x : Fin 2048 → EReal) (k : Fin 2048) : EReal := x k - Ideal.div (∑ j : Fin 2048, x j) (Ideal.ofBits .f32 0x45000000#32)

open Idealize.ShloMosaic in
/-- The layer norm of a row with gain `g` and offset `b`. -/
def norm (x g b : Fin 2048 → EReal) (k : Fin 2048) : EReal :=
  centred x k * Ideal.rsqrt (Ideal.div (∑ j : Fin 2048, centred x j * centred x j) (Ideal.ofBits .f32 0x45000000#32) + Ideal.ofBits .f32 0x3727C5AC#32) * g k + b k

section

open Cert.Common Cert.LnInFwdIdeal Cert.LnInFwdIdeal.Gen Idealize.ShloMosaic TcCoe Idealize.SL.Sem

/-- What a point leaves in its two blocks. -/
theorem out_apply (x0 : Vec Ideal S512x2048 .f32) (x1 x2 : Vec Ideal S1x2048 .f32) (i : Fin 512) (k : Fin 2048) :
    (out0_3 x0 x1 x2 (ix2 i k) : EReal) = norm (fun j => x0 (ix2 i j)) (fun j => x1 (ix2 0 j)) (fun j => x2 (ix2 0 j)) k
    ∧ (out0_4 x0 x1 x2 (ix2 i k) : EReal) = norm (fun j => x0 (ix2 i j)) (fun j => x1 (ix2 0 j)) (fun j => x2 (ix2 0 j)) k := by
  unfold out0_3 out0_4
  rw [View.canon_unit_zero hz, View.canon_unit_zero hz]
  simp only [ld0 S512x2048, ld0 S1x2048]
  unfold_payloads
  pointwise
  exact ⟨rfl, rfl⟩

variable (m : (ℓ : Loc nD τ sig) → Buf (Elt Ideal) ℓ)

theorem idx_facts : ∀ t : Fin cfg0.N, win0_0.index t ax0 = t.val ∧ win0_0.index t ax1 = 0
    ∧ win0_1.index t ax0 = 0 ∧ win0_1.index t ax1 = 0 ∧ win0_2.index t ax0 = 0 ∧ win0_2.index t ax1 = 0
    ∧ win0_3.index t ax0 = t.val ∧ win0_3.index t ax1 = 0 ∧ win0_4.index t ax0 = t.val ∧ win0_4.index t ax1 = 0 :=
  (by decide +kernel : ∀ t : Fin grid0.N, _)

/-- The layer norm of a row of the arguments. -/
def row (c : Dev nD) (r : Fin 8192) (k : Fin 2048) : EReal :=
  norm (fun j => m (lc c main_arg0) (ix2 r j)) (fun j => m (lc c main_arg1) (ix2 0 j)) (fun j => m (lc c main_arg2) (ix2 0 j)) k

/-- The two results at one element. -/
theorem final_apply (c : Dev nD) (r : Fin 8192) (k : Fin 2048) :
    ((dats m 0 c).arrAt 3 cfg0.N (ix2 r k) : EReal) = row m c r k ∧ ((dats m 0 c).arrAt 4 cfg0.N (ix2 r k) : EReal) = row m c r k := by
  have hN : cfg0.N = 16 := N_0
  obtain ⟨t, ht⟩ : ∃ t : Fin cfg0.N, t.val = r.val / 512 := ⟨⟨r.val / 512, by omega⟩, rfl⟩
  obtain ⟨e00, e01, e10, e11, e20, e21, e30, e31, e40, e41⟩ := idx_facts t
  have hb3 := Value.blocks3 m c t (flush0_3 _)
  have hb4 := Value.blocks4 m c t (flush0_4 _)
  rw [Value.flushed3] at hb3
  rw [Value.flushed4] at hb4
  have h3 := congrFun hb3 (ix2 (⟨r.val % 512, Nat.mod_lt _ (by decide)⟩ : Fin 512) k)
  have h4 := congrFun hb4 (ix2 (⟨r.val % 512, Nat.mod_lt _ (by decide)⟩ : Fin 512) k)
  have e3 := (read2 ((dats m 0 c).arrAt 3 cfg0.N) (ix2 r k) _ (by show r.val = win0_3.index t ax0 * 512 + 1 * (r.val % 512); omega)
    (by show k.val = win0_3.index t ax1 * 2048 + 1 * k.val; omega)).trans h3
  have e4 := (read2 ((dats m 0 c).arrAt 4 cfg0.N) (ix2 r k) _ (by show r.val = win0_4.index t ax0 * 512 + 1 * (r.val % 512); omega)
    (by show k.val = win0_4.index t ax1 * 2048 + 1 * k.val; omega)).trans h4
  have hn : norm (fun j => iblk m c 0 t (ix2 (⟨r.val % 512, Nat.mod_lt _ (by decide)⟩ : Fin 512) j)) (fun j => iblk m c 1 t (ix2 0 j)) (fun j => iblk m c 2 t (ix2 0 j)) k = row m c r k := by
    unfold row
    congr 1 <;> funext j
    · show (V m c main_arg0 _ : EReal) = _
      rw [V_main_arg0]
      exact read2 _ _ _ (by show win0_0.index t ax0 * 512 + 1 * (r.val % 512) = r.val; omega) (by show win0_0.index t ax1 * 2048 + 1 * j.val = j.val; omega)
    · show (V m c main_arg1 _ : EReal) = _
      rw [V_main_arg1]
      exact read2 _ _ _ (by show win0_1.index t ax0 * 1 + 1 * 0 = 0; omega) (by show win0_1.index t ax1 * 2048 + 1 * j.val = j.val; omega)
    · show (V m c main_arg2 _ : EReal) = _
      rw [V_main_arg2]
      exact read2 _ _ _ (by show win0_2.index t ax0 * 1 + 1 * 0 = 0; omega) (by show win0_2.index t ax1 * 2048 + 1 * j.val = j.val; omega)
  exact ⟨e3.trans ((out_apply _ _ _ _ _).1.trans hn), e4.trans ((out_apply _ _ _ _ _).2.trans hn)⟩

end

section

open Cert.Common Cert.LnInFwdRefIdeal Read Idealize.ShloMosaic

/-- The reference's two results at one element. -/
theorem ref_apply (x0 : (⟨S8192x2048, .f32⟩ : BufTy).Contents (Elt Ideal)) (x1 x2 : (⟨S1x2048, .f32⟩ : BufTy).Contents (Elt Ideal)) (r : Fin 8192) (k : Fin 2048) :
    (val_main_v19 x0 x1 x2 (ix2 r k) : EReal) = norm (fun j => x0 (ix2 r j)) (fun j => x1 (ix2 0 j)) (fun j => x2 (ix2 0 j)) k
    ∧ (val_main_v20 x0 x1 x2 (ix2 r k) : EReal) = norm (fun j => x0 (ix2 r j)) (fun j => x1 (ix2 0 j)) (fun j => x2 (ix2 0 j)) k := by
  simp only [val_main_v20, val_main_v19, val_main_v18, val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0,
    val_main_cst, val_main_cst_0, val_main_cst_1, val_main_cst_2, val_main_cst_3]
  pointwise
  exact ⟨rfl, rfl⟩

end

open Idealize.ShloMosaic Idealize.SL.Sem TcCoe in
/-- Over the extended reals the kernel's layer norm and its narrower copy are the reference's. -/
theorem algebraic : Cert.algebraic_LnInFwdIdeal_LnInFwdRefIdeal := fun m ρ m' ρ' _ hag =>
  ⟨fun c => (Cert.LnInFwdIdeal.Gen.dats m 0 c).arrAt 3 Cert.LnInFwdIdeal.cfg0.N, fun c => (Cert.LnInFwdIdeal.Gen.dats m 0 c).arrAt 4 Cert.LnInFwdIdeal.cfg0.N,
    Cert.LnInFwdIdeal.Value.run_blocks m ρ,
    (θ_run _ _ _).mono (fun r h c => ⟨by
      rw [(h c).1, (hag c).1, (hag c).2.1, (hag c).2.2, Cert.LnInFwdRefIdeal.Read.val_main_v19_eq]
      funext i
      idx_vars i
      exact (ref_apply _ _ _ _ _).1.trans (final_apply m c _ _).1.symm, by
      rw [(h c).2.1, (hag c).1, (hag c).2.1, (hag c).2.2, Cert.LnInFwdRefIdeal.Read.val_main_v20_eq]
      funext i
      idx_vars i
      exact (ref_apply _ _ _ _ _).2.trans (final_apply m c _ _).2.symm, (h c).2.2⟩) (Cert.LnInFwdRefIdeal.Value.run m' ρ')⟩

end Cert.LnFwd

end
-- ==== Proof.Mix.lean ====
/- Hand-written, untrusted: the residual sum with the output product, and its layer norm. -/
module

public import proofs.«01_k».proof.Proof.LnFwd
public import proofs.«01_k».proof.Proof.Gen.MixLn1Ideal.Value
public import proofs.«01_k».proof.Proof.Gen.MixLn1RefIdeal.Read

@[expose] public section

set_option maxRecDepth 16384

noncomputable section

namespace Cert.Mix

open Idealize.ShloMosaic in
/-- The residual sum of a row: `x` times the depth's factor plus the product. -/
def mixed (a : Fin 2048 → EReal) (w : Fin 2048 → Fin 2048 → EReal) (x : Fin 2048 → EReal) (k : Fin 2048) : EReal :=
  Ideal.ofBits .f32 0x3F9837F0#32 * x k + ∑ j : Fin 2048, a j * w j k

section

open Cert.Common Cert.LnFwd Cert.MixLn1Ideal Cert.MixLn1Ideal.Gen Idealize.ShloMosaic TcCoe Idealize.SL.Sem

variable (x0 : Vec Ideal S256x2048 .bf16) (x1 : Vec Ideal S2048x2048 .bf16) (x2 : Vec Ideal S256x2048 .f32) (x3 x4 : Vec Ideal S1x2048 .f32)

/-- What a point leaves in its three blocks, each in two halves of 128 rows. -/
theorem out_apply (r : Fin 256) (k : Fin 2048) (z : Fin 2048 → EReal) (hz : z = mixed (fun j => x0 (ix2 r j)) (fun j k => x1 (ix2 j k)) (fun j => x2 (ix2 r j))) :
    (out0_5 x0 x1 x2 x3 x4 (ix2 r k) : EReal) = z k ∧ (out0_6 x0 x1 x2 x3 x4 (ix2 r k) : EReal) = norm z (fun j => x3 (ix2 0 j)) (fun j => x4 (ix2 0 j)) k
    ∧ (out0_7 x0 x1 x2 x3 x4 (ix2 r k) : EReal) = norm z (fun j => x3 (ix2 0 j)) (fun j => x4 (ix2 0 j)) k := by
  subst hz
  unfold out0_5 out0_6 out0_7
  simp only [k0_pay8, ld0 S256x2048, ld0 S2048x2048, ld0 S1x2048]
  refine ⟨?_, ?_, ?_⟩
  all_goals
    canon_tiles x h
    all_goals
      obtain rfl := (Fin.ext h1 : k = x 1)
      first
      | have e : r = ⟨128 + (x 0).val, Nat.add_lt_add_left (x 0).isLt 128⟩ := Fin.ext h0
      | have e : r = ⟨(x 0).val, Nat.lt_of_lt_of_le (x 0).isLt (by decide)⟩ := Fin.ext h0
      subst e
      unfold_payloads
      pointwise
      rfl

variable (m : (ℓ : Loc nD τ sig) → Buf (Elt Ideal) ℓ)

/-- The residual sum of a row of the arguments. -/
def zrow (c : Dev nD) (r : Fin 8192) : Fin 2048 → EReal :=
  mixed (fun j => m (lc c main_arg0) (ix2 r j)) (fun j k => m (lc c main_arg1) (ix2 j k)) (fun j => m (lc c main_arg2) (ix2 r j))

/-- Its layer norm. -/
def xrow (c : Dev nD) (r : Fin 8192) : Fin 2048 → EReal :=
  norm (zrow m c r) (fun j => m (lc c main_arg3) (ix2 0 j)) (fun j => m (lc c main_arg4) (ix2 0 j))

theorem V_w (c : Dev nD) : (V m c main_v0 : S2048x2048.Idx → EReal) = m (lc c main_arg1) := by
  unfold V
  after_results
  rfl

theorem idx_facts : ∀ t : Fin cfg0.N, (win0_0.index t ax0 = t.val ∧ win0_0.index t ax1 = 0)
    ∧ (win0_1.index t ax0 = 0 ∧ win0_1.index t ax1 = 0) ∧ (win0_2.index t ax0 = t.val ∧ win0_2.index t ax1 = 0)
    ∧ (win0_3.index t ax0 = 0 ∧ win0_3.index t ax1 = 0) ∧ (win0_4.index t ax0 = 0 ∧ win0_4.index t ax1 = 0)
    ∧ (win0_5.index t ax0 = t.val ∧ win0_5.index t ax1 = 0) ∧ (win0_6.index t ax0 = t.val ∧ win0_6.index t ax1 = 0)
    ∧ win0_7.index t ax0 = t.val ∧ win0_7.index t ax1 = 0 :=
  (by decide +kernel : ∀ t : Fin grid0.N, _)

/-- The three results at one element. -/
theorem final_apply (c : Dev nD) (r : Fin 8192) (k : Fin 2048) : ((dats m 0 c).arrAt 5 cfg0.N (ix2 r k) : EReal) = zrow m c r k
    ∧ ((dats m 0 c).arrAt 6 cfg0.N (ix2 r k) : EReal) = xrow m c r k ∧ ((dats m 0 c).arrAt 7 cfg0.N (ix2 r k) : EReal) = xrow m c r k := by
  have hN : cfg0.N = 32 := N_0
  obtain ⟨t, ht⟩ : ∃ t : Fin cfg0.N, t.val = r.val / 256 := ⟨⟨r.val / 256, by omega⟩, rfl⟩
  obtain ⟨⟨e00, e01⟩, ⟨e10, e11⟩, ⟨e20, e21⟩, ⟨e30, e31⟩, ⟨e40, e41⟩, ⟨e50, e51⟩, ⟨e60, e61⟩, e70, e71⟩ := idx_facts t
  have hb5 := Value.blocks5 m c t (flush0_5 _)
  have hb6 := Value.blocks6 m c t (flush0_6 _)
  have hb7 := Value.blocks7 m c t (flush0_7 _)
  rw [Value.flushed5] at hb5
  rw [Value.flushed6] at hb6
  rw [Value.flushed7] at hb7
  have hq : r.val % 256 < 256 := Nat.mod_lt _ (by decide)
  have ho := out_apply (iblk m c 0 t) (iblk m c 1 t) (iblk m c 2 t) (iblk m c 3 t) (iblk m c 4 t) ⟨r.val % 256, hq⟩ k (zrow m c r) (by
    unfold zrow
    congr 1
    · funext j
      show _ = (V m c main_arg0 _ : EReal)
      rw [V_main_arg0]
      exact read2 _ _ _ (by show r.val = win0_0.index t ax0 * 256 + 1 * (r.val % 256); omega) (by show j.val = win0_0.index t ax1 * 2048 + 1 * j.val; omega)
    · funext j k
      show _ = (V m c main_v0 _ : EReal)
      rw [V_w]
      exact read2 _ _ _ (by show j.val = win0_1.index t ax0 * 2048 + 1 * j.val; omega) (by show k.val = win0_1.index t ax1 * 2048 + 1 * k.val; omega)
    · funext j
      show _ = (V m c main_arg2 _ : EReal)
      rw [V_main_arg2]
      exact read2 _ _ _ (by show r.val = win0_2.index t ax0 * 256 + 1 * (r.val % 256); omega) (by show j.val = win0_2.index t ax1 * 2048 + 1 * j.val; omega))
  have hx : norm (zrow m c r) (fun j => iblk m c 3 t (ix2 0 j)) (fun j => iblk m c 4 t (ix2 0 j)) k = xrow m c r k := by
    unfold xrow
    congr 1 <;> funext j
    · show (V m c main_arg3 _ : EReal) = _
      rw [V_main_arg3]
      exact read2 _ _ _ (by show win0_3.index t ax0 * 1 + 1 * 0 = 0; omega) (by show win0_3.index t ax1 * 2048 + 1 * j.val = j.val; omega)
    · show (V m c main_arg4 _ : EReal) = _
      rw [V_main_arg4]
      exact read2 _ _ _ (by show win0_4.index t ax0 * 1 + 1 * 0 = 0; omega) (by show win0_4.index t ax1 * 2048 + 1 * j.val = j.val; omega)
  refine ⟨Eq.trans ((read2 ((dats m 0 c).arrAt 5 cfg0.N) (ix2 r k) _ ?_ ?_).trans (congrFun hb5 (ix2 (⟨r.val % 256, hq⟩ : Fin 256) k))) ho.1,
    Eq.trans ((read2 ((dats m 0 c).arrAt 6 cfg0.N) (ix2 r k) _ ?_ ?_).trans (congrFun hb6 (ix2 (⟨r.val % 256, hq⟩ : Fin 256) k))) (ho.2.1.trans hx),
    Eq.trans ((read2 ((dats m 0 c).arrAt 7 cfg0.N) (ix2 r k) _ ?_ ?_).trans (congrFun hb7 (ix2 (⟨r.val % 256, hq⟩ : Fin 256) k))) (ho.2.2.trans hx)⟩
  · show r.val = win0_5.index t ax0 * 256 + 1 * (r.val % 256); omega
  · show k.val = win0_5.index t ax1 * 2048 + 1 * k.val; omega
  · show r.val = win0_6.index t ax0 * 256 + 1 * (r.val % 256); omega
  · show k.val = win0_6.index t ax1 * 2048 + 1 * k.val; omega
  · show r.val = win0_7.index t ax0 * 256 + 1 * (r.val % 256); omega
  · show k.val = win0_7.index t ax1 * 2048 + 1 * k.val; omega

end

section

open Cert.Common Cert.LnFwd Cert.MixLn1RefIdeal Read Idealize.ShloMosaic

variable (x0 : (⟨S8192x2048, .bf16⟩ : BufTy).Contents (Elt Ideal)) (x1 : (⟨S2048x2048, .f32⟩ : BufTy).Contents (Elt Ideal)) (x2 : (⟨S8192x2048, .f32⟩ : BufTy).Contents (Elt Ideal)) (x3 x4 : (⟨S1x2048, .f32⟩ : BufTy).Contents (Elt Ideal))

/-- The reference's residual sum at one element. -/
theorem ref_z (r : Fin 8192) (k : Fin 2048) : (val_main_v4 x0 x1 x2 (ix2 r k) : EReal) = mixed (fun j => x0 (ix2 r j)) (fun j k => x1 (ix2 j k)) (fun j => x2 (ix2 r j)) k := by
  simp only [val_main_v4, val_main_v3, val_main_v2, val_main_v1, val_main_v0, val_main_cst]
  pointwise
  rfl

/-- The reference's layer norm of it, and the narrower copy. -/
theorem ref_x (r : Fin 8192) (k : Fin 2048) (z : Fin 2048 → EReal) (h : ∀ k, (val_main_v4 x0 x1 x2 (ix2 r k) : EReal) = z k) :
    (val_main_v24 x0 x1 x2 x3 x4 (ix2 r k) : EReal) = norm z (fun j => x3 (ix2 0 j)) (fun j => x4 (ix2 0 j)) k
    ∧ (val_main_v25 x0 x1 x2 x3 x4 (ix2 r k) : EReal) = norm z (fun j => x3 (ix2 0 j)) (fun j => x4 (ix2 0 j)) k := by
  obtain rfl := funext h
  simp only [val_main_v25, val_main_v24, val_main_v23, val_main_v22, val_main_v21, val_main_v20, val_main_v19, val_main_v18, val_main_v17, val_main_v16, val_main_v15, val_main_v14, val_main_v13,
    val_main_v12, val_main_v11, val_main_v10, val_main_v9, val_main_v8, val_main_v7, val_main_v6, val_main_v5, val_main_cst_0, val_main_cst_1, val_main_cst_2, val_main_cst_3, val_main_cst_4]
  generalize val_main_v4 x0 x1 x2 = v
  pointwise
  exact ⟨rfl, rfl⟩

end

open Idealize.ShloMosaic TcCoe Idealize.SL.Sem in
/-- Over the extended reals the kernel's three results are the reference's. -/
theorem algebraic : Cert.algebraic_MixLn1Ideal_MixLn1RefIdeal := fun m ρ m' ρ' _ hag =>
  ⟨fun c => (Cert.MixLn1Ideal.Gen.dats m 0 c).arrAt 5 Cert.MixLn1Ideal.cfg0.N, fun c => (Cert.MixLn1Ideal.Gen.dats m 0 c).arrAt 6 Cert.MixLn1Ideal.cfg0.N, fun c => (Cert.MixLn1Ideal.Gen.dats m 0 c).arrAt 7 Cert.MixLn1Ideal.cfg0.N,
    Cert.MixLn1Ideal.Value.run_blocks m ρ,
    (θ_run _ _ _).mono (fun r h c => ⟨by
      rw [(h c).1, Cert.MixLn1RefIdeal.Read.val_main_v4_eq, (hag c).1, (hag c).2.1, (hag c).2.2.1]
      funext i
      idx_vars i
      exact (ref_z _ _ _ _ _).trans (final_apply m c _ _).1.symm, by
      rw [(h c).2.1, Cert.MixLn1RefIdeal.Read.val_main_v24_eq, (hag c).1, (hag c).2.1, (hag c).2.2.1, (hag c).2.2.2.1, (hag c).2.2.2.2]
      funext i
      idx_vars i
      exact (ref_x _ _ _ _ _ _ _ _ (ref_z _ _ _ _)).1.trans (final_apply m c _ _).2.1.symm, by
      rw [(h c).2.2.1, Cert.MixLn1RefIdeal.Read.val_main_v25_eq, (hag c).1, (hag c).2.1, (hag c).2.2.1, (hag c).2.2.2.1, (hag c).2.2.2.2]
      funext i
      idx_vars i
      exact (ref_x _ _ _ _ _ _ _ _ (ref_z _ _ _ _)).2.trans (final_apply m c _ _).2.2.symm, (h c).2.2.2⟩) (Cert.MixLn1RefIdeal.Value.run m' ρ')⟩

end Cert.Mix

end
-- ==== Proof.RopeTables.lean ====
/- Hand-written, untrusted: the rotary tables. The kernel writes four copies of the frequencies side by side and keeps, for each table, the lanes it wants. -/
module

public import proofs.«01_k».proof.Proof.Common
public import proofs.«01_k».proof.Proof.Gen.RopeTablesIdeal.Value
public import proofs.«01_k».proof.Proof.Gen.RopeTablesRefIdeal.Read

@[expose] public section

set_option maxRecDepth 16384

noncomputable section

namespace Cert.RopeTablesValue

open Idealize.ShloMosaic

/-- The reference's 32 frequencies. -/
abbrev freq : (⟨1, ![32]⟩ : Shape).Idx → EReal := Cert.RopeTablesRefIdeal.Read.val_main_v5 (F := Ideal)

/-- The angle of a position, a word, at a frequency. -/
def ang (p : BitVec 32) (f : EReal) : EReal := FloatOps.sitofp (F := Ideal) .f32 p * f

/-- The three tables at lane `n`, of the angle at that lane. -/
def tab (a : EReal) (n : ℕ) : EReal × EReal × EReal :=
  (if n < 64 then Ideal.cos a else 0, if n < 32 then -Ideal.sin a else 0, if 32 ≤ n ∧ n < 64 then Ideal.sin a else 0)

section

open Cert.Common Cert.RopeTablesIdeal Cert.RopeTablesIdeal.Gen Idealize.ShloMosaic TcCoe Idealize.SL.Sem

/-- What a point leaves in its three blocks. -/
theorem out_apply (x0 : Vec Ideal S1024x1 .i32) (x1 : Vec Ideal S1x128 .f32) (i : Fin 1024) (n : Fin 128) (a : EReal) (h : ang (x0 (ix2 i 0)) (x1 (ix2 0 n)) = a) :
    ((out0_2 x0 x1 (ix2 i n), out0_3 x0 x1 (ix2 i n), out0_4 x0 x1 (ix2 i n)) : EReal × EReal × EReal) = tab a n := by
  subst h
  unfold out0_2 out0_3 out0_4 tab ang
  simp only [c0 S1024x128, ld0 S1024x1, ld0 S1x128]
  unfold_payloads
  pointwise
  have hc : ∀ n : Fin 128, IntOp.cmpi .slt (BitVec.ofNat 32 n.val) 64#32 = (if n.val < 64 then 1#1 else 0#1) ∧ IntOp.cmpi .slt (BitVec.ofNat 32 n.val) 32#32 = (if n.val < 32 then 1#1 else 0#1)
      ∧ IntOp.cmpi .sge (BitVec.ofNat 32 n.val) 32#32 = (if 32 ≤ n.val then 1#1 else 0#1) := by decide +kernel
  rw [(hc n).1, (hc n).2.1, (hc n).2.2, zero_sub]
  by_cases h1 : n.val < 64 <;> by_cases h2 : n.val < 32 <;> by_cases h3 : 32 ≤ n.val <;> first | omega | simp [h1, h2, h3, Scalar.select, IntOp.andi]

variable (m : (ℓ : Loc nD τ sig) → Buf (Elt Ideal) ℓ)

theorem V_p (c : Dev nD) (r : Fin 8192) (p : S8192.Idx → BitVec 32) (hp : p = m (lc c main_arg0)) : (V m c main_v10 (ix2 r 0) : BitVec 32) = p (ix1 r) := by
  have hv : V m c main_v10 = shapeCast (s := S8192) S8192x1 (m (lc c main_arg0)) shapeCasts_S8192_S8192x1 := by
    unfold V
    after_results
    try rfl
  rw [hv, ← hp]
  pointwise

/-- The four copies of the frequencies as the region finds them. -/
theorem V_f (c : Dev nD) (n : Fin 128) : (V m c main_v9 (ix2 0 n) : EReal) = freq (ix1 ⟨n.val % 32, Nat.mod_lt _ (by decide)⟩) := by
  have hv : V m c main_v9 = shapeCast (s := S128) S1x128 (shapeCast (s := S4x32) S128 (broadcastInDim S4x32 ![0, 1] bcast_S1x32_S4x32_0_1 (shapeCast (s := S32) S1x32 freq shapeCasts_S32_S1x32)) shapeCasts_S4x32_S128) shapeCasts_S128_S1x128 := by
    unfold V
    after_results
    try rfl
  rw [hv]
  generalize freq = g
  pointwise

theorem idx_facts : ∀ t : Fin cfg0.N, win0_0.index t ax0 = t.val ∧ win0_0.index t ax1 = 0
    ∧ win0_1.index t ax0 = 0 ∧ win0_1.index t ax1 = 0 ∧ win0_2.index t ax0 = t.val ∧ win0_2.index t ax1 = 0
    ∧ win0_3.index t ax0 = t.val ∧ win0_3.index t ax1 = 0 ∧ win0_4.index t ax0 = t.val ∧ win0_4.index t ax1 = 0 :=
  (by decide +kernel : ∀ t : Fin grid0.N, _)

/-- The three results at one element. -/
theorem final_apply (c : Dev nD) (r : Fin 8192) (n : Fin 128) (p : S8192.Idx → BitVec 32) (hp : p = m (lc c main_arg0)) :
    (((dats m 0 c).arrAt 2 cfg0.N (ix2 r n), (dats m 0 c).arrAt 3 cfg0.N (ix2 r n), (dats m 0 c).arrAt 4 cfg0.N (ix2 r n)) : EReal × EReal × EReal)
      = tab (ang (p (ix1 r)) (freq (ix1 ⟨n.val % 32, Nat.mod_lt _ (by decide)⟩))) n := by
  have hN : cfg0.N = 8 := N_0
  obtain ⟨t, ht⟩ : ∃ t : Fin cfg0.N, t.val = r.val / 1024 := ⟨⟨r.val / 1024, by omega⟩, rfl⟩
  obtain ⟨e00, e01, e10, e11, e20, e21, e30, e31, e40, e41⟩ := idx_facts t
  have hb2 := Value.blocks2 m c t (flush0_2 _)
  have hb3 := Value.blocks3 m c t (flush0_3 _)
  have hb4 := Value.blocks4 m c t (flush0_4 _)
  rw [Value.flushed2] at hb2
  rw [Value.flushed3] at hb3
  rw [Value.flushed4] at hb4
  obtain ⟨i, hi⟩ : ∃ i : Fin 1024, i.val = r.val % 1024 := ⟨⟨r.val % 1024, Nat.mod_lt _ (by decide)⟩, rfl⟩
  have e2 := (read2 ((dats m 0 c).arrAt 2 cfg0.N) (ix2 r n) _ (by show r.val = win0_2.index t ax0 * 1024 + 1 * i.val; omega) (by show n.val = win0_2.index t ax1 * 128 + 1 * n.val; omega)).trans (congrFun hb2 (ix2 i n))
  have e3 := (read2 ((dats m 0 c).arrAt 3 cfg0.N) (ix2 r n) _ (by show r.val = win0_3.index t ax0 * 1024 + 1 * i.val; omega) (by show n.val = win0_3.index t ax1 * 128 + 1 * n.val; omega)).trans (congrFun hb3 (ix2 i n))
  have e4 := (read2 ((dats m 0 c).arrAt 4 cfg0.N) (ix2 r n) _ (by show r.val = win0_4.index t ax0 * 1024 + 1 * i.val; omega) (by show n.val = win0_4.index t ax1 * 128 + 1 * n.val; omega)).trans (congrFun hb4 (ix2 i n))
  rw [e2, e3, e4]
  refine out_apply (iblk m c 0 t) (iblk m c 1 t) i n _ (congrArg₂ ang ?_ ?_)
  · exact (read2 (V m c main_v10) _ (ix2 r (0 : Fin 1)) (by show win0_0.index t ax0 * 1024 + 1 * i.val = r.val; omega) (by show win0_0.index t ax1 * 1 + 1 * 0 = 0; omega)).trans (V_p m c r p hp)
  · exact (read2 (V m c main_v9) _ (ix2 (0 : Fin 1) n) (by show win0_1.index t ax0 * 1 + 1 * 0 = 0; omega) (by show win0_1.index t ax1 * 128 + 1 * n.val = n.val; omega)).trans (V_f m c n)

end

section

open Cert.Common Cert.RopeTablesRefIdeal Read Idealize.ShloMosaic

/-- The reference's three results at one element. -/
theorem ref_apply (x0 : (⟨S8192, .i32⟩ : BufTy).Contents (Elt Ideal)) (r : Fin 8192) (n : Fin 128) :
    ((val_main_v15 (F := Ideal) x0 (ix2 r n), val_main_v17 (F := Ideal) x0 (ix2 r n), val_main_v18 (F := Ideal) x0 (ix2 r n)) : EReal × EReal × EReal)
      = tab (ang (x0 (ix1 r)) (freq (ix1 ⟨n.val % 32, Nat.mod_lt _ (by decide)⟩))) n := by
  unfold tab ang
  simp only [val_main_v15, val_main_v17, val_main_v18, val_main_v16, val_main_v14, val_main_v13, val_main_v12, val_main_v11, val_main_v10, val_main_v9, val_main_v8, val_main_v7, val_main_v6, val_main_cst_1]
  pointwise
  by_cases h2 : n.val < 32
  · rw [show (⟨n.val % 32, Nat.mod_lt _ (by decide)⟩ : Fin 32) = ⟨n.val, h2⟩ from Fin.ext (Nat.mod_eq_of_lt h2)]
    simp [h2, show n.val < 64 by omega, show ¬32 ≤ n.val by omega]
  by_cases h1 : n.val < 64
  · rw [show (⟨n.val % 32, Nat.mod_lt _ (by decide)⟩ : Fin 32) = ⟨n.val - 32, by omega⟩ from Fin.ext (by show n.val % 32 = n.val - 32; omega)]
    simp [h2, h1, show 32 ≤ n.val by omega, show n.val - 32 < 32 by omega]
  · simp [h2, h1, show ¬n.val - 32 < 32 by omega]

end

open Idealize.SL.Sem Idealize.ShloMosaic.TcCoe in
/-- Over the extended reals the kernel's three tables are the reference's. -/
theorem algebraic : Cert.algebraic_RopeTablesIdeal_RopeTablesRefIdeal := fun m ρ m' ρ' _ hag =>
  ⟨fun c => (Cert.RopeTablesIdeal.Gen.dats m 0 c).arrAt 2 Cert.RopeTablesIdeal.cfg0.N, fun c => (Cert.RopeTablesIdeal.Gen.dats m 0 c).arrAt 3 Cert.RopeTablesIdeal.cfg0.N,
    fun c => (Cert.RopeTablesIdeal.Gen.dats m 0 c).arrAt 4 Cert.RopeTablesIdeal.cfg0.N, Cert.RopeTablesIdeal.Value.run_blocks m ρ,
    (θ_run _ _ _).mono (fun r h c => by
      have e := fun (r : Fin 8192) (n : Fin 128) => (ref_apply _ r n).trans (final_apply m c r n _ rfl).symm
      refine ⟨?_, ?_, ?_, (h c).2.2.2⟩
      · rw [(h c).1, hag c, Cert.RopeTablesRefIdeal.Read.val_main_v15_eq]
        funext i
        idx_vars i
        exact congrArg (·.1) (e _ _)
      · rw [(h c).2.1, hag c, Cert.RopeTablesRefIdeal.Read.val_main_v17_eq]
        funext i
        idx_vars i
        exact congrArg (·.2.1) (e _ _)
      · rw [(h c).2.2.1, hag c, Cert.RopeTablesRefIdeal.Read.val_main_v18_eq]
        funext i
        idx_vars i
        exact congrArg (·.2.2) (e _ _)) (Cert.RopeTablesRefIdeal.Value.run m' ρ')⟩

end Cert.RopeTablesValue

end
-- ==== Proof.lean ====
/- The certificate: the frames are the generated ones, the value claims are proved in the modules imported here. -/
module

public import proofs.«01_k».proof.Defs
public import proofs.«01_k».proof.Proof.Conv
public import proofs.«01_k».proof.Proof.ConvLn
public import proofs.«01_k».proof.Proof.ConvLnF
public import proofs.«01_k».proof.Proof.Delta
public import proofs.«01_k».proof.Proof.DkUnrope
public import proofs.«01_k».proof.Proof.Ff1
public import proofs.«01_k».proof.Proof.Ff2
public import proofs.«01_k».proof.Proof.FlashBwdValue
public import proofs.«01_k».proof.Proof.FlashFwdValue
public import proofs.«01_k».proof.Proof.Gen.AttnDelta.Frame
public import proofs.«01_k».proof.Proof.Gen.ConvBwd.Frame
public import proofs.«01_k».proof.Proof.Gen.ConvLnSilu.Frame
public import proofs.«01_k».proof.Proof.Gen.ConvLnSiluBwd.Frame
public import proofs.«01_k».proof.Proof.Gen.DkUnrope.Frame
public import proofs.«01_k».proof.Proof.Gen.DqUnrope.Frame
public import proofs.«01_k».proof.Proof.Gen.Ff1Ln1Bwd.Frame
public import proofs.«01_k».proof.Proof.Gen.Ff1Relu2.Frame
public import proofs.«01_k».proof.Proof.Gen.Ff2Dgrad.Frame
public import proofs.«01_k».proof.Proof.Gen.Ff2Ln2Loss.Frame
public import proofs.«01_k».proof.Proof.Gen.FlashBwd.Frame
public import proofs.«01_k».proof.Proof.Gen.FlashFwd.Frame
public import proofs.«01_k».proof.Proof.Gen.GluBwd.Frame
public import proofs.«01_k».proof.Proof.Gen.InLnInBwd.Frame
public import proofs.«01_k».proof.Proof.Gen.KvDgradRms.Frame
public import proofs.«01_k».proof.Proof.Gen.LnInFwd.Frame
public import proofs.«01_k».proof.Proof.Gen.MixLn1.Frame
public import proofs.«01_k».proof.Proof.Gen.QDgradRms.Frame
public import proofs.«01_k».proof.Proof.Gen.RopeTables.Frame
public import proofs.«01_k».proof.Proof.Glu
public import proofs.«01_k».proof.Proof.LatKv
public import proofs.«01_k».proof.Proof.LatQ
public import proofs.«01_k».proof.Proof.Ln1
public import proofs.«01_k».proof.Proof.Ln2
public import proofs.«01_k».proof.Proof.LnFwd
public import proofs.«01_k».proof.Proof.LnIn
public import proofs.«01_k».proof.Proof.Mix
public import proofs.«01_k».proof.Proof.RopeTables
public import proofs.«01_k».proof.Proof.Unrope
public import Idealize.ShloMosaic.Lib.Quiescent
public import Idealize.ShloMosaic.Adequacy
public import Idealize.ShloMosaic.Init

@[expose] public section

noncomputable section

namespace Cert.Proof

open Idealize.ShloMosaic Idealize.SL.Sem

theorem claim : Cert.Claim :=
  ⟨GluBwd.Gen.facts, GluBwdIdeal.Gen.facts, GluBwdRefIdeal.Gen.facts, Ff2Dgrad.Gen.facts, Ff2DgradIdeal.Gen.facts, Ff2DgradRefIdeal.Gen.facts, AttnDelta.Gen.facts, AttnDeltaIdeal.Gen.facts, AttnDeltaRefIdeal.Gen.facts, DqUnrope.Gen.facts, DqUnropeIdeal.Gen.facts, DqUnropeRefIdeal.Gen.facts, DkUnrope.Gen.facts, DkUnropeIdeal.Gen.facts, DkUnropeRefIdeal.Gen.facts, FlashBwd.Gen.facts, FlashBwdIdeal.Gen.facts, FlashBwdRefIdeal.Gen.facts, FlashFwd.Gen.facts, FlashFwdIdeal.Gen.facts, FlashFwdRefIdeal.Gen.facts, ConvLnSiluBwd.Gen.facts, ConvLnSiluBwdIdeal.Gen.facts, ConvLnSiluBwdRefIdeal.Gen.facts, QDgradRms.Gen.facts, QDgradRmsIdeal.Gen.facts, QDgradRmsRefIdeal.Gen.facts, KvDgradRms.Gen.facts, KvDgradRmsIdeal.Gen.facts, KvDgradRmsRefIdeal.Gen.facts, Ff2Ln2Loss.Gen.facts, Ff2Ln2LossIdeal.Gen.facts, Ff2Ln2LossRefIdeal.Gen.facts, Ff1Ln1Bwd.Gen.facts, Ff1Ln1BwdIdeal.Gen.facts, Ff1Ln1BwdRefIdeal.Gen.facts, InLnInBwd.Gen.facts, InLnInBwdIdeal.Gen.facts, InLnInBwdRefIdeal.Gen.facts, ConvBwd.Gen.facts, ConvBwdIdeal.Gen.facts, ConvBwdRefIdeal.Gen.facts, LnInFwd.Gen.facts, LnInFwdIdeal.Gen.facts, LnInFwdRefIdeal.Gen.facts, Ff1Relu2.Gen.facts, Ff1Relu2Ideal.Gen.facts, Ff1Relu2RefIdeal.Gen.facts, RopeTables.Gen.facts, RopeTablesIdeal.Gen.facts, RopeTablesRefIdeal.Gen.facts, ConvLnSilu.Gen.facts, ConvLnSiluIdeal.Gen.facts, ConvLnSiluRefIdeal.Gen.facts, MixLn1.Gen.facts, MixLn1Ideal.Gen.facts, MixLn1RefIdeal.Gen.facts, Pre_finite_flash_bwd.Gen.facts, Pre_finite_flash_fwd.Gen.facts, Pre_finite_conv_ln_silu_bwd.Gen.facts, Pre_finite_q_dgrad_rms_bwd.Gen.facts, Pre_finite_kv_dgrad_rms_bwd.Gen.facts, Pre_finite_ff2_ln2_loss.Gen.facts, Pre_finite_ff1_dgrad_ln1_bwd.Gen.facts, Pre_finite_in_dgrad_ln_in_bwd.Gen.facts, On_conv_columns.Gen.facts, On_attention_columns.Gen.facts,
    fun m ρ _ => GluBwd.Gen.frame m ρ,
    fun m ρ _ => GluBwdIdeal.Gen.frame m ρ,
    fun m ρ _ => (θ_run _ _ _).mono (fun r h => ⟨fun c => (h c).2, sem_eq_zero_of_no_sems (by decide) r.2⟩) (GluBwdRefIdeal.Value.run (F := Ideal) m ρ),
    fun m ρ _ => Ff2Dgrad.Gen.frame m ρ,
    fun m ρ _ => Ff2DgradIdeal.Gen.frame m ρ,
    fun m ρ _ => (θ_run _ _ _).mono (fun r h => ⟨fun c => (h c).2, sem_eq_zero_of_no_sems (by decide) r.2⟩) (Ff2DgradRefIdeal.Value.run (F := Ideal) m ρ),
    fun m ρ _ => AttnDelta.Gen.frame m ρ,
    fun m ρ _ => AttnDeltaIdeal.Gen.frame m ρ,
    fun m ρ _ => (θ_run _ _ _).mono (fun r h => ⟨fun c => (h c).2.2, sem_eq_zero_of_no_sems (by decide) r.2⟩) (AttnDeltaRefIdeal.Value.run (F := Ideal) m ρ),
    fun m ρ _ => DqUnrope.Gen.frame m ρ,
    fun m ρ _ => DqUnropeIdeal.Gen.frame m ρ,
    fun m ρ _ => (θ_run _ _ _).mono (fun r h => ⟨fun c => (h c).2, sem_eq_zero_of_no_sems (by decide) r.2⟩) (DqUnropeRefIdeal.Value.run (F := Ideal) m ρ),
    fun m ρ _ => DkUnrope.Gen.frame m ρ,
    fun m ρ _ => DkUnropeIdeal.Gen.frame m ρ,
    fun m ρ _ => (θ_run _ _ _).mono (fun r h => ⟨fun c => (h c).2.2, sem_eq_zero_of_no_sems (by decide) r.2⟩) (DkUnropeRefIdeal.Value.run (F := Ideal) m ρ),
    fun m ρ _ => FlashBwd.Gen.frame m ρ,
    fun m ρ _ => FlashBwdIdeal.Gen.frame m ρ,
    fun m ρ _ => FlashBwdIdeal.Gen.frame m ρ,
    fun m ρ _ => (θ_run _ _ _).mono (fun r h => ⟨fun c => (h c).2.2.2, sem_eq_zero_of_no_sems (by decide) r.2⟩) (FlashBwdRefIdeal.Value.run (F := Ideal) m ρ),
    fun m ρ _ => (θ_run _ _ _).mono (fun r h => ⟨fun c => (h c).2.2.2, sem_eq_zero_of_no_sems (by decide) r.2⟩) (FlashBwdRefIdeal.Value.run (F := Ideal) m ρ),
    fun m ρ _ => FlashFwd.Gen.frame m ρ,
    fun m ρ _ => FlashFwdIdeal.Gen.frame m ρ,
    fun m ρ _ => FlashFwdIdeal.Gen.frame m ρ,
    fun m ρ _ => (θ_run _ _ _).mono (fun r h => ⟨fun c => (h c).2.2, sem_eq_zero_of_no_sems (by decide) r.2⟩) (FlashFwdRefIdeal.Value.run (F := Ideal) m ρ),
    fun m ρ _ => (θ_run _ _ _).mono (fun r h => ⟨fun c => (h c).2.2, sem_eq_zero_of_no_sems (by decide) r.2⟩) (FlashFwdRefIdeal.Value.run (F := Ideal) m ρ),
    fun m ρ _ => ConvLnSiluBwd.Gen.frame m ρ,
    fun m ρ _ => ConvLnSiluBwdIdeal.Gen.frame m ρ,
    fun m ρ _ => ConvLnSiluBwdIdeal.Gen.frame m ρ,
    fun m ρ _ => (θ_run _ _ _).mono (fun r h => ⟨fun c => (h c).2.2.2, sem_eq_zero_of_no_sems (by decide) r.2⟩) (ConvLnSiluBwdRefIdeal.Value.run (F := Ideal) m ρ),
    fun m ρ _ => (θ_run _ _ _).mono (fun r h => ⟨fun c => (h c).2.2.2, sem_eq_zero_of_no_sems (by decide) r.2⟩) (ConvLnSiluBwdRefIdeal.Value.run (F := Ideal) m ρ),
    fun m ρ _ => QDgradRms.Gen.frame m ρ,
    fun m ρ _ => QDgradRmsIdeal.Gen.frame m ρ,
    fun m ρ _ => QDgradRmsIdeal.Gen.frame m ρ,
    fun m ρ _ => (θ_run _ _ _).mono (fun r h => ⟨fun c => (h c).2.2, sem_eq_zero_of_no_sems (by decide) r.2⟩) (QDgradRmsRefIdeal.Value.run (F := Ideal) m ρ),
    fun m ρ _ => (θ_run _ _ _).mono (fun r h => ⟨fun c => (h c).2.2, sem_eq_zero_of_no_sems (by decide) r.2⟩) (QDgradRmsRefIdeal.Value.run (F := Ideal) m ρ),
    fun m ρ _ => KvDgradRms.Gen.frame m ρ,
    fun m ρ _ => KvDgradRmsIdeal.Gen.frame m ρ,
    fun m ρ _ => KvDgradRmsIdeal.Gen.frame m ρ,
    fun m ρ _ => (θ_run _ _ _).mono (fun r h => ⟨fun c => (h c).2.2, sem_eq_zero_of_no_sems (by decide) r.2⟩) (KvDgradRmsRefIdeal.Value.run (F := Ideal) m ρ),
    fun m ρ _ => (θ_run _ _ _).mono (fun r h => ⟨fun c => (h c).2.2, sem_eq_zero_of_no_sems (by decide) r.2⟩) (KvDgradRmsRefIdeal.Value.run (F := Ideal) m ρ),
    fun m ρ _ => Ff2Ln2Loss.Gen.frame m ρ,
    fun m ρ _ => Ff2Ln2LossIdeal.Gen.frame m ρ,
    fun m ρ _ => Ff2Ln2LossIdeal.Gen.frame m ρ,
    fun m ρ _ => (θ_run _ _ _).mono (fun r h => ⟨fun c => (h c).2.2.2.2.2, sem_eq_zero_of_no_sems (by decide) r.2⟩) (Ff2Ln2LossRefIdeal.Value.run (F := Ideal) m ρ),
    fun m ρ _ => (θ_run _ _ _).mono (fun r h => ⟨fun c => (h c).2.2.2.2.2, sem_eq_zero_of_no_sems (by decide) r.2⟩) (Ff2Ln2LossRefIdeal.Value.run (F := Ideal) m ρ),
    fun m ρ _ => Ff1Ln1Bwd.Gen.frame m ρ,
    fun m ρ _ => Ff1Ln1BwdIdeal.Gen.frame m ρ,
    fun m ρ _ => Ff1Ln1BwdIdeal.Gen.frame m ρ,
    fun m ρ _ => (θ_run _ _ _).mono (fun r h => ⟨fun c => (h c).2.2.2.2, sem_eq_zero_of_no_sems (by decide) r.2⟩) (Ff1Ln1BwdRefIdeal.Value.run (F := Ideal) m ρ),
    fun m ρ _ => (θ_run _ _ _).mono (fun r h => ⟨fun c => (h c).2.2.2.2, sem_eq_zero_of_no_sems (by decide) r.2⟩) (Ff1Ln1BwdRefIdeal.Value.run (F := Ideal) m ρ),
    fun m ρ _ => InLnInBwd.Gen.frame m ρ,
    fun m ρ _ => InLnInBwdIdeal.Gen.frame m ρ,
    fun m ρ _ => InLnInBwdIdeal.Gen.frame m ρ,
    fun m ρ _ => (θ_run _ _ _).mono (fun r h => ⟨fun c => (h c).2.2.2, sem_eq_zero_of_no_sems (by decide) r.2⟩) (InLnInBwdRefIdeal.Value.run (F := Ideal) m ρ),
    fun m ρ _ => (θ_run _ _ _).mono (fun r h => ⟨fun c => (h c).2.2.2, sem_eq_zero_of_no_sems (by decide) r.2⟩) (InLnInBwdRefIdeal.Value.run (F := Ideal) m ρ),
    fun m ρ _ => ConvBwd.Gen.frame m ρ,
    fun m ρ _ => ConvBwdIdeal.Gen.frame m ρ,
    fun m ρ _ => (θ_run _ _ _).mono (fun r h => ⟨fun c => (h c).2.2.2, sem_eq_zero_of_no_sems (by decide) r.2⟩) (ConvBwdRefIdeal.Value.run (F := Ideal) m ρ),
    fun m ρ _ => LnInFwd.Gen.frame m ρ,
    fun m ρ _ => LnInFwdIdeal.Gen.frame m ρ,
    fun m ρ _ => (θ_run _ _ _).mono (fun r h => ⟨fun c => (h c).2.2, sem_eq_zero_of_no_sems (by decide) r.2⟩) (LnInFwdRefIdeal.Value.run (F := Ideal) m ρ),
    fun m ρ _ => Ff1Relu2.Gen.frame m ρ,
    fun m ρ _ => Ff1Relu2Ideal.Gen.frame m ρ,
    fun m ρ _ => (θ_run _ _ _).mono (fun r h => ⟨fun c => (h c).2.2, sem_eq_zero_of_no_sems (by decide) r.2⟩) (Ff1Relu2RefIdeal.Value.run (F := Ideal) m ρ),
    fun m ρ _ => RopeTables.Gen.frame m ρ,
    fun m ρ _ => RopeTablesIdeal.Gen.frame m ρ,
    fun m ρ _ => (θ_run _ _ _).mono (fun r h => ⟨fun c => (h c).2.2.2, sem_eq_zero_of_no_sems (by decide) r.2⟩) (RopeTablesRefIdeal.Value.run (F := Ideal) m ρ),
    fun m ρ _ => ConvLnSilu.Gen.frame m ρ,
    fun m ρ _ => ConvLnSiluIdeal.Gen.frame m ρ,
    fun m ρ _ => (θ_run _ _ _).mono (fun r h => ⟨fun c => (h c).2, sem_eq_zero_of_no_sems (by decide) r.2⟩) (ConvLnSiluRefIdeal.Value.run (F := Ideal) m ρ),
    fun m ρ _ => MixLn1.Gen.frame m ρ,
    fun m ρ _ => MixLn1Ideal.Gen.frame m ρ,
    fun m ρ _ => (θ_run _ _ _).mono (fun r h => ⟨fun c => (h c).2.2.2, sem_eq_zero_of_no_sems (by decide) r.2⟩) (MixLn1RefIdeal.Value.run (F := Ideal) m ρ),
    trivial,
    Glu.algebraic,
    trivial,
    Ff2.algebraic,
    trivial,
    Delta.algebraic,
    trivial,
    DqUnropeValue.algebraic,
    trivial,
    DkUnropeValue.algebraic,
    FlashBwdValue.preserves,
    FlashBwdValue.algebraic,
    FlashFwdValue.preserves,
    FlashFwdValue.algebraic,
    trivial,
    ConvLn.algebraic,
    trivial,
    LatQ.algebraic,
    trivial,
    LatKv.algebraic,
    trivial,
    Ln2.algebraic,
    trivial,
    Ln1.algebraic,
    trivial,
    LnIn.algebraic,
    trivial,
    Conv.algebraic,
    trivial,
    LnFwd.algebraic,
    trivial,
    Ff1.algebraic,
    trivial,
    RopeTablesValue.algebraic,
    trivial,
    ConvLnF.algebraic,
    trivial,
    Mix.algebraic⟩

end Cert.Proof

end
